-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_H2Bwd (m : (ℓ : Loc Cert.H2Bwd.nD Cert.H2Bwd.τ Cert.H2Bwd.sig) → Buf (Elt Bits) ℓ) : Prop :=
  True

def Pre_H2BwdIdeal (m : (ℓ : Loc Cert.H2BwdIdeal.nD Cert.H2BwdIdeal.τ Cert.H2BwdIdeal.sig) → Buf (Elt Ideal) ℓ) : Prop :=
  True

def Pre_H2BwdIdeal_h2_finite [hPre_h2_finite : Cert.Pre_h2_finite.Facts] (m : (ℓ : Loc Cert.H2BwdIdeal.nD Cert.H2BwdIdeal.τ Cert.H2BwdIdeal.sig) → Buf (Elt Ideal) ℓ) : Prop :=
  ∀ c : Dev Cert.H2BwdIdeal.nD,
    (Cert.Pre_h2_finite.fn (F := Ideal) (m ((c.tc : Thread Cert.H2BwdIdeal.nD Cert.H2BwdIdeal.τ).loc Cert.H2BwdIdeal.main_arg0)) (m ((c.tc : Thread Cert.H2BwdIdeal.nD Cert.H2BwdIdeal.τ).loc Cert.H2BwdIdeal.main_arg1)) (m ((c.tc : Thread Cert.H2BwdIdeal.nD Cert.H2BwdIdeal.τ).loc Cert.H2BwdIdeal.main_arg2)) (m ((c.tc : Thread Cert.H2BwdIdeal.nD Cert.H2BwdIdeal.τ).loc Cert.H2BwdIdeal.main_arg3)) (m ((c.tc : Thread Cert.H2BwdIdeal.nD Cert.H2BwdIdeal.τ).loc Cert.H2BwdIdeal.main_arg4)) (m ((c.tc : Thread Cert.H2BwdIdeal.nD Cert.H2BwdIdeal.τ).loc Cert.H2BwdIdeal.main_arg5)) (m ((c.tc : Thread Cert.H2BwdIdeal.nD Cert.H2BwdIdeal.τ).loc Cert.H2BwdIdeal.main_arg6)) (m ((c.tc : Thread Cert.H2BwdIdeal.nD Cert.H2BwdIdeal.τ).loc Cert.H2BwdIdeal.main_arg7))).1 = (fun _ => 1#1)
    ∧ (Cert.Pre_h2_finite.fn (F := Ideal) (m ((c.tc : Thread Cert.H2BwdIdeal.nD Cert.H2BwdIdeal.τ).loc Cert.H2BwdIdeal.main_arg0)) (m ((c.tc : Thread Cert.H2BwdIdeal.nD Cert.H2BwdIdeal.τ).loc Cert.H2BwdIdeal.main_arg1)) (m ((c.tc : Thread Cert.H2BwdIdeal.nD Cert.H2BwdIdeal.τ).loc Cert.H2BwdIdeal.main_arg2)) (m ((c.tc : Thread Cert.H2BwdIdeal.nD Cert.H2BwdIdeal.τ).loc Cert.H2BwdIdeal.main_arg3)) (m ((c.tc : Thread Cert.H2BwdIdeal.nD Cert.H2BwdIdeal.τ).loc Cert.H2BwdIdeal.main_arg4)) (m ((c.tc : Thread Cert.H2BwdIdeal.nD Cert.H2BwdIdeal.τ).loc Cert.H2BwdIdeal.main_arg5)) (m ((c.tc : Thread Cert.H2BwdIdeal.nD Cert.H2BwdIdeal.τ).loc Cert.H2BwdIdeal.main_arg6)) (m ((c.tc : Thread Cert.H2BwdIdeal.nD Cert.H2BwdIdeal.τ).loc Cert.H2BwdIdeal.main_arg7))).2.1 = (fun _ => 1#1)
    ∧ (Cert.Pre_h2_finite.fn (F := Ideal) (m ((c.tc : Thread Cert.H2BwdIdeal.nD Cert.H2BwdIdeal.τ).loc Cert.H2BwdIdeal.main_arg0)) (m ((c.tc : Thread Cert.H2BwdIdeal.nD Cert.H2BwdIdeal.τ).loc Cert.H2BwdIdeal.main_arg1)) (m ((c.tc : Thread Cert.H2BwdIdeal.nD Cert.H2BwdIdeal.τ).loc Cert.H2BwdIdeal.main_arg2)) (m ((c.tc : Thread Cert.H2BwdIdeal.nD Cert.H2BwdIdeal.τ).loc Cert.H2BwdIdeal.main_arg3)) (m ((c.tc : Thread Cert.H2BwdIdeal.nD Cert.H2BwdIdeal.τ).loc Cert.H2BwdIdeal.main_arg4)) (m ((c.tc : Thread Cert.H2BwdIdeal.nD Cert.H2BwdIdeal.τ).loc Cert.H2BwdIdeal.main_arg5)) (m ((c.tc : Thread Cert.H2BwdIdeal.nD Cert.H2BwdIdeal.τ).loc Cert.H2BwdIdeal.main_arg6)) (m ((c.tc : Thread Cert.H2BwdIdeal.nD Cert.H2BwdIdeal.τ).loc Cert.H2BwdIdeal.main_arg7))).2.2.1 = (fun _ => 1#1)
    ∧ (Cert.Pre_h2_finite.fn (F := Ideal) (m ((c.tc : Thread Cert.H2BwdIdeal.nD Cert.H2BwdIdeal.τ).loc Cert.H2BwdIdeal.main_arg0)) (m ((c.tc : Thread Cert.H2BwdIdeal.nD Cert.H2BwdIdeal.τ).loc Cert.H2BwdIdeal.main_arg1)) (m ((c.tc : Thread Cert.H2BwdIdeal.nD Cert.H2BwdIdeal.τ).loc Cert.H2BwdIdeal.main_arg2)) (m ((c.tc : Thread Cert.H2BwdIdeal.nD Cert.H2BwdIdeal.τ).loc Cert.H2BwdIdeal.main_arg3)) (m ((c.tc : Thread Cert.H2BwdIdeal.nD Cert.H2BwdIdeal.τ).loc Cert.H2BwdIdeal.main_arg4)) (m ((c.tc : Thread Cert.H2BwdIdeal.nD Cert.H2BwdIdeal.τ).loc Cert.H2BwdIdeal.main_arg5)) (m ((c.tc : Thread Cert.H2BwdIdeal.nD Cert.H2BwdIdeal.τ).loc Cert.H2BwdIdeal.main_arg6)) (m ((c.tc : Thread Cert.H2BwdIdeal.nD Cert.H2BwdIdeal.τ).loc Cert.H2BwdIdeal.main_arg7))).2.2.2.1 = (fun _ => 1#1)
    ∧ (Cert.Pre_h2_finite.fn (F := Ideal) (m ((c.tc : Thread Cert.H2BwdIdeal.nD Cert.H2BwdIdeal.τ).loc Cert.H2BwdIdeal.main_arg0)) (m ((c.tc : Thread Cert.H2BwdIdeal.nD Cert.H2BwdIdeal.τ).loc Cert.H2BwdIdeal.main_arg1)) (m ((c.tc : Thread Cert.H2BwdIdeal.nD Cert.H2BwdIdeal.τ).loc Cert.H2BwdIdeal.main_arg2)) (m ((c.tc : Thread Cert.H2BwdIdeal.nD Cert.H2BwdIdeal.τ).loc Cert.H2BwdIdeal.main_arg3)) (m ((c.tc : Thread Cert.H2BwdIdeal.nD Cert.H2BwdIdeal.τ).loc Cert.H2BwdIdeal.main_arg4)) (m ((c.tc : Thread Cert.H2BwdIdeal.nD Cert.H2BwdIdeal.τ).loc Cert.H2BwdIdeal.main_arg5)) (m ((c.tc : Thread Cert.H2BwdIdeal.nD Cert.H2BwdIdeal.τ).loc Cert.H2BwdIdeal.main_arg6)) (m ((c.tc : Thread Cert.H2BwdIdeal.nD Cert.H2BwdIdeal.τ).loc Cert.H2BwdIdeal.main_arg7))).2.2.2.2.1 = (fun _ => 1#1)
    ∧ (Cert.Pre_h2_finite.fn (F := Ideal) (m ((c.tc : Thread Cert.H2BwdIdeal.nD Cert.H2BwdIdeal.τ).loc Cert.H2BwdIdeal.main_arg0)) (m ((c.tc : Thread Cert.H2BwdIdeal.nD Cert.H2BwdIdeal.τ).loc Cert.H2BwdIdeal.main_arg1)) (m ((c.tc : Thread Cert.H2BwdIdeal.nD Cert.H2BwdIdeal.τ).loc Cert.H2BwdIdeal.main_arg2)) (m ((c.tc : Thread Cert.H2BwdIdeal.nD Cert.H2BwdIdeal.τ).loc Cert.H2BwdIdeal.main_arg3)) (m ((c.tc : Thread Cert.H2BwdIdeal.nD Cert.H2BwdIdeal.τ).loc Cert.H2BwdIdeal.main_arg4)) (m ((c.tc : Thread Cert.H2BwdIdeal.nD Cert.H2BwdIdeal.τ).loc Cert.H2BwdIdeal.main_arg5)) (m ((c.tc : Thread Cert.H2BwdIdeal.nD Cert.H2BwdIdeal.τ).loc Cert.H2BwdIdeal.main_arg6)) (m ((c.tc : Thread Cert.H2BwdIdeal.nD Cert.H2BwdIdeal.τ).loc Cert.H2BwdIdeal.main_arg7))).2.2.2.2.2.1 = (fun _ => 1#1)
    ∧ (Cert.Pre_h2_finite.fn (F := Ideal) (m ((c.tc : Thread Cert.H2BwdIdeal.nD Cert.H2BwdIdeal.τ).loc Cert.H2BwdIdeal.main_arg0)) (m ((c.tc : Thread Cert.H2BwdIdeal.nD Cert.H2BwdIdeal.τ).loc Cert.H2BwdIdeal.main_arg1)) (m ((c.tc : Thread Cert.H2BwdIdeal.nD Cert.H2BwdIdeal.τ).loc Cert.H2BwdIdeal.main_arg2)) (m ((c.tc : Thread Cert.H2BwdIdeal.nD Cert.H2BwdIdeal.τ).loc Cert.H2BwdIdeal.main_arg3)) (m ((c.tc : Thread Cert.H2BwdIdeal.nD Cert.H2BwdIdeal.τ).loc Cert.H2BwdIdeal.main_arg4)) (m ((c.tc : Thread Cert.H2BwdIdeal.nD Cert.H2BwdIdeal.τ).loc Cert.H2BwdIdeal.main_arg5)) (m ((c.tc : Thread Cert.H2BwdIdeal.nD Cert.H2BwdIdeal.τ).loc Cert.H2BwdIdeal.main_arg6)) (m ((c.tc : Thread Cert.H2BwdIdeal.nD Cert.H2BwdIdeal.τ).loc Cert.H2BwdIdeal.main_arg7))).2.2.2.2.2.2 = (fun _ => 1#1)

def Pre_H2RefIdeal (m : (ℓ : Loc Cert.H2RefIdeal.nD Cert.H2RefIdeal.τ Cert.H2RefIdeal.sig) → Buf (Elt Ideal) ℓ) : Prop :=
  True

def Pre_H2RefIdeal_h2_finite [hPre_h2_finite : Cert.Pre_h2_finite.Facts] (m : (ℓ : Loc Cert.H2RefIdeal.nD Cert.H2RefIdeal.τ Cert.H2RefIdeal.sig) → Buf (Elt Ideal) ℓ) : Prop :=
  ∀ c : Dev Cert.H2RefIdeal.nD,
    (Cert.Pre_h2_finite.fn (F := Ideal) (m ((c.tc : Thread Cert.H2RefIdeal.nD Cert.H2RefIdeal.τ).loc Cert.H2RefIdeal.main_arg0)) (m ((c.tc : Thread Cert.H2RefIdeal.nD Cert.H2RefIdeal.τ).loc Cert.H2RefIdeal.main_arg1)) (m ((c.tc : Thread Cert.H2RefIdeal.nD Cert.H2RefIdeal.τ).loc Cert.H2RefIdeal.main_arg2)) (m ((c.tc : Thread Cert.H2RefIdeal.nD Cert.H2RefIdeal.τ).loc Cert.H2RefIdeal.main_arg3)) (m ((c.tc : Thread Cert.H2RefIdeal.nD Cert.H2RefIdeal.τ).loc Cert.H2RefIdeal.main_arg4)) (m ((c.tc : Thread Cert.H2RefIdeal.nD Cert.H2RefIdeal.τ).loc Cert.H2RefIdeal.main_arg5)) (m ((c.tc : Thread Cert.H2RefIdeal.nD Cert.H2RefIdeal.τ).loc Cert.H2RefIdeal.main_arg6)) (m ((c.tc : Thread Cert.H2RefIdeal.nD Cert.H2RefIdeal.τ).loc Cert.H2RefIdeal.main_arg7))).1 = (fun _ => 1#1)
    ∧ (Cert.Pre_h2_finite.fn (F := Ideal) (m ((c.tc : Thread Cert.H2RefIdeal.nD Cert.H2RefIdeal.τ).loc Cert.H2RefIdeal.main_arg0)) (m ((c.tc : Thread Cert.H2RefIdeal.nD Cert.H2RefIdeal.τ).loc Cert.H2RefIdeal.main_arg1)) (m ((c.tc : Thread Cert.H2RefIdeal.nD Cert.H2RefIdeal.τ).loc Cert.H2RefIdeal.main_arg2)) (m ((c.tc : Thread Cert.H2RefIdeal.nD Cert.H2RefIdeal.τ).loc Cert.H2RefIdeal.main_arg3)) (m ((c.tc : Thread Cert.H2RefIdeal.nD Cert.H2RefIdeal.τ).loc Cert.H2RefIdeal.main_arg4)) (m ((c.tc : Thread Cert.H2RefIdeal.nD Cert.H2RefIdeal.τ).loc Cert.H2RefIdeal.main_arg5)) (m ((c.tc : Thread Cert.H2RefIdeal.nD Cert.H2RefIdeal.τ).loc Cert.H2RefIdeal.main_arg6)) (m ((c.tc : Thread Cert.H2RefIdeal.nD Cert.H2RefIdeal.τ).loc Cert.H2RefIdeal.main_arg7))).2.1 = (fun _ => 1#1)
    ∧ (Cert.Pre_h2_finite.fn (F := Ideal) (m ((c.tc : Thread Cert.H2RefIdeal.nD Cert.H2RefIdeal.τ).loc Cert.H2RefIdeal.main_arg0)) (m ((c.tc : Thread Cert.H2RefIdeal.nD Cert.H2RefIdeal.τ).loc Cert.H2RefIdeal.main_arg1)) (m ((c.tc : Thread Cert.H2RefIdeal.nD Cert.H2RefIdeal.τ).loc Cert.H2RefIdeal.main_arg2)) (m ((c.tc : Thread Cert.H2RefIdeal.nD Cert.H2RefIdeal.τ).loc Cert.H2RefIdeal.main_arg3)) (m ((c.tc : Thread Cert.H2RefIdeal.nD Cert.H2RefIdeal.τ).loc Cert.H2RefIdeal.main_arg4)) (m ((c.tc : Thread Cert.H2RefIdeal.nD Cert.H2RefIdeal.τ).loc Cert.H2RefIdeal.main_arg5)) (m ((c.tc : Thread Cert.H2RefIdeal.nD Cert.H2RefIdeal.τ).loc Cert.H2RefIdeal.main_arg6)) (m ((c.tc : Thread Cert.H2RefIdeal.nD Cert.H2RefIdeal.τ).loc Cert.H2RefIdeal.main_arg7))).2.2.1 = (fun _ => 1#1)
    ∧ (Cert.Pre_h2_finite.fn (F := Ideal) (m ((c.tc : Thread Cert.H2RefIdeal.nD Cert.H2RefIdeal.τ).loc Cert.H2RefIdeal.main_arg0)) (m ((c.tc : Thread Cert.H2RefIdeal.nD Cert.H2RefIdeal.τ).loc Cert.H2RefIdeal.main_arg1)) (m ((c.tc : Thread Cert.H2RefIdeal.nD Cert.H2RefIdeal.τ).loc Cert.H2RefIdeal.main_arg2)) (m ((c.tc : Thread Cert.H2RefIdeal.nD Cert.H2RefIdeal.τ).loc Cert.H2RefIdeal.main_arg3)) (m ((c.tc : Thread Cert.H2RefIdeal.nD Cert.H2RefIdeal.τ).loc Cert.H2RefIdeal.main_arg4)) (m ((c.tc : Thread Cert.H2RefIdeal.nD Cert.H2RefIdeal.τ).loc Cert.H2RefIdeal.main_arg5)) (m ((c.tc : Thread Cert.H2RefIdeal.nD Cert.H2RefIdeal.τ).loc Cert.H2RefIdeal.main_arg6)) (m ((c.tc : Thread Cert.H2RefIdeal.nD Cert.H2RefIdeal.τ).loc Cert.H2RefIdeal.main_arg7))).2.2.2.1 = (fun _ => 1#1)
    ∧ (Cert.Pre_h2_finite.fn (F := Ideal) (m ((c.tc : Thread Cert.H2RefIdeal.nD Cert.H2RefIdeal.τ).loc Cert.H2RefIdeal.main_arg0)) (m ((c.tc : Thread Cert.H2RefIdeal.nD Cert.H2RefIdeal.τ).loc Cert.H2RefIdeal.main_arg1)) (m ((c.tc : Thread Cert.H2RefIdeal.nD Cert.H2RefIdeal.τ).loc Cert.H2RefIdeal.main_arg2)) (m ((c.tc : Thread Cert.H2RefIdeal.nD Cert.H2RefIdeal.τ).loc Cert.H2RefIdeal.main_arg3)) (m ((c.tc : Thread Cert.H2RefIdeal.nD Cert.H2RefIdeal.τ).loc Cert.H2RefIdeal.main_arg4)) (m ((c.tc : Thread Cert.H2RefIdeal.nD Cert.H2RefIdeal.τ).loc Cert.H2RefIdeal.main_arg5)) (m ((c.tc : Thread Cert.H2RefIdeal.nD Cert.H2RefIdeal.τ).loc Cert.H2RefIdeal.main_arg6)) (m ((c.tc : Thread Cert.H2RefIdeal.nD Cert.H2RefIdeal.τ).loc Cert.H2RefIdeal.main_arg7))).2.2.2.2.1 = (fun _ => 1#1)
    ∧ (Cert.Pre_h2_finite.fn (F := Ideal) (m ((c.tc : Thread Cert.H2RefIdeal.nD Cert.H2RefIdeal.τ).loc Cert.H2RefIdeal.main_arg0)) (m ((c.tc : Thread Cert.H2RefIdeal.nD Cert.H2RefIdeal.τ).loc Cert.H2RefIdeal.main_arg1)) (m ((c.tc : Thread Cert.H2RefIdeal.nD Cert.H2RefIdeal.τ).loc Cert.H2RefIdeal.main_arg2)) (m ((c.tc : Thread Cert.H2RefIdeal.nD Cert.H2RefIdeal.τ).loc Cert.H2RefIdeal.main_arg3)) (m ((c.tc : Thread Cert.H2RefIdeal.nD Cert.H2RefIdeal.τ).loc Cert.H2RefIdeal.main_arg4)) (m ((c.tc : Thread Cert.H2RefIdeal.nD Cert.H2RefIdeal.τ).loc Cert.H2RefIdeal.main_arg5)) (m ((c.tc : Thread Cert.H2RefIdeal.nD Cert.H2RefIdeal.τ).loc Cert.H2RefIdeal.main_arg6)) (m ((c.tc : Thread Cert.H2RefIdeal.nD Cert.H2RefIdeal.τ).loc Cert.H2RefIdeal.main_arg7))).2.2.2.2.2.1 = (fun _ => 1#1)
    ∧ (Cert.Pre_h2_finite.fn (F := Ideal) (m ((c.tc : Thread Cert.H2RefIdeal.nD Cert.H2RefIdeal.τ).loc Cert.H2RefIdeal.main_arg0)) (m ((c.tc : Thread Cert.H2RefIdeal.nD Cert.H2RefIdeal.τ).loc Cert.H2RefIdeal.main_arg1)) (m ((c.tc : Thread Cert.H2RefIdeal.nD Cert.H2RefIdeal.τ).loc Cert.H2RefIdeal.main_arg2)) (m ((c.tc : Thread Cert.H2RefIdeal.nD Cert.H2RefIdeal.τ).loc Cert.H2RefIdeal.main_arg3)) (m ((c.tc : Thread Cert.H2RefIdeal.nD Cert.H2RefIdeal.τ).loc Cert.H2RefIdeal.main_arg4)) (m ((c.tc : Thread Cert.H2RefIdeal.nD Cert.H2RefIdeal.τ).loc Cert.H2RefIdeal.main_arg5)) (m ((c.tc : Thread Cert.H2RefIdeal.nD Cert.H2RefIdeal.τ).loc Cert.H2RefIdeal.main_arg6)) (m ((c.tc : Thread Cert.H2RefIdeal.nD Cert.H2RefIdeal.τ).loc Cert.H2RefIdeal.main_arg7))).2.2.2.2.2.2 = (fun _ => 1#1)

def Pre_H1Bwd (m : (ℓ : Loc Cert.H1Bwd.nD Cert.H1Bwd.τ Cert.H1Bwd.sig) → Buf (Elt Bits) ℓ) : Prop :=
  True

def Pre_H1BwdIdeal (m : (ℓ : Loc Cert.H1BwdIdeal.nD Cert.H1BwdIdeal.τ Cert.H1BwdIdeal.sig) → Buf (Elt Ideal) ℓ) : Prop :=
  True

def Pre_H1BwdIdeal_h1_finite [hPre_h1_finite : Cert.Pre_h1_finite.Facts] (m : (ℓ : Loc Cert.H1BwdIdeal.nD Cert.H1BwdIdeal.τ Cert.H1BwdIdeal.sig) → Buf (Elt Ideal) ℓ) : Prop :=
  ∀ c : Dev Cert.H1BwdIdeal.nD,
    (Cert.Pre_h1_finite.fn (F := Ideal) (m ((c.tc : Thread Cert.H1BwdIdeal.nD Cert.H1BwdIdeal.τ).loc Cert.H1BwdIdeal.main_arg0)) (m ((c.tc : Thread Cert.H1BwdIdeal.nD Cert.H1BwdIdeal.τ).loc Cert.H1BwdIdeal.main_arg1)) (m ((c.tc : Thread Cert.H1BwdIdeal.nD Cert.H1BwdIdeal.τ).loc Cert.H1BwdIdeal.main_arg2)) (m ((c.tc : Thread Cert.H1BwdIdeal.nD Cert.H1BwdIdeal.τ).loc Cert.H1BwdIdeal.main_arg3)) (m ((c.tc : Thread Cert.H1BwdIdeal.nD Cert.H1BwdIdeal.τ).loc Cert.H1BwdIdeal.main_arg4)) (m ((c.tc : Thread Cert.H1BwdIdeal.nD Cert.H1BwdIdeal.τ).loc Cert.H1BwdIdeal.main_arg5)) (m ((c.tc : Thread Cert.H1BwdIdeal.nD Cert.H1BwdIdeal.τ).loc Cert.H1BwdIdeal.main_arg6)) (m ((c.tc : Thread Cert.H1BwdIdeal.nD Cert.H1BwdIdeal.τ).loc Cert.H1BwdIdeal.main_arg7))).1 = (fun _ => 1#1)
    ∧ (Cert.Pre_h1_finite.fn (F := Ideal) (m ((c.tc : Thread Cert.H1BwdIdeal.nD Cert.H1BwdIdeal.τ).loc Cert.H1BwdIdeal.main_arg0)) (m ((c.tc : Thread Cert.H1BwdIdeal.nD Cert.H1BwdIdeal.τ).loc Cert.H1BwdIdeal.main_arg1)) (m ((c.tc : Thread Cert.H1BwdIdeal.nD Cert.H1BwdIdeal.τ).loc Cert.H1BwdIdeal.main_arg2)) (m ((c.tc : Thread Cert.H1BwdIdeal.nD Cert.H1BwdIdeal.τ).loc Cert.H1BwdIdeal.main_arg3)) (m ((c.tc : Thread Cert.H1BwdIdeal.nD Cert.H1BwdIdeal.τ).loc Cert.H1BwdIdeal.main_arg4)) (m ((c.tc : Thread Cert.H1BwdIdeal.nD Cert.H1BwdIdeal.τ).loc Cert.H1BwdIdeal.main_arg5)) (m ((c.tc : Thread Cert.H1BwdIdeal.nD Cert.H1BwdIdeal.τ).loc Cert.H1BwdIdeal.main_arg6)) (m ((c.tc : Thread Cert.H1BwdIdeal.nD Cert.H1BwdIdeal.τ).loc Cert.H1BwdIdeal.main_arg7))).2.1 = (fun _ => 1#1)
    ∧ (Cert.Pre_h1_finite.fn (F := Ideal) (m ((c.tc : Thread Cert.H1BwdIdeal.nD Cert.H1BwdIdeal.τ).loc Cert.H1BwdIdeal.main_arg0)) (m ((c.tc : Thread Cert.H1BwdIdeal.nD Cert.H1BwdIdeal.τ).loc Cert.H1BwdIdeal.main_arg1)) (m ((c.tc : Thread Cert.H1BwdIdeal.nD Cert.H1BwdIdeal.τ).loc Cert.H1BwdIdeal.main_arg2)) (m ((c.tc : Thread Cert.H1BwdIdeal.nD Cert.H1BwdIdeal.τ).loc Cert.H1BwdIdeal.main_arg3)) (m ((c.tc : Thread Cert.H1BwdIdeal.nD Cert.H1BwdIdeal.τ).loc Cert.H1BwdIdeal.main_arg4)) (m ((c.tc : Thread Cert.H1BwdIdeal.nD Cert.H1BwdIdeal.τ).loc Cert.H1BwdIdeal.main_arg5)) (m ((c.tc : Thread Cert.H1BwdIdeal.nD Cert.H1BwdIdeal.τ).loc Cert.H1BwdIdeal.main_arg6)) (m ((c.tc : Thread Cert.H1BwdIdeal.nD Cert.H1BwdIdeal.τ).loc Cert.H1BwdIdeal.main_arg7))).2.2.1 = (fun _ => 1#1)
    ∧ (Cert.Pre_h1_finite.fn (F := Ideal) (m ((c.tc : Thread Cert.H1BwdIdeal.nD Cert.H1BwdIdeal.τ).loc Cert.H1BwdIdeal.main_arg0)) (m ((c.tc : Thread Cert.H1BwdIdeal.nD Cert.H1BwdIdeal.τ).loc Cert.H1BwdIdeal.main_arg1)) (m ((c.tc : Thread Cert.H1BwdIdeal.nD Cert.H1BwdIdeal.τ).loc Cert.H1BwdIdeal.main_arg2)) (m ((c.tc : Thread Cert.H1BwdIdeal.nD Cert.H1BwdIdeal.τ).loc Cert.H1BwdIdeal.main_arg3)) (m ((c.tc : Thread Cert.H1BwdIdeal.nD Cert.H1BwdIdeal.τ).loc Cert.H1BwdIdeal.main_arg4)) (m ((c.tc : Thread Cert.H1BwdIdeal.nD Cert.H1BwdIdeal.τ).loc Cert.H1BwdIdeal.main_arg5)) (m ((c.tc : Thread Cert.H1BwdIdeal.nD Cert.H1BwdIdeal.τ).loc Cert.H1BwdIdeal.main_arg6)) (m ((c.tc : Thread Cert.H1BwdIdeal.nD Cert.H1BwdIdeal.τ).loc Cert.H1BwdIdeal.main_arg7))).2.2.2.1 = (fun _ => 1#1)
    ∧ (Cert.Pre_h1_finite.fn (F := Ideal) (m ((c.tc : Thread Cert.H1BwdIdeal.nD Cert.H1BwdIdeal.τ).loc Cert.H1BwdIdeal.main_arg0)) (m ((c.tc : Thread Cert.H1BwdIdeal.nD Cert.H1BwdIdeal.τ).loc Cert.H1BwdIdeal.main_arg1)) (m ((c.tc : Thread Cert.H1BwdIdeal.nD Cert.H1BwdIdeal.τ).loc Cert.H1BwdIdeal.main_arg2)) (m ((c.tc : Thread Cert.H1BwdIdeal.nD Cert.H1BwdIdeal.τ).loc Cert.H1BwdIdeal.main_arg3)) (m ((c.tc : Thread Cert.H1BwdIdeal.nD Cert.H1BwdIdeal.τ).loc Cert.H1BwdIdeal.main_arg4)) (m ((c.tc : Thread Cert.H1BwdIdeal.nD Cert.H1BwdIdeal.τ).loc Cert.H1BwdIdeal.main_arg5)) (m ((c.tc : Thread Cert.H1BwdIdeal.nD Cert.H1BwdIdeal.τ).loc Cert.H1BwdIdeal.main_arg6)) (m ((c.tc : Thread Cert.H1BwdIdeal.nD Cert.H1BwdIdeal.τ).loc Cert.H1BwdIdeal.main_arg7))).2.2.2.2.1 = (fun _ => 1#1)
    ∧ (Cert.Pre_h1_finite.fn (F := Ideal) (m ((c.tc : Thread Cert.H1BwdIdeal.nD Cert.H1BwdIdeal.τ).loc Cert.H1BwdIdeal.main_arg0)) (m ((c.tc : Thread Cert.H1BwdIdeal.nD Cert.H1BwdIdeal.τ).loc Cert.H1BwdIdeal.main_arg1)) (m ((c.tc : Thread Cert.H1BwdIdeal.nD Cert.H1BwdIdeal.τ).loc Cert.H1BwdIdeal.main_arg2)) (m ((c.tc : Thread Cert.H1BwdIdeal.nD Cert.H1BwdIdeal.τ).loc Cert.H1BwdIdeal.main_arg3)) (m ((c.tc : Thread Cert.H1BwdIdeal.nD Cert.H1BwdIdeal.τ).loc Cert.H1BwdIdeal.main_arg4)) (m ((c.tc : Thread Cert.H1BwdIdeal.nD Cert.H1BwdIdeal.τ).loc Cert.H1BwdIdeal.main_arg5)) (m ((c.tc : Thread Cert.H1BwdIdeal.nD Cert.H1BwdIdeal.τ).loc Cert.H1BwdIdeal.main_arg6)) (m ((c.tc : Thread Cert.H1BwdIdeal.nD Cert.H1BwdIdeal.τ).loc Cert.H1BwdIdeal.main_arg7))).2.2.2.2.2.1 = (fun _ => 1#1)
    ∧ (Cert.Pre_h1_finite.fn (F := Ideal) (m ((c.tc : Thread Cert.H1BwdIdeal.nD Cert.H1BwdIdeal.τ).loc Cert.H1BwdIdeal.main_arg0)) (m ((c.tc : Thread Cert.H1BwdIdeal.nD Cert.H1BwdIdeal.τ).loc Cert.H1BwdIdeal.main_arg1)) (m ((c.tc : Thread Cert.H1BwdIdeal.nD Cert.H1BwdIdeal.τ).loc Cert.H1BwdIdeal.main_arg2)) (m ((c.tc : Thread Cert.H1BwdIdeal.nD Cert.H1BwdIdeal.τ).loc Cert.H1BwdIdeal.main_arg3)) (m ((c.tc : Thread Cert.H1BwdIdeal.nD Cert.H1BwdIdeal.τ).loc Cert.H1BwdIdeal.main_arg4)) (m ((c.tc : Thread Cert.H1BwdIdeal.nD Cert.H1BwdIdeal.τ).loc Cert.H1BwdIdeal.main_arg5)) (m ((c.tc : Thread Cert.H1BwdIdeal.nD Cert.H1BwdIdeal.τ).loc Cert.H1BwdIdeal.main_arg6)) (m ((c.tc : Thread Cert.H1BwdIdeal.nD Cert.H1BwdIdeal.τ).loc Cert.H1BwdIdeal.main_arg7))).2.2.2.2.2.2 = (fun _ => 1#1)

def Pre_H1RefIdeal (m : (ℓ : Loc Cert.H1RefIdeal.nD Cert.H1RefIdeal.τ Cert.H1RefIdeal.sig) → Buf (Elt Ideal) ℓ) : Prop :=
  True

def Pre_H1RefIdeal_h1_finite [hPre_h1_finite : Cert.Pre_h1_finite.Facts] (m : (ℓ : Loc Cert.H1RefIdeal.nD Cert.H1RefIdeal.τ Cert.H1RefIdeal.sig) → Buf (Elt Ideal) ℓ) : Prop :=
  ∀ c : Dev Cert.H1RefIdeal.nD,
    (Cert.Pre_h1_finite.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4)) (m ((c.tc : Thread Cert.H1RefIdeal.nD Cert.H1RefIdeal.τ).loc Cert.H1RefIdeal.main_arg5)) (m ((c.tc : Thread Cert.H1RefIdeal.nD Cert.H1RefIdeal.τ).loc Cert.H1RefIdeal.main_arg6)) (m ((c.tc : Thread Cert.H1RefIdeal.nD Cert.H1RefIdeal.τ).loc Cert.H1RefIdeal.main_arg7))).1 = (fun _ => 1#1)
    ∧ (Cert.Pre_h1_finite.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4)) (m ((c.tc : Thread Cert.H1RefIdeal.nD Cert.H1RefIdeal.τ).loc Cert.H1RefIdeal.main_arg5)) (m ((c.tc : Thread Cert.H1RefIdeal.nD Cert.H1RefIdeal.τ).loc Cert.H1RefIdeal.main_arg6)) (m ((c.tc : Thread Cert.H1RefIdeal.nD Cert.H1RefIdeal.τ).loc Cert.H1RefIdeal.main_arg7))).2.1 = (fun _ => 1#1)
    ∧ (Cert.Pre_h1_finite.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4)) (m ((c.tc : Thread Cert.H1RefIdeal.nD Cert.H1RefIdeal.τ).loc Cert.H1RefIdeal.main_arg5)) (m ((c.tc : Thread Cert.H1RefIdeal.nD Cert.H1RefIdeal.τ).loc Cert.H1RefIdeal.main_arg6)) (m ((c.tc : Thread Cert.H1RefIdeal.nD Cert.H1RefIdeal.τ).loc Cert.H1RefIdeal.main_arg7))).2.2.1 = (fun _ => 1#1)
    ∧ (Cert.Pre_h1_finite.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4)) (m ((c.tc : Thread Cert.H1RefIdeal.nD Cert.H1RefIdeal.τ).loc Cert.H1RefIdeal.main_arg5)) (m ((c.tc : Thread Cert.H1RefIdeal.nD Cert.H1RefIdeal.τ).loc Cert.H1RefIdeal.main_arg6)) (m ((c.tc : Thread Cert.H1RefIdeal.nD Cert.H1RefIdeal.τ).loc Cert.H1RefIdeal.main_arg7))).2.2.2.1 = (fun _ => 1#1)
    ∧ (Cert.Pre_h1_finite.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4)) (m ((c.tc : Thread Cert.H1RefIdeal.nD Cert.H1RefIdeal.τ).loc Cert.H1RefIdeal.main_arg5)) (m ((c.tc : Thread Cert.H1RefIdeal.nD Cert.H1RefIdeal.τ).loc Cert.H1RefIdeal.main_arg6)) (m ((c.tc : Thread Cert.H1RefIdeal.nD Cert.H1RefIdeal.τ).loc Cert.H1RefIdeal.main_arg7))).2.2.2.2.1 = (fun _ => 1#1)
    ∧ (Cert.Pre_h1_finite.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4)) (m ((c.tc : Thread Cert.H1RefIdeal.nD Cert.H1RefIdeal.τ).loc Cert.H1RefIdeal.main_arg5)) (m ((c.tc : Thread Cert.H1RefIdeal.nD Cert.H1RefIdeal.τ).loc Cert.H1RefIdeal.main_arg6)) (m ((c.tc : Thread Cert.H1RefIdeal.nD Cert.H1RefIdeal.τ).loc Cert.H1RefIdeal.main_arg7))).2.2.2.2.2.1 = (fun _ => 1#1)
    ∧ (Cert.Pre_h1_finite.fn (F := Ideal) (m ((c.tc : Thread Cert.H1RefIdeal.nD Cert.H1RefIdeal.τ).loc Cert.H1RefIdeal.main_arg0)) (m ((c.tc : Thread Cert.H1RefIdeal.nD Cert.H1RefIdeal.τ).loc Cert.H1RefIdeal.main_arg1)) (m ((c.tc : Thread Cert.H1RefIdeal.nD Cert.H1RefIdeal.τ).loc Cert.H1RefIdeal.main_arg2)) (m ((c.tc : Thread Cert.H1RefIdeal.nD Cert.H1RefIdeal.τ).loc Cert.H1RefIdeal.main_arg3)) (m ((c.tc : Thread Cert.H1RefIdeal.nD Cert.H1RefIdeal.τ).loc Cert.H1RefIdeal.main_arg4)) (m ((c.tc : Thread Cert.H1RefIdeal.nD Cert.H1RefIdeal.τ).loc Cert.H1RefIdeal.main_arg5)) (m ((c.tc : Thread Cert.H1RefIdeal.nD Cert.H1RefIdeal.τ).loc Cert.H1RefIdeal.main_arg6)) (m ((c.tc : Thread Cert.H1RefIdeal.nD Cert.H1RefIdeal.τ).loc Cert.H1RefIdeal.main_arg7))).2.2.2.2.2.2 = (fun _ => 1#1)

def Pre_H0Bwd (m : (ℓ : Loc Cert.H0Bwd.nD Cert.H0Bwd.τ Cert.H0Bwd.sig) → Buf (Elt Bits) ℓ) : Prop :=
  True

def Pre_H0BwdIdeal (m : (ℓ : Loc Cert.H0BwdIdeal.nD Cert.H0BwdIdeal.τ Cert.H0BwdIdeal.sig) → Buf (Elt Ideal) ℓ) : Prop :=
  True

def Pre_H0BwdIdeal_h0_finite [hPre_h0_finite : Cert.Pre_h0_finite.Facts] (m : (ℓ : Loc Cert.H0BwdIdeal.nD Cert.H0BwdIdeal.τ Cert.H0BwdIdeal.sig) → Buf (Elt Ideal) ℓ) : Prop :=
  ∀ c : Dev Cert.H0BwdIdeal.nD,
    (Cert.Pre_h0_finite.fn (F := Ideal) (m ((c.tc : Thread Cert.H0BwdIdeal.nD Cert.H0BwdIdeal.τ).loc Cert.H0BwdIdeal.main_arg0)) (m ((c.tc : Thread Cert.H0BwdIdeal.nD Cert.H0BwdIdeal.τ).loc Cert.H0BwdIdeal.main_arg1)) (m ((c.tc : Thread Cert.H0BwdIdeal.nD Cert.H0BwdIdeal.τ).loc Cert.H0BwdIdeal.main_arg2)) (m ((c.tc : Thread Cert.H0BwdIdeal.nD Cert.H0BwdIdeal.τ).loc Cert.H0BwdIdeal.main_arg3)) (m ((c.tc : Thread Cert.H0BwdIdeal.nD Cert.H0BwdIdeal.τ).loc Cert.H0BwdIdeal.main_arg4)) (m ((c.tc : Thread Cert.H0BwdIdeal.nD Cert.H0BwdIdeal.τ).loc Cert.H0BwdIdeal.main_arg5)) (m ((c.tc : Thread Cert.H0BwdIdeal.nD Cert.H0BwdIdeal.τ).loc Cert.H0BwdIdeal.main_arg6)) (m ((c.tc : Thread Cert.H0BwdIdeal.nD Cert.H0BwdIdeal.τ).loc Cert.H0BwdIdeal.main_arg7))).1 = (fun _ => 1#1)
    ∧ (Cert.Pre_h0_finite.fn (F := Ideal) (m ((c.tc : Thread Cert.H0BwdIdeal.nD Cert.H0BwdIdeal.τ).loc Cert.H0BwdIdeal.main_arg0)) (m ((c.tc : Thread Cert.H0BwdIdeal.nD Cert.H0BwdIdeal.τ).loc Cert.H0BwdIdeal.main_arg1)) (m ((c.tc : Thread Cert.H0BwdIdeal.nD Cert.H0BwdIdeal.τ).loc Cert.H0BwdIdeal.main_arg2)) (m ((c.tc : Thread Cert.H0BwdIdeal.nD Cert.H0BwdIdeal.τ).loc Cert.H0BwdIdeal.main_arg3)) (m ((c.tc : Thread Cert.H0BwdIdeal.nD Cert.H0BwdIdeal.τ).loc Cert.H0BwdIdeal.main_arg4)) (m ((c.tc : Thread Cert.H0BwdIdeal.nD Cert.H0BwdIdeal.τ).loc Cert.H0BwdIdeal.main_arg5)) (m ((c.tc : Thread Cert.H0BwdIdeal.nD Cert.H0BwdIdeal.τ).loc Cert.H0BwdIdeal.main_arg6)) (m ((c.tc : Thread Cert.H0BwdIdeal.nD Cert.H0BwdIdeal.τ).loc Cert.H0BwdIdeal.main_arg7))).2.1 = (fun _ => 1#1)
    ∧ (Cert.Pre_h0_finite.fn (F := Ideal) (m ((c.tc : Thread Cert.H0BwdIdeal.nD Cert.H0BwdIdeal.τ).loc Cert.H0BwdIdeal.main_arg0)) (m ((c.tc : Thread Cert.H0BwdIdeal.nD Cert.H0BwdIdeal.τ).loc Cert.H0BwdIdeal.main_arg1)) (m ((c.tc : Thread Cert.H0BwdIdeal.nD Cert.H0BwdIdeal.τ).loc Cert.H0BwdIdeal.main_arg2)) (m ((c.tc : Thread Cert.H0BwdIdeal.nD Cert.H0BwdIdeal.τ).loc Cert.H0BwdIdeal.main_arg3)) (m ((c.tc : Thread Cert.H0BwdIdeal.nD Cert.H0BwdIdeal.τ).loc Cert.H0BwdIdeal.main_arg4)) (m ((c.tc : Thread Cert.H0BwdIdeal.nD Cert.H0BwdIdeal.τ).loc Cert.H0BwdIdeal.main_arg5)) (m ((c.tc : Thread Cert.H0BwdIdeal.nD Cert.H0BwdIdeal.τ).loc Cert.H0BwdIdeal.main_arg6)) (m ((c.tc : Thread Cert.H0BwdIdeal.nD Cert.H0BwdIdeal.τ).loc Cert.H0BwdIdeal.main_arg7))).2.2.1 = (fun _ => 1#1)
    ∧ (Cert.Pre_h0_finite.fn (F := Ideal) (m ((c.tc : Thread Cert.H0BwdIdeal.nD Cert.H0BwdIdeal.τ).loc Cert.H0BwdIdeal.main_arg0)) (m ((c.tc : Thread Cert.H0BwdIdeal.nD Cert.H0BwdIdeal.τ).loc Cert.H0BwdIdeal.main_arg1)) (m ((c.tc : Thread Cert.H0BwdIdeal.nD Cert.H0BwdIdeal.τ).loc Cert.H0BwdIdeal.main_arg2)) (m ((c.tc : Thread Cert.H0BwdIdeal.nD Cert.H0BwdIdeal.τ).loc Cert.H0BwdIdeal.main_arg3)) (m ((c.tc : Thread Cert.H0BwdIdeal.nD Cert.H0BwdIdeal.τ).loc Cert.H0BwdIdeal.main_arg4)) (m ((c.tc : Thread Cert.H0BwdIdeal.nD Cert.H0BwdIdeal.τ).loc Cert.H0BwdIdeal.main_arg5)) (m ((c.tc : Thread Cert.H0BwdIdeal.nD Cert.H0BwdIdeal.τ).loc Cert.H0BwdIdeal.main_arg6)) (m ((c.tc : Thread Cert.H0BwdIdeal.nD Cert.H0BwdIdeal.τ).loc Cert.H0BwdIdeal.main_arg7))).2.2.2.1 = (fun _ => 1#1)
    ∧ (Cert.Pre_h0_finite.fn (F := Ideal) (m ((c.tc : Thread Cert.H0BwdIdeal.nD Cert.H0BwdIdeal.τ).loc Cert.H0BwdIdeal.main_arg0)) (m ((c.tc : Thread Cert.H0BwdIdeal.nD Cert.H0BwdIdeal.τ).loc Cert.H0BwdIdeal.main_arg1)) (m ((c.tc : Thread Cert.H0BwdIdeal.nD Cert.H0BwdIdeal.τ).loc Cert.H0BwdIdeal.main_arg2)) (m ((c.tc : Thread Cert.H0BwdIdeal.nD Cert.H0BwdIdeal.τ).loc Cert.H0BwdIdeal.main_arg3)) (m ((c.tc : Thread Cert.H0BwdIdeal.nD Cert.H0BwdIdeal.τ).loc Cert.H0BwdIdeal.main_arg4)) (m ((c.tc : Thread Cert.H0BwdIdeal.nD Cert.H0BwdIdeal.τ).loc Cert.H0BwdIdeal.main_arg5)) (m ((c.tc : Thread Cert.H0BwdIdeal.nD Cert.H0BwdIdeal.τ).loc Cert.H0BwdIdeal.main_arg6)) (m ((c.tc : Thread Cert.H0BwdIdeal.nD Cert.H0BwdIdeal.τ).loc Cert.H0BwdIdeal.main_arg7))).2.2.2.2.1 = (fun _ => 1#1)
    ∧ (Cert.Pre_h0_finite.fn (F := Ideal) (m ((c.tc : Thread Cert.H0BwdIdeal.nD Cert.H0BwdIdeal.τ).loc Cert.H0BwdIdeal.main_arg0)) (m ((c.tc : Thread Cert.H0BwdIdeal.nD Cert.H0BwdIdeal.τ).loc Cert.H0BwdIdeal.main_arg1)) (m ((c.tc : Thread Cert.H0BwdIdeal.nD Cert.H0BwdIdeal.τ).loc Cert.H0BwdIdeal.main_arg2)) (m ((c.tc : Thread Cert.H0BwdIdeal.nD Cert.H0BwdIdeal.τ).loc Cert.H0BwdIdeal.main_arg3)) (m ((c.tc : Thread Cert.H0BwdIdeal.nD Cert.H0BwdIdeal.τ).loc Cert.H0BwdIdeal.main_arg4)) (m ((c.tc : Thread Cert.H0BwdIdeal.nD Cert.H0BwdIdeal.τ).loc Cert.H0BwdIdeal.main_arg5)) (m ((c.tc : Thread Cert.H0BwdIdeal.nD Cert.H0BwdIdeal.τ).loc Cert.H0BwdIdeal.main_arg6)) (m ((c.tc : Thread Cert.H0BwdIdeal.nD Cert.H0BwdIdeal.τ).loc Cert.H0BwdIdeal.main_arg7))).2.2.2.2.2.1 = (fun _ => 1#1)
    ∧ (Cert.Pre_h0_finite.fn (F := Ideal) (m ((c.tc : Thread Cert.H0BwdIdeal.nD Cert.H0BwdIdeal.τ).loc Cert.H0BwdIdeal.main_arg0)) (m ((c.tc : Thread Cert.H0BwdIdeal.nD Cert.H0BwdIdeal.τ).loc Cert.H0BwdIdeal.main_arg1)) (m ((c.tc : Thread Cert.H0BwdIdeal.nD Cert.H0BwdIdeal.τ).loc Cert.H0BwdIdeal.main_arg2)) (m ((c.tc : Thread Cert.H0BwdIdeal.nD Cert.H0BwdIdeal.τ).loc Cert.H0BwdIdeal.main_arg3)) (m ((c.tc : Thread Cert.H0BwdIdeal.nD Cert.H0BwdIdeal.τ).loc Cert.H0BwdIdeal.main_arg4)) (m ((c.tc : Thread Cert.H0BwdIdeal.nD Cert.H0BwdIdeal.τ).loc Cert.H0BwdIdeal.main_arg5)) (m ((c.tc : Thread Cert.H0BwdIdeal.nD Cert.H0BwdIdeal.τ).loc Cert.H0BwdIdeal.main_arg6)) (m ((c.tc : Thread Cert.H0BwdIdeal.nD Cert.H0BwdIdeal.τ).loc Cert.H0BwdIdeal.main_arg7))).2.2.2.2.2.2 = (fun _ => 1#1)

def Pre_H0RefIdeal (m : (ℓ : Loc Cert.H0RefIdeal.nD Cert.H0RefIdeal.τ Cert.H0RefIdeal.sig) → Buf (Elt Ideal) ℓ) : Prop :=
  True

def Pre_H0RefIdeal_h0_finite [hPre_h0_finite : Cert.Pre_h0_finite.Facts] (m : (ℓ : Loc Cert.H0RefIdeal.nD Cert.H0RefIdeal.τ Cert.H0RefIdeal.sig) → Buf (Elt Ideal) ℓ) : Prop :=
  ∀ c : Dev Cert.H0RefIdeal.nD,
    (Cert.Pre_h0_finite.fn (F := Ideal) (m ((c.tc : Thread Cert.H0RefIdeal.nD Cert.H0RefIdeal.τ).loc Cert.H0RefIdeal.main_arg0)) (m ((c.tc : Thread Cert.H0RefIdeal.nD Cert.H0RefIdeal.τ).loc Cert.H0RefIdeal.main_arg1)) (m ((c.tc : Thread Cert.H0RefIdeal.nD Cert.H0RefIdeal.τ).loc Cert.H0RefIdeal.main_arg2)) (m ((c.tc : Thread Cert.H0RefIdeal.nD Cert.H0RefIdeal.τ).loc Cert.H0RefIdeal.main_arg3)) (m ((c.tc : Thread Cert.H0RefIdeal.nD Cert.H0RefIdeal.τ).loc Cert.H0RefIdeal.main_arg4)) (m ((c.tc : Thread Cert.H0RefIdeal.nD Cert.H0RefIdeal.τ).loc Cert.H0RefIdeal.main_arg5)) (m ((c.tc : Thread Cert.H0RefIdeal.nD Cert.H0RefIdeal.τ).loc Cert.H0RefIdeal.main_arg6)) (m ((c.tc : Thread Cert.H0RefIdeal.nD Cert.H0RefIdeal.τ).loc Cert.H0RefIdeal.main_arg7))).1 = (fun _ => 1#1)
    ∧ (Cert.Pre_h0_finite.fn (F := Ideal) (m ((c.tc : Thread Cert.H0RefIdeal.nD Cert.H0RefIdeal.τ).loc Cert.H0RefIdeal.main_arg0)) (m ((c.tc : Thread Cert.H0RefIdeal.nD Cert.H0RefIdeal.τ).loc Cert.H0RefIdeal.main_arg1)) (m ((c.tc : Thread Cert.H0RefIdeal.nD Cert.H0RefIdeal.τ).loc Cert.H0RefIdeal.main_arg2)) (m ((c.tc : Thread Cert.H0RefIdeal.nD Cert.H0RefIdeal.τ).loc Cert.H0RefIdeal.main_arg3)) (m ((c.tc : Thread Cert.H0RefIdeal.nD Cert.H0RefIdeal.τ).loc Cert.H0RefIdeal.main_arg4)) (m ((c.tc : Thread Cert.H0RefIdeal.nD Cert.H0RefIdeal.τ).loc Cert.H0RefIdeal.main_arg5)) (m ((c.tc : Thread Cert.H0RefIdeal.nD Cert.H0RefIdeal.τ).loc Cert.H0RefIdeal.main_arg6)) (m ((c.tc : Thread Cert.H0RefIdeal.nD Cert.H0RefIdeal.τ).loc Cert.H0RefIdeal.main_arg7))).2.1 = (fun _ => 1#1)
    ∧ (Cert.Pre_h0_finite.fn (F := Ideal) (m ((c.tc : Thread Cert.H0RefIdeal.nD Cert.H0RefIdeal.τ).loc Cert.H0RefIdeal.main_arg0)) (m ((c.tc : Thread Cert.H0RefIdeal.nD Cert.H0RefIdeal.τ).loc Cert.H0RefIdeal.main_arg1)) (m ((c.tc : Thread Cert.H0RefIdeal.nD Cert.H0RefIdeal.τ).loc Cert.H0RefIdeal.main_arg2)) (m ((c.tc : Thread Cert.H0RefIdeal.nD Cert.H0RefIdeal.τ).loc Cert.H0RefIdeal.main_arg3)) (m ((c.tc : Thread Cert.H0RefIdeal.nD Cert.H0RefIdeal.τ).loc Cert.H0RefIdeal.main_arg4)) (m ((c.tc : Thread Cert.H0RefIdeal.nD Cert.H0RefIdeal.τ).loc Cert.H0RefIdeal.main_arg5)) (m ((c.tc : Thread Cert.H0RefIdeal.nD Cert.H0RefIdeal.τ).loc Cert.H0RefIdeal.main_arg6)) (m ((c.tc : Thread Cert.H0RefIdeal.nD Cert.H0RefIdeal.τ).loc Cert.H0RefIdeal.main_arg7))).2.2.1 = (fun _ => 1#1)
    ∧ (Cert.Pre_h0_finite.fn (F := Ideal) (m ((c.tc : Thread Cert.H0RefIdeal.nD Cert.H0RefIdeal.τ).loc Cert.H0RefIdeal.main_arg0)) (m ((c.tc : Thread Cert.H0RefIdeal.nD Cert.H0RefIdeal.τ).loc Cert.H0RefIdeal.main_arg1)) (m ((c.tc : Thread Cert.H0RefIdeal.nD Cert.H0RefIdeal.τ).loc Cert.H0RefIdeal.main_arg2)) (m ((c.tc : Thread Cert.H0RefIdeal.nD Cert.H0RefIdeal.τ).loc Cert.H0RefIdeal.main_arg3)) (m ((c.tc : Thread Cert.H0RefIdeal.nD Cert.H0RefIdeal.τ).loc Cert.H0RefIdeal.main_arg4)) (m ((c.tc : Thread Cert.H0RefIdeal.nD Cert.H0RefIdeal.τ).loc Cert.H0RefIdeal.main_arg5)) (m ((c.tc : Thread Cert.H0RefIdeal.nD Cert.H0RefIdeal.τ).loc Cert.H0RefIdeal.main_arg6)) (m ((c.tc : Thread Cert.H0RefIdeal.nD Cert.H0RefIdeal.τ).loc Cert.H0RefIdeal.main_arg7))).2.2.2.1 = (fun _ => 1#1)
    ∧ (Cert.Pre_h0_finite.fn (F := Ideal) (m ((c.tc : Thread Cert.H0RefIdeal.nD Cert.H0RefIdeal.τ).loc Cert.H0RefIdeal.main_arg0)) (m ((c.tc : Thread Cert.H0RefIdeal.nD Cert.H0RefIdeal.τ).loc Cert.H0RefIdeal.main_arg1)) (m ((c.tc : Thread Cert.H0RefIdeal.nD Cert.H0RefIdeal.τ).loc Cert.H0RefIdeal.main_arg2)) (m ((c.tc : Thread Cert.H0RefIdeal.nD Cert.H0RefIdeal.τ).loc Cert.H0RefIdeal.main_arg3)) (m ((c.tc : Thread Cert.H0RefIdeal.nD Cert.H0RefIdeal.τ).loc Cert.H0RefIdeal.main_arg4)) (m ((c.tc : Thread Cert.H0RefIdeal.nD Cert.H0RefIdeal.τ).loc Cert.H0RefIdeal.main_arg5)) (m ((c.tc : Thread Cert.H0RefIdeal.nD Cert.H0RefIdeal.τ).loc Cert.H0RefIdeal.main_arg6)) (m ((c.tc : Thread Cert.H0RefIdeal.nD Cert.H0RefIdeal.τ).loc Cert.H0RefIdeal.main_arg7))).2.2.2.2.1 = (fun _ => 1#1)
    ∧ (Cert.Pre_h0_finite.fn (F := Ideal) (m ((c.tc : Thread Cert.H0RefIdeal.nD Cert.H0RefIdeal.τ).loc Cert.H0RefIdeal.main_arg0)) (m ((c.tc : Thread Cert.H0RefIdeal.nD Cert.H0RefIdeal.τ).loc Cert.H0RefIdeal.main_arg1)) (m ((c.tc : Thread Cert.H0RefIdeal.nD Cert.H0RefIdeal.τ).loc Cert.H0RefIdeal.main_arg2)) (m ((c.tc : Thread Cert.H0RefIdeal.nD Cert.H0RefIdeal.τ).loc Cert.H0RefIdeal.main_arg3)) (m ((c.tc : Thread Cert.H0RefIdeal.nD Cert.H0RefIdeal.τ).loc Cert.H0RefIdeal.main_arg4)) (m ((c.tc : Thread Cert.H0RefIdeal.nD Cert.H0RefIdeal.τ).loc Cert.H0RefIdeal.main_arg5)) (m ((c.tc : Thread Cert.H0RefIdeal.nD Cert.H0RefIdeal.τ).loc Cert.H0RefIdeal.main_arg6)) (m ((c.tc : Thread Cert.H0RefIdeal.nD Cert.H0RefIdeal.τ).loc Cert.H0RefIdeal.main_arg7))).2.2.2.2.2.1 = (fun _ => 1#1)
    ∧ (Cert.Pre_h0_finite.fn (F := Ideal) (m ((c.tc : Thread Cert.H0RefIdeal.nD Cert.H0RefIdeal.τ).loc Cert.H0RefIdeal.main_arg0)) (m ((c.tc : Thread Cert.H0RefIdeal.nD Cert.H0RefIdeal.τ).loc Cert.H0RefIdeal.main_arg1)) (m ((c.tc : Thread Cert.H0RefIdeal.nD Cert.H0RefIdeal.τ).loc Cert.H0RefIdeal.main_arg2)) (m ((c.tc : Thread Cert.H0RefIdeal.nD Cert.H0RefIdeal.τ).loc Cert.H0RefIdeal.main_arg3)) (m ((c.tc : Thread Cert.H0RefIdeal.nD Cert.H0RefIdeal.τ).loc Cert.H0RefIdeal.main_arg4)) (m ((c.tc : Thread Cert.H0RefIdeal.nD Cert.H0RefIdeal.τ).loc Cert.H0RefIdeal.main_arg5)) (m ((c.tc : Thread Cert.H0RefIdeal.nD Cert.H0RefIdeal.τ).loc Cert.H0RefIdeal.main_arg6)) (m ((c.tc : Thread Cert.H0RefIdeal.nD Cert.H0RefIdeal.τ).loc Cert.H0RefIdeal.main_arg7))).2.2.2.2.2.2 = (fun _ => 1#1)

def Pre_XaBwd (m : (ℓ : Loc Cert.XaBwd.nD Cert.XaBwd.τ Cert.XaBwd.sig) → Buf (Elt Bits) ℓ) : Prop :=
  True

def Pre_XaBwdIdeal (m : (ℓ : Loc Cert.XaBwdIdeal.nD Cert.XaBwdIdeal.τ Cert.XaBwdIdeal.sig) → Buf (Elt Ideal) ℓ) : Prop :=
  True

def Pre_XaRefIdeal (m : (ℓ : Loc Cert.XaRefIdeal.nD Cert.XaRefIdeal.τ Cert.XaRefIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdRefIdeal (m : (ℓ : Loc Cert.XaFwdRefIdeal.nD Cert.XaFwdRefIdeal.τ Cert.XaFwdRefIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdRefIdeal (m : (ℓ : Loc Cert.SwaFwdRefIdeal.nD Cert.SwaFwdRefIdeal.τ Cert.SwaFwdRefIdeal.sig) → Buf (Elt Ideal) ℓ) : Prop :=
  True

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_swa_finite [hPre_swa_finite : Cert.Pre_swa_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).2.2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2.2 = (fun _ => 1#1)

def Pre_BiasBwd (m : (ℓ : Loc Cert.BiasBwd.nD Cert.BiasBwd.τ Cert.BiasBwd.sig) → Buf (Elt Bits) ℓ) : Prop :=
  True

def Pre_BiasBwdIdeal (m : (ℓ : Loc Cert.BiasBwdIdeal.nD Cert.BiasBwdIdeal.τ Cert.BiasBwdIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_BiasFwd (m : (ℓ : Loc Cert.BiasFwd.nD Cert.BiasFwd.τ Cert.BiasFwd.sig) → Buf (Elt Bits) ℓ) : Prop :=
  True

def Pre_BiasFwdIdeal (m : (ℓ : Loc Cert.BiasFwdIdeal.nD Cert.BiasFwdIdeal.τ Cert.BiasFwdIdeal.sig) → Buf (Elt Ideal) ℓ) : Prop :=
  True

def Pre_BiasFwdRefIdeal (m : (ℓ : Loc Cert.BiasFwdRefIdeal.nD Cert.BiasFwdRefIdeal.τ Cert.BiasFwdRefIdeal.sig) → Buf (Elt Ideal) ℓ) : Prop :=
  True

def Pre_XaOut (m : (ℓ : Loc Cert.XaOut.nD Cert.XaOut.τ Cert.XaOut.sig) → Buf (Elt Bits) ℓ) : Prop :=
  True

def Pre_XaOutIdeal (m : (ℓ : Loc Cert.XaOutIdeal.nD Cert.XaOutIdeal.τ Cert.XaOutIdeal.sig) → Buf (Elt Ideal) ℓ) : Prop :=
  True

def Pre_XaOutRefIdeal (m : (ℓ : Loc Cert.XaOutRefIdeal.nD Cert.XaOutRefIdeal.τ Cert.XaOutRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MlstmFwd (m : (ℓ : Loc Cert.MlstmFwd.nD Cert.MlstmFwd.τ Cert.MlstmFwd.sig) → Buf (Elt Bits) ℓ) : Prop :=
  True

def Pre_MlstmFwdIdeal (m : (ℓ : Loc Cert.MlstmFwdIdeal.nD Cert.MlstmFwdIdeal.τ Cert.MlstmFwdIdeal.sig) → Buf (Elt Ideal) ℓ) : Prop :=
  True

def Pre_MlstmBwd (m : (ℓ : Loc Cert.MlstmBwd.nD Cert.MlstmBwd.τ Cert.MlstmBwd.sig) → Buf (Elt Bits) ℓ) : Prop :=
  True

def Pre_MlstmBwdIdeal (m : (ℓ : Loc Cert.MlstmBwdIdeal.nD Cert.MlstmBwdIdeal.τ Cert.MlstmBwdIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_H2Bwd [hH2Bwd : Cert.H2Bwd.Facts] : Prop :=
  ∀ (m : (ℓ : Loc Cert.H2Bwd.nD Cert.H2Bwd.τ Cert.H2Bwd.sig) → Buf (Elt Bits) ℓ) (g : Dev Cert.H2Bwd.nD → PrngReg), Pre_H2Bwd m →
    θ_run (Cert.H2Bwd.defs (F := Bits)) (onTc (τ := Cert.H2Bwd.τ) (Cert.H2Bwd.main (F := Bits))) ⟨m, fun _ => 0, g⟩ (fun r => (∀ c : Dev Cert.H2Bwd.nD,
      r.2.mem ((c.tc : Thread Cert.H2Bwd.nD Cert.H2Bwd.τ).loc Cert.H2Bwd.main_arg0) = m ((c.tc : Thread Cert.H2Bwd.nD Cert.H2Bwd.τ).loc Cert.H2Bwd.main_arg0)
      ∧ r.2.mem ((c.tc : Thread Cert.H2Bwd.nD Cert.H2Bwd.τ).loc Cert.H2Bwd.main_arg1) = m ((c.tc : Thread Cert.H2Bwd.nD Cert.H2Bwd.τ).loc Cert.H2Bwd.main_arg1)
      ∧ r.2.mem ((c.tc : Thread Cert.H2Bwd.nD Cert.H2Bwd.τ).loc Cert.H2Bwd.main_arg2) = m ((c.tc : Thread Cert.H2Bwd.nD Cert.H2Bwd.τ).loc Cert.H2Bwd.main_arg2)
      ∧ r.2.mem ((c.tc : Thread Cert.H2Bwd.nD Cert.H2Bwd.τ).loc Cert.H2Bwd.main_arg3) = m ((c.tc : Thread Cert.H2Bwd.nD Cert.H2Bwd.τ).loc Cert.H2Bwd.main_arg3)
      ∧ r.2.mem ((c.tc : Thread Cert.H2Bwd.nD Cert.H2Bwd.τ).loc Cert.H2Bwd.main_arg4) = m ((c.tc : Thread Cert.H2Bwd.nD Cert.H2Bwd.τ).loc Cert.H2Bwd.main_arg4)
      ∧ r.2.mem ((c.tc : Thread Cert.H2Bwd.nD Cert.H2Bwd.τ).loc Cert.H2Bwd.main_arg5) = m ((c.tc : Thread Cert.H2Bwd.nD Cert.H2Bwd.τ).loc Cert.H2Bwd.main_arg5)
      ∧ r.2.mem ((c.tc : Thread Cert.H2Bwd.nD Cert.H2Bwd.τ).loc Cert.H2Bwd.main_arg6) = m ((c.tc : Thread Cert.H2Bwd.nD Cert.H2Bwd.τ).loc Cert.H2Bwd.main_arg6)
      ∧ r.2.mem ((c.tc : Thread Cert.H2Bwd.nD Cert.H2Bwd.τ).loc Cert.H2Bwd.main_arg7) = m ((c.tc : Thread Cert.H2Bwd.nD Cert.H2Bwd.τ).loc Cert.H2Bwd.main_arg7))
      ∧ r.2.sem = fun _ => 0)

def quiescent_H2BwdIdeal [hH2BwdIdeal : Cert.H2BwdIdeal.Facts] : Prop :=
  ∀ (m : (ℓ : Loc Cert.H2BwdIdeal.nD Cert.H2BwdIdeal.τ Cert.H2BwdIdeal.sig) → Buf (Elt Ideal) ℓ) (g : Dev Cert.H2BwdIdeal.nD → PrngReg), Pre_H2BwdIdeal m →
    θ_run (Cert.H2BwdIdeal.defs (F := Ideal)) (onTc (τ := Cert.H2BwdIdeal.τ) (Cert.H2BwdIdeal.main (F := Ideal))) ⟨m, fun _ => 0, g⟩ (fun r => (∀ c : Dev Cert.H2BwdIdeal.nD,
      r.2.mem ((c.tc : Thread Cert.H2BwdIdeal.nD Cert.H2BwdIdeal.τ).loc Cert.H2BwdIdeal.main_arg0) = m ((c.tc : Thread Cert.H2BwdIdeal.nD Cert.H2BwdIdeal.τ).loc Cert.H2BwdIdeal.main_arg0)
      ∧ r.2.mem ((c.tc : Thread Cert.H2BwdIdeal.nD Cert.H2BwdIdeal.τ).loc Cert.H2BwdIdeal.main_arg1) = m ((c.tc : Thread Cert.H2BwdIdeal.nD Cert.H2BwdIdeal.τ).loc Cert.H2BwdIdeal.main_arg1)
      ∧ r.2.mem ((c.tc : Thread Cert.H2BwdIdeal.nD Cert.H2BwdIdeal.τ).loc Cert.H2BwdIdeal.main_arg2) = m ((c.tc : Thread Cert.H2BwdIdeal.nD Cert.H2BwdIdeal.τ).loc Cert.H2BwdIdeal.main_arg2)
      ∧ r.2.mem ((c.tc : Thread Cert.H2BwdIdeal.nD Cert.H2BwdIdeal.τ).loc Cert.H2BwdIdeal.main_arg3) = m ((c.tc : Thread Cert.H2BwdIdeal.nD Cert.H2BwdIdeal.τ).loc Cert.H2BwdIdeal.main_arg3)
      ∧ r.2.mem ((c.tc : Thread Cert.H2BwdIdeal.nD Cert.H2BwdIdeal.τ).loc Cert.H2BwdIdeal.main_arg4) = m ((c.tc : Thread Cert.H2BwdIdeal.nD Cert.H2BwdIdeal.τ).loc Cert.H2BwdIdeal.main_arg4)
      ∧ r.2.mem ((c.tc : Thread Cert.H2BwdIdeal.nD Cert.H2BwdIdeal.τ).loc Cert.H2BwdIdeal.main_arg5) = m ((c.tc : Thread Cert.H2BwdIdeal.nD Cert.H2BwdIdeal.τ).loc Cert.H2BwdIdeal.main_arg5)
      ∧ r.2.mem ((c.tc : Thread Cert.H2BwdIdeal.nD Cert.H2BwdIdeal.τ).loc Cert.H2BwdIdeal.main_arg6) = m ((c.tc : Thread Cert.H2BwdIdeal.nD Cert.H2BwdIdeal.τ).loc Cert.H2BwdIdeal.main_arg6)
      ∧ r.2.mem ((c.tc : Thread Cert.H2BwdIdeal.nD Cert.H2BwdIdeal.τ).loc Cert.H2BwdIdeal.main_arg7) = m ((c.tc : Thread Cert.H2BwdIdeal.nD Cert.H2BwdIdeal.τ).loc Cert.H2BwdIdeal.main_arg7))
      ∧ r.2.sem = fun _ => 0)

def quiescent_H2BwdIdeal_pre_h2_finite [hH2BwdIdeal : Cert.H2BwdIdeal.Facts] [hPre_h2_finite : Cert.Pre_h2_finite.Facts] : Prop :=
  ∀ (m : (ℓ : Loc Cert.H2BwdIdeal.nD Cert.H2BwdIdeal.τ Cert.H2BwdIdeal.sig) → Buf (Elt Ideal) ℓ) (g : Dev Cert.H2BwdIdeal.nD → PrngReg), Pre_H2BwdIdeal_h2_finite m →
    θ_run (Cert.H2BwdIdeal.defs (F := Ideal)) (onTc (τ := Cert.H2BwdIdeal.τ) (Cert.H2BwdIdeal.main (F := Ideal))) ⟨m, fun _ => 0, g⟩ (fun r => (∀ c : Dev Cert.H2BwdIdeal.nD,
      r.2.mem ((c.tc : Thread Cert.H2BwdIdeal.nD Cert.H2BwdIdeal.τ).loc Cert.H2BwdIdeal.main_arg0) = m ((c.tc : Thread Cert.H2BwdIdeal.nD Cert.H2BwdIdeal.τ).loc Cert.H2BwdIdeal.main_arg0)
      ∧ r.2.mem ((c.tc : Thread Cert.H2BwdIdeal.nD Cert.H2BwdIdeal.τ).loc Cert.H2BwdIdeal.main_arg1) = m ((c.tc : Thread Cert.H2BwdIdeal.nD Cert.H2BwdIdeal.τ).loc Cert.H2BwdIdeal.main_arg1)
      ∧ r.2.mem ((c.tc : Thread Cert.H2BwdIdeal.nD Cert.H2BwdIdeal.τ).loc Cert.H2BwdIdeal.main_arg2) = m ((c.tc : Thread Cert.H2BwdIdeal.nD Cert.H2BwdIdeal.τ).loc Cert.H2BwdIdeal.main_arg2)
      ∧ r.2.mem ((c.tc : Thread Cert.H2BwdIdeal.nD Cert.H2BwdIdeal.τ).loc Cert.H2BwdIdeal.main_arg3) = m ((c.tc : Thread Cert.H2BwdIdeal.nD Cert.H2BwdIdeal.τ).loc Cert.H2BwdIdeal.main_arg3)
      ∧ r.2.mem ((c.tc : Thread Cert.H2BwdIdeal.nD Cert.H2BwdIdeal.τ).loc Cert.H2BwdIdeal.main_arg4) = m ((c.tc : Thread Cert.H2BwdIdeal.nD Cert.H2BwdIdeal.τ).loc Cert.H2BwdIdeal.main_arg4)
      ∧ r.2.mem ((c.tc : Thread Cert.H2BwdIdeal.nD Cert.H2BwdIdeal.τ).loc Cert.H2BwdIdeal.main_arg5) = m ((c.tc : Thread Cert.H2BwdIdeal.nD Cert.H2BwdIdeal.τ).loc Cert.H2BwdIdeal.main_arg5)
      ∧ r.2.mem ((c.tc : Thread Cert.H2BwdIdeal.nD Cert.H2BwdIdeal.τ).loc Cert.H2BwdIdeal.main_arg6) = m ((c.tc : Thread Cert.H2BwdIdeal.nD Cert.H2BwdIdeal.τ).loc Cert.H2BwdIdeal.main_arg6)
      ∧ r.2.mem ((c.tc : Thread Cert.H2BwdIdeal.nD Cert.H2BwdIdeal.τ).loc Cert.H2BwdIdeal.main_arg7) = m ((c.tc : Thread Cert.H2BwdIdeal.nD Cert.H2BwdIdeal.τ).loc Cert.H2BwdIdeal.main_arg7))
      ∧ r.2.sem = fun _ => 0)

def quiescent_H2RefIdeal [hH2RefIdeal : Cert.H2RefIdeal.Facts] : Prop :=
  ∀ (m : (ℓ : Loc Cert.H2RefIdeal.nD Cert.H2RefIdeal.τ Cert.H2RefIdeal.sig) → Buf (Elt Ideal) ℓ) (g : Dev Cert.H2RefIdeal.nD → PrngReg), Pre_H2RefIdeal m →
    θ_run (Cert.H2RefIdeal.defs (F := Ideal)) (onTc (τ := Cert.H2RefIdeal.τ) (Cert.H2RefIdeal.main (F := Ideal))) ⟨m, fun _ => 0, g⟩ (fun r => (∀ c : Dev Cert.H2RefIdeal.nD,
      r.2.mem ((c.tc : Thread Cert.H2RefIdeal.nD Cert.H2RefIdeal.τ).loc Cert.H2RefIdeal.main_arg0) = m ((c.tc : Thread Cert.H2RefIdeal.nD Cert.H2RefIdeal.τ).loc Cert.H2RefIdeal.main_arg0)
      ∧ r.2.mem ((c.tc : Thread Cert.H2RefIdeal.nD Cert.H2RefIdeal.τ).loc Cert.H2RefIdeal.main_arg1) = m ((c.tc : Thread Cert.H2RefIdeal.nD Cert.H2RefIdeal.τ).loc Cert.H2RefIdeal.main_arg1)
      ∧ r.2.mem ((c.tc : Thread Cert.H2RefIdeal.nD Cert.H2RefIdeal.τ).loc Cert.H2RefIdeal.main_arg2) = m ((c.tc : Thread Cert.H2RefIdeal.nD Cert.H2RefIdeal.τ).loc Cert.H2RefIdeal.main_arg2)
      ∧ r.2.mem ((c.tc : Thread Cert.H2RefIdeal.nD Cert.H2RefIdeal.τ).loc Cert.H2RefIdeal.main_arg3) = m ((c.tc : Thread Cert.H2RefIdeal.nD Cert.H2RefIdeal.τ).loc Cert.H2RefIdeal.main_arg3)
      ∧ r.2.mem ((c.tc : Thread Cert.H2RefIdeal.nD Cert.H2RefIdeal.τ).loc Cert.H2RefIdeal.main_arg4) = m ((c.tc : Thread Cert.H2RefIdeal.nD Cert.H2RefIdeal.τ).loc Cert.H2RefIdeal.main_arg4)
      ∧ r.2.mem ((c.tc : Thread Cert.H2RefIdeal.nD Cert.H2RefIdeal.τ).loc Cert.H2RefIdeal.main_arg5) = m ((c.tc : Thread Cert.H2RefIdeal.nD Cert.H2RefIdeal.τ).loc Cert.H2RefIdeal.main_arg5)
      ∧ r.2.mem ((c.tc : Thread Cert.H2RefIdeal.nD Cert.H2RefIdeal.τ).loc Cert.H2RefIdeal.main_arg6) = m ((c.tc : Thread Cert.H2RefIdeal.nD Cert.H2RefIdeal.τ).loc Cert.H2RefIdeal.main_arg6)
      ∧ r.2.mem ((c.tc : Thread Cert.H2RefIdeal.nD Cert.H2RefIdeal.τ).loc Cert.H2RefIdeal.main_arg7) = m ((c.tc : Thread Cert.H2RefIdeal.nD Cert.H2RefIdeal.τ).loc Cert.H2RefIdeal.main_arg7))
      ∧ r.2.sem = fun _ => 0)

def quiescent_H2RefIdeal_pre_h2_finite [hH2RefIdeal : Cert.H2RefIdeal.Facts] [hPre_h2_finite : Cert.Pre_h2_finite.Facts] : Prop :=
  ∀ (m : (ℓ : Loc Cert.H2RefIdeal.nD Cert.H2RefIdeal.τ Cert.H2RefIdeal.sig) → Buf (Elt Ideal) ℓ) (g : Dev Cert.H2RefIdeal.nD → PrngReg), Pre_H2RefIdeal_h2_finite m →
    θ_run (Cert.H2RefIdeal.defs (F := Ideal)) (onTc (τ := Cert.H2RefIdeal.τ) (Cert.H2RefIdeal.main (F := Ideal))) ⟨m, fun _ => 0, g⟩ (fun r => (∀ c : Dev Cert.H2RefIdeal.nD,
      r.2.mem ((c.tc : Thread Cert.H2RefIdeal.nD Cert.H2RefIdeal.τ).loc Cert.H2RefIdeal.main_arg0) = m ((c.tc : Thread Cert.H2RefIdeal.nD Cert.H2RefIdeal.τ).loc Cert.H2RefIdeal.main_arg0)
      ∧ r.2.mem ((c.tc : Thread Cert.H2RefIdeal.nD Cert.H2RefIdeal.τ).loc Cert.H2RefIdeal.main_arg1) = m ((c.tc : Thread Cert.H2RefIdeal.nD Cert.H2RefIdeal.τ).loc Cert.H2RefIdeal.main_arg1)
      ∧ r.2.mem ((c.tc : Thread Cert.H2RefIdeal.nD Cert.H2RefIdeal.τ).loc Cert.H2RefIdeal.main_arg2) = m ((c.tc : Thread Cert.H2RefIdeal.nD Cert.H2RefIdeal.τ).loc Cert.H2RefIdeal.main_arg2)
      ∧ r.2.mem ((c.tc : Thread Cert.H2RefIdeal.nD Cert.H2RefIdeal.τ).loc Cert.H2RefIdeal.main_arg3) = m ((c.tc : Thread Cert.H2RefIdeal.nD Cert.H2RefIdeal.τ).loc Cert.H2RefIdeal.main_arg3)
      ∧ r.2.mem ((c.tc : Thread Cert.H2RefIdeal.nD Cert.H2RefIdeal.τ).loc Cert.H2RefIdeal.main_arg4) = m ((c.tc : Thread Cert.H2RefIdeal.nD Cert.H2RefIdeal.τ).loc Cert.H2RefIdeal.main_arg4)
      ∧ r.2.mem ((c.tc : Thread Cert.H2RefIdeal.nD Cert.H2RefIdeal.τ).loc Cert.H2RefIdeal.main_arg5) = m ((c.tc : Thread Cert.H2RefIdeal.nD Cert.H2RefIdeal.τ).loc Cert.H2RefIdeal.main_arg5)
      ∧ r.2.mem ((c.tc : Thread Cert.H2RefIdeal.nD Cert.H2RefIdeal.τ).loc Cert.H2RefIdeal.main_arg6) = m ((c.tc : Thread Cert.H2RefIdeal.nD Cert.H2RefIdeal.τ).loc Cert.H2RefIdeal.main_arg6)
      ∧ r.2.mem ((c.tc : Thread Cert.H2RefIdeal.nD Cert.H2RefIdeal.τ).loc Cert.H2RefIdeal.main_arg7) = m ((c.tc : Thread Cert.H2RefIdeal.nD Cert.H2RefIdeal.τ).loc Cert.H2RefIdeal.main_arg7))
      ∧ r.2.sem = fun _ => 0)

def quiescent_H1Bwd [hH1Bwd : Cert.H1Bwd.Facts] : Prop :=
  ∀ (m : (ℓ : Loc Cert.H1Bwd.nD Cert.H1Bwd.τ Cert.H1Bwd.sig) → Buf (Elt Bits) ℓ) (g : Dev Cert.H1Bwd.nD → PrngReg), Pre_H1Bwd m →
    θ_run (Cert.H1Bwd.defs (F := Bits)) (onTc (τ := Cert.H1Bwd.τ) (Cert.H1Bwd.main (F := Bits))) ⟨m, fun _ => 0, g⟩ (fun r => (∀ c : Dev Cert.H1Bwd.nD,
      r.2.mem ((c.tc : Thread Cert.H1Bwd.nD Cert.H1Bwd.τ).loc Cert.H1Bwd.main_arg0) = m ((c.tc : Thread Cert.H1Bwd.nD Cert.H1Bwd.τ).loc Cert.H1Bwd.main_arg0)
      ∧ r.2.mem ((c.tc : Thread Cert.H1Bwd.nD Cert.H1Bwd.τ).loc Cert.H1Bwd.main_arg1) = m ((c.tc : Thread Cert.H1Bwd.nD Cert.H1Bwd.τ).loc Cert.H1Bwd.main_arg1)
      ∧ r.2.mem ((c.tc : Thread Cert.H1Bwd.nD Cert.H1Bwd.τ).loc Cert.H1Bwd.main_arg2) = m ((c.tc : Thread Cert.H1Bwd.nD Cert.H1Bwd.τ).loc Cert.H1Bwd.main_arg2)
      ∧ r.2.mem ((c.tc : Thread Cert.H1Bwd.nD Cert.H1Bwd.τ).loc Cert.H1Bwd.main_arg3) = m ((c.tc : Thread Cert.H1Bwd.nD Cert.H1Bwd.τ).loc Cert.H1Bwd.main_arg3)
      ∧ r.2.mem ((c.tc : Thread Cert.H1Bwd.nD Cert.H1Bwd.τ).loc Cert.H1Bwd.main_arg4) = m ((c.tc : Thread Cert.H1Bwd.nD Cert.H1Bwd.τ).loc Cert.H1Bwd.main_arg4)
      ∧ r.2.mem ((c.tc : Thread Cert.H1Bwd.nD Cert.H1Bwd.τ).loc Cert.H1Bwd.main_arg5) = m ((c.tc : Thread Cert.H1Bwd.nD Cert.H1Bwd.τ).loc Cert.H1Bwd.main_arg5)
      ∧ r.2.mem ((c.tc : Thread Cert.H1Bwd.nD Cert.H1Bwd.τ).loc Cert.H1Bwd.main_arg6) = m ((c.tc : Thread Cert.H1Bwd.nD Cert.H1Bwd.τ).loc Cert.H1Bwd.main_arg6)
      ∧ r.2.mem ((c.tc : Thread Cert.H1Bwd.nD Cert.H1Bwd.τ).loc Cert.H1Bwd.main_arg7) = m ((c.tc : Thread Cert.H1Bwd.nD Cert.H1Bwd.τ).loc Cert.H1Bwd.main_arg7))
      ∧ r.2.sem = fun _ => 0)

def quiescent_H1BwdIdeal [hH1BwdIdeal : Cert.H1BwdIdeal.Facts] : Prop :=
  ∀ (m : (ℓ : Loc Cert.H1BwdIdeal.nD Cert.H1BwdIdeal.τ Cert.H1BwdIdeal.sig) → Buf (Elt Ideal) ℓ) (g : Dev Cert.H1BwdIdeal.nD → PrngReg), Pre_H1BwdIdeal m →
    θ_run (Cert.H1BwdIdeal.defs (F := Ideal)) (onTc (τ := Cert.H1BwdIdeal.τ) (Cert.H1BwdIdeal.main (F := Ideal))) ⟨m, fun _ => 0, g⟩ (fun r => (∀ c : Dev Cert.H1BwdIdeal.nD,
      r.2.mem ((c.tc : Thread Cert.H1BwdIdeal.nD Cert.H1BwdIdeal.τ).loc Cert.H1BwdIdeal.main_arg0) = m ((c.tc : Thread Cert.H1BwdIdeal.nD Cert.H1BwdIdeal.τ).loc Cert.H1BwdIdeal.main_arg0)
      ∧ r.2.mem ((c.tc : Thread Cert.H1BwdIdeal.nD Cert.H1BwdIdeal.τ).loc Cert.H1BwdIdeal.main_arg1) = m ((c.tc : Thread Cert.H1BwdIdeal.nD Cert.H1BwdIdeal.τ).loc Cert.H1BwdIdeal.main_arg1)
      ∧ r.2.mem ((c.tc : Thread Cert.H1BwdIdeal.nD Cert.H1BwdIdeal.τ).loc Cert.H1BwdIdeal.main_arg2) = m ((c.tc : Thread Cert.H1BwdIdeal.nD Cert.H1BwdIdeal.τ).loc Cert.H1BwdIdeal.main_arg2)
      ∧ r.2.mem ((c.tc : Thread Cert.H1BwdIdeal.nD Cert.H1BwdIdeal.τ).loc Cert.H1BwdIdeal.main_arg3) = m ((c.tc : Thread Cert.H1BwdIdeal.nD Cert.H1BwdIdeal.τ).loc Cert.H1BwdIdeal.main_arg3)
      ∧ r.2.mem ((c.tc : Thread Cert.H1BwdIdeal.nD Cert.H1BwdIdeal.τ).loc Cert.H1BwdIdeal.main_arg4) = m ((c.tc : Thread Cert.H1BwdIdeal.nD Cert.H1BwdIdeal.τ).loc Cert.H1BwdIdeal.main_arg4)
      ∧ r.2.mem ((c.tc : Thread Cert.H1BwdIdeal.nD Cert.H1BwdIdeal.τ).loc Cert.H1BwdIdeal.main_arg5) = m ((c.tc : Thread Cert.H1BwdIdeal.nD Cert.H1BwdIdeal.τ).loc Cert.H1BwdIdeal.main_arg5)
      ∧ r.2.mem ((c.tc : Thread Cert.H1BwdIdeal.nD Cert.H1BwdIdeal.τ).loc Cert.H1BwdIdeal.main_arg6) = m ((c.tc : Thread Cert.H1BwdIdeal.nD Cert.H1BwdIdeal.τ).loc Cert.H1BwdIdeal.main_arg6)
      ∧ r.2.mem ((c.tc : Thread Cert.H1BwdIdeal.nD Cert.H1BwdIdeal.τ).loc Cert.H1BwdIdeal.main_arg7) = m ((c.tc : Thread Cert.H1BwdIdeal.nD Cert.H1BwdIdeal.τ).loc Cert.H1BwdIdeal.main_arg7))
      ∧ r.2.sem = fun _ => 0)

def quiescent_H1BwdIdeal_pre_h1_finite [hH1BwdIdeal : Cert.H1BwdIdeal.Facts] [hPre_h1_finite : Cert.Pre_h1_finite.Facts] : Prop :=
  ∀ (m : (ℓ : Loc Cert.H1BwdIdeal.nD Cert.H1BwdIdeal.τ Cert.H1BwdIdeal.sig) → Buf (Elt Ideal) ℓ) (g : Dev Cert.H1BwdIdeal.nD → PrngReg), Pre_H1BwdIdeal_h1_finite m →
    θ_run (Cert.H1BwdIdeal.defs (F := Ideal)) (onTc (τ := Cert.H1BwdIdeal.τ) (Cert.H1BwdIdeal.main (F := Ideal))) ⟨m, fun _ => 0, g⟩ (fun r => (∀ c : Dev Cert.H1BwdIdeal.nD,
      r.2.mem ((c.tc : Thread Cert.H1BwdIdeal.nD Cert.H1BwdIdeal.τ).loc Cert.H1BwdIdeal.main_arg0) = m ((c.tc : Thread Cert.H1BwdIdeal.nD Cert.H1BwdIdeal.τ).loc Cert.H1BwdIdeal.main_arg0)
      ∧ r.2.mem ((c.tc : Thread Cert.H1BwdIdeal.nD Cert.H1BwdIdeal.τ).loc Cert.H1BwdIdeal.main_arg1) = m ((c.tc : Thread Cert.H1BwdIdeal.nD Cert.H1BwdIdeal.τ).loc Cert.H1BwdIdeal.main_arg1)
      ∧ r.2.mem ((c.tc : Thread Cert.H1BwdIdeal.nD Cert.H1BwdIdeal.τ).loc Cert.H1BwdIdeal.main_arg2) = m ((c.tc : Thread Cert.H1BwdIdeal.nD Cert.H1BwdIdeal.τ).loc Cert.H1BwdIdeal.main_arg2)
      ∧ r.2.mem ((c.tc : Thread Cert.H1BwdIdeal.nD Cert.H1BwdIdeal.τ).loc Cert.H1BwdIdeal.main_arg3) = m ((c.tc : Thread Cert.H1BwdIdeal.nD Cert.H1BwdIdeal.τ).loc Cert.H1BwdIdeal.main_arg3)
      ∧ r.2.mem ((c.tc : Thread Cert.H1BwdIdeal.nD Cert.H1BwdIdeal.τ).loc Cert.H1BwdIdeal.main_arg4) = m ((c.tc : Thread Cert.H1BwdIdeal.nD Cert.H1BwdIdeal.τ).loc Cert.H1BwdIdeal.main_arg4)
      ∧ r.2.mem ((c.tc : Thread Cert.H1BwdIdeal.nD Cert.H1BwdIdeal.τ).loc Cert.H1BwdIdeal.main_arg5) = m ((c.tc : Thread Cert.H1BwdIdeal.nD Cert.H1BwdIdeal.τ).loc Cert.H1BwdIdeal.main_arg5)
      ∧ r.2.mem ((c.tc : Thread Cert.H1BwdIdeal.nD Cert.H1BwdIdeal.τ).loc Cert.H1BwdIdeal.main_arg6) = m ((c.tc : Thread Cert.H1BwdIdeal.nD Cert.H1BwdIdeal.τ).loc Cert.H1BwdIdeal.main_arg6)
      ∧ r.2.mem ((c.tc : Thread Cert.H1BwdIdeal.nD Cert.H1BwdIdeal.τ).loc Cert.H1BwdIdeal.main_arg7) = m ((c.tc : Thread Cert.H1BwdIdeal.nD Cert.H1BwdIdeal.τ).loc Cert.H1BwdIdeal.main_arg7))
      ∧ r.2.sem = fun _ => 0)

def quiescent_H1RefIdeal [hH1RefIdeal : Cert.H1RefIdeal.Facts] : Prop :=
  ∀ (m : (ℓ : Loc Cert.H1RefIdeal.nD Cert.H1RefIdeal.τ Cert.H1RefIdeal.sig) → Buf (Elt Ideal) ℓ) (g : Dev Cert.H1RefIdeal.nD → PrngReg), Pre_H1RefIdeal m →
    θ_run (Cert.H1RefIdeal.defs (F := Ideal)) (onTc (τ := Cert.H1RefIdeal.τ) (Cert.H1RefIdeal.main (F := Ideal))) ⟨m, fun _ => 0, g⟩ (fun r => (∀ c : Dev Cert.H1RefIdeal.nD,
      r.2.mem ((c.tc : Thread Cert.H1RefIdeal.nD Cert.H1RefIdeal.τ).loc Cert.H1RefIdeal.main_arg0) = m ((c.tc : Thread Cert.H1RefIdeal.nD Cert.H1RefIdeal.τ).loc Cert.H1RefIdeal.main_arg0)
      ∧ r.2.mem ((c.tc : Thread Cert.H1RefIdeal.nD Cert.H1RefIdeal.τ).loc Cert.H1RefIdeal.main_arg1) = m ((c.tc : Thread Cert.H1RefIdeal.nD Cert.H1RefIdeal.τ).loc Cert.H1RefIdeal.main_arg1)
      ∧ r.2.mem ((c.tc : Thread Cert.H1RefIdeal.nD Cert.H1RefIdeal.τ).loc Cert.H1RefIdeal.main_arg2) = m ((c.tc : Thread Cert.H1RefIdeal.nD Cert.H1RefIdeal.τ).loc Cert.H1RefIdeal.main_arg2)
      ∧ r.2.mem ((c.tc : Thread Cert.H1RefIdeal.nD Cert.H1RefIdeal.τ).loc Cert.H1RefIdeal.main_arg3) = m ((c.tc : Thread Cert.H1RefIdeal.nD Cert.H1RefIdeal.τ).loc Cert.H1RefIdeal.main_arg3)
      ∧ r.2.mem ((c.tc : Thread Cert.H1RefIdeal.nD Cert.H1RefIdeal.τ).loc Cert.H1RefIdeal.main_arg4) = m ((c.tc : Thread Cert.H1RefIdeal.nD Cert.H1RefIdeal.τ).loc Cert.H1RefIdeal.main_arg4)
      ∧ r.2.mem ((c.tc : Thread Cert.H1RefIdeal.nD Cert.H1RefIdeal.τ).loc Cert.H1RefIdeal.main_arg5) = m ((c.tc : Thread Cert.H1RefIdeal.nD Cert.H1RefIdeal.τ).loc Cert.H1RefIdeal.main_arg5)
      ∧ r.2.mem ((c.tc : Thread Cert.H1RefIdeal.nD Cert.H1RefIdeal.τ).loc Cert.H1RefIdeal.main_arg6) = m ((c.tc : Thread Cert.H1RefIdeal.nD Cert.H1RefIdeal.τ).loc Cert.H1RefIdeal.main_arg6)
      ∧ r.2.mem ((c.tc : Thread Cert.H1RefIdeal.nD Cert.H1RefIdeal.τ).loc Cert.H1RefIdeal.main_arg7) = m ((c.tc : Thread Cert.H1RefIdeal.nD Cert.H1RefIdeal.τ).loc Cert.H1RefIdeal.main_arg7))
      ∧ r.2.sem = fun _ => 0)

def quiescent_H1RefIdeal_pre_h1_finite [hH1RefIdeal : Cert.H1RefIdeal.Facts] [hPre_h1_finite : Cert.Pre_h1_finite.Facts] : Prop :=
  ∀ (m : (ℓ : Loc Cert.H1RefIdeal.nD Cert.H1RefIdeal.τ Cert.H1RefIdeal.sig) → Buf (Elt Ideal) ℓ) (g : Dev Cert.H1RefIdeal.nD → PrngReg), Pre_H1RefIdeal_h1_finite m →
    θ_run (Cert.H1RefIdeal.defs (F := Ideal)) (onTc (τ := Cert.H1RefIdeal.τ) (Cert.H1RefIdeal.main (F := Ideal))) ⟨m, fun _ => 0, g⟩ (fun r => (∀ c : Dev Cert.H1RefIdeal.nD,
      r.2.mem ((c.tc : Thread Cert.H1RefIdeal.nD Cert.H1RefIdeal.τ).loc Cert.H1RefIdeal.main_arg0) = m ((c.tc : Thread Cert.H1RefIdeal.nD Cert.H1RefIdeal.τ).loc Cert.H1RefIdeal.main_arg0)
      ∧ r.2.mem ((c.tc : Thread Cert.H1RefIdeal.nD Cert.H1RefIdeal.τ).loc Cert.H1RefIdeal.main_arg1) = m ((c.tc : Thread Cert.H1RefIdeal.nD Cert.H1RefIdeal.τ).loc Cert.H1RefIdeal.main_arg1)
      ∧ r.2.mem ((c.tc : Thread Cert.H1RefIdeal.nD Cert.H1RefIdeal.τ).loc Cert.H1RefIdeal.main_arg2) = m ((c.tc : Thread Cert.H1RefIdeal.nD Cert.H1RefIdeal.τ).loc Cert.H1RefIdeal.main_arg2)
      ∧ r.2.mem ((c.tc : Thread Cert.H1RefIdeal.nD Cert.H1RefIdeal.τ).loc Cert.H1RefIdeal.main_arg3) = m ((c.tc : Thread Cert.H1RefIdeal.nD Cert.H1RefIdeal.τ).loc Cert.H1RefIdeal.main_arg3)
      ∧ r.2.mem ((c.tc : Thread Cert.H1RefIdeal.nD Cert.H1RefIdeal.τ).loc Cert.H1RefIdeal.main_arg4) = m ((c.tc : Thread Cert.H1RefIdeal.nD Cert.H1RefIdeal.τ).loc Cert.H1RefIdeal.main_arg4)
      ∧ r.2.mem ((c.tc : Thread Cert.H1RefIdeal.nD Cert.H1RefIdeal.τ).loc Cert.H1RefIdeal.main_arg5) = m ((c.tc : Thread Cert.H1RefIdeal.nD Cert.H1RefIdeal.τ).loc Cert.H1RefIdeal.main_arg5)
      ∧ r.2.mem ((c.tc : Thread Cert.H1RefIdeal.nD Cert.H1RefIdeal.τ).loc Cert.H1RefIdeal.main_arg6) = m ((c.tc : Thread Cert.H1RefIdeal.nD Cert.H1RefIdeal.τ).loc Cert.H1RefIdeal.main_arg6)
      ∧ r.2.mem ((c.tc : Thread Cert.H1RefIdeal.nD Cert.H1RefIdeal.τ).loc Cert.H1RefIdeal.main_arg7) = m ((c.tc : Thread Cert.H1RefIdeal.nD Cert.H1RefIdeal.τ).loc Cert.H1RefIdeal.main_arg7))
      ∧ r.2.sem = fun _ => 0)

def quiescent_H0Bwd [hH0Bwd : Cert.H0Bwd.Facts] : Prop :=
  ∀ (m : (ℓ : Loc Cert.H0Bwd.nD Cert.H0Bwd.τ Cert.H0Bwd.sig) → Buf (Elt Bits) ℓ) (g : Dev Cert.H0Bwd.nD → PrngReg), Pre_H0Bwd m →
    θ_run (Cert.H0Bwd.defs (F := Bits)) (onTc (τ := Cert.H0Bwd.τ) (Cert.H0Bwd.main (F := Bits))) ⟨m, fun _ => 0, g⟩ (fun r => (∀ c : Dev Cert.H0Bwd.nD,
      r.2.mem ((c.tc : Thread Cert.H0Bwd.nD Cert.H0Bwd.τ).loc Cert.H0Bwd.main_arg0) = m ((c.tc : Thread Cert.H0Bwd.nD Cert.H0Bwd.τ).loc Cert.H0Bwd.main_arg0)
      ∧ r.2.mem ((c.tc : Thread Cert.H0Bwd.nD Cert.H0Bwd.τ).loc Cert.H0Bwd.main_arg1) = m ((c.tc : Thread Cert.H0Bwd.nD Cert.H0Bwd.τ).loc Cert.H0Bwd.main_arg1)
      ∧ r.2.mem ((c.tc : Thread Cert.H0Bwd.nD Cert.H0Bwd.τ).loc Cert.H0Bwd.main_arg2) = m ((c.tc : Thread Cert.H0Bwd.nD Cert.H0Bwd.τ).loc Cert.H0Bwd.main_arg2)
      ∧ r.2.mem ((c.tc : Thread Cert.H0Bwd.nD Cert.H0Bwd.τ).loc Cert.H0Bwd.main_arg3) = m ((c.tc : Thread Cert.H0Bwd.nD Cert.H0Bwd.τ).loc Cert.H0Bwd.main_arg3)
      ∧ r.2.mem ((c.tc : Thread Cert.H0Bwd.nD Cert.H0Bwd.τ).loc Cert.H0Bwd.main_arg4) = m ((c.tc : Thread Cert.H0Bwd.nD Cert.H0Bwd.τ).loc Cert.H0Bwd.main_arg4)
      ∧ r.2.mem ((c.tc : Thread Cert.H0Bwd.nD Cert.H0Bwd.τ).loc Cert.H0Bwd.main_arg5) = m ((c.tc : Thread Cert.H0Bwd.nD Cert.H0Bwd.τ).loc Cert.H0Bwd.main_arg5)
      ∧ r.2.mem ((c.tc : Thread Cert.H0Bwd.nD Cert.H0Bwd.τ).loc Cert.H0Bwd.main_arg6) = m ((c.tc : Thread Cert.H0Bwd.nD Cert.H0Bwd.τ).loc Cert.H0Bwd.main_arg6)
      ∧ r.2.mem ((c.tc : Thread Cert.H0Bwd.nD Cert.H0Bwd.τ).loc Cert.H0Bwd.main_arg7) = m ((c.tc : Thread Cert.H0Bwd.nD Cert.H0Bwd.τ).loc Cert.H0Bwd.main_arg7))
      ∧ r.2.sem = fun _ => 0)

def quiescent_H0BwdIdeal [hH0BwdIdeal : Cert.H0BwdIdeal.Facts] : Prop :=
  ∀ (m : (ℓ : Loc Cert.H0BwdIdeal.nD Cert.H0BwdIdeal.τ Cert.H0BwdIdeal.sig) → Buf (Elt Ideal) ℓ) (g : Dev Cert.H0BwdIdeal.nD → PrngReg), Pre_H0BwdIdeal m →
    θ_run (Cert.H0BwdIdeal.defs (F := Ideal)) (onTc (τ := Cert.H0BwdIdeal.τ) (Cert.H0BwdIdeal.main (F := Ideal))) ⟨m, fun _ => 0, g⟩ (fun r => (∀ c : Dev Cert.H0BwdIdeal.nD,
      r.2.mem ((c.tc : Thread Cert.H0BwdIdeal.nD Cert.H0BwdIdeal.τ).loc Cert.H0BwdIdeal.main_arg0) = m ((c.tc : Thread Cert.H0BwdIdeal.nD Cert.H0BwdIdeal.τ).loc Cert.H0BwdIdeal.main_arg0)
      ∧ r.2.mem ((c.tc : Thread Cert.H0BwdIdeal.nD Cert.H0BwdIdeal.τ).loc Cert.H0BwdIdeal.main_arg1) = m ((c.tc : Thread Cert.H0BwdIdeal.nD Cert.H0BwdIdeal.τ).loc Cert.H0BwdIdeal.main_arg1)
      ∧ r.2.mem ((c.tc : Thread Cert.H0BwdIdeal.nD Cert.H0BwdIdeal.τ).loc Cert.H0BwdIdeal.main_arg2) = m ((c.tc : Thread Cert.H0BwdIdeal.nD Cert.H0BwdIdeal.τ).loc Cert.H0BwdIdeal.main_arg2)
      ∧ r.2.mem ((c.tc : Thread Cert.H0BwdIdeal.nD Cert.H0BwdIdeal.τ).loc Cert.H0BwdIdeal.main_arg3) = m ((c.tc : Thread Cert.H0BwdIdeal.nD Cert.H0BwdIdeal.τ).loc Cert.H0BwdIdeal.main_arg3)
      ∧ r.2.mem ((c.tc : Thread Cert.H0BwdIdeal.nD Cert.H0BwdIdeal.τ).loc Cert.H0BwdIdeal.main_arg4) = m ((c.tc : Thread Cert.H0BwdIdeal.nD Cert.H0BwdIdeal.τ).loc Cert.H0BwdIdeal.main_arg4)
      ∧ r.2.mem ((c.tc : Thread Cert.H0BwdIdeal.nD Cert.H0BwdIdeal.τ).loc Cert.H0BwdIdeal.main_arg5) = m ((c.tc : Thread Cert.H0BwdIdeal.nD Cert.H0BwdIdeal.τ).loc Cert.H0BwdIdeal.main_arg5)
      ∧ r.2.mem ((c.tc : Thread Cert.H0BwdIdeal.nD Cert.H0BwdIdeal.τ).loc Cert.H0BwdIdeal.main_arg6) = m ((c.tc : Thread Cert.H0BwdIdeal.nD Cert.H0BwdIdeal.τ).loc Cert.H0BwdIdeal.main_arg6)
      ∧ r.2.mem ((c.tc : Thread Cert.H0BwdIdeal.nD Cert.H0BwdIdeal.τ).loc Cert.H0BwdIdeal.main_arg7) = m ((c.tc : Thread Cert.H0BwdIdeal.nD Cert.H0BwdIdeal.τ).loc Cert.H0BwdIdeal.main_arg7))
      ∧ r.2.sem = fun _ => 0)

def quiescent_H0BwdIdeal_pre_h0_finite [hH0BwdIdeal : Cert.H0BwdIdeal.Facts] [hPre_h0_finite : Cert.Pre_h0_finite.Facts] : Prop :=
  ∀ (m : (ℓ : Loc Cert.H0BwdIdeal.nD Cert.H0BwdIdeal.τ Cert.H0BwdIdeal.sig) → Buf (Elt Ideal) ℓ) (g : Dev Cert.H0BwdIdeal.nD → PrngReg), Pre_H0BwdIdeal_h0_finite m →
    θ_run (Cert.H0BwdIdeal.defs (F := Ideal)) (onTc (τ := Cert.H0BwdIdeal.τ) (Cert.H0BwdIdeal.main (F := Ideal))) ⟨m, fun _ => 0, g⟩ (fun r => (∀ c : Dev Cert.H0BwdIdeal.nD,
      r.2.mem ((c.tc : Thread Cert.H0BwdIdeal.nD Cert.H0BwdIdeal.τ).loc Cert.H0BwdIdeal.main_arg0) = m ((c.tc : Thread Cert.H0BwdIdeal.nD Cert.H0BwdIdeal.τ).loc Cert.H0BwdIdeal.main_arg0)
      ∧ r.2.mem ((c.tc : Thread Cert.H0BwdIdeal.nD Cert.H0BwdIdeal.τ).loc Cert.H0BwdIdeal.main_arg1) = m ((c.tc : Thread Cert.H0BwdIdeal.nD Cert.H0BwdIdeal.τ).loc Cert.H0BwdIdeal.main_arg1)
      ∧ r.2.mem ((c.tc : Thread Cert.H0BwdIdeal.nD Cert.H0BwdIdeal.τ).loc Cert.H0BwdIdeal.main_arg2) = m ((c.tc : Thread Cert.H0BwdIdeal.nD Cert.H0BwdIdeal.τ).loc Cert.H0BwdIdeal.main_arg2)
      ∧ r.2.mem ((c.tc : Thread Cert.H0BwdIdeal.nD Cert.H0BwdIdeal.τ).loc Cert.H0BwdIdeal.main_arg3) = m ((c.tc : Thread Cert.H0BwdIdeal.nD Cert.H0BwdIdeal.τ).loc Cert.H0BwdIdeal.main_arg3)
      ∧ r.2.mem ((c.tc : Thread Cert.H0BwdIdeal.nD Cert.H0BwdIdeal.τ).loc Cert.H0BwdIdeal.main_arg4) = m ((c.tc : Thread Cert.H0BwdIdeal.nD Cert.H0BwdIdeal.τ).loc Cert.H0BwdIdeal.main_arg4)
      ∧ r.2.mem ((c.tc : Thread Cert.H0BwdIdeal.nD Cert.H0BwdIdeal.τ).loc Cert.H0BwdIdeal.main_arg5) = m ((c.tc : Thread Cert.H0BwdIdeal.nD Cert.H0BwdIdeal.τ).loc Cert.H0BwdIdeal.main_arg5)
      ∧ r.2.mem ((c.tc : Thread Cert.H0BwdIdeal.nD Cert.H0BwdIdeal.τ).loc Cert.H0BwdIdeal.main_arg6) = m ((c.tc : Thread Cert.H0BwdIdeal.nD Cert.H0BwdIdeal.τ).loc Cert.H0BwdIdeal.main_arg6)
      ∧ r.2.mem ((c.tc : Thread Cert.H0BwdIdeal.nD Cert.H0BwdIdeal.τ).loc Cert.H0BwdIdeal.main_arg7) = m ((c.tc : Thread Cert.H0BwdIdeal.nD Cert.H0BwdIdeal.τ).loc Cert.H0BwdIdeal.main_arg7))
      ∧ r.2.sem = fun _ => 0)

def quiescent_H0RefIdeal [hH0RefIdeal : Cert.H0RefIdeal.Facts] : Prop :=
  ∀ (m : (ℓ : Loc Cert.H0RefIdeal.nD Cert.H0RefIdeal.τ Cert.H0RefIdeal.sig) → Buf (Elt Ideal) ℓ) (g : Dev Cert.H0RefIdeal.nD → PrngReg), Pre_H0RefIdeal m →
    θ_run (Cert.H0RefIdeal.defs (F := Ideal)) (onTc (τ := Cert.H0RefIdeal.τ) (Cert.H0RefIdeal.main (F := Ideal))) ⟨m, fun _ => 0, g⟩ (fun r => (∀ c : Dev Cert.H0RefIdeal.nD,
      r.2.mem ((c.tc : Thread Cert.H0RefIdeal.nD Cert.H0RefIdeal.τ).loc Cert.H0RefIdeal.main_arg0) = m ((c.tc : Thread Cert.H0RefIdeal.nD Cert.H0RefIdeal.τ).loc Cert.H0RefIdeal.main_arg0)
      ∧ r.2.mem ((c.tc : Thread Cert.H0RefIdeal.nD Cert.H0RefIdeal.τ).loc Cert.H0RefIdeal.main_arg1) = m ((c.tc : Thread Cert.H0RefIdeal.nD Cert.H0RefIdeal.τ).loc Cert.H0RefIdeal.main_arg1)
      ∧ r.2.mem ((c.tc : Thread Cert.H0RefIdeal.nD Cert.H0RefIdeal.τ).loc Cert.H0RefIdeal.main_arg2) = m ((c.tc : Thread Cert.H0RefIdeal.nD Cert.H0RefIdeal.τ).loc Cert.H0RefIdeal.main_arg2)
      ∧ r.2.mem ((c.tc : Thread Cert.H0RefIdeal.nD Cert.H0RefIdeal.τ).loc Cert.H0RefIdeal.main_arg3) = m ((c.tc : Thread Cert.H0RefIdeal.nD Cert.H0RefIdeal.τ).loc Cert.H0RefIdeal.main_arg3)
      ∧ r.2.mem ((c.tc : Thread Cert.H0RefIdeal.nD Cert.H0RefIdeal.τ).loc Cert.H0RefIdeal.main_arg4) = m ((c.tc : Thread Cert.H0RefIdeal.nD Cert.H0RefIdeal.τ).loc Cert.H0RefIdeal.main_arg4)
      ∧ r.2.mem ((c.tc : Thread Cert.H0RefIdeal.nD Cert.H0RefIdeal.τ).loc Cert.H0RefIdeal.main_arg5) = m ((c.tc : Thread Cert.H0RefIdeal.nD Cert.H0RefIdeal.τ).loc Cert.H0RefIdeal.main_arg5)
      ∧ r.2.mem ((c.tc : Thread Cert.H0RefIdeal.nD Cert.H0RefIdeal.τ).loc Cert.H0RefIdeal.main_arg6) = m ((c.tc : Thread Cert.H0RefIdeal.nD Cert.H0RefIdeal.τ).loc Cert.H0RefIdeal.main_arg6)
      ∧ r.2.mem ((c.tc : Thread Cert.H0RefIdeal.nD Cert.H0RefIdeal.τ).loc Cert.H0RefIdeal.main_arg7) = m ((c.tc : Thread Cert.H0RefIdeal.nD Cert.H0RefIdeal.τ).loc Cert.H0RefIdeal.main_arg7))
      ∧ r.2.sem = fun _ => 0)

def quiescent_H0RefIdeal_pre_h0_finite [hH0RefIdeal : Cert.H0RefIdeal.Facts] [hPre_h0_finite : Cert.Pre_h0_finite.Facts] : Prop :=
  ∀ (m : (ℓ : Loc Cert.H0RefIdeal.nD Cert.H0RefIdeal.τ Cert.H0RefIdeal.sig) → Buf (Elt Ideal) ℓ) (g : Dev Cert.H0RefIdeal.nD → PrngReg), Pre_H0RefIdeal_h0_finite m →
    θ_run (Cert.H0RefIdeal.defs (F := Ideal)) (onTc (τ := Cert.H0RefIdeal.τ) (Cert.H0RefIdeal.main (F := Ideal))) ⟨m, fun _ => 0, g⟩ (fun r => (∀ c : Dev Cert.H0RefIdeal.nD,
      r.2.mem ((c.tc : Thread Cert.H0RefIdeal.nD Cert.H0RefIdeal.τ).loc Cert.H0RefIdeal.main_arg0) = m ((c.tc : Thread Cert.H0RefIdeal.nD Cert.H0RefIdeal.τ).loc Cert.H0RefIdeal.main_arg0)
      ∧ r.2.mem ((c.tc : Thread Cert.H0RefIdeal.nD Cert.H0RefIdeal.τ).loc Cert.H0RefIdeal.main_arg1) = m ((c.tc : Thread Cert.H0RefIdeal.nD Cert.H0RefIdeal.τ).loc Cert.H0RefIdeal.main_arg1)
      ∧ r.2.mem ((c.tc : Thread Cert.H0RefIdeal.nD Cert.H0RefIdeal.τ).loc Cert.H0RefIdeal.main_arg2) = m ((c.tc : Thread Cert.H0RefIdeal.nD Cert.H0RefIdeal.τ).loc Cert.H0RefIdeal.main_arg2)
      ∧ r.2.mem ((c.tc : Thread Cert.H0RefIdeal.nD Cert.H0RefIdeal.τ).loc Cert.H0RefIdeal.main_arg3) = m ((c.tc : Thread Cert.H0RefIdeal.nD Cert.H0RefIdeal.τ).loc Cert.H0RefIdeal.main_arg3)
      ∧ r.2.mem ((c.tc : Thread Cert.H0RefIdeal.nD Cert.H0RefIdeal.τ).loc Cert.H0RefIdeal.main_arg4) = m ((c.tc : Thread Cert.H0RefIdeal.nD Cert.H0RefIdeal.τ).loc Cert.H0RefIdeal.main_arg4)
      ∧ r.2.mem ((c.tc : Thread Cert.H0RefIdeal.nD Cert.H0RefIdeal.τ).loc Cert.H0RefIdeal.main_arg5) = m ((c.tc : Thread Cert.H0RefIdeal.nD Cert.H0RefIdeal.τ).loc Cert.H0RefIdeal.main_arg5)
      ∧ r.2.mem ((c.tc : Thread Cert.H0RefIdeal.nD Cert.H0RefIdeal.τ).loc Cert.H0RefIdeal.main_arg6) = m ((c.tc : Thread Cert.H0RefIdeal.nD Cert.H0RefIdeal.τ).loc Cert.H0RefIdeal.main_arg6)
      ∧ r.2.mem ((c.tc : Thread Cert.H0RefIdeal.nD Cert.H0RefIdeal.τ).loc Cert.H0RefIdeal.main_arg7) = m ((c.tc : Thread Cert.H0RefIdeal.nD Cert.H0RefIdeal.τ).loc Cert.H0RefIdeal.main_arg7))
      ∧ r.2.sem = fun _ => 0)

def quiescent_XaBwd [hXaBwd : Cert.XaBwd.Facts] : Prop :=
  ∀ (m : (ℓ : Loc Cert.XaBwd.nD Cert.XaBwd.τ Cert.XaBwd.sig) → Buf (Elt Bits) ℓ) (g : Dev Cert.XaBwd.nD → PrngReg), Pre_XaBwd m →
    θ_run (Cert.XaBwd.defs (F := Bits)) (onTc (τ := Cert.XaBwd.τ) (Cert.XaBwd.main (F := Bits))) ⟨m, fun _ => 0, g⟩ (fun r => (∀ c : Dev Cert.XaBwd.nD,
      r.2.mem ((c.tc : Thread Cert.XaBwd.nD Cert.XaBwd.τ).loc Cert.XaBwd.main_arg0) = m ((c.tc : Thread Cert.XaBwd.nD Cert.XaBwd.τ).loc Cert.XaBwd.main_arg0)
      ∧ r.2.mem ((c.tc : Thread Cert.XaBwd.nD Cert.XaBwd.τ).loc Cert.XaBwd.main_arg1) = m ((c.tc : Thread Cert.XaBwd.nD Cert.XaBwd.τ).loc Cert.XaBwd.main_arg1)
      ∧ r.2.mem ((c.tc : Thread Cert.XaBwd.nD Cert.XaBwd.τ).loc Cert.XaBwd.main_arg2) = m ((c.tc : Thread Cert.XaBwd.nD Cert.XaBwd.τ).loc Cert.XaBwd.main_arg2)
      ∧ r.2.mem ((c.tc : Thread Cert.XaBwd.nD Cert.XaBwd.τ).loc Cert.XaBwd.main_arg3) = m ((c.tc : Thread Cert.XaBwd.nD Cert.XaBwd.τ).loc Cert.XaBwd.main_arg3)
      ∧ r.2.mem ((c.tc : Thread Cert.XaBwd.nD Cert.XaBwd.τ).loc Cert.XaBwd.main_arg4) = m ((c.tc : Thread Cert.XaBwd.nD Cert.XaBwd.τ).loc Cert.XaBwd.main_arg4)
      ∧ r.2.mem ((c.tc : Thread Cert.XaBwd.nD Cert.XaBwd.τ).loc Cert.XaBwd.main_arg5) = m ((c.tc : Thread Cert.XaBwd.nD Cert.XaBwd.τ).loc Cert.XaBwd.main_arg5))
      ∧ r.2.sem = fun _ => 0)

def quiescent_XaBwdIdeal [hXaBwdIdeal : Cert.XaBwdIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg), Pre_XaBwdIdeal m →
    θ_run (Cert.XaBwdIdeal.defs (F := Ideal)) (onTc (τ := Cert.XaBwdIdeal.τ) (Cert.XaBwdIdeal.main (F := Ideal))) ⟨m, fun _ => 0, g⟩ (fun r => (∀ c : Dev Cert.XaBwdIdeal.nD,
      r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
      ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
      ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
      ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
      ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4)
      ∧ r.2.mem ((c.tc : Thread Cert.XaBwdIdeal.nD Cert.XaBwdIdeal.τ).loc Cert.XaBwdIdeal.main_arg5) = m ((c.tc : Thread Cert.XaBwdIdeal.nD Cert.XaBwdIdeal.τ).loc Cert.XaBwdIdeal.main_arg5))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4)
      ∧ r.2.mem ((c.tc : Thread Cert.XaRefIdeal.nD Cert.XaRefIdeal.τ).loc Cert.XaRefIdeal.main_arg5) = m ((c.tc : Thread Cert.XaRefIdeal.nD Cert.XaRefIdeal.τ).loc Cert.XaRefIdeal.main_arg5))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1)
      ∧ r.2.mem ((c.tc : Thread Cert.XaFwd.nD Cert.XaFwd.τ).loc Cert.XaFwd.main_arg2) = m ((c.tc : Thread Cert.XaFwd.nD Cert.XaFwd.τ).loc Cert.XaFwd.main_arg2)
      ∧ r.2.mem ((c.tc : Thread Cert.XaFwd.nD Cert.XaFwd.τ).loc Cert.XaFwd.main_arg3) = m ((c.tc : Thread Cert.XaFwd.nD Cert.XaFwd.τ).loc Cert.XaFwd.main_arg3))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
      ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
      ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3))
      ∧ r.2.sem = fun _ => 0)

def quiescent_XaFwdRefIdeal [hXaFwdRefIdeal : Cert.XaFwdRefIdeal.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1)
      ∧ r.2.mem ((c.tc : Thread Cert.XaFwdRefIdeal.nD Cert.XaFwdRefIdeal.τ).loc Cert.XaFwdRefIdeal.main_arg2) = m ((c.tc : Thread Cert.XaFwdRefIdeal.nD Cert.XaFwdRefIdeal.τ).loc Cert.XaFwdRefIdeal.main_arg2)
      ∧ r.2.mem ((c.tc : Thread Cert.XaFwdRefIdeal.nD Cert.XaFwdRefIdeal.τ).loc Cert.XaFwdRefIdeal.main_arg3) = m ((c.tc : Thread Cert.XaFwdRefIdeal.nD Cert.XaFwdRefIdeal.τ).loc Cert.XaFwdRefIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2)
      ∧ r.2.mem ((c.tc : Thread Cert.SwaBwd.nD Cert.SwaBwd.τ).loc Cert.SwaBwd.main_arg3) = m ((c.tc : Thread Cert.SwaBwd.nD Cert.SwaBwd.τ).loc Cert.SwaBwd.main_arg3))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ r.2.sem = fun _ => 0)

def quiescent_SwaBwdIdeal_pre_swa_finite [hSwaBwdIdeal : Cert.SwaBwdIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_swa_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_BiasBwd [hBiasBwd : Cert.BiasBwd.Facts] : Prop :=
  ∀ (m : (ℓ : Loc Cert.BiasBwd.nD Cert.BiasBwd.τ Cert.BiasBwd.sig) → Buf (Elt Bits) ℓ) (g : Dev Cert.BiasBwd.nD → PrngReg), Pre_BiasBwd m →
    θ_run (Cert.BiasBwd.defs (F := Bits)) (onTc (τ := Cert.BiasBwd.τ) (Cert.BiasBwd.main (F := Bits))) ⟨m, fun _ => 0, g⟩ (fun r => (∀ c : Dev Cert.BiasBwd.nD,
      r.2.mem ((c.tc : Thread Cert.BiasBwd.nD Cert.BiasBwd.τ).loc Cert.BiasBwd.main_arg0) = m ((c.tc : Thread Cert.BiasBwd.nD Cert.BiasBwd.τ).loc Cert.BiasBwd.main_arg0)
      ∧ r.2.mem ((c.tc : Thread Cert.BiasBwd.nD Cert.BiasBwd.τ).loc Cert.BiasBwd.main_arg1) = m ((c.tc : Thread Cert.BiasBwd.nD Cert.BiasBwd.τ).loc Cert.BiasBwd.main_arg1)
      ∧ r.2.mem ((c.tc : Thread Cert.BiasBwd.nD Cert.BiasBwd.τ).loc Cert.BiasBwd.main_arg2) = m ((c.tc : Thread Cert.BiasBwd.nD Cert.BiasBwd.τ).loc Cert.BiasBwd.main_arg2))
      ∧ r.2.sem = fun _ => 0)

def quiescent_BiasBwdIdeal [hBiasBwdIdeal : Cert.BiasBwdIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg), Pre_BiasBwdIdeal m →
    θ_run (Cert.BiasBwdIdeal.defs (F := Ideal)) (onTc (τ := Cert.BiasBwdIdeal.τ) (Cert.BiasBwdIdeal.main (F := Ideal))) ⟨m, fun _ => 0, g⟩ (fun r => (∀ c : Dev Cert.BiasBwdIdeal.nD,
      r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
      ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1)
      ∧ r.2.mem ((c.tc : Thread Cert.BiasBwdIdeal.nD Cert.BiasBwdIdeal.τ).loc Cert.BiasBwdIdeal.main_arg2) = m ((c.tc : Thread Cert.BiasBwdIdeal.nD Cert.BiasBwdIdeal.τ).loc Cert.BiasBwdIdeal.main_arg2))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_BiasFwd [hBiasFwd : Cert.BiasFwd.Facts] : Prop :=
  ∀ (m : (ℓ : Loc Cert.BiasFwd.nD Cert.BiasFwd.τ Cert.BiasFwd.sig) → Buf (Elt Bits) ℓ) (g : Dev Cert.BiasFwd.nD → PrngReg), Pre_BiasFwd m →
    θ_run (Cert.BiasFwd.defs (F := Bits)) (onTc (τ := Cert.BiasFwd.τ) (Cert.BiasFwd.main (F := Bits))) ⟨m, fun _ => 0, g⟩ (fun r => (∀ c : Dev Cert.BiasFwd.nD,
      r.2.mem ((c.tc : Thread Cert.BiasFwd.nD Cert.BiasFwd.τ).loc Cert.BiasFwd.main_arg0) = m ((c.tc : Thread Cert.BiasFwd.nD Cert.BiasFwd.τ).loc Cert.BiasFwd.main_arg0))
      ∧ r.2.sem = fun _ => 0)

def quiescent_BiasFwdIdeal [hBiasFwdIdeal : Cert.BiasFwdIdeal.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg), Pre_BiasFwdIdeal m →
    θ_run (Cert.BiasFwdIdeal.defs (F := Ideal)) (onTc (τ := Cert.BiasFwdIdeal.τ) (Cert.BiasFwdIdeal.main (F := Ideal))) ⟨m, fun _ => 0, g⟩ (fun r => (∀ c : Dev Cert.BiasFwdIdeal.nD,
      r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0))
      ∧ r.2.sem = fun _ => 0)

def quiescent_BiasFwdRefIdeal [hBiasFwdRefIdeal : Cert.BiasFwdRefIdeal.Facts] : Prop :=
  ∀ (m : (ℓ : Loc Cert.BiasFwdRefIdeal.nD Cert.BiasFwdRefIdeal.τ Cert.BiasFwdRefIdeal.sig) → Buf (Elt Ideal) ℓ) (g : Dev Cert.BiasFwdRefIdeal.nD → PrngReg), Pre_BiasFwdRefIdeal m →
    θ_run (Cert.BiasFwdRefIdeal.defs (F := Ideal)) (onTc (τ := Cert.BiasFwdRefIdeal.τ) (Cert.BiasFwdRefIdeal.main (F := Ideal))) ⟨m, fun _ => 0, g⟩ (fun r => (∀ c : Dev Cert.BiasFwdRefIdeal.nD,
      r.2.mem ((c.tc : Thread Cert.BiasFwdRefIdeal.nD Cert.BiasFwdRefIdeal.τ).loc Cert.BiasFwdRefIdeal.main_arg0) = m ((c.tc : Thread Cert.BiasFwdRefIdeal.nD Cert.BiasFwdRefIdeal.τ).loc Cert.BiasFwdRefIdeal.main_arg0))
      ∧ r.2.sem = fun _ => 0)

def quiescent_XaOut [hXaOut : Cert.XaOut.Facts] : Prop :=
  ∀ (m : (ℓ : Loc Cert.XaOut.nD Cert.XaOut.τ Cert.XaOut.sig) → Buf (Elt Bits) ℓ) (g : Dev Cert.XaOut.nD → PrngReg), Pre_XaOut m →
    θ_run (Cert.XaOut.defs (F := Bits)) (onTc (τ := Cert.XaOut.τ) (Cert.XaOut.main (F := Bits))) ⟨m, fun _ => 0, g⟩ (fun r => (∀ c : Dev Cert.XaOut.nD,
      r.2.mem ((c.tc : Thread Cert.XaOut.nD Cert.XaOut.τ).loc Cert.XaOut.main_arg0) = m ((c.tc : Thread Cert.XaOut.nD Cert.XaOut.τ).loc Cert.XaOut.main_arg0)
      ∧ r.2.mem ((c.tc : Thread Cert.XaOut.nD Cert.XaOut.τ).loc Cert.XaOut.main_arg1) = m ((c.tc : Thread Cert.XaOut.nD Cert.XaOut.τ).loc Cert.XaOut.main_arg1)
      ∧ r.2.mem ((c.tc : Thread Cert.XaOut.nD Cert.XaOut.τ).loc Cert.XaOut.main_arg2) = m ((c.tc : Thread Cert.XaOut.nD Cert.XaOut.τ).loc Cert.XaOut.main_arg2)
      ∧ r.2.mem ((c.tc : Thread Cert.XaOut.nD Cert.XaOut.τ).loc Cert.XaOut.main_arg3) = m ((c.tc : Thread Cert.XaOut.nD Cert.XaOut.τ).loc Cert.XaOut.main_arg3)
      ∧ r.2.mem ((c.tc : Thread Cert.XaOut.nD Cert.XaOut.τ).loc Cert.XaOut.main_arg4) = m ((c.tc : Thread Cert.XaOut.nD Cert.XaOut.τ).loc Cert.XaOut.main_arg4))
      ∧ r.2.sem = fun _ => 0)

def quiescent_XaOutIdeal [hXaOutIdeal : Cert.XaOutIdeal.Facts] : Prop :=
  ∀ (m : (ℓ : Loc Cert.XaOutIdeal.nD Cert.XaOutIdeal.τ Cert.XaOutIdeal.sig) → Buf (Elt Ideal) ℓ) (g : Dev Cert.XaOutIdeal.nD → PrngReg), Pre_XaOutIdeal m →
    θ_run (Cert.XaOutIdeal.defs (F := Ideal)) (onTc (τ := Cert.XaOutIdeal.τ) (Cert.XaOutIdeal.main (F := Ideal))) ⟨m, fun _ => 0, g⟩ (fun r => (∀ c : Dev Cert.XaOutIdeal.nD,
      r.2.mem ((c.tc : Thread Cert.XaOutIdeal.nD Cert.XaOutIdeal.τ).loc Cert.XaOutIdeal.main_arg0) = m ((c.tc : Thread Cert.XaOutIdeal.nD Cert.XaOutIdeal.τ).loc Cert.XaOutIdeal.main_arg0)
      ∧ r.2.mem ((c.tc : Thread Cert.XaOutIdeal.nD Cert.XaOutIdeal.τ).loc Cert.XaOutIdeal.main_arg1) = m ((c.tc : Thread Cert.XaOutIdeal.nD Cert.XaOutIdeal.τ).loc Cert.XaOutIdeal.main_arg1)
      ∧ r.2.mem ((c.tc : Thread Cert.XaOutIdeal.nD Cert.XaOutIdeal.τ).loc Cert.XaOutIdeal.main_arg2) = m ((c.tc : Thread Cert.XaOutIdeal.nD Cert.XaOutIdeal.τ).loc Cert.XaOutIdeal.main_arg2)
      ∧ r.2.mem ((c.tc : Thread Cert.XaOutIdeal.nD Cert.XaOutIdeal.τ).loc Cert.XaOutIdeal.main_arg3) = m ((c.tc : Thread Cert.XaOutIdeal.nD Cert.XaOutIdeal.τ).loc Cert.XaOutIdeal.main_arg3)
      ∧ r.2.mem ((c.tc : Thread Cert.XaOutIdeal.nD Cert.XaOutIdeal.τ).loc Cert.XaOutIdeal.main_arg4) = m ((c.tc : Thread Cert.XaOutIdeal.nD Cert.XaOutIdeal.τ).loc Cert.XaOutIdeal.main_arg4))
      ∧ r.2.sem = fun _ => 0)

def quiescent_XaOutRefIdeal [hXaOutRefIdeal : Cert.XaOutRefIdeal.Facts] : Prop :=
  ∀ (m : (ℓ : Loc Cert.XaOutRefIdeal.nD Cert.XaOutRefIdeal.τ Cert.XaOutRefIdeal.sig) → Buf (Elt Ideal) ℓ) (g : Dev Cert.XaOutRefIdeal.nD → PrngReg), Pre_XaOutRefIdeal m →
    θ_run (Cert.XaOutRefIdeal.defs (F := Ideal)) (onTc (τ := Cert.XaOutRefIdeal.τ) (Cert.XaOutRefIdeal.main (F := Ideal))) ⟨m, fun _ => 0, g⟩ (fun r => (∀ c : Dev Cert.XaOutRefIdeal.nD,
      r.2.mem ((c.tc : Thread Cert.XaOutRefIdeal.nD Cert.XaOutRefIdeal.τ).loc Cert.XaOutRefIdeal.main_arg0) = m ((c.tc : Thread Cert.XaOutRefIdeal.nD Cert.XaOutRefIdeal.τ).loc Cert.XaOutRefIdeal.main_arg0)
      ∧ r.2.mem ((c.tc : Thread Cert.XaOutRefIdeal.nD Cert.XaOutRefIdeal.τ).loc Cert.XaOutRefIdeal.main_arg1) = m ((c.tc : Thread Cert.XaOutRefIdeal.nD Cert.XaOutRefIdeal.τ).loc Cert.XaOutRefIdeal.main_arg1)
      ∧ r.2.mem ((c.tc : Thread Cert.XaOutRefIdeal.nD Cert.XaOutRefIdeal.τ).loc Cert.XaOutRefIdeal.main_arg2) = m ((c.tc : Thread Cert.XaOutRefIdeal.nD Cert.XaOutRefIdeal.τ).loc Cert.XaOutRefIdeal.main_arg2)
      ∧ r.2.mem ((c.tc : Thread Cert.XaOutRefIdeal.nD Cert.XaOutRefIdeal.τ).loc Cert.XaOutRefIdeal.main_arg3) = m ((c.tc : Thread Cert.XaOutRefIdeal.nD Cert.XaOutRefIdeal.τ).loc Cert.XaOutRefIdeal.main_arg3)
      ∧ r.2.mem ((c.tc : Thread Cert.XaOutRefIdeal.nD Cert.XaOutRefIdeal.τ).loc Cert.XaOutRefIdeal.main_arg4) = m ((c.tc : Thread Cert.XaOutRefIdeal.nD Cert.XaOutRefIdeal.τ).loc Cert.XaOutRefIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_MlstmFwd [hMlstmFwd : Cert.MlstmFwd.Facts] : Prop :=
  ∀ (m : (ℓ : Loc Cert.MlstmFwd.nD Cert.MlstmFwd.τ Cert.MlstmFwd.sig) → Buf (Elt Bits) ℓ) (g : Dev Cert.MlstmFwd.nD → PrngReg), Pre_MlstmFwd m →
    θ_run (Cert.MlstmFwd.defs (F := Bits)) (onTc (τ := Cert.MlstmFwd.τ) (Cert.MlstmFwd.main (F := Bits))) ⟨m, fun _ => 0, g⟩ (fun r => (∀ c : Dev Cert.MlstmFwd.nD,
      r.2.mem ((c.tc : Thread Cert.MlstmFwd.nD Cert.MlstmFwd.τ).loc Cert.MlstmFwd.main_arg0) = m ((c.tc : Thread Cert.MlstmFwd.nD Cert.MlstmFwd.τ).loc Cert.MlstmFwd.main_arg0)
      ∧ r.2.mem ((c.tc : Thread Cert.MlstmFwd.nD Cert.MlstmFwd.τ).loc Cert.MlstmFwd.main_arg1) = m ((c.tc : Thread Cert.MlstmFwd.nD Cert.MlstmFwd.τ).loc Cert.MlstmFwd.main_arg1)
      ∧ r.2.mem ((c.tc : Thread Cert.MlstmFwd.nD Cert.MlstmFwd.τ).loc Cert.MlstmFwd.main_arg2) = m ((c.tc : Thread Cert.MlstmFwd.nD Cert.MlstmFwd.τ).loc Cert.MlstmFwd.main_arg2)
      ∧ r.2.mem ((c.tc : Thread Cert.MlstmFwd.nD Cert.MlstmFwd.τ).loc Cert.MlstmFwd.main_arg3) = m ((c.tc : Thread Cert.MlstmFwd.nD Cert.MlstmFwd.τ).loc Cert.MlstmFwd.main_arg3)
      ∧ r.2.mem ((c.tc : Thread Cert.MlstmFwd.nD Cert.MlstmFwd.τ).loc Cert.MlstmFwd.main_arg4) = m ((c.tc : Thread Cert.MlstmFwd.nD Cert.MlstmFwd.τ).loc Cert.MlstmFwd.main_arg4))
      ∧ r.2.sem = fun _ => 0)

def quiescent_MlstmFwdIdeal [hMlstmFwdIdeal : Cert.MlstmFwdIdeal.Facts] : Prop :=
  ∀ (m : (ℓ : Loc Cert.MlstmFwdIdeal.nD Cert.MlstmFwdIdeal.τ Cert.MlstmFwdIdeal.sig) → Buf (Elt Ideal) ℓ) (g : Dev Cert.MlstmFwdIdeal.nD → PrngReg), Pre_MlstmFwdIdeal m →
    θ_run (Cert.MlstmFwdIdeal.defs (F := Ideal)) (onTc (τ := Cert.MlstmFwdIdeal.τ) (Cert.MlstmFwdIdeal.main (F := Ideal))) ⟨m, fun _ => 0, g⟩ (fun r => (∀ c : Dev Cert.MlstmFwdIdeal.nD,
      r.2.mem ((c.tc : Thread Cert.MlstmFwdIdeal.nD Cert.MlstmFwdIdeal.τ).loc Cert.MlstmFwdIdeal.main_arg0) = m ((c.tc : Thread Cert.MlstmFwdIdeal.nD Cert.MlstmFwdIdeal.τ).loc Cert.MlstmFwdIdeal.main_arg0)
      ∧ r.2.mem ((c.tc : Thread Cert.MlstmFwdIdeal.nD Cert.MlstmFwdIdeal.τ).loc Cert.MlstmFwdIdeal.main_arg1) = m ((c.tc : Thread Cert.MlstmFwdIdeal.nD Cert.MlstmFwdIdeal.τ).loc Cert.MlstmFwdIdeal.main_arg1)
      ∧ r.2.mem ((c.tc : Thread Cert.MlstmFwdIdeal.nD Cert.MlstmFwdIdeal.τ).loc Cert.MlstmFwdIdeal.main_arg2) = m ((c.tc : Thread Cert.MlstmFwdIdeal.nD Cert.MlstmFwdIdeal.τ).loc Cert.MlstmFwdIdeal.main_arg2)
      ∧ r.2.mem ((c.tc : Thread Cert.MlstmFwdIdeal.nD Cert.MlstmFwdIdeal.τ).loc Cert.MlstmFwdIdeal.main_arg3) = m ((c.tc : Thread Cert.MlstmFwdIdeal.nD Cert.MlstmFwdIdeal.τ).loc Cert.MlstmFwdIdeal.main_arg3)
      ∧ r.2.mem ((c.tc : Thread Cert.MlstmFwdIdeal.nD Cert.MlstmFwdIdeal.τ).loc Cert.MlstmFwdIdeal.main_arg4) = m ((c.tc : Thread Cert.MlstmFwdIdeal.nD Cert.MlstmFwdIdeal.τ).loc Cert.MlstmFwdIdeal.main_arg4))
      ∧ r.2.sem = fun _ => 0)

def quiescent_MlstmBwd [hMlstmBwd : Cert.MlstmBwd.Facts] : Prop :=
  ∀ (m : (ℓ : Loc Cert.MlstmBwd.nD Cert.MlstmBwd.τ Cert.MlstmBwd.sig) → Buf (Elt Bits) ℓ) (g : Dev Cert.MlstmBwd.nD → PrngReg), Pre_MlstmBwd m →
    θ_run (Cert.MlstmBwd.defs (F := Bits)) (onTc (τ := Cert.MlstmBwd.τ) (Cert.MlstmBwd.main (F := Bits))) ⟨m, fun _ => 0, g⟩ (fun r => (∀ c : Dev Cert.MlstmBwd.nD,
      r.2.mem ((c.tc : Thread Cert.MlstmBwd.nD Cert.MlstmBwd.τ).loc Cert.MlstmBwd.main_arg0) = m ((c.tc : Thread Cert.MlstmBwd.nD Cert.MlstmBwd.τ).loc Cert.MlstmBwd.main_arg0)
      ∧ r.2.mem ((c.tc : Thread Cert.MlstmBwd.nD Cert.MlstmBwd.τ).loc Cert.MlstmBwd.main_arg1) = m ((c.tc : Thread Cert.MlstmBwd.nD Cert.MlstmBwd.τ).loc Cert.MlstmBwd.main_arg1)
      ∧ r.2.mem ((c.tc : Thread Cert.MlstmBwd.nD Cert.MlstmBwd.τ).loc Cert.MlstmBwd.main_arg2) = m ((c.tc : Thread Cert.MlstmBwd.nD Cert.MlstmBwd.τ).loc Cert.MlstmBwd.main_arg2)
      ∧ r.2.mem ((c.tc : Thread Cert.MlstmBwd.nD Cert.MlstmBwd.τ).loc Cert.MlstmBwd.main_arg3) = m ((c.tc : Thread Cert.MlstmBwd.nD Cert.MlstmBwd.τ).loc Cert.MlstmBwd.main_arg3)
      ∧ r.2.mem ((c.tc : Thread Cert.MlstmBwd.nD Cert.MlstmBwd.τ).loc Cert.MlstmBwd.main_arg4) = m ((c.tc : Thread Cert.MlstmBwd.nD Cert.MlstmBwd.τ).loc Cert.MlstmBwd.main_arg4)
      ∧ r.2.mem ((c.tc : Thread Cert.MlstmBwd.nD Cert.MlstmBwd.τ).loc Cert.MlstmBwd.main_arg5) = m ((c.tc : Thread Cert.MlstmBwd.nD Cert.MlstmBwd.τ).loc Cert.MlstmBwd.main_arg5)
      ∧ r.2.mem ((c.tc : Thread Cert.MlstmBwd.nD Cert.MlstmBwd.τ).loc Cert.MlstmBwd.main_arg6) = m ((c.tc : Thread Cert.MlstmBwd.nD Cert.MlstmBwd.τ).loc Cert.MlstmBwd.main_arg6)
      ∧ r.2.mem ((c.tc : Thread Cert.MlstmBwd.nD Cert.MlstmBwd.τ).loc Cert.MlstmBwd.main_arg7) = m ((c.tc : Thread Cert.MlstmBwd.nD Cert.MlstmBwd.τ).loc Cert.MlstmBwd.main_arg7)
      ∧ r.2.mem ((c.tc : Thread Cert.MlstmBwd.nD Cert.MlstmBwd.τ).loc Cert.MlstmBwd.main_arg8) = m ((c.tc : Thread Cert.MlstmBwd.nD Cert.MlstmBwd.τ).loc Cert.MlstmBwd.main_arg8))
      ∧ r.2.sem = fun _ => 0)

def quiescent_MlstmBwdIdeal [hMlstmBwdIdeal : Cert.MlstmBwdIdeal.Facts] : Prop :=
  ∀ (m : (ℓ : Loc Cert.MlstmBwdIdeal.nD Cert.MlstmBwdIdeal.τ Cert.MlstmBwdIdeal.sig) → Buf (Elt Ideal) ℓ) (g : Dev Cert.MlstmBwdIdeal.nD → PrngReg), Pre_MlstmBwdIdeal m →
    θ_run (Cert.MlstmBwdIdeal.defs (F := Ideal)) (onTc (τ := Cert.MlstmBwdIdeal.τ) (Cert.MlstmBwdIdeal.main (F := Ideal))) ⟨m, fun _ => 0, g⟩ (fun r => (∀ c : Dev Cert.MlstmBwdIdeal.nD,
      r.2.mem ((c.tc : Thread Cert.MlstmBwdIdeal.nD Cert.MlstmBwdIdeal.τ).loc Cert.MlstmBwdIdeal.main_arg0) = m ((c.tc : Thread Cert.MlstmBwdIdeal.nD Cert.MlstmBwdIdeal.τ).loc Cert.MlstmBwdIdeal.main_arg0)
      ∧ r.2.mem ((c.tc : Thread Cert.MlstmBwdIdeal.nD Cert.MlstmBwdIdeal.τ).loc Cert.MlstmBwdIdeal.main_arg1) = m ((c.tc : Thread Cert.MlstmBwdIdeal.nD Cert.MlstmBwdIdeal.τ).loc Cert.MlstmBwdIdeal.main_arg1)
      ∧ r.2.mem ((c.tc : Thread Cert.MlstmBwdIdeal.nD Cert.MlstmBwdIdeal.τ).loc Cert.MlstmBwdIdeal.main_arg2) = m ((c.tc : Thread Cert.MlstmBwdIdeal.nD Cert.MlstmBwdIdeal.τ).loc Cert.MlstmBwdIdeal.main_arg2)
      ∧ r.2.mem ((c.tc : Thread Cert.MlstmBwdIdeal.nD Cert.MlstmBwdIdeal.τ).loc Cert.MlstmBwdIdeal.main_arg3) = m ((c.tc : Thread Cert.MlstmBwdIdeal.nD Cert.MlstmBwdIdeal.τ).loc Cert.MlstmBwdIdeal.main_arg3)
      ∧ r.2.mem ((c.tc : Thread Cert.MlstmBwdIdeal.nD Cert.MlstmBwdIdeal.τ).loc Cert.MlstmBwdIdeal.main_arg4) = m ((c.tc : Thread Cert.MlstmBwdIdeal.nD Cert.MlstmBwdIdeal.τ).loc Cert.MlstmBwdIdeal.main_arg4)
      ∧ r.2.mem ((c.tc : Thread Cert.MlstmBwdIdeal.nD Cert.MlstmBwdIdeal.τ).loc Cert.MlstmBwdIdeal.main_arg5) = m ((c.tc : Thread Cert.MlstmBwdIdeal.nD Cert.MlstmBwdIdeal.τ).loc Cert.MlstmBwdIdeal.main_arg5)
      ∧ r.2.mem ((c.tc : Thread Cert.MlstmBwdIdeal.nD Cert.MlstmBwdIdeal.τ).loc Cert.MlstmBwdIdeal.main_arg6) = m ((c.tc : Thread Cert.MlstmBwdIdeal.nD Cert.MlstmBwdIdeal.τ).loc Cert.MlstmBwdIdeal.main_arg6)
      ∧ r.2.mem ((c.tc : Thread Cert.MlstmBwdIdeal.nD Cert.MlstmBwdIdeal.τ).loc Cert.MlstmBwdIdeal.main_arg7) = m ((c.tc : Thread Cert.MlstmBwdIdeal.nD Cert.MlstmBwdIdeal.τ).loc Cert.MlstmBwdIdeal.main_arg7)
      ∧ r.2.mem ((c.tc : Thread Cert.MlstmBwdIdeal.nD Cert.MlstmBwdIdeal.τ).loc Cert.MlstmBwdIdeal.main_arg8) = m ((c.tc : Thread Cert.MlstmBwdIdeal.nD Cert.MlstmBwdIdeal.τ).loc Cert.MlstmBwdIdeal.main_arg8))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v6_0)) (v1 : (c : Dev Cert.ConvBwdIdeal.nD) → Buf (Elt Ideal) ((c.tc : Thread Cert.ConvBwdIdeal.nD Cert.ConvBwdIdeal.τ).loc Cert.ConvBwdIdeal.main_v6_1)) (v2 : (c : Dev Cert.ConvBwdIdeal.nD) → Buf (Elt Ideal) ((c.tc : Thread Cert.ConvBwdIdeal.nD Cert.ConvBwdIdeal.τ).loc Cert.ConvBwdIdeal.main_v6_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v6_0) = v0 c
          ∧ r.2.mem ((c.tc : Thread Cert.ConvBwdIdeal.nD Cert.ConvBwdIdeal.τ).loc Cert.ConvBwdIdeal.main_v6_1) = v1 c
          ∧ r.2.mem ((c.tc : Thread Cert.ConvBwdIdeal.nD Cert.ConvBwdIdeal.τ).loc Cert.ConvBwdIdeal.main_v6_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v87) = v0 c
          ∧ r.2.mem ((c.tc : Thread Cert.ConvRefIdeal.nD Cert.ConvRefIdeal.τ).loc Cert.ConvRefIdeal.main_v81) = v1 c
          ∧ r.2.mem ((c.tc : Thread Cert.ConvRefIdeal.nD Cert.ConvRefIdeal.τ).loc Cert.ConvRefIdeal.main_v88) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_FfnBwd_FfnBwdIdeal : Prop :=
  IdealRules.named_const.Statement Cert.FfnBwdIdeal.κ "gelu_c" .f32 0x3D372713#32 ((8943 / 200000 : ℝ) : EReal)
  ∧ IdealRules.named_const.Statement Cert.FfnBwdIdeal.κ "gelu_3c" .f32 0x3E095D4F#32 ((26829 / 200000 : ℝ) : EReal)

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v5_0)) (v1 : (c : Dev Cert.FfnBwdIdeal.nD) → Buf (Elt Ideal) ((c.tc : Thread Cert.FfnBwdIdeal.nD Cert.FfnBwdIdeal.τ).loc Cert.FfnBwdIdeal.main_v5_1)) (v2 : (c : Dev Cert.FfnBwdIdeal.nD) → Buf (Elt Ideal) ((c.tc : Thread Cert.FfnBwdIdeal.nD Cert.FfnBwdIdeal.τ).loc Cert.FfnBwdIdeal.main_v6)) (v3 : (c : Dev Cert.FfnBwdIdeal.nD) → Buf (Elt Ideal) ((c.tc : Thread Cert.FfnBwdIdeal.nD Cert.FfnBwdIdeal.τ).loc Cert.FfnBwdIdeal.main_v7)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v5_0) = v0 c
          ∧ r.2.mem ((c.tc : Thread Cert.FfnBwdIdeal.nD Cert.FfnBwdIdeal.τ).loc Cert.FfnBwdIdeal.main_v5_1) = v1 c
          ∧ r.2.mem ((c.tc : Thread Cert.FfnBwdIdeal.nD Cert.FfnBwdIdeal.τ).loc Cert.FfnBwdIdeal.main_v6) = v2 c
          ∧ r.2.mem ((c.tc : Thread Cert.FfnBwdIdeal.nD Cert.FfnBwdIdeal.τ).loc Cert.FfnBwdIdeal.main_v7) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v113) = v0 c
          ∧ r.2.mem ((c.tc : Thread Cert.FfnRefIdeal.nD Cert.FfnRefIdeal.τ).loc Cert.FfnRefIdeal.main_v115) = v1 c
          ∧ r.2.mem ((c.tc : Thread Cert.FfnRefIdeal.nD Cert.FfnRefIdeal.τ).loc Cert.FfnRefIdeal.main_v106) = v2 c
          ∧ r.2.mem ((c.tc : Thread Cert.FfnRefIdeal.nD Cert.FfnRefIdeal.τ).loc Cert.FfnRefIdeal.main_v116) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_LossBwd_LossBwdIdeal : Prop :=
  True

def algebraic_LossBwdIdeal_LossRefIdeal_pre_loss_finite [hLossBwdIdeal : Cert.LossBwdIdeal.Facts] [hLossRefIdeal : Cert.LossRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_loss_finite m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)
      ∧ m' ((c.tc : Thread Cert.LossRefIdeal.nD Cert.LossRefIdeal.τ).loc Cert.LossRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v29_0)) (v1 : (c : Dev Cert.LossBwdIdeal.nD) → Buf (Elt Ideal) ((c.tc : Thread Cert.LossBwdIdeal.nD Cert.LossBwdIdeal.τ).loc Cert.LossBwdIdeal.main_v29_1)) (v2 : (c : Dev Cert.LossBwdIdeal.nD) → Buf (Elt Ideal) ((c.tc : Thread Cert.LossBwdIdeal.nD Cert.LossBwdIdeal.τ).loc Cert.LossBwdIdeal.main_v29_2)) (v3 : (c : Dev Cert.LossBwdIdeal.nD) → Buf (Elt Ideal) ((c.tc : Thread Cert.LossBwdIdeal.nD Cert.LossBwdIdeal.τ).loc Cert.LossBwdIdeal.main_v29_3)) (v4 : (c : Dev Cert.LossBwdIdeal.nD) → Buf (Elt Ideal) ((c.tc : Thread Cert.LossBwdIdeal.nD Cert.LossBwdIdeal.τ).loc Cert.LossBwdIdeal.main_v29_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v29_0) = v0 c
          ∧ r.2.mem ((c.tc : Thread Cert.LossBwdIdeal.nD Cert.LossBwdIdeal.τ).loc Cert.LossBwdIdeal.main_v29_1) = v1 c
          ∧ r.2.mem ((c.tc : Thread Cert.LossBwdIdeal.nD Cert.LossBwdIdeal.τ).loc Cert.LossBwdIdeal.main_v29_2) = v2 c
          ∧ r.2.mem ((c.tc : Thread Cert.LossBwdIdeal.nD Cert.LossBwdIdeal.τ).loc Cert.LossBwdIdeal.main_v29_3) = v3 c
          ∧ r.2.mem ((c.tc : Thread Cert.LossBwdIdeal.nD Cert.LossBwdIdeal.τ).loc Cert.LossBwdIdeal.main_v29_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v80) = v0 c
          ∧ r.2.mem ((c.tc : Thread Cert.LossRefIdeal.nD Cert.LossRefIdeal.τ).loc Cert.LossRefIdeal.main_v81) = v1 c
          ∧ r.2.mem ((c.tc : Thread Cert.LossRefIdeal.nD Cert.LossRefIdeal.τ).loc Cert.LossRefIdeal.main_v82) = v2 c
          ∧ r.2.mem ((c.tc : Thread Cert.LossRefIdeal.nD Cert.LossRefIdeal.τ).loc Cert.LossRefIdeal.main_v83) = v3 c
          ∧ r.2.mem ((c.tc : Thread Cert.LossRefIdeal.nD Cert.LossRefIdeal.τ).loc Cert.LossRefIdeal.main_v84) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_H2Bwd_H2BwdIdeal : Prop :=
  True

def algebraic_H2BwdIdeal_H2RefIdeal_pre_h2_finite [hH2BwdIdeal : Cert.H2BwdIdeal.Facts] [hH2RefIdeal : Cert.H2RefIdeal.Facts] [hPre_h2_finite : Cert.Pre_h2_finite.Facts] : Prop :=
  ∀ (m : (ℓ : Loc Cert.H2BwdIdeal.nD Cert.H2BwdIdeal.τ Cert.H2BwdIdeal.sig) → Buf (Elt Ideal) ℓ) (g : Dev Cert.H2BwdIdeal.nD → PrngReg)
    (m' : (ℓ : Loc Cert.H2RefIdeal.nD Cert.H2RefIdeal.τ Cert.H2RefIdeal.sig) → Buf (Elt Ideal) ℓ) (g' : Dev Cert.H2RefIdeal.nD → PrngReg), Pre_H2BwdIdeal_h2_finite m →
    (∀ c : Dev Cert.H2BwdIdeal.nD,
      m' ((c.tc : Thread Cert.H2RefIdeal.nD Cert.H2RefIdeal.τ).loc Cert.H2RefIdeal.main_arg0) = m ((c.tc : Thread Cert.H2BwdIdeal.nD Cert.H2BwdIdeal.τ).loc Cert.H2BwdIdeal.main_arg0)
      ∧ m' ((c.tc : Thread Cert.H2RefIdeal.nD Cert.H2RefIdeal.τ).loc Cert.H2RefIdeal.main_arg1) = m ((c.tc : Thread Cert.H2BwdIdeal.nD Cert.H2BwdIdeal.τ).loc Cert.H2BwdIdeal.main_arg1)
      ∧ m' ((c.tc : Thread Cert.H2RefIdeal.nD Cert.H2RefIdeal.τ).loc Cert.H2RefIdeal.main_arg2) = m ((c.tc : Thread Cert.H2BwdIdeal.nD Cert.H2BwdIdeal.τ).loc Cert.H2BwdIdeal.main_arg2)
      ∧ m' ((c.tc : Thread Cert.H2RefIdeal.nD Cert.H2RefIdeal.τ).loc Cert.H2RefIdeal.main_arg3) = m ((c.tc : Thread Cert.H2BwdIdeal.nD Cert.H2BwdIdeal.τ).loc Cert.H2BwdIdeal.main_arg3)
      ∧ m' ((c.tc : Thread Cert.H2RefIdeal.nD Cert.H2RefIdeal.τ).loc Cert.H2RefIdeal.main_arg4) = m ((c.tc : Thread Cert.H2BwdIdeal.nD Cert.H2BwdIdeal.τ).loc Cert.H2BwdIdeal.main_arg4)
      ∧ m' ((c.tc : Thread Cert.H2RefIdeal.nD Cert.H2RefIdeal.τ).loc Cert.H2RefIdeal.main_arg5) = m ((c.tc : Thread Cert.H2BwdIdeal.nD Cert.H2BwdIdeal.τ).loc Cert.H2BwdIdeal.main_arg5)
      ∧ m' ((c.tc : Thread Cert.H2RefIdeal.nD Cert.H2RefIdeal.τ).loc Cert.H2RefIdeal.main_arg6) = m ((c.tc : Thread Cert.H2BwdIdeal.nD Cert.H2BwdIdeal.τ).loc Cert.H2BwdIdeal.main_arg6)
      ∧ m' ((c.tc : Thread Cert.H2RefIdeal.nD Cert.H2RefIdeal.τ).loc Cert.H2RefIdeal.main_arg7) = m ((c.tc : Thread Cert.H2BwdIdeal.nD Cert.H2BwdIdeal.τ).loc Cert.H2BwdIdeal.main_arg7)) →
    ∃ (v0 : (c : Dev Cert.H2BwdIdeal.nD) → Buf (Elt Ideal) ((c.tc : Thread Cert.H2BwdIdeal.nD Cert.H2BwdIdeal.τ).loc Cert.H2BwdIdeal.main_v10_0)) (v1 : (c : Dev Cert.H2BwdIdeal.nD) → Buf (Elt Ideal) ((c.tc : Thread Cert.H2BwdIdeal.nD Cert.H2BwdIdeal.τ).loc Cert.H2BwdIdeal.main_v10_1)) (v2 : (c : Dev Cert.H2BwdIdeal.nD) → Buf (Elt Ideal) ((c.tc : Thread Cert.H2BwdIdeal.nD Cert.H2BwdIdeal.τ).loc Cert.H2BwdIdeal.main_v10_2)) (v3 : (c : Dev Cert.H2BwdIdeal.nD) → Buf (Elt Ideal) ((c.tc : Thread Cert.H2BwdIdeal.nD Cert.H2BwdIdeal.τ).loc Cert.H2BwdIdeal.main_v10_3)),
      θ_run (Cert.H2BwdIdeal.defs (F := Ideal)) (onTc (τ := Cert.H2BwdIdeal.τ) (Cert.H2BwdIdeal.main (F := Ideal))) ⟨m, fun _ => 0, g⟩ (fun r => ∀ c : Dev Cert.H2BwdIdeal.nD,
          r.2.mem ((c.tc : Thread Cert.H2BwdIdeal.nD Cert.H2BwdIdeal.τ).loc Cert.H2BwdIdeal.main_v10_0) = v0 c
          ∧ r.2.mem ((c.tc : Thread Cert.H2BwdIdeal.nD Cert.H2BwdIdeal.τ).loc Cert.H2BwdIdeal.main_v10_1) = v1 c
          ∧ r.2.mem ((c.tc : Thread Cert.H2BwdIdeal.nD Cert.H2BwdIdeal.τ).loc Cert.H2BwdIdeal.main_v10_2) = v2 c
          ∧ r.2.mem ((c.tc : Thread Cert.H2BwdIdeal.nD Cert.H2BwdIdeal.τ).loc Cert.H2BwdIdeal.main_v10_3) = v3 c
          ∧ r.2.mem ((c.tc : Thread Cert.H2BwdIdeal.nD Cert.H2BwdIdeal.τ).loc Cert.H2BwdIdeal.main_arg0) = m ((c.tc : Thread Cert.H2BwdIdeal.nD Cert.H2BwdIdeal.τ).loc Cert.H2BwdIdeal.main_arg0)
          ∧ r.2.mem ((c.tc : Thread Cert.H2BwdIdeal.nD Cert.H2BwdIdeal.τ).loc Cert.H2BwdIdeal.main_arg1) = m ((c.tc : Thread Cert.H2BwdIdeal.nD Cert.H2BwdIdeal.τ).loc Cert.H2BwdIdeal.main_arg1)
          ∧ r.2.mem ((c.tc : Thread Cert.H2BwdIdeal.nD Cert.H2BwdIdeal.τ).loc Cert.H2BwdIdeal.main_arg2) = m ((c.tc : Thread Cert.H2BwdIdeal.nD Cert.H2BwdIdeal.τ).loc Cert.H2BwdIdeal.main_arg2)
          ∧ r.2.mem ((c.tc : Thread Cert.H2BwdIdeal.nD Cert.H2BwdIdeal.τ).loc Cert.H2BwdIdeal.main_arg3) = m ((c.tc : Thread Cert.H2BwdIdeal.nD Cert.H2BwdIdeal.τ).loc Cert.H2BwdIdeal.main_arg3)
          ∧ r.2.mem ((c.tc : Thread Cert.H2BwdIdeal.nD Cert.H2BwdIdeal.τ).loc Cert.H2BwdIdeal.main_arg4) = m ((c.tc : Thread Cert.H2BwdIdeal.nD Cert.H2BwdIdeal.τ).loc Cert.H2BwdIdeal.main_arg4)
          ∧ r.2.mem ((c.tc : Thread Cert.H2BwdIdeal.nD Cert.H2BwdIdeal.τ).loc Cert.H2BwdIdeal.main_arg5) = m ((c.tc : Thread Cert.H2BwdIdeal.nD Cert.H2BwdIdeal.τ).loc Cert.H2BwdIdeal.main_arg5)
          ∧ r.2.mem ((c.tc : Thread Cert.H2BwdIdeal.nD Cert.H2BwdIdeal.τ).loc Cert.H2BwdIdeal.main_arg6) = m ((c.tc : Thread Cert.H2BwdIdeal.nD Cert.H2BwdIdeal.τ).loc Cert.H2BwdIdeal.main_arg6)
          ∧ r.2.mem ((c.tc : Thread Cert.H2BwdIdeal.nD Cert.H2BwdIdeal.τ).loc Cert.H2BwdIdeal.main_arg7) = m ((c.tc : Thread Cert.H2BwdIdeal.nD Cert.H2BwdIdeal.τ).loc Cert.H2BwdIdeal.main_arg7))
      ∧ θ_run (Cert.H2RefIdeal.defs (F := Ideal)) (onTc (τ := Cert.H2RefIdeal.τ) (Cert.H2RefIdeal.main (F := Ideal))) ⟨m', fun _ => 0, g'⟩ (fun r => ∀ c : Dev Cert.H2RefIdeal.nD,
          r.2.mem ((c.tc : Thread Cert.H2RefIdeal.nD Cert.H2RefIdeal.τ).loc Cert.H2RefIdeal.main_v72) = v0 c
          ∧ r.2.mem ((c.tc : Thread Cert.H2RefIdeal.nD Cert.H2RefIdeal.τ).loc Cert.H2RefIdeal.main_v73) = v1 c
          ∧ r.2.mem ((c.tc : Thread Cert.H2RefIdeal.nD Cert.H2RefIdeal.τ).loc Cert.H2RefIdeal.main_v74) = v2 c
          ∧ r.2.mem ((c.tc : Thread Cert.H2RefIdeal.nD Cert.H2RefIdeal.τ).loc Cert.H2RefIdeal.main_v75) = v3 c
          ∧ r.2.mem ((c.tc : Thread Cert.H2RefIdeal.nD Cert.H2RefIdeal.τ).loc Cert.H2RefIdeal.main_arg0) = m' ((c.tc : Thread Cert.H2RefIdeal.nD Cert.H2RefIdeal.τ).loc Cert.H2RefIdeal.main_arg0)
          ∧ r.2.mem ((c.tc : Thread Cert.H2RefIdeal.nD Cert.H2RefIdeal.τ).loc Cert.H2RefIdeal.main_arg1) = m' ((c.tc : Thread Cert.H2RefIdeal.nD Cert.H2RefIdeal.τ).loc Cert.H2RefIdeal.main_arg1)
          ∧ r.2.mem ((c.tc : Thread Cert.H2RefIdeal.nD Cert.H2RefIdeal.τ).loc Cert.H2RefIdeal.main_arg2) = m' ((c.tc : Thread Cert.H2RefIdeal.nD Cert.H2RefIdeal.τ).loc Cert.H2RefIdeal.main_arg2)
          ∧ r.2.mem ((c.tc : Thread Cert.H2RefIdeal.nD Cert.H2RefIdeal.τ).loc Cert.H2RefIdeal.main_arg3) = m' ((c.tc : Thread Cert.H2RefIdeal.nD Cert.H2RefIdeal.τ).loc Cert.H2RefIdeal.main_arg3)
          ∧ r.2.mem ((c.tc : Thread Cert.H2RefIdeal.nD Cert.H2RefIdeal.τ).loc Cert.H2RefIdeal.main_arg4) = m' ((c.tc : Thread Cert.H2RefIdeal.nD Cert.H2RefIdeal.τ).loc Cert.H2RefIdeal.main_arg4)
          ∧ r.2.mem ((c.tc : Thread Cert.H2RefIdeal.nD Cert.H2RefIdeal.τ).loc Cert.H2RefIdeal.main_arg5) = m' ((c.tc : Thread Cert.H2RefIdeal.nD Cert.H2RefIdeal.τ).loc Cert.H2RefIdeal.main_arg5)
          ∧ r.2.mem ((c.tc : Thread Cert.H2RefIdeal.nD Cert.H2RefIdeal.τ).loc Cert.H2RefIdeal.main_arg6) = m' ((c.tc : Thread Cert.H2RefIdeal.nD Cert.H2RefIdeal.τ).loc Cert.H2RefIdeal.main_arg6)
          ∧ r.2.mem ((c.tc : Thread Cert.H2RefIdeal.nD Cert.H2RefIdeal.τ).loc Cert.H2RefIdeal.main_arg7) = m' ((c.tc : Thread Cert.H2RefIdeal.nD Cert.H2RefIdeal.τ).loc Cert.H2RefIdeal.main_arg7))

def preserves_H1Bwd_H1BwdIdeal : Prop :=
  True

def algebraic_H1BwdIdeal_H1RefIdeal_pre_h1_finite [hH1BwdIdeal : Cert.H1BwdIdeal.Facts] [hH1RefIdeal : Cert.H1RefIdeal.Facts] [hPre_h1_finite : Cert.Pre_h1_finite.Facts] : Prop :=
  ∀ (m : (ℓ : Loc Cert.H1BwdIdeal.nD Cert.H1BwdIdeal.τ Cert.H1BwdIdeal.sig) → Buf (Elt Ideal) ℓ) (g : Dev Cert.H1BwdIdeal.nD → PrngReg)
    (m' : (ℓ : Loc Cert.H1RefIdeal.nD Cert.H1RefIdeal.τ Cert.H1RefIdeal.sig) → Buf (Elt Ideal) ℓ) (g' : Dev Cert.H1RefIdeal.nD → PrngReg), Pre_H1BwdIdeal_h1_finite m →
    (∀ c : Dev Cert.H1BwdIdeal.nD,
      m' ((c.tc : Thread Cert.H1RefIdeal.nD Cert.H1RefIdeal.τ).loc Cert.H1RefIdeal.main_arg0) = m ((c.tc : Thread Cert.H1BwdIdeal.nD Cert.H1BwdIdeal.τ).loc Cert.H1BwdIdeal.main_arg0)
      ∧ m' ((c.tc : Thread Cert.H1RefIdeal.nD Cert.H1RefIdeal.τ).loc Cert.H1RefIdeal.main_arg1) = m ((c.tc : Thread Cert.H1BwdIdeal.nD Cert.H1BwdIdeal.τ).loc Cert.H1BwdIdeal.main_arg1)
      ∧ m' ((c.tc : Thread Cert.H1RefIdeal.nD Cert.H1RefIdeal.τ).loc Cert.H1RefIdeal.main_arg2) = m ((c.tc : Thread Cert.H1BwdIdeal.nD Cert.H1BwdIdeal.τ).loc Cert.H1BwdIdeal.main_arg2)
      ∧ m' ((c.tc : Thread Cert.H1RefIdeal.nD Cert.H1RefIdeal.τ).loc Cert.H1RefIdeal.main_arg3) = m ((c.tc : Thread Cert.H1BwdIdeal.nD Cert.H1BwdIdeal.τ).loc Cert.H1BwdIdeal.main_arg3)
      ∧ m' ((c.tc : Thread Cert.H1RefIdeal.nD Cert.H1RefIdeal.τ).loc Cert.H1RefIdeal.main_arg4) = m ((c.tc : Thread Cert.H1BwdIdeal.nD Cert.H1BwdIdeal.τ).loc Cert.H1BwdIdeal.main_arg4)
      ∧ m' ((c.tc : Thread Cert.H1RefIdeal.nD Cert.H1RefIdeal.τ).loc Cert.H1RefIdeal.main_arg5) = m ((c.tc : Thread Cert.H1BwdIdeal.nD Cert.H1BwdIdeal.τ).loc Cert.H1BwdIdeal.main_arg5)
      ∧ m' ((c.tc : Thread Cert.H1RefIdeal.nD Cert.H1RefIdeal.τ).loc Cert.H1RefIdeal.main_arg6) = m ((c.tc : Thread Cert.H1BwdIdeal.nD Cert.H1BwdIdeal.τ).loc Cert.H1BwdIdeal.main_arg6)
      ∧ m' ((c.tc : Thread Cert.H1RefIdeal.nD Cert.H1RefIdeal.τ).loc Cert.H1RefIdeal.main_arg7) = m ((c.tc : Thread Cert.H1BwdIdeal.nD Cert.H1BwdIdeal.τ).loc Cert.H1BwdIdeal.main_arg7)) →
    ∃ (v0 : (c : Dev Cert.H1BwdIdeal.nD) → Buf (Elt Ideal) ((c.tc : Thread Cert.H1BwdIdeal.nD Cert.H1BwdIdeal.τ).loc Cert.H1BwdIdeal.main_v7_0)) (v1 : (c : Dev Cert.H1BwdIdeal.nD) → Buf (Elt Ideal) ((c.tc : Thread Cert.H1BwdIdeal.nD Cert.H1BwdIdeal.τ).loc Cert.H1BwdIdeal.main_v7_1)) (v2 : (c : Dev Cert.H1BwdIdeal.nD) → Buf (Elt Ideal) ((c.tc : Thread Cert.H1BwdIdeal.nD Cert.H1BwdIdeal.τ).loc Cert.H1BwdIdeal.main_v7_2)) (v3 : (c : Dev Cert.H1BwdIdeal.nD) → Buf (Elt Ideal) ((c.tc : Thread Cert.H1BwdIdeal.nD Cert.H1BwdIdeal.τ).loc Cert.H1BwdIdeal.main_v7_3)),
      θ_run (Cert.H1BwdIdeal.defs (F := Ideal)) (onTc (τ := Cert.H1BwdIdeal.τ) (Cert.H1BwdIdeal.main (F := Ideal))) ⟨m, fun _ => 0, g⟩ (fun r => ∀ c : Dev Cert.H1BwdIdeal.nD,
          r.2.mem ((c.tc : Thread Cert.H1BwdIdeal.nD Cert.H1BwdIdeal.τ).loc Cert.H1BwdIdeal.main_v7_0) = v0 c
          ∧ r.2.mem ((c.tc : Thread Cert.H1BwdIdeal.nD Cert.H1BwdIdeal.τ).loc Cert.H1BwdIdeal.main_v7_1) = v1 c
          ∧ r.2.mem ((c.tc : Thread Cert.H1BwdIdeal.nD Cert.H1BwdIdeal.τ).loc Cert.H1BwdIdeal.main_v7_2) = v2 c
          ∧ r.2.mem ((c.tc : Thread Cert.H1BwdIdeal.nD Cert.H1BwdIdeal.τ).loc Cert.H1BwdIdeal.main_v7_3) = v3 c
          ∧ r.2.mem ((c.tc : Thread Cert.H1BwdIdeal.nD Cert.H1BwdIdeal.τ).loc Cert.H1BwdIdeal.main_arg0) = m ((c.tc : Thread Cert.H1BwdIdeal.nD Cert.H1BwdIdeal.τ).loc Cert.H1BwdIdeal.main_arg0)
          ∧ r.2.mem ((c.tc : Thread Cert.H1BwdIdeal.nD Cert.H1BwdIdeal.τ).loc Cert.H1BwdIdeal.main_arg1) = m ((c.tc : Thread Cert.H1BwdIdeal.nD Cert.H1BwdIdeal.τ).loc Cert.H1BwdIdeal.main_arg1)
          ∧ r.2.mem ((c.tc : Thread Cert.H1BwdIdeal.nD Cert.H1BwdIdeal.τ).loc Cert.H1BwdIdeal.main_arg2) = m ((c.tc : Thread Cert.H1BwdIdeal.nD Cert.H1BwdIdeal.τ).loc Cert.H1BwdIdeal.main_arg2)
          ∧ r.2.mem ((c.tc : Thread Cert.H1BwdIdeal.nD Cert.H1BwdIdeal.τ).loc Cert.H1BwdIdeal.main_arg3) = m ((c.tc : Thread Cert.H1BwdIdeal.nD Cert.H1BwdIdeal.τ).loc Cert.H1BwdIdeal.main_arg3)
          ∧ r.2.mem ((c.tc : Thread Cert.H1BwdIdeal.nD Cert.H1BwdIdeal.τ).loc Cert.H1BwdIdeal.main_arg4) = m ((c.tc : Thread Cert.H1BwdIdeal.nD Cert.H1BwdIdeal.τ).loc Cert.H1BwdIdeal.main_arg4)
          ∧ r.2.mem ((c.tc : Thread Cert.H1BwdIdeal.nD Cert.H1BwdIdeal.τ).loc Cert.H1BwdIdeal.main_arg5) = m ((c.tc : Thread Cert.H1BwdIdeal.nD Cert.H1BwdIdeal.τ).loc Cert.H1BwdIdeal.main_arg5)
          ∧ r.2.mem ((c.tc : Thread Cert.H1BwdIdeal.nD Cert.H1BwdIdeal.τ).loc Cert.H1BwdIdeal.main_arg6) = m ((c.tc : Thread Cert.H1BwdIdeal.nD Cert.H1BwdIdeal.τ).loc Cert.H1BwdIdeal.main_arg6)
          ∧ r.2.mem ((c.tc : Thread Cert.H1BwdIdeal.nD Cert.H1BwdIdeal.τ).loc Cert.H1BwdIdeal.main_arg7) = m ((c.tc : Thread Cert.H1BwdIdeal.nD Cert.H1BwdIdeal.τ).loc Cert.H1BwdIdeal.main_arg7))
      ∧ θ_run (Cert.H1RefIdeal.defs (F := Ideal)) (onTc (τ := Cert.H1RefIdeal.τ) (Cert.H1RefIdeal.main (F := Ideal))) ⟨m', fun _ => 0, g'⟩ (fun r => ∀ c : Dev Cert.H1RefIdeal.nD,
          r.2.mem ((c.tc : Thread Cert.H1RefIdeal.nD Cert.H1RefIdeal.τ).loc Cert.H1RefIdeal.main_v72) = v0 c
          ∧ r.2.mem ((c.tc : Thread Cert.H1RefIdeal.nD Cert.H1RefIdeal.τ).loc Cert.H1RefIdeal.main_v73) = v1 c
          ∧ r.2.mem ((c.tc : Thread Cert.H1RefIdeal.nD Cert.H1RefIdeal.τ).loc Cert.H1RefIdeal.main_v74) = v2 c
          ∧ r.2.mem ((c.tc : Thread Cert.H1RefIdeal.nD Cert.H1RefIdeal.τ).loc Cert.H1RefIdeal.main_v75) = v3 c
          ∧ r.2.mem ((c.tc : Thread Cert.H1RefIdeal.nD Cert.H1RefIdeal.τ).loc Cert.H1RefIdeal.main_arg0) = m' ((c.tc : Thread Cert.H1RefIdeal.nD Cert.H1RefIdeal.τ).loc Cert.H1RefIdeal.main_arg0)
          ∧ r.2.mem ((c.tc : Thread Cert.H1RefIdeal.nD Cert.H1RefIdeal.τ).loc Cert.H1RefIdeal.main_arg1) = m' ((c.tc : Thread Cert.H1RefIdeal.nD Cert.H1RefIdeal.τ).loc Cert.H1RefIdeal.main_arg1)
          ∧ r.2.mem ((c.tc : Thread Cert.H1RefIdeal.nD Cert.H1RefIdeal.τ).loc Cert.H1RefIdeal.main_arg2) = m' ((c.tc : Thread Cert.H1RefIdeal.nD Cert.H1RefIdeal.τ).loc Cert.H1RefIdeal.main_arg2)
          ∧ r.2.mem ((c.tc : Thread Cert.H1RefIdeal.nD Cert.H1RefIdeal.τ).loc Cert.H1RefIdeal.main_arg3) = m' ((c.tc : Thread Cert.H1RefIdeal.nD Cert.H1RefIdeal.τ).loc Cert.H1RefIdeal.main_arg3)
          ∧ r.2.mem ((c.tc : Thread Cert.H1RefIdeal.nD Cert.H1RefIdeal.τ).loc Cert.H1RefIdeal.main_arg4) = m' ((c.tc : Thread Cert.H1RefIdeal.nD Cert.H1RefIdeal.τ).loc Cert.H1RefIdeal.main_arg4)
          ∧ r.2.mem ((c.tc : Thread Cert.H1RefIdeal.nD Cert.H1RefIdeal.τ).loc Cert.H1RefIdeal.main_arg5) = m' ((c.tc : Thread Cert.H1RefIdeal.nD Cert.H1RefIdeal.τ).loc Cert.H1RefIdeal.main_arg5)
          ∧ r.2.mem ((c.tc : Thread Cert.H1RefIdeal.nD Cert.H1RefIdeal.τ).loc Cert.H1RefIdeal.main_arg6) = m' ((c.tc : Thread Cert.H1RefIdeal.nD Cert.H1RefIdeal.τ).loc Cert.H1RefIdeal.main_arg6)
          ∧ r.2.mem ((c.tc : Thread Cert.H1RefIdeal.nD Cert.H1RefIdeal.τ).loc Cert.H1RefIdeal.main_arg7) = m' ((c.tc : Thread Cert.H1RefIdeal.nD Cert.H1RefIdeal.τ).loc Cert.H1RefIdeal.main_arg7))

def preserves_H0Bwd_H0BwdIdeal : Prop :=
  True

def algebraic_H0BwdIdeal_H0RefIdeal_pre_h0_finite [hH0BwdIdeal : Cert.H0BwdIdeal.Facts] [hH0RefIdeal : Cert.H0RefIdeal.Facts] [hPre_h0_finite : Cert.Pre_h0_finite.Facts] : Prop :=
  ∀ (m : (ℓ : Loc Cert.H0BwdIdeal.nD Cert.H0BwdIdeal.τ Cert.H0BwdIdeal.sig) → Buf (Elt Ideal) ℓ) (g : Dev Cert.H0BwdIdeal.nD → PrngReg)
    (m' : (ℓ : Loc Cert.H0RefIdeal.nD Cert.H0RefIdeal.τ Cert.H0RefIdeal.sig) → Buf (Elt Ideal) ℓ) (g' : Dev Cert.H0RefIdeal.nD → PrngReg), Pre_H0BwdIdeal_h0_finite m →
    (∀ c : Dev Cert.H0BwdIdeal.nD,
      m' ((c.tc : Thread Cert.H0RefIdeal.nD Cert.H0RefIdeal.τ).loc Cert.H0RefIdeal.main_arg0) = m ((c.tc : Thread Cert.H0BwdIdeal.nD Cert.H0BwdIdeal.τ).loc Cert.H0BwdIdeal.main_arg0)
      ∧ m' ((c.tc : Thread Cert.H0RefIdeal.nD Cert.H0RefIdeal.τ).loc Cert.H0RefIdeal.main_arg1) = m ((c.tc : Thread Cert.H0BwdIdeal.nD Cert.H0BwdIdeal.τ).loc Cert.H0BwdIdeal.main_arg1)
      ∧ m' ((c.tc : Thread Cert.H0RefIdeal.nD Cert.H0RefIdeal.τ).loc Cert.H0RefIdeal.main_arg2) = m ((c.tc : Thread Cert.H0BwdIdeal.nD Cert.H0BwdIdeal.τ).loc Cert.H0BwdIdeal.main_arg2)
      ∧ m' ((c.tc : Thread Cert.H0RefIdeal.nD Cert.H0RefIdeal.τ).loc Cert.H0RefIdeal.main_arg3) = m ((c.tc : Thread Cert.H0BwdIdeal.nD Cert.H0BwdIdeal.τ).loc Cert.H0BwdIdeal.main_arg3)
      ∧ m' ((c.tc : Thread Cert.H0RefIdeal.nD Cert.H0RefIdeal.τ).loc Cert.H0RefIdeal.main_arg4) = m ((c.tc : Thread Cert.H0BwdIdeal.nD Cert.H0BwdIdeal.τ).loc Cert.H0BwdIdeal.main_arg4)
      ∧ m' ((c.tc : Thread Cert.H0RefIdeal.nD Cert.H0RefIdeal.τ).loc Cert.H0RefIdeal.main_arg5) = m ((c.tc : Thread Cert.H0BwdIdeal.nD Cert.H0BwdIdeal.τ).loc Cert.H0BwdIdeal.main_arg5)
      ∧ m' ((c.tc : Thread Cert.H0RefIdeal.nD Cert.H0RefIdeal.τ).loc Cert.H0RefIdeal.main_arg6) = m ((c.tc : Thread Cert.H0BwdIdeal.nD Cert.H0BwdIdeal.τ).loc Cert.H0BwdIdeal.main_arg6)
      ∧ m' ((c.tc : Thread Cert.H0RefIdeal.nD Cert.H0RefIdeal.τ).loc Cert.H0RefIdeal.main_arg7) = m ((c.tc : Thread Cert.H0BwdIdeal.nD Cert.H0BwdIdeal.τ).loc Cert.H0BwdIdeal.main_arg7)) →
    ∃ (v0 : (c : Dev Cert.H0BwdIdeal.nD) → Buf (Elt Ideal) ((c.tc : Thread Cert.H0BwdIdeal.nD Cert.H0BwdIdeal.τ).loc Cert.H0BwdIdeal.main_v23_0)) (v1 : (c : Dev Cert.H0BwdIdeal.nD) → Buf (Elt Ideal) ((c.tc : Thread Cert.H0BwdIdeal.nD Cert.H0BwdIdeal.τ).loc Cert.H0BwdIdeal.main_v23_1)) (v2 : (c : Dev Cert.H0BwdIdeal.nD) → Buf (Elt Ideal) ((c.tc : Thread Cert.H0BwdIdeal.nD Cert.H0BwdIdeal.τ).loc Cert.H0BwdIdeal.main_v23_2)) (v3 : (c : Dev Cert.H0BwdIdeal.nD) → Buf (Elt Ideal) ((c.tc : Thread Cert.H0BwdIdeal.nD Cert.H0BwdIdeal.τ).loc Cert.H0BwdIdeal.main_v23_3)),
      θ_run (Cert.H0BwdIdeal.defs (F := Ideal)) (onTc (τ := Cert.H0BwdIdeal.τ) (Cert.H0BwdIdeal.main (F := Ideal))) ⟨m, fun _ => 0, g⟩ (fun r => ∀ c : Dev Cert.H0BwdIdeal.nD,
          r.2.mem ((c.tc : Thread Cert.H0BwdIdeal.nD Cert.H0BwdIdeal.τ).loc Cert.H0BwdIdeal.main_v23_0) = v0 c
          ∧ r.2.mem ((c.tc : Thread Cert.H0BwdIdeal.nD Cert.H0BwdIdeal.τ).loc Cert.H0BwdIdeal.main_v23_1) = v1 c
          ∧ r.2.mem ((c.tc : Thread Cert.H0BwdIdeal.nD Cert.H0BwdIdeal.τ).loc Cert.H0BwdIdeal.main_v23_2) = v2 c
          ∧ r.2.mem ((c.tc : Thread Cert.H0BwdIdeal.nD Cert.H0BwdIdeal.τ).loc Cert.H0BwdIdeal.main_v23_3) = v3 c
          ∧ r.2.mem ((c.tc : Thread Cert.H0BwdIdeal.nD Cert.H0BwdIdeal.τ).loc Cert.H0BwdIdeal.main_arg0) = m ((c.tc : Thread Cert.H0BwdIdeal.nD Cert.H0BwdIdeal.τ).loc Cert.H0BwdIdeal.main_arg0)
          ∧ r.2.mem ((c.tc : Thread Cert.H0BwdIdeal.nD Cert.H0BwdIdeal.τ).loc Cert.H0BwdIdeal.main_arg1) = m ((c.tc : Thread Cert.H0BwdIdeal.nD Cert.H0BwdIdeal.τ).loc Cert.H0BwdIdeal.main_arg1)
          ∧ r.2.mem ((c.tc : Thread Cert.H0BwdIdeal.nD Cert.H0BwdIdeal.τ).loc Cert.H0BwdIdeal.main_arg2) = m ((c.tc : Thread Cert.H0BwdIdeal.nD Cert.H0BwdIdeal.τ).loc Cert.H0BwdIdeal.main_arg2)
          ∧ r.2.mem ((c.tc : Thread Cert.H0BwdIdeal.nD Cert.H0BwdIdeal.τ).loc Cert.H0BwdIdeal.main_arg3) = m ((c.tc : Thread Cert.H0BwdIdeal.nD Cert.H0BwdIdeal.τ).loc Cert.H0BwdIdeal.main_arg3)
          ∧ r.2.mem ((c.tc : Thread Cert.H0BwdIdeal.nD Cert.H0BwdIdeal.τ).loc Cert.H0BwdIdeal.main_arg4) = m ((c.tc : Thread Cert.H0BwdIdeal.nD Cert.H0BwdIdeal.τ).loc Cert.H0BwdIdeal.main_arg4)
          ∧ r.2.mem ((c.tc : Thread Cert.H0BwdIdeal.nD Cert.H0BwdIdeal.τ).loc Cert.H0BwdIdeal.main_arg5) = m ((c.tc : Thread Cert.H0BwdIdeal.nD Cert.H0BwdIdeal.τ).loc Cert.H0BwdIdeal.main_arg5)
          ∧ r.2.mem ((c.tc : Thread Cert.H0BwdIdeal.nD Cert.H0BwdIdeal.τ).loc Cert.H0BwdIdeal.main_arg6) = m ((c.tc : Thread Cert.H0BwdIdeal.nD Cert.H0BwdIdeal.τ).loc Cert.H0BwdIdeal.main_arg6)
          ∧ r.2.mem ((c.tc : Thread Cert.H0BwdIdeal.nD Cert.H0BwdIdeal.τ).loc Cert.H0BwdIdeal.main_arg7) = m ((c.tc : Thread Cert.H0BwdIdeal.nD Cert.H0BwdIdeal.τ).loc Cert.H0BwdIdeal.main_arg7))
      ∧ θ_run (Cert.H0RefIdeal.defs (F := Ideal)) (onTc (τ := Cert.H0RefIdeal.τ) (Cert.H0RefIdeal.main (F := Ideal))) ⟨m', fun _ => 0, g'⟩ (fun r => ∀ c : Dev Cert.H0RefIdeal.nD,
          r.2.mem ((c.tc : Thread Cert.H0RefIdeal.nD Cert.H0RefIdeal.τ).loc Cert.H0RefIdeal.main_v72) = v0 c
          ∧ r.2.mem ((c.tc : Thread Cert.H0RefIdeal.nD Cert.H0RefIdeal.τ).loc Cert.H0RefIdeal.main_v73) = v1 c
          ∧ r.2.mem ((c.tc : Thread Cert.H0RefIdeal.nD Cert.H0RefIdeal.τ).loc Cert.H0RefIdeal.main_v74) = v2 c
          ∧ r.2.mem ((c.tc : Thread Cert.H0RefIdeal.nD Cert.H0RefIdeal.τ).loc Cert.H0RefIdeal.main_v75) = v3 c
          ∧ r.2.mem ((c.tc : Thread Cert.H0RefIdeal.nD Cert.H0RefIdeal.τ).loc Cert.H0RefIdeal.main_arg0) = m' ((c.tc : Thread Cert.H0RefIdeal.nD Cert.H0RefIdeal.τ).loc Cert.H0RefIdeal.main_arg0)
          ∧ r.2.mem ((c.tc : Thread Cert.H0RefIdeal.nD Cert.H0RefIdeal.τ).loc Cert.H0RefIdeal.main_arg1) = m' ((c.tc : Thread Cert.H0RefIdeal.nD Cert.H0RefIdeal.τ).loc Cert.H0RefIdeal.main_arg1)
          ∧ r.2.mem ((c.tc : Thread Cert.H0RefIdeal.nD Cert.H0RefIdeal.τ).loc Cert.H0RefIdeal.main_arg2) = m' ((c.tc : Thread Cert.H0RefIdeal.nD Cert.H0RefIdeal.τ).loc Cert.H0RefIdeal.main_arg2)
          ∧ r.2.mem ((c.tc : Thread Cert.H0RefIdeal.nD Cert.H0RefIdeal.τ).loc Cert.H0RefIdeal.main_arg3) = m' ((c.tc : Thread Cert.H0RefIdeal.nD Cert.H0RefIdeal.τ).loc Cert.H0RefIdeal.main_arg3)
          ∧ r.2.mem ((c.tc : Thread Cert.H0RefIdeal.nD Cert.H0RefIdeal.τ).loc Cert.H0RefIdeal.main_arg4) = m' ((c.tc : Thread Cert.H0RefIdeal.nD Cert.H0RefIdeal.τ).loc Cert.H0RefIdeal.main_arg4)
          ∧ r.2.mem ((c.tc : Thread Cert.H0RefIdeal.nD Cert.H0RefIdeal.τ).loc Cert.H0RefIdeal.main_arg5) = m' ((c.tc : Thread Cert.H0RefIdeal.nD Cert.H0RefIdeal.τ).loc Cert.H0RefIdeal.main_arg5)
          ∧ r.2.mem ((c.tc : Thread Cert.H0RefIdeal.nD Cert.H0RefIdeal.τ).loc Cert.H0RefIdeal.main_arg6) = m' ((c.tc : Thread Cert.H0RefIdeal.nD Cert.H0RefIdeal.τ).loc Cert.H0RefIdeal.main_arg6)
          ∧ r.2.mem ((c.tc : Thread Cert.H0RefIdeal.nD Cert.H0RefIdeal.τ).loc Cert.H0RefIdeal.main_arg7) = m' ((c.tc : Thread Cert.H0RefIdeal.nD Cert.H0RefIdeal.τ).loc Cert.H0RefIdeal.main_arg7))

def preserves_XaBwd_XaBwdIdeal : Prop :=
  True

def algebraic_XaBwdIdeal_XaRefIdeal [hXaBwdIdeal : Cert.XaBwdIdeal.Facts] [hXaRefIdeal : Cert.XaRefIdeal.Facts] : Prop :=
  ∀ (m : (ℓ : Loc Cert.XaBwdIdeal.nD Cert.XaBwdIdeal.τ Cert.XaBwdIdeal.sig) → Buf (Elt Ideal) ℓ) (g : Dev Cert.XaBwdIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaBwdIdeal m →
    (∀ c : Dev Cert.XaBwdIdeal.nD,
      m' ((c.tc : Thread Cert.XaRefIdeal.nD Cert.XaRefIdeal.τ).loc Cert.XaRefIdeal.main_arg0) = m ((c.tc : Thread Cert.XaBwdIdeal.nD Cert.XaBwdIdeal.τ).loc Cert.XaBwdIdeal.main_arg0)
      ∧ m' ((c.tc : Thread Cert.XaRefIdeal.nD Cert.XaRefIdeal.τ).loc Cert.XaRefIdeal.main_arg1) = m ((c.tc : Thread Cert.XaBwdIdeal.nD Cert.XaBwdIdeal.τ).loc Cert.XaBwdIdeal.main_arg1)
      ∧ m' ((c.tc : Thread Cert.XaRefIdeal.nD Cert.XaRefIdeal.τ).loc Cert.XaRefIdeal.main_arg2) = m ((c.tc : Thread Cert.XaBwdIdeal.nD Cert.XaBwdIdeal.τ).loc Cert.XaBwdIdeal.main_arg2)
      ∧ m' ((c.tc : Thread Cert.XaRefIdeal.nD Cert.XaRefIdeal.τ).loc Cert.XaRefIdeal.main_arg3) = m ((c.tc : Thread Cert.XaBwdIdeal.nD Cert.XaBwdIdeal.τ).loc Cert.XaBwdIdeal.main_arg3)
      ∧ m' ((c.tc : Thread Cert.XaRefIdeal.nD Cert.XaRefIdeal.τ).loc Cert.XaRefIdeal.main_arg4) = m ((c.tc : Thread Cert.XaBwdIdeal.nD Cert.XaBwdIdeal.τ).loc Cert.XaBwdIdeal.main_arg4)
      ∧ m' ((c.tc : Thread Cert.XaRefIdeal.nD Cert.XaRefIdeal.τ).loc Cert.XaRefIdeal.main_arg5) = m ((c.tc : Thread Cert.XaBwdIdeal.nD Cert.XaBwdIdeal.τ).loc Cert.XaBwdIdeal.main_arg5)) →
    ∃ (v0 : (c : Dev Cert.XaBwdIdeal.nD) → Buf (Elt Ideal) ((c.tc : Thread Cert.XaBwdIdeal.nD Cert.XaBwdIdeal.τ).loc Cert.XaBwdIdeal.main_v5_0)) (v1 : (c : Dev Cert.XaBwdIdeal.nD) → Buf (Elt Ideal) ((c.tc : Thread Cert.XaBwdIdeal.nD Cert.XaBwdIdeal.τ).loc Cert.XaBwdIdeal.main_v5_1)),
      θ_run (Cert.XaBwdIdeal.defs (F := Ideal)) (onTc (τ := Cert.XaBwdIdeal.τ) (Cert.XaBwdIdeal.main (F := Ideal))) ⟨m, fun _ => 0, g⟩ (fun r => ∀ c : Dev Cert.XaBwdIdeal.nD,
          r.2.mem ((c.tc : Thread Cert.XaBwdIdeal.nD Cert.XaBwdIdeal.τ).loc Cert.XaBwdIdeal.main_v5_0) = v0 c
          ∧ r.2.mem ((c.tc : Thread Cert.XaBwdIdeal.nD Cert.XaBwdIdeal.τ).loc Cert.XaBwdIdeal.main_v5_1) = v1 c
          ∧ r.2.mem ((c.tc : Thread Cert.XaBwdIdeal.nD Cert.XaBwdIdeal.τ).loc Cert.XaBwdIdeal.main_arg0) = m ((c.tc : Thread Cert.XaBwdIdeal.nD Cert.XaBwdIdeal.τ).loc Cert.XaBwdIdeal.main_arg0)
          ∧ r.2.mem ((c.tc : Thread Cert.XaBwdIdeal.nD Cert.XaBwdIdeal.τ).loc Cert.XaBwdIdeal.main_arg1) = m ((c.tc : Thread Cert.XaBwdIdeal.nD Cert.XaBwdIdeal.τ).loc Cert.XaBwdIdeal.main_arg1)
          ∧ r.2.mem ((c.tc : Thread Cert.XaBwdIdeal.nD Cert.XaBwdIdeal.τ).loc Cert.XaBwdIdeal.main_arg2) = m ((c.tc : Thread Cert.XaBwdIdeal.nD Cert.XaBwdIdeal.τ).loc Cert.XaBwdIdeal.main_arg2)
          ∧ r.2.mem ((c.tc : Thread Cert.XaBwdIdeal.nD Cert.XaBwdIdeal.τ).loc Cert.XaBwdIdeal.main_arg3) = m ((c.tc : Thread Cert.XaBwdIdeal.nD Cert.XaBwdIdeal.τ).loc Cert.XaBwdIdeal.main_arg3)
          ∧ r.2.mem ((c.tc : Thread Cert.XaBwdIdeal.nD Cert.XaBwdIdeal.τ).loc Cert.XaBwdIdeal.main_arg4) = m ((c.tc : Thread Cert.XaBwdIdeal.nD Cert.XaBwdIdeal.τ).loc Cert.XaBwdIdeal.main_arg4)
          ∧ r.2.mem ((c.tc : Thread Cert.XaBwdIdeal.nD Cert.XaBwdIdeal.τ).loc Cert.XaBwdIdeal.main_arg5) = m ((c.tc : Thread Cert.XaBwdIdeal.nD Cert.XaBwdIdeal.τ).loc Cert.XaBwdIdeal.main_arg5))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v75) = v0 c
          ∧ r.2.mem ((c.tc : Thread Cert.XaRefIdeal.nD Cert.XaRefIdeal.τ).loc Cert.XaRefIdeal.main_v73) = v1 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3)
          ∧ r.2.mem ((c.tc : Thread Cert.XaRefIdeal.nD Cert.XaRefIdeal.τ).loc Cert.XaRefIdeal.main_arg4) = m' ((c.tc : Thread Cert.XaRefIdeal.nD Cert.XaRefIdeal.τ).loc Cert.XaRefIdeal.main_arg4)
          ∧ r.2.mem ((c.tc : Thread Cert.XaRefIdeal.nD Cert.XaRefIdeal.τ).loc Cert.XaRefIdeal.main_arg5) = m' ((c.tc : Thread Cert.XaRefIdeal.nD Cert.XaRefIdeal.τ).loc Cert.XaRefIdeal.main_arg5))

def preserves_XaFwd_XaFwdIdeal : Prop :=
  True

def algebraic_XaFwdIdeal_XaFwdRefIdeal [hXaFwdIdeal : Cert.XaFwdIdeal.Facts] [hXaFwdRefIdeal : Cert.XaFwdRefIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdRefIdeal.nD Cert.XaFwdRefIdeal.τ Cert.XaFwdRefIdeal.sig) → Buf (Elt Ideal) ℓ) (g' : Dev Cert.XaFwdRefIdeal.nD → PrngReg), Pre_XaFwdIdeal m →
    (∀ c : Dev Cert.XaFwdIdeal.nD,
      m' ((c.tc : Thread Cert.XaFwdRefIdeal.nD Cert.XaFwdRefIdeal.τ).loc Cert.XaFwdRefIdeal.main_arg0) = m ((c.tc : Thread Cert.XaFwdIdeal.nD Cert.XaFwdIdeal.τ).loc Cert.XaFwdIdeal.main_arg0)
      ∧ m' ((c.tc : Thread Cert.XaFwdRefIdeal.nD Cert.XaFwdRefIdeal.τ).loc Cert.XaFwdRefIdeal.main_arg1) = m ((c.tc : Thread Cert.XaFwdIdeal.nD Cert.XaFwdIdeal.τ).loc Cert.XaFwdIdeal.main_arg1)
      ∧ m' ((c.tc : Thread Cert.XaFwdRefIdeal.nD Cert.XaFwdRefIdeal.τ).loc Cert.XaFwdRefIdeal.main_arg2) = m ((c.tc : Thread Cert.XaFwdIdeal.nD Cert.XaFwdIdeal.τ).loc Cert.XaFwdIdeal.main_arg2)
      ∧ m' ((c.tc : Thread Cert.XaFwdRefIdeal.nD Cert.XaFwdRefIdeal.τ).loc Cert.XaFwdRefIdeal.main_arg3) = m ((c.tc : Thread Cert.XaFwdIdeal.nD Cert.XaFwdIdeal.τ).loc Cert.XaFwdIdeal.main_arg3)) →
    ∃ (v0 : (c : Dev Cert.XaFwdIdeal.nD) → Buf (Elt Ideal) ((c.tc : Thread Cert.XaFwdIdeal.nD Cert.XaFwdIdeal.τ).loc Cert.XaFwdIdeal.main_v3)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v3) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
          ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
          ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3))
      ∧ θ_run (Cert.XaFwdRefIdeal.defs (F := Ideal)) (onTc (τ := Cert.XaFwdRefIdeal.τ) (Cert.XaFwdRefIdeal.main (F := Ideal))) ⟨m', fun _ => 0, g'⟩ (fun r => ∀ c : Dev Cert.XaFwdRefIdeal.nD,
          r.2.mem ((c.tc : Thread Cert.XaFwdRefIdeal.nD Cert.XaFwdRefIdeal.τ).loc Cert.XaFwdRefIdeal.main_v26) = v0 c
          ∧ r.2.mem ((c.tc : Thread Cert.XaFwdRefIdeal.nD Cert.XaFwdRefIdeal.τ).loc Cert.XaFwdRefIdeal.main_arg0) = m' ((c.tc : Thread Cert.XaFwdRefIdeal.nD Cert.XaFwdRefIdeal.τ).loc Cert.XaFwdRefIdeal.main_arg0)
          ∧ r.2.mem ((c.tc : Thread Cert.XaFwdRefIdeal.nD Cert.XaFwdRefIdeal.τ).loc Cert.XaFwdRefIdeal.main_arg1) = m' ((c.tc : Thread Cert.XaFwdRefIdeal.nD Cert.XaFwdRefIdeal.τ).loc Cert.XaFwdRefIdeal.main_arg1)
          ∧ r.2.mem ((c.tc : Thread Cert.XaFwdRefIdeal.nD Cert.XaFwdRefIdeal.τ).loc Cert.XaFwdRefIdeal.main_arg2) = m' ((c.tc : Thread Cert.XaFwdRefIdeal.nD Cert.XaFwdRefIdeal.τ).loc Cert.XaFwdRefIdeal.main_arg2)
          ∧ r.2.mem ((c.tc : Thread Cert.XaFwdRefIdeal.nD Cert.XaFwdRefIdeal.τ).loc Cert.XaFwdRefIdeal.main_arg3) = m' ((c.tc : Thread Cert.XaFwdRefIdeal.nD Cert.XaFwdRefIdeal.τ).loc Cert.XaFwdRefIdeal.main_arg3))

def preserves_SwaFwd_SwaFwdIdeal : Prop :=
  True

def algebraic_SwaFwdIdeal_SwaFwdRefIdeal [hSwaFwdIdeal : Cert.SwaFwdIdeal.Facts] [hSwaFwdRefIdeal : Cert.SwaFwdRefIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)) →
    ∃ (v0 : (c : Dev Cert.SwaFwdIdeal.nD) → Buf (Elt Ideal) ((c.tc : Thread Cert.SwaFwdIdeal.nD Cert.SwaFwdIdeal.τ).loc Cert.SwaFwdIdeal.main_v7)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v7) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v78) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2))

def preserves_SwaBwd_SwaBwdIdeal : Prop :=
  True

def algebraic_SwaBwdIdeal_SwaRefIdeal_pre_swa_finite [hSwaBwdIdeal : Cert.SwaBwdIdeal.Facts] [hSwaRefIdeal : Cert.SwaRefIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaBwdIdeal_swa_finite m →
    (∀ c : Dev Cert.SwaBwdIdeal.nD,
      m' ((c.tc : Thread Cert.SwaRefIdeal.nD Cert.SwaRefIdeal.τ).loc Cert.SwaRefIdeal.main_arg0) = m ((c.tc : Thread Cert.SwaBwdIdeal.nD Cert.SwaBwdIdeal.τ).loc Cert.SwaBwdIdeal.main_arg0)
      ∧ m' ((c.tc : Thread Cert.SwaRefIdeal.nD Cert.SwaRefIdeal.τ).loc Cert.SwaRefIdeal.main_arg1) = m ((c.tc : Thread Cert.SwaBwdIdeal.nD Cert.SwaBwdIdeal.τ).loc Cert.SwaBwdIdeal.main_arg1)
      ∧ m' ((c.tc : Thread Cert.SwaRefIdeal.nD Cert.SwaRefIdeal.τ).loc Cert.SwaRefIdeal.main_arg2) = m ((c.tc : Thread Cert.SwaBwdIdeal.nD Cert.SwaBwdIdeal.τ).loc Cert.SwaBwdIdeal.main_arg2)
      ∧ m' ((c.tc : Thread Cert.SwaRefIdeal.nD Cert.SwaRefIdeal.τ).loc Cert.SwaRefIdeal.main_arg3) = m ((c.tc : Thread Cert.SwaBwdIdeal.nD Cert.SwaBwdIdeal.τ).loc Cert.SwaBwdIdeal.main_arg3)) →
    ∃ (v0 : (c : Dev Cert.SwaBwdIdeal.nD) → Buf (Elt Ideal) ((c.tc : Thread Cert.SwaBwdIdeal.nD Cert.SwaBwdIdeal.τ).loc Cert.SwaBwdIdeal.main_v7_0)) (v1 : (c : Dev Cert.SwaBwdIdeal.nD) → Buf (Elt Ideal) ((c.tc : Thread Cert.SwaBwdIdeal.nD Cert.SwaBwdIdeal.τ).loc Cert.SwaBwdIdeal.main_v7_1)) (v2 : (c : Dev Cert.SwaBwdIdeal.nD) → Buf (Elt Ideal) ((c.tc : Thread Cert.SwaBwdIdeal.nD Cert.SwaBwdIdeal.τ).loc Cert.SwaBwdIdeal.main_v7_2)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v7_0) = v0 c
          ∧ r.2.mem ((c.tc : Thread Cert.SwaBwdIdeal.nD Cert.SwaBwdIdeal.τ).loc Cert.SwaBwdIdeal.main_v7_1) = v1 c
          ∧ r.2.mem ((c.tc : Thread Cert.SwaBwdIdeal.nD Cert.SwaBwdIdeal.τ).loc Cert.SwaBwdIdeal.main_v7_2) = v2 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
          ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v175) = v0 c
          ∧ r.2.mem ((c.tc : Thread Cert.SwaRefIdeal.nD Cert.SwaRefIdeal.τ).loc Cert.SwaRefIdeal.main_v150) = v1 c
          ∧ r.2.mem ((c.tc : Thread Cert.SwaRefIdeal.nD Cert.SwaRefIdeal.τ).loc Cert.SwaRefIdeal.main_v178) = v2 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_BiasBwd_BiasBwdIdeal : Prop :=
  True

def algebraic_BiasBwdIdeal_BiasRefIdeal [hBiasBwdIdeal : Cert.BiasBwdIdeal.Facts] [hBiasRefIdeal : Cert.BiasRefIdeal.Facts] : Prop :=
  ∀ (m : (ℓ : Loc Cert.BiasBwdIdeal.nD Cert.BiasBwdIdeal.τ Cert.BiasBwdIdeal.sig) → Buf (Elt Ideal) ℓ) (g : Dev Cert.BiasBwdIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasBwdIdeal m →
    (∀ c : Dev Cert.BiasBwdIdeal.nD,
      m' ((c.tc : Thread Cert.BiasRefIdeal.nD Cert.BiasRefIdeal.τ).loc Cert.BiasRefIdeal.main_arg0) = m ((c.tc : Thread Cert.BiasBwdIdeal.nD Cert.BiasBwdIdeal.τ).loc Cert.BiasBwdIdeal.main_arg0)
      ∧ m' ((c.tc : Thread Cert.BiasRefIdeal.nD Cert.BiasRefIdeal.τ).loc Cert.BiasRefIdeal.main_arg1) = m ((c.tc : Thread Cert.BiasBwdIdeal.nD Cert.BiasBwdIdeal.τ).loc Cert.BiasBwdIdeal.main_arg1)
      ∧ m' ((c.tc : Thread Cert.BiasRefIdeal.nD Cert.BiasRefIdeal.τ).loc Cert.BiasRefIdeal.main_arg2) = m ((c.tc : Thread Cert.BiasBwdIdeal.nD Cert.BiasBwdIdeal.τ).loc Cert.BiasBwdIdeal.main_arg2)) →
    ∃ (v0 : (c : Dev Cert.BiasBwdIdeal.nD) → Buf (Elt Ideal) ((c.tc : Thread Cert.BiasBwdIdeal.nD Cert.BiasBwdIdeal.τ).loc Cert.BiasBwdIdeal.main_v0)),
      θ_run (Cert.BiasBwdIdeal.defs (F := Ideal)) (onTc (τ := Cert.BiasBwdIdeal.τ) (Cert.BiasBwdIdeal.main (F := Ideal))) ⟨m, fun _ => 0, g⟩ (fun r => ∀ c : Dev Cert.BiasBwdIdeal.nD,
          r.2.mem ((c.tc : Thread Cert.BiasBwdIdeal.nD Cert.BiasBwdIdeal.τ).loc Cert.BiasBwdIdeal.main_v0) = v0 c
          ∧ r.2.mem ((c.tc : Thread Cert.BiasBwdIdeal.nD Cert.BiasBwdIdeal.τ).loc Cert.BiasBwdIdeal.main_arg0) = m ((c.tc : Thread Cert.BiasBwdIdeal.nD Cert.BiasBwdIdeal.τ).loc Cert.BiasBwdIdeal.main_arg0)
          ∧ r.2.mem ((c.tc : Thread Cert.BiasBwdIdeal.nD Cert.BiasBwdIdeal.τ).loc Cert.BiasBwdIdeal.main_arg1) = m ((c.tc : Thread Cert.BiasBwdIdeal.nD Cert.BiasBwdIdeal.τ).loc Cert.BiasBwdIdeal.main_arg1)
          ∧ r.2.mem ((c.tc : Thread Cert.BiasBwdIdeal.nD Cert.BiasBwdIdeal.τ).loc Cert.BiasBwdIdeal.main_arg2) = m ((c.tc : Thread Cert.BiasBwdIdeal.nD Cert.BiasBwdIdeal.τ).loc Cert.BiasBwdIdeal.main_arg2))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v42) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1)
          ∧ r.2.mem ((c.tc : Thread Cert.BiasRefIdeal.nD Cert.BiasRefIdeal.τ).loc Cert.BiasRefIdeal.main_arg2) = m' ((c.tc : Thread Cert.BiasRefIdeal.nD Cert.BiasRefIdeal.τ).loc Cert.BiasRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v6)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v6) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v35) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v3_0)) (v1 : (c : Dev Cert.FfnFwdIdeal.nD) → Buf (Elt Ideal) ((c.tc : Thread Cert.FfnFwdIdeal.nD Cert.FfnFwdIdeal.τ).loc Cert.FfnFwdIdeal.main_v3_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v3_0) = v0 c
          ∧ r.2.mem ((c.tc : Thread Cert.FfnFwdIdeal.nD Cert.FfnFwdIdeal.τ).loc Cert.FfnFwdIdeal.main_v3_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v44) = v0 c
          ∧ r.2.mem ((c.tc : Thread Cert.FfnFwdRefIdeal.nD Cert.FfnFwdRefIdeal.τ).loc Cert.FfnFwdRefIdeal.main_v45) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_BiasFwd_BiasFwdIdeal : Prop :=
  True

def algebraic_BiasFwdIdeal_BiasFwdRefIdeal [hBiasFwdIdeal : Cert.BiasFwdIdeal.Facts] [hBiasFwdRefIdeal : Cert.BiasFwdRefIdeal.Facts] : Prop :=
  ∀ (m : (ℓ : Loc Cert.BiasFwdIdeal.nD Cert.BiasFwdIdeal.τ Cert.BiasFwdIdeal.sig) → Buf (Elt Ideal) ℓ) (g : Dev Cert.BiasFwdIdeal.nD → PrngReg)
    (m' : (ℓ : Loc Cert.BiasFwdRefIdeal.nD Cert.BiasFwdRefIdeal.τ Cert.BiasFwdRefIdeal.sig) → Buf (Elt Ideal) ℓ) (g' : Dev Cert.BiasFwdRefIdeal.nD → PrngReg), Pre_BiasFwdIdeal m →
    (∀ c : Dev Cert.BiasFwdIdeal.nD,
      m' ((c.tc : Thread Cert.BiasFwdRefIdeal.nD Cert.BiasFwdRefIdeal.τ).loc Cert.BiasFwdRefIdeal.main_arg0) = m ((c.tc : Thread Cert.BiasFwdIdeal.nD Cert.BiasFwdIdeal.τ).loc Cert.BiasFwdIdeal.main_arg0)) →
    ∃ (v0 : (c : Dev Cert.BiasFwdIdeal.nD) → Buf (Elt Ideal) ((c.tc : Thread Cert.BiasFwdIdeal.nD Cert.BiasFwdIdeal.τ).loc Cert.BiasFwdIdeal.main_v0)),
      θ_run (Cert.BiasFwdIdeal.defs (F := Ideal)) (onTc (τ := Cert.BiasFwdIdeal.τ) (Cert.BiasFwdIdeal.main (F := Ideal))) ⟨m, fun _ => 0, g⟩ (fun r => ∀ c : Dev Cert.BiasFwdIdeal.nD,
          r.2.mem ((c.tc : Thread Cert.BiasFwdIdeal.nD Cert.BiasFwdIdeal.τ).loc Cert.BiasFwdIdeal.main_v0) = v0 c
          ∧ r.2.mem ((c.tc : Thread Cert.BiasFwdIdeal.nD Cert.BiasFwdIdeal.τ).loc Cert.BiasFwdIdeal.main_arg0) = m ((c.tc : Thread Cert.BiasFwdIdeal.nD Cert.BiasFwdIdeal.τ).loc Cert.BiasFwdIdeal.main_arg0))
      ∧ θ_run (Cert.BiasFwdRefIdeal.defs (F := Ideal)) (onTc (τ := Cert.BiasFwdRefIdeal.τ) (Cert.BiasFwdRefIdeal.main (F := Ideal))) ⟨m', fun _ => 0, g'⟩ (fun r => ∀ c : Dev Cert.BiasFwdRefIdeal.nD,
          r.2.mem ((c.tc : Thread Cert.BiasFwdRefIdeal.nD Cert.BiasFwdRefIdeal.τ).loc Cert.BiasFwdRefIdeal.main_v36) = v0 c
          ∧ r.2.mem ((c.tc : Thread Cert.BiasFwdRefIdeal.nD Cert.BiasFwdRefIdeal.τ).loc Cert.BiasFwdRefIdeal.main_arg0) = m' ((c.tc : Thread Cert.BiasFwdRefIdeal.nD Cert.BiasFwdRefIdeal.τ).loc Cert.BiasFwdRefIdeal.main_arg0))

def preserves_XaOut_XaOutIdeal : Prop :=
  True

def algebraic_XaOutIdeal_XaOutRefIdeal [hXaOutIdeal : Cert.XaOutIdeal.Facts] [hXaOutRefIdeal : Cert.XaOutRefIdeal.Facts] : Prop :=
  ∀ (m : (ℓ : Loc Cert.XaOutIdeal.nD Cert.XaOutIdeal.τ Cert.XaOutIdeal.sig) → Buf (Elt Ideal) ℓ) (g : Dev Cert.XaOutIdeal.nD → PrngReg)
    (m' : (ℓ : Loc Cert.XaOutRefIdeal.nD Cert.XaOutRefIdeal.τ Cert.XaOutRefIdeal.sig) → Buf (Elt Ideal) ℓ) (g' : Dev Cert.XaOutRefIdeal.nD → PrngReg), Pre_XaOutIdeal m →
    (∀ c : Dev Cert.XaOutIdeal.nD,
      m' ((c.tc : Thread Cert.XaOutRefIdeal.nD Cert.XaOutRefIdeal.τ).loc Cert.XaOutRefIdeal.main_arg0) = m ((c.tc : Thread Cert.XaOutIdeal.nD Cert.XaOutIdeal.τ).loc Cert.XaOutIdeal.main_arg0)
      ∧ m' ((c.tc : Thread Cert.XaOutRefIdeal.nD Cert.XaOutRefIdeal.τ).loc Cert.XaOutRefIdeal.main_arg1) = m ((c.tc : Thread Cert.XaOutIdeal.nD Cert.XaOutIdeal.τ).loc Cert.XaOutIdeal.main_arg1)
      ∧ m' ((c.tc : Thread Cert.XaOutRefIdeal.nD Cert.XaOutRefIdeal.τ).loc Cert.XaOutRefIdeal.main_arg2) = m ((c.tc : Thread Cert.XaOutIdeal.nD Cert.XaOutIdeal.τ).loc Cert.XaOutIdeal.main_arg2)
      ∧ m' ((c.tc : Thread Cert.XaOutRefIdeal.nD Cert.XaOutRefIdeal.τ).loc Cert.XaOutRefIdeal.main_arg3) = m ((c.tc : Thread Cert.XaOutIdeal.nD Cert.XaOutIdeal.τ).loc Cert.XaOutIdeal.main_arg3)
      ∧ m' ((c.tc : Thread Cert.XaOutRefIdeal.nD Cert.XaOutRefIdeal.τ).loc Cert.XaOutRefIdeal.main_arg4) = m ((c.tc : Thread Cert.XaOutIdeal.nD Cert.XaOutIdeal.τ).loc Cert.XaOutIdeal.main_arg4)) →
    ∃ (v0 : (c : Dev Cert.XaOutIdeal.nD) → Buf (Elt Ideal) ((c.tc : Thread Cert.XaOutIdeal.nD Cert.XaOutIdeal.τ).loc Cert.XaOutIdeal.main_v4_0)) (v1 : (c : Dev Cert.XaOutIdeal.nD) → Buf (Elt Ideal) ((c.tc : Thread Cert.XaOutIdeal.nD Cert.XaOutIdeal.τ).loc Cert.XaOutIdeal.main_v4_1)) (v2 : (c : Dev Cert.XaOutIdeal.nD) → Buf (Elt Ideal) ((c.tc : Thread Cert.XaOutIdeal.nD Cert.XaOutIdeal.τ).loc Cert.XaOutIdeal.main_v4_2)) (v3 : (c : Dev Cert.XaOutIdeal.nD) → Buf (Elt Ideal) ((c.tc : Thread Cert.XaOutIdeal.nD Cert.XaOutIdeal.τ).loc Cert.XaOutIdeal.main_v4_3)),
      θ_run (Cert.XaOutIdeal.defs (F := Ideal)) (onTc (τ := Cert.XaOutIdeal.τ) (Cert.XaOutIdeal.main (F := Ideal))) ⟨m, fun _ => 0, g⟩ (fun r => ∀ c : Dev Cert.XaOutIdeal.nD,
          r.2.mem ((c.tc : Thread Cert.XaOutIdeal.nD Cert.XaOutIdeal.τ).loc Cert.XaOutIdeal.main_v4_0) = v0 c
          ∧ r.2.mem ((c.tc : Thread Cert.XaOutIdeal.nD Cert.XaOutIdeal.τ).loc Cert.XaOutIdeal.main_v4_1) = v1 c
          ∧ r.2.mem ((c.tc : Thread Cert.XaOutIdeal.nD Cert.XaOutIdeal.τ).loc Cert.XaOutIdeal.main_v4_2) = v2 c
          ∧ r.2.mem ((c.tc : Thread Cert.XaOutIdeal.nD Cert.XaOutIdeal.τ).loc Cert.XaOutIdeal.main_v4_3) = v3 c
          ∧ r.2.mem ((c.tc : Thread Cert.XaOutIdeal.nD Cert.XaOutIdeal.τ).loc Cert.XaOutIdeal.main_arg0) = m ((c.tc : Thread Cert.XaOutIdeal.nD Cert.XaOutIdeal.τ).loc Cert.XaOutIdeal.main_arg0)
          ∧ r.2.mem ((c.tc : Thread Cert.XaOutIdeal.nD Cert.XaOutIdeal.τ).loc Cert.XaOutIdeal.main_arg1) = m ((c.tc : Thread Cert.XaOutIdeal.nD Cert.XaOutIdeal.τ).loc Cert.XaOutIdeal.main_arg1)
          ∧ r.2.mem ((c.tc : Thread Cert.XaOutIdeal.nD Cert.XaOutIdeal.τ).loc Cert.XaOutIdeal.main_arg2) = m ((c.tc : Thread Cert.XaOutIdeal.nD Cert.XaOutIdeal.τ).loc Cert.XaOutIdeal.main_arg2)
          ∧ r.2.mem ((c.tc : Thread Cert.XaOutIdeal.nD Cert.XaOutIdeal.τ).loc Cert.XaOutIdeal.main_arg3) = m ((c.tc : Thread Cert.XaOutIdeal.nD Cert.XaOutIdeal.τ).loc Cert.XaOutIdeal.main_arg3)
          ∧ r.2.mem ((c.tc : Thread Cert.XaOutIdeal.nD Cert.XaOutIdeal.τ).loc Cert.XaOutIdeal.main_arg4) = m ((c.tc : Thread Cert.XaOutIdeal.nD Cert.XaOutIdeal.τ).loc Cert.XaOutIdeal.main_arg4))
      ∧ θ_run (Cert.XaOutRefIdeal.defs (F := Ideal)) (onTc (τ := Cert.XaOutRefIdeal.τ) (Cert.XaOutRefIdeal.main (F := Ideal))) ⟨m', fun _ => 0, g'⟩ (fun r => ∀ c : Dev Cert.XaOutRefIdeal.nD,
          r.2.mem ((c.tc : Thread Cert.XaOutRefIdeal.nD Cert.XaOutRefIdeal.τ).loc Cert.XaOutRefIdeal.main_v27) = v0 c
          ∧ r.2.mem ((c.tc : Thread Cert.XaOutRefIdeal.nD Cert.XaOutRefIdeal.τ).loc Cert.XaOutRefIdeal.main_v28) = v1 c
          ∧ r.2.mem ((c.tc : Thread Cert.XaOutRefIdeal.nD Cert.XaOutRefIdeal.τ).loc Cert.XaOutRefIdeal.main_v30) = v2 c
          ∧ r.2.mem ((c.tc : Thread Cert.XaOutRefIdeal.nD Cert.XaOutRefIdeal.τ).loc Cert.XaOutRefIdeal.main_v3) = v3 c
          ∧ r.2.mem ((c.tc : Thread Cert.XaOutRefIdeal.nD Cert.XaOutRefIdeal.τ).loc Cert.XaOutRefIdeal.main_arg0) = m' ((c.tc : Thread Cert.XaOutRefIdeal.nD Cert.XaOutRefIdeal.τ).loc Cert.XaOutRefIdeal.main_arg0)
          ∧ r.2.mem ((c.tc : Thread Cert.XaOutRefIdeal.nD Cert.XaOutRefIdeal.τ).loc Cert.XaOutRefIdeal.main_arg1) = m' ((c.tc : Thread Cert.XaOutRefIdeal.nD Cert.XaOutRefIdeal.τ).loc Cert.XaOutRefIdeal.main_arg1)
          ∧ r.2.mem ((c.tc : Thread Cert.XaOutRefIdeal.nD Cert.XaOutRefIdeal.τ).loc Cert.XaOutRefIdeal.main_arg2) = m' ((c.tc : Thread Cert.XaOutRefIdeal.nD Cert.XaOutRefIdeal.τ).loc Cert.XaOutRefIdeal.main_arg2)
          ∧ r.2.mem ((c.tc : Thread Cert.XaOutRefIdeal.nD Cert.XaOutRefIdeal.τ).loc Cert.XaOutRefIdeal.main_arg3) = m' ((c.tc : Thread Cert.XaOutRefIdeal.nD Cert.XaOutRefIdeal.τ).loc Cert.XaOutRefIdeal.main_arg3)
          ∧ r.2.mem ((c.tc : Thread Cert.XaOutRefIdeal.nD Cert.XaOutRefIdeal.τ).loc Cert.XaOutRefIdeal.main_arg4) = m' ((c.tc : Thread Cert.XaOutRefIdeal.nD Cert.XaOutRefIdeal.τ).loc Cert.XaOutRefIdeal.main_arg4))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v4_0)) (v1 : (c : Dev Cert.FfnOutIdeal.nD) → Buf (Elt Ideal) ((c.tc : Thread Cert.FfnOutIdeal.nD Cert.FfnOutIdeal.τ).loc Cert.FfnOutIdeal.main_v4_1)) (v2 : (c : Dev Cert.FfnOutIdeal.nD) → Buf (Elt Ideal) ((c.tc : Thread Cert.FfnOutIdeal.nD Cert.FfnOutIdeal.τ).loc Cert.FfnOutIdeal.main_v4_2)) (v3 : (c : Dev Cert.FfnOutIdeal.nD) → Buf (Elt Ideal) ((c.tc : Thread Cert.FfnOutIdeal.nD Cert.FfnOutIdeal.τ).loc Cert.FfnOutIdeal.main_v4_3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v4_0) = v0 c
          ∧ r.2.mem ((c.tc : Thread Cert.FfnOutIdeal.nD Cert.FfnOutIdeal.τ).loc Cert.FfnOutIdeal.main_v4_1) = v1 c
          ∧ r.2.mem ((c.tc : Thread Cert.FfnOutIdeal.nD Cert.FfnOutIdeal.τ).loc Cert.FfnOutIdeal.main_v4_2) = v2 c
          ∧ r.2.mem ((c.tc : Thread Cert.FfnOutIdeal.nD Cert.FfnOutIdeal.τ).loc Cert.FfnOutIdeal.main_v4_3) = v3 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v27) = v0 c
          ∧ r.2.mem ((c.tc : Thread Cert.FfnOutRefIdeal.nD Cert.FfnOutRefIdeal.τ).loc Cert.FfnOutRefIdeal.main_v28) = v1 c
          ∧ r.2.mem ((c.tc : Thread Cert.FfnOutRefIdeal.nD Cert.FfnOutRefIdeal.τ).loc Cert.FfnOutRefIdeal.main_v30) = v2 c
          ∧ r.2.mem ((c.tc : Thread Cert.FfnOutRefIdeal.nD Cert.FfnOutRefIdeal.τ).loc Cert.FfnOutRefIdeal.main_v3) = v3 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v5_0)) (v1 : (c : Dev Cert.MixOutIdeal.nD) → Buf (Elt Ideal) ((c.tc : Thread Cert.MixOutIdeal.nD Cert.MixOutIdeal.τ).loc Cert.MixOutIdeal.main_v5_1)) (v2 : (c : Dev Cert.MixOutIdeal.nD) → Buf (Elt Ideal) ((c.tc : Thread Cert.MixOutIdeal.nD Cert.MixOutIdeal.τ).loc Cert.MixOutIdeal.main_v5_2)) (v3 : (c : Dev Cert.MixOutIdeal.nD) → Buf (Elt Ideal) ((c.tc : Thread Cert.MixOutIdeal.nD Cert.MixOutIdeal.τ).loc Cert.MixOutIdeal.main_v5_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5_0) = v0 c
          ∧ r.2.mem ((c.tc : Thread Cert.MixOutIdeal.nD Cert.MixOutIdeal.τ).loc Cert.MixOutIdeal.main_v5_1) = v1 c
          ∧ r.2.mem ((c.tc : Thread Cert.MixOutIdeal.nD Cert.MixOutIdeal.τ).loc Cert.MixOutIdeal.main_v5_2) = v2 c
          ∧ r.2.mem ((c.tc : Thread Cert.MixOutIdeal.nD Cert.MixOutIdeal.τ).loc Cert.MixOutIdeal.main_v5_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v28) = v0 c
          ∧ r.2.mem ((c.tc : Thread Cert.MixOutRefIdeal.nD Cert.MixOutRefIdeal.τ).loc Cert.MixOutRefIdeal.main_v29) = v1 c
          ∧ r.2.mem ((c.tc : Thread Cert.MixOutRefIdeal.nD Cert.MixOutRefIdeal.τ).loc Cert.MixOutRefIdeal.main_v31) = v2 c
          ∧ r.2.mem ((c.tc : Thread Cert.MixOutRefIdeal.nD Cert.MixOutRefIdeal.τ).loc Cert.MixOutRefIdeal.main_v4) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_MlstmFwd_MlstmFwdIdeal : Prop :=
  True

def preserves_MlstmBwd_MlstmBwdIdeal : Prop :=
  IdealRules.sign_bit.Statement Cert.MlstmBwdIdeal.S4x64x1 .f32

def Claim : Prop :=
  ∃ (hConvBwd : Cert.ConvBwd.Facts) (hConvBwdIdeal : Cert.ConvBwdIdeal.Facts) (hConvRefIdeal : Cert.ConvRefIdeal.Facts) (hFfnBwd : Cert.FfnBwd.Facts) (hFfnBwdIdeal : Cert.FfnBwdIdeal.Facts) (hFfnRefIdeal : Cert.FfnRefIdeal.Facts) (hLossBwd : Cert.LossBwd.Facts) (hLossBwdIdeal : Cert.LossBwdIdeal.Facts) (hLossRefIdeal : Cert.LossRefIdeal.Facts) (hH2Bwd : Cert.H2Bwd.Facts) (hH2BwdIdeal : Cert.H2BwdIdeal.Facts) (hH2RefIdeal : Cert.H2RefIdeal.Facts) (hH1Bwd : Cert.H1Bwd.Facts) (hH1BwdIdeal : Cert.H1BwdIdeal.Facts) (hH1RefIdeal : Cert.H1RefIdeal.Facts) (hH0Bwd : Cert.H0Bwd.Facts) (hH0BwdIdeal : Cert.H0BwdIdeal.Facts) (hH0RefIdeal : Cert.H0RefIdeal.Facts) (hXaBwd : Cert.XaBwd.Facts) (hXaBwdIdeal : Cert.XaBwdIdeal.Facts) (hXaRefIdeal : Cert.XaRefIdeal.Facts) (hXaFwd : Cert.XaFwd.Facts) (hXaFwdIdeal : Cert.XaFwdIdeal.Facts) (hXaFwdRefIdeal : Cert.XaFwdRefIdeal.Facts) (hSwaFwd : Cert.SwaFwd.Facts) (hSwaFwdIdeal : Cert.SwaFwdIdeal.Facts) (hSwaFwdRefIdeal : Cert.SwaFwdRefIdeal.Facts) (hSwaBwd : Cert.SwaBwd.Facts) (hSwaBwdIdeal : Cert.SwaBwdIdeal.Facts) (hSwaRefIdeal : Cert.SwaRefIdeal.Facts) (hBiasBwd : Cert.BiasBwd.Facts) (hBiasBwdIdeal : Cert.BiasBwdIdeal.Facts) (hBiasRefIdeal : Cert.BiasRefIdeal.Facts) (hConvFwd : Cert.ConvFwd.Facts) (hConvFwdIdeal : Cert.ConvFwdIdeal.Facts) (hConvFwdRefIdeal : Cert.ConvFwdRefIdeal.Facts) (hFfnFwd : Cert.FfnFwd.Facts) (hFfnFwdIdeal : Cert.FfnFwdIdeal.Facts) (hFfnFwdRefIdeal : Cert.FfnFwdRefIdeal.Facts) (hBiasFwd : Cert.BiasFwd.Facts) (hBiasFwdIdeal : Cert.BiasFwdIdeal.Facts) (hBiasFwdRefIdeal : Cert.BiasFwdRefIdeal.Facts) (hXaOut : Cert.XaOut.Facts) (hXaOutIdeal : Cert.XaOutIdeal.Facts) (hXaOutRefIdeal : Cert.XaOutRefIdeal.Facts) (hFfnOut : Cert.FfnOut.Facts) (hFfnOutIdeal : Cert.FfnOutIdeal.Facts) (hFfnOutRefIdeal : Cert.FfnOutRefIdeal.Facts) (hMixOut : Cert.MixOut.Facts) (hMixOutIdeal : Cert.MixOutIdeal.Facts) (hMixOutRefIdeal : Cert.MixOutRefIdeal.Facts) (hMlstmFwd : Cert.MlstmFwd.Facts) (hMlstmFwdIdeal : Cert.MlstmFwdIdeal.Facts) (hMlstmBwd : Cert.MlstmBwd.Facts) (hMlstmBwdIdeal : Cert.MlstmBwdIdeal.Facts) (hPre_ffn_finite : Cert.Pre_ffn_finite.Facts) (hPre_loss_finite : Cert.Pre_loss_finite.Facts) (hPre_h2_finite : Cert.Pre_h2_finite.Facts) (hPre_h1_finite : Cert.Pre_h1_finite.Facts) (hPre_h0_finite : Cert.Pre_h0_finite.Facts) (hPre_swa_finite : Cert.Pre_swa_finite.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_H2Bwd (hH2Bwd := hH2Bwd)
    ∧ quiescent_H2BwdIdeal (hH2BwdIdeal := hH2BwdIdeal)
    ∧ quiescent_H2BwdIdeal_pre_h2_finite (hH2BwdIdeal := hH2BwdIdeal) (hPre_h2_finite := hPre_h2_finite)
    ∧ quiescent_H2RefIdeal (hH2RefIdeal := hH2RefIdeal)
    ∧ quiescent_H2RefIdeal_pre_h2_finite (hH2RefIdeal := hH2RefIdeal) (hPre_h2_finite := hPre_h2_finite)
    ∧ quiescent_H1Bwd (hH1Bwd := hH1Bwd)
    ∧ quiescent_H1BwdIdeal (hH1BwdIdeal := hH1BwdIdeal)
    ∧ quiescent_H1BwdIdeal_pre_h1_finite (hH1BwdIdeal := hH1BwdIdeal) (hPre_h1_finite := hPre_h1_finite)
    ∧ quiescent_H1RefIdeal (hH1RefIdeal := hH1RefIdeal)
    ∧ quiescent_H1RefIdeal_pre_h1_finite (hH1RefIdeal := hH1RefIdeal) (hPre_h1_finite := hPre_h1_finite)
    ∧ quiescent_H0Bwd (hH0Bwd := hH0Bwd)
    ∧ quiescent_H0BwdIdeal (hH0BwdIdeal := hH0BwdIdeal)
    ∧ quiescent_H0BwdIdeal_pre_h0_finite (hH0BwdIdeal := hH0BwdIdeal) (hPre_h0_finite := hPre_h0_finite)
    ∧ quiescent_H0RefIdeal (hH0RefIdeal := hH0RefIdeal)
    ∧ quiescent_H0RefIdeal_pre_h0_finite (hH0RefIdeal := hH0RefIdeal) (hPre_h0_finite := hPre_h0_finite)
    ∧ quiescent_XaBwd (hXaBwd := hXaBwd)
    ∧ quiescent_XaBwdIdeal (hXaBwdIdeal := hXaBwdIdeal)
    ∧ quiescent_XaRefIdeal (hXaRefIdeal := hXaRefIdeal)
    ∧ quiescent_XaFwd (hXaFwd := hXaFwd)
    ∧ quiescent_XaFwdIdeal (hXaFwdIdeal := hXaFwdIdeal)
    ∧ quiescent_XaFwdRefIdeal (hXaFwdRefIdeal := hXaFwdRefIdeal)
    ∧ quiescent_SwaFwd (hSwaFwd := hSwaFwd)
    ∧ quiescent_SwaFwdIdeal (hSwaFwdIdeal := hSwaFwdIdeal)
    ∧ quiescent_SwaFwdRefIdeal (hSwaFwdRefIdeal := hSwaFwdRefIdeal)
    ∧ quiescent_SwaBwd (hSwaBwd := hSwaBwd)
    ∧ quiescent_SwaBwdIdeal (hSwaBwdIdeal := hSwaBwdIdeal)
    ∧ quiescent_SwaBwdIdeal_pre_swa_finite (hSwaBwdIdeal := hSwaBwdIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_BiasBwd (hBiasBwd := hBiasBwd)
    ∧ quiescent_BiasBwdIdeal (hBiasBwdIdeal := hBiasBwdIdeal)
    ∧ quiescent_BiasRefIdeal (hBiasRefIdeal := hBiasRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_BiasFwd (hBiasFwd := hBiasFwd)
    ∧ quiescent_BiasFwdIdeal (hBiasFwdIdeal := hBiasFwdIdeal)
    ∧ quiescent_BiasFwdRefIdeal (hBiasFwdRefIdeal := hBiasFwdRefIdeal)
    ∧ quiescent_XaOut (hXaOut := hXaOut)
    ∧ quiescent_XaOutIdeal (hXaOutIdeal := hXaOutIdeal)
    ∧ quiescent_XaOutRefIdeal (hXaOutRefIdeal := hXaOutRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MlstmFwd (hMlstmFwd := hMlstmFwd)
    ∧ quiescent_MlstmFwdIdeal (hMlstmFwdIdeal := hMlstmFwdIdeal)
    ∧ quiescent_MlstmBwd (hMlstmBwd := hMlstmBwd)
    ∧ quiescent_MlstmBwdIdeal (hMlstmBwdIdeal := hMlstmBwdIdeal)
    ∧ preserves_ConvBwd_ConvBwdIdeal
    ∧ algebraic_ConvBwdIdeal_ConvRefIdeal (hConvBwdIdeal := hConvBwdIdeal) (hConvRefIdeal := hConvRefIdeal)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_LossBwd_LossBwdIdeal
    ∧ algebraic_LossBwdIdeal_LossRefIdeal_pre_loss_finite (hLossBwdIdeal := hLossBwdIdeal) (hLossRefIdeal := hLossRefIdeal) (hPre_loss_finite := hPre_loss_finite)
    ∧ preserves_H2Bwd_H2BwdIdeal
    ∧ algebraic_H2BwdIdeal_H2RefIdeal_pre_h2_finite (hH2BwdIdeal := hH2BwdIdeal) (hH2RefIdeal := hH2RefIdeal) (hPre_h2_finite := hPre_h2_finite)
    ∧ preserves_H1Bwd_H1BwdIdeal
    ∧ algebraic_H1BwdIdeal_H1RefIdeal_pre_h1_finite (hH1BwdIdeal := hH1BwdIdeal) (hH1RefIdeal := hH1RefIdeal) (hPre_h1_finite := hPre_h1_finite)
    ∧ preserves_H0Bwd_H0BwdIdeal
    ∧ algebraic_H0BwdIdeal_H0RefIdeal_pre_h0_finite (hH0BwdIdeal := hH0BwdIdeal) (hH0RefIdeal := hH0RefIdeal) (hPre_h0_finite := hPre_h0_finite)
    ∧ preserves_XaBwd_XaBwdIdeal
    ∧ algebraic_XaBwdIdeal_XaRefIdeal (hXaBwdIdeal := hXaBwdIdeal) (hXaRefIdeal := hXaRefIdeal)
    ∧ preserves_XaFwd_XaFwdIdeal
    ∧ algebraic_XaFwdIdeal_XaFwdRefIdeal (hXaFwdIdeal := hXaFwdIdeal) (hXaFwdRefIdeal := hXaFwdRefIdeal)
    ∧ preserves_SwaFwd_SwaFwdIdeal
    ∧ algebraic_SwaFwdIdeal_SwaFwdRefIdeal (hSwaFwdIdeal := hSwaFwdIdeal) (hSwaFwdRefIdeal := hSwaFwdRefIdeal)
    ∧ preserves_SwaBwd_SwaBwdIdeal
    ∧ algebraic_SwaBwdIdeal_SwaRefIdeal_pre_swa_finite (hSwaBwdIdeal := hSwaBwdIdeal) (hSwaRefIdeal := hSwaRefIdeal) (hPre_swa_finite := hPre_swa_finite)
    ∧ preserves_BiasBwd_BiasBwdIdeal
    ∧ algebraic_BiasBwdIdeal_BiasRefIdeal (hBiasBwdIdeal := hBiasBwdIdeal) (hBiasRefIdeal := hBiasRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_BiasFwd_BiasFwdIdeal
    ∧ algebraic_BiasFwdIdeal_BiasFwdRefIdeal (hBiasFwdIdeal := hBiasFwdIdeal) (hBiasFwdRefIdeal := hBiasFwdRefIdeal)
    ∧ preserves_XaOut_XaOutIdeal
    ∧ algebraic_XaOutIdeal_XaOutRefIdeal (hXaOutIdeal := hXaOutIdeal) (hXaOutRefIdeal := hXaOutRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixOut_MixOutIdeal
    ∧ algebraic_MixOutIdeal_MixOutRefIdeal (hMixOutIdeal := hMixOutIdeal) (hMixOutRefIdeal := hMixOutRefIdeal)
    ∧ preserves_MlstmFwd_MlstmFwdIdeal
    ∧ preserves_MlstmBwd_MlstmBwdIdeal
-- ==== Pre_ffn_finite.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  (main_v3, main_v7, main_v11, main_v15, main_v19, main_v23)

def fn {F : FTy → Type} [FloatOps F] (main_arg0 : FVec F S4096x1024 .f32) (main_arg1 : FVec F S1024x5632 .f32) (main_arg2 : FVec F S3x5632 .f32) (main_arg3 : FVec F S5632 .f32) (main_arg4 : FVec F S2816x1024 .f32) (main_arg5 : FVec F S4096x1024 .f32) : IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S3x5632 .f32 := Host.absf main_arg2
  let main_cst_2 : FVec F S_ .f32 := constant S_ .f32 0x7F800000#32
  let main_v9 : FVec F S3x5632 .f32 := broadcastInDim S3x5632 ![] bcast_S_S3x5632 main_cst_2
  let main_v10 : IVec S3x5632 1 := cmpf .olt main_v8 main_v9
  let main_c_3 : IVec S_ 1 := constantI S_ 1 1#1
  let main_v11 : IVec S_ 1 := (fun x v => Host.reduce IntOp.andi x v reducesTo_S3x5632_S_d0_1 h_S_) main_v10 main_c_3
  let main_v12 : FVec F S5632 .f32 := Host.absf main_arg3
  let main_cst_4 : FVec F S_ .f32 := constant S_ .f32 0x7F800000#32
  let main_v13 : FVec F S5632 .f32 := broadcastInDim S5632 ![] bcast_S_S5632 main_cst_4
  let main_v14 : IVec S5632 1 := cmpf .olt main_v12 main_v13
  let main_c_5 : IVec S_ 1 := constantI S_ 1 1#1
  let main_v15 : IVec S_ 1 := (fun x v => Host.reduce IntOp.andi x v reducesTo_S5632_S_d0 h_S_) main_v14 main_c_5
  fn_part1 (F := F) main_arg4 main_arg5 main_v3 main_v7 main_v11 main_v15
-- ==== Pre_h0_finite.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1024x2824 : Shape := ⟨2, ![1024, 2824]⟩
abbrev S4096x2824 : Shape := ⟨2, ![4096, 2824]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x2824 : S_.BroadcastsInDim S1024x2824 (![] : Fin 0 → Fin S1024x2824.rank)
  reducesTo_S1024x2824_S_d0_1 : S1024x2824.ReducesTo [0, 1] S_
  bcast_S_S4096x2824 : S_.BroadcastsInDim S4096x2824 (![] : Fin 0 → Fin S4096x2824.rank)
  reducesTo_S4096x2824_S_d0_1 : S4096x2824.ReducesTo [0, 1] S_

variable [Facts]

def fn_part1 {F : FTy → Type} [FloatOps F] (main_arg5 : FVec F S1024x2824 .f32) (main_arg6 : FVec F S4096x1024 .f32) (main_arg7 : FVec F S4096x2824 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 :=
  let main_v16 : FVec F S1024x2824 .f32 := Host.absf main_arg5
  let main_cst_6 : FVec F S_ .f32 := constant S_ .f32 0x7F800000#32
  let main_v17 : FVec F S1024x2824 .f32 := broadcastInDim S1024x2824 ![] bcast_S_S1024x2824 main_cst_6
  let main_v18 : IVec S1024x2824 1 := cmpf .olt main_v16 main_v17
  let main_c_7 : IVec S_ 1 := constantI S_ 1 1#1
  let main_v19 : IVec S_ 1 := (fun x v => Host.reduce IntOp.andi x v reducesTo_S1024x2824_S_d0_1 h_S_) main_v18 main_c_7
  let main_v20 : FVec F S4096x1024 .f32 := Host.absf main_arg6
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : FVec F S4096x2824 .f32 := Host.absf main_arg7
  let main_cst_10 : FVec F S_ .f32 := constant S_ .f32 0x7F800000#32
  let main_v25 : FVec F S4096x2824 .f32 := broadcastInDim S4096x2824 ![] bcast_S_S4096x2824 main_cst_10
  let main_v26 : IVec S4096x2824 1 := cmpf .olt main_v24 main_v25
  let main_c_11 : IVec S_ 1 := constantI S_ 1 1#1
  let main_v27 : IVec S_ 1 := (fun x v => Host.reduce IntOp.andi x v reducesTo_S4096x2824_S_d0_1 h_S_) main_v26 main_c_11
  (main_v3, main_v7, main_v11, main_v15, main_v19, main_v23, main_v27)

def fn {F : FTy → Type} [FloatOps F] (main_arg0 : FVec F S4096x2816 .f32) (main_arg1 : FVec F S2816x1024 .f32) (main_arg2 : FVec F S4096x1024 .f32) (main_arg3 : FVec F S1024 .f32) (main_arg4 : FVec F S1024 .f32) (main_arg5 : FVec F S1024x2824 .f32) (main_arg6 : FVec F S4096x1024 .f32) (main_arg7 : FVec F S4096x2824 .f32) : IVec S_ 1 × IVec S_ 1 × IVec S_ 1 × IVec S_ 1 × IVec S_ 1 × IVec S_ 1 × IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg5 main_arg6 main_arg7 main_v3 main_v7 main_v11 main_v15
-- ==== Pre_h1_finite.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x1024 .f32) (main_arg6 : FVec F S4096x1024 .f32) (main_arg7 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 :=
  let main_v16 : FVec F S1024x1024 .f32 := Host.absf main_arg5
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S4096x1024 .f32 := Host.absf main_arg6
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : FVec F S4096x1024 .f32 := Host.absf main_arg7
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  (main_v3, main_v7, main_v11, main_v15, main_v19, main_v23, main_v27)

def fn {F : FTy → Type} [FloatOps F] (main_arg0 : FVec F S4096x1024 .f32) (main_arg1 : FVec F S1024x1024 .f32) (main_arg2 : FVec F S4096x1024 .f32) (main_arg3 : FVec F S1024 .f32) (main_arg4 : FVec F S1024 .f32) (main_arg5 : FVec F S1024x1024 .f32) (main_arg6 : FVec F S4096x1024 .f32) (main_arg7 : FVec F S4096x1024 .f32) : IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg5 main_arg6 main_arg7 main_v3 main_v7 main_v11 main_v15
-- ==== Pre_h2_finite.lean ====
abbrev S4096x1024 : Shape := ⟨2, ![4096, 1024]⟩
abbrev S1024x1024 : Shape := ⟨2, ![1024, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg5 : FVec F S1024x5632 .f32) (main_arg6 : FVec F S4096x1024 .f32) (main_arg7 : FVec F S4096x5632 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 :=
  let main_v16 : FVec F S1024x5632 .f32 := Host.absf main_arg5
  let main_cst_6 : FVec F S_ .f32 := constant S_ .f32 0x7F800000#32
  let main_v17 : FVec F S1024x5632 .f32 := broadcastInDim S1024x5632 ![] bcast_S_S1024x5632 main_cst_6
  let main_v18 : IVec S1024x5632 1 := cmpf .olt main_v16 main_v17
  let main_c_7 : IVec S_ 1 := constantI S_ 1 1#1
  let main_v19 : IVec S_ 1 := (fun x v => Host.reduce IntOp.andi x v reducesTo_S1024x5632_S_d0_1 h_S_) main_v18 main_c_7
  let main_v20 : FVec F S4096x1024 .f32 := Host.absf main_arg6
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : FVec F S4096x5632 .f32 := Host.absf main_arg7
  let main_cst_10 : FVec F S_ .f32 := constant S_ .f32 0x7F800000#32
  let main_v25 : FVec F S4096x5632 .f32 := broadcastInDim S4096x5632 ![] bcast_S_S4096x5632 main_cst_10
  let main_v26 : IVec S4096x5632 1 := cmpf .olt main_v24 main_v25
  let main_c_11 : IVec S_ 1 := constantI S_ 1 1#1
  let main_v27 : IVec S_ 1 := (fun x v => Host.reduce IntOp.andi x v reducesTo_S4096x5632_S_d0_1 h_S_) main_v26 main_c_11
  (main_v3, main_v7, main_v11, main_v15, main_v19, main_v23, main_v27)

def fn {F : FTy → Type} [FloatOps F] (main_arg0 : FVec F S4096x1024 .f32) (main_arg1 : FVec F S1024x1024 .f32) (main_arg2 : FVec F S4096x1024 .f32) (main_arg3 : FVec F S1024 .f32) (main_arg4 : FVec F S1024 .f32) (main_arg5 : FVec F S1024x5632 .f32) (main_arg6 : FVec F S4096x1024 .f32) (main_arg7 : FVec F S4096x5632 .f32) : IVec S_ 1 × IVec S_ 1 × IVec S_ 1 × IVec S_ 1 × IVec S_ 1 × IVec S_ 1 × IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg5 main_arg6 main_arg7 main_v3 main_v7 main_v11 main_v15
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S4096x1024 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  (main_v3, main_v7, main_v11, main_v15, main_v19, main_v23)

def fn {F : FTy → Type} [FloatOps F] (main_arg0 : FVec F S4096x2816 .f32) (main_arg1 : FVec F S2816x1024 .f32) (main_arg2 : FVec F S4096x1024 .f32) (main_arg3 : FVec F S1024 .f32) (main_arg4 : FVec F S1024 .f32) (main_arg5 : FVec F S4096x1024 .f32) : IVec S_ 1 × IVec S_ 1 × IVec S_ 1 × IVec S_ 1 × IVec S_ 1 × IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_v3 main_v7 main_v11 main_v15
-- ==== Pre_swa_finite.lean ====
abbrev S4096x2824 : Shape := ⟨2, ![4096, 2824]⟩
abbrev S8x128x256 : Shape := ⟨3, ![8, 128, 256]⟩
abbrev S8 : Shape := ⟨1, ![8]⟩
abbrev S4096x1024 : Shape := ⟨2, ![4096, 1024]⟩
abbrev S_ : Shape := ⟨0, ![]⟩

class Facts : Prop where
  bcast_S_S4096x2824 : S_.BroadcastsInDim S4096x2824 (![] : Fin 0 → Fin S4096x2824.rank)
  reducesTo_S4096x2824_S_d0_1 : S4096x2824.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_
  bcast_S_S8 : S_.BroadcastsInDim S8 (![] : Fin 0 → Fin S8.rank)
  reducesTo_S8_S_d0 : S8.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2824 .f32) (main_arg1 : FVec F S8x128x256 .f32) (main_arg2 : FVec F S8 .f32) (main_arg3 : FVec F S4096x1024 .f32) : IVec S_ 1 × IVec S_ 1 × IVec S_ 1 × IVec S_ 1 :=
  let main_v0 : FVec F S4096x2824 .f32 := Host.absf main_arg0
  let main_cst : FVec F S_ .f32 := constant S_ .f32 0x7F800000#32
  let main_v1 : FVec F S4096x2824 .f32 := broadcastInDim S4096x2824 ![] bcast_S_S4096x2824 main_cst
  let main_v2 : IVec S4096x2824 1 := cmpf .olt main_v0 main_v1
  let main_c : IVec S_ 1 := constantI S_ 1 1#1
  let main_v3 : IVec S_ 1 := (fun x v => Host.reduce IntOp.andi x v reducesTo_S4096x2824_S_d0_1 h_S_) main_v2 main_c
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : FVec F S8 .f32 := Host.absf main_arg2
  let main_cst_2 : FVec F S_ .f32 := constant S_ .f32 0x7F800000#32
  let main_v9 : FVec F S8 .f32 := broadcastInDim S8 ![] bcast_S_S8 main_cst_2
  let main_v10 : IVec S8 1 := cmpf .olt main_v8 main_v9
  let main_c_3 : IVec S_ 1 := constantI S_ 1 1#1
  let main_v11 : IVec S_ 1 := (fun x v => Host.reduce IntOp.andi x v reducesTo_S8_S_d0 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  (main_v3, main_v7, main_v11, main_v15)
-- ==== ConvBwd.lean ====
abbrev S4096x2824 : Shape := ⟨2, ![4096, 2824]⟩
abbrev S4x1024 : Shape := ⟨2, ![4, 1024]⟩
abbrev S1024 : Shape := ⟨1, ![1024]⟩
abbrev S4096x1024 : Shape := ⟨2, ![4096, 1024]⟩
abbrev S_ : Shape := ⟨0, ![]⟩
abbrev S4096x248 : Shape := ⟨2, ![4096, 248]⟩
abbrev S4096x2048 : Shape := ⟨2, ![4096, 2048]⟩
abbrev S4096x768 : Shape := ⟨2, ![4096, 768]⟩
abbrev S4096x8 : Shape := ⟨2, ![4096, 8]⟩
abbrev S4096x3072 : Shape := ⟨2, ![4096, 3072]⟩
abbrev S1x1024 : Shape := ⟨2, ![1, 1024]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 14
  | .vmem => 14
  | .smem => 0
  | _ => 0

abbrev bufTy : (tb : Table) → Fin (tcTables nBuf tb) → BufTy
  | .hbm, ⟨0, _⟩ => ⟨S4096x2824, .f32⟩
  | .hbm, ⟨1, _⟩ => ⟨S4x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x248, .f32⟩
  | .hbm, ⟨6, _⟩ => ⟨S4096x2048, .f32⟩
  | .hbm, ⟨7, _⟩ => ⟨S4096x768, .f32⟩
  | .hbm, ⟨8, _⟩ => ⟨S4096x8, .f32⟩
  | .hbm, ⟨9, _⟩ => ⟨S4096x3072, .f32⟩
  | .hbm, ⟨10, _⟩ => ⟨S1x1024, .f32⟩
  | .hbm, ⟨11, _⟩ => ⟨S4096x1024, .bf16⟩
  | .hbm, ⟨12, _⟩ => ⟨S4x1024, .f32⟩
  | .hbm, ⟨13, _⟩ => ⟨S1x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S4096x2824 : Shape := ⟨2, ![4096, 2824]⟩
abbrev S4x1024 : Shape := ⟨2, ![4, 1024]⟩
abbrev S1024 : Shape := ⟨1, ![1024]⟩
abbrev S4096x1024 : Shape := ⟨2, ![4096, 1024]⟩
abbrev S1x4096x1024 : Shape := ⟨3, ![1, 4096, 1024]⟩
abbrev S_ : Shape := ⟨0, ![]⟩
abbrev S1x3x1024 : Shape := ⟨3, ![1, 3, 1024]⟩
abbrev S1x4099x1024 : Shape := ⟨3, ![1, 4099, 1024]⟩
abbrev S1x1024 : Shape := ⟨2, ![1, 1024]⟩
abbrev S1x1x1024 : Shape := ⟨3, ![1, 1, 1024]⟩

abbrev nBuf : Space → Nat
  | .hbm => 129
  | .vmem => 0
  | .smem => 0
  | _ => 0

abbrev hbmTy0_0 (i : Nat) : BufTy := match i % 128 with
  | 0 => ⟨S4096x2824, .f32⟩
  | 1 => ⟨S4x1024, .f32⟩
  | 2 => ⟨S1024, .f32⟩
  | 3 => ⟨S4096x1024, .f32⟩
  | 4 => ⟨S4096x1024, .f32⟩
  | 5 => ⟨S1x4096x1024, .f32⟩
  | 6 => ⟨S_, .f32⟩
  | 7 => ⟨S1x3x1024, .f32⟩
  | 8 => ⟨S1x4099x1024, .f32⟩
  | 9 => ⟨S_, .f32⟩
  | 10 => ⟨S1x3x1024, .f32⟩
  | 11 => ⟨S1x4096x1024, .f32⟩
  | 12 => ⟨S1x1024, .f32⟩
  | 13 => ⟨S1024, .f32⟩
  | 14 => ⟨S1x1x1024, .f32⟩
  | 15 => ⟨S1x4096x1024, .f32⟩
  | 16 => ⟨S1x4096x1024, .f32⟩
  | 17 => ⟨S1x1x1024, .f32⟩
  | 18 => ⟨S1x4096x1024, .f32⟩
  | 19 => ⟨S1x4096x1024, .f32⟩
  | 20 => ⟨S1x4096x1024, .f32⟩
  | 21 => ⟨S1x1024, .f32⟩
  | 22 => ⟨S1024, .f32⟩
  | 23 => ⟨S1x1x1024, .f32⟩
  | 24 => ⟨S1x4096x1024, .f32⟩
  | 25 => ⟨S1x4096x1024, .f32⟩
  | 26 => ⟨S1x4096x1024, .f32⟩
  | 27 => ⟨S1x4096x1024, .f32⟩
  | 28 => ⟨S1x1024, .f32⟩
  | 29 => ⟨S1024, .f32⟩
  | 30 => ⟨S1x1x1024, .f32⟩
  | 31 => ⟨S1x4096x1024, .f32⟩
  | 32 => ⟨S1x4096x1024, .f32⟩
  | 33 => ⟨S1x4096x1024, .f32⟩
  | 34 => ⟨S1x4096x1024, .f32⟩
  | 35 => ⟨S1x1024, .f32⟩
  | 36 => ⟨S1024, .f32⟩
  | 37 => ⟨S1x1x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S1x4096x1024, .f32⟩
  | 43 => ⟨S_, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S1x4096x1024, .f32⟩
  | 53 => ⟨S1x4096x1024, .f32⟩
  | 54 => ⟨S4096x1024, .f32⟩
  | 55 => ⟨S1x4096x1024, .f32⟩
  | 56 => ⟨S1x4096x1024, .f32⟩
  | 57 => ⟨S1x4096x1024, .f32⟩
  | 58 => ⟨S1x4096x1024, .f32⟩
  | 59 => ⟨S1x4096x1024, .f32⟩
  | 60 => ⟨S1x4096x1024, .f32⟩
  | 61 => ⟨S_, .f32⟩
  | 62 => ⟨S1x1024, .f32⟩
  | 63 => ⟨S1x1x1024, .f32⟩
  | 64 => ⟨S1x4096x1024, .f32⟩
  | 65 => ⟨S1x4096x1024, .f32⟩
  | 66 => ⟨S_, .f32⟩
  | 67 => ⟨S1024, .f32⟩
  | 68 => ⟨S1x1024, .f32⟩
  | 69 => ⟨S_, .f32⟩
  | 70 => ⟨S4x1024, .f32⟩
  | 71 => ⟨S_, .f32⟩
  | 72 => ⟨S1x4099x1024, .f32⟩
  | 73 => ⟨S1x4096x1024, .f32⟩
  | 74 => ⟨S_, .f32⟩
  | 75 => ⟨S1x1024, .f32⟩
  | 76 => ⟨S1x1x1024, .f32⟩
  | 77 => ⟨S1x4096x1024, .f32⟩
  | 78 => ⟨S1x4096x1024, .f32⟩
  | 79 => ⟨S_, .f32⟩
  | 80 => ⟨S1024, .f32⟩
  | 81 => ⟨S1x1024, .f32⟩
  | 82 => ⟨S_, .f32⟩
  | 83 => ⟨S4x1024, .f32⟩
  | 84 => ⟨S4x1024, .f32⟩
  | 85 => ⟨S_, .f32⟩
  | 86 => ⟨S1x4099x1024, .f32⟩
  | 87 => ⟨S1x4099x1024, .f32⟩
  | 88 => ⟨S1x4096x1024, .f32⟩
  | 89 => ⟨S_, .f32⟩
  | 90 => ⟨S1x1024, .f32⟩
  | 91 => ⟨S1x1x1024, .f32⟩
  | 92 => ⟨S1x4096x1024, .f32⟩
  | 93 => ⟨S1x4096x1024, .f32⟩
  | 94 => ⟨S_, .f32⟩
  | 95 => ⟨S1024, .f32⟩
  | 96 => ⟨S1x1024, .f32⟩
  | 97 => ⟨S_, .f32⟩
  | 98 => ⟨S4x1024, .f32⟩
  | 99 => ⟨S4x1024, .f32⟩
  | 100 => ⟨S_, .f32⟩
  | 101 => ⟨S1x4099x1024, .f32⟩
  | 102 => ⟨S1x4099x1024, .f32⟩
  | 103 => ⟨S_, .f32⟩
  | 104 => ⟨S1x1024, .f32⟩
  | 105 => ⟨S1x1x1024, .f32⟩
  | 106 => ⟨S_, .f32⟩
  | 107 => ⟨S1024, .f32⟩
  | 108 => ⟨S1x4096x1024, .f32⟩
  | 109 => ⟨S_, .f32⟩
  | 110 => ⟨S1x1024, .f32⟩
  | 111 => ⟨S1x1x1024, .f32⟩
  | 112 => ⟨S1x4096x1024, .f32⟩
  | 113 => ⟨S1x4096x1024, .f32⟩
  | 114 => ⟨S_, .f32⟩
  | 115 => ⟨S1024, .f32⟩
  | 116 => ⟨S1x1024, .f32⟩
  | 117 => ⟨S_, .f32⟩
  | 118 => ⟨S4x1024, .f32⟩
  | 119 => ⟨S4x1024, .f32⟩
  | 120 => ⟨S_, .f32⟩
  | 121 => ⟨S1x4099x1024, .f32⟩
  | 122 => ⟨S1x4099x1024, .f32⟩
  | 123 => ⟨S1x3x1024, .f32⟩
  | 124 => ⟨S1x4096x1024, .f32⟩
  | 125 => ⟨S_, .f32⟩
  | 126 => ⟨S4096x1024, .f32⟩
  | 127 => ⟨S4096x1024, .bf16⟩
  | _ => ⟨S4096x2824, .f32⟩

abbrev hbmTy0_1 (i : Nat) : BufTy := match i % 128 with
  | 0 => ⟨S1x1024, .f32⟩
  | _ => ⟨S4096x2824, .f32⟩

abbrev hbmTy (i : Nat) : BufTy := match i / 128 with
  | 0 => hbmTy0_0 i
  | 1 => hbmTy0_1 i
  | _ => ⟨S4096x2824, .f32⟩

abbrev bufTy : (tb : Table) → Fin (tcTables nBuf tb) → BufTy
  | .hbm, ⟨i, _⟩ => hbmTy i
  | _, _ => ⟨S4096x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_v36 : Ref sig .tc := ⟨.hbm, 54, rfl⟩
abbrev main_v37 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]
-- ==== FfnBwd.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S4096x2816 : Shape := ⟨2, ![4096, 2816]⟩
abbrev S3x2816 : Shape := ⟨2, ![3, 2816]⟩
abbrev S1x2816 : Shape := ⟨2, ![1, 2816]⟩
abbrev S128x1024 : Shape := ⟨2, ![128, 1024]⟩
abbrev S1024x128 : Shape := ⟨2, ![1024, 128]⟩
abbrev S3x128 : Shape := ⟨2, ![3, 128]⟩
abbrev S1x128 : Shape := ⟨2, ![1, 128]⟩
abbrev S4096x128 : Shape := ⟨2, ![4096, 128]⟩
abbrev S_ : Shape := ⟨0, ![]⟩
abbrev S1024x256 : Shape := ⟨2, ![1024, 256]⟩
abbrev S4096x256 : Shape := ⟨2, ![4096, 256]⟩
abbrev S128 : Shape := ⟨1, ![128]⟩

abbrev nBuf : Space → Nat
  | .hbm => 19
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S4096x1024, .f32⟩
  | .hbm, ⟨6, _⟩ => ⟨S4096x1024, .bf16⟩
  | .hbm, ⟨7, _⟩ => ⟨S2816x1024, .bf16⟩
  | .hbm, ⟨8, _⟩ => ⟨S4096x1024, .bf16⟩
  | .hbm, ⟨9, _⟩ => ⟨S1024x5632, .bf16⟩
  | .hbm, ⟨10, _⟩ => ⟨S1x5632, .f32⟩
  | .hbm, ⟨11, _⟩ => ⟨S4096x2816, .bf16⟩
  | .hbm, ⟨12, _⟩ => ⟨S4096x2816, .bf16⟩
  | .hbm, ⟨13, _⟩ => ⟨S3x2816, .f32⟩
  | .hbm, ⟨14, _⟩ => ⟨S3x2816, .f32⟩
  | .hbm, ⟨15, _⟩ => ⟨S1x2816, .f32⟩
  | .hbm, ⟨16, _⟩ => ⟨S1x2816, .f32⟩
  | .hbm, ⟨17, _⟩ => ⟨S3x5632, .f32⟩
  | .hbm, ⟨18, _⟩ => ⟨S1x5632, .f32⟩
  | .local _ .vmem, ⟨0, _⟩ => ⟨S128x1024, .bf16⟩
  | .local _ .vmem, ⟨1, _⟩ => ⟨S128x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S3x128, .f32⟩
  | .local _ .vmem, ⟨19, _⟩ => ⟨S3x128, .f32⟩
  | .local _ .vmem, ⟨20, _⟩ => ⟨S3x128, .f32⟩
  | .local _ .vmem, ⟨21, _⟩ => ⟨S3x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S4096x1024, .bf16⟩
  | .local _ .vmem, ⟨27, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![22], ![false]⟩

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnBwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== FfnRefIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4096x5632 : Shape := ⟨2, ![4096, 5632]⟩
abbrev S1x4096x5632 : Shape := ⟨3, ![1, 4096, 5632]⟩
abbrev S_ : Shape := ⟨0, ![]⟩
abbrev S1x2x5632 : Shape := ⟨3, ![1, 2, 5632]⟩
abbrev S1x4098x5632 : Shape := ⟨3, ![1, 4098, 5632]⟩
abbrev S1x5632 : Shape := ⟨2, ![1, 5632]⟩
abbrev S1x1x5632 : Shape := ⟨3, ![1, 1, 5632]⟩
abbrev S1x4096x2816 : Shape := ⟨3, ![1, 4096, 2816]⟩
abbrev S1x4096x1024 : Shape := ⟨3, ![1, 4096, 1024]⟩
abbrev S4096x2816 : Shape := ⟨2, ![4096, 2816]⟩

abbrev nBuf : Space → Nat
  | .hbm => 152
  | .vmem => 0
  | .smem => 0
  | _ => 0

abbrev hbmTy0_0 (i : Nat) : BufTy := match i % 128 with
  | 0 => ⟨S4096x1024, .f32⟩
  | 1 => ⟨S1024x5632, .f32⟩
  | 2 => ⟨S3x5632, .f32⟩
  | 3 => ⟨S5632, .f32⟩
  | 4 => ⟨S2816x1024, .f32⟩
  | 5 => ⟨S4096x1024, .f32⟩
  | 6 => ⟨S4096x5632, .f32⟩
  | 7 => ⟨S1x4096x5632, .f32⟩
  | 8 => ⟨S_, .f32⟩
  | 9 => ⟨S1x2x5632, .f32⟩
  | 10 => ⟨S1x4098x5632, .f32⟩
  | 11 => ⟨S_, .f32⟩
  | 12 => ⟨S1x2x5632, .f32⟩
  | 13 => ⟨S1x4096x5632, .f32⟩
  | 14 => ⟨S1x5632, .f32⟩
  | 15 => ⟨S5632, .f32⟩
  | 16 => ⟨S1x1x5632, .f32⟩
  | 17 => ⟨S1x4096x5632, .f32⟩
  | 18 => ⟨S1x4096x5632, .f32⟩
  | 19 => ⟨S1x1x5632, .f32⟩
  | 20 => ⟨S1x4096x5632, .f32⟩
  | 21 => ⟨S1x4096x5632, .f32⟩
  | 22 => ⟨S1x4096x5632, .f32⟩
  | 23 => ⟨S1x5632, .f32⟩
  | 24 => ⟨S5632, .f32⟩
  | 25 => ⟨S1x1x5632, .f32⟩
  | 26 => ⟨S1x4096x5632, .f32⟩
  | 27 => ⟨S1x4096x5632, .f32⟩
  | 28 => ⟨S1x4096x5632, .f32⟩
  | 29 => ⟨S1x4096x5632, .f32⟩
  | 30 => ⟨S1x5632, .f32⟩
  | 31 => ⟨S5632, .f32⟩
  | 32 => ⟨S1x1x5632, .f32⟩
  | 33 => ⟨S1x4096x5632, .f32⟩
  | 34 => ⟨S1x4096x5632, .f32⟩
  | 35 => ⟨S1x4096x5632, .f32⟩
  | 36 => ⟨S1x4096x2816, .f32⟩
  | 37 => ⟨S1x4096x2816, .f32⟩
  | 38 => ⟨S1x4096x2816, .f32⟩
  | 39 => ⟨S1x4096x2816, .f32⟩
  | 40 => ⟨S1x4096x2816, .f32⟩
  | 41 => ⟨S_, .f32⟩
  | 42 => ⟨S1x4096x2816, .f32⟩
  | 43 => ⟨S1x4096x2816, .f32⟩
  | 44 => ⟨S_, .f32⟩
  | 45 => ⟨S1x4096x2816, .f32⟩
  | 46 => ⟨S1x4096x2816, .f32⟩
  | 47 => ⟨S_, .f32⟩
  | 48 => ⟨S1x4096x2816, .f32⟩
  | 49 => ⟨S1x4096x2816, .f32⟩
  | 50 => ⟨S1x4096x2816, .f32⟩
  | 51 => ⟨S_, .f32⟩
  | 52 => ⟨S1x4096x2816, .f32⟩
  | 53 => ⟨S1x4096x2816, .f32⟩
  | 54 => ⟨S1x4096x2816, .f32⟩
  | 55 => ⟨S_, .f32⟩
  | 56 => ⟨S1x4096x2816, .f32⟩
  | 57 => ⟨S1x4096x2816, .f32⟩
  | 58 => ⟨S_, .f32⟩
  | 59 => ⟨S1x4096x2816, .f32⟩
  | 60 => ⟨S1x4096x2816, .f32⟩
  | 61 => ⟨S1x4096x2816, .f32⟩
  | 62 => ⟨S_, .f32⟩
  | 63 => ⟨S1x4096x2816, .f32⟩
  | 64 => ⟨S1x4096x2816, .f32⟩
  | 65 => ⟨S_, .f32⟩
  | 66 => ⟨S1x4096x2816, .f32⟩
  | 67 => ⟨S1x4096x2816, .f32⟩
  | 68 => ⟨S1x4096x2816, .f32⟩
  | 69 => ⟨S1x4096x2816, .f32⟩
  | 70 => ⟨S1x4096x1024, .f32⟩
  | 71 => ⟨S4096x1024, .f32⟩
  | 72 => ⟨S1x4096x1024, .f32⟩
  | 73 => ⟨S1x4096x2816, .f32⟩
  | 74 => ⟨S1x4096x2816, .f32⟩
  | 75 => ⟨S1x4096x2816, .f32⟩
  | 76 => ⟨S1x4096x2816, .f32⟩
  | 77 => ⟨S1x4096x2816, .f32⟩
  | 78 => ⟨S_, .f32⟩
  | 79 => ⟨S1x4096x2816, .f32⟩
  | 80 => ⟨S1x4096x2816, .f32⟩
  | 81 => ⟨S1x4096x2816, .f32⟩
  | 82 => ⟨S_, .f32⟩
  | 83 => ⟨S1x4096x2816, .f32⟩
  | 84 => ⟨S1x4096x2816, .f32⟩
  | 85 => ⟨S1x4096x2816, .f32⟩
  | 86 => ⟨S_, .f32⟩
  | 87 => ⟨S1x4096x2816, .f32⟩
  | 88 => ⟨S1x4096x2816, .f32⟩
  | 89 => ⟨S_, .f32⟩
  | 90 => ⟨S1x4096x2816, .f32⟩
  | 91 => ⟨S1x4096x2816, .f32⟩
  | 92 => ⟨S1x4096x2816, .f32⟩
  | 93 => ⟨S1x4096x2816, .f32⟩
  | 94 => ⟨S1x4096x5632, .f32⟩
  | 95 => ⟨S1x4096x5632, .f32⟩
  | 96 => ⟨S_, .f32⟩
  | 97 => ⟨S1x5632, .f32⟩
  | 98 => ⟨S1x1x5632, .f32⟩
  | 99 => ⟨S1x4096x5632, .f32⟩
  | 100 => ⟨S1x4096x5632, .f32⟩
  | 101 => ⟨S_, .f32⟩
  | 102 => ⟨S5632, .f32⟩
  | 103 => ⟨S1x5632, .f32⟩
  | 104 => ⟨S_, .f32⟩
  | 105 => ⟨S3x5632, .f32⟩
  | 106 => ⟨S_, .f32⟩
  | 107 => ⟨S1x4098x5632, .f32⟩
  | 108 => ⟨S1x4096x5632, .f32⟩
  | 109 => ⟨S_, .f32⟩
  | 110 => ⟨S1x5632, .f32⟩
  | 111 => ⟨S1x1x5632, .f32⟩
  | 112 => ⟨S1x4096x5632, .f32⟩
  | 113 => ⟨S1x4096x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S3x5632, .f32⟩
  | 120 => ⟨S_, .f32⟩
  | 121 => ⟨S1x4098x5632, .f32⟩
  | 122 => ⟨S1x4098x5632, .f32⟩
  | 123 => ⟨S_, .f32⟩
  | 124 => ⟨S1x5632, .f32⟩
  | 125 => ⟨S1x1x5632, .f32⟩
  | 126 => ⟨S_, .f32⟩
  | 127 => ⟨S5632, .f32⟩
  | _ => ⟨S4096x1024, .f32⟩

abbrev hbmTy0_1 (i : Nat) : BufTy := match i % 128 with
  | 0 => ⟨S1x4096x5632, .f32⟩
  | 1 => ⟨S_, .f32⟩
  | 2 => ⟨S1x5632, .f32⟩
  | 3 => ⟨S1x1x5632, .f32⟩
  | 4 => ⟨S1x4096x5632, .f32⟩
  | 5 => ⟨S1x4096x5632, .f32⟩
  | 6 => ⟨S_, .f32⟩
  | 7 => ⟨S5632, .f32⟩
  | 8 => ⟨S1x5632, .f32⟩
  | 9 => ⟨S_, .f32⟩
  | 10 => ⟨S3x5632, .f32⟩
  | 11 => ⟨S3x5632, .f32⟩
  | 12 => ⟨S_, .f32⟩
  | 13 => ⟨S1x4098x5632, .f32⟩
  | 14 => ⟨S1x4098x5632, .f32⟩
  | 15 => ⟨S1x2x5632, .f32⟩
  | 16 => ⟨S1x4096x5632, .f32⟩
  | 17 => ⟨S_, .f32⟩
  | 18 => ⟨S4096x5632, .f32⟩
  | 19 => ⟨S4096x2816, .f32⟩
  | 20 => ⟨S4096x2816, .bf16⟩
  | 21 => ⟨S4096x2816, .f32⟩
  | 22 => ⟨S4096x2816, .bf16⟩
  | 23 => ⟨S1x5632, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_v90 : Ref sig .tc := ⟨.hbm, 116, rfl⟩
abbrev main_cst_19 : Ref sig .tc := ⟨.hbm, 117, rfl⟩
abbrev main_v91 : Ref sig .tc := ⟨.hbm, 118, rfl⟩
abbrev main_v92 : Ref sig .tc := ⟨.hbm, 119, rfl⟩
abbrev main_cst_20 : Ref sig .tc := ⟨.hbm, 120, rfl⟩
abbrev main_v93 : Ref sig .tc := ⟨.hbm, 121, rfl⟩
abbrev main_v94 : Ref sig .tc := ⟨.hbm, 122, rfl⟩
abbrev main_cst_21 : Ref sig .tc := ⟨.hbm, 123, rfl⟩
abbrev main_v95 : Ref sig .tc := ⟨.hbm, 124, rfl⟩
abbrev main_v96 : Ref sig .tc := ⟨.hbm, 125, rfl⟩
abbrev main_cst_22 : Ref sig .tc := ⟨.hbm, 126, rfl⟩
abbrev main_v97 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_24 : Ref sig .tc := ⟨.hbm, 134, rfl⟩
abbrev main_v103 : Ref sig .tc := ⟨.hbm, 135, rfl⟩
abbrev main_v104 : Ref sig .tc := ⟨.hbm, 136, rfl⟩
abbrev main_cst_25 : Ref sig .tc := ⟨.hbm, 137, rfl⟩
abbrev main_v105 : Ref sig .tc := ⟨.hbm, 138, rfl⟩
abbrev main_v106 : Ref sig .tc := ⟨.hbm, 139, rfl⟩
abbrev main_cst_26 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_27 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩

abbrev nD : Nat := 1
abbrev τ : Topo := Topo.v7x

variable {F : FTy → Type} [FloatOps F]
-- ==== LossBwd.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S4096 : Shape := ⟨1, ![4096]⟩
abbrev S4096x1 : Shape := ⟨2, ![4096, 1]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 46
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S1x1024, .f32⟩
  | .hbm, ⟨44, _⟩ => ⟨S1x1024, .f32⟩
  | .hbm, ⟨45, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_26 : BitVec 32 := 0#32
  let v65 : BitVec 1 := Scalar.cmpi .ne v64 c0_i32_26
  v65

def k0_cond2 (i : grid0.Coords) : BitVec 1 :=
  let arg0 : BitVec 32 := BitVec.ofNat 32 (i 0).val
  let c0_i32_27 : BitVec 32 := 0#32
  let v66 : BitVec 1 := Scalar.cmpi .sgt arg0 c0_i32_27
  let v67 : BitVec 32 := Scalar.extui v66
  let c0_i32_28 : BitVec 32 := 0#32
  let v68 : BitVec 1 := Scalar.cmpi .ne v67 c0_i32_28
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .bf16⟩
  | .hbm, ⟨115, _⟩ => ⟨S1x1024, .f32⟩
  | .hbm, ⟨116, _⟩ => ⟨S1x1024, .f32⟩
  | .hbm, ⟨117, _⟩ => ⟨S8x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== H2Bwd.lean ====
abbrev S4096x1024 : Shape := ⟨2, ![4096, 1024]⟩
abbrev S1024x1024 : Shape := ⟨2, ![1024, 1024]⟩
abbrev S1024 : Shape := ⟨1, ![1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S1x1024 : Shape := ⟨2, ![1, 1024]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩

abbrev nBuf : Space → Nat
  | .hbm => 23
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x2816, .f32⟩
  | .hbm, ⟨9, _⟩ => ⟨S4096x2816, .bf16⟩
  | .hbm, ⟨10, _⟩ => ⟨S4096x2816, .f32⟩
  | .hbm, ⟨11, _⟩ => ⟨S4096x2816, .bf16⟩
  | .hbm, ⟨12, _⟩ => ⟨S1024x5632, .bf16⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_30 : BitVec 32 := 0#32
  let v63 : BitVec 1 := Scalar.cmpi .ne v62 c0_i32_30
  v63

def k0_cond2 (i : grid0.Coords) : BitVec 1 :=
  let arg0 : BitVec 32 := BitVec.ofNat 32 (i 0).val
  let c0_i32_31 : BitVec 32 := 0#32
  let v64 : BitVec 1 := Scalar.cmpi .sgt arg0 c0_i32_31
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== H2RefIdeal.lean ====
abbrev S4096x1024 : Shape := ⟨2, ![4096, 1024]⟩
abbrev S1024x1024 : Shape := ⟨2, ![1024, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x5632, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .bf16⟩
  | .hbm, ⟨103, _⟩ => ⟨S1x1024, .f32⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== H1Bwd.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S1024x1024, .bf16⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_25 : BitVec 32 := 0#32
  let v57 : BitVec 1 := Scalar.cmpi .ne v56 c0_i32_25
  v57

def k0_cond2 (i : grid0.Coords) : BitVec 1 :=
  let arg0 : BitVec 32 := BitVec.ofNat 32 (i 0).val
  let c0_i32_26 : BitVec 32 := 0#32
  let v58 : BitVec 1 := Scalar.cmpi .sgt arg0 c0_i32_26
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== H1RefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .bf16⟩
  | .hbm, ⟨103, _⟩ => ⟨S1x1024, .f32⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== H0Bwd.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1024x2824 : Shape := ⟨2, ![1024, 2824]⟩
abbrev S4096x2824 : Shape := ⟨2, ![4096, 2824]⟩
abbrev S4096x768 : Shape := ⟨2, ![4096, 768]⟩
abbrev S4096x1032 : Shape := ⟨2, ![4096, 1032]⟩
abbrev S_ : Shape := ⟨0, ![]⟩
abbrev S4096x120 : Shape := ⟨2, ![4096, 120]⟩
abbrev S4096x1152 : Shape := ⟨2, ![4096, 1152]⟩
abbrev S1024x248 : Shape := ⟨2, ![1024, 248]⟩
abbrev S1024x2048 : Shape := ⟨2, ![1024, 2048]⟩
abbrev S1024x768 : Shape := ⟨2, ![1024, 768]⟩
abbrev S1024x8 : Shape := ⟨2, ![1024, 8]⟩
abbrev S1024x3072 : Shape := ⟨2, ![1024, 3072]⟩
abbrev S1024x1024 : Shape := ⟨2, ![1024, 1024]⟩
abbrev S1024x128 : Shape := ⟨2, ![1024, 128]⟩
abbrev S1024x1152 : Shape := ⟨2, ![1024, 1152]⟩
abbrev S1x1024 : Shape := ⟨2, ![1, 1024]⟩
abbrev S512x1024 : Shape := ⟨2, ![512, 1024]⟩
abbrev S512x1152 : Shape := ⟨2, ![512, 1152]⟩
abbrev S512x768 : Shape := ⟨2, ![512, 768]⟩
abbrev S512 : Shape := ⟨1, ![512]⟩
abbrev S512x1 : Shape := ⟨2, ![512, 1]⟩

abbrev nBuf : Space → Nat
  | .hbm => 38
  | .vmem => 20
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x2824, .f32⟩
  | .hbm, ⟨6, _⟩ => ⟨S4096x1024, .f32⟩
  | .hbm, ⟨7, _⟩ => ⟨S4096x2824, .f32⟩
  | .hbm, ⟨8, _⟩ => ⟨S4096x1024, .f32⟩
  | .hbm, ⟨9, _⟩ => ⟨S4096x1024, .bf16⟩
  | .hbm, ⟨10, _⟩ => ⟨S4096x768, .f32⟩
  | .hbm, ⟨11, _⟩ => ⟨S4096x768, .bf16⟩
  | .hbm, ⟨12, _⟩ => ⟨S4096x1032, .f32⟩
  | .hbm, ⟨13, _⟩ => ⟨S_, .f32⟩
  | .hbm, ⟨14, _⟩ => ⟨S4096x120, .f32⟩
  | .hbm, ⟨15, _⟩ => ⟨S4096x1152, .f32⟩
  | .hbm, ⟨16, _⟩ => ⟨S4096x1152, .bf16⟩
  | .hbm, ⟨17, _⟩ => ⟨S1024x2824, .bf16⟩
  | .hbm, ⟨18, _⟩ => ⟨S_, .bf16⟩
  | .hbm, ⟨19, _⟩ => ⟨S1024x248, .bf16⟩
  | .hbm, ⟨20, _⟩ => ⟨S1024x2048, .bf16⟩
  | .hbm, ⟨21, _⟩ => ⟨S1024x768, .bf16⟩
  | .hbm, ⟨22, _⟩ => ⟨S1024x8, .bf16⟩
  | .hbm, ⟨23, _⟩ => ⟨S1024x3072, .bf16⟩
  | .hbm, ⟨24, _⟩ => ⟨S1024x1024, .bf16⟩
  | .hbm, ⟨25, _⟩ => ⟨S1024x128, .bf16⟩
  | .hbm, ⟨26, _⟩ => ⟨S1024x1152, .bf16⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024x768, .bf16⟩
  | .hbm, ⟨33, _⟩ => ⟨S1x1024, .f32⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1152, .bf16⟩
  | .local _ .vmem, ⟨4, _⟩ => ⟨S512x1152, .bf16⟩
  | .local _ .vmem, ⟨5, _⟩ => ⟨S1024x1152, .bf16⟩
  | .local _ .vmem, ⟨6, _⟩ => ⟨S512x768, .bf16⟩
  | .local _ .vmem, ⟨7, _⟩ => ⟨S512x768, .bf16⟩
  | .local _ .vmem, ⟨8, _⟩ => ⟨S1024x768, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_35 : BitVec 32 := 0#32
  let v69 : BitVec 1 := Scalar.cmpi .ne v68 c0_i32_35
  v69

def k0_cond2 (i : grid0.Coords) : BitVec 1 :=
  let arg0 : BitVec 32 := BitVec.ofNat 32 (i 0).val
  let c0_i32_36 : BitVec 32 := 0#32
  let v70 : BitVec 1 := Scalar.cmpi .sgt arg0 c0_i32_36
  let v71 : BitVec 32 := Scalar.extui v70
  let c0_i32_37 : BitVec 32 := 0#32
  let v72 : BitVec 1 := Scalar.cmpi .ne v71 c0_i32_37
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== H0RefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1024x2824 : Shape := ⟨2, ![1024, 2824]⟩
abbrev S4096x2824 : Shape := ⟨2, ![4096, 2824]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x2824, .f32⟩
  | .hbm, ⟨6, _⟩ => ⟨S4096x1024, .f32⟩
  | .hbm, ⟨7, _⟩ => ⟨S4096x2824, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x2824, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .bf16⟩
  | .hbm, ⟨103, _⟩ => ⟨S1x1024, .f32⟩
  | .hbm, ⟨104, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== XaBwd.lean ====
abbrev S4096x1024 : Shape := ⟨2, ![4096, 1024]⟩
abbrev S1024x1024 : Shape := ⟨2, ![1024, 1024]⟩
abbrev S256x1024 : Shape := ⟨2, ![256, 1024]⟩
abbrev S1024x2048 : Shape := ⟨2, ![1024, 2048]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S1024x2048, .f32⟩
  | .hbm, ⟨4, _⟩ => ⟨S1024x1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S4096x1024, .bf16⟩
  | .hbm, ⟨9, _⟩ => ⟨S1024x1024, .bf16⟩
  | .hbm, ⟨10, _⟩ => ⟨S256x2048, .f32⟩
  | .hbm, ⟨11, _⟩ => ⟨S4096x1024, .bf16⟩
  | .hbm, ⟨12, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S256x2048, .f32⟩
  | .local _ .vmem, ⟨7, _⟩ => ⟨S512x1024, .bf16⟩
  | .local _ .vmem, ⟨8, _⟩ => ⟨S512x1024, .bf16⟩
  | .local _ .vmem, ⟨9, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== XaRefIdeal.lean ====
abbrev S4096x1024 : Shape := ⟨2, ![4096, 1024]⟩
abbrev S1024x1024 : Shape := ⟨2, ![1024, 1024]⟩
abbrev S256x1024 : Shape := ⟨2, ![256, 1024]⟩
abbrev S1024x2048 : Shape := ⟨2, ![1024, 2048]⟩
abbrev S256x2048 : Shape := ⟨2, ![256, 2048]⟩
abbrev S1x4096x4x256 : Shape := ⟨4, ![1, 4096, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4096x1024 : Shape := ⟨3, ![1, 4096, 1024]⟩
abbrev S1x4x256x256 : Shape := ⟨4, ![1, 4, 256, 256]⟩
abbrev S4x4096 : Shape := ⟨2, ![4, 4096]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S1024x2048, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S256x2048, .f32⟩
  | .hbm, ⟨8, _⟩ => ⟨S1x4096x4x256, .f32⟩
  | .hbm, ⟨9, _⟩ => ⟨S1x256x2048, .f32⟩
  | .hbm, ⟨10, _⟩ => ⟨S1x256x1024, .f32⟩
  | .hbm, ⟨11, _⟩ => ⟨S1x256x1024, .f32⟩
  | .hbm, ⟨12, _⟩ => ⟨S1x256x4x256, .f32⟩
  | .hbm, ⟨13, _⟩ => ⟨S1x256x4x256, .f32⟩
  | .hbm, ⟨14, _⟩ => ⟨S1x4x4096x256, .f32⟩
  | .hbm, ⟨15, _⟩ => ⟨S_, .f32⟩
  | .hbm, ⟨16, _⟩ => ⟨S1x4x4096x256, .f32⟩
  | .hbm, ⟨17, _⟩ => ⟨S1x4x4096x256, .f32⟩
  | .hbm, ⟨18, _⟩ => ⟨S_, .f32⟩
  | .hbm, ⟨19, _⟩ => ⟨S1x4x4096, .f32⟩
  | .hbm, ⟨20, _⟩ => ⟨S1x4x4096x1, .f32⟩
  | .hbm, ⟨21, _⟩ => ⟨S1x4x4096x256, .f32⟩
  | .hbm, ⟨22, _⟩ => ⟨S1x4x4096x256, .i1⟩
  | .hbm, ⟨23, _⟩ => ⟨S1x4x4096x256, .f32⟩
  | .hbm, ⟨24, _⟩ => ⟨S_, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .f32⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S1x4x4096, .i1⟩
  | .hbm, ⟨35, _⟩ => ⟨S_, .f32⟩
  | .hbm, ⟨36, _⟩ => ⟨S1x4x4096, .f32⟩
  | .hbm, ⟨37, _⟩ => ⟨S_, .f32⟩
  | .hbm, ⟨38, _⟩ => ⟨S1x4x4096, .f32⟩
  | .hbm, ⟨39, _⟩ => ⟨S_, .f32⟩
  | .hbm, ⟨40, _⟩ => ⟨S1x4x4096, .f32⟩
  | .hbm, ⟨41, _⟩ => ⟨S1x4x4096, .f32⟩
  | .hbm, ⟨42, _⟩ => ⟨S1x4x4096, .f32⟩
  | .hbm, ⟨43, _⟩ => ⟨S1x4x4096x1, .f32⟩
  | .hbm, ⟨44, _⟩ => ⟨S1x4x4096x256, .f32⟩
  | .hbm, ⟨45, _⟩ => ⟨S1x4x4096x256, .f32⟩
  | .hbm, ⟨46, _⟩ => ⟨S1x4x4096x256, .f32⟩
  | .hbm, ⟨47, _⟩ => ⟨S_, .f32⟩
  | .hbm, ⟨48, _⟩ => ⟨S1x4x4096, .f32⟩
  | .hbm, ⟨49, _⟩ => ⟨S1x4x4096x1, .f32⟩
  | .hbm, ⟨50, _⟩ => ⟨S1x4x4096x256, .f32⟩
  | .hbm, ⟨51, _⟩ => ⟨S1x4x4096x256, .f32⟩
  | .hbm, ⟨52, _⟩ => ⟨S1x4x4096x1, .f32⟩
  | .hbm, ⟨53, _⟩ => ⟨S_, .f32⟩
  | .hbm, ⟨54, _⟩ => ⟨S1x4x4096x1, .f32⟩
  | .hbm, ⟨55, _⟩ => ⟨S1x4x4096x1, .f32⟩
  | .hbm, ⟨56, _⟩ => ⟨S1x4x256x4096, .f32⟩
  | .hbm, ⟨57, _⟩ => ⟨S1x4096x4x256, .f32⟩
  | .hbm, ⟨58, _⟩ => ⟨S1x4096x1024, .f32⟩
  | .hbm, ⟨59, _⟩ => ⟨S1x4096x1024, .f32⟩
  | .hbm, ⟨60, _⟩ => ⟨S4096x1024, .f32⟩
  | .hbm, ⟨61, _⟩ => ⟨S1x4096x1024, .f32⟩
  | .hbm, ⟨62, _⟩ => ⟨S1x4096x1024, .f32⟩
  | .hbm, ⟨63, _⟩ => ⟨S1x4096x4x256, .f32⟩
  | .hbm, ⟨64, _⟩ => ⟨S1x4x256x4096, .f32⟩
  | .hbm, ⟨65, _⟩ => ⟨S1x4x4096x256, .f32⟩
  | .hbm, ⟨66, _⟩ => ⟨S1x4x256x256, .f32⟩
  | .hbm, ⟨67, _⟩ => ⟨S1x256x4x256, .f32⟩
  | .hbm, ⟨68, _⟩ => ⟨S1x4x4096x256, .f32⟩
  | .hbm, ⟨69, _⟩ => ⟨S1x4x4096x256, .f32⟩
  | .hbm, ⟨70, _⟩ => ⟨S1x4x4096x256, .f32⟩
  | .hbm, ⟨71, _⟩ => ⟨S_, .f32⟩
  | .hbm, ⟨72, _⟩ => ⟨S1x4x4096, .f32⟩
  | .hbm, ⟨73, _⟩ => ⟨S1x4x4096x1, .f32⟩
  | .hbm, ⟨74, _⟩ => ⟨S1x4x4096x1, .f32⟩
  | .hbm, ⟨75, _⟩ => ⟨S1x4x4096x256, .f32⟩
  | .hbm, ⟨76, _⟩ => ⟨S1x4x4096x256, .f32⟩
  | .hbm, ⟨77, _⟩ => ⟨S_, .f32⟩
  | .hbm, ⟨78, _⟩ => ⟨S4x4096, .f32⟩
  | .hbm, ⟨79, _⟩ => ⟨S1x4x4096, .f32⟩
  | .hbm, ⟨80, _⟩ => ⟨S1x4x4096x256, .f32⟩
  | .hbm, ⟨81, _⟩ => ⟨S1x4x4096x256, .f32⟩
  | .hbm, ⟨82, _⟩ => ⟨S1x4x4096x256, .f32⟩
  | .hbm, ⟨83, _⟩ => ⟨S_, .f32⟩
  | .hbm, ⟨84, _⟩ => ⟨S1x4x4096x256, .f32⟩
  | .hbm, ⟨85, _⟩ => ⟨S1x4x4096x256, .f32⟩
  | .hbm, ⟨86, _⟩ => ⟨S1x4x256x256, .f32⟩
  | .hbm, ⟨87, _⟩ => ⟨S1x256x4x256, .f32⟩
  | .hbm, ⟨88, _⟩ => ⟨S1x4x4096x256, .f32⟩
  | .hbm, ⟨89, _⟩ => ⟨S1x4096x4x256, .f32⟩
  | .hbm, ⟨90, _⟩ => ⟨S1x256x1024, .f32⟩
  | .hbm, ⟨91, _⟩ => ⟨S1x256x1024, .f32⟩
  | .hbm, ⟨92, _⟩ => ⟨S1x256x2048, .f32⟩
  | .hbm, ⟨93, _⟩ => ⟨S_, .f32⟩
  | .hbm, ⟨94, _⟩ => ⟨S256x2048, .f32⟩
  | .hbm, ⟨95, _⟩ => ⟨S4096x1024, .f32⟩
  | .hbm, ⟨96, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== XaFwd.lean ====
abbrev S4096x1024 : Shape := ⟨2, ![4096, 1024]⟩
abbrev S1024x1024 : Shape := ⟨2, ![1024, 1024]⟩
abbrev S256x1024 : Shape := ⟨2, ![256, 1024]⟩
abbrev S1024x2048 : Shape := ⟨2, ![1024, 2048]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S1024x2048, .f32⟩
  | .hbm, ⟨4, _⟩ => ⟨S4096x1024, .bf16⟩
  | .hbm, ⟨5, _⟩ => ⟨S1024x1024, .bf16⟩
  | .hbm, ⟨6, _⟩ => ⟨S256x2048, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S256x2048, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XaFwdRefIdeal.lean ====
abbrev S4096x1024 : Shape := ⟨2, ![4096, 1024]⟩
abbrev S1024x1024 : Shape := ⟨2, ![1024, 1024]⟩
abbrev S256x1024 : Shape := ⟨2, ![256, 1024]⟩
abbrev S1024x2048 : Shape := ⟨2, ![1024, 2048]⟩
abbrev S1x4096x4x256 : Shape := ⟨4, ![1, 4096, 4, 256]⟩
abbrev S256x2048 : Shape := ⟨2, ![256, 2048]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4096x1024 : Shape := ⟨3, ![1, 4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S1024x2048, .f32⟩
  | .hbm, ⟨4, _⟩ => ⟨S4096x1024, .f32⟩
  | .hbm, ⟨5, _⟩ => ⟨S1x4096x4x256, .f32⟩
  | .hbm, ⟨6, _⟩ => ⟨S256x2048, .f32⟩
  | .hbm, ⟨7, _⟩ => ⟨S1x256x2048, .f32⟩
  | .hbm, ⟨8, _⟩ => ⟨S1x256x1024, .f32⟩
  | .hbm, ⟨9, _⟩ => ⟨S1x256x1024, .f32⟩
  | .hbm, ⟨10, _⟩ => ⟨S1x256x4x256, .f32⟩
  | .hbm, ⟨11, _⟩ => ⟨S1x256x4x256, .f32⟩
  | .hbm, ⟨12, _⟩ => ⟨S1x4x4096x256, .f32⟩
  | .hbm, ⟨13, _⟩ => ⟨S_, .f32⟩
  | .hbm, ⟨14, _⟩ => ⟨S1x4x4096x256, .f32⟩
  | .hbm, ⟨15, _⟩ => ⟨S1x4x4096x256, .f32⟩
  | .hbm, ⟨16, _⟩ => ⟨S_, .f32⟩
  | .hbm, ⟨17, _⟩ => ⟨S1x4x4096, .f32⟩
  | .hbm, ⟨18, _⟩ => ⟨S_, .f32⟩
  | .hbm, ⟨19, _⟩ => ⟨S1x4x4096, .f32⟩
  | .hbm, ⟨20, _⟩ => ⟨S1x4x4096, .f32⟩
  | .hbm, ⟨21, _⟩ => ⟨S1x4x4096x1, .f32⟩
  | .hbm, ⟨22, _⟩ => ⟨S1x4x4096x256, .f32⟩
  | .hbm, ⟨23, _⟩ => ⟨S1x4x4096x256, .f32⟩
  | .hbm, ⟨24, _⟩ => ⟨S1x4x4096x256, .f32⟩
  | .hbm, ⟨25, _⟩ => ⟨S_, .f32⟩
  | .hbm, ⟨26, _⟩ => ⟨S1x4x4096, .f32⟩
  | .hbm, ⟨27, _⟩ => ⟨S1x4x4096x1, .f32⟩
  | .hbm, ⟨28, _⟩ => ⟨S1x4x4096x256, .f32⟩
  | .hbm, ⟨29, _⟩ => ⟨S1x4x4096x256, .f32⟩
  | .hbm, ⟨30, _⟩ => ⟨S1x4x256x4096, .f32⟩
  | .hbm, ⟨31, _⟩ => ⟨S1x4096x4x256, .f32⟩
  | .hbm, ⟨32, _⟩ => ⟨S1x4096x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== SwaFwd.lean ====
abbrev S4096x2824 : Shape := ⟨2, ![4096, 2824]⟩
abbrev S8x128x256 : Shape := ⟨3, ![8, 128, 256]⟩
abbrev S8 : Shape := ⟨1, ![8]⟩
abbrev S_ : Shape := ⟨0, ![]⟩
abbrev S4096x248 : Shape := ⟨2, ![4096, 248]⟩
abbrev S4096x2048 : Shape := ⟨2, ![4096, 2048]⟩
abbrev S4096x768 : Shape := ⟨2, ![4096, 768]⟩
abbrev S4096x8 : Shape := ⟨2, ![4096, 8]⟩
abbrev S4096x3072 : Shape := ⟨2, ![4096, 3072]⟩
abbrev S128 : Shape := ⟨1, ![128]⟩
abbrev S1x128 : Shape := ⟨2, ![1, 128]⟩
abbrev S4096x512 : Shape := ⟨2, ![4096, 512]⟩
abbrev S128x512 : Shape := ⟨2, ![128, 512]⟩
abbrev S128x128 : Shape := ⟨2, ![128, 128]⟩
abbrev S128x64 : Shape := ⟨2, ![128, 64]⟩
abbrev S1x128x64 : Shape := ⟨3, ![1, 128, 64]⟩
abbrev S8x128x64 : Shape := ⟨3, ![8, 128, 64]⟩
abbrev S2x128x64 : Shape := ⟨3, ![2, 128, 64]⟩
abbrev S8x128x128 : Shape := ⟨3, ![8, 128, 128]⟩
abbrev S8x1x128 : Shape := ⟨3, ![8, 1, 128]⟩
abbrev S1x1x128 : Shape := ⟨3, ![1, 1, 128]⟩
abbrev S8x1 : Shape := ⟨2, ![8, 1]⟩
abbrev S8x1x1 : Shape := ⟨3, ![8, 1, 1]⟩
abbrev S8x128 : Shape := ⟨2, ![8, 128]⟩
abbrev S8x128x1 : Shape := ⟨3, ![8, 128, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x2824, .f32⟩
  | .hbm, ⟨1, _⟩ => ⟨S8x128x256, .f32⟩
  | .hbm, ⟨2, _⟩ => ⟨S8, .f32⟩
  | .hbm, ⟨3, _⟩ => ⟨S_, .f32⟩
  | .hbm, ⟨4, _⟩ => ⟨S4096x248, .f32⟩
  | .hbm, ⟨5, _⟩ => ⟨S4096x2048, .f32⟩
  | .hbm, ⟨6, _⟩ => ⟨S4096x768, .f32⟩
  | .hbm, ⟨7, _⟩ => ⟨S4096x8, .f32⟩
  | .hbm, ⟨8, _⟩ => ⟨S4096x3072, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S4096x512, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x256, .f32⟩
  | .local _ .vmem, ⟨11, _⟩ => ⟨S1x128, .f32⟩
  | .local _ .vmem, ⟨12, _⟩ => ⟨S128x512, .bf16⟩
  | .local _ .vmem, ⟨13, _⟩ => ⟨S128x512, .bf16⟩
  | _, _ => ⟨S4096x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c20_i32 : BitVec 32 := 20#32
  let c0_i32_0 : BitVec 32 := 0#32
  ![v1.toNat, c20_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c21_i32 : BitVec 32 := 21#32
  let c0_i32_0 : BitVec 32 := 0#32
  ![v1.toNat, c21_i32.toNat]

def cc0_transform_4 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwaFwdRefIdeal.lean ====
abbrev S4096x2824 : Shape := ⟨2, ![4096, 2824]⟩
abbrev S8x128x256 : Shape := ⟨3, ![8, 128, 256]⟩
abbrev S8 : Shape := ⟨1, ![8]⟩
abbrev S4096x512 : Shape := ⟨2, ![4096, 512]⟩
abbrev S1x4096x512 : Shape := ⟨3, ![1, 4096, 512]⟩
abbrev S4096x128 : Shape := ⟨2, ![4096, 128]⟩
abbrev S1x4096x128 : Shape := ⟨3, ![1, 4096, 128]⟩
abbrev S1x32x128x2x4x64 : Shape := ⟨6, ![1, 32, 128, 2, 4, 64]⟩
abbrev S1x32x128x2x64 : Shape := ⟨5, ![1, 32, 128, 2, 64]⟩
abbrev S_ : Shape := ⟨0, ![]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x128x256 : Shape := ⟨4, ![2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x4x128x256 : Shape := ⟨6, ![1, 1, 2, 4, 128, 256]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩

abbrev nBuf : Space → Nat
  | .hbm => 97
  | .vmem => 0
  | .smem => 0
  | _ => 0

abbrev bufTy : (tb : Table) → Fin (tcTables nBuf tb) → BufTy
  | .hbm, ⟨0, _⟩ => ⟨S4096x2824, .f32⟩
  | .hbm, ⟨1, _⟩ => ⟨S8x128x256, .f32⟩
  | .hbm, ⟨2, _⟩ => ⟨S8, .f32⟩
  | .hbm, ⟨3, _⟩ => ⟨S4096x512, .f32⟩
  | .hbm, ⟨4, _⟩ => ⟨S1x4096x512, .f32⟩
  | .hbm, ⟨5, _⟩ => ⟨S4096x128, .f32⟩
  | .hbm, ⟨6, _⟩ => ⟨S1x4096x128, .f32⟩
  | .hbm, ⟨7, _⟩ => ⟨S4096x128, .f32⟩
  | .hbm, ⟨8, _⟩ => ⟨S1x4096x128, .f32⟩
  | .hbm, ⟨9, _⟩ => ⟨S1x32x128x2x4x64, .f32⟩
  | .hbm, ⟨10, _⟩ => ⟨S1x32x128x2x64, .f32⟩
  | .hbm, ⟨11, _⟩ => ⟨S_, .f32⟩
  | .hbm, ⟨12, _⟩ => ⟨S1x1x128x2x64, .f32⟩
  | .hbm, ⟨13, _⟩ => ⟨S1x31x128x2x64, .f32⟩
  | .hbm, ⟨14, _⟩ => ⟨S1x32x128x2x64, .f32⟩
  | .hbm, ⟨15, _⟩ => ⟨S1x32x256x2x64, .f32⟩
  | .hbm, ⟨16, _⟩ => ⟨S1x32x128x2x64, .f32⟩
  | .hbm, ⟨17, _⟩ => ⟨S_, .f32⟩
  | .hbm, ⟨18, _⟩ => ⟨S1x1x128x2x64, .f32⟩
  | .hbm, ⟨19, _⟩ => ⟨S1x31x128x2x64, .f32⟩
  | .hbm, ⟨20, _⟩ => ⟨S1x32x128x2x64, .f32⟩
  | .hbm, ⟨21, _⟩ => ⟨S1x32x256x2x64, .f32⟩
  | .hbm, ⟨22, _⟩ => ⟨S1x32x2x256x128x4, .f32⟩
  | .hbm, ⟨23, _⟩ => ⟨S1x32x2x4x128x256, .f32⟩
  | .hbm, ⟨24, _⟩ => ⟨S_, .f32⟩
  | .hbm, ⟨25, _⟩ => ⟨S1x32x2x4x128x256, .f32⟩
  | .hbm, ⟨26, _⟩ => ⟨S1x32x2x4x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S2x4x128x256, .f32⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .i1⟩
  | .hbm, ⟨57, _⟩ => ⟨S_, .i32⟩
  | .hbm, ⟨58, _⟩ => ⟨S32x1x256, .i32⟩
  | .hbm, ⟨59, _⟩ => ⟨S32x1x256, .i1⟩
  | .hbm, ⟨60, _⟩ => ⟨S1x128x256, .i1⟩
  | .hbm, ⟨61, _⟩ => ⟨S32x128x256, .i1⟩
  | .hbm, ⟨62, _⟩ => ⟨S32x128x256, .i1⟩
  | .hbm, ⟨63, _⟩ => ⟨S32x128x256, .i1⟩
  | .hbm, ⟨64, _⟩ => ⟨S1x32x1x1x128x256, .i1⟩
  | .hbm, ⟨65, _⟩ => ⟨S1x1x2x4x128x256, .f32⟩
  | .hbm, ⟨66, _⟩ => ⟨S1x32x2x4x128x256, .f32⟩
  | .hbm, ⟨67, _⟩ => ⟨S1x32x2x4x128x256, .f32⟩
  | .hbm, ⟨68, _⟩ => ⟨S_, .f32⟩
  | .hbm, ⟨69, _⟩ => ⟨S_, .f32⟩
  | .hbm, ⟨70, _⟩ => ⟨S1x32x2x4x128x256, .i1⟩
  | .hbm, ⟨71, _⟩ => ⟨S1x32x2x4x128x256, .f32⟩
  | .hbm, ⟨72, _⟩ => ⟨S1x32x2x4x128x256, .f32⟩
  | .hbm, ⟨73, _⟩ => ⟨S2x4, .f32⟩
  | .hbm, ⟨74, _⟩ => ⟨S1x1x2x4x1x1, .f32⟩
  | .hbm, ⟨75, _⟩ => ⟨S_, .f32⟩
  | .hbm, ⟨76, _⟩ => ⟨S1x32x2x4x128, .f32⟩
  | .hbm, ⟨77, _⟩ => ⟨S1x32x2x4x128x1, .f32⟩
  | .hbm, ⟨78, _⟩ => ⟨S1x32x2x4x128x1, .f32⟩
  | .hbm, ⟨79, _⟩ => ⟨S1x32x2x4x128x1, .f32⟩
  | .hbm, ⟨80, _⟩ => ⟨S1x32x2x4x128x256, .f32⟩
  | .hbm, ⟨81, _⟩ => ⟨S1x32x2x4x128x256, .f32⟩
  | .hbm, ⟨82, _⟩ => ⟨S1x32x2x4x128x256, .f32⟩
  | .hbm, ⟨83, _⟩ => ⟨S_, .f32⟩
  | .hbm, ⟨84, _⟩ => ⟨S1x32x2x4x128, .f32⟩
  | .hbm, ⟨85, _⟩ => ⟨S1x32x2x4x128x1, .f32⟩
  | .hbm, ⟨86, _⟩ => ⟨S1x32x2x4x128x1, .f32⟩
  | .hbm, ⟨87, _⟩ => ⟨S1x32x2x4x128x1, .f32⟩
  | .hbm, ⟨88, _⟩ => ⟨S1x32x2x4x128x1, .f32⟩
  | .hbm, ⟨89, _⟩ => ⟨S1x32x2x4x128x1, .f32⟩
  | .hbm, ⟨90, _⟩ => ⟨S1x32x2x4x128x256, .f32⟩
  | .hbm, ⟨91, _⟩ => ⟨S1x32x2x4x128x256, .f32⟩
  | .hbm, ⟨92, _⟩ => ⟨S1x32x2x64x4x128, .f32⟩
  | .hbm, ⟨93, _⟩ => ⟨S1x32x128x2x4x64, .f32⟩
  | .hbm, ⟨94, _⟩ => ⟨S1x4096x512, .f32⟩
  | .hbm, ⟨95, _⟩ => ⟨S4096x512, .f32⟩
  | .hbm, ⟨96, _⟩ => ⟨S4096x512, .bf16⟩
  | _, _ => ⟨S4096x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== SwaBwd.lean ====
abbrev S4096x2824 : Shape := ⟨2, ![4096, 2824]⟩
abbrev S8x128x256 : Shape := ⟨3, ![8, 128, 256]⟩
abbrev S8 : Shape := ⟨1, ![8]⟩
abbrev S4096x1024 : Shape := ⟨2, ![4096, 1024]⟩
abbrev S_ : Shape := ⟨0, ![]⟩
abbrev S4096x248 : Shape := ⟨2, ![4096, 248]⟩
abbrev S4096x2048 : Shape := ⟨2, ![4096, 2048]⟩
abbrev S4096x768 : Shape := ⟨2, ![4096, 768]⟩
abbrev S4096x8 : Shape := ⟨2, ![4096, 8]⟩
abbrev S4096x3072 : Shape := ⟨2, ![4096, 3072]⟩
abbrev S128 : Shape := ⟨1, ![128]⟩
abbrev S1x128 : Shape := ⟨2, ![1, 128]⟩
abbrev S128x512 : Shape := ⟨2, ![128, 512]⟩
abbrev S128x128 : Shape := ⟨2, ![128, 128]⟩
abbrev S128x768 : Shape := ⟨2, ![128, 768]⟩
abbrev S128x64 : Shape := ⟨2, ![128, 64]⟩
abbrev S1x128x64 : Shape := ⟨3, ![1, 128, 64]⟩
abbrev S8x128x64 : Shape := ⟨3, ![8, 128, 64]⟩
abbrev S2x128x64 : Shape := ⟨3, ![2, 128, 64]⟩
abbrev S8x128x128 : Shape := ⟨3, ![8, 128, 128]⟩
abbrev S8x1x128 : Shape := ⟨3, ![8, 1, 128]⟩
abbrev S1x1x128 : Shape := ⟨3, ![1, 1, 128]⟩
abbrev S8x1 : Shape := ⟨2, ![8, 1]⟩
abbrev S8x1x1 : Shape := ⟨3, ![8, 1, 1]⟩
abbrev S8x128 : Shape := ⟨2, ![8, 128]⟩
abbrev S8x128x1 : Shape := ⟨3, ![8, 128, 1]⟩

abbrev nBuf : Space → Nat
  | .hbm => 17
  | .vmem => 20
  | .smem => 0
  | _ => 0

abbrev bufTy : (tb : Table) → Fin (tcTables nBuf tb) → BufTy
  | .hbm, ⟨0, _⟩ => ⟨S4096x2824, .f32⟩
  | .hbm, ⟨1, _⟩ => ⟨S8x128x256, .f32⟩
  | .hbm, ⟨2, _⟩ => ⟨S8, .f32⟩
  | .hbm, ⟨3, _⟩ => ⟨S4096x1024, .f32⟩
  | .hbm, ⟨4, _⟩ => ⟨S_, .f32⟩
  | .hbm, ⟨5, _⟩ => ⟨S4096x248, .f32⟩
  | .hbm, ⟨6, _⟩ => ⟨S4096x2048, .f32⟩
  | .hbm, ⟨7, _⟩ => ⟨S4096x768, .f32⟩
  | .hbm, ⟨8, _⟩ => ⟨S4096x8, .f32⟩
  | .hbm, ⟨9, _⟩ => ⟨S4096x3072, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S4096x768, .bf16⟩
  | .hbm, ⟨15, _⟩ => ⟨S8x128x256, .f32⟩
  | .hbm, ⟨16, _⟩ => ⟨S1x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x256, .f32⟩
  | .local _ .vmem, ⟨13, _⟩ => ⟨S1x128, .f32⟩
  | .local _ .vmem, ⟨14, _⟩ => ⟨S128x768, .bf16⟩
  | .local _ .vmem, ⟨15, _⟩ => ⟨S128x768, .bf16⟩
  | .local _ .vmem, ⟨16, _⟩ => ⟨S8x128x256, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | _, _ => ⟨S4096x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c20_i32 : BitVec 32 := 20#32
  let c0_i32_0 : BitVec 32 := 0#32
  ![v1.toNat, c20_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c20_i32 : BitVec 32 := 20#32
  let c0_i32 : BitVec 32 := 0#32
  ![v0.toNat, c20_i32.toNat]

def cc0_transform_4 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c21_i32 : BitVec 32 := 21#32
  let c0_i32_0 : BitVec 32 := 0#32
  ![v1.toNat, c21_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c21_i32 : BitVec 32 := 21#32
  let c0_i32 : BitVec 32 := 0#32
  ![v0.toNat, c21_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SwaRefIdeal.lean ====
abbrev S4096x2824 : Shape := ⟨2, ![4096, 2824]⟩
abbrev S8x128x256 : Shape := ⟨3, ![8, 128, 256]⟩
abbrev S8 : Shape := ⟨1, ![8]⟩
abbrev S4096x1024 : Shape := ⟨2, ![4096, 1024]⟩
abbrev S4096x512 : Shape := ⟨2, ![4096, 512]⟩
abbrev S1x4096x512 : Shape := ⟨3, ![1, 4096, 512]⟩
abbrev S4096x128 : Shape := ⟨2, ![4096, 128]⟩
abbrev S1x4096x128 : Shape := ⟨3, ![1, 4096, 128]⟩
abbrev S1x32x128x2x64 : Shape := ⟨5, ![1, 32, 128, 2, 64]⟩
abbrev S_ : Shape := ⟨0, ![]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x128x2x4x64 : Shape := ⟨6, ![1, 32, 128, 2, 4, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x128x256 : Shape := ⟨4, ![2, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x4x128x256 : Shape := ⟨6, ![1, 1, 2, 4, 128, 256]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x32x2x64x256 : Shape := ⟨5, ![1, 32, 2, 64, 256]⟩
abbrev S1x2x4x1 : Shape := ⟨4, ![1, 2, 4, 1]⟩
abbrev S32x2x4x128 : Shape := ⟨4, ![32, 2, 4, 128]⟩
abbrev S1x2x4x128x256 : Shape := ⟨5, ![1, 2, 4, 128, 256]⟩
abbrev S1x32x2x128x4x64 : Shape := ⟨6, ![1, 32, 2, 128, 4, 64]⟩
abbrev S1x32x2x256x64 : Shape := ⟨5, ![1, 32, 2, 256, 64]⟩
abbrev S1x4096x768 : Shape := ⟨3, ![1, 4096, 768]⟩
abbrev S4096x768 : Shape := ⟨2, ![4096, 768]⟩
abbrev S120 : Shape := ⟨1, ![120]⟩
abbrev S1x128 : Shape := ⟨2, ![1, 128]⟩

abbrev nBuf : Space → Nat
  | .hbm => 225
  | .vmem => 0
  | .smem => 0
  | _ => 0

abbrev hbmTy0_0 (i : Nat) : BufTy := match i % 128 with
  | 0 => ⟨S4096x2824, .f32⟩
  | 1 => ⟨S8x128x256, .f32⟩
  | 2 => ⟨S8, .f32⟩
  | 3 => ⟨S4096x1024, .f32⟩
  | 4 => ⟨S4096x512, .f32⟩
  | 5 => ⟨S1x4096x512, .f32⟩
  | 6 => ⟨S4096x128, .f32⟩
  | 7 => ⟨S1x4096x128, .f32⟩
  | 8 => ⟨S4096x128, .f32⟩
  | 9 => ⟨S1x4096x128, .f32⟩
  | 10 => ⟨S1x32x128x2x64, .f32⟩
  | 11 => ⟨S_, .f32⟩
  | 12 => ⟨S1x1x128x2x64, .f32⟩
  | 13 => ⟨S1x31x128x2x64, .f32⟩
  | 14 => ⟨S1x32x128x2x64, .f32⟩
  | 15 => ⟨S_, .f32⟩
  | 16 => ⟨S1x1x128x2x64, .f32⟩
  | 17 => ⟨S1x32x256x2x64, .f32⟩
  | 18 => ⟨S1x32x128x2x64, .f32⟩
  | 19 => ⟨S_, .f32⟩
  | 20 => ⟨S1x1x128x2x64, .f32⟩
  | 21 => ⟨S1x31x128x2x64, .f32⟩
  | 22 => ⟨S1x32x128x2x64, .f32⟩
  | 23 => ⟨S_, .f32⟩
  | 24 => ⟨S1x1x128x2x64, .f32⟩
  | 25 => ⟨S1x32x256x2x64, .f32⟩
  | 26 => ⟨S1x32x128x2x4x64, .f32⟩
  | 27 => ⟨S1x32x2x256x128x4, .f32⟩
  | 28 => ⟨S1x32x2x4x128x256, .f32⟩
  | 29 => ⟨S_, .f32⟩
  | 30 => ⟨S1x32x2x4x128x256, .f32⟩
  | 31 => ⟨S1x32x2x4x128x256, .f32⟩
  | 32 => ⟨S128, .i32⟩
  | 33 => ⟨S128x1, .i32⟩
  | 34 => ⟨S256, .i32⟩
  | 35 => ⟨S1x256, .i32⟩
  | 36 => ⟨S_, .i32⟩
  | 37 => ⟨S128x1, .i32⟩
  | 38 => ⟨S128x1, .i32⟩
  | 39 => ⟨S128x256, .i32⟩
  | 40 => ⟨S128x256, .i32⟩
  | 41 => ⟨S128x256, .i32⟩
  | 42 => ⟨S2x4x128x256, .f32⟩
  | 43 => ⟨S32, .i32⟩
  | 44 => ⟨S32x1x1, .i32⟩
  | 45 => ⟨S_, .i32⟩
  | 46 => ⟨S32x1x1, .i32⟩
  | 47 => ⟨S32x1x1, .i32⟩
  | 48 => ⟨S_, .i32⟩
  | 49 => ⟨S32x1x1, .i32⟩
  | 50 => ⟨S32x1x1, .i32⟩
  | 51 => ⟨S1x1x256, .i32⟩
  | 52 => ⟨S32x1x256, .i32⟩
  | 53 => ⟨S32x1x256, .i32⟩
  | 54 => ⟨S32x1x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S_, .i32⟩
  | 63 => ⟨S32x1x256, .i32⟩
  | 64 => ⟨S32x1x256, .i1⟩
  | 65 => ⟨S1x128x256, .i1⟩
  | 66 => ⟨S32x128x256, .i1⟩
  | 67 => ⟨S32x128x256, .i1⟩
  | 68 => ⟨S32x128x256, .i1⟩
  | 69 => ⟨S1x32x1x1x128x256, .i1⟩
  | 70 => ⟨S1x1x2x4x128x256, .f32⟩
  | 71 => ⟨S1x32x2x4x128x256, .f32⟩
  | 72 => ⟨S1x32x2x4x128x256, .f32⟩
  | 73 => ⟨S_, .f32⟩
  | 74 => ⟨S_, .f32⟩
  | 75 => ⟨S1x32x2x4x128x256, .i1⟩
  | 76 => ⟨S1x32x2x4x128x256, .f32⟩
  | 77 => ⟨S1x32x2x4x128x256, .f32⟩
  | 78 => ⟨S_, .f32⟩
  | 79 => ⟨S1x32x2x4x128x256, .f32⟩
  | 80 => ⟨S2x4, .f32⟩
  | 81 => ⟨S1x1x2x4x1x1, .f32⟩
  | 82 => ⟨S_, .f32⟩
  | 83 => ⟨S1x32x2x4x128, .f32⟩
  | 84 => ⟨S1x32x2x4x128x1, .f32⟩
  | 85 => ⟨S1x32x2x4x128x256, .f32⟩
  | 86 => ⟨S1x32x2x4x128x256, .i1⟩
  | 87 => ⟨S1x32x2x4x128x256, .f32⟩
  | 88 => ⟨S_, .f32⟩
  | 89 => ⟨S1x32x2x4x128, .f32⟩
  | 90 => ⟨S1x32x2x4x128x1, .f32⟩
  | 91 => ⟨S1x32x2x4x128x1, .f32⟩
  | 92 => ⟨S1x32x2x4x128x1, .f32⟩
  | 93 => ⟨S1x32x2x4x128x1, .f32⟩
  | 94 => ⟨S1x32x2x4x128x1, .i1⟩
  | 95 => ⟨S1x32x2x4x128x1, .f32⟩
  | 96 => ⟨S1x32x2x4x128x1, .i1⟩
  | 97 => ⟨S_, .f32⟩
  | 98 => ⟨S1x32x2x4x128x1, .f32⟩
  | 99 => ⟨S_, .f32⟩
  | 100 => ⟨S1x32x2x4x128x1, .f32⟩
  | 101 => ⟨S_, .f32⟩
  | 102 => ⟨S1x32x2x4x128x1, .f32⟩
  | 103 => ⟨S1x32x2x4x128x1, .f32⟩
  | 104 => ⟨S1x32x2x4x128x1, .f32⟩
  | 105 => ⟨S1x32x2x4x128x1, .f32⟩
  | 106 => ⟨S1x32x2x4x128x1, .i1⟩
  | 107 => ⟨S1x32x2x4x128x1, .f32⟩
  | 108 => ⟨S1x32x2x4x128x1, .i1⟩
  | 109 => ⟨S_, .f32⟩
  | 110 => ⟨S1x32x2x4x128x1, .f32⟩
  | 111 => ⟨S_, .f32⟩
  | 112 => ⟨S1x32x2x4x128x1, .f32⟩
  | 113 => ⟨S_, .f32⟩
  | 114 => ⟨S1x32x2x4x128x1, .f32⟩
  | 115 => ⟨S1x32x2x4x128x1, .f32⟩
  | 116 => ⟨S1x32x2x4x128x1, .f32⟩
  | 117 => ⟨S1x32x2x4x128x256, .f32⟩
  | 118 => ⟨S1x32x2x4x128x256, .f32⟩
  | 119 => ⟨S1x32x2x4x128x256, .f32⟩
  | 120 => ⟨S_, .f32⟩
  | 121 => ⟨S1x32x2x4x128, .f32⟩
  | 122 => ⟨S1x32x2x4x128x1, .f32⟩
  | 123 => ⟨S1x32x2x4x128x1, .f32⟩
  | 124 => ⟨S1x32x2x4x128x1, .f32⟩
  | 125 => ⟨S1x32x2x4x128x1, .f32⟩
  | 126 => ⟨S1x32x2x4x128x1, .f32⟩
  | 127 => ⟨S1x32x2x4x128x256, .f32⟩
  | _ => ⟨S4096x2824, .f32⟩

abbrev hbmTy0_1 (i : Nat) : BufTy := match i % 128 with
  | 0 => ⟨S1x32x2x4x128x256, .f32⟩
  | 1 => ⟨S1x32x2x4x128x1, .f32⟩
  | 2 => ⟨S_, .f32⟩
  | 3 => ⟨S1x32x2x4x128x1, .f32⟩
  | 4 => ⟨S1x32x2x4x128x1, .f32⟩
  | 5 => ⟨S1x32x2x64x4x128, .f32⟩
  | 6 => ⟨S1x32x128x2x4x64, .f32⟩
  | 7 => ⟨S1x4096x512, .f32⟩
  | 8 => ⟨S4096x512, .f32⟩
  | 9 => ⟨S1x4096x512, .f32⟩
  | 10 => ⟨S1x32x128x2x4x64, .f32⟩
  | 11 => ⟨S1x32x2x64x4x128, .f32⟩
  | 12 => ⟨S1x32x2x4x128x256, .f32⟩
  | 13 => ⟨S1x32x2x64x256, .f32⟩
  | 14 => ⟨S1x32x256x2x64, .f32⟩
  | 15 => ⟨S1x32x2x4x128x256, .f32⟩
  | 16 => ⟨S1x32x2x4x128x256, .f32⟩
  | 17 => ⟨S1x32x2x4x128x256, .f32⟩
  | 18 => ⟨S_, .f32⟩
  | 19 => ⟨S1x32x2x4x128, .f32⟩
  | 20 => ⟨S1x32x2x4x128x1, .f32⟩
  | 21 => ⟨S1x32x2x4x128x1, .f32⟩
  | 22 => ⟨S1x32x2x4x128x256, .f32⟩
  | 23 => ⟨S1x32x2x4x128x256, .f32⟩
  | 24 => ⟨S1x32x2x4x128x1, .f32⟩
  | 25 => ⟨S_, .f32⟩
  | 26 => ⟨S1x2x4x1, .f32⟩
  | 27 => ⟨S1x1x2x4x1x1, .f32⟩
  | 28 => ⟨S1x32x2x4x128x1, .f32⟩
  | 29 => ⟨S_, .f32⟩
  | 30 => ⟨S32x2x4x128, .f32⟩
  | 31 => ⟨S1x32x2x4x128, .f32⟩
  | 32 => ⟨S1x32x2x4x128x256, .f32⟩
  | 33 => ⟨S1x32x2x4x128x256, .f32⟩
  | 34 => ⟨S1x32x2x4x128x256, .f32⟩
  | 35 => ⟨S1x32x2x4x128x256, .f32⟩
  | 36 => ⟨S_, .f32⟩
  | 37 => ⟨S1x32x2x4x128, .f32⟩
  | 38 => ⟨S1x32x2x4x128x1, .f32⟩
  | 39 => ⟨S1x32x2x4x128x1, .f32⟩
  | 40 => ⟨S1x32x2x4x128x1, .f32⟩
  | 41 => ⟨S_, .f32⟩
  | 42 => ⟨S1x2x4x1, .f32⟩
  | 43 => ⟨S1x1x2x4x1x1, .f32⟩
  | 44 => ⟨S1x1x2x4x1x1, .f32⟩
  | 45 => ⟨S1x32x2x4x128x1, .f32⟩
  | 46 => ⟨S_, .f32⟩
  | 47 => ⟨S32x2x4x128, .f32⟩
  | 48 => ⟨S1x32x2x4x128, .f32⟩
  | 49 => ⟨S1x32x2x4x128, .f32⟩
  | 50 => ⟨S1x32x2x4x128x256, .f32⟩
  | 51 => ⟨S1x32x2x4x128x256, .f32⟩
  | 52 => ⟨S1x32x2x4x128x256, .f32⟩
  | 53 => ⟨S_, .f32⟩
  | 54 => ⟨S2x4, .f32⟩
  | 55 => ⟨S8, .f32⟩
  | 56 => ⟨S_, .f32⟩
  | 57 => ⟨S1x32x2x4x128x256, .f32⟩
  | 58 => ⟨S1x32x2x4x128x256, .f32⟩
  | 59 => ⟨S_, .f32⟩
  | 60 => ⟨S1x2x4x128x256, .f32⟩
  | 61 => ⟨S1x1x2x4x128x256, .f32⟩
  | 62 => ⟨S_, .f32⟩
  | 63 => ⟨S2x4x128x256, .f32⟩
  | 64 => ⟨S8x128x256, .f32⟩
  | 65 => ⟨S_, .f32⟩
  | 66 => ⟨S1x32x2x4x128x256, .f32⟩
  | 67 => ⟨S1x32x2x4x128x256, .f32⟩
  | 68 => ⟨S1x32x2x256x128x4, .f32⟩
  | 69 => ⟨S1x32x2x128x4x64, .f32⟩
  | 70 => ⟨S1x32x128x2x4x64, .f32⟩
  | 71 => ⟨S1x32x2x256x64, .f32⟩
  | 72 => ⟨S1x32x256x2x64, .f32⟩
  | 73 => ⟨S1x4096x512, .f32⟩
  | 74 => ⟨S1x32x128x2x64, .f32⟩
  | 75 => ⟨S1x32x128x2x64, .f32⟩
  | 76 => ⟨S1x1x128x2x64, .f32⟩
  | 77 => ⟨S1x31x128x2x64, .f32⟩
  | 78 => ⟨S_, .f32⟩
  | 79 => ⟨S1x32x128x2x64, .f32⟩
  | 80 => ⟨S1x32x128x2x64, .f32⟩
  | 81 => ⟨S1x4096x128, .f32⟩
  | 82 => ⟨S1x32x128x2x64, .f32⟩
  | 83 => ⟨S1x32x128x2x64, .f32⟩
  | 84 => ⟨S1x1x128x2x64, .f32⟩
  | 85 => ⟨S1x31x128x2x64, .f32⟩
  | 86 => ⟨S_, .f32⟩
  | 87 => ⟨S1x32x128x2x64, .f32⟩
  | 88 => ⟨S1x32x128x2x64, .f32⟩
  | 89 => ⟨S1x4096x128, .f32⟩
  | 90 => ⟨S1x4096x768, .f32⟩
  | 91 => ⟨S4096x768, .f32⟩
  | 92 => ⟨S4096x768, .bf16⟩
  | 93 => ⟨S_, .f32⟩
  | 94 => ⟨S120, .f32⟩
  | 95 => ⟨S128, .f32⟩
  | 96 => ⟨S1x128, .f32⟩
  | _ => ⟨S4096x2824, .f32⟩

abbrev hbmTy (i : Nat) : BufTy := match i / 128 with
  | 0 => hbmTy0_0 i
  | 1 => hbmTy0_1 i
  | _ => ⟨S4096x2824, .f32⟩

abbrev bufTy : (tb : Table) → Fin (tcTables nBuf tb) → BufTy
  | .hbm, ⟨i, _⟩ => hbmTy i
  | _, _ => ⟨S4096x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_call0_v0 : Ref sig .tc := ⟨.hbm, 74, rfl⟩
abbrev main_v58_1 : Ref sig .tc := ⟨.hbm, 75, rfl⟩
abbrev main_call0_v2 : Ref sig .tc := ⟨.hbm, 76, rfl⟩
abbrev main_v58_0 : Ref sig .tc := ⟨.hbm, 77, rfl⟩
abbrev main_call0_cst : Ref sig .tc := ⟨.hbm, 78, rfl⟩
abbrev main_v58_2 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_18 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_19 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_20 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_21 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_22 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_23 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_24 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_25 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_26 : Ref sig .tc := ⟨.hbm, 181, rfl⟩
abbrev main_v144 : Ref sig .tc := ⟨.hbm, 182, rfl⟩
abbrev main_v145 : Ref sig .tc := ⟨.hbm, 183, rfl⟩
abbrev main_call1_cst : Ref sig .tc := ⟨.hbm, 184, rfl⟩
abbrev main_call1_v0 : Ref sig .tc := ⟨.hbm, 185, rfl⟩
abbrev main_v146 : Ref sig .tc := ⟨.hbm, 186, rfl⟩
abbrev main_cst_27 : Ref sig .tc := ⟨.hbm, 187, rfl⟩
abbrev main_v147 : Ref sig .tc := ⟨.hbm, 188, rfl⟩
abbrev main_v148 : Ref sig .tc := ⟨.hbm, 189, rfl⟩
abbrev main_cst_28 : Ref sig .tc := ⟨.hbm, 190, rfl⟩
abbrev main_v149 : Ref sig .tc := ⟨.hbm, 191, rfl⟩
abbrev main_v150 : Ref sig .tc := ⟨.hbm, 192, rfl⟩
abbrev main_cst_29 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_30 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_31 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_32 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩

abbrev nD : Nat := 1
abbrev τ : Topo := Topo.v7x

variable {F : FTy → Type} [FloatOps F]
-- ==== BiasBwd.lean ====
abbrev S32x8 : Shape := ⟨2, ![32, 8]⟩
abbrev S8x128x256 : Shape := ⟨3, ![8, 128, 256]⟩
abbrev S128x256 : Shape := ⟨2, ![128, 256]⟩
abbrev S32x128 : Shape := ⟨2, ![32, 128]⟩
abbrev S1x128x256 : Shape := ⟨3, ![1, 128, 256]⟩
abbrev S256 : Shape := ⟨1, ![256]⟩
abbrev S1x256 : Shape := ⟨2, ![1, 256]⟩
abbrev S1 : Shape := ⟨1, ![1]⟩
abbrev S1x1 : Shape := ⟨2, ![1, 1]⟩

abbrev nBuf : Space → Nat
  | .hbm => 5
  | .vmem => 4
  | .smem => 0
  | _ => 0

abbrev bufTy : (tb : Table) → Fin (tcTables nBuf tb) → BufTy
  | .hbm, ⟨0, _⟩ => ⟨S32x8, .f32⟩
  | .hbm, ⟨1, _⟩ => ⟨S8x128x256, .f32⟩
  | .hbm, ⟨2, _⟩ => ⟨S8x128x256, .f32⟩
  | .hbm, ⟨3, _⟩ => ⟨S128x256, .i32⟩
  | .hbm, ⟨4, _⟩ => ⟨S32x128, .f32⟩
  | .local _ .vmem, ⟨0, _⟩ => ⟨S8x128x256, .f32⟩
  | .local _ .vmem, ⟨1, _⟩ => ⟨S8x128x256, .f32⟩
  | .local _ .vmem, ⟨2, _⟩ => ⟨S128x256, .i32⟩
  | .local _ .vmem, ⟨3, _⟩ => ⟨S32x128, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BiasRefIdeal.lean ====
abbrev S32x8 : Shape := ⟨2, ![32, 8]⟩
abbrev S8x128x256 : Shape := ⟨3, ![8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S32x120 : Shape := ⟨2, ![32, 120]⟩
abbrev S32x128 : Shape := ⟨2, ![32, 128]⟩

abbrev nBuf : Space → Nat
  | .hbm => 59
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S8x128x256, .f32⟩
  | .hbm, ⟨2, _⟩ => ⟨S8x128x256, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S128x256x1, .i32⟩
  | .hbm, ⟨49, _⟩ => ⟨S128x256x8, .f32⟩
  | .hbm, ⟨50, _⟩ => ⟨S8x128x256, .f32⟩
  | .hbm, ⟨51, _⟩ => ⟨S8x128x256, .f32⟩
  | .hbm, ⟨52, _⟩ => ⟨S128x256x8, .f32⟩
  | .hbm, ⟨53, _⟩ => ⟨S_, .f32⟩
  | .hbm, ⟨54, _⟩ => ⟨S32x8, .f32⟩
  | .hbm, ⟨55, _⟩ => ⟨S32x8, .f32⟩
  | .hbm, ⟨56, _⟩ => ⟨S_, .f32⟩
  | .hbm, ⟨57, _⟩ => ⟨S32x120, .f32⟩
  | .hbm, ⟨58, _⟩ => ⟨S32x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== ConvFwd.lean ====
abbrev S4096x2824 : Shape := ⟨2, ![4096, 2824]⟩
abbrev S4x1024 : Shape := ⟨2, ![4, 1024]⟩
abbrev S1024 : Shape := ⟨1, ![1024]⟩
abbrev S_ : Shape := ⟨0, ![]⟩
abbrev S4096x248 : Shape := ⟨2, ![4096, 248]⟩
abbrev S4096x2048 : Shape := ⟨2, ![4096, 2048]⟩
abbrev S4096x768 : Shape := ⟨2, ![4096, 768]⟩
abbrev S4096x8 : Shape := ⟨2, ![4096, 8]⟩
abbrev S4096x3072 : Shape := ⟨2, ![4096, 3072]⟩
abbrev S1x1024 : Shape := ⟨2, ![1, 1024]⟩
abbrev S4096x1024 : Shape := ⟨2, ![4096, 1024]⟩
abbrev S4096x128 : Shape := ⟨2, ![4096, 128]⟩
abbrev S4x128 : Shape := ⟨2, ![4, 128]⟩
abbrev S1x128 : Shape := ⟨2, ![1, 128]⟩

abbrev nBuf : Space → Nat
  | .hbm => 11
  | .vmem => 8
  | .smem => 0
  | _ => 0

abbrev bufTy : (tb : Table) → Fin (tcTables nBuf tb) → BufTy
  | .hbm, ⟨0, _⟩ => ⟨S4096x2824, .f32⟩
  | .hbm, ⟨1, _⟩ => ⟨S4x1024, .f32⟩
  | .hbm, ⟨2, _⟩ => ⟨S1024, .f32⟩
  | .hbm, ⟨3, _⟩ => ⟨S_, .f32⟩
  | .hbm, ⟨4, _⟩ => ⟨S4096x248, .f32⟩
  | .hbm, ⟨5, _⟩ => ⟨S4096x2048, .f32⟩
  | .hbm, ⟨6, _⟩ => ⟨S4096x768, .f32⟩
  | .hbm, ⟨7, _⟩ => ⟨S4096x8, .f32⟩
  | .hbm, ⟨8, _⟩ => ⟨S4096x3072, .f32⟩
  | .hbm, ⟨9, _⟩ => ⟨S1x1024, .f32⟩
  | .hbm, ⟨10, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S4096x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdRefIdeal.lean ====
abbrev S4096x2824 : Shape := ⟨2, ![4096, 2824]⟩
abbrev S4x1024 : Shape := ⟨2, ![4, 1024]⟩
abbrev S1024 : Shape := ⟨1, ![1024]⟩
abbrev S4096x1024 : Shape := ⟨2, ![4096, 1024]⟩
abbrev S1x4096x1024 : Shape := ⟨3, ![1, 4096, 1024]⟩
abbrev S_ : Shape := ⟨0, ![]⟩
abbrev S1x3x1024 : Shape := ⟨3, ![1, 3, 1024]⟩
abbrev S1x4099x1024 : Shape := ⟨3, ![1, 4099, 1024]⟩
abbrev S1x1024 : Shape := ⟨2, ![1, 1024]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x2824, .f32⟩
  | .hbm, ⟨1, _⟩ => ⟨S4x1024, .f32⟩
  | .hbm, ⟨2, _⟩ => ⟨S1024, .f32⟩
  | .hbm, ⟨3, _⟩ => ⟨S4096x1024, .f32⟩
  | .hbm, ⟨4, _⟩ => ⟨S1x4096x1024, .f32⟩
  | .hbm, ⟨5, _⟩ => ⟨S_, .f32⟩
  | .hbm, ⟨6, _⟩ => ⟨S1x3x1024, .f32⟩
  | .hbm, ⟨7, _⟩ => ⟨S1x4099x1024, .f32⟩
  | .hbm, ⟨8, _⟩ => ⟨S1x4096x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S1x4096x1024, .f32⟩
  | .hbm, ⟨13, _⟩ => ⟨S1x4096x1024, .f32⟩
  | .hbm, ⟨14, _⟩ => ⟨S1x1x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S_, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S4096x1024, .f32⟩
  | _, _ => ⟨S4096x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== FfnFwd.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S1x5632 : Shape := ⟨2, ![1, 5632]⟩
abbrev S4096x2816 : Shape := ⟨2, ![4096, 2816]⟩
abbrev S2816x4096 : Shape := ⟨2, ![2816, 4096]⟩
abbrev S1024x128 : Shape := ⟨2, ![1024, 128]⟩
abbrev S3x128 : Shape := ⟨2, ![3, 128]⟩
abbrev S1x128 : Shape := ⟨2, ![1, 128]⟩
abbrev S4096x128 : Shape := ⟨2, ![4096, 128]⟩
abbrev S128x4096 : Shape := ⟨2, ![128, 4096]⟩
abbrev S_ : Shape := ⟨0, ![]⟩
abbrev S1024x256 : Shape := ⟨2, ![1024, 256]⟩
abbrev S4096x256 : Shape := ⟨2, ![4096, 256]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x1024, .bf16⟩
  | .hbm, ⟨5, _⟩ => ⟨S1024x5632, .bf16⟩
  | .hbm, ⟨6, _⟩ => ⟨S1x5632, .f32⟩
  | .hbm, ⟨7, _⟩ => ⟨S4096x2816, .bf16⟩
  | .hbm, ⟨8, _⟩ => ⟨S2816x4096, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S128x4096, .bf16⟩
  | .local _ .vmem, ⟨15, _⟩ => ⟨S128x4096, .bf16⟩
  | .local _ .vmem, ⟨16, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S1x4096x5632 : Shape := ⟨3, ![1, 4096, 5632]⟩
abbrev S_ : Shape := ⟨0, ![]⟩
abbrev S1x2x5632 : Shape := ⟨3, ![1, 2, 5632]⟩
abbrev S1x4098x5632 : Shape := ⟨3, ![1, 4098, 5632]⟩
abbrev S1x5632 : Shape := ⟨2, ![1, 5632]⟩
abbrev S1x1x5632 : Shape := ⟨3, ![1, 1, 5632]⟩
abbrev S1x4096x2816 : Shape := ⟨3, ![1, 4096, 2816]⟩
abbrev S4096x2816 : Shape := ⟨2, ![4096, 2816]⟩
abbrev S2816x4096 : Shape := ⟨2, ![2816, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x5632, .f32⟩
  | .hbm, ⟨5, _⟩ => ⟨S1x4096x5632, .f32⟩
  | .hbm, ⟨6, _⟩ => ⟨S_, .f32⟩
  | .hbm, ⟨7, _⟩ => ⟨S1x2x5632, .f32⟩
  | .hbm, ⟨8, _⟩ => ⟨S1x4098x5632, .f32⟩
  | .hbm, ⟨9, _⟩ => ⟨S1x4096x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S1x4096x5632, .f32⟩
  | .hbm, ⟨14, _⟩ => ⟨S1x4096x5632, .f32⟩
  | .hbm, ⟨15, _⟩ => ⟨S1x1x5632, .f32⟩
  | .hbm, ⟨16, _⟩ => ⟨S1x4096x5632, .f32⟩
  | .hbm, ⟨17, _⟩ => ⟨S1x4096x5632, .f32⟩
  | .hbm, ⟨18, _⟩ => ⟨S1x4096x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S1x4096x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S1x4096x5632, .f32⟩
  | .hbm, ⟨30, _⟩ => ⟨S1x4096x5632, .f32⟩
  | .hbm, ⟨31, _⟩ => ⟨S1x4096x5632, .f32⟩
  | .hbm, ⟨32, _⟩ => ⟨S1x4096x2816, .f32⟩
  | .hbm, ⟨33, _⟩ => ⟨S1x4096x2816, .f32⟩
  | .hbm, ⟨34, _⟩ => ⟨S1x4096x2816, .f32⟩
  | .hbm, ⟨35, _⟩ => ⟨S1x4096x2816, .f32⟩
  | .hbm, ⟨36, _⟩ => ⟨S_, .f32⟩
  | .hbm, ⟨37, _⟩ => ⟨S1x4096x2816, .f32⟩
  | .hbm, ⟨38, _⟩ => ⟨S1x4096x2816, .f32⟩
  | .hbm, ⟨39, _⟩ => ⟨S1x4096x2816, .f32⟩
  | .hbm, ⟨40, _⟩ => ⟨S_, .f32⟩
  | .hbm, ⟨41, _⟩ => ⟨S1x4096x2816, .f32⟩
  | .hbm, ⟨42, _⟩ => ⟨S1x4096x2816, .f32⟩
  | .hbm, ⟨43, _⟩ => ⟨S1x4096x2816, .f32⟩
  | .hbm, ⟨44, _⟩ => ⟨S_, .f32⟩
  | .hbm, ⟨45, _⟩ => ⟨S1x4096x2816, .f32⟩
  | .hbm, ⟨46, _⟩ => ⟨S1x4096x2816, .f32⟩
  | .hbm, ⟨47, _⟩ => ⟨S_, .f32⟩
  | .hbm, ⟨48, _⟩ => ⟨S1x4096x2816, .f32⟩
  | .hbm, ⟨49, _⟩ => ⟨S1x4096x2816, .f32⟩
  | .hbm, ⟨50, _⟩ => ⟨S1x4096x2816, .f32⟩
  | .hbm, ⟨51, _⟩ => ⟨S1x4096x2816, .f32⟩
  | .hbm, ⟨52, _⟩ => ⟨S4096x2816, .f32⟩
  | .hbm, ⟨53, _⟩ => ⟨S4096x2816, .bf16⟩
  | .hbm, ⟨54, _⟩ => ⟨S2816x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== BiasFwd.lean ====
abbrev S32x8 : Shape := ⟨2, ![32, 8]⟩
abbrev S128x256 : Shape := ⟨2, ![128, 256]⟩
abbrev S8x128x256 : Shape := ⟨3, ![8, 128, 256]⟩
abbrev S1x1 : Shape := ⟨2, ![1, 1]⟩
abbrev S1x128x256 : Shape := ⟨3, ![1, 128, 256]⟩

abbrev nBuf : Space → Nat
  | .hbm => 3
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S128x256, .i32⟩
  | .hbm, ⟨2, _⟩ => ⟨S8x128x256, .f32⟩
  | .local _ .vmem, ⟨0, _⟩ => ⟨S128x256, .i32⟩
  | .local _ .vmem, ⟨1, _⟩ => ⟨S8x128x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasFwdRefIdeal.lean ====
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S128x256x1, .i32⟩
  | .hbm, ⟨47, _⟩ => ⟨S128x256x8, .f32⟩
  | .hbm, ⟨48, _⟩ => ⟨S8x128x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== XaOut.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1024x4096, .bf16⟩
  | .hbm, ⟨12, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== XaOutRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S1024x4096, .f32⟩
  | .hbm, ⟨41, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x4096 : Shape := ⟨2, ![1024, 4096]⟩
abbrev S512x2816 : Shape := ⟨2, ![512, 2816]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1024x4096, .bf16⟩
  | .hbm, ⟨12, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S512x1024, .f32⟩
  | .local _ .vmem, ⟨14, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S1024x4096, .f32⟩
  | .hbm, ⟨41, _⟩ => ⟨S1024x4096, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MixOut.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S1x1024 : Shape := ⟨2, ![1, 1024]⟩
abbrev S1024x4096 : Shape := ⟨2, ![1024, 4096]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x512, .bf16⟩
  | .hbm, ⟨7, _⟩ => ⟨S4096x512, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1024x4096, .bf16⟩
  | .hbm, ⟨14, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .f32⟩
  | .local _ .vmem, ⟨17, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOutRefIdeal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S1024x4096, .f32⟩
  | .hbm, ⟨43, _⟩ => ⟨S1024x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== MlstmFwd.lean ====
abbrev S4096x1024 : Shape := ⟨2, ![4096, 1024]⟩
abbrev S4096x2824 : Shape := ⟨2, ![4096, 2824]⟩
abbrev S4 : Shape := ⟨1, ![4]⟩
abbrev S512 : Shape := ⟨1, ![512]⟩
abbrev S8 : Shape := ⟨1, ![8]⟩
abbrev S_ : Shape := ⟨0, ![]⟩
abbrev S128 : Shape := ⟨1, ![128]⟩
abbrev S1x128 : Shape := ⟨2, ![1, 128]⟩
abbrev S4096x248 : Shape := ⟨2, ![4096, 248]⟩
abbrev S4096x2048 : Shape := ⟨2, ![4096, 2048]⟩
abbrev S4096x768 : Shape := ⟨2, ![4096, 768]⟩
abbrev S4096x8 : Shape := ⟨2, ![4096, 8]⟩
abbrev S4096x3072 : Shape := ⟨2, ![4096, 3072]⟩
abbrev S1x512 : Shape := ⟨2, ![1, 512]⟩
abbrev S4096x512 : Shape := ⟨2, ![4096, 512]⟩
abbrev S64x4x128x128 : Shape := ⟨4, ![64, 4, 128, 128]⟩
abbrev S64x4x1x128 : Shape := ⟨4, ![64, 4, 1, 128]⟩
abbrev S64x512 : Shape := ⟨2, ![64, 512]⟩
abbrev S64x128 : Shape := ⟨2, ![64, 128]⟩
abbrev S1x4x128x128 : Shape := ⟨4, ![1, 4, 128, 128]⟩
abbrev S1x4x1x128 : Shape := ⟨4, ![1, 4, 1, 128]⟩
abbrev S4x128x128 : Shape := ⟨3, ![4, 128, 128]⟩
abbrev S4x1x128 : Shape := ⟨3, ![4, 1, 128]⟩
abbrev S1x64x128 : Shape := ⟨3, ![1, 64, 128]⟩
abbrev S4x64x128 : Shape := ⟨3, ![4, 64, 128]⟩
abbrev S1x1x128 : Shape := ⟨3, ![1, 1, 128]⟩
abbrev S4x1x1 : Shape := ⟨3, ![4, 1, 1]⟩
abbrev S4x64 : Shape := ⟨2, ![4, 64]⟩
abbrev S4x64x1 : Shape := ⟨3, ![4, 64, 1]⟩
abbrev S4x64x64 : Shape := ⟨3, ![4, 64, 64]⟩
abbrev S4x1x64 : Shape := ⟨3, ![4, 1, 64]⟩
abbrev S4x1 : Shape := ⟨2, ![4, 1]⟩
abbrev S4x128 : Shape := ⟨2, ![4, 128]⟩

abbrev nBuf : Space → Nat
  | .hbm => 21
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x2824, .f32⟩
  | .hbm, ⟨2, _⟩ => ⟨S4, .f32⟩
  | .hbm, ⟨3, _⟩ => ⟨S4, .f32⟩
  | .hbm, ⟨4, _⟩ => ⟨S512, .f32⟩
  | .hbm, ⟨5, _⟩ => ⟨S8, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S_, .f32⟩
  | .hbm, ⟨11, _⟩ => ⟨S4096x248, .f32⟩
  | .hbm, ⟨12, _⟩ => ⟨S4096x2048, .f32⟩
  | .hbm, ⟨13, _⟩ => ⟨S4096x768, .f32⟩
  | .hbm, ⟨14, _⟩ => ⟨S4096x8, .f32⟩
  | .hbm, ⟨15, _⟩ => ⟨S4096x3072, .f32⟩
  | .hbm, ⟨16, _⟩ => ⟨S1x512, .f32⟩
  | .hbm, ⟨17, _⟩ => ⟨S4096x512, .bf16⟩
  | .hbm, ⟨18, _⟩ => ⟨S64x4x128x128, .f32⟩
  | .hbm, ⟨19, _⟩ => ⟨S64x4x1x128, .f32⟩
  | .hbm, ⟨20, _⟩ => ⟨S64x4x1x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x128, .f32⟩
  | .local _ .vmem, ⟨9, _⟩ => ⟨S64x128, .f32⟩
  | .local _ .vmem, ⟨10, _⟩ => ⟨S1x128, .f32⟩
  | .local _ .vmem, ⟨11, _⟩ => ⟨S1x512, .f32⟩
  | .local _ .vmem, ⟨12, _⟩ => ⟨S64x512, .bf16⟩
  | .local _ .vmem, ⟨13, _⟩ => ⟨S64x512, .bf16⟩
  | .local _ .vmem, ⟨14, _⟩ => ⟨S1x4x128x128, .f32⟩
  | .local _ .vmem, ⟨15, _⟩ => ⟨S1x4x128x128, .f32⟩
  | .local _ .vmem, ⟨16, _⟩ => ⟨S1x4x1x128, .f32⟩
  | .local _ .vmem, ⟨17, _⟩ => ⟨S1x4x1x128, .f32⟩
  | .local _ .vmem, ⟨18, _⟩ => ⟨S1x4x1x128, .f32⟩
  | .local _ .vmem, ⟨19, _⟩ => ⟨S1x4x1x128, .f32⟩
  | .local _ .vmem, ⟨20, _⟩ => ⟨S4x128x128, .f32⟩
  | .local _ .vmem, ⟨21, _⟩ => ⟨S4x1x128, .f32⟩
  | .local _ .vmem, ⟨22, _⟩ => ⟨S4x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlstmBwd.lean ====
abbrev S4096x1024 : Shape := ⟨2, ![4096, 1024]⟩
abbrev S4096x2824 : Shape := ⟨2, ![4096, 2824]⟩
abbrev S4 : Shape := ⟨1, ![4]⟩
abbrev S512 : Shape := ⟨1, ![512]⟩
abbrev S64x4x128x128 : Shape := ⟨4, ![64, 4, 128, 128]⟩
abbrev S64x4x1x128 : Shape := ⟨4, ![64, 4, 1, 128]⟩
abbrev S8 : Shape := ⟨1, ![8]⟩
abbrev S_ : Shape := ⟨0, ![]⟩
abbrev S128 : Shape := ⟨1, ![128]⟩
abbrev S1x128 : Shape := ⟨2, ![1, 128]⟩
abbrev S4096x248 : Shape := ⟨2, ![4096, 248]⟩
abbrev S4096x2048 : Shape := ⟨2, ![4096, 2048]⟩
abbrev S4096x768 : Shape := ⟨2, ![4096, 768]⟩
abbrev S4096x8 : Shape := ⟨2, ![4096, 8]⟩
abbrev S4096x3072 : Shape := ⟨2, ![4096, 3072]⟩
abbrev S1x512 : Shape := ⟨2, ![1, 512]⟩
abbrev S4096x1152 : Shape := ⟨2, ![4096, 1152]⟩
abbrev S64x512 : Shape := ⟨2, ![64, 512]⟩
abbrev S64x128 : Shape := ⟨2, ![64, 128]⟩
abbrev S1x4x128x128 : Shape := ⟨4, ![1, 4, 128, 128]⟩
abbrev S1x4x1x128 : Shape := ⟨4, ![1, 4, 1, 128]⟩
abbrev S64x1024 : Shape := ⟨2, ![64, 1024]⟩
abbrev S64x1152 : Shape := ⟨2, ![64, 1152]⟩
abbrev S4x128x128 : Shape := ⟨3, ![4, 128, 128]⟩
abbrev S4x1x128 : Shape := ⟨3, ![4, 1, 128]⟩
abbrev S4x1x1 : Shape := ⟨3, ![4, 1, 1]⟩
abbrev S1x64x128 : Shape := ⟨3, ![1, 64, 128]⟩
abbrev S4x64x128 : Shape := ⟨3, ![4, 64, 128]⟩
abbrev S1x1x128 : Shape := ⟨3, ![1, 1, 128]⟩
abbrev S4x64 : Shape := ⟨2, ![4, 64]⟩
abbrev S4x64x1 : Shape := ⟨3, ![4, 64, 1]⟩
abbrev S4x64x64 : Shape := ⟨3, ![4, 64, 64]⟩
abbrev S4x1x64 : Shape := ⟨3, ![4, 1, 64]⟩
abbrev S4x1 : Shape := ⟨2, ![4, 1]⟩
abbrev S4x128 : Shape := ⟨2, ![4, 128]⟩
abbrev S1x1x1 : Shape := ⟨3, ![1, 1, 1]⟩
abbrev S1x1 : Shape := ⟨2, ![1, 1]⟩

abbrev nBuf : Space → Nat
  | .hbm => 25
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2824, .f32⟩
  | .hbm, ⟨3, _⟩ => ⟨S4, .f32⟩
  | .hbm, ⟨4, _⟩ => ⟨S4, .f32⟩
  | .hbm, ⟨5, _⟩ => ⟨S512, .f32⟩
  | .hbm, ⟨6, _⟩ => ⟨S64x4x128x128, .f32⟩
  | .hbm, ⟨7, _⟩ => ⟨S64x4x1x128, .f32⟩
  | .hbm, ⟨8, _⟩ => ⟨S64x4x1x128, .f32⟩
  | .hbm, ⟨9, _⟩ => ⟨S8, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .f32⟩
  | .hbm, ⟨15, _⟩ => ⟨S4096x248, .f32⟩
  | .hbm, ⟨16, _⟩ => ⟨S4096x2048, .f32⟩
  | .hbm, ⟨17, _⟩ => ⟨S4096x768, .f32⟩
  | .hbm, ⟨18, _⟩ => ⟨S4096x8, .f32⟩
  | .hbm, ⟨19, _⟩ => ⟨S4096x3072, .f32⟩
  | .hbm, ⟨20, _⟩ => ⟨S1x512, .f32⟩
  | .hbm, ⟨21, _⟩ => ⟨S4096x1024, .f32⟩
  | .hbm, ⟨22, _⟩ => ⟨S4096x1152, .bf16⟩
  | .hbm, ⟨23, _⟩ => ⟨S1x128, .f32⟩
  | .hbm, ⟨24, _⟩ => ⟨S1x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x128, .f32⟩
  | .local _ .vmem, ⟨11, _⟩ => ⟨S64x128, .f32⟩
  | .local _ .vmem, ⟨12, _⟩ => ⟨S1x128, .f32⟩
  | .local _ .vmem, ⟨13, _⟩ => ⟨S1x512, .f32⟩
  | .local _ .vmem, ⟨14, _⟩ => ⟨S1x4x128x128, .f32⟩
  | .local _ .vmem, ⟨15, _⟩ => ⟨S1x4x128x128, .f32⟩
  | .local _ .vmem, ⟨16, _⟩ => ⟨S1x4x1x128, .f32⟩
  | .local _ .vmem, ⟨17, _⟩ => ⟨S1x4x1x128, .f32⟩
  | .local _ .vmem, ⟨18, _⟩ => ⟨S1x4x1x128, .f32⟩
  | .local _ .vmem, ⟨19, _⟩ => ⟨S1x4x1x128, .f32⟩
  | .local _ .vmem, ⟨20, _⟩ => ⟨S64x1024, .f32⟩
  | .local _ .vmem, ⟨21, _⟩ => ⟨S64x1024, .f32⟩
  | .local _ .vmem, ⟨22, _⟩ => ⟨S64x1152, .bf16⟩
  | .local _ .vmem, ⟨23, _⟩ => ⟨S64x1152, .bf16⟩
  | .local _ .vmem, ⟨24, _⟩ => ⟨S1x128, .f32⟩
  | .local _ .vmem, ⟨25, _⟩ => ⟨S1x512, .f32⟩
  | .local _ .vmem, ⟨26, _⟩ => ⟨S4x128x128, .f32⟩
  | .local _ .vmem, ⟨27, _⟩ => ⟨S4x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c22_i32 : BitVec 32 := 22#32
  let c0_i32 : BitVec 32 := 0#32
  ![v0.toNat, c22_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1152 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MlstmBwdIdeal.lean ====
variable {F : FTy → Type} [FloatOps F]
-- ==== Proof.Shift.lean ====
module

public import Idealize.ShloMosaic.PureOps.Ideal
public import Mathlib.Algebra.BigOperators.Fin
public import Mathlib.Algebra.BigOperators.Intervals

/-! # Sequences shifted along the time axis

A causal convolution reads the sequence `d` steps earlier, its gradient reads the cotangent `d` steps later; both are
zero outside the sequence. The two shifts are adjoint, also over the extended reals, since a shifted sum is the same sum
with its terms renumbered. -/

@[expose] public section

namespace Cert.Shift

/-- The sequence `d` steps earlier: zero for the first `d` steps. -/
noncomputable def down {n : ℕ} (d : ℕ) (f : Fin n → EReal) (t : Fin n) : EReal :=
  if _h : d ≤ t.val then f ⟨t.val - d, by omega⟩ else 0

/-- The sequence `d` steps later: zero for the last `d` steps. -/
noncomputable def up {n : ℕ} (d : ℕ) (f : Fin n → EReal) (t : Fin n) : EReal :=
  if h : t.val + d < n then f ⟨t.val + d, h⟩ else 0

theorem down_zero {n : ℕ} (f : Fin n → EReal) (t : Fin n) : down 0 f t = f t := by
  simp [down]

theorem up_zero {n : ℕ} (f : Fin n → EReal) (t : Fin n) : up 0 f t = f t := by
  simp [up]

/-- Moving one factor later against the other is moving the other earlier. -/
theorem sum_up_mul {n : ℕ} (d : ℕ) (f g : Fin n → EReal) : ∑ t, up d f t * g t = ∑ t, down d g t * f t := by
  have hl : ∀ t : Fin n, up d f t * g t = ∑ s : Fin n, if s.val = t.val + d then f s * g t else 0 := fun t => by
    unfold up
    split
    · next h =>
      rw [Finset.sum_eq_single (⟨t.val + d, h⟩ : Fin n)]
      · simp
      · intro s _ hs
        exact if_neg fun h' => hs (Fin.ext h')
      · intro h'
        exact absurd (Finset.mem_univ _) h'
    · next h =>
      rw [zero_mul]
      refine (Finset.sum_eq_zero fun s _ => if_neg ?_).symm
      have := s.isLt
      omega
  have hr : ∀ s : Fin n, down d g s * f s = ∑ t : Fin n, if s.val = t.val + d then f s * g t else 0 := fun s => by
    unfold down
    split
    · next h =>
      rw [Finset.sum_eq_single (⟨s.val - d, by omega⟩ : Fin n)]
      · rw [if_pos (by simp only []; omega), mul_comm]
      · intro t _ ht
        refine if_neg fun h' => ht (Fin.ext ?_)
        simp only []
        omega
      · intro h'
        exact absurd (Finset.mem_univ _) h'
    · next h =>
      rw [zero_mul]
      refine (Finset.sum_eq_zero fun t _ => if_neg ?_).symm
      omega
  rw [Finset.sum_congr rfl fun t _ => hl t, Finset.sum_congr rfl fun s _ => hr s, Finset.sum_comm]

/-- A product inside a guard is the guarded factor times the other. -/
theorem guard_mul {n : ℕ} (f : Fin n → EReal) (w : EReal) (r : Fin n) (d : ℕ) {P : Prop} [Decidable P] (i : P → Fin n)
    (hP : P ↔ r.val + d < n) (hi : ∀ h, (i h).val = r.val + d) :
    (if h : P then f (i h) * w else 0) = (if h : r.val + d < n then f ⟨r.val + d, h⟩ else 0) * w := by
  by_cases h : P
  · rw [dif_pos h, dif_pos (hP.1 h)]
    exact congrArg (f · * w) (Fin.ext (hi h))
  · rw [dif_neg h, dif_neg (fun h' => h (hP.2 h')), zero_mul]

end Cert.Shift
-- ==== Proof.ConvSpec.lean ====
module

public import proofs.«01_k».proof.Proof.Shift
public import Idealize.ShloMosaic.Lib.Pointwise

/-! # The gradient of `silu (causal convolution)`, one channel at a time

A channel of the projection is a sequence `x` of 4096 steps; `w` are its four taps, `b` its bias and `d` the cotangent of
`silu (conv x)`. -/

@[expose] public section

noncomputable section

namespace Cert.ConvSpec

open Idealize.ShloMosaic Cert.Shift

/-- The causal convolution. -/
def conv (x : Fin 4096 → EReal) (w : Fin 4 → EReal) (b : EReal) (t : Fin 4096) : EReal :=
  b + down 3 x t * w 0 + down 2 x t * w 1 + down 1 x t * w 2 + x t * w 3

/-- `1 / (1 + exp (-y))`. -/
def sigma (y : EReal) : EReal := Ideal.logistic y

/-- The cotangent of `y` when that of `silu y` is `d`. -/
def siluBwd (y d : EReal) : EReal := d * sigma y + y * d * (sigma y * (1 - sigma y))

/-- The cotangent of the convolution's output. -/
def dY (x : Fin 4096 → EReal) (w : Fin 4 → EReal) (b : EReal) (d : Fin 4096 → EReal) (t : Fin 4096) : EReal :=
  siluBwd (conv x w b t) (d t)

/-- The gradient of the sequence. -/
def dX (w : Fin 4 → EReal) (g : Fin 4096 → EReal) (t : Fin 4096) : EReal :=
  up 3 g t * w 0 + up 2 g t * w 1 + up 1 g t * w 2 + g t * w 3

/-- The gradient of the taps. -/
def dW (x : Fin 4096 → EReal) (g : Fin 4096 → EReal) (j : Fin 4) : EReal :=
  ∑ t, down (3 - j.val) x t * g t

/-- The gradient of the bias. -/
def dB (g : Fin 4096 → EReal) : EReal := ∑ t, g t

/-! ## The arrays: one channel per column -/

variable (X : FVec Ideal ⟨2, ![4096, 2824]⟩ .f32) (W : FVec Ideal ⟨2, ![4, 1024]⟩ .f32) (B : FVec Ideal ⟨1, ![1024]⟩ .f32)
  (D : FVec Ideal ⟨2, ![4096, 1024]⟩ .f32)

/-- Channel `c` of the projection: its first 1024 columns are the convolved ones. -/
def seqX (c : Fin 1024) (t : Fin 4096) : EReal := X (ix2 t ⟨c.val, by omega⟩)

/-- The taps of channel `c`. -/
def tapsW (c : Fin 1024) (j : Fin 4) : EReal := W (ix2 j c)

/-- The cotangent of the convolution's output at channel `c`. -/
def grad (c : Fin 1024) : Fin 4096 → EReal := dY (seqX X c) (tapsW W c) (B (ix1 c)) (fun t => D (ix2 t c))

/-- The gradient of the convolved columns of the projection. -/
def arrX : FVec Ideal ⟨2, ![4096, 1024]⟩ .bf16 := fun i => dX (tapsW W (i 1)) (grad X W B D (i 1)) (i 0)

/-- The gradient of the taps. -/
def arrW : FVec Ideal ⟨2, ![4, 1024]⟩ .f32 := fun i => dW (seqX X (i 1)) (grad X W B D (i 1)) (i 0)

/-- The gradient of the bias. -/
def arrB : FVec Ideal ⟨2, ![1, 1024]⟩ .f32 := fun i => dB (grad X W B D (i 1))

end Cert.ConvSpec

end
-- ==== Proof.ShiftBlock.lean ====
module

public import proofs.«01_k».proof.Proof.Shift
public import Idealize.ShloMosaic.Lib.Pointwise

/-! # A masked rotation of a block's rows is a shift in time -/

@[expose] public section

namespace Cert.Shift

open Idealize.ShloMosaic

/-- Column `l` of a block of rows. -/
def col {n k : ℕ} {φ : FTy} (y : FVec Ideal ⟨2, ![n, k]⟩ φ) (l : Fin k) (t : Fin n) : EReal := y (ix2 t l)

variable {n k : ℕ} {φ : FTy}

theorem toInt_small (a : ℕ) (ha : a < 2 ^ 31) : (BitVec.ofNat 32 a).toInt = (a : ℤ) := by
  rw [BitVec.toInt_ofNat']
  rw [Int.bmod_def]
  omega

/-- Rotated by `s` rows: the row `s` before, around the end. -/
theorem rotate_at (s : ℕ) (hs : s < 2 ^ 31) (y : FVec Ideal ⟨2, ![n, k]⟩ φ)
    (h : (⟨2, ![n, k]⟩ : Shape).Rotates 0 none) (r : Fin n) (l : Fin k) (r' : Fin n) (hr : (r'.val) = (r.val + n - s % n) % n) :
    dynamicRotate 0 (BitVec.ofNat 32 s) none y h (ix2 r l) = y (ix2 r' l) := by
  rw [Pointwise.dynamicRotate_apply, Shape.Idx.norm2]
  have e : ((BitVec.ofNat 32 s).toNat) = s := by rw [BitVec.toNat_ofNat]; exact Nat.mod_eq_of_lt (by omega)
  refine congrArg y (congrArg₂ ix2 (Fin.ext ?_) ?_)
  · rw [hr]
    show (r.val + n - ((BitVec.ofNat 32 s).toNat + 0) % n) % n = _
    rw [e, Nat.add_zero]
  · rfl

/-- Comparing two small numbers as signed words. -/
theorem slt_small (a b : ℕ) (ha : a < 2 ^ 31) (hb : b < 2 ^ 31) :
    IntOp.cmpi .slt (BitVec.ofNat 32 a) (BitVec.ofNat 32 b) = if a < b then 1#1 else 0#1 := by
  unfold IntOp.cmpi
  simp only [BitVec.slt, toInt_small a ha, toInt_small b hb, Int.ofNat_lt]
  by_cases h : a < b <;> simp [h]

theorem sge_small (a b : ℕ) (ha : a < 2 ^ 31) (hb : b < 2 ^ 31) :
    IntOp.cmpi .sge (BitVec.ofNat 32 a) (BitVec.ofNat 32 b) = if b ≤ a then 1#1 else 0#1 := by
  unfold IntOp.cmpi
  simp only [BitVec.sle, toInt_small a ha, toInt_small b hb, Int.ofNat_le]
  by_cases h : b ≤ a <;> simp [h]

/-- Rows below `d` masked to zero after rotating the block down by `d`. -/
theorem select_down (d : ℕ) (hd : d < n) (hn : n < 2 ^ 31) (y : FVec Ideal ⟨2, ![n, k]⟩ .f32)
    (hi : (⟨2, ![n, k]⟩ : Shape).Iotas .tc 32 [0]) (h : (⟨2, ![n, k]⟩ : Shape).Rotates 0 none) (r : Fin n) (l : Fin k) :
    select (cmpi .sge (iota .tc ⟨2, ![n, k]⟩ 32 [0] hi) (broadcast ⟨2, ![n, k]⟩ (BitVec.ofNat 32 d)))
      (dynamicRotate 0 (BitVec.ofNat 32 d) none y h)
      (broadcast ⟨2, ![n, k]⟩ (Scalar.ofBits (F := Ideal) .f32 0x00000000#32)) (ix2 r l) = down d (col y l) r := by
  have hr := r.isLt
  have e : iota .tc ⟨2, ![n, k]⟩ 32 [0] hi (ix2 r l) = BitVec.ofNat 32 r.val := by pointwise
  rw [ValueIdx.select_apply, cmpi_apply, e]
  show Scalar.select (IntOp.cmpi .sge (BitVec.ofNat 32 r.val) (BitVec.ofNat 32 d)) _ _ = _
  rw [sge_small _ _ (by omega) (by omega)]
  unfold down
  split
  · next hle =>
    rw [rotate_at d (by omega) y h r l ⟨r.val - d, by omega⟩ (by
      simp only []
      rw [Nat.mod_eq_of_lt hd, show r.val + n - d = (r.val - d) + n by omega, Nat.add_mod_right, Nat.mod_eq_of_lt (by omega)])]
    exact if_pos rfl
  · next hle =>
    refine (if_neg (by decide)).trans ?_
    pointwise

/-- Rows past `n - d` masked to zero after rotating the block up by `d`. -/
theorem select_up (d e : ℕ) (hd : d + e = n) (h0 : 0 < d) (h1 : 0 < e) (hn : n < 2 ^ 31) (y : FVec Ideal ⟨2, ![n, k]⟩ .f32)
    (hi : (⟨2, ![n, k]⟩ : Shape).Iotas .tc 32 [0]) (h : (⟨2, ![n, k]⟩ : Shape).Rotates 0 none) (r : Fin n) (l : Fin k) :
    select (cmpi .slt (iota .tc ⟨2, ![n, k]⟩ 32 [0] hi) (broadcast ⟨2, ![n, k]⟩ (BitVec.ofNat 32 e)))
      (dynamicRotate 0 (BitVec.ofNat 32 e) none y h)
      (broadcast ⟨2, ![n, k]⟩ (Scalar.ofBits (F := Ideal) .f32 0x00000000#32)) (ix2 r l) = up d (col y l) r := by
  have hr := r.isLt
  have he : iota .tc ⟨2, ![n, k]⟩ 32 [0] hi (ix2 r l) = BitVec.ofNat 32 r.val := by pointwise
  rw [ValueIdx.select_apply, cmpi_apply, he]
  show Scalar.select (IntOp.cmpi .slt (BitVec.ofNat 32 r.val) (BitVec.ofNat 32 e)) _ _ = _
  rw [slt_small _ _ (by omega) (by omega)]
  unfold up
  by_cases hle : r.val < e
  · rw [if_pos hle, dif_pos (by omega : r.val + d < n),
      rotate_at e (by omega) y h r l ⟨r.val + d, by omega⟩ (by
        simp only []
        rw [Nat.mod_eq_of_lt (show e < n by omega), show r.val + n - e = r.val + d by omega, Nat.mod_eq_of_lt (by omega)])]
    exact if_pos rfl
  · rw [if_neg hle, dif_neg (by omega : ¬r.val + d < n)]
    refine (if_neg (by decide)).trans ?_
    pointwise

end Cert.Shift
-- ==== Proof.ConvKernelPoint.lean ====
module

public import proofs.«01_k».proof.Proof.Gen.ConvBwdIdeal.Frame
public import proofs.«01_k».proof.Proof.ConvSpec
public import proofs.«01_k».proof.Proof.ShiftBlock
public import Idealize.ShloMosaic.Lib.Pipeline.ValueKit

/-! # What one grid point of `mlconv_bwd` computes, one channel at a time -/

@[expose] public section

set_option maxRecDepth 16384

noncomputable section

namespace Cert.ConvBwdIdeal.Value

open Cert.ConvBwdIdeal Cert.ConvBwdIdeal.Gen Idealize.ShloMosaic Idealize.ShloMosaic.TcCoe Idealize.SL.Sem Cert.Shift Cert.ConvSpec

variable (x0 x1 : FVec Ideal S4096x128 .f32) (x2 : FVec Ideal S4x128 .f32) (x3 : FVec Ideal S1x128 .f32)

/-- The taps of channel `l`. -/
def taps (w : FVec Ideal S4x128 .f32) (l : Fin 128) (j : Fin 4) : EReal := w (ix2 j l)

theorem up3_at (a b c : FVec Ideal S4096x128 .f32) (r : Fin 4096) (l : Fin 128) : k0_pay10 (F := Ideal) a b c (ix2 r l)
    = up 3 (col (k0_pay9 a b c) l) r := by
  unfold k0_pay10
  exact select_up 3 4093 rfl (by decide) (by decide) (by decide) _ _ _ r l

theorem pay6_eq (x : FVec Ideal S4096x128 .f32) : k0_pay6 (F := Ideal) x = x := by
  funext y
  idx_vars y
  pointwise [k0_pay6]

theorem pay7_at (x : FVec Ideal S4096x128 .f32) (b w0 w1 w2 : FVec Ideal S1x128 .f32) (r : Fin 4096) (l : Fin 128) :
    k0_pay7 (F := Ideal) x b w0 w1 w2 (ix2 r l)
    = b (ix2 0 l) + down 3 (col x l) r * w0 (ix2 0 l) + down 2 (col x l) r * w1 (ix2 0 l) + down 1 (col x l) r * w2 (ix2 0 l) := by
  unfold k0_pay7
  dsimp only
  simp only [pay6_eq, addf_apply, mulf_apply]
  rw [select_down 3 (by decide) (by decide) x _ _ r l, select_down 2 (by decide) (by decide) x _ _ r l,
    select_down 1 (by decide) (by decide) x _ _ r l]
  pointwise

/-- The kernel's convolution, recomputed from the projection. -/
theorem conv_at (r : Fin 4096) (l : Fin 128) :
    (k0_pay16 (F := Ideal) x0 x1 x2 x3 (ix2 r l) + k0_pay17 (F := Ideal) x0 x1 x2 x3 (ix2 r l) : EReal)
      = conv (col x1 l) (taps x2 l) (x3 (ix2 0 l)) r := by
  unfold k0_pay16 k0_pay17 k0_pay8 r0_0
  rw [pay7_at, pay6_eq]
  simp (disch := decide) only [View.ld_unit_lit']
  pointwise [conv, col, taps]

theorem dY_at (r : Fin 4096) (l : Fin 128) : k0_pay18 (F := Ideal) x0 x1 x2 x3 (ix2 r l)
    = dY (col x1 l) (taps x2 l) (x3 (ix2 0 l)) (col x0 l) r := by
  unfold dY
  rw [← conv_at x0]
  unfold k0_pay18 r0_0
  rw [View.ld_unit_lit' _ _ (by decide)]
  pointwise [k0_pay9, siluBwd, sigma, col]

/-- Column `l` of the cotangent of the convolution's output. -/
theorem col_dY (l : Fin 128) : col (k0_pay18 (F := Ideal) x0 x1 x2 x3) l
    = dY (col x1 l) (taps x2 l) (x3 (ix2 0 l)) (col x0 l) := funext fun r => dY_at x0 x1 x2 x3 r l

theorem up2_at (a b c : FVec Ideal S4096x128 .f32) (r : Fin 4096) (l : Fin 128) : k0_pay12 (F := Ideal) a b c (ix2 r l)
    = up 2 (col (k0_pay9 a b c) l) r := by
  unfold k0_pay12
  exact select_up 2 4094 rfl (by decide) (by decide) (by decide) _ _ _ r l

theorem up1_at (a : FVec Ideal S4096x128 .f32) (r : Fin 4096) (l : Fin 128) : k0_pay1 (F := Ideal) a (ix2 r l)
    = up 1 (col a l) r := by
  unfold k0_pay1
  exact select_up 1 4095 rfl (by decide) (by decide) (by decide) _ _ _ r l

/-- The gradient of the sequence, from the cotangent of the convolution's output. -/
theorem dX_at (a b d : FVec Ideal S4096x128 .f32) (w0 w1 w2 w3 : FVec Ideal S1x128 .f32) (r : Fin 4096) (l : Fin 128) :
    k0_pay5 (F := Ideal) (k0_pay9 a b d) (k0_pay13 a b d w0 w1) w2 w3 (ix2 r l)
    = up 3 (col (k0_pay9 a b d) l) r * w0 (ix2 0 l) + up 2 (col (k0_pay9 a b d) l) r * w1 (ix2 0 l)
      + up 1 (col (k0_pay9 a b d) l) r * w2 (ix2 0 l) + col (k0_pay9 a b d) l r * w3 (ix2 0 l) := by
  rw [← up3_at, ← up2_at, ← up1_at]
  pointwise [k0_pay5, k0_pay13, col]

theorem dW3_at (a x : FVec Ideal S4096x128 .f32) (l : Fin 128) : k0_pay3 (F := Ideal) x a (ix2 0 l)
    = ∑ t, down 0 (col x l) t * col a l t := by
  pointwise [k0_pay3]
  refine Finset.sum_congr rfl fun t _ => ?_
  rw [down_zero]
  exact mul_comm _ _

theorem dW2_at (a x : FVec Ideal S4096x128 .f32) (l : Fin 128) : k0_pay2 (F := Ideal) x a (ix2 0 l)
    = ∑ t, down 1 (col x l) t * col a l t := by
  rw [← sum_up_mul]
  pointwise [k0_pay2]
  exact Finset.sum_congr rfl fun t _ => congrArg (· * x (ix2 t l)) (up1_at a t l)

theorem dW1_at (x a b d : FVec Ideal S4096x128 .f32) (l : Fin 128) : k0_pay14 (F := Ideal) x a b d (ix2 0 l)
    = ∑ t, down 2 (col x l) t * col (k0_pay9 a b d) l t := by
  rw [← sum_up_mul]
  pointwise [k0_pay14]
  exact Finset.sum_congr rfl fun t _ => congrArg (· * x (ix2 t l)) (up2_at a b d t l)

theorem dW0_at (x a b d : FVec Ideal S4096x128 .f32) (l : Fin 128) : k0_pay11 (F := Ideal) x a b d (ix2 0 l)
    = ∑ t, down 3 (col x l) t * col (k0_pay9 a b d) l t := by
  rw [← sum_up_mul]
  pointwise [k0_pay11]
  exact Finset.sum_congr rfl fun t _ => congrArg (· * x (ix2 t l)) (up3_at a b d t l)

theorem dB_at (a : FVec Ideal S4096x128 .f32) (l : Fin 128) : k0_pay4 (F := Ideal) a (ix2 0 l) = ∑ t, col a l t := by
  pointwise [k0_pay4, col]

/-- What a grid point stores of the gradient of the sequence. -/
theorem out4_at (r : Fin 4096) (l : Fin 128) : out0_4 (F := Ideal) x0 x1 x2 x3 (ix2 r l)
    = dX (taps x2 l) (dY (col x1 l) (taps x2 l) (x3 (ix2 0 l)) (col x0 l)) r := by
  unfold out0_4 r0_0
  rw [View.canon_cons_unit_lit' _ _ _ (by decide)]
  rw [← col_dY]
  unfold k0_pay18 r0_0
  rw [dX_at]
  pointwise [dX, taps]

/-- What a grid point stores of the gradient of the bias. -/
theorem out6_at (l : Fin 128) : out0_6 (F := Ideal) x0 x1 x2 x3 (ix2 0 l)
    = dB (dY (col x1 l) (taps x2 l) (x3 (ix2 0 l)) (col x0 l)) := by
  unfold out0_6 r0_1
  rw [View.canon_cons_unit_lit' _ _ _ (by decide), dB_at, col_dY]
  rfl

/-- What a grid point stores of the gradient of the taps. -/
theorem out5_at (j : Fin 4) (l : Fin 128) : out0_5 (F := Ideal) x0 x1 x2 x3 (ix2 j l)
    = dW (col x1 l) (dY (col x1 l) (taps x2 l) (x3 (ix2 0 l)) (col x0 l)) j := by
  rw [← col_dY]
  unfold out0_5
  have e15 : k0_pay15 (F := Ideal) x0 x1 x2 x3 = x1 := by
    unfold k0_pay15 r0_0
    rw [View.ld_unit_lit' _ _ (by decide), pay6_eq]
  rw [e15]
  canon_tiles x h
  all_goals
    obtain rfl : x = ix2 0 l := by
      rw [eq_ix2 x]
      exact (ix2_inj ..).2 ⟨Fin.ext (Nat.lt_one_iff.mp x0_lt), Fin.ext h1.symm⟩
  · obtain rfl : j = 3 := Fin.ext h0
    exact dW3_at _ _ l
  · obtain rfl : j = 2 := Fin.ext h0
    exact dW2_at _ _ l
  · obtain rfl : j = 1 := Fin.ext h0
    exact dW1_at _ _ _ _ l
  · obtain rfl : j = 0 := Fin.ext h0
    exact dW0_at _ _ _ _ l

end Cert.ConvBwdIdeal.Value

end
-- ==== Proof.ConvKernel.lean ====
module

public import proofs.«01_k».proof.Proof.ConvKernelPoint
public import proofs.«01_k».proof.Proof.Gen.ConvBwdIdeal.Value
public import Idealize.ShloMosaic.Lib.Claim

/-! # The arrays `mlconv_bwd` returns -/

@[expose] public section

set_option maxRecDepth 16384

noncomputable section

namespace Cert.ConvBwdIdeal.Value

open Cert.ConvBwdIdeal Cert.ConvBwdIdeal.Gen Idealize.ShloMosaic Idealize.ShloMosaic.TcCoe Idealize.SL.Sem Cert.Shift Cert.ConvSpec
open Idealize.ShloMosaic.Pipeline (Dat)

variable (m : (ℓ : Loc nD τ sig) → Buf (Elt Ideal) ℓ)

/-- Every window's block at grid point `t` is column block `t`. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ t.val < 8 :=
  (by decide +kernel : ∀ t : Fin grid0.N, _)

/-- Channel `l` of grid point `t`. -/
def chan (t : Fin cfg0.N) (l : Fin 128) : Fin 1024 := ⟨t.val * 128 + l.val, by have := (idx t).2.2.2.2.2.2.2; omega⟩

/-- The first of four joined pieces. -/
theorem join_at (a : FVec Ideal S4096x2048 .f32) (b : FVec Ideal S4096x768 .f32) (d : FVec Ideal S4096x8 .f32)
    (e : FVec Ideal S4096x248 .f32) (r : Fin 4096) (k : Fin 3072) (hk : k.val < 2048) :
    concatenate S4096x3072 1 [⟨S4096x2048, a⟩, ⟨S4096x768, b⟩, ⟨S4096x8, d⟩, ⟨S4096x248, e⟩]
      concatenates_S4096x2048_S4096x768_S4096x8_S4096x248_S4096x3072_d1 (ix2 r k) = a (ix2 r ⟨k.val, hk⟩) := by
  pointwise
  exact dif_pos hk

/-- The padded projection the call takes, at a convolved column. -/
theorem proj_at (c : Dev nD) (r : Fin 4096) (k : Fin 3072) (hk : k.val < 1024) :
    (V m c main_v4 : FVec Ideal S4096x3072 .f32) (ix2 r k)
    = seqX (m ((c : Thread nD τ).loc main_arg0)) ⟨k.val, hk⟩ r := by
  unfold V
  simp only [hostOps0, List.flatten_cons, List.flatten_nil, List.append_nil, List.cons_append, List.nil_append,
    StableHlo.after_cons, StableHlo.after_nil]
  rw [StableHlo.reshape_result_ne _ _ _ _ _ _ _ (by decide), StableHlo.nary_result]
  refine (join_at _ _ _ _ r k (by omega)).trans ?_
  simp only [Matrix.cons_val_zero]
  rw [StableHlo.unary_result_ne _ _ _ _ _ _ (by decide), StableHlo.unary_result_ne _ _ _ _ _ _ (by decide), StableHlo.unary_result]
  rw [StableHlo.unary_result_ne _ _ _ _ _ _ (by decide), StableHlo.nullary_result_ne _ _ _ _ (by decide)]
  pointwise [seqX]

theorem bias_at (c : Dev nD) (k : Fin 1024) : (V m c main_v5 : FVec Ideal S1x1024 .f32) (ix2 0 k)
    = m ((c : Thread nD τ).loc main_arg2) (ix1 k) := by
  entry_read
  pointwise

theorem block_x (c : Dev nD) (t : Fin cfg0.N) (l : Fin 128) :
    col (φ := .f32) (iblk m c 1 t) l = seqX (m ((c : Thread nD τ).loc main_arg0)) (chan t l) := by
  funext r
  refine Eq.trans ?_ (proj_at m c r ⟨(chan t l).val, by omega⟩ (chan t l).isLt)
  unfold col chan
  blk_ext! [iblk, idx t]

theorem block_d (c : Dev nD) (t : Fin cfg0.N) (l : Fin 128) :
    col (φ := .f32) (iblk m c 0 t) l = fun r => m ((c : Thread nD τ).loc main_arg3) (ix2 r (chan t l)) := by
  funext r
  unfold col chan
  blk_ext! [iblk, V, idx t]

theorem block_w (c : Dev nD) (t : Fin cfg0.N) (l : Fin 128) :
    taps (iblk m c 2 t : FVec Ideal S4x128 .f32) l = tapsW (m ((c : Thread nD τ).loc main_arg1)) (chan t l) := by
  funext r
  unfold taps tapsW chan
  blk_ext! [iblk, V, idx t]

theorem block_b (c : Dev nD) (t : Fin cfg0.N) (l : Fin 128) :
    (iblk m c 3 t : FVec Ideal S1x128 .f32) (ix2 0 l) = m ((c : Thread nD τ).loc main_arg2) (ix1 (chan t l)) := by
  refine Eq.trans ?_ (bias_at m c (chan t l))
  unfold chan
  blk_ext! [iblk, idx t]

/-- The cotangent of the convolution's output at channel `l` of grid point `t`. -/
theorem block_grad (c : Dev nD) (t : Fin cfg0.N) (l : Fin 128) :
    dY (col (φ := .f32) (iblk m c 1 t) l) (taps (iblk m c 2 t) l) ((iblk m c 3 t : FVec Ideal S1x128 .f32) (ix2 0 l))
      (col (φ := .f32) (iblk m c 0 t) l)
    = grad (m ((c : Thread nD τ).loc main_arg0)) (m ((c : Thread nD τ).loc main_arg1)) (m ((c : Thread nD τ).loc main_arg2))
      (m ((c : Thread nD τ).loc main_arg3)) (chan t l) := by
  rw [block_x, block_w, block_b, block_d]
  rfl

/-- Grid point `t`'s block of the gradient of the projection. -/
theorem block4 (c : Dev nD) (t : Fin cfg0.N) (r : Fin 4096) (l : Fin 128) :
    out0_4 (F := Ideal) (iblk m c 0 t) (iblk m c 1 t) (iblk m c 2 t) (iblk m c 3 t) (ix2 r l)
    = arrX (m ((c : Thread nD τ).loc main_arg0)) (m ((c : Thread nD τ).loc main_arg1)) (m ((c : Thread nD τ).loc main_arg2))
      (m ((c : Thread nD τ).loc main_arg3)) (ix2 r (chan t l)) := by
  refine (out4_at _ _ _ _ r l).trans ?_
  rw [block_grad, block_w]
  rfl

theorem final4 (c : Dev nD) : (dats m 0 c).arrAt 4 (cfgs 0).N
    = arrX (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  have e : (win0_4.blk t).view.emb y = ix2 (y 0) (chan t (y 1)) := by
    unfold chan
    blk_ext! [idx t]
  rw [e]
  exact (congrArg _ (eq_ix2 y)).trans (block4 m c t (y 0) (y 1))

/-- Grid point `t`'s block of the gradient of the taps. -/
theorem block5 (c : Dev nD) (t : Fin cfg0.N) (j : Fin 4) (l : Fin 128) :
    out0_5 (F := Ideal) (iblk m c 0 t) (iblk m c 1 t) (iblk m c 2 t) (iblk m c 3 t) (ix2 j l)
    = arrW (m ((c : Thread nD τ).loc main_arg0)) (m ((c : Thread nD τ).loc main_arg1)) (m ((c : Thread nD τ).loc main_arg2))
      (m ((c : Thread nD τ).loc main_arg3)) (ix2 j (chan t l)) := by
  refine (out5_at _ _ _ _ j l).trans ?_
  rw [block_grad, block_x]
  rfl

theorem final5 (c : Dev nD) : (dats m 0 c).arrAt 5 (cfgs 0).N
    = arrW (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  have e : (win0_5.blk t).view.emb y = ix2 (y 0) (chan t (y 1)) := by
    unfold chan
    blk_ext! [idx t]
  rw [e]
  exact (congrArg _ (eq_ix2 y)).trans (block5 m c t (y 0) (y 1))

/-- Grid point `t`'s block of the gradient of the bias. -/
theorem block6 (c : Dev nD) (t : Fin cfg0.N) (j : Fin 1) (l : Fin 128) :
    out0_6 (F := Ideal) (iblk m c 0 t) (iblk m c 1 t) (iblk m c 2 t) (iblk m c 3 t) (ix2 j l)
    = arrB (m ((c : Thread nD τ).loc main_arg0)) (m ((c : Thread nD τ).loc main_arg1)) (m ((c : Thread nD τ).loc main_arg2))
      (m ((c : Thread nD τ).loc main_arg3)) (ix2 j (chan t l)) := by
  obtain rfl : j = 0 := Subsingleton.elim _ _
  refine (out6_at _ _ _ _ l).trans ?_
  rw [block_grad]
  rfl

theorem final6 (c : Dev nD) : (dats m 0 c).arrAt 6 (cfgs 0).N
    = arrB (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t _ y => ?_
  blk_simp
  rw [after0_6]
  have e : (win0_6.blk t).view.emb y = ix2 (y 0) (chan t (y 1)) := by
    unfold chan
    blk_ext! [idx t]
  rw [e]
  exact (congrArg _ (eq_ix2 y)).trans (block6 m c t (y 0) (y 1))

end Cert.ConvBwdIdeal.Value

end
-- ==== Proof.HostSum.lean ====
module

public import Idealize.ShloMosaic.Lib.Pointwise
public import Idealize.ShloMosaic.Lib.IdealHost

/-! # A host sum over the first two of three axes -/

@[expose] public section

noncomputable section

namespace Cert.HostSum

open Idealize.ShloMosaic

variable {n k l : Nat}

theorem drop_iff (h : (⟨3, ![n, k, l]⟩ : Shape).ReducesTo [0, 1] ⟨1, ![l]⟩) (c : Fin l) (i : (⟨3, ![n, k, l]⟩ : Shape).Idx) :
    h.drop i = ix1 c ↔ ∃ p : Fin n × Fin k, ix3 p.1 p.2 c = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-- The sum over the first two axes, one column at a time. -/
theorem sum_at (h : (⟨3, ![n, k, l]⟩ : Shape).ReducesTo [0, 1] ⟨1, ![l]⟩) (v : (⟨3, ![n, k, l]⟩ : Shape).Idx → EReal)
    (init : EReal) (c : Fin l) : Ideal.hostReduceAdd h v init (ix1 c) = init + ∑ a : Fin n, ∑ b : Fin k, v (ix3 a b c) := by
  refine congrArg (init + ·) ((Finset.sum_filter_eq_sum_of_fiber _ (fun p : Fin n × Fin k => ix3 p.1 p.2 c)
    (fun _ _ e => Prod.ext (congrFun e 0) (congrFun e 1)) (drop_iff h c) v).trans ?_)
  simp only [Fintype.sum_prod_type]

/-- A sum over the time axis and then over two unit axes. -/
theorem sums_at {T C : ℕ} (y : FVec Ideal ⟨3, ![1, T, C]⟩ .f32) (z z' : FVec Ideal ⟨0, ![]⟩ .f32) (hz : ∀ i, z i = 0) (hz' : ∀ i, z' i = 0)
    (h1 : (⟨3, ![1, T, C]⟩ : Shape).ReducesTo [1] ⟨2, ![1, C]⟩) (hu : 0 < (⟨0, ![]⟩ : Shape).numel)
    (h2 : (⟨2, ![1, C]⟩ : Shape).ShapeCasts ⟨3, ![1, 1, C]⟩) (h3 : (⟨3, ![1, 1, C]⟩ : Shape).ReducesTo [0, 1] ⟨1, ![C]⟩) (c : Fin C) :
    Host.reduceAdd (shapeCast ⟨3, ![1, 1, C]⟩ (Host.reduceAdd y z h1 hu) h2) z' h3 hu (ix1 c) = ∑ t, y (ix3 0 t c) := by
  rw [Idealize.ShloMosaic.ValueIdx.hostReduceAdd_apply]
  refine (sum_at _ _ _ c).trans ?_
  rw [hz', zero_add, Fin.sum_univ_one, Fin.sum_univ_one]
  pointwise [hz]
  refine Finset.sum_congr rfl fun t _ => congrArg (fun k => y (ix3 0 t k)) (?_ : (Shape.reshapeEquiv h2) (ix3 0 0 c) 1 = c)
  rw [Shape.reshapeEquiv_eq_of_rowMajor h2 (y := ix2 0 c) (by simp [Shape.rowMajor_val_two, Shape.rowMajor_val_three])]
  rfl

/-- A sum over unit axes at both ends. -/
theorem ends_at {a b : ℕ} (h : (⟨4, ![1, a, b, 1]⟩ : Shape).ReducesTo [0, 3] ⟨2, ![a, b]⟩) (v : (⟨4, ![1, a, b, 1]⟩ : Shape).Idx → EReal)
    (init : EReal) (p : Fin a) (q : Fin b) : Ideal.hostReduceAdd h v init (ix2 p q) = init + v (ix4 0 p q 0) := by
  refine congrArg (init + ·) ((Finset.sum_filter_eq_sum_of_fiber _ (fun _ : Fin 1 => ix4 0 p q 0) (fun _ _ _ => Subsingleton.elim _ _) (fun i => ?_) v).trans
    (Fin.sum_univ_one _))
  constructor
  · intro e
    refine ⟨0, ?_⟩
    funext c
    match c with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Subsingleton.elim (α := Fin 1) _ _
  · rintro ⟨_, rfl⟩
    funext c
    match c with
    | ⟨0, _⟩ => rfl
    | ⟨1, _⟩ => rfl

end Cert.HostSum

end
-- ==== Proof.ConvReference.lean ====
module

public import proofs.«01_k».proof.Proof.Gen.ConvRefIdeal.Read
public import proofs.«01_k».proof.Proof.ConvSpec
public import proofs.«01_k».proof.Proof.HostSum
public import Idealize.ShloMosaic.Lib.Pointwise
public import Idealize.ShloMosaic.Lib.IdealHost

/-! # The arrays the reference of `mlconv_bwd` returns -/

@[expose] public section

set_option maxRecDepth 16384

noncomputable section

namespace Cert.ConvRefIdeal.Read

open Cert.ConvRefIdeal Idealize.ShloMosaic Idealize.ShloMosaic.TcCoe Idealize.SL.Sem Cert.Shift Cert.ConvSpec

variable (X : FVec Ideal S4096x2824 .f32) (W : FVec Ideal S4x1024 .f32) (B : FVec Ideal S1024 .f32)
  (D : FVec Ideal S4096x1024 .f32)

/-- The sequence with three zero steps in front. -/
theorem pad_at (d : ℕ) (hd : d ≤ 3) (r : Fin 4096) (c : Fin 1024) :
    val_main_v3 (F := Ideal) X (ix3 0 ⟨3 - d + r.val, by omega⟩ c) = down d (seqX X c) r := by
  unfold down seqX
  pointwise [val_main_v3, val_main_v2, val_main_cst, val_main_v1, val_main_v0]
  by_cases h : d ≤ r.val
  · rw [dif_neg (by omega), dif_pos h]
    refine congrArg X ((ix2_inj ..).2 ⟨Fin.ext ?_, rfl⟩)
    show 3 - d + r.val - 3 = r.val - d
    omega
  · rw [dif_pos (by omega), dif_neg h]

/-- The convolution. -/
theorem conv_at (r : Fin 4096) (c : Fin 1024) :
    val_main_v34 (F := Ideal) X W B (ix3 0 r c) = conv (seqX X c) (tapsW W c) (B (ix1 c)) r := by
  unfold conv
  rw [← pad_at X 3 (by decide), ← pad_at X 2 (by decide), ← pad_at X 1 (by decide), ← down_zero (seqX X c) r, ← pad_at X 0 (by decide)]
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, tapsW]

/-- The cotangent of the convolution's output. -/
theorem dY_at (r : Fin 4096) (c : Fin 1024) :
    val_main_v38 (F := Ideal) X W B D (ix3 0 r c) = grad X W B D c r := by
  unfold grad dY
  rw [← conv_at]
  pointwise [val_main_v38, val_main_call1_v2, val_main_call1_v1, val_main_call1_v0, val_main_v37, val_main_v35_0, val_main_v35_1, val_main_v35_2, val_main_call0_v7, val_main_call0_v6, val_main_call0_v4, val_main_call0_v3, val_main_call0_v2, val_main_call0_v1, val_main_call0_v0, val_main_call0_cst, val_main_call0_cst_0, val_main_call0_cst_1, siluBwd, sigma, Ideal.logistic]

/-- The gradient of the bias. -/
theorem dB_at (k : Fin 1) (c : Fin 1024) : val_main_v88 (F := Ideal) X W B D (ix2 k c) = dB (grad X W B D c) := by
  unfold dB
  simp only [← dY_at]
  refine Eq.trans (b := val_main_v72 (F := Ideal) X W B D (ix1 c)) ?_ (Cert.HostSum.sums_at (val_main_v38 (F := Ideal) X W B D)
    (val_main_cst_13 (F := Ideal)) (val_main_cst_14 (F := Ideal)) ?_ ?_ _ _ _ _ c)
  · pointwise [val_main_v88]
  · intro i; pointwise [val_main_cst_13]
  · intro i; pointwise [val_main_cst_14]

/-- The sum of one tap: the input moved down by `3 - j` against the cotangent. -/
theorem tap_at (y : FVec Ideal S1x4096x1024 .f32) (z z' : FVec Ideal S_ .f32) (hz : ∀ i, z i = 0) (hz' : ∀ i, z' i = 0)
    (j : Fin 4) (c : Fin 1024) (hy : ∀ r, y (ix3 0 r c) = val_main_v3 (F := Ideal) X (ix3 0 ⟨3 - (3 - j.val) + r.val, by omega⟩ c) *
      val_main_v38 (F := Ideal) X W B D (ix3 0 r c)) :
    Host.reduceAdd (shapeCast S1x1x1024 (Host.reduceAdd y z Gen.reducesTo_S1x4096x1024_S1x1024_d1 Gen.h_S_)
      Gen.shapeCasts_S1x1024_S1x1x1024) z' Gen.reducesTo_S1x1x1024_S1024_d0_1 Gen.h_S_ (ix1 c) =
      dW (seqX X c) (grad X W B D c) j := by
  refine (Cert.HostSum.sums_at y z z' hz hz' _ _ _ _ c).trans (Finset.sum_congr rfl fun t _ => ?_)
  rw [hy, pad_at _ _ (by omega), dY_at]

theorem tap3 (c : Fin 1024) : val_main_v44 (F := Ideal) X W B D (ix1 c) = dW (seqX X c) (grad X W B D c) 3 :=
  tap_at X W B D (val_main_v39 (F := Ideal) X W B D) (val_main_cst_1 (F := Ideal)) (val_main_cst_2 (F := Ideal))
    (fun i => by pointwise [val_main_cst_1]) (fun i => by pointwise [val_main_cst_2]) 3 c
    (fun r => by pointwise [val_main_v39, val_main_v28])

theorem tap2 (c : Fin 1024) : val_main_v53 (F := Ideal) X W B D (ix1 c) = dW (seqX X c) (grad X W B D c) 2 :=
  tap_at X W B D (val_main_v48 (F := Ideal) X W B D) (val_main_cst_5 (F := Ideal)) (val_main_cst_6 (F := Ideal))
    (fun i => by pointwise [val_main_cst_5]) (fun i => by pointwise [val_main_cst_6]) 2 c
    (fun r => by pointwise [val_main_v48, val_main_v21])

theorem tap1 (c : Fin 1024) : val_main_v64 (F := Ideal) X W B D (ix1 c) = dW (seqX X c) (grad X W B D c) 1 :=
  tap_at X W B D (val_main_v59 (F := Ideal) X W B D) (val_main_cst_9 (F := Ideal)) (val_main_cst_10 (F := Ideal))
    (fun i => by pointwise [val_main_cst_9]) (fun i => by pointwise [val_main_cst_10]) 1 c
    (fun r => by pointwise [val_main_v59, val_main_v14])

theorem tap0 (c : Fin 1024) : val_main_v78 (F := Ideal) X W B D (ix1 c) = dW (seqX X c) (grad X W B D c) 0 :=
  tap_at X W B D (val_main_v73 (F := Ideal) X W B D) (val_main_cst_15 (F := Ideal)) (val_main_cst_16 (F := Ideal))
    (fun i => by pointwise [val_main_cst_15]) (fun i => by pointwise [val_main_cst_16]) 0 c
    (fun r => by pointwise [val_main_v73, val_main_v5])

/-- The gradient of the taps. -/
theorem dW_at (j : Fin 4) (c : Fin 1024) : val_main_v81 (F := Ideal) X W B D (ix2 j c) = dW (seqX X c) (grad X W B D c) j := by
  pointwise [val_main_v81, val_main_v67, val_main_v56, val_main_v46, val_main_v55, val_main_v66, val_main_v80,
    val_main_v45, val_main_v54, val_main_v65, val_main_v79, tap0, tap1, tap2, tap3,
    val_main_cst_3, val_main_cst_7, val_main_cst_11, val_main_cst_17]
  fin_cases j <;> simp

theorem sum_rev (a b c d : EReal) : d + c + b + a = a + b + c + d := by ac_rfl

/-- The gradient of the input. -/
theorem dX_at (r : Fin 4096) (c : Fin 1024) : val_main_v87 (F := Ideal) X W B D (ix2 r c) = dX (tapsW W c) (grad X W B D c) r := by
  unfold dX up tapsW
  simp only [← dY_at]
  pointwise [val_main_v87, val_main_v86, val_main_cst_19, val_main_v85, val_main_v83, val_main_v82, val_main_v69, val_main_v68, val_main_v58, val_main_v57, val_main_v47, val_main_v43, val_main_v52, val_main_v63, val_main_v77, val_main_cst_8, val_main_cst_12, val_main_cst_18,
    val_main_v42, val_main_v51, val_main_v62, val_main_v76, val_main_v31, val_main_v24, val_main_v17, val_main_v8,
    val_main_v30, val_main_v29, val_main_v23, val_main_v22, val_main_v16, val_main_v15, val_main_v7, val_main_v6]
  rw [Fin.sum_univ_one]
  refine (congrArg₂ (· + ·) (congrArg₂ (· + ·) (congrArg₂ (· + ·) rfl ?_) ?_) ?_).trans (sum_rev _ _ _ _)
  · exact guard_mul (fun t => val_main_v38 (F := Ideal) X W B D (ix3 0 t c)) _ r 1 (fun h => ⟨3 + r.val - 2, h.2⟩) (by omega) (fun _ => by show 3 + r.val - 2 = r.val + 1; omega)
  · exact guard_mul (fun t => val_main_v38 (F := Ideal) X W B D (ix3 0 t c)) _ r 2 (fun h => ⟨3 + r.val - 1, h.2⟩) (by omega) (fun _ => by show 3 + r.val - 1 = r.val + 2; omega)
  · exact guard_mul (fun t => val_main_v38 (F := Ideal) X W B D (ix3 0 t c)) _ r 3 (fun h => ⟨3 + r.val, h⟩) (by omega) (fun _ => by show 3 + r.val = r.val + 3; omega)

/-! ## The arrays -/

theorem final87 : val_main_v87 (F := Ideal) X W B D = arrX X W B D := by
  funext i
  exact (congrArg _ (eq_ix2 i)).trans (dX_at X W B D (i 0) (i 1))

theorem final81 : val_main_v81 (F := Ideal) X W B D = arrW X W B D := by
  funext i
  exact (congrArg _ (eq_ix2 i)).trans (dW_at X W B D (i 0) (i 1))

theorem final88 : val_main_v88 (F := Ideal) X W B D = arrB X W B D := by
  funext i
  exact (congrArg _ (eq_ix2 i)).trans (dB_at X W B D (i 0) (i 1))

end Cert.ConvRefIdeal.Read

end
-- ==== Proof.ConvClaim.lean ====
module

public import proofs.«01_k».proof.Defs
public import proofs.«01_k».proof.Proof.Gen.ConvBwd
public import proofs.«01_k».proof.Proof.Gen.ConvRefIdeal
public import proofs.«01_k».proof.Proof.ConvKernel
public import proofs.«01_k».proof.Proof.ConvReference
public import Idealize.ShloMosaic.Lib.Claim

/-! # `mlconv_bwd`: the claims of the pair -/

@[expose] public section

set_option maxRecDepth 16384

noncomputable section

namespace Cert.ConvClaim

open Idealize.ShloMosaic Idealize.SL.Sem Cert.ConvSpec

local instance : Cert.ConvBwd.Facts := Cert.ConvBwd.Gen.facts
local instance : Cert.ConvBwdIdeal.Facts := Cert.ConvBwdIdeal.Gen.facts
local instance : Cert.ConvRefIdeal.Facts := Cert.ConvRefIdeal.Gen.facts

theorem frame_ideal : Cert.quiescent_ConvBwdIdeal := fun m g _ => Cert.ConvBwdIdeal.Gen.frame m g

theorem main_eq : Cert.ConvBwd.main (F := Bits) = Cert.ConvBwdIdeal.main (F := Bits) := rfl

theorem defs_eq : Cert.ConvBwd.defs (F := Bits) = Cert.ConvBwdIdeal.defs (F := Bits) := by sl_kernel_rfl

/-- The kernel's program is its idealized program over the machine's floats: one run serves both. -/
theorem frame_kernel : Cert.quiescent_ConvBwd := fun m g _ => by
  rw [defs_eq, main_eq]
  exact Cert.ConvBwdIdeal.Gen.frame (F := Bits) m g

theorem frame_reference : Cert.quiescent_ConvRefIdeal := by
  intro m g _
  exact (θ_run _ _ _).mono (fun r h => ⟨fun c => (h c).2.2.2, sem_eq_zero_of_no_sems rfl _⟩) (Cert.ConvRefIdeal.Value.run m g)

theorem algebraic : Cert.algebraic_ConvBwdIdeal_ConvRefIdeal := by
  pair_intro
  · run_from Cert.ConvBwdIdeal.Gen.run_main m g
  · run_from Cert.ConvRefIdeal.Value.run m' g'
    · rw [Cert.ConvRefIdeal.Read.val_main_v87_eq, Cert.ConvRefIdeal.Read.final87, (hagree c).1, (hagree c).2.1, (hagree c).2.2.1, (hagree c).2.2.2]
      exact (Cert.ConvBwdIdeal.Value.final4 m c).symm
    · rw [Cert.ConvRefIdeal.Read.val_main_v81_eq, Cert.ConvRefIdeal.Read.final81, (hagree c).1, (hagree c).2.1, (hagree c).2.2.1, (hagree c).2.2.2]
      exact (Cert.ConvBwdIdeal.Value.final5 m c).symm
    · rw [Cert.ConvRefIdeal.Read.val_main_v88_eq, Cert.ConvRefIdeal.Read.final88, (hagree c).1, (hagree c).2.1, (hagree c).2.2.1, (hagree c).2.2.2]
      exact (Cert.ConvBwdIdeal.Value.final6 m c).symm

end Cert.ConvClaim

end
-- ==== Proof.Finite.lean ====
module

public import Idealize.ShloMosaic.Lib.Pointwise
public import Idealize.ShloMosaic.Lib.ReduceAll
public import Idealize.ShloMosaic.PureOps.Ideal.Laws

/-! # Values that are real numbers -/

@[expose] public section

noncomputable section

namespace Cert.Finite

open Idealize.ShloMosaic

/-- Neither infinity. -/
def IsReal (x : EReal) : Prop := ∃ r : ℝ, x = r

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact IsReal.zero
  | insert i s hi ih => rw [Finset.sum_insert hi]; exact (h i).add ih

/-- A magnitude below the positive infinity. -/
theorem real_of_abs_lt {x : EReal} (h : max x (-x) < ⊤) : IsReal x := by
  induction x using EReal.rec with
  | bot => simp at h
  | coe r => exact ⟨r, rfl⟩
  | top => simp at h

theorem IsReal.tanh {x : EReal} (hx : IsReal x) : IsReal (Ideal.tanh x) := by
  obtain ⟨a, rfl⟩ := hx
  exact ⟨Real.tanh a, rfl⟩

/-- The word of the positive infinity. -/
theorem inf_word : Ideal.ofBits .f32 0x7F800000#32 = ⊤ := by
  simp [Ideal.ofBits, Ideal.ieee]

/-- The test `jnp.all(jnp.abs(x) < jnp.inf)`. -/
theorem real_of_all {s t u : Shape} [Subsingleton t.Idx] {ax : List (Fin s.rank)} (x y : FVec Ideal s .f32)
    (hy : ∀ i, y i = Ideal.ofBits .f32 0x7F800000#32) (init : IVec u 1) (h : s.ReducesTo ax t)
    (hu : 0 < u.numel) (e : Host.reduce IntOp.andi (cmpf .olt (Host.absf x) y) init h hu = fun _ => 1#1) (j : t.Idx)
    (i : s.Idx) : IsReal (x i) := by
  have hi : Ideal.cmp .olt (max (x i) (-x i)) (y i) = 1#1 :=
    Host.reduce_andi_all _ init h hu j (congrFun e j) i
  rw [hy, inf_word] at hi
  refine real_of_abs_lt ?_
  by_contra hn
  rw [Ideal.cmp, decide_eq_false hn] at hi
  exact absurd hi (by decide)

end Cert.Finite

end
-- ==== Proof.FfnSpec.lean ====
module

public import proofs.«01_k».proof.Proof.Shift
public import proofs.«01_k».proof.Proof.Finite
public import Idealize.ShloMosaic.Lib.Pointwise
public import Idealize.ShloMosaic.Lib.IdealHost

/-! # The gradient of `gelu (causal convolution) * causal convolution`, one channel at a time

A channel of the up projection is a sequence `x` of 4096 steps; `w` are its three taps and `b` its bias. Channel `c` of the
gate half meets channel `c` of the value half, and `a` is the cotangent of their product. -/

@[expose] public section

noncomputable section

namespace Cert.FfnSpec

open Idealize.ShloMosaic Cert.Shift Cert.Finite

/-- The causal convolution. -/
def conv (x : Fin 4096 → EReal) (w : Fin 3 → EReal) (b : EReal) (t : Fin 4096) : EReal :=
  b + down 2 x t * w 0 + down 1 x t * w 1 + x t * w 2

/-- The gradient of the sequence. -/
def dX (w : Fin 3 → EReal) (g : Fin 4096 → EReal) (t : Fin 4096) : EReal :=
  up 2 g t * w 0 + up 1 g t * w 1 + g t * w 2

/-- The gradient of the taps. -/
def dW (x : Fin 4096 → EReal) (g : Fin 4096 → EReal) (j : Fin 3) : EReal :=
  ∑ t, down (2 - j.val) x t * g t

/-- The gradient of the bias. -/
def dB (g : Fin 4096 → EReal) : EReal := ∑ t, g t

/-- One half, as its word. -/
def half : EReal := Ideal.ofBits .f32 0x3F000000#32

/-- The square root of `2 / π`, as its word. -/
def c0 : EReal := Ideal.ofBits .f32 0x3F4C422A#32

/-- 0.044715. -/
def c1 : EReal := ((8943 / 200000 : ℝ) : EReal)

/-- Three times 0.044715. -/
def c3 : EReal := ((26829 / 200000 : ℝ) : EReal)

/-- The hyperbolic tangent inside `gelu u`. -/
def th (u : EReal) : EReal := Ideal.tanh (c0 * (u + c1 * (u * u * u)))

/-- `gelu u` is `u` times this. -/
def act (u : EReal) : EReal := half * (1 + th u)

/-- The cotangent of `u` when that of `gelu u * v` is `a`. -/
def dGate (u v a : EReal) : EReal :=
  a * v * (act u + half * u * (1 - th u * th u) * (c0 * (1 + c3 * (u * u))))

/-- The cotangent of `v` when that of `gelu u * v` is `a`. -/
def dVal (u a : EReal) : EReal := a * (u * act u)

/-! ## The arrays: one channel per column -/

variable (H : FVec Ideal ⟨2, ![4096, 1024]⟩ .f32) (U : FVec Ideal ⟨2, ![1024, 5632]⟩ .f32)
  (W : FVec Ideal ⟨2, ![3, 5632]⟩ .f32) (B : FVec Ideal ⟨1, ![5632]⟩ .f32)
  (P : FVec Ideal ⟨2, ![2816, 1024]⟩ .f32) (D : FVec Ideal ⟨2, ![4096, 1024]⟩ .f32)

/-- Channel `c` of the up projection. -/
def seqX (c : Fin 5632) (t : Fin 4096) : EReal := ∑ k, H (ix2 t k) * U (ix2 k c)

/-- The taps of channel `c`. -/
def tapsW (c : Fin 5632) (j : Fin 3) : EReal := W (ix2 j c)

/-- Channel `c` of the convolution. -/
def seqU (c : Fin 5632) : Fin 4096 → EReal := conv (seqX H U c) (tapsW W c) (B (ix1 c))

/-- The cotangent of channel `c` of the product of both halves. -/
def seqA (c : Fin 2816) (t : Fin 4096) : EReal := ∑ k, D (ix2 t k) * P (ix2 c k)

/-- A channel of the gate half. -/
def lo (c : Fin 2816) : Fin 5632 := ⟨c.val, by omega⟩

/-- A channel of the value half. -/
def hi (c : Fin 2816) : Fin 5632 := ⟨c.val + 2816, by omega⟩

/-- The cotangent of channel `c` of the gate half. -/
def gradG (c : Fin 2816) (t : Fin 4096) : EReal :=
  dGate (seqU H U W B (lo c) t) (seqU H U W B (hi c) t) (seqA P D c t)

/-- The cotangent of channel `c` of the value half. -/
def gradV (c : Fin 2816) (t : Fin 4096) : EReal := dVal (seqU H U W B (lo c) t) (seqA P D c t)

/-- The cotangent of channel `c` of the convolution. -/
def grad (c : Fin 5632) : Fin 4096 → EReal :=
  if h : c.val < 2816 then gradG H U W B P D ⟨c.val, h⟩ else gradV H U W B P D ⟨c.val - 2816, by omega⟩

theorem grad_lo (c : Fin 2816) : grad H U W B P D (lo c) = gradG H U W B P D c := dif_pos c.isLt

theorem grad_hi (c : Fin 2816) : grad H U W B P D (hi c) = gradV H U W B P D c := by
  unfold grad
  rw [dif_neg (by unfold hi; simp)]
  exact congrArg _ (Fin.ext (by unfold hi; simp))

/-- The gradient of the gate half of the up projection. -/
def arrG : FVec Ideal ⟨2, ![4096, 2816]⟩ .bf16 := fun i => dX (tapsW W (lo (i 1))) (grad H U W B P D (lo (i 1))) (i 0)

/-- The gradient of the value half of the up projection. -/
def arrV : FVec Ideal ⟨2, ![4096, 2816]⟩ .bf16 := fun i => dX (tapsW W (hi (i 1))) (grad H U W B P D (hi (i 1))) (i 0)

/-- The gradient of the taps. -/
def arrW : FVec Ideal ⟨2, ![3, 5632]⟩ .f32 := fun i => dW (seqX H U (i 1)) (grad H U W B P D (i 1)) (i 0)

/-- The gradient of the bias. -/
def arrB : FVec Ideal ⟨2, ![1, 5632]⟩ .f32 := fun i => dB (grad H U W B P D (i 1))

/-! ## Real arguments -/

theorem real_half : IsReal half := ⟨1 / 2, by
  unfold half
  simp [Ideal.ofBits, Ideal.ieee, -EReal.coe_mul]; norm_num⟩

theorem real_c0 : IsReal c0 := ⟨13386282 / 2 ^ 24, by
  unfold c0
  simp [Ideal.ofBits, Ideal.ieee, -EReal.coe_mul]; norm_num⟩

variable {H U W B P D}

theorem real_down {n : ℕ} (d : ℕ) (x : Fin n → EReal) (h : ∀ t, IsReal (x t)) (t : Fin n) : IsReal (down d x t) := by
  unfold down
  split
  · exact h _
  · exact IsReal.zero

theorem real_seqX (hH : ∀ i, IsReal (H i)) (hU : ∀ i, IsReal (U i)) (c : Fin 5632) (t : Fin 4096) : IsReal (seqX H U c t) :=
  IsReal.sum _ fun _ => (hH _).mul (hU _)

theorem real_seqA (hD : ∀ i, IsReal (D i)) (hP : ∀ i, IsReal (P i)) (c : Fin 2816) (t : Fin 4096) : IsReal (seqA P D c t) :=
  IsReal.sum _ fun _ => (hD _).mul (hP _)

theorem real_seqU (hH : ∀ i, IsReal (H i)) (hU : ∀ i, IsReal (U i)) (hW : ∀ i, IsReal (W i)) (hB : ∀ i, IsReal (B i))
    (c : Fin 5632) (t : Fin 4096) : IsReal (seqU H U W B c t) := by
  have hx := real_seqX hH hU c
  exact (((hB _).add ((real_down 2 _ hx t).mul (hW _))).add ((real_down 1 _ hx t).mul (hW _))).add ((hx t).mul (hW _))

/-! ## The gate's gradient by the chain rule -/

/-- The cube's coefficient written as a quotient. -/
theorem quot_eq {x : EReal} (hx : IsReal x) (k n q : ℝ) (hn : n ≠ 0) (h : k / n = q) :
    Ideal.div ((k : EReal) * x) (n : EReal) = (q : EReal) * x := by
  obtain ⟨x, rfl⟩ := hx
  rw [Ideal.div, if_neg (by exact_mod_cast hn), ← EReal.coe_inv, ← EReal.coe_mul, ← EReal.coe_mul, ← EReal.coe_mul, ← h]
  exact congrArg _ (by field_simp)

theorem gate_chain {u v a : EReal} (hu : IsReal u) (hv : IsReal v) (ha : IsReal a) :
    a * v * act u + c0 * (half * (u * (a * v)) * ((1 + th u) * (1 - th u)))
      + ((44715 : ℝ) : EReal) * Ideal.div (c0 * (half * (u * (a * v)) * ((1 + th u) * (1 - th u)))) ((1000000 : ℝ) : EReal)
        * (((3 : ℝ) : EReal) * (u * u))
    = dGate u v a := by
  have ht : IsReal (th u) := by
    unfold th c1
    exact (real_c0.mul (hu.add ((IsReal.coe _).mul ((hu.mul hu).mul hu)))).tanh
  obtain ⟨s, hs⟩ := real_half
  obtain ⟨q, hq⟩ := real_c0
  unfold dGate act c3
  rw [hs, hq]
  obtain ⟨t, ht⟩ := ht
  rw [ht]
  obtain ⟨u, rfl⟩ := hu
  obtain ⟨v, rfl⟩ := hv
  obtain ⟨a, rfl⟩ := ha
  rw [← EReal.coe_one, Ideal.div, if_neg (by exact_mod_cast (by norm_num : (1000000 : ℝ) ≠ 0)), ← EReal.coe_inv]
  simp only [← EReal.coe_mul, ← EReal.coe_add, ← EReal.coe_sub]
  exact congrArg _ (by ring)

end Cert.FfnSpec

end
-- ==== Proof.FfnKernelPoint.lean ====
module

public import proofs.«01_k».proof.Proof.Gen.FfnBwdIdeal.Frame
public import proofs.«01_k».proof.Proof.FfnSpec
public import proofs.«01_k».proof.Proof.ShiftBlock
public import Idealize.ShloMosaic.Lib.Pipeline.ValueKit

/-! # What one grid point of `_ffn_gate_bwd` computes, one channel at a time -/

@[expose] public section

set_option maxRecDepth 16384

noncomputable section

namespace Cert.FfnBwdIdeal.Value

open Cert.FfnBwdIdeal Cert.FfnBwdIdeal.Gen Idealize.ShloMosaic Idealize.ShloMosaic.TcCoe Idealize.SL.Sem Cert.Shift Cert.FfnSpec

/-- Channel `l` of three rows of taps. -/
def trip (w0 w1 w2 : FVec Ideal S1x128 .f32) (l : Fin 128) : Fin 3 → EReal := ![w0 (ix2 0 l), w1 (ix2 0 l), w2 (ix2 0 l)]

/-- The step numbers of a block. -/
abbrev steps : IVec S4096x128 32 := iota Kind.tc S4096x128 32 [0] iota_S4096x128_d0_w32

variable (h : FVec Ideal S4096x1024 .bf16) (x1 x2 : FVec Ideal S1024x128 .bf16) (b w0 w1 w2 : FVec Ideal S1x128 .f32)

/-- The gate half's block of the up projection. -/
theorem col_pay2 (l : Fin 128) : col (k0_pay2 (F := Ideal) h x1 x2) l = fun t => ∑ k, h (ix2 t k) * x1 (ix2 k l) := by
  funext t
  unfold col
  pointwise [k0_pay2, k0_pay1]

/-- The value half's block of the up projection. -/
theorem col_pay3 (l : Fin 128) : col (k0_pay3 (F := Ideal) h x1 x2) l = fun t => ∑ k, h (ix2 t k) * x2 (ix2 k l) := by
  funext t
  unfold col
  pointwise [k0_pay3, k0_pay1]

/-- The cotangent of the product of both halves. -/
theorem pay7_at (z : FVec Ideal S4096x1024 .bf16) (x0 : FVec Ideal S128x1024 .bf16) (r : Fin 4096) (l : Fin 128) :
    k0_pay7 (F := Ideal) z x0 (ix2 r l) = ∑ k, z (ix2 r k) * x0 (ix2 l k) := by
  pointwise [k0_pay7]

theorem pay4_at (r : Fin 4096) (l : Fin 128) : k0_pay4 (F := Ideal) h x1 x2 b w0 w1 (ix2 r l)
    = b (ix2 0 l) + down 2 (col (k0_pay2 (F := Ideal) h x1 x2) l) r * w0 (ix2 0 l)
      + down 1 (col (k0_pay2 (F := Ideal) h x1 x2) l) r * w1 (ix2 0 l) := by
  unfold k0_pay4
  dsimp only
  simp only [addf_apply, mulf_apply]
  rw [select_down 2 (by decide) (by decide) _ _ _ r l, select_down 1 (by decide) (by decide) _ _ _ r l]
  pointwise

/-- The gate half's convolution. -/
theorem pay5_at (r : Fin 4096) (l : Fin 128) :
    k0_pay5 (F := Ideal) (k0_pay2 h x1 x2) (k0_pay4 h x1 x2 b w0 w1) w2 (ix2 r l)
    = conv (col (k0_pay2 (F := Ideal) h x1 x2) l) (trip w0 w1 w2 l) (b (ix2 0 l)) r := by
  unfold conv trip
  refine Eq.trans (b := k0_pay4 (F := Ideal) h x1 x2 b w0 w1 (ix2 r l) + k0_pay2 (F := Ideal) h x1 x2 (ix2 r l) * w2 (ix2 0 l)) ?_ ?_
  · pointwise [k0_pay5]
  · rw [pay4_at]
    rfl

/-- The value half's convolution. -/
theorem pay6_at (x : FVec Ideal S4096x128 .f32) (r : Fin 4096) (l : Fin 128) :
    k0_pay6 (F := Ideal) x b w0 w1 w2 (ix2 r l) = conv (col x l) (trip w0 w1 w2 l) (b (ix2 0 l)) r := by
  unfold k0_pay6 conv trip
  dsimp only
  simp only [addf_apply, mulf_apply]
  rw [select_down 2 (by decide) (by decide) x _ _ r l, select_down 1 (by decide) (by decide) x _ _ r l]
  pointwise [col]

variable (x y v a : FVec Ideal S4096x128 .f32) (w : FVec Ideal S1x128 .f32)

/-- The cotangent of the gate half. -/
theorem pay11_at (r : Fin 4096) (l : Fin 128) :
    k0_pay11 (F := Ideal) (k0_pay5 x y w) v a (k0_pay8 x y w) (ix2 r l)
    = dGate (k0_pay5 (F := Ideal) x y w (ix2 r l)) (v (ix2 r l)) (a (ix2 r l)) := by
  unfold dGate act th half c0
  pointwise [k0_pay11, k0_pay10, k0_pay9, k0_pay8]
  rfl

/-- The cotangent of the value half. -/
theorem pay12_at (r : Fin 4096) (l : Fin 128) : k0_pay12 (F := Ideal) (k0_pay5 x y w) a (k0_pay8 x y w) (ix2 r l)
    = dVal (k0_pay5 (F := Ideal) x y w (ix2 r l)) (a (ix2 r l)) := by
  unfold dVal act th half c0
  pointwise [k0_pay12, k0_pay10, k0_pay9, k0_pay8]
  rfl

/-! ## The convolution's gradient -/

theorem pay13_at (r : Fin 4096) (l : Fin 128) : k0_pay13 (F := Ideal) x y v a (ix2 r l) = up 2 (col (k0_pay11 (F := Ideal) x y v a) l) r := by
  unfold k0_pay13
  exact select_up 2 4094 rfl (by decide) (by decide) (by decide) _ _ _ r l

theorem pay16_at (r : Fin 4096) (l : Fin 128) : k0_pay16 (F := Ideal) x steps (ix2 r l) = up 1 (col x l) r := by
  unfold k0_pay16
  exact select_up 1 4095 rfl (by decide) (by decide) (by decide) _ _ _ r l

theorem pay22_at (r : Fin 4096) (l : Fin 128) : k0_pay22 (F := Ideal) x (ix2 r l) = up 2 (col x l) r := by
  unfold k0_pay22
  exact select_up 2 4094 rfl (by decide) (by decide) (by decide) _ _ _ r l

theorem pay24_at (r : Fin 4096) (l : Fin 128) : k0_pay24 (F := Ideal) x (ix2 r l) = up 1 (col x l) r := by
  unfold k0_pay24
  exact select_up 1 4095 rfl (by decide) (by decide) (by decide) _ _ _ r l

/-- The gradient of the gate half of the projection. -/
theorem dXg_at (r : Fin 4096) (l : Fin 128) :
    k0_pay20 (F := Ideal) (k0_pay11 x y v a) (k0_pay14 x y v a w0) steps w1 w2 (ix2 r l)
    = dX (trip w0 w1 w2 l) (col (k0_pay11 (F := Ideal) x y v a) l) r := by
  unfold dX trip
  rw [← pay13_at, ← pay16_at]
  pointwise [k0_pay20, k0_pay14, col]

/-- The gradient of the value half of the projection. -/
theorem dXv_at (r : Fin 4096) (l : Fin 128) :
    k0_pay28 (F := Ideal) x k0_pay21 (k0_pay22 x) w0 w1 w2 (ix2 r l) = dX (trip w0 w1 w2 l) (col x l) r := by
  unfold dX trip
  rw [← pay22_at, ← pay24_at]
  pointwise [k0_pay28, k0_pay21, col]

/-- The gradient of one tap, from the cotangent moved up. -/
theorem tap_sum (d : ℕ) (g z : FVec Ideal S4096x128 .f32) (l : Fin 128) (hz : ∀ r, z (ix2 r l) = up d (col g l) r) :
    (∑ t, z (ix2 t l) * x (ix2 t l) : EReal) = ∑ t, down d (col x l) t * col g l t := by
  rw [← sum_up_mul]
  exact Finset.sum_congr rfl fun t _ => congrArg (· * x (ix2 t l)) (hz t)

theorem tap_last (g : FVec Ideal S4096x128 .f32) (l : Fin 128) :
    (∑ t, g (ix2 t l) * x (ix2 t l) : EReal) = ∑ t, down 0 (col x l) t * col g l t := by
  refine Finset.sum_congr rfl fun t _ => ?_
  rw [down_zero]
  exact mul_comm _ _

theorem pay15_at (z : FVec Ideal S4096x128 .f32) (l : Fin 128) : k0_pay15 (F := Ideal) z x y v a (ix2 0 l)
    = ∑ t, down 2 (col z l) t * col (k0_pay11 (F := Ideal) x y v a) l t := by
  rw [← tap_sum z 2 _ _ l fun r => pay13_at x y v a r l]
  pointwise [k0_pay15]

theorem pay17_at (l : Fin 128) : k0_pay17 (F := Ideal) x y steps (ix2 0 l) = ∑ t, down 1 (col x l) t * col y l t := by
  rw [← tap_sum x 1 _ _ l fun r => pay16_at y r l]
  pointwise [k0_pay17]

theorem pay18_at (l : Fin 128) : k0_pay18 (F := Ideal) x y (ix2 0 l) = ∑ t, down 0 (col x l) t * col y l t := by
  rw [← tap_last]
  pointwise [k0_pay18]

theorem pay19_at (l : Fin 128) : k0_pay19 (F := Ideal) x (ix2 0 l) = dB (col x l) := by
  pointwise [k0_pay19, dB, col]

theorem pay23_at (l : Fin 128) : k0_pay23 (F := Ideal) x (k0_pay22 y) (ix2 0 l) = ∑ t, down 2 (col x l) t * col y l t := by
  rw [← tap_sum x 2 _ _ l fun r => pay22_at y r l]
  pointwise [k0_pay23]

theorem pay25_at (l : Fin 128) : k0_pay25 (F := Ideal) x y (ix2 0 l) = ∑ t, down 1 (col x l) t * col y l t := by
  rw [← tap_sum x 1 _ _ l fun r => pay24_at y r l]
  pointwise [k0_pay25]

theorem pay26_at (l : Fin 128) : k0_pay26 (F := Ideal) x y (ix2 0 l) = ∑ t, down 0 (col x l) t * col y l t := by
  rw [← tap_last]
  pointwise [k0_pay26]

theorem pay27_at (l : Fin 128) : k0_pay27 (F := Ideal) x (ix2 0 l) = dB (col x l) := by
  pointwise [k0_pay27, dB, col]

end Cert.FfnBwdIdeal.Value

end
-- ==== Proof.FfnKernel.lean ====
module

public import proofs.«01_k».proof.Proof.FfnKernelPoint
public import Idealize.ShloMosaic.Lib.Pipeline.ReadBack
public import Idealize.ShloMosaic.Lib.Claim

/-! # The arrays `_ffn_gate_bwd` returns -/

@[expose] public section

set_option maxRecDepth 16384

noncomputable section

namespace Cert.FfnBwdIdeal.Value

open Cert.FfnBwdIdeal Cert.FfnBwdIdeal.Gen Idealize.ShloMosaic Idealize.ShloMosaic.TcCoe Idealize.SL.Sem Cert.Shift Cert.FfnSpec
open Idealize.ShloMosaic.Pipeline (Dat)

variable (m : (ℓ : Loc nD τ sig) → Buf (Elt Ideal) ℓ)

/-- Reading back the one store that filled a scratch buffer. -/
theorem fetched {sp : Space} {S : Shape} {e : EltTy} (v : View sig .tc sp S e) (w : S.Idx → Elt Ideal e) {off : Fin S.rank → ℕ}
    (inb : ∀ a, off a + S.size a ≤ S.size a) (h : ∀ a, off a = 0) :
    v.readCov (Val := Elt Ideal) [⟨Rect.whole S, w⟩] (Rect.unit off (no_index S.size) inb).toLoadRect = w :=
  View.readCov_cons_unit_lit' v _ inb w [] (fun _ => rfl) h

theorem fetched' (v : View sig .tc .vmem S4096x1024 .bf16) (w : FVec Ideal S4096x1024 .bf16) :
    v.readCov (Val := Elt Ideal) [⟨Rect.whole S4096x1024, ReadAs.same.apply w⟩]
      (Rect.unit ![0, 0] ![4096, 1024] inb_S4096x1024_S4096x1024_0_0).toLoadRect = w := fetched v w _ (by decide)

/-- Each half's first grid point fetches `dz` and `h` whole into scratch. -/
theorem scratch_A (c : Dev nD) (t : Fin cfg0.N) (h : t.val % 22 = 0) :
    (outsAt0 m c t.val t.isLt).2.2.2.2.2.2.1 = V m c main_v0 ∧ (outsAt0 m c t.val t.isLt).2.2.2.2.2.2.2 = V m c main_v2 := by
  rw [outsAt0_A m c t h]
  constructor
  · frame_out
    exact View.canon_unit_zero rfl _ _
  · frame_out
    exact View.canon_unit_zero rfl _ _

/-- The other grid points keep them. -/
theorem scratch_B (c : Dev nD) (t : Fin cfg0.N) (h : ¬t.val % 22 = 0) :
    (outsAt0 m c t.val t.isLt).2.2.2.2.2.2.1 = (outsAt0 m c (t.val - 1) (by omega)).2.2.2.2.2.2.1
    ∧ (outsAt0 m c t.val t.isLt).2.2.2.2.2.2.2 = (outsAt0 m c (t.val - 1) (by omega)).2.2.2.2.2.2.2 := by
  rw [outsAt0_B m c t h]
  unfold sout0_B_0 sout0_B_1
  exact ⟨rfl, rfl⟩

theorem scratch (c : Dev nD) : ∀ (n : ℕ) (hn : n < cfg0.N),
    (outsAt0 m c n hn).2.2.2.2.2.2.1 = V m c main_v0 ∧ (outsAt0 m c n hn).2.2.2.2.2.2.2 = V m c main_v2 := by
  intro n
  induction n with
  | zero => exact fun hn => scratch_A m c ⟨0, hn⟩ rfl
  | succ n ih =>
    intro hn
    by_cases h : (n + 1) % 22 = 0
    · exact scratch_A m c ⟨n + 1, hn⟩ h
    · have e := scratch_B m c ⟨n + 1, hn⟩ h
      exact ⟨e.1.trans (ih _).1, e.2.trans (ih _).2⟩

variable (c : Dev nD) (t : Fin cfg0.N)

/-- The rows of a block of taps. -/
def row0 (w : FVec Ideal S3x128 .f32) : FVec Ideal S1x128 .f32 :=
  View.ld (Val := Elt Ideal) (S := S3x128) (e' := .f32) w (Rect.unit ![0, 0] ![1, 128] inb_S3x128_S1x128_0_0)
def row1 (w : FVec Ideal S3x128 .f32) : FVec Ideal S1x128 .f32 :=
  View.ld (Val := Elt Ideal) (S := S3x128) (e' := .f32) w (Rect.unit ![1, 0] ![1, 128] inb_S3x128_S1x128_1_0)
def row2 (w : FVec Ideal S3x128 .f32) : FVec Ideal S1x128 .f32 :=
  View.ld (Val := Elt Ideal) (S := S3x128) (e' := .f32) w (Rect.unit ![2, 0] ![1, 128] inb_S3x128_S1x128_2_0)

/-- The gate half's block of the up projection. -/
def xg : FVec Ideal S4096x128 .f32 := k0_pay2 (V m c main_v2) (iblk m c 1 t) (iblk m c 2 t)

/-- The value half's block of the up projection. -/
def xv : FVec Ideal S4096x128 .f32 := k0_pay3 (V m c main_v2) (iblk m c 1 t) (iblk m c 2 t)

/-- The gate half's convolution before its last tap. -/
def pg : FVec Ideal S4096x128 .f32 :=
  k0_pay4 (V m c main_v2) (iblk m c 1 t) (iblk m c 2 t) (iblk m c 5 t) (row0 (iblk m c 3 t)) (row1 (iblk m c 3 t))

/-- The gate half's convolution. -/
def ug : FVec Ideal S4096x128 .f32 := k0_pay5 (xg m c t) (pg m c t) (row2 (iblk m c 3 t))

/-- The value half's convolution. -/
def uv : FVec Ideal S4096x128 .f32 :=
  k0_pay6 (xv m c t) (iblk m c 6 t) (row0 (iblk m c 4 t)) (row1 (iblk m c 4 t)) (row2 (iblk m c 4 t))

/-- The cotangent of the product of both halves. -/
def da : FVec Ideal S4096x128 .f32 := k0_pay7 (V m c main_v0) (iblk m c 0 t)

/-- The argument of the gate half's hyperbolic tangent, but for its factor. -/
def ig : FVec Ideal S4096x128 .f32 := k0_pay8 (xg m c t) (pg m c t) (row2 (iblk m c 3 t))

/-- The cotangent of the gate half. -/
def gg : FVec Ideal S4096x128 .f32 := k0_pay11 (ug m c t) (uv m c t) (da m c t) (ig m c t)

/-- The cotangent of the value half. -/
def gv : FVec Ideal S4096x128 .f32 := k0_pay12 (ug m c t) (da m c t) (ig m c t)

/-! ## The stores -/

theorem out7 : (outsAt0 m c t.val t.isLt).1 = k0_pay20 (gg m c t) (k0_pay14 (ug m c t) (uv m c t) (da m c t) (ig m c t) (row0 (iblk m c 3 t))) steps
      (row1 (iblk m c 3 t)) (row2 (iblk m c 3 t)) := by
  by_cases h : t.val % 22 = 0
  · rw [outsAt0_A m c t h]
    frame_out
    simp only [View.read_whole]
    repeat rw [fetched']
    unfold gg ug uv da ig pg xg xv row0 row1 row2
    with_reducible rfl
  · rw [outsAt0_B m c t h]
    frame_out
    simp only [read_unread_whole]
    rw [(scratch m c _ _).1, (scratch m c _ _).2]
    unfold gg ug uv da ig pg xg xv row0 row1 row2
    with_reducible rfl

theorem out8 : (outsAt0 m c t.val t.isLt).2.1 = k0_pay28 (gv m c t) k0_pay21 (k0_pay22 (gv m c t)) (row0 (iblk m c 4 t)) (row1 (iblk m c 4 t)) (row2 (iblk m c 4 t)) := by
  by_cases h : t.val % 22 = 0
  · rw [outsAt0_A m c t h]
    frame_out
    simp only [View.read_whole]
    repeat rw [fetched']
    unfold gv ug da ig pg xg row0 row1 row2
    with_reducible rfl
  · rw [outsAt0_B m c t h]
    frame_out
    simp only [read_unread_whole]
    rw [(scratch m c _ _).1, (scratch m c _ _).2]
    unfold gv ug da ig pg xg row0 row1 row2
    with_reducible rfl

/-- Three rows stored one by one. -/
def rows (w0 w1 w2 : FVec Ideal S1x128 .f32) : FVec Ideal S3x128 .f32 :=
  View.canon (Val := Elt Ideal) (s := S3x128) (e := .f32) [⟨Rect.unit ![2, 0] ![1, 128] inb_S3x128_S1x128_2_0, w2⟩,
    ⟨Rect.unit ![1, 0] ![1, 128] inb_S3x128_S1x128_1_0, w1⟩, ⟨Rect.unit ![0, 0] ![1, 128] inb_S3x128_S1x128_0_0, w0⟩]

theorem out9 : (outsAt0 m c t.val t.isLt).2.2.1 = rows (k0_pay15 (xg m c t) (ug m c t) (uv m c t) (da m c t) (ig m c t))
      (k0_pay17 (xg m c t) (gg m c t) steps) (k0_pay18 (xg m c t) (gg m c t)) := by
  by_cases h : t.val % 22 = 0
  · rw [outsAt0_A m c t h]
    frame_out
    simp only [View.read_whole]
    repeat rw [fetched']
    try unfold rows
    unfold gg ug uv da ig pg xg xv row0 row1 row2
    with_reducible rfl
  · rw [outsAt0_B m c t h]
    frame_out
    simp only [read_unread_whole]
    rw [(scratch m c _ _).1, (scratch m c _ _).2]
    try unfold rows
    unfold gg ug uv da ig pg xg xv row0 row1 row2
    with_reducible rfl

theorem out10 : (outsAt0 m c t.val t.isLt).2.2.2.1 = rows (k0_pay23 (xv m c t) (k0_pay22 (gv m c t))) (k0_pay25 (xv m c t) (gv m c t))
      (k0_pay26 (xv m c t) (gv m c t)) := by
  by_cases h : t.val % 22 = 0
  · rw [outsAt0_A m c t h]
    frame_out
    simp only [View.read_whole]
    repeat rw [fetched']
    try unfold rows
    unfold gv ug da ig pg xg xv row0 row1 row2
    with_reducible rfl
  · rw [outsAt0_B m c t h]
    frame_out
    simp only [read_unread_whole]
    rw [(scratch m c _ _).1, (scratch m c _ _).2]
    try unfold rows
    unfold gv ug da ig pg xg xv row0 row1 row2
    with_reducible rfl

theorem out11 : (outsAt0 m c t.val t.isLt).2.2.2.2.1 = k0_pay19 (gg m c t) := by
  by_cases h : t.val % 22 = 0
  · rw [outsAt0_A m c t h]
    frame_out
    simp only [View.read_whole]
    repeat rw [fetched']
    unfold gg ug uv da ig pg xg xv row0 row1 row2
    with_reducible rfl
  · rw [outsAt0_B m c t h]
    frame_out
    simp only [read_unread_whole]
    rw [(scratch m c _ _).1, (scratch m c _ _).2]
    unfold gg ug uv da ig pg xg xv row0 row1 row2
    with_reducible rfl

theorem out12 : (outsAt0 m c t.val t.isLt).2.2.2.2.2.1 = k0_pay27 (gv m c t) := by
  by_cases h : t.val % 22 = 0
  · rw [outsAt0_A m c t h]
    frame_out
    simp only [View.read_whole]
    repeat rw [fetched']
    unfold gv ug da ig pg xg row0 row1 row2
    with_reducible rfl
  · rw [outsAt0_B m c t h]
    frame_out
    simp only [read_unread_whole]
    rw [(scratch m c _ _).1, (scratch m c _ _).2]
    unfold gv ug da ig pg xg row0 row1 row2
    with_reducible rfl

/-! ## The blocks -/

/-- Every window's block at grid point `t` is column block `t` of the gate half or of the value half; `w_down`'s is row
block `t`. -/
theorem idx : ∀ t : Fin cfg0.N, win0_0.index t = ![t.val, 0] ∧ win0_1.index t = ![0, t.val] ∧ win0_2.index t = ![0, t.val + 22]
    ∧ win0_3.index t = ![0, t.val] ∧ win0_4.index t = ![0, t.val + 22] ∧ win0_5.index t = ![0, t.val]
    ∧ win0_6.index t = ![0, t.val + 22] ∧ win0_7.index t = ![0, t.val] ∧ win0_8.index t = ![0, t.val]
    ∧ win0_9.index t = ![0, t.val] ∧ win0_10.index t = ![0, t.val] ∧ win0_11.index t = ![0, t.val] ∧ win0_12.index t = ![0, t.val]
    ∧ t.val < 22 :=
  (by decide +kernel : ∀ t : Fin grid0.N, _)

/-- Channel `l` of grid point `t`. -/
def chan (t : Fin cfg0.N) (l : Fin 128) : Fin 2816 := ⟨t.val * 128 + l.val, by have := (idx t).2.2.2.2.2.2.2.2.2.2.2.2.2; omega⟩

theorem opnd0 : V m c main_v0 = m ((c : Thread nD τ).loc main_arg5) := by
  funext i
  unfold V V0
  simp only [hostOps0, List.flatten_cons, List.flatten_nil, List.append_nil, StableHlo.after_cons, StableHlo.after_nil]
  after_results_simp
  pointwise

theorem opnd2 : V m c main_v2 = m ((c : Thread nD τ).loc main_arg0) := by
  funext i
  unfold V V0
  simp only [hostOps0, List.flatten_cons, List.flatten_nil, List.append_nil, StableHlo.after_cons, StableHlo.after_nil]
  after_results_simp
  pointwise

theorem opnd1_at (k : Fin 2816) (j : Fin 1024) : (V m c main_v1 : FVec Ideal S2816x1024 .bf16) (ix2 k j)
    = m ((c : Thread nD τ).loc main_arg4) (ix2 k j) := by
  unfold V V0
  simp only [hostOps0, List.flatten_cons, List.flatten_nil, List.append_nil, StableHlo.after_cons, StableHlo.after_nil]
  after_results_simp
  pointwise

theorem opnd3_at (j : Fin 1024) (k : Fin 5632) : (V m c main_v3 : FVec Ideal S1024x5632 .bf16) (ix2 j k)
    = m ((c : Thread nD τ).loc main_arg1) (ix2 j k) := by
  unfold V V0
  simp only [hostOps0, List.flatten_cons, List.flatten_nil, List.append_nil, StableHlo.after_cons, StableHlo.after_nil]
  after_results_simp
  pointwise

theorem opnd4_at (k : Fin 5632) : (V m c main_v4 : FVec Ideal S1x5632 .f32) (ix2 0 k)
    = m ((c : Thread nD τ).loc main_arg3) (ix1 k) := by
  unfold V V0
  simp only [hostOps0, List.flatten_cons, List.flatten_nil, List.append_nil, StableHlo.after_cons, StableHlo.after_nil]
  after_results_simp
  pointwise

theorem block0 (l : Fin 128) (k : Fin 1024) : (iblk m c 0 t : FVec Ideal S128x1024 .bf16) (ix2 l k)
    = m ((c : Thread nD τ).loc main_arg4) (ix2 (chan t l) k) := by
  refine Eq.trans ?_ (opnd1_at m c (chan t l) k)
  unfold chan
  blk_ext! [iblk, idx t]

theorem block1 (k : Fin 1024) (l : Fin 128) : (iblk m c 1 t : FVec Ideal S1024x128 .bf16) (ix2 k l)
    = m ((c : Thread nD τ).loc main_arg1) (ix2 k (lo (chan t l))) := by
  refine Eq.trans ?_ (opnd3_at m c k (lo (chan t l)))
  unfold lo chan
  blk_ext! [iblk, idx t]

theorem block2 (k : Fin 1024) (l : Fin 128) : (iblk m c 2 t : FVec Ideal S1024x128 .bf16) (ix2 k l)
    = m ((c : Thread nD τ).loc main_arg1) (ix2 k (hi (chan t l))) := by
  refine Eq.trans ?_ (opnd3_at m c k (hi (chan t l)))
  unfold hi chan
  blk_ext! [iblk, idx t]

theorem block3 (j : Fin 3) (l : Fin 128) : (iblk m c 3 t : FVec Ideal S3x128 .f32) (ix2 j l)
    = tapsW (m ((c : Thread nD τ).loc main_arg2)) (lo (chan t l)) j := by
  unfold tapsW lo chan
  blk_ext! [iblk, V, idx t]

theorem block4 (j : Fin 3) (l : Fin 128) : (iblk m c 4 t : FVec Ideal S3x128 .f32) (ix2 j l)
    = tapsW (m ((c : Thread nD τ).loc main_arg2)) (hi (chan t l)) j := by
  unfold tapsW hi chan
  blk_ext! [iblk, V, idx t]

theorem block5 (l : Fin 128) : (iblk m c 5 t : FVec Ideal S1x128 .f32) (ix2 0 l)
    = m ((c : Thread nD τ).loc main_arg3) (ix1 (lo (chan t l))) := by
  refine Eq.trans ?_ (opnd4_at m c (lo (chan t l)))
  unfold lo chan
  blk_ext! [iblk, idx t]

theorem block6 (l : Fin 128) : (iblk m c 6 t : FVec Ideal S1x128 .f32) (ix2 0 l)
    = m ((c : Thread nD τ).loc main_arg3) (ix1 (hi (chan t l))) := by
  refine Eq.trans ?_ (opnd4_at m c (hi (chan t l)))
  unfold hi chan
  blk_ext! [iblk, idx t]

theorem trip_rows (w : FVec Ideal S3x128 .f32) (l : Fin 128) (j : Fin 3) :
    trip (row0 w) (row1 w) (row2 w) l j = w (ix2 j l) := by
  unfold trip row0 row1 row2
  fin_cases j <;> pointwise

theorem trip_gate (l : Fin 128) : trip (row0 (iblk m c 3 t)) (row1 (iblk m c 3 t)) (row2 (iblk m c 3 t)) l
    = tapsW (m ((c : Thread nD τ).loc main_arg2)) (lo (chan t l)) :=
  funext fun j => (trip_rows _ l j).trans (block3 m c t j l)

theorem trip_val (l : Fin 128) : trip (row0 (iblk m c 4 t)) (row1 (iblk m c 4 t)) (row2 (iblk m c 4 t)) l
    = tapsW (m ((c : Thread nD τ).loc main_arg2)) (hi (chan t l)) :=
  funext fun j => (trip_rows _ l j).trans (block4 m c t j l)

/-- The rows stored one by one, read at row `j`. -/
theorem rows_at (w0 w1 w2 : FVec Ideal S1x128 .f32) (j : Fin 3) (l : Fin 128) : rows w0 w1 w2 (ix2 j l) = trip w0 w1 w2 l j := by
  unfold rows trip
  canon_tiles x h
  all_goals
    obtain rfl : x = ix2 0 l := by
      rw [eq_ix2 x]
      exact (ix2_inj ..).2 ⟨Fin.ext (Nat.lt_one_iff.mp x0_lt), Fin.ext h1.symm⟩
  · obtain rfl : j = 2 := Fin.ext h0
    rfl
  · obtain rfl : j = 1 := Fin.ext h0
    rfl
  · obtain rfl : j = 0 := Fin.ext h0
    rfl

/-! ## One channel of one grid point -/

theorem col_xg (l : Fin 128) : col (xg m c t) l
    = seqX (m ((c : Thread nD τ).loc main_arg0)) (m ((c : Thread nD τ).loc main_arg1)) (lo (chan t l)) := by
  unfold xg seqX
  rw [col_pay2, opnd2]
  funext r
  exact Finset.sum_congr rfl fun k _ => by rw [block1]

theorem col_xv (l : Fin 128) : col (xv m c t) l
    = seqX (m ((c : Thread nD τ).loc main_arg0)) (m ((c : Thread nD τ).loc main_arg1)) (hi (chan t l)) := by
  unfold xv seqX
  rw [col_pay3, opnd2]
  funext r
  exact Finset.sum_congr rfl fun k _ => by rw [block2]

theorem da_at (r : Fin 4096) (l : Fin 128) : da m c t (ix2 r l)
    = seqA (m ((c : Thread nD τ).loc main_arg4)) (m ((c : Thread nD τ).loc main_arg5)) (chan t l) r := by
  unfold da seqA
  rw [pay7_at, opnd0]
  exact Finset.sum_congr rfl fun k _ => by rw [block0]

theorem ug_at (r : Fin 4096) (l : Fin 128) : ug m c t (ix2 r l)
    = seqU (m ((c : Thread nD τ).loc main_arg0)) (m ((c : Thread nD τ).loc main_arg1)) (m ((c : Thread nD τ).loc main_arg2))
      (m ((c : Thread nD τ).loc main_arg3)) (lo (chan t l)) r := by
  unfold seqU
  rw [← col_xg, ← trip_gate, ← block5 m c t l]
  exact pay5_at _ _ _ _ _ _ _ r l

theorem uv_at (r : Fin 4096) (l : Fin 128) : uv m c t (ix2 r l)
    = seqU (m ((c : Thread nD τ).loc main_arg0)) (m ((c : Thread nD τ).loc main_arg1)) (m ((c : Thread nD τ).loc main_arg2))
      (m ((c : Thread nD τ).loc main_arg3)) (hi (chan t l)) r := by
  unfold seqU
  rw [← col_xv, ← trip_val, ← block6 m c t l]
  exact pay6_at _ _ _ _ _ r l

/-- The gradient of the convolution at a channel of the whole layer. -/
abbrev layerGrad (k : Fin 5632) : Fin 4096 → EReal :=
  grad (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) k

theorem col_gg (l : Fin 128) : col (gg m c t) l = layerGrad m c (lo (chan t l)) := by
  funext r
  unfold layerGrad
  rw [grad_lo]
  unfold gradG
  rw [← ug_at, ← uv_at, ← da_at]
  exact pay11_at _ _ _ _ _ r l

theorem col_gv (l : Fin 128) : col (gv m c t) l = layerGrad m c (hi (chan t l)) := by
  funext r
  unfold layerGrad
  rw [grad_hi]
  unfold gradV
  rw [← ug_at, ← da_at]
  exact pay12_at _ _ _ _ r l

/-! ## The arrays -/

/-- A half's taps' gradient. -/
def halfW (h : Fin 2816 → Fin 5632) : FVec Ideal S3x2816 .f32 := fun i =>
  dW (seqX (m ((c : Thread nD τ).loc main_arg0)) (m ((c : Thread nD τ).loc main_arg1)) (h (i 1))) (layerGrad m c (h (i 1))) (i 0)

/-- A half's bias' gradient. -/
def halfB (h : Fin 2816 → Fin 5632) : FVec Ideal S1x2816 .f32 := fun i => dB (layerGrad m c (h (i 1)))

/-- A half's projection's gradient. -/
def halfX (h : Fin 2816 → Fin 5632) : FVec Ideal S4096x2816 .bf16 := fun i =>
  dX (tapsW (m ((c : Thread nD τ).loc main_arg2)) (h (i 1))) (layerGrad m c (h (i 1))) (i 0)

theorem point7 (r : Fin 4096) (l : Fin 128) :
    k0_pay20 (F := Ideal) (gg m c t) (k0_pay14 (ug m c t) (uv m c t) (da m c t) (ig m c t) (row0 (iblk m c 3 t))) steps
      (row1 (iblk m c 3 t)) (row2 (iblk m c 3 t)) (ix2 r l) = halfX m c lo (ix2 r (chan t l)) := by
  refine (dXg_at _ _ _ _ _ _ _ r l).trans ?_
  rw [trip_gate]
  exact congrArg (fun g => dX _ g r) (col_gg m c t l)

theorem point8 (r : Fin 4096) (l : Fin 128) :
    k0_pay28 (F := Ideal) (gv m c t) k0_pay21 (k0_pay22 (gv m c t)) (row0 (iblk m c 4 t)) (row1 (iblk m c 4 t))
      (row2 (iblk m c 4 t)) (ix2 r l) = halfX m c hi (ix2 r (chan t l)) := by
  refine (dXv_at _ _ _ _ r l).trans ?_
  rw [trip_val, col_gv]
  rfl

theorem point9 (j : Fin 3) (l : Fin 128) :
    rows (k0_pay15 (xg m c t) (ug m c t) (uv m c t) (da m c t) (ig m c t)) (k0_pay17 (xg m c t) (gg m c t) steps)
      (k0_pay18 (xg m c t) (gg m c t)) (ix2 j l) = halfW m c lo (ix2 j (chan t l)) := by
  rw [rows_at]
  refine Eq.trans (b := dW (col (xg m c t) l) (col (gg m c t) l) j) ?_ (by rw [col_xg, col_gg]; rfl)
  unfold trip dW
  fin_cases j
  · exact pay15_at _ _ _ _ _ l
  · exact pay17_at _ _ l
  · exact pay18_at _ _ l

theorem point10 (j : Fin 3) (l : Fin 128) :
    rows (k0_pay23 (xv m c t) (k0_pay22 (gv m c t))) (k0_pay25 (xv m c t) (gv m c t)) (k0_pay26 (xv m c t) (gv m c t)) (ix2 j l)
    = halfW m c hi (ix2 j (chan t l)) := by
  rw [rows_at]
  refine Eq.trans (b := dW (col (xv m c t) l) (col (gv m c t) l) j) ?_ (by rw [col_xv, col_gv]; rfl)
  unfold trip dW
  fin_cases j
  · exact pay23_at _ _ l
  · exact pay25_at _ _ l
  · exact pay26_at _ _ l

theorem point11 (j : Fin 1) (l : Fin 128) : k0_pay19 (F := Ideal) (gg m c t) (ix2 j l) = halfB m c lo (ix2 j (chan t l)) := by
  obtain rfl : j = 0 := Subsingleton.elim _ _
  rw [pay19_at, col_gg]
  rfl

theorem point12 (j : Fin 1) (l : Fin 128) : k0_pay27 (F := Ideal) (gv m c t) (ix2 j l) = halfB m c hi (ix2 j (chan t l)) := by
  obtain rfl : j = 0 := Subsingleton.elim _ _
  rw [pay27_at, col_gv]
  rfl

theorem final7 : (dats m 0 c).arrAt 7 (cfgs 0).N = (halfX m c lo : FVec Ideal S4096x2816 .bf16) := by
  refine (dats m 0 c).arrAt_eq_of_covers 7 _ (by decide +kernel) fun t _ y => ?_
  blk_simp
  rw [after0_7, out7]
  have e : (win0_7.blk t).view.emb y = ix2 (y 0) (chan t (y 1)) := by
    unfold chan
    blk_ext! [idx t]
  rw [e]
  exact (congrArg _ (eq_ix2 y)).trans (point7 m c t (y 0) (y 1))

theorem final8 : (dats m 0 c).arrAt 8 (cfgs 0).N = (halfX m c hi : FVec Ideal S4096x2816 .bf16) := by
  refine (dats m 0 c).arrAt_eq_of_covers 8 _ (by decide +kernel) fun t _ y => ?_
  blk_simp
  rw [after0_8, out8]
  have e : (win0_8.blk t).view.emb y = ix2 (y 0) (chan t (y 1)) := by
    unfold chan
    blk_ext! [idx t]
  rw [e]
  exact (congrArg _ (eq_ix2 y)).trans (point8 m c t (y 0) (y 1))

theorem final9 : (dats m 0 c).arrAt 9 (cfgs 0).N = (halfW m c lo : FVec Ideal S3x2816 .f32) := by
  refine (dats m 0 c).arrAt_eq_of_covers 9 _ (by decide +kernel) fun t _ y => ?_
  blk_simp
  rw [after0_9, out9]
  have e : (win0_9.blk t).view.emb y = ix2 (y 0) (chan t (y 1)) := by
    unfold chan
    blk_ext! [idx t]
  rw [e]
  exact (congrArg _ (eq_ix2 y)).trans (point9 m c t (y 0) (y 1))

theorem final10 : (dats m 0 c).arrAt 10 (cfgs 0).N = (halfW m c hi : FVec Ideal S3x2816 .f32) := by
  refine (dats m 0 c).arrAt_eq_of_covers 10 _ (by decide +kernel) fun t _ y => ?_
  blk_simp
  rw [after0_10, out10]
  have e : (win0_10.blk t).view.emb y = ix2 (y 0) (chan t (y 1)) := by
    unfold chan
    blk_ext! [idx t]
  rw [e]
  exact (congrArg _ (eq_ix2 y)).trans (point10 m c t (y 0) (y 1))

theorem final11 : (dats m 0 c).arrAt 11 (cfgs 0).N = (halfB m c lo : FVec Ideal S1x2816 .f32) := by
  refine (dats m 0 c).arrAt_eq_of_covers 11 _ (by decide +kernel) fun t _ y => ?_
  blk_simp
  rw [after0_11, out11]
  have e : (win0_11.blk t).view.emb y = ix2 (y 0) (chan t (y 1)) := by
    unfold chan
    blk_ext! [idx t]
  rw [e]
  exact (congrArg _ (eq_ix2 y)).trans (point11 m c t (y 0) (y 1))

theorem final12 : (dats m 0 c).arrAt 12 (cfgs 0).N = (halfB m c hi : FVec Ideal S1x2816 .f32) := by
  refine (dats m 0 c).arrAt_eq_of_covers 12 _ (by decide +kernel) fun t _ y => ?_
  blk_simp
  rw [after0_12, out12]
  have e : (win0_12.blk t).view.emb y = ix2 (y 0) (chan t (y 1)) := by
    unfold chan
    blk_ext! [idx t]
  rw [e]
  exact (congrArg _ (eq_ix2 y)).trans (point12 m c t (y 0) (y 1))

/-- Two halves side by side are the whole. -/
theorem join_at {n : ℕ} (a b : FVec Ideal ⟨2, ![n, 2816]⟩ .f32)
    (h : Shape.Concatenates [⟨2, ![n, 2816]⟩, ⟨2, ![n, 2816]⟩] ⟨2, ![n, 5632]⟩ 1) (r : Fin n) (k : Fin 5632)
    (f : Fin 5632 → EReal) (ha : ∀ i, a (ix2 r i) = f (lo i)) (hb : ∀ i, b (ix2 r i) = f (hi i)) :
    concatenate ⟨2, ![n, 5632]⟩ 1 [⟨⟨2, ![n, 2816]⟩, a⟩, ⟨⟨2, ![n, 2816]⟩, b⟩] h (ix2 r k) = f k := by
  pointwise
  by_cases e : k.val < 2816
  · rw [dif_pos e]
    refine (congrArg a ?_).trans (ha ⟨k.val, e⟩)
    rw [eq_ix2 (Shape.Idx.norm _)]
    exact (ix2_inj ..).2 ⟨Fin.ext rfl, Fin.ext rfl⟩
  · rw [dif_neg e]
    refine (congrArg b ?_).trans ((hb ⟨k.val - 2816, by omega⟩).trans (congrArg f (Fin.ext ?_)))
    · rw [eq_ix2 (Shape.Idx.norm _)]
      exact (ix2_inj ..).2 ⟨Fin.ext rfl, Fin.ext rfl⟩
    · show k.val - 2816 + 2816 = k.val
      omega

/-- The arrays the region leaves, as the lines after it find them. -/
theorem left_by (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr_shared _ c _ _ ((dats m 0 c).arrAt_sharedIn sharedIn0 _ (A_eq m c) _) w

/-- The gradient of the taps: both halves side by side. -/
theorem tail6 : Pipeline.afterTail₀ cfgs (dats m) 0 (V0 m) [hostOps1] c main_v6
    = arrW (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold Pipeline.afterTail₀
  simp only [hostOps1, List.flatten_cons, List.flatten_nil, List.append_nil, StableHlo.after_cons, StableHlo.after_nil]
  rw [StableHlo.binary_result_ne _ _ _ _ _ _ _ _ (by decide), StableHlo.binary_result]
  funext i
  refine (congrArg _ (eq_ix2 i)).trans (join_at (n := 3) _ _ _ (i 0) (i 1) (fun k => arrW (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (ix2 (i 0) k)) (fun k => ?_) fun k => ?_)
  · exact congrFun ((left_by m c 9).trans (final9 m c)) _
  · exact congrFun ((left_by m c 10).trans (final10 m c)) _

/-- The gradient of the bias: both halves side by side. -/
theorem tail7 : Pipeline.afterTail₀ cfgs (dats m) 0 (V0 m) [hostOps1] c main_v7
    = arrB (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold Pipeline.afterTail₀
  simp only [hostOps1, List.flatten_cons, List.flatten_nil, List.append_nil, StableHlo.after_cons, StableHlo.after_nil]
  rw [StableHlo.binary_result, StableHlo.binary_result_ne _ _ _ _ _ _ _ _ (by decide),
    StableHlo.binary_result_ne _ _ _ _ _ _ _ _ (by decide)]
  funext i
  refine (congrArg _ (eq_ix2 i)).trans (join_at (n := 1) _ _ _ (i 0) (i 1) (fun k => arrB (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (ix2 (i 0) k)) (fun k => ?_) fun k => ?_)
  · exact congrFun ((left_by m c 11).trans (final11 m c)) _
  · exact congrFun ((left_by m c 12).trans (final12 m c)) _

end Cert.FfnBwdIdeal.Value

end
-- ==== Proof.FfnReference.lean ====
module

public import proofs.«01_k».proof.Proof.Gen.FfnRefIdeal.Read
public import proofs.«01_k».proof.Proof.FfnSpec
public import proofs.«01_k».proof.Proof.HostSum
public import Idealize.ShloMosaic.Lib.Pointwise
public import Idealize.ShloMosaic.Lib.IdealHost

/-! # The arrays the reference of `_ffn_gate_bwd` returns -/

@[expose] public section

set_option maxRecDepth 16384

noncomputable section

namespace Cert.FfnRefIdeal.Read

open Cert.FfnRefIdeal Idealize.ShloMosaic Idealize.ShloMosaic.TcCoe Idealize.SL.Sem Cert.Shift Cert.FfnSpec Cert.Finite

variable (H : FVec Ideal S4096x1024 .f32) (U : FVec Ideal S1024x5632 .f32) (W : FVec Ideal S3x5632 .f32)
  (B : FVec Ideal S5632 .f32) (P : FVec Ideal S2816x1024 .f32) (D : FVec Ideal S4096x1024 .f32)

/-- The up projection with two zero steps in front. -/
theorem pad_at (d : ℕ) (hd : d ≤ 2) (r : Fin 4096) (c : Fin 5632) :
    val_main_v3 (F := Ideal) H U (ix3 0 ⟨2 - d + r.val, by omega⟩ c) = down d (seqX H U c) r := by
  unfold down seqX
  pointwise [val_main_v3, val_main_v2, val_main_cst, val_main_v1, val_main_v0]
  by_cases h : d ≤ r.val
  · rw [dif_neg (by omega), dif_pos h]
    refine Finset.sum_congr rfl fun k _ => congrArg (· * U (ix2 k c)) (congrArg H ((ix2_inj ..).2 ⟨Fin.ext ?_, rfl⟩))
    show 2 - d + r.val - 2 = r.val - d
    omega
  · rw [dif_pos (by omega), dif_neg h]

/-- The convolution. -/
theorem conv_at (r : Fin 4096) (c : Fin 5632) : val_main_v27 (F := Ideal) H U W B (ix3 0 r c) = seqU H U W B c r := by
  unfold seqU conv
  rw [← pad_at H U 2 (by decide), ← pad_at H U 1 (by decide), ← down_zero (seqX H U c) r, ← pad_at H U 0 (by decide)]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, tapsW]

/-- The cotangent of the gate's output. -/
theorem da_at (r : Fin 4096) (c : Fin 2816) : val_main_v57 (F := Ideal) P D (ix3 0 r c) = seqA P D c r := by
  unfold seqA
  pointwise [val_main_v57, val_main_v56]

theorem u_at (r : Fin 4096) (c : Fin 2816) : val_main_v28 (F := Ideal) H U W B (ix3 0 r c) = seqU H U W B (lo c) r := by
  rw [← conv_at]
  pointwise [val_main_v28, lo]

theorem v_at (r : Fin 4096) (c : Fin 2816) : val_main_v29 (F := Ideal) H U W B (ix3 0 r c) = seqU H U W B (hi c) r := by
  rw [← conv_at]
  pointwise [val_main_v29, hi]
  simp only [Nat.add_comm 2816]

theorem word_three : Ideal.ofBits .f32 0x40400000#32 = ((3 : ℝ) : EReal) := by
  simp [Ideal.ofBits, Ideal.ieee, -EReal.coe_mul]; norm_num

theorem word_cube : Ideal.ofBits .f32 0x472EAB00#32 = ((44715 : ℝ) : EReal) := by
  simp [Ideal.ofBits, Ideal.ieee, -EReal.coe_mul]; norm_num

theorem word_million : Ideal.ofBits .f32 0x49742400#32 = ((1000000 : ℝ) : EReal) := by
  simp [Ideal.ofBits, Ideal.ieee, -EReal.coe_mul]; norm_num

variable {H U W B P D}

section
variable (hH : ∀ i, IsReal (H i)) (hU : ∀ i, IsReal (U i)) (hW : ∀ i, IsReal (W i)) (hB : ∀ i, IsReal (B i))
  (hP : ∀ i, IsReal (P i)) (hD : ∀ i, IsReal (D i))
include hH hU hW hB

/-- The hyperbolic tangent. -/
theorem th_at (r : Fin 4096) (c : Fin 2816) : val_main_v42 (F := Ideal) H U W B (ix3 0 r c) = th (seqU H U W B (lo c) r) := by
  have hu := real_seqU hH hU hW hB (lo c) r
  unfold th c1 c0
  rw [← quot_eq ((hu.mul hu).mul hu) 44715 1000000 _ (by norm_num) (by norm_num), ← word_cube, ← word_million]
  pointwise [val_main_v42, val_main_v41, val_main_v40, val_main_cst_4, val_main_v39, val_main_v38, val_main_v37, val_main_cst_3, val_main_v36, val_main_v35, val_main_cst_2, val_main_v31, val_main_v30, u_at]

/-- The cotangent of the value half. -/
theorem dval_at (r : Fin 4096) (c : Fin 2816) : val_main_v58 (F := Ideal) H U W B P D (ix3 0 r c) = gradV H U W B P D c r := by
  unfold gradV dVal act half
  rw [mul_comm]
  pointwise [val_main_v58, val_main_v52, val_main_v51, val_main_v50, val_main_cst_8, val_main_v49, val_main_v48, val_main_cst_7, th_at hH hU hW hB, u_at, da_at]

include hP hD

/-- The cotangent of the gate half. -/
theorem dgate_at (r : Fin 4096) (c : Fin 2816) : val_main_v73 (F := Ideal) H U W B P D (ix3 0 r c) = gradG H U W B P D c r := by
  unfold gradG
  rw [← gate_chain (real_seqU hH hU hW hB _ _) (real_seqU hH hU hW hB _ _) (real_seqA hD hP _ _), ← word_three, ← word_cube, ← word_million]
  unfold act half c0
  pointwise [val_main_v73, val_main_v72, val_main_v71, val_main_v70, val_main_cst_12, val_main_v69, val_main_v68, val_main_cst_11, val_main_v67, val_main_v66, val_main_v65, val_main_cst_10, val_main_v64, val_main_v63, val_main_v62, val_main_cst_9, val_main_v61, val_main_v60, val_main_v59, val_main_v51, val_main_v50, val_main_cst_8, val_main_v49, val_main_v48, val_main_cst_7, val_main_v47, val_main_v46, val_main_v45, val_main_cst_6, val_main_v44, val_main_v43, val_main_cst_5, val_main_v34, val_main_v33, val_main_cst_1, val_main_v32, th_at hH hU hW hB, u_at, v_at, da_at]

/-- The cotangent of the convolution's output. -/
theorem grad_at (r : Fin 4096) (c : Fin 5632) : val_main_v74 (F := Ideal) H U W B P D (ix3 0 r c) = grad H U W B P D c r := by
  unfold grad
  pointwise [val_main_v74]
  split
  · exact dgate_at hH hU hW hB hP hD r _
  · exact dval_at hH hU hW hB r _

/-- The gradient of the bias. -/
theorem dB_at (k : Fin 1) (c : Fin 5632) : val_main_v116 (F := Ideal) H U W B P D (ix2 k c) = dB (grad H U W B P D c) := by
  unfold dB
  simp only [← grad_at hH hU hW hB hP hD]
  refine Eq.trans (b := val_main_v97 (F := Ideal) H U W B P D (ix1 c)) ?_ (Cert.HostSum.sums_at (val_main_v74 (F := Ideal) H U W B P D)
    (val_main_cst_21 (F := Ideal)) (val_main_cst_22 (F := Ideal)) ?_ ?_ _ _ _ _ c)
  · pointwise [val_main_v116]
  · intro i; pointwise [val_main_cst_21]
  · intro i; pointwise [val_main_cst_22]

/-- The sum of one tap: the input moved down by `2 - j` against the cotangent. -/
theorem tap_at (y : FVec Ideal S1x4096x5632 .f32) (z z' : FVec Ideal S_ .f32) (hz : ∀ i, z i = 0) (hz' : ∀ i, z' i = 0)
    (j : Fin 3) (c : Fin 5632) (hy : ∀ r, y (ix3 0 r c) = val_main_v3 (F := Ideal) H U (ix3 0 ⟨2 - (2 - j.val) + r.val, by omega⟩ c) *
      val_main_v74 (F := Ideal) H U W B P D (ix3 0 r c)) :
    Host.reduceAdd (shapeCast S1x1x5632 (Host.reduceAdd y z Gen.reducesTo_S1x4096x5632_S1x5632_d1 Gen.h_S_)
      Gen.shapeCasts_S1x5632_S1x1x5632) z' Gen.reducesTo_S1x1x5632_S5632_d0_1 Gen.h_S_ (ix1 c) =
      dW (seqX H U c) (grad H U W B P D c) j := by
  refine (Cert.HostSum.sums_at y z z' hz hz' _ _ _ _ c).trans (Finset.sum_congr rfl fun t _ => ?_)
  rw [hy, pad_at _ _ _ (by omega), grad_at hH hU hW hB hP hD]

theorem tap2 (c : Fin 5632) : val_main_v80 (F := Ideal) H U W B P D (ix1 c) = dW (seqX H U c) (grad H U W B P D c) 2 :=
  tap_at hH hU hW hB hP hD (val_main_v75 (F := Ideal) H U W B P D) (val_main_cst_13 (F := Ideal)) (val_main_cst_14 (F := Ideal))
    (fun i => by pointwise [val_main_cst_13]) (fun i => by pointwise [val_main_cst_14]) 2 c
    (fun r => by pointwise [val_main_v75, val_main_v21])

theorem tap1 (c : Fin 5632) : val_main_v89 (F := Ideal) H U W B P D (ix1 c) = dW (seqX H U c) (grad H U W B P D c) 1 :=
  tap_at hH hU hW hB hP hD (val_main_v84 (F := Ideal) H U W B P D) (val_main_cst_17 (F := Ideal)) (val_main_cst_18 (F := Ideal))
    (fun i => by pointwise [val_main_cst_17]) (fun i => by pointwise [val_main_cst_18]) 1 c
    (fun r => by pointwise [val_main_v84, val_main_v14])

theorem tap0 (c : Fin 5632) : val_main_v103 (F := Ideal) H U W B P D (ix1 c) = dW (seqX H U c) (grad H U W B P D c) 0 :=
  tap_at hH hU hW hB hP hD (val_main_v98 (F := Ideal) H U W B P D) (val_main_cst_23 (F := Ideal)) (val_main_cst_24 (F := Ideal))
    (fun i => by pointwise [val_main_cst_23]) (fun i => by pointwise [val_main_cst_24]) 0 c
    (fun r => by pointwise [val_main_v98, val_main_v5])

/-- The gradient of the taps. -/
theorem dW_at (j : Fin 3) (c : Fin 5632) :
    val_main_v106 (F := Ideal) H U W B P D (ix2 j c) = dW (seqX H U c) (grad H U W B P D c) j := by
  pointwise [val_main_v106, val_main_v92, val_main_v82, val_main_v91, val_main_v105, val_main_v81, val_main_v90, val_main_v104,
    tap0 hH hU hW hB hP hD, tap1 hH hU hW hB hP hD, tap2 hH hU hW hB hP hD, val_main_cst_15, val_main_cst_19, val_main_cst_25]
  fin_cases j <;> simp

omit hH hU hW hB hP hD in
theorem sum_rev (a b c : EReal) : c + b + a = a + b + c := by ac_rfl

/-- The gradient of the up projection. -/
theorem dX_at (r : Fin 4096) (c : Fin 5632) :
    val_main_v111 (F := Ideal) H U W B P D (ix2 r c) = dX (tapsW W c) (grad H U W B P D c) r := by
  unfold dX up tapsW
  simp only [← grad_at hH hU hW hB hP hD]
  pointwise [val_main_v111, val_main_cst_27, val_main_v110, val_main_v108, val_main_v107, val_main_v94, val_main_v93, val_main_v83,
    val_main_v79, val_main_v88, val_main_v102, val_main_cst_16, val_main_cst_20, val_main_cst_26, val_main_v78, val_main_v87, val_main_v101,
    val_main_v24, val_main_v17, val_main_v8, val_main_v23, val_main_v22, val_main_v16, val_main_v15, val_main_v7, val_main_v6]
  rw [Fin.sum_univ_one]
  refine (congrArg₂ (· + ·) (congrArg₂ (· + ·) rfl ?_) ?_).trans (sum_rev _ _ _)
  · exact guard_mul (fun t => val_main_v74 (F := Ideal) H U W B P D (ix3 0 t c)) _ r 1 (fun h => ⟨2 + r.val - 1, h.2⟩) (by omega) (fun _ => by show 2 + r.val - 1 = r.val + 1; omega)
  · exact guard_mul (fun t => val_main_v74 (F := Ideal) H U W B P D (ix3 0 t c)) _ r 2 (fun h => ⟨2 + r.val, h⟩) (by omega) (fun _ => by show 2 + r.val = r.val + 2; omega)

/-! ## The arrays -/

theorem final113 : val_main_v113 (F := Ideal) H U W B P D = arrG H U W B P D := by
  funext i
  refine Eq.trans (b := val_main_v111 (F := Ideal) H U W B P D (ix2 (i 0) (lo (i 1)))) ?_ (dX_at hH hU hW hB hP hD (i 0) (lo (i 1)))
  refine (congrArg _ (eq_ix2 i)).trans ?_
  pointwise [val_main_v113, val_main_v112, lo]

theorem final115 : val_main_v115 (F := Ideal) H U W B P D = arrV H U W B P D := by
  funext i
  refine Eq.trans (b := val_main_v111 (F := Ideal) H U W B P D (ix2 (i 0) (hi (i 1)))) ?_ (dX_at hH hU hW hB hP hD (i 0) (hi (i 1)))
  refine (congrArg _ (eq_ix2 i)).trans ?_
  pointwise [val_main_v115, val_main_v114, hi]
  simp only [Nat.add_comm 2816]

theorem final106 : val_main_v106 (F := Ideal) H U W B P D = arrW H U W B P D := by
  funext i
  exact (congrArg _ (eq_ix2 i)).trans (dW_at hH hU hW hB hP hD (i 0) (i 1))

theorem final116 : val_main_v116 (F := Ideal) H U W B P D = arrB H U W B P D := by
  funext i
  exact (congrArg _ (eq_ix2 i)).trans (dB_at hH hU hW hB hP hD (i 0) (i 1))

end

end Cert.FfnRefIdeal.Read

end
-- ==== Proof.FfnClaim.lean ====
module

public import proofs.«01_k».proof.Defs
public import proofs.«01_k».proof.Proof.Gen.FfnBwd
public import proofs.«01_k».proof.Proof.Gen.FfnRefIdeal
public import proofs.«01_k».proof.Proof.Gen.Pre_ffn_finite
public import proofs.«01_k».proof.Proof.FfnKernel
public import proofs.«01_k».proof.Proof.FfnReference
public import Idealize.ShloMosaic.Lib.Claim

/-! # `_ffn_gate_bwd`: the claims of the pair -/

@[expose] public section

set_option maxRecDepth 16384

noncomputable section

namespace Cert.FfnClaim

open Idealize.ShloMosaic Idealize.SL.Sem Cert.FfnSpec Cert.Finite

local instance : Cert.FfnBwd.Facts := Cert.FfnBwd.Gen.facts
local instance : Cert.FfnBwdIdeal.Facts := Cert.FfnBwdIdeal.Gen.facts
local instance : Cert.FfnRefIdeal.Facts := Cert.FfnRefIdeal.Gen.facts
local instance : Cert.Pre_ffn_finite.Facts := Cert.Pre_ffn_finite.Gen.facts

/-- Over the machine's floats a named constant is its word. -/
local instance : Named Bits where
  named _ _ _ b := b

theorem frame_ideal : Cert.quiescent_FfnBwdIdeal := fun m g _ => Cert.FfnBwdIdeal.Gen.frame m g

theorem frame_ideal_pre : Cert.quiescent_FfnBwdIdeal_pre_ffn_finite := fun m g _ => Cert.FfnBwdIdeal.Gen.frame m g

theorem main_eq : Cert.FfnBwd.main (F := Bits) = Cert.FfnBwdIdeal.main (F := Bits) := rfl

theorem defs_eq : Cert.FfnBwd.defs (F := Bits) = Cert.FfnBwdIdeal.defs (F := Bits) := by sl_kernel_rfl

/-- The kernel's program is its idealized program over the machine's floats: one run serves both. -/
theorem frame_kernel : Cert.quiescent_FfnBwd := fun m g _ => by
  rw [defs_eq, main_eq]
  exact Cert.FfnBwdIdeal.Gen.frame (F := Bits) m g

theorem frame_reference : Cert.quiescent_FfnRefIdeal := by
  intro m g _
  exact (θ_run _ _ _).mono (fun r h => ⟨fun c => (h c).2.2.2.2, sem_eq_zero_of_no_sems rfl _⟩) (Cert.FfnRefIdeal.Value.run m g)

theorem frame_reference_pre : Cert.quiescent_FfnRefIdeal_pre_ffn_finite := fun m g h => frame_reference m g trivial

theorem preserves : Cert.preserves_FfnBwd_FfnBwdIdeal :=
  ⟨IdealRules.named_const.statement Cert.FfnBwdIdeal.κ "gelu_c" .f32 0x3D372713#32 ((8943 / 200000 : ℝ) : EReal) rfl,
    IdealRules.named_const.statement Cert.FfnBwdIdeal.κ "gelu_3c" .f32 0x3E095D4F#32 ((26829 / 200000 : ℝ) : EReal) rfl⟩

/-- Under the precondition every argument is an array of reals. -/
theorem reals (m : (ℓ : Loc Cert.FfnBwdIdeal.nD Cert.FfnBwdIdeal.τ Cert.FfnBwdIdeal.sig) → Buf (Elt Ideal) ℓ)
    (h : Cert.Pre_FfnBwdIdeal_ffn_finite m) (c : Dev Cert.FfnBwdIdeal.nD) :
(∀ i, IsReal (m ((c.tc : Thread Cert.FfnBwdIdeal.nD Cert.FfnBwdIdeal.τ).loc Cert.FfnBwdIdeal.main_arg0) i))
    ∧ (∀ i, IsReal (m ((c.tc : Thread Cert.FfnBwdIdeal.nD Cert.FfnBwdIdeal.τ).loc Cert.FfnBwdIdeal.main_arg1) i))
    ∧ (∀ i, IsReal (m ((c.tc : Thread Cert.FfnBwdIdeal.nD Cert.FfnBwdIdeal.τ).loc Cert.FfnBwdIdeal.main_arg2) i))
    ∧ (∀ i, IsReal (m ((c.tc : Thread Cert.FfnBwdIdeal.nD Cert.FfnBwdIdeal.τ).loc Cert.FfnBwdIdeal.main_arg3) i))
    ∧ (∀ i, IsReal (m ((c.tc : Thread Cert.FfnBwdIdeal.nD Cert.FfnBwdIdeal.τ).loc Cert.FfnBwdIdeal.main_arg4) i))
    ∧ (∀ i, IsReal (m ((c.tc : Thread Cert.FfnBwdIdeal.nD Cert.FfnBwdIdeal.τ).loc Cert.FfnBwdIdeal.main_arg5) i)) := by
  haveI : Subsingleton Cert.Pre_ffn_finite.S_.Idx := ⟨fun a b => funext fun x => x.elim0⟩
  have h := h c
  unfold Cert.Pre_ffn_finite.fn Cert.Pre_ffn_finite.fn_part1 at h
  dsimp only at h
  obtain ⟨h0, h1, h2, h3, h4, h5⟩ := h
  exact ⟨real_of_all _ _ (fun _ => rfl) _ _ _ h0 ix0, real_of_all _ _ (fun _ => rfl) _ _ _ h1 ix0,
    real_of_all _ _ (fun _ => rfl) _ _ _ h2 ix0, real_of_all _ _ (fun _ => rfl) _ _ _ h3 ix0,
    real_of_all _ _ (fun _ => rfl) _ _ _ h4 ix0, real_of_all _ _ (fun _ => rfl) _ _ _ h5 ix0⟩

theorem algebraic : Cert.algebraic_FfnBwdIdeal_FfnRefIdeal_pre_ffn_finite := by
  pair_intro
  · run_from Cert.FfnBwdIdeal.Gen.run_main m g
    · exact Cert.FfnBwdIdeal.Gen.W_main_arg0 m _ c
    · exact Cert.FfnBwdIdeal.Gen.W_main_arg1 m _ c
    · exact Cert.FfnBwdIdeal.Gen.W_main_arg3 m _ c
    · exact Cert.FfnBwdIdeal.Gen.W_main_arg4 m _ c
    · exact Cert.FfnBwdIdeal.Gen.W_main_arg5 m _ c
  · have hr := fun c => reals m hpre c
    have e0 : ∀ c : Dev Cert.FfnRefIdeal.nD, StableHlo.launchContents m' c (Proc.tc.devRef Cert.FfnRefIdeal.main_arg0)
        = m ((c.tc : Thread Cert.FfnBwdIdeal.nD Cert.FfnBwdIdeal.τ).loc Cert.FfnBwdIdeal.main_arg0) := fun c => (hagree c).1
    have e1 : ∀ c : Dev Cert.FfnRefIdeal.nD, StableHlo.launchContents m' c (Proc.tc.devRef Cert.FfnRefIdeal.main_arg1)
        = m ((c.tc : Thread Cert.FfnBwdIdeal.nD Cert.FfnBwdIdeal.τ).loc Cert.FfnBwdIdeal.main_arg1) := fun c => (hagree c).2.1
    have e2 : ∀ c : Dev Cert.FfnRefIdeal.nD, StableHlo.launchContents m' c (Proc.tc.devRef Cert.FfnRefIdeal.main_arg2)
        = m ((c.tc : Thread Cert.FfnBwdIdeal.nD Cert.FfnBwdIdeal.τ).loc Cert.FfnBwdIdeal.main_arg2) := fun c => (hagree c).2.2.1
    have e3 : ∀ c : Dev Cert.FfnRefIdeal.nD, StableHlo.launchContents m' c (Proc.tc.devRef Cert.FfnRefIdeal.main_arg3)
        = m ((c.tc : Thread Cert.FfnBwdIdeal.nD Cert.FfnBwdIdeal.τ).loc Cert.FfnBwdIdeal.main_arg3) := fun c => (hagree c).2.2.2.1
    have e4 : ∀ c : Dev Cert.FfnRefIdeal.nD, StableHlo.launchContents m' c (Proc.tc.devRef Cert.FfnRefIdeal.main_arg4)
        = m ((c.tc : Thread Cert.FfnBwdIdeal.nD Cert.FfnBwdIdeal.τ).loc Cert.FfnBwdIdeal.main_arg4) := fun c => (hagree c).2.2.2.2.1
    have e5 : ∀ c : Dev Cert.FfnRefIdeal.nD, StableHlo.launchContents m' c (Proc.tc.devRef Cert.FfnRefIdeal.main_arg5)
        = m ((c.tc : Thread Cert.FfnBwdIdeal.nD Cert.FfnBwdIdeal.τ).loc Cert.FfnBwdIdeal.main_arg5) := fun c => (hagree c).2.2.2.2.2
    run_from Cert.FfnRefIdeal.Value.run m' g'
    · rw [Cert.FfnRefIdeal.Read.val_main_v113_eq, e0, e1, e2, e3, e4, e5]
      obtain ⟨h0, h1, h2, h3, h4, h5⟩ := hr c
      exact (Cert.FfnRefIdeal.Read.final113 h0 h1 h2 h3 h4 h5).trans (Cert.FfnBwdIdeal.Value.final7 m c).symm
    · rw [Cert.FfnRefIdeal.Read.val_main_v115_eq, e0, e1, e2, e3, e4, e5]
      obtain ⟨h0, h1, h2, h3, h4, h5⟩ := hr c
      exact (Cert.FfnRefIdeal.Read.final115 h0 h1 h2 h3 h4 h5).trans (Cert.FfnBwdIdeal.Value.final8 m c).symm
    · rw [Cert.FfnRefIdeal.Read.val_main_v106_eq, e0, e1, e2, e3, e4, e5]
      obtain ⟨h0, h1, h2, h3, h4, h5⟩ := hr c
      exact (Cert.FfnRefIdeal.Read.final106 h0 h1 h2 h3 h4 h5).trans (Cert.FfnBwdIdeal.Value.tail6 m c).symm
    · rw [Cert.FfnRefIdeal.Read.val_main_v116_eq, e0, e1, e2, e3, e4, e5]
      obtain ⟨h0, h1, h2, h3, h4, h5⟩ := hr c
      exact (Cert.FfnRefIdeal.Read.final116 h0 h1 h2 h3 h4 h5).trans (Cert.FfnBwdIdeal.Value.tail7 m c).symm

end Cert.FfnClaim

end
-- ==== Proof.LnSpec.lean ====
module

public import proofs.«01_k».proof.Proof.Finite

/-! # The gradient of a layer norm, one row of 1024 features at a time -/

@[expose] public section

noncomputable section

namespace Cert.LnSpec

open Idealize.ShloMosaic Cert.Finite

/-- A row of features. -/
abbrev Row := Fin 1024 → EReal

/-- The number of features. -/
abbrev width : EReal := Ideal.ofBits .f32 0x44800000#32

/-- What is added to the variance. -/
abbrev eps : EReal := Ideal.ofBits .f32 0x3727C5AC#32

/-- The mean of a row. -/
def mean (f : Row) : EReal := Ideal.div (∑ x, f x) width

/-- A row less its mean. -/
def ctr (z : Row) : Row := fun j => z j - mean z

/-- The variance, away from zero. -/
def var (z : Row) : EReal := mean (fun x => ctr z x * ctr z x) + eps

/-- One over the standard deviation. -/
def rs (z : Row) : EReal := Ideal.rsqrt (var z)

/-- The normalised row. -/
def nrm (z : Row) : Row := fun j => ctr z j * rs z

/-- The gradient of the row before the norm, `dy` being that of the row after it: the closed form. -/
def dz (dy z g : Row) : Row := fun j =>
  rs z * (dy j * g j - mean (fun x => dy x * g x) - nrm z j * mean (fun x => dy x * g x * nrm z x))

/-- The same gradient as the chain rule writes it: through the normalised row, the deviation and the mean. -/
def chain (dy z g : Row) : Row := fun j =>
  let k : EReal := Ideal.ofBits .f32 0xBF000000#32 * Ideal.div (rs z) (var z)
  let a : Row := fun x => dy x * g x * rs z
  let b : Row := fun x => Ideal.div ((∑ y, ctr z y * (dy y * g y)) * k) width * (Ideal.ofBits .f32 0x40000000#32 * ctr z x)
  a j + b j + Ideal.div ((∑ x, -a x) + ∑ x, -b x) width

/-- The factor of the residual. -/
abbrev alpha : EReal := Ideal.ofBits .f32 0x3FB504F3#32

/-- The norm's input: the residual and a product. -/
def zOf {K : ℕ} (h : Fin 4096 → Row) (a : Fin 4096 → Fin K → EReal) (w : Fin K → Row) (i : Fin 4096) : Row :=
  fun j => alpha * h i j + ∑ k, a i k * w k j

/-- The gradient of the norm's output: that of the residual, and that of a product by `w`. -/
def dyOf {K : ℕ} (ct : Fin 4096 → Row) (p : Fin 4096 → Fin K → EReal) (w : Fin 1024 → Fin K → EReal) (i : Fin 4096) : Row :=
  fun j => alpha * ct i j + ∑ k, p i k * w j k

/-- An array of two axes, by its coordinates. -/
def mat {R C : ℕ} (x : (⟨2, ![R, C]⟩ : Shape).Idx → EReal) : Fin R → Fin C → EReal := fun i j => x (ix2 i j)

/-- An array of one axis, by its coordinate. -/
def vec {R : ℕ} (x : (⟨1, ![R]⟩ : Shape).Idx → EReal) : Fin R → EReal := fun i => x (ix1 i)

/-! ## Real rows -/

theorem alpha_real : IsReal alpha := ⟨_, by simp [alpha, Ideal.ofBits, Ideal.ieee, -EReal.coe_mul]; rfl⟩

theorem zOf_real {K : ℕ} {h : Fin 4096 → Row} {a : Fin 4096 → Fin K → EReal} {w : Fin K → Row} (hh : ∀ i j, IsReal (h i j))
    (ha : ∀ i k, IsReal (a i k)) (hw : ∀ k j, IsReal (w k j)) (i : Fin 4096) (j : Fin 1024) : IsReal (zOf h a w i j) :=
  (alpha_real.mul (hh i j)).add (IsReal.sum _ fun k => (ha i k).mul (hw k j))

theorem dyOf_real {K : ℕ} {ct : Fin 4096 → Row} {p : Fin 4096 → Fin K → EReal} {w : Fin 1024 → Fin K → EReal}
    (hc : ∀ i j, IsReal (ct i j)) (hp : ∀ i k, IsReal (p i k)) (hw : ∀ j k, IsReal (w j k)) (i : Fin 4096) (j : Fin 1024) :
    IsReal (dyOf ct p w i j) :=
  (alpha_real.mul (hc i j)).add (IsReal.sum _ fun k => (hp i k).mul (hw j k))

theorem width_word : width = ((1024 : ℝ) : EReal) := by
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem eps_word : ∃ e : ℝ, 0 < e ∧ eps = (e : EReal) := by
  refine ⟨_, ?_, by simp [eps, Ideal.ofBits, Ideal.ieee, -EReal.coe_mul]; rfl⟩
  norm_num

theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

theorem div_width (x : ℝ) : Ideal.div (x : EReal) width = ((x / 1024 : ℝ) : EReal) := by
  rw [width_word, Ideal.div_coe (by norm_num : (1024 : ℝ) ≠ 0), ← EReal.coe_mul]
  congr 1
  ring

/-- A quotient of reals. -/
theorem div_real (x : ℝ) {y : ℝ} (h : y ≠ 0) : Ideal.div (x : EReal) (y : EReal) = ((x / y : ℝ) : EReal) := by
  rw [Ideal.div_coe h, ← EReal.coe_mul]
  congr 1
  ring

theorem mean_real (f : Fin 1024 → ℝ) : mean (fun x => (f x : EReal)) = (((∑ x, f x) / 1024 : ℝ) : EReal) := by
  rw [mean, ← coe_sum, div_width]

/-- The centred row of reals. -/
def ctrR (z : Fin 1024 → ℝ) : Fin 1024 → ℝ := fun j => z j - (∑ x, z x) / 1024

theorem ctr_real (z : Fin 1024 → ℝ) : ctr (fun x => (z x : EReal)) = fun j => (ctrR z j : EReal) := by
  funext j
  rw [ctr, mean_real, ← EReal.coe_sub]
  rfl

theorem sum_ctrR (z : Fin 1024 → ℝ) : ∑ j, ctrR z j = 0 := by
  simp only [ctrR, Finset.sum_sub_distrib, Finset.sum_const, Finset.card_univ, Fintype.card_fin, nsmul_eq_mul]
  push_cast
  ring

theorem rsqrt_real {v : ℝ} (h : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg h.le.not_gt, if_neg h.ne']

/-- The variance of a real row is a positive real. -/
theorem var_real (z : Fin 1024 → ℝ) : ∃ v : ℝ, 0 < v ∧ var (fun x => (z x : EReal)) = (v : EReal) := by
  obtain ⟨e, he, hw⟩ := eps_word
  refine ⟨(∑ x, ctrR z x * ctrR z x) / 1024 + e, ?_, ?_⟩
  · have : 0 ≤ ∑ x, ctrR z x * ctrR z x := Finset.sum_nonneg fun x _ => mul_self_nonneg _
    positivity
  · rw [var, hw, ctr_real, EReal.coe_add, ← mean_real]
    simp only [EReal.coe_mul]

/-- The chain rule's gradient is the closed form. -/
theorem chain_eq {dy z g : Row} (hd : ∀ j, IsReal (dy j)) (hz : ∀ j, IsReal (z j)) (hg : ∀ j, IsReal (g j)) (j : Fin 1024) :
    chain dy z g j = dz dy z g j := by
  choose d' hd' using hd
  choose z' hz' using hz
  choose g' hg' using hg
  obtain rfl : dy = fun x => (d' x : EReal) := funext hd'
  obtain rfl : z = fun x => (z' x : EReal) := funext hz'
  obtain rfl : g = fun x => (g' x : EReal) := funext hg'
  obtain ⟨v, hv, ev⟩ := var_real z'
  have hs : Real.sqrt v ≠ 0 := (Real.sqrt_pos.mpr hv).ne'
  have h2 : v = Real.sqrt v * Real.sqrt v := (Real.mul_self_sqrt hv.le).symm
  simp only [chain, dz, nrm, rs, ev, rsqrt_real hv, ctr_real, half_word, two_word, div_real _ hv.ne', ← EReal.coe_mul,
    ← EReal.coe_neg, ← coe_sum, mean_real, div_width, ← EReal.coe_add, ← EReal.coe_sub]
  congr 1
  have e : ∀ c : ℝ, ∑ x, -(c * (2 * ctrR z' x)) = 0 := fun c => by
    have : ∀ x, -(c * (2 * ctrR z' x)) = -(2 * c) * ctrR z' x := fun x => by ring
    rw [Finset.sum_congr rfl fun x _ => this x, ← Finset.mul_sum, sum_ctrR, mul_zero]
  rw [e, add_zero]
  have e1 : ∑ x, -(d' x * g' x * (Real.sqrt v)⁻¹) = -((Real.sqrt v)⁻¹ * ∑ x, d' x * g' x) := by
    rw [Finset.mul_sum, ← Finset.sum_neg_distrib]
    exact Finset.sum_congr rfl fun x _ => by ring
  have e2 : ∑ x, d' x * g' x * (ctrR z' x * (Real.sqrt v)⁻¹) = (Real.sqrt v)⁻¹ * ∑ x, ctrR z' x * (d' x * g' x) := by
    rw [Finset.mul_sum]
    exact Finset.sum_congr rfl fun x _ => by ring
  rw [e1, e2]
  generalize (∑ x, ctrR z' x * (d' x * g' x)) = S
  generalize (∑ x, d' x * g' x) = T
  have hq : (Real.sqrt v)⁻¹ / v = (Real.sqrt v)⁻¹ * ((Real.sqrt v)⁻¹ * (Real.sqrt v)⁻¹) := by
    rw [h2, Real.sqrt_mul_self (Real.sqrt_nonneg v)]
    field_simp
  rw [hq]
  ring

end Cert.LnSpec

end
-- ==== Proof.LnBlock.lean ====
module

public import proofs.«01_k».proof.Proof.Gen.H1BwdIdeal.Frame
public import proofs.«01_k».proof.Proof.LnSpec
public import Idealize.ShloMosaic.Lib.Pipeline.ValueKit

/-! # What `_grad_in` computes from a block of 512 rows, and the sums of its eight blocks

The four calls of `_grad_in` differ in how they form the gradient `dy` of the norm's output; what follows is the same. -/

@[expose] public section

set_option maxRecDepth 16384

noncomputable section

namespace Cert.LnBlock

open Cert.H1BwdIdeal Cert.H1BwdIdeal.Gen Idealize.ShloMosaic Idealize.ShloMosaic.TcCoe Cert.LnSpec

/-- The rows of a block. -/
abbrev Block := FVec Ideal S512x1024 .f32

/-- One row of 1024. -/
abbrev Line := FVec Ideal S1x1024 .f32

/-- Row `r` of a block. -/
def rowOf (x : Block) (r : Fin 512) : Row := fun j => x (ix2 r j)

/-- The entries of a line. -/
def lineOf (x : Line) : Row := fun j => x (ix2 0 j)

variable (dy z : Block) (g : Line)

/-- The gradient times the norm's gains. -/
def scaled : Block :=
  mulf dy (broadcastTo S512x1024 (shapeCast S1x1024 g shapeCasts_S1x1024_S1x1024) broadcasts_S1x1024_S512x1024)

/-- The sum of each row. -/
def total (x : Block) : FVec Ideal S512x1 .f32 :=
  shapeCast S512x1 (multiReduction .add [1] S512 x 0x00000000#32 reduces_S512x1024_S512 (.inl rfl) rfl) shapeCasts_S512_S512x1

/-- The mean of each row. -/
def average (x : Block) : FVec Ideal S512x1 .f32 := divf (total x) (broadcast S512x1 (Scalar.ofBits .f32 0x44800000#32))

/-- The gradient of the norm's input. -/
def grad : Block :=
  k0_pay1 (k0_pay9 z) (k0_pay10 z) (scaled dy g) (average (scaled dy g)) (total (mulf (scaled dy g) (k0_pay10 z)))
    (Scalar.ofBits .f32 0x44800000#32)

/-- The same gradient, rounded for the products that read it. -/
def gradNarrow : FVec Ideal S512x1024 .bf16 := truncf .bf16 (grad dy z g) bitsLt_bf16_f32

/-- The block's part of the gradient of the gains. -/
def gains : Line := k0_pay3 dy (k0_pay10 z)

/-- The block's part of the gradient of the bias. -/
def bias : Line := k0_pay4 dy

/-- The gains' gradient with one more block's part. -/
def moreGains (a : Line) : Line := k0_pay5 dy (k0_pay10 z) a

/-- The bias' gradient with one more block's part. -/
def moreBias (a : Line) : Line := k0_pay6 dy a

theorem scaled_at (r : Fin 512) (j : Fin 1024) : scaled dy g (ix2 r j) = rowOf dy r j * lineOf g j := by
  unfold rowOf lineOf
  pointwise [scaled]

theorem total_at (x : Block) (r : Fin 512) : total x (ix2 r 0) = ∑ j, rowOf x r j := by
  unfold rowOf
  pointwise [total]

theorem average_at (x : Block) (r : Fin 512) : average x (ix2 r 0) = mean (rowOf x r) := by
  unfold mean
  rw [← total_at]
  pointwise [average]

theorem centre_at (r : Fin 512) (j : Fin 1024) : k0_pay8 (F := Ideal) z (ix2 r j) = ctr (rowOf z r) j := by
  unfold ctr mean rowOf
  pointwise [k0_pay8]

theorem rstd_at (r : Fin 512) : k0_pay9 (F := Ideal) z (ix2 r 0) = rs (rowOf z r) := by
  unfold rs var mean
  simp only [← centre_at]
  pointwise [k0_pay9]

theorem norm_at (r : Fin 512) (j : Fin 1024) : k0_pay10 (F := Ideal) z (ix2 r j) = nrm (rowOf z r) j := by
  unfold nrm
  rw [← centre_at, ← rstd_at]
  pointwise [k0_pay10]

theorem grad_at (r : Fin 512) (j : Fin 1024) : grad dy z g (ix2 r j) = dz (rowOf dy r) (rowOf z r) (lineOf g) j := by
  have e : rowOf (mulf (scaled dy g) (k0_pay10 z)) r = fun x => rowOf dy r x * lineOf g x * nrm (rowOf z r) x :=
    funext fun x => by rw [← scaled_at, ← norm_at]; rfl
  have e' : rowOf (scaled dy g) r = fun x => rowOf dy r x * lineOf g x := funext fun x => scaled_at dy g r x
  unfold dz
  rw [← rstd_at, ← norm_at, ← scaled_at, ← e', ← e, ← average_at, mean, ← total_at]
  pointwise [grad, k0_pay1]

theorem gradNarrow_at (r : Fin 512) (j : Fin 1024) :
    gradNarrow dy z g (ix2 r j) = dz (rowOf dy r) (rowOf z r) (lineOf g) j := grad_at dy z g r j

theorem gains_at (j : Fin 1024) : gains dy z (ix2 0 j) = ∑ r, rowOf dy r j * nrm (rowOf z r) j := by
  simp only [← norm_at]
  unfold rowOf
  pointwise [gains, k0_pay3]

theorem bias_at (j : Fin 1024) : bias dy (ix2 0 j) = ∑ r, rowOf dy r j := by
  unfold rowOf
  pointwise [bias, k0_pay4]

/-! ## Eight blocks -/

/-- Row `r` of block `t`. -/
def row (t : Fin 8) (r : Fin 512) : Fin 4096 := ⟨512 * t.val + r.val, by have := t.isLt; have := r.isLt; omega⟩

theorem sum_rows (f : Fin 4096 → EReal) : ∑ t, ∑ r, f (row t r) = ∑ i, f i := by
  rw [← Fintype.sum_prod_type' (f := fun t r => f (row t r))]
  refine Fintype.sum_equiv (finProdFinEquiv (m := 8) (n := 512)) _ _ fun p => congrArg f (Fin.ext ?_)
  show 512 * p.1.val + p.2.val = p.2.val + 512 * p.1.val
  omega

/-! ## The arrays -/

variable (dyA zA : Fin 4096 → Row) (gA : Row)

/-- The gradient of the norm's input. -/
def gradArr : FVec Ideal S4096x1024 .f32 := fun i => dz (dyA (i 0)) (zA (i 0)) gA (i 1)

/-- The gradient of the norm's gains. -/
def gainsArr : Line := fun i => ∑ r, dyA r (i 1) * nrm (zA r) (i 1)

/-- The gradient of the norm's bias. -/
def biasArr : Line := fun i => ∑ r, dyA r (i 1)

theorem grad_arr {dy z : Block} {g : Line} {t : Fin 8} (hd : ∀ r, rowOf dy r = dyA (row t r)) (hz : ∀ r, rowOf z r = zA (row t r))
    (hg : lineOf g = gA) (r : Fin 512) (j : Fin 1024) : grad dy z g (ix2 r j) = gradArr dyA zA gA (ix2 (row t r) j) := by
  rw [grad_at, hd, hz, hg]
  rfl

/-- A line that starts at the first block's part and adds the others' ends as the sum over all rows. -/
theorem acc_arr (o : (n : ℕ) → n < 8 → Line) (p : Fin 8 → Line) (f : Fin 4096 → Row)
    (hA : ∀ t : Fin 8, t.val % 8 = 0 → o t.val t.isLt = p t)
    (hB : ∀ t : Fin 8, ¬t.val % 8 = 0 → ∀ j, o t.val t.isLt (ix2 0 j) = o (t.val - 1) (by omega) (ix2 0 j) + p t (ix2 0 j))
    (hp : ∀ t j, p t (ix2 0 j) = ∑ r, f (row t r) j) : o 7 (by decide) = fun i => ∑ r, f r (i 1) := by
  funext i
  obtain ⟨a, j, rfl⟩ : ∃ a j, i = ix2 a j := ⟨i 0, i 1, eq_ix2 i⟩
  obtain rfl : a = 0 := Subsingleton.elim a 0
  have e := Pipeline.eq_sum_fin_of_reset_step_last (N := 8) (fun n h => o n h (ix2 0 j)) 8 0 (fun t => p t (ix2 0 j))
    (fun t h => by rw [hA t h, zero_add]) (fun t h => hB t h j) le_rfl 7 rfl
  refine e.trans ?_
  rw [zero_add]
  simp only [hp]
  exact sum_rows fun r => f r j

theorem gains_arr (o : (n : ℕ) → n < 8 → Line) (dy z : Fin 8 → Block) (hA : ∀ t : Fin 8, t.val % 8 = 0 → o t.val t.isLt = gains (dy t) (z t))
    (hB : ∀ t : Fin 8, ¬t.val % 8 = 0 → o t.val t.isLt = moreGains (dy t) (z t) (o (t.val - 1) (by omega)))
    (hd : ∀ t r, rowOf (dy t) r = dyA (row t r)) (hz : ∀ t r, rowOf (z t) r = zA (row t r)) :
    o 7 (by decide) = gainsArr dyA zA :=
  acc_arr o (fun t => gains (dy t) (z t)) (fun r j => dyA r j * nrm (zA r) j) hA
    (fun t h j => by rw [hB t h]; unfold gains; pointwise [moreGains, k0_pay5])
    (fun t j => by simp only [gains_at, hd, hz])

theorem bias_arr (o : (n : ℕ) → n < 8 → Line) (dy : Fin 8 → Block) (hA : ∀ t : Fin 8, t.val % 8 = 0 → o t.val t.isLt = bias (dy t))
    (hB : ∀ t : Fin 8, ¬t.val % 8 = 0 → o t.val t.isLt = moreBias (dy t) (o (t.val - 1) (by omega)))
    (hd : ∀ t r, rowOf (dy t) r = dyA (row t r)) : o 7 (by decide) = biasArr dyA :=
  acc_arr o (fun t => bias (dy t)) dyA hA (fun t h j => by rw [hB t h]; unfold bias; pointwise [moreBias, k0_pay6])
    (fun t j => by simp only [bias_at, hd])

end Cert.LnBlock

end
-- ==== Proof.LossSpec.lean ====
module

public import proofs.«01_k».proof.Proof.LnBlock

/-! # The loss: half the squared error, averaged over a row's entries and summed over the rows -/

@[expose] public section

set_option maxRecDepth 16384

noncomputable section

namespace Cert.LnSpec

open Idealize.ShloMosaic Cert.Finite Cert.LnBlock

/-- What the norm's output misses the target by. -/
def errOf (z : Fin 4096 → Row) (g b : Row) (y : Fin 4096 → Row) : Fin 4096 → Row := fun i j => nrm (z i) j * g j + b j - y i j

/-- One over the width. -/
def share : EReal := Ideal.ofBits .f32 0x3A800000#32

/-- The gradient of the norm's output. -/
def dyLoss (e : Fin 4096 → Row) : Fin 4096 → Row := fun i j => e i j * share

/-- The loss of some rows. -/
def lossPart {R : ℕ} (e : Fin R → Row) : EReal := Ideal.ofBits .f32 0x3F000000#32 * ∑ r, (∑ j, e r j * e r j) * share

/-- The loss, in every entry, added up over the blocks of rows. -/
def lossArr (e : Fin 4096 → Row) : (⟨2, ![8, 128]⟩ : Shape).Idx → EReal := fun _ => ∑ t, lossPart fun r => e (row t r)

/-! ## Real errors -/

theorem share_word : share = ((1 / 1024 : ℝ) : EReal) := by
  simp [share, Ideal.ofBits, Ideal.ieee, -EReal.coe_mul]; norm_num

theorem plus_half_word : Ideal.ofBits .f32 0x3F000000#32 = ((1 / 2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem nrm_real {z : Row} (hz : ∀ j, IsReal (z j)) (j : Fin 1024) : IsReal (nrm z j) := by
  choose z' hz' using hz
  obtain rfl : z = fun j => (z' j : EReal) := funext hz'
  obtain ⟨v, hv, e⟩ := var_real z'
  rw [nrm, rs, ctr_real, e, rsqrt_real hv]
  exact (IsReal.coe _).mul (IsReal.coe _)

theorem errOf_real {z : Fin 4096 → Row} {g b : Row} {y : Fin 4096 → Row} (hz : ∀ i j, IsReal (z i j)) (hg : ∀ j, IsReal (g j))
    (hb : ∀ j, IsReal (b j)) (hy : ∀ i j, IsReal (y i j)) (i : Fin 4096) (j : Fin 1024) : IsReal (errOf z g b y i j) :=
  (((nrm_real (hz i) j).mul (hg j)).add (hb j)).sub (hy i j)

theorem dyLoss_real {e : Fin 4096 → Row} (he : ∀ i j, IsReal (e i j)) (i : Fin 4096) (j : Fin 1024) : IsReal (dyLoss e i j) :=
  (he i j).mul (share_word ▸ IsReal.coe _)

/-- The derivative of half the mean square. -/
theorem dyLoss_eq {e : Fin 4096 → Row} (he : ∀ i j, IsReal (e i j)) (i : Fin 4096) (j : Fin 1024) :
    Ideal.div (Ideal.ofBits .f32 0x3F000000#32 * Ideal.ofBits .f32 0x3F800000#32) width * (Ideal.ofBits .f32 0x40000000#32 * e i j)
    = dyLoss e i j := by
  obtain ⟨x, hx⟩ := he i j
  rw [dyLoss, hx, plus_half_word, one_word, two_word, share_word, ← EReal.coe_mul, div_width, ← EReal.coe_mul, ← EReal.coe_mul,
    ← EReal.coe_mul]
  congr 1
  ring

/-- The loss of the rows all together. -/
theorem loss_eq {e : Fin 4096 → Row} (he : ∀ i j, IsReal (e i j)) :
    Ideal.ofBits .f32 0x3F000000#32 * ∑ i, Ideal.div (∑ j, e i j * e i j) width = ∑ t, lossPart fun r => e (row t r) := by
  choose e' he' using he
  obtain rfl : e = fun i j => (e' i j : EReal) := funext fun i => funext fun j => he' i j
  simp only [lossPart, plus_half_word, share_word, ← EReal.coe_mul, ← coe_sum, div_width]
  rw [← Finset.mul_sum]
  congr 2
  have h := sum_rows fun i => ((∑ j, e' i j * e' i j) * (1 / 1024) : ℝ)
  simp only [← coe_sum, ← div_eq_mul_one_div] at h
  simp only [← div_eq_mul_one_div]
  exact (EReal.coe_eq_coe_iff.1 h).symm

end Cert.LnSpec

end
-- ==== Proof.LnTail.lean ====
module

public import proofs.«01_k».proof.Proof.Gen.H1RefIdeal.Run
public import proofs.«01_k».proof.Proof.LnBlock
public import Idealize.ShloMosaic.Lib.Pointwise
public import Idealize.ShloMosaic.Lib.IdealHost

/-! # The derivative of a layer norm, as the references compute it

Each reference forms the norm's input and the gradient of its output in its own way; from there on they go the same steps,
stated here over those two arrays and the gains. -/

@[expose] public section

set_option maxRecDepth 16384

noncomputable section

namespace Cert.LnTail

open Cert.H1RefIdeal Cert.H1RefIdeal.Gen Idealize.ShloMosaic Idealize.ShloMosaic.TcCoe Cert.LnSpec Cert.LnBlock Cert.Finite

/-- The rows of an array. -/
abbrev Rows := FVec Ideal S4096x1024 .f32

/-- One entry for each row. -/
abbrev Col := FVec Ideal S4096x1 .f32

/-- A number in every entry of a column. -/
def number (w : BitVec 32) : Col := broadcastInDim S4096x1 ![] bcast_S_S4096x1 (constant S_ .f32 w)

/-- A column in every place of its row. -/
def along (x : Col) : Rows := broadcastInDim S4096x1024 ![0, 1] bcast_S4096x1_S4096x1024_0_1 x

/-- The sum of each row. -/
def rowSums (x : Rows) : FVec Ideal S4096 .f32 := Host.reduceAdd x (constant S_ .f32 0#32) reducesTo_S4096x1024_S4096_d1 h_S_

/-- The sum of each column. -/
def colSums (x : Rows) : FVec Ideal S1024 .f32 :=
  Host.reduceAdd (shapeCast S1x1024 (Host.reduceAdd x (constant S_ .f32 0#32) reducesTo_S4096x1024_S1024_d0 h_S_) shapeCasts_S1024_S1x1024)
    (constant S_ .f32 0#32) reducesTo_S1x1024_S1024_d0 h_S_

/-- The mean of each row. -/
def means (x : Rows) : Col := Host.divf (broadcastInDim S4096x1 ![0] bcast_S4096_S4096x1_0 (rowSums x)) (number 0x44800000#32)

/-- The rows less their mean. -/
def centred (z : Rows) : Rows := subf z (along (means z))

/-- Each row's variance, with the norm's small number added. -/
def variances (z : Rows) : Col := addf (means (mulf (centred z) (centred z))) (number 0x3727C5AC#32)

/-- The normalised rows. -/
def normed (z : Rows) : Rows := mulf (centred z) (along (Host.rsqrt (variances z)))

/-- The gains in every row. -/
def gainRows (g : FVec Ideal S1024 .f32) : Rows :=
  broadcastInDim S4096x1024 ![0, 1] bcast_S1x1024_S4096x1024_0_1 (broadcastInDim S1x1024 ![1] bcast_S1024_S1x1024_1 g)

/-- A column, divided by the width, in every place of its row. -/
def spread (x : Col) : Rows :=
  broadcastInDim S4096x1024 ![0] bcast_S4096_S4096x1024_0
    (Host.reduceAdd (Host.divf x (number 0x44800000#32)) (constant S_ .f32 0#32) reducesTo_S4096x1_S4096_d1 h_S_)

/-- What the centred rows' factor passes back. -/
def direct (dy z : Rows) (g : FVec Ideal S1024 .f32) : Rows := mulf (mulf dy (gainRows g)) (along (Host.rsqrt (variances z)))

/-- What the variance passes back. -/
def through (dy z : Rows) (g : FVec Ideal S1024 .f32) : Rows :=
  mulf (spread (mulf (shapeCast S4096x1 (rowSums (mulf (centred z) (mulf dy (gainRows g)))) shapeCasts_S4096_S4096x1)
      (mulf (number 0xBF000000#32) (Host.divf (Host.rsqrt (variances z)) (variances z)))))
    (mulf (broadcastInDim S4096x1024 ![] bcast_S_S4096x1024 (constant S_ .f32 0x40000000#32)) (centred z))

/-- The gradient of the norm's input. -/
def back (dy z : Rows) (g : FVec Ideal S1024 .f32) : Rows :=
  addf (addf (direct dy z g) (through dy z g))
    (spread (addf (shapeCast S4096x1 (rowSums (Host.negf (direct dy z g))) shapeCasts_S4096_S4096x1)
      (shapeCast S4096x1 (rowSums (Host.negf (through dy z g))) shapeCasts_S4096_S4096x1)))

/-- The gradient of the gains. -/
def backGains (dy z : Rows) : Line := broadcastInDim S1x1024 ![1] bcast_S1024_S1x1024_1 (colSums (mulf (normed z) dy))

/-- The gradient of the bias. -/
def backBias (dy : Rows) : Line := broadcastInDim S1x1024 ![1] bcast_S1024_S1x1024_1 (colSums dy)

/-! ## At an entry -/

variable (dy z : Rows) (g : FVec Ideal S1024 .f32) (i : Fin 4096) (j : Fin 1024)

theorem sums_at (x : Rows) : rowSums x (ix1 i) = ∑ k, mat x i k := by
  unfold mat
  pointwise [rowSums]

theorem columns_at (x : Rows) : colSums x (ix1 j) = ∑ k, mat x k j := by
  unfold mat
  pointwise [colSums]
  exact Fin.sum_univ_one _

theorem means_at (x : Rows) : means x (ix2 i 0) = mean (mat x i) := by
  unfold mean
  rw [← sums_at]
  pointwise [means, number]

theorem centred_at : centred z (ix2 i j) = ctr (mat z i) j := by
  unfold ctr
  rw [← means_at]
  pointwise [centred, along, mat]

theorem variances_at : variances z (ix2 i 0) = var (mat z i) := by
  have e : mat (mulf (centred z) (centred z)) i = fun x => ctr (mat z i) x * ctr (mat z i) x :=
    funext fun x => by rw [← centred_at]; rfl
  unfold var
  rw [← e, ← means_at]
  pointwise [variances, number]

theorem normed_at : normed z (ix2 i j) = nrm (mat z i) j := by
  unfold nrm rs
  rw [← centred_at, ← variances_at]
  pointwise [normed, along]

theorem spread_at (x : Col) : spread x (ix2 i j) = Ideal.div (x (ix2 i 0)) width := by
  pointwise [spread, number]
  exact Fin.sum_univ_one _

theorem scaled_at : mulf dy (gainRows g) (ix2 i j) = mat dy i j * vec g j := by
  unfold mat vec
  pointwise [gainRows]

theorem direct_at : direct dy z g (ix2 i j) = mat dy i j * vec g j * rs (mat z i) := by
  unfold rs
  rw [← scaled_at, ← variances_at]
  pointwise [direct, along]

theorem through_at : through dy z g (ix2 i j) =
    Ideal.div ((∑ y, ctr (mat z i) y * (mat dy i y * vec g y)) * (Ideal.ofBits .f32 0xBF000000#32 * Ideal.div (rs (mat z i)) (var (mat z i))))
      width * (Ideal.ofBits .f32 0x40000000#32 * ctr (mat z i) j) := by
  have e : mat (mulf (centred z) (mulf dy (gainRows g))) i = fun y => ctr (mat z i) y * (mat dy i y * vec g y) :=
    funext fun y => by rw [← centred_at, ← scaled_at]; rfl
  unfold rs
  rw [← e, ← sums_at, ← variances_at, ← centred_at]
  unfold through
  refine (ValueIdx.mulf_apply _ _ _).trans ?_
  rw [spread_at]
  pointwise [number]

theorem back_at : back dy z g (ix2 i j) = chain (mat dy i) (mat z i) (vec g) j := by
  have e : mat (Host.negf (direct dy z g)) i = fun x => -(mat dy i x * vec g x * rs (mat z i)) :=
    funext fun x => by rw [← direct_at]; rfl
  have e' := funext fun x => congrArg (-·) (through_at dy z g i x)
  have e'' : mat (Host.negf (through dy z g)) i = fun x => -through dy z g (ix2 i x) := rfl
  rw [e'] at e''
  unfold chain
  dsimp only
  rw [← through_at, ← direct_at, ← e, ← e'', ← sums_at, ← sums_at]
  unfold back
  refine (ValueIdx.addf_apply _ _ _).trans ?_
  rw [spread_at]
  pointwise

theorem backGains_at : backGains dy z (ix2 0 j) = ∑ k, mat dy k j * nrm (mat z k) j := by
  have e : ∀ k, mat (mulf (normed z) dy) k j = mat dy k j * nrm (mat z k) j := fun k => by
    rw [← normed_at]; exact mul_comm _ _
  simp only [← e]
  rw [← columns_at]
  pointwise [backGains]

theorem backBias_at : backBias dy (ix2 0 j) = ∑ k, mat dy k j := by
  rw [← columns_at]
  pointwise [backBias]

/-! ## The arrays -/

theorem back_arr (hd : ∀ i j, IsReal (mat dy i j)) (hz : ∀ i j, IsReal (mat z i j)) (hg : ∀ j, IsReal (vec g j)) :
    back dy z g = gradArr (mat dy) (mat z) (vec g) := by
  funext y
  refine (congrArg _ (eq_ix2 y)).trans ((back_at dy z g (y 0) (y 1)).trans ?_)
  exact chain_eq (hd _) (hz _) hg _

theorem backGains_arr : backGains dy z = gainsArr (mat dy) (mat z) := by
  funext y
  obtain ⟨a, j, rfl⟩ : ∃ a j, y = ix2 a j := ⟨y 0, y 1, eq_ix2 y⟩
  obtain rfl : a = 0 := Subsingleton.elim a 0
  exact backGains_at dy z j

theorem backBias_arr : backBias dy = biasArr (mat dy) := by
  funext y
  obtain ⟨a, j, rfl⟩ : ∃ a j, y = ix2 a j := ⟨y 0, y 1, eq_ix2 y⟩
  obtain rfl : a = 0 := Subsingleton.elim a 0
  exact backBias_at dy j

end Cert.LnTail

end
-- ==== Proof.LossKernel.lean ====
module

public import proofs.«01_k».proof.Proof.Gen.LossBwdIdeal.Value
public import proofs.«01_k».proof.Proof.LnBlock
public import proofs.«01_k».proof.Proof.LossSpec
public import proofs.«01_k».proof.Proof.LnTail
public import Idealize.ShloMosaic.Lib.Pipeline.ReadBack
public import Idealize.ShloMosaic.Lib.Claim

/-! # The arrays `_grad_in` returns at the loss -/

@[expose] public section

set_option maxRecDepth 16384

noncomputable section

namespace Cert.LossBwdIdeal.Value

open Cert.LossBwdIdeal Cert.LossBwdIdeal.Gen Idealize.ShloMosaic Idealize.ShloMosaic.TcCoe Idealize.SL.Sem Cert Cert.LnSpec Cert.LnBlock
open Idealize.ShloMosaic.Pipeline (Dat)

variable (m : (ℓ : Loc nD τ sig) → Buf (Elt Ideal) ℓ) (c : Dev nD) (t : Fin cfg0.N)

/-- A block of the gradient of the norm's output. -/
def dyB : Block := k0_pay10 (iblk m c 0 t) (iblk m c 1 t)

/-- A block of the norm's input. -/
def zB : Block := iblk m c 2 t

/-- The norm's gains. -/
def gB : Line := iblk m c 3 t

/-! ## The stores -/

theorem out4 : (outsAt0 m c t.val t.isLt).1 = grad (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out5 : (outsAt0 m c t.val t.isLt).2.1 = gradNarrow (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out6_A (h : t.val % 8 = 0) : (outsAt0 m c t.val t.isLt).2.2.1 = gains (dyB m c t) (zB m c t) := by
  rw [outsAt0_A m c t h (by have : t.val < 8 := t.isLt; omega)]
  frame_out
  rfl

theorem out6_B (h : ¬t.val % 8 = 0) : (outsAt0 m c t.val t.isLt).2.2.1
    = moreGains (dyB m c t) (zB m c t) (outsAt0 m c (t.val - 1) (by omega)).2.2.1 := by
  rw [outsAt0_B m c t h (by omega)]
  frame_out
  rfl

theorem out7_A (h : t.val % 8 = 0) : (outsAt0 m c t.val t.isLt).2.2.2.1 = bias (dyB m c t) := by
  rw [outsAt0_A m c t h (by have : t.val < 8 := t.isLt; omega)]
  frame_out
  rfl

theorem out7_B (h : ¬t.val % 8 = 0) : (outsAt0 m c t.val t.isLt).2.2.2.1
    = moreBias (dyB m c t) (outsAt0 m c (t.val - 1) (by omega)).2.2.2.1 := by
  rw [outsAt0_B m c t h (by omega)]
  frame_out
  rfl

/-- The part of the loss of one block, in every entry. -/
def lossB : FVec Ideal S8x128 .f32 := k0_pay5 (k0_pay11 (iblk m c 0 t) (iblk m c 1 t))

theorem out8_A (h : t.val % 8 = 0) : (outsAt0 m c t.val t.isLt).2.2.2.2 = lossB m c t := by
  rw [outsAt0_A m c t h (by have : t.val < 8 := t.isLt; omega)]
  frame_out
  rfl

theorem out8_B (h : ¬t.val % 8 = 0) : (outsAt0 m c t.val t.isLt).2.2.2.2
    = k0_pay8 (k0_pay11 (iblk m c 0 t) (iblk m c 1 t)) (outsAt0 m c (t.val - 1) (by omega)).2.2.2.2 := by
  rw [outsAt0_B m c t h (by omega)]
  frame_out

/-! ## The blocks -/

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

/-- The norm's input. -/
def zA : Fin 4096 → Row :=
  zOf (mat (m ((c : Thread nD τ).loc main_arg2))) (mat (m ((c : Thread nD τ).loc main_arg0))) (mat (m ((c : Thread nD τ).loc main_arg1)))

/-- The norm's gains. -/
def gA : Row := vec (m ((c : Thread nD τ).loc main_arg3))

/-- What the network's output misses the target by. -/
def eA : Fin 4096 → Row := errOf (zA m c) (gA m c) (vec (m ((c : Thread nD τ).loc main_arg4))) (mat (m ((c : Thread nD τ).loc main_arg5)))

/-- The gradient of the norm's output. -/
def dyA : Fin 4096 → Row := dyLoss (eA m c)

theorem opnd2_at (i : Fin 4096) (j : Fin 1024) : (V m c main_v3 : FVec Ideal S4096x1024 .f32) (ix2 i j) = zA m c i j := by
  entry_read
  pointwise [zA, zOf, mat]

theorem opnd0_eq : (V m c main_v28 : FVec Ideal S4096x1024 .f32)
    = addf (mulf (LnTail.normed (V m c main_v3)) (LnTail.gainRows (m ((c : Thread nD τ).loc main_arg3))))
      (LnTail.gainRows (m ((c : Thread nD τ).loc main_arg4))) := by
  unfold V
  simp only [hostOps0, List.flatten_cons, List.flatten_nil, List.append_nil, List.cons_append, List.nil_append,
    StableHlo.after_cons, StableHlo.after_nil]
  after_results_simp
  rfl

theorem opnd0_at (i : Fin 4096) (j : Fin 1024) : (V m c main_v28 : FVec Ideal S4096x1024 .f32) (ix2 i j)
    = nrm (zA m c i) j * gA m c j + vec (m ((c : Thread nD τ).loc main_arg4)) j := by
  have e : mat (V m c main_v3 : FVec Ideal S4096x1024 .f32) i = zA m c i := funext fun k => opnd2_at m c i k
  unfold gA vec
  rw [opnd0_eq, ← e, ← LnTail.normed_at]
  pointwise [LnTail.gainRows]

theorem opnd3_at (j : Fin 1024) : (V m c main_v4 : FVec Ideal S1x1024 .f32) (ix2 0 j) = gA m c j := by
  entry_read
  pointwise [gA, vec]

theorem block0 (r : Fin 512) (j : Fin 1024) : (iblk m c 0 t : Block) (ix2 r j)
    = nrm (zA m c (row t r)) j * gA m c j + vec (m ((c : Thread nD τ).loc main_arg4)) j := by
  refine Eq.trans ?_ (opnd0_at m c (row t r) j)
  unfold row
  blk_ext! [iblk, idx t]

theorem block1 (r : Fin 512) (j : Fin 1024) : (iblk m c 1 t : Block) (ix2 r j) = mat (m ((c : Thread nD τ).loc main_arg5)) (row t r) j := by
  unfold row mat
  blk_ext! [iblk, V, idx t]

theorem rows_z (r : Fin 512) : rowOf (zB m c t) r = zA m c (row t r) := by
  funext j
  refine Eq.trans ?_ (opnd2_at m c (row t r) j)
  unfold rowOf zB row
  blk_ext! [iblk, idx t]

theorem line_g : lineOf (gB m c t) = gA m c := by
  funext j
  refine Eq.trans ?_ (opnd3_at m c j)
  unfold lineOf gB
  blk_ext! [iblk, idx t]

theorem rows_e (r : Fin 512) (j : Fin 1024) : k0_pay9 (F := Ideal) (iblk m c 0 t) (iblk m c 1 t) (ix2 r j) = eA m c (row t r) j := by
  unfold eA errOf
  rw [← block0 m c t, ← block1 m c t]
  pointwise [k0_pay9]

theorem rows_dy (r : Fin 512) : rowOf (dyB m c t) r = dyA m c (row t r) := by
  funext j
  unfold dyA dyLoss share
  rw [← rows_e]
  unfold rowOf dyB
  pointwise [k0_pay10]

theorem loss_at (p : Fin 8) (q : Fin 128) : lossB m c t (ix2 p q) = lossPart fun r => eA m c (row t r) := by
  unfold lossPart share
  simp only [← rows_e]
  pointwise [lossB, k0_pay5, k0_pay11]

/-! ## The arrays -/

theorem final4 : (dats m 0 c).arrAt 4 (cfgs 0).N = gradArr (dyA m c) (zA m c) (gA m c) := by
  refine (dats m 0 c).arrAt_eq_of_covers 4 _ (by decide +kernel) fun t _ y => ?_
  blk_simp
  rw [after0_4, out4]
  have e : (win0_4.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem final5 : (dats m 0 c).arrAt 5 (cfgs 0).N = (gradArr (dyA m c) (zA m c) (gA m c) : FVec Ideal S4096x1024 .bf16) := by
  refine (dats m 0 c).arrAt_eq_of_covers 5 _ (by decide +kernel) fun t _ y => ?_
  blk_simp
  rw [after0_5, out5]
  have e : (win0_5.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem last6 : (outsAt0 m c 7 (by decide)).2.2.1 = gainsArr (dyA m c) (zA m c) :=
  gains_arr _ _ (fun n h => (outsAt0 m c n h).2.2.1) (dyB m c) (zB m c) (out6_A m c) (out6_B m c) (rows_dy m c) (rows_z m c)

theorem last7 : (outsAt0 m c 7 (by decide)).2.2.2.1 = biasArr (dyA m c) :=
  bias_arr _ (fun n h => (outsAt0 m c n h).2.2.2.1) (dyB m c) (out7_A m c) (out7_B m c) (rows_dy m c)

/-- The last grid point. -/
abbrev last : Fin cfg0.N := ⟨7, by decide⟩

theorem final6 : (dats m 0 c).arrAt 6 (cfgs 0).N = gainsArr (dyA m c) (zA m c) := by
  refine (dats m 0 c).arrAt_eq_of_after_last 6 last (by decide +kernel) _ fun y => ?_
  rw [← last6 m c]
  blk_simp
  rw [after0_6]

theorem final7 : (dats m 0 c).arrAt 7 (cfgs 0).N = biasArr (dyA m c) := by
  refine (dats m 0 c).arrAt_eq_of_after_last 7 last (by decide +kernel) _ fun y => ?_
  rw [← last7 m c]
  blk_simp
  rw [after0_7]

theorem last8 : (outsAt0 m c 7 (by decide)).2.2.2.2 = lossArr (eA m c) := by
  funext i
  obtain ⟨p, q, rfl⟩ : ∃ p q, i = ix2 p q := ⟨i 0, i 1, eq_ix2 i⟩
  have e := Pipeline.eq_sum_fin_of_reset_step_last (N := 8) (fun n h => (outsAt0 m c n h).2.2.2.2 (ix2 p q)) 8 0
    (fun t => lossB m c t (ix2 p q)) (fun t h => by rw [out8_A m c t h, zero_add])
    (fun t h => by rw [out8_B m c t h]; unfold lossB; pointwise [k0_pay8]) le_rfl 7 rfl
  refine e.trans ?_
  rw [zero_add]
  exact Finset.sum_congr rfl fun t _ => loss_at m c t p q

theorem final8 : (dats m 0 c).arrAt 8 (cfgs 0).N = lossArr (eA m c) := by
  refine (dats m 0 c).arrAt_eq_of_after_last 8 last (by decide +kernel) _ fun y => ?_
  rw [← last8 m c]
  blk_simp
  rw [after0_8]

end Cert.LossBwdIdeal.Value

end
-- ==== Proof.LossReference.lean ====
module

public import proofs.«01_k».proof.Proof.Gen.LossRefIdeal.Read
public import proofs.«01_k».proof.Proof.LnTail
public import proofs.«01_k».proof.Proof.LossSpec

/-! # The arrays the reference returns at the loss -/

@[expose] public section

set_option maxRecDepth 16384

noncomputable section

namespace Cert.LossRefIdeal.Read

open Cert.LossRefIdeal Idealize.ShloMosaic Idealize.ShloMosaic.TcCoe Idealize.SL.Sem Cert.Finite Cert.LnSpec Cert.LnBlock Cert.LnTail

variable (A : FVec Ideal S4096x2816 .f32) (W : FVec Ideal S2816x1024 .f32) (H : FVec Ideal S4096x1024 .f32) (G B : FVec Ideal S1024 .f32)
  (Y : FVec Ideal S4096x1024 .f32)

/-- The norm's input. -/
theorem z_at : mat (val_main_v3 (F := Ideal) A W H) = zOf (mat H) (mat A) (mat W) := by
  funext i j
  unfold zOf mat
  pointwise [val_main_v3, val_main_v2, val_main_v1, val_main_v0, val_main_cst]

/-- What the network's output misses the target by. -/
abbrev err : Fin 4096 → Row := errOf (zOf (mat H) (mat A) (mat W)) (vec G) (vec B) (mat Y)

theorem normed_eq : val_main_v26 (F := Ideal) A W H = normed (val_main_v3 (F := Ideal) A W H) := rfl

theorem err_at (i : Fin 4096) (j : Fin 1024) : val_main_v33 (F := Ideal) A W H G B Y (ix2 i j) = err A W H G B Y i j := by
  unfold err errOf
  rw [← z_at, ← normed_at, ← normed_eq]
  unfold vec mat
  pointwise [val_main_v33, val_main_v32, val_main_v31, val_main_v30, val_main_v29, val_main_v28, val_main_v27]

variable {A W H G B Y}

section
variable (hA : ∀ i, IsReal (A i)) (hW : ∀ i, IsReal (W i)) (hH : ∀ i, IsReal (H i)) (hG : ∀ i, IsReal (G i)) (hB : ∀ i, IsReal (B i))
  (hY : ∀ i, IsReal (Y i))
include hA hW hH

theorem z_real (i : Fin 4096) (j : Fin 1024) : IsReal (mat (val_main_v3 (F := Ideal) A W H) i j) := by
  rw [z_at]
  exact zOf_real (fun i j => hH _) (fun i j => hA _) (fun i j => hW _) i j

include hG hB hY

theorem err_real (i : Fin 4096) (j : Fin 1024) : IsReal (err A W H G B Y i j) :=
  errOf_real (fun i j => z_at A W H ▸ z_real hA hW hH i j) (fun j => hG _) (fun j => hB _) (fun i j => hY _) i j

/-- The gradient of the norm's output. -/
theorem dy_at : mat (val_main_v47 (F := Ideal) A W H G B Y) = dyLoss (err A W H G B Y) := by
  funext i j
  rw [← dyLoss_eq (err_real hA hW hH hG hB hY), ← err_at]
  unfold mat
  pointwise [val_main_v47, val_main_v46, val_main_v45, val_main_v44, val_main_cst_14, val_main_v43, val_main_v42, val_main_cst_13,
    val_main_cst_12, val_main_v36, val_main_v35, val_main_cst_7]

theorem dz_arr : val_main_v80 (F := Ideal) A W H G B Y
    = gradArr (dyLoss (err A W H G B Y)) (zOf (mat H) (mat A) (mat W)) (vec G) := by
  rw [← z_at, ← dy_at hA hW hH hG hB hY]
  refine Eq.trans rfl (back_arr (val_main_v47 (F := Ideal) A W H G B Y) (val_main_v3 (F := Ideal) A W H) G ?_ (z_real hA hW hH) fun j => hG _)
  rw [dy_at hA hW hH hG hB hY]
  exact dyLoss_real (err_real hA hW hH hG hB hY)

theorem dg_arr : val_main_v82 (F := Ideal) A W H G B Y = gainsArr (dyLoss (err A W H G B Y)) (zOf (mat H) (mat A) (mat W)) := by
  rw [← z_at, ← dy_at hA hW hH hG hB hY]
  exact Eq.trans rfl (backGains_arr (val_main_v47 (F := Ideal) A W H G B Y) (val_main_v3 (F := Ideal) A W H))

theorem db_arr : val_main_v83 (F := Ideal) A W H G B Y = biasArr (dyLoss (err A W H G B Y)) := by
  rw [← dy_at hA hW hH hG hB hY]
  exact Eq.trans rfl (backBias_arr (val_main_v47 (F := Ideal) A W H G B Y))

theorem loss_arr : val_main_v84 (F := Ideal) A W H G B Y = lossArr (err A W H G B Y) := by
  funext y
  obtain ⟨p, q, rfl⟩ : ∃ p q, y = ix2 p q := ⟨y 0, y 1, eq_ix2 y⟩
  unfold lossArr
  rw [← loss_eq (err_real hA hW hH hG hB hY)]
  simp only [← err_at]
  pointwise [val_main_v84, val_main_v41, val_main_cst_11, val_main_v40, val_main_cst_10, val_main_v39, val_main_v38, val_main_cst_9,
    val_main_v37, val_main_cst_8, val_main_v34]

end

end Cert.LossRefIdeal.Read

end
-- ==== Proof.LossClaim.lean ====
module

public import proofs.«01_k».proof.Defs
public import proofs.«01_k».proof.Proof.Gen.LossBwd
public import proofs.«01_k».proof.Proof.Gen.LossRefIdeal
public import proofs.«01_k».proof.Proof.Gen.Pre_loss_finite
public import proofs.«01_k».proof.Proof.LossKernel
public import proofs.«01_k».proof.Proof.LossReference
public import Idealize.ShloMosaic.Lib.Claim

/-! # `_grad_in` at the loss: the claims of the pair -/

@[expose] public section

set_option maxRecDepth 16384

noncomputable section

namespace Cert.LossClaim

open Idealize.ShloMosaic Idealize.SL.Sem Cert.LnSpec Cert.LnBlock Cert.Finite

local instance : Cert.LossBwd.Facts := Cert.LossBwd.Gen.facts
local instance : Cert.LossBwdIdeal.Facts := Cert.LossBwdIdeal.Gen.facts
local instance : Cert.LossRefIdeal.Facts := Cert.LossRefIdeal.Gen.facts
local instance : Cert.Pre_loss_finite.Facts := Cert.Pre_loss_finite.Gen.facts

theorem frame_ideal : Cert.quiescent_LossBwdIdeal := fun m g _ => Cert.LossBwdIdeal.Gen.frame m g

theorem frame_ideal_pre : Cert.quiescent_LossBwdIdeal_pre_loss_finite := fun m g _ => Cert.LossBwdIdeal.Gen.frame m g

theorem main_eq : Cert.LossBwd.main (F := Bits) = Cert.LossBwdIdeal.main (F := Bits) := rfl

theorem defs_eq : Cert.LossBwd.defs (F := Bits) = Cert.LossBwdIdeal.defs (F := Bits) := by sl_kernel_rfl

/-- The kernel's program is its idealized program over the machine's floats: one run serves both. -/
theorem frame_kernel : Cert.quiescent_LossBwd := fun m g _ => by
  rw [defs_eq, main_eq]
  exact Cert.LossBwdIdeal.Gen.frame (F := Bits) m g

theorem frame_reference : Cert.quiescent_LossRefIdeal := by
  intro m g _
  exact (θ_run _ _ _).mono (fun r h => ⟨fun c => (h c).2.2.2.2.2, sem_eq_zero_of_no_sems rfl _⟩) (Cert.LossRefIdeal.Value.run m g)

theorem frame_reference_pre : Cert.quiescent_LossRefIdeal_pre_loss_finite := fun m g _ => frame_reference m g trivial

/-- Under the precondition the arguments the value depends on are arrays of reals. -/
theorem reals (m : (ℓ : Loc Cert.LossBwdIdeal.nD Cert.LossBwdIdeal.τ Cert.LossBwdIdeal.sig) → Buf (Elt Ideal) ℓ) (h : Cert.Pre_LossBwdIdeal_loss_finite m) (c : Dev Cert.LossBwdIdeal.nD) :
    (∀ i, IsReal (m ((c.tc : Thread Cert.LossBwdIdeal.nD Cert.LossBwdIdeal.τ).loc Cert.LossBwdIdeal.main_arg0) i))
    ∧ (∀ i, IsReal (m ((c.tc : Thread Cert.LossBwdIdeal.nD Cert.LossBwdIdeal.τ).loc Cert.LossBwdIdeal.main_arg1) i))
    ∧ (∀ i, IsReal (m ((c.tc : Thread Cert.LossBwdIdeal.nD Cert.LossBwdIdeal.τ).loc Cert.LossBwdIdeal.main_arg2) i))
    ∧ (∀ i, IsReal (m ((c.tc : Thread Cert.LossBwdIdeal.nD Cert.LossBwdIdeal.τ).loc Cert.LossBwdIdeal.main_arg3) i))
    ∧ (∀ i, IsReal (m ((c.tc : Thread Cert.LossBwdIdeal.nD Cert.LossBwdIdeal.τ).loc Cert.LossBwdIdeal.main_arg4) i))
    ∧ (∀ i, IsReal (m ((c.tc : Thread Cert.LossBwdIdeal.nD Cert.LossBwdIdeal.τ).loc Cert.LossBwdIdeal.main_arg5) i)) := by
  haveI : Subsingleton Cert.Pre_loss_finite.S_.Idx := ⟨fun a b => funext fun x => x.elim0⟩
  have h := h c
  unfold Cert.Pre_loss_finite.fn Cert.Pre_loss_finite.fn_part1 at h
  dsimp only at h
  obtain ⟨h0, h1, h2, h3, h4, h5⟩ := h
  exact ⟨real_of_all _ _ (fun _ => rfl) _ _ _ h0 ix0, real_of_all _ _ (fun _ => rfl) _ _ _ h1 ix0, real_of_all _ _ (fun _ => rfl) _ _ _ h2 ix0, real_of_all _ _ (fun _ => rfl) _ _ _ h3 ix0, real_of_all _ _ (fun _ => rfl) _ _ _ h4 ix0, real_of_all _ _ (fun _ => rfl) _ _ _ h5 ix0⟩

set_option maxHeartbeats 1600000 in
theorem algebraic : Cert.algebraic_LossBwdIdeal_LossRefIdeal_pre_loss_finite := by
  pair_intro
  · run_from Cert.LossBwdIdeal.Gen.run_main m g
  · run_from Cert.LossRefIdeal.Value.run m' g'
    · rw [Cert.LossRefIdeal.Read.val_main_v80_eq]
      try simp only [hagree c]
      obtain ⟨h0, h1, h2, h3, h4, h5⟩ := reals m hpre c
      exact (Cert.LossRefIdeal.Read.dz_arr h0 h1 h2 h3 h4 h5).trans (Cert.LossBwdIdeal.Value.final4 m c).symm
    · rw [Cert.LossRefIdeal.Read.val_main_v81_eq]
      try simp only [hagree c]
      obtain ⟨h0, h1, h2, h3, h4, h5⟩ := reals m hpre c
      exact (Cert.LossRefIdeal.Read.dz_arr h0 h1 h2 h3 h4 h5).trans (Cert.LossBwdIdeal.Value.final5 m c).symm
    · rw [Cert.LossRefIdeal.Read.val_main_v82_eq]
      try simp only [hagree c]
      obtain ⟨h0, h1, h2, h3, h4, h5⟩ := reals m hpre c
      exact (Cert.LossRefIdeal.Read.dg_arr h0 h1 h2 h3 h4 h5).trans (Cert.LossBwdIdeal.Value.final6 m c).symm
    · rw [Cert.LossRefIdeal.Read.val_main_v83_eq]
      try simp only [hagree c]
      obtain ⟨h0, h1, h2, h3, h4, h5⟩ := reals m hpre c
      exact (Cert.LossRefIdeal.Read.db_arr h0 h1 h2 h3 h4 h5).trans (Cert.LossBwdIdeal.Value.final7 m c).symm
    · rw [Cert.LossRefIdeal.Read.val_main_v84_eq]
      try simp only [hagree c]
      obtain ⟨h0, h1, h2, h3, h4, h5⟩ := reals m hpre c
      exact (Cert.LossRefIdeal.Read.loss_arr h0 h1 h2 h3 h4 h5).trans (Cert.LossBwdIdeal.Value.final8 m c).symm

end Cert.LossClaim

end
-- ==== Proof.H2Kernel.lean ====
module

public import proofs.«01_k».proof.Proof.Gen.H2BwdIdeal.Value
public import proofs.«01_k».proof.Proof.LnBlock
public import Idealize.ShloMosaic.Lib.Pipeline.ReadBack
public import Idealize.ShloMosaic.Lib.Claim

/-! # The arrays `_grad_in` returns at the norm in front of the feed-forward layer -/

@[expose] public section

set_option maxRecDepth 16384

noncomputable section

namespace Cert.H2BwdIdeal.Value

open Cert.H2BwdIdeal Cert.H2BwdIdeal.Gen Idealize.ShloMosaic Idealize.ShloMosaic.TcCoe Idealize.SL.Sem Cert.LnSpec Cert.LnBlock
open Idealize.ShloMosaic.Pipeline (Dat)

variable (m : (ℓ : Loc nD τ sig) → Buf (Elt Ideal) ℓ) (c : Dev nD) (t : Fin cfg0.N)

/-- A block of the gradient of the norm's output. -/
def dyB : Block := k0_pay7 (iblk m c 4 t) (iblk m c 0 t) (iblk m c 1 t) (iblk m c 2 t) (iblk m c 3 t)

/-- A block of the norm's input. -/
def zB : Block := iblk m c 5 t

/-- The norm's gains. -/
def gB : Line := iblk m c 6 t

/-! ## The stores -/

theorem out7 : (outsAt0 m c t.val t.isLt).1 = grad (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out8 : (outsAt0 m c t.val t.isLt).2.1 = gradNarrow (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out9_A (h : t.val % 8 = 0) : (outsAt0 m c t.val t.isLt).2.2.1 = gains (dyB m c t) (zB m c t) := by
  rw [outsAt0_A m c t h (by have : t.val < 8 := t.isLt; omega)]
  frame_out
  rfl

theorem out9_B (h : ¬t.val % 8 = 0) : (outsAt0 m c t.val t.isLt).2.2.1
    = moreGains (dyB m c t) (zB m c t) (outsAt0 m c (t.val - 1) (by omega)).2.2.1 := by
  rw [outsAt0_B m c t h (by omega)]
  frame_out
  rfl

theorem out10_A (h : t.val % 8 = 0) : (outsAt0 m c t.val t.isLt).2.2.2 = bias (dyB m c t) := by
  rw [outsAt0_A m c t h (by have : t.val < 8 := t.isLt; omega)]
  frame_out
  rfl

theorem out10_B (h : ¬t.val % 8 = 0) : (outsAt0 m c t.val t.isLt).2.2.2
    = moreBias (dyB m c t) (outsAt0 m c (t.val - 1) (by omega)).2.2.2 := by
  rw [outsAt0_B m c t h (by omega)]
  frame_out
  rfl

/-! ## The blocks -/

theorem idx : ∀ t : Fin cfg0.N, win0_0.index t = ![t.val, 0] ∧ win0_1.index t = ![0, 0] ∧ win0_2.index t = ![t.val, 0]
    ∧ win0_3.index t = ![0, 1] ∧ win0_4.index t = ![t.val, 0] ∧ win0_5.index t = ![t.val, 0] ∧ win0_6.index t = ![0, 0]
    ∧ win0_7.index t = ![t.val, 0] ∧ win0_8.index t = ![t.val, 0] :=
  (by decide +kernel : ∀ t : Fin grid0.N, _)

/-- The norm's input. -/
def zA : Fin 4096 → Row :=
  zOf (mat (m ((c : Thread nD τ).loc main_arg2))) (mat (m ((c : Thread nD τ).loc main_arg0))) (mat (m ((c : Thread nD τ).loc main_arg1)))

/-- The gradient of the norm's output. -/
def dyA : Fin 4096 → Row :=
  dyOf (mat (m ((c : Thread nD τ).loc main_arg6))) (mat (m ((c : Thread nD τ).loc main_arg7))) (mat (m ((c : Thread nD τ).loc main_arg5)))

/-- The norm's gains. -/
def gA : Row := vec (m ((c : Thread nD τ).loc main_arg3))

/-- The columns of the two halves. -/
def lo (k : Fin 2816) : Fin 5632 := ⟨k.val, by omega⟩
def hi (k : Fin 2816) : Fin 5632 := ⟨2816 + k.val, by omega⟩

theorem sum_halves (f : Fin 5632 → EReal) : ∑ k, f k = ∑ k, f (lo k) + ∑ k, f (hi k) := Fin.sum_univ_add (a := 2816) (b := 2816) f

theorem opnd5_at (i : Fin 4096) (j : Fin 1024) : (V m c main_v8 : FVec Ideal S4096x1024 .f32) (ix2 i j) = zA m c i j := by
  entry_read
  pointwise [zA, zOf, mat]

theorem opnd0_at (i : Fin 4096) (k : Fin 2816) : (V m c main_v1 : FVec Ideal S4096x2816 .bf16) (ix2 i k)
    = m ((c : Thread nD τ).loc main_arg7) (ix2 i (lo k)) := by
  entry_read
  pointwise [lo]

theorem opnd2_at (i : Fin 4096) (k : Fin 2816) : (V m c main_v3 : FVec Ideal S4096x2816 .bf16) (ix2 i k)
    = m ((c : Thread nD τ).loc main_arg7) (ix2 i (hi k)) := by
  entry_read
  pointwise [hi]

theorem opnd1_at (j : Fin 1024) (k : Fin 5632) : (V m c main_v4 : FVec Ideal S1024x5632 .bf16) (ix2 j k)
    = m ((c : Thread nD τ).loc main_arg5) (ix2 j k) := by
  entry_read
  pointwise

theorem opnd6_at (j : Fin 1024) : (V m c main_v9 : FVec Ideal S1x1024 .f32) (ix2 0 j) = gA m c j := by
  entry_read
  pointwise [gA, vec]

theorem block0 (r : Fin 512) (k : Fin 2816) : (iblk m c 0 t : FVec Ideal S512x2816 .bf16) (ix2 r k)
    = m ((c : Thread nD τ).loc main_arg7) (ix2 (row t r) (lo k)) := by
  refine Eq.trans ?_ (opnd0_at m c (row t r) k)
  unfold row
  blk_ext! [iblk, idx t]

theorem block2 (r : Fin 512) (k : Fin 2816) : (iblk m c 2 t : FVec Ideal S512x2816 .bf16) (ix2 r k)
    = m ((c : Thread nD τ).loc main_arg7) (ix2 (row t r) (hi k)) := by
  refine Eq.trans ?_ (opnd2_at m c (row t r) k)
  unfold row
  blk_ext! [iblk, idx t]

theorem block1 (j : Fin 1024) (k : Fin 2816) : (iblk m c 1 t : FVec Ideal S1024x2816 .bf16) (ix2 j k)
    = m ((c : Thread nD τ).loc main_arg5) (ix2 j (lo k)) := by
  refine Eq.trans ?_ (opnd1_at m c j (lo k))
  unfold lo
  blk_ext! [iblk, idx t]

theorem block3 (j : Fin 1024) (k : Fin 2816) : (iblk m c 3 t : FVec Ideal S1024x2816 .bf16) (ix2 j k)
    = m ((c : Thread nD τ).loc main_arg5) (ix2 j (hi k)) := by
  refine Eq.trans ?_ (opnd1_at m c j (hi k))
  unfold hi
  blk_ext! [iblk, idx t]

theorem block4 (r : Fin 512) (j : Fin 1024) : (iblk m c 4 t : Block) (ix2 r j) = m ((c : Thread nD τ).loc main_arg6) (ix2 (row t r) j) := by
  unfold row
  blk_ext! [iblk, V, idx t]

theorem rows_z (r : Fin 512) : rowOf (zB m c t) r = zA m c (row t r) := by
  funext j
  refine Eq.trans ?_ (opnd5_at m c (row t r) j)
  unfold rowOf zB row
  blk_ext! [iblk, idx t]

theorem line_g : lineOf (gB m c t) = gA m c := by
  funext j
  refine Eq.trans ?_ (opnd6_at m c j)
  unfold lineOf gB
  blk_ext! [iblk, idx t]

theorem rows_dy (r : Fin 512) : rowOf (dyB m c t) r = dyA m c (row t r) := by
  funext j
  unfold dyA dyOf mat
  rw [sum_halves, ← add_assoc]
  simp only [← block0 m c t, ← block1 m c t, ← block2 m c t, ← block3 m c t, ← block4 m c t]
  unfold rowOf dyB
  pointwise [k0_pay7]

/-! ## The arrays -/

theorem final7 : (dats m 0 c).arrAt 7 (cfgs 0).N = gradArr (dyA m c) (zA m c) (gA m c) := by
  refine (dats m 0 c).arrAt_eq_of_covers 7 _ (by decide +kernel) fun t _ y => ?_
  blk_simp
  rw [after0_7, out7]
  have e : (win0_7.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem final8 : (dats m 0 c).arrAt 8 (cfgs 0).N = (gradArr (dyA m c) (zA m c) (gA m c) : FVec Ideal S4096x1024 .bf16) := by
  refine (dats m 0 c).arrAt_eq_of_covers 8 _ (by decide +kernel) fun t _ y => ?_
  blk_simp
  rw [after0_8, out8]
  have e : (win0_8.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem last9 : (outsAt0 m c 7 (by decide)).2.2.1 = gainsArr (dyA m c) (zA m c) :=
  gains_arr _ _ (fun n h => (outsAt0 m c n h).2.2.1) (dyB m c) (zB m c) (out9_A m c) (out9_B m c) (rows_dy m c) (rows_z m c)

theorem last10 : (outsAt0 m c 7 (by decide)).2.2.2 = biasArr (dyA m c) :=
  bias_arr _ (fun n h => (outsAt0 m c n h).2.2.2) (dyB m c) (out10_A m c) (out10_B m c) (rows_dy m c)

/-- The last grid point. -/
abbrev last : Fin cfg0.N := ⟨7, by decide⟩

theorem final9 : (dats m 0 c).arrAt 9 (cfgs 0).N = gainsArr (dyA m c) (zA m c) := by
  refine (dats m 0 c).arrAt_eq_of_after_last 9 last (by decide +kernel) _ fun y => ?_
  rw [← last9 m c]
  blk_simp
  rw [after0_9]

theorem final10 : (dats m 0 c).arrAt 10 (cfgs 0).N = biasArr (dyA m c) := by
  refine (dats m 0 c).arrAt_eq_of_after_last 10 last (by decide +kernel) _ fun y => ?_
  rw [← last10 m c]
  blk_simp
  rw [after0_10]

end Cert.H2BwdIdeal.Value

end
-- ==== Proof.H2Reference.lean ====
module

public import proofs.«01_k».proof.Proof.Gen.H2RefIdeal.Read
public import proofs.«01_k».proof.Proof.LnTail

/-! # The arrays the reference returns at the norm in front of the feed-forward layer -/

@[expose] public section

set_option maxRecDepth 16384

noncomputable section

namespace Cert.H2RefIdeal.Read

open Cert.H2RefIdeal Idealize.ShloMosaic Idealize.ShloMosaic.TcCoe Idealize.SL.Sem Cert.Finite Cert.LnSpec Cert.LnBlock Cert.LnTail

variable (A : FVec Ideal S4096x1024 .f32) (W : FVec Ideal S1024x1024 .f32) (H : FVec Ideal S4096x1024 .f32) (G : FVec Ideal S1024 .f32)
  (U : FVec Ideal S1024x5632 .f32) (D : FVec Ideal S4096x1024 .f32) (P : FVec Ideal S4096x5632 .f32)

/-- The norm's input. -/
theorem z_at : mat (val_main_v3 (F := Ideal) A W H) = zOf (mat H) (mat A) (mat W) := by
  funext i j
  unfold zOf mat
  pointwise [val_main_v3, val_main_v2, val_main_v1, val_main_v0, val_main_cst]

/-- The gradient of the norm's output. -/
theorem dy_at : mat (val_main_v39 (F := Ideal) U D P) = dyOf (mat D) (mat P) (mat U) := by
  funext i j
  unfold dyOf mat
  rw [add_comm]
  pointwise [val_main_v39, val_main_v38, val_main_v37, val_main_cst_8, val_main_v36]

variable {A W H G U D P}

theorem dz_arr (hA : ∀ i, IsReal (A i)) (hW : ∀ i, IsReal (W i)) (hH : ∀ i, IsReal (H i)) (hG : ∀ i, IsReal (G i))
    (hU : ∀ i, IsReal (U i)) (hD : ∀ i, IsReal (D i)) (hP : ∀ i, IsReal (P i)) :
    val_main_v72 (F := Ideal) A W H G U D P
      = gradArr (dyOf (mat D) (mat P) (mat U)) (zOf (mat H) (mat A) (mat W)) (vec G) := by
  rw [← z_at, ← dy_at]
  refine Eq.trans rfl (back_arr (val_main_v39 (F := Ideal) U D P) (val_main_v3 (F := Ideal) A W H) G ?_ ?_ fun j => hG _)
  · rw [dy_at]
    exact fun i j => dyOf_real (fun i j => hD _) (fun i j => hP _) (fun i j => hU _) i j
  · rw [z_at]
    exact fun i j => zOf_real (fun i j => hH _) (fun i j => hA _) (fun i j => hW _) i j

theorem dg_arr : val_main_v74 (F := Ideal) A W H U D P = gainsArr (dyOf (mat D) (mat P) (mat U)) (zOf (mat H) (mat A) (mat W)) := by
  rw [← z_at, ← dy_at]
  exact Eq.trans rfl (backGains_arr (val_main_v39 (F := Ideal) U D P) (val_main_v3 (F := Ideal) A W H))

theorem db_arr : val_main_v75 (F := Ideal) U D P = biasArr (dyOf (mat D) (mat P) (mat U)) := by
  rw [← dy_at]
  exact Eq.trans rfl (backBias_arr (val_main_v39 (F := Ideal) U D P))

end Cert.H2RefIdeal.Read

end
-- ==== Proof.H2Claim.lean ====
module

public import proofs.«01_k».proof.Defs
public import proofs.«01_k».proof.Proof.Gen.H2Bwd
public import proofs.«01_k».proof.Proof.Gen.H2RefIdeal
public import proofs.«01_k».proof.Proof.Gen.Pre_h2_finite
public import proofs.«01_k».proof.Proof.H2Kernel
public import proofs.«01_k».proof.Proof.H2Reference
public import Idealize.ShloMosaic.Lib.Claim

/-! # `_grad_in` at the norm in front of the feed-forward layer: the claims of the pair -/

@[expose] public section

set_option maxRecDepth 16384

noncomputable section

namespace Cert.H2Claim

open Idealize.ShloMosaic Idealize.SL.Sem Cert.LnSpec Cert.LnBlock Cert.Finite

local instance : Cert.H2Bwd.Facts := Cert.H2Bwd.Gen.facts
local instance : Cert.H2BwdIdeal.Facts := Cert.H2BwdIdeal.Gen.facts
local instance : Cert.H2RefIdeal.Facts := Cert.H2RefIdeal.Gen.facts
local instance : Cert.Pre_h2_finite.Facts := Cert.Pre_h2_finite.Gen.facts

theorem frame_ideal : Cert.quiescent_H2BwdIdeal := fun m g _ => Cert.H2BwdIdeal.Gen.frame m g

theorem frame_ideal_pre : Cert.quiescent_H2BwdIdeal_pre_h2_finite := fun m g _ => Cert.H2BwdIdeal.Gen.frame m g

theorem main_eq : Cert.H2Bwd.main (F := Bits) = Cert.H2BwdIdeal.main (F := Bits) := rfl

theorem defs_eq : Cert.H2Bwd.defs (F := Bits) = Cert.H2BwdIdeal.defs (F := Bits) := by sl_kernel_rfl

/-- The kernel's program is its idealized program over the machine's floats: one run serves both. -/
theorem frame_kernel : Cert.quiescent_H2Bwd := fun m g _ => by
  rw [defs_eq, main_eq]
  exact Cert.H2BwdIdeal.Gen.frame (F := Bits) m g

theorem frame_reference : Cert.quiescent_H2RefIdeal := by
  intro m g _
  exact (θ_run _ _ _).mono (fun r h => ⟨fun c => (h c).2.2.2.2, sem_eq_zero_of_no_sems rfl _⟩) (Cert.H2RefIdeal.Value.run m g)

theorem frame_reference_pre : Cert.quiescent_H2RefIdeal_pre_h2_finite := fun m g _ => frame_reference m g trivial

/-- Under the precondition the arguments the value depends on are arrays of reals. -/
theorem reals (m : (ℓ : Loc Cert.H2BwdIdeal.nD Cert.H2BwdIdeal.τ Cert.H2BwdIdeal.sig) → Buf (Elt Ideal) ℓ) (h : Cert.Pre_H2BwdIdeal_h2_finite m) (c : Dev Cert.H2BwdIdeal.nD) :
    (∀ i, IsReal (m ((c.tc : Thread Cert.H2BwdIdeal.nD Cert.H2BwdIdeal.τ).loc Cert.H2BwdIdeal.main_arg0) i))
    ∧ (∀ i, IsReal (m ((c.tc : Thread Cert.H2BwdIdeal.nD Cert.H2BwdIdeal.τ).loc Cert.H2BwdIdeal.main_arg1) i))
    ∧ (∀ i, IsReal (m ((c.tc : Thread Cert.H2BwdIdeal.nD Cert.H2BwdIdeal.τ).loc Cert.H2BwdIdeal.main_arg2) i))
    ∧ (∀ i, IsReal (m ((c.tc : Thread Cert.H2BwdIdeal.nD Cert.H2BwdIdeal.τ).loc Cert.H2BwdIdeal.main_arg3) i))
    ∧ (∀ i, IsReal (m ((c.tc : Thread Cert.H2BwdIdeal.nD Cert.H2BwdIdeal.τ).loc Cert.H2BwdIdeal.main_arg5) i))
    ∧ (∀ i, IsReal (m ((c.tc : Thread Cert.H2BwdIdeal.nD Cert.H2BwdIdeal.τ).loc Cert.H2BwdIdeal.main_arg6) i))
    ∧ (∀ i, IsReal (m ((c.tc : Thread Cert.H2BwdIdeal.nD Cert.H2BwdIdeal.τ).loc Cert.H2BwdIdeal.main_arg7) i)) := by
  haveI : Subsingleton Cert.Pre_h2_finite.S_.Idx := ⟨fun a b => funext fun x => x.elim0⟩
  have h := h c
  unfold Cert.Pre_h2_finite.fn Cert.Pre_h2_finite.fn_part1 at h
  dsimp only at h
  obtain ⟨h0, h1, h2, h3, h5, h6, h7⟩ := h
  exact ⟨real_of_all _ _ (fun _ => rfl) _ _ _ h0 ix0, real_of_all _ _ (fun _ => rfl) _ _ _ h1 ix0, real_of_all _ _ (fun _ => rfl) _ _ _ h2 ix0, real_of_all _ _ (fun _ => rfl) _ _ _ h3 ix0, real_of_all _ _ (fun _ => rfl) _ _ _ h5 ix0, real_of_all _ _ (fun _ => rfl) _ _ _ h6 ix0, real_of_all _ _ (fun _ => rfl) _ _ _ h7 ix0⟩

set_option maxHeartbeats 1600000 in
theorem algebraic : Cert.algebraic_H2BwdIdeal_H2RefIdeal_pre_h2_finite := by
  pair_intro
  · run_from Cert.H2BwdIdeal.Gen.run_main m g
  · refine (θ_run _ _ _).mono (fun r h c => ?_) (Cert.H2RefIdeal.Value.run m' g')
    obtain ⟨a72, a73, a74, a75, rest⟩ := h c
    obtain ⟨e0, e1, e2, e3, -, e5, e6, e7⟩ := hagree c
    obtain ⟨h0, h1, h2, h3, h5, h6, h7⟩ := reals m hpre c
    refine ⟨(a72.trans (Cert.H2RefIdeal.Read.val_main_v72_eq m' c)).trans ?_, (a73.trans (Cert.H2RefIdeal.Read.val_main_v73_eq m' c)).trans ?_,
      (a74.trans (Cert.H2RefIdeal.Read.val_main_v74_eq _ _ _ _ _ _)).trans ?_, (a75.trans (Cert.H2RefIdeal.Read.val_main_v75_eq _ _ _)).trans ?_, rest⟩
    · rw [e0, e1, e2, e3, e5, e6, e7]
      exact (Cert.H2RefIdeal.Read.dz_arr h0 h1 h2 h3 h5 h6 h7).trans (Cert.H2BwdIdeal.Value.final7 m c).symm
    · rw [e0, e1, e2, e3, e5, e6, e7]
      exact (Cert.H2RefIdeal.Read.dz_arr h0 h1 h2 h3 h5 h6 h7).trans (Cert.H2BwdIdeal.Value.final8 m c).symm
    · rw [e0, e1, e2, e5, e6, e7]
      exact Cert.H2RefIdeal.Read.dg_arr.trans (Cert.H2BwdIdeal.Value.final9 m c).symm
    · rw [e5, e6, e7]
      exact Cert.H2RefIdeal.Read.db_arr.trans (Cert.H2BwdIdeal.Value.final10 m c).symm

end Cert.H2Claim

end
-- ==== Proof.H1Kernel.lean ====
module

public import proofs.«01_k».proof.Proof.Gen.H1BwdIdeal.Value
public import proofs.«01_k».proof.Proof.LnBlock
public import Idealize.ShloMosaic.Lib.Pipeline.ReadBack
public import Idealize.ShloMosaic.Lib.Claim

/-! # The arrays `_grad_in` returns at the norm in front of the cross attention -/

@[expose] public section

set_option maxRecDepth 16384

noncomputable section

namespace Cert.H1BwdIdeal.Value

open Cert.H1BwdIdeal Cert.H1BwdIdeal.Gen Idealize.ShloMosaic Idealize.ShloMosaic.TcCoe Idealize.SL.Sem Cert.LnSpec Cert.LnBlock
open Idealize.ShloMosaic.Pipeline (Dat)

variable (m : (ℓ : Loc nD τ sig) → Buf (Elt Ideal) ℓ) (c : Dev nD) (t : Fin cfg0.N)

/-- A block of the gradient of the norm's output. -/
def dyB : Block := k0_pay7 (iblk m c 2 t) (iblk m c 0 t) (iblk m c 1 t)

/-- A block of the norm's input. -/
def zB : Block := iblk m c 3 t

/-- The norm's gains. -/
def gB : Line := iblk m c 4 t

/-! ## The stores -/

theorem out5 : (outsAt0 m c t.val t.isLt).1 = grad (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out6 : (outsAt0 m c t.val t.isLt).2.1 = gradNarrow (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out7_A (h : t.val % 8 = 0) : (outsAt0 m c t.val t.isLt).2.2.1 = gains (dyB m c t) (zB m c t) := by
  rw [outsAt0_A m c t h (by have : t.val < 8 := t.isLt; omega)]
  frame_out
  rfl

theorem out7_B (h : ¬t.val % 8 = 0) : (outsAt0 m c t.val t.isLt).2.2.1
    = moreGains (dyB m c t) (zB m c t) (outsAt0 m c (t.val - 1) (by omega)).2.2.1 := by
  rw [outsAt0_B m c t h (by omega)]
  frame_out
  rfl

theorem out8_A (h : t.val % 8 = 0) : (outsAt0 m c t.val t.isLt).2.2.2 = bias (dyB m c t) := by
  rw [outsAt0_A m c t h (by have : t.val < 8 := t.isLt; omega)]
  frame_out
  rfl

theorem out8_B (h : ¬t.val % 8 = 0) : (outsAt0 m c t.val t.isLt).2.2.2
    = moreBias (dyB m c t) (outsAt0 m c (t.val - 1) (by omega)).2.2.2 := by
  rw [outsAt0_B m c t h (by omega)]
  frame_out
  rfl

/-! ## The blocks -/

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

/-- The norm's input. -/
def zA : Fin 4096 → Row :=
  zOf (mat (m ((c : Thread nD τ).loc main_arg2))) (mat (m ((c : Thread nD τ).loc main_arg0))) (mat (m ((c : Thread nD τ).loc main_arg1)))

/-- The gradient of the norm's output. -/
def dyA : Fin 4096 → Row :=
  dyOf (mat (m ((c : Thread nD τ).loc main_arg6))) (mat (m ((c : Thread nD τ).loc main_arg7))) (mat (m ((c : Thread nD τ).loc main_arg5)))

/-- The norm's gains. -/
def gA : Row := vec (m ((c : Thread nD τ).loc main_arg3))

theorem opnd3_at (i : Fin 4096) (j : Fin 1024) : (V m c main_v3 : FVec Ideal S4096x1024 .f32) (ix2 i j) = zA m c i j := by
  entry_read
  pointwise [zA, zOf, mat]

theorem opnd0_at (i : Fin 4096) (k : Fin 1024) : (V m c main_v4 : FVec Ideal S4096x1024 .bf16) (ix2 i k)
    = m ((c : Thread nD τ).loc main_arg7) (ix2 i k) := by
  entry_read
  pointwise

theorem opnd1_at (j k : Fin 1024) : (V m c main_v5 : FVec Ideal S1024x1024 .bf16) (ix2 j k)
    = m ((c : Thread nD τ).loc main_arg5) (ix2 j k) := by
  entry_read
  pointwise

theorem opnd4_at (j : Fin 1024) : (V m c main_v6 : FVec Ideal S1x1024 .f32) (ix2 0 j) = gA m c j := by
  entry_read
  pointwise [gA, vec]

theorem block0 (r : Fin 512) (k : Fin 1024) : (iblk m c 0 t : FVec Ideal S512x1024 .bf16) (ix2 r k)
    = m ((c : Thread nD τ).loc main_arg7) (ix2 (row t r) k) := by
  refine Eq.trans ?_ (opnd0_at m c (row t r) k)
  unfold row
  blk_ext! [iblk, idx t]

theorem block1 (j k : Fin 1024) : (iblk m c 1 t : FVec Ideal S1024x1024 .bf16) (ix2 j k) = m ((c : Thread nD τ).loc main_arg5) (ix2 j k) := by
  refine Eq.trans ?_ (opnd1_at m c j k)
  blk_ext! [iblk, idx t]

theorem block2 (r : Fin 512) (j : Fin 1024) : (iblk m c 2 t : Block) (ix2 r j) = m ((c : Thread nD τ).loc main_arg6) (ix2 (row t r) j) := by
  unfold row
  blk_ext! [iblk, V, idx t]

theorem rows_z (r : Fin 512) : rowOf (zB m c t) r = zA m c (row t r) := by
  funext j
  refine Eq.trans ?_ (opnd3_at m c (row t r) j)
  unfold rowOf zB row
  blk_ext! [iblk, idx t]

theorem line_g : lineOf (gB m c t) = gA m c := by
  funext j
  refine Eq.trans ?_ (opnd4_at m c j)
  unfold lineOf gB
  blk_ext! [iblk, idx t]

theorem rows_dy (r : Fin 512) : rowOf (dyB m c t) r = dyA m c (row t r) := by
  funext j
  unfold dyA dyOf mat
  simp only [← block0 m c t, ← block1 m c t, ← block2 m c t]
  unfold rowOf dyB
  pointwise [k0_pay7]

/-! ## The arrays -/

theorem final5 : (dats m 0 c).arrAt 5 (cfgs 0).N = gradArr (dyA m c) (zA m c) (gA m c) := by
  refine (dats m 0 c).arrAt_eq_of_covers 5 _ (by decide +kernel) fun t _ y => ?_
  blk_simp
  rw [after0_5, out5]
  have e : (win0_5.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem final6 : (dats m 0 c).arrAt 6 (cfgs 0).N = (gradArr (dyA m c) (zA m c) (gA m c) : FVec Ideal S4096x1024 .bf16) := by
  refine (dats m 0 c).arrAt_eq_of_covers 6 _ (by decide +kernel) fun t _ y => ?_
  blk_simp
  rw [after0_6, out6]
  have e : (win0_6.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem last7 : (outsAt0 m c 7 (by decide)).2.2.1 = gainsArr (dyA m c) (zA m c) :=
  gains_arr _ _ (fun n h => (outsAt0 m c n h).2.2.1) (dyB m c) (zB m c) (out7_A m c) (out7_B m c) (rows_dy m c) (rows_z m c)

theorem last8 : (outsAt0 m c 7 (by decide)).2.2.2 = biasArr (dyA m c) :=
  bias_arr _ (fun n h => (outsAt0 m c n h).2.2.2) (dyB m c) (out8_A m c) (out8_B m c) (rows_dy m c)

/-- The last grid point. -/
abbrev last : Fin cfg0.N := ⟨7, by decide⟩

theorem final7 : (dats m 0 c).arrAt 7 (cfgs 0).N = gainsArr (dyA m c) (zA m c) := by
  refine (dats m 0 c).arrAt_eq_of_after_last 7 last (by decide +kernel) _ fun y => ?_
  rw [← last7 m c]
  blk_simp
  rw [after0_7]

theorem final8 : (dats m 0 c).arrAt 8 (cfgs 0).N = biasArr (dyA m c) := by
  refine (dats m 0 c).arrAt_eq_of_after_last 8 last (by decide +kernel) _ fun y => ?_
  rw [← last8 m c]
  blk_simp
  rw [after0_8]

end Cert.H1BwdIdeal.Value

end
-- ==== Proof.H1Reference.lean ====
module

public import proofs.«01_k».proof.Proof.Gen.H1RefIdeal.Read
public import proofs.«01_k».proof.Proof.LnTail

/-! # The arrays the reference returns at the norm in front of the cross attention -/

@[expose] public section

set_option maxRecDepth 16384

noncomputable section

namespace Cert.H1RefIdeal.Read

open Cert.H1RefIdeal Idealize.ShloMosaic Idealize.ShloMosaic.TcCoe Idealize.SL.Sem Cert.Finite Cert.LnSpec Cert.LnBlock Cert.LnTail

variable (A : FVec Ideal S4096x1024 .f32) (W : FVec Ideal S1024x1024 .f32) (H : FVec Ideal S4096x1024 .f32) (G : FVec Ideal S1024 .f32)
  (U : FVec Ideal S1024x1024 .f32) (D : FVec Ideal S4096x1024 .f32) (P : FVec Ideal S4096x1024 .f32)

/-- The norm's input. -/
theorem z_at : mat (val_main_v3 (F := Ideal) A W H) = zOf (mat H) (mat A) (mat W) := by
  funext i j
  unfold zOf mat
  pointwise [val_main_v3, val_main_v2, val_main_v1, val_main_v0, val_main_cst]

/-- The gradient of the norm's output. -/
theorem dy_at : mat (val_main_v39 (F := Ideal) U D P) = dyOf (mat D) (mat P) (mat U) := by
  funext i j
  unfold dyOf mat
  rw [add_comm]
  pointwise [val_main_v39, val_main_v38, val_main_v37, val_main_cst_8, val_main_v36]

variable {A W H G U D P}

theorem dz_arr (hA : ∀ i, IsReal (A i)) (hW : ∀ i, IsReal (W i)) (hH : ∀ i, IsReal (H i)) (hG : ∀ i, IsReal (G i))
    (hU : ∀ i, IsReal (U i)) (hD : ∀ i, IsReal (D i)) (hP : ∀ i, IsReal (P i)) :
    val_main_v72 (F := Ideal) A W H G U D P
      = gradArr (dyOf (mat D) (mat P) (mat U)) (zOf (mat H) (mat A) (mat W)) (vec G) := by
  rw [← z_at, ← dy_at]
  refine Eq.trans rfl (back_arr (val_main_v39 (F := Ideal) U D P) (val_main_v3 (F := Ideal) A W H) G ?_ ?_ fun j => hG _)
  · rw [dy_at]
    exact fun i j => dyOf_real (fun i j => hD _) (fun i j => hP _) (fun i j => hU _) i j
  · rw [z_at]
    exact fun i j => zOf_real (fun i j => hH _) (fun i j => hA _) (fun i j => hW _) i j

theorem dg_arr : val_main_v74 (F := Ideal) A W H U D P = gainsArr (dyOf (mat D) (mat P) (mat U)) (zOf (mat H) (mat A) (mat W)) := by
  rw [← z_at, ← dy_at]
  exact Eq.trans rfl (backGains_arr (val_main_v39 (F := Ideal) U D P) (val_main_v3 (F := Ideal) A W H))

theorem db_arr : val_main_v75 (F := Ideal) U D P = biasArr (dyOf (mat D) (mat P) (mat U)) := by
  rw [← dy_at]
  exact Eq.trans rfl (backBias_arr (val_main_v39 (F := Ideal) U D P))

end Cert.H1RefIdeal.Read

end
-- ==== Proof.H1Claim.lean ====
module

public import proofs.«01_k».proof.Defs
public import proofs.«01_k».proof.Proof.Gen.H1Bwd
public import proofs.«01_k».proof.Proof.Gen.H1RefIdeal
public import proofs.«01_k».proof.Proof.Gen.Pre_h1_finite
public import proofs.«01_k».proof.Proof.H1Kernel
public import proofs.«01_k».proof.Proof.H1Reference
public import Idealize.ShloMosaic.Lib.Claim

/-! # `_grad_in` at the norm in front of the cross attention: the claims of the pair -/

@[expose] public section

set_option maxRecDepth 16384

noncomputable section

namespace Cert.H1Claim

open Idealize.ShloMosaic Idealize.SL.Sem Cert.LnSpec Cert.LnBlock Cert.Finite

local instance : Cert.H1Bwd.Facts := Cert.H1Bwd.Gen.facts
local instance : Cert.H1BwdIdeal.Facts := Cert.H1BwdIdeal.Gen.facts
local instance : Cert.H1RefIdeal.Facts := Cert.H1RefIdeal.Gen.facts
local instance : Cert.Pre_h1_finite.Facts := Cert.Pre_h1_finite.Gen.facts

theorem frame_ideal : Cert.quiescent_H1BwdIdeal := fun m g _ => Cert.H1BwdIdeal.Gen.frame m g

theorem frame_ideal_pre : Cert.quiescent_H1BwdIdeal_pre_h1_finite := fun m g _ => Cert.H1BwdIdeal.Gen.frame m g

theorem main_eq : Cert.H1Bwd.main (F := Bits) = Cert.H1BwdIdeal.main (F := Bits) := rfl

theorem defs_eq : Cert.H1Bwd.defs (F := Bits) = Cert.H1BwdIdeal.defs (F := Bits) := by sl_kernel_rfl

/-- The kernel's program is its idealized program over the machine's floats: one run serves both. -/
theorem frame_kernel : Cert.quiescent_H1Bwd := fun m g _ => by
  rw [defs_eq, main_eq]
  exact Cert.H1BwdIdeal.Gen.frame (F := Bits) m g

theorem frame_reference : Cert.quiescent_H1RefIdeal := by
  intro m g _
  exact (θ_run _ _ _).mono (fun r h => ⟨fun c => (h c).2.2.2.2, sem_eq_zero_of_no_sems rfl _⟩) (Cert.H1RefIdeal.Value.run m g)

theorem frame_reference_pre : Cert.quiescent_H1RefIdeal_pre_h1_finite := fun m g _ => frame_reference m g trivial

/-- Under the precondition the arguments the value depends on are arrays of reals. -/
theorem reals (m : (ℓ : Loc Cert.H1BwdIdeal.nD Cert.H1BwdIdeal.τ Cert.H1BwdIdeal.sig) → Buf (Elt Ideal) ℓ) (h : Cert.Pre_H1BwdIdeal_h1_finite m) (c : Dev Cert.H1BwdIdeal.nD) :
    (∀ i, IsReal (m ((c.tc : Thread Cert.H1BwdIdeal.nD Cert.H1BwdIdeal.τ).loc Cert.H1BwdIdeal.main_arg0) i))
    ∧ (∀ i, IsReal (m ((c.tc : Thread Cert.H1BwdIdeal.nD Cert.H1BwdIdeal.τ).loc Cert.H1BwdIdeal.main_arg1) i))
    ∧ (∀ i, IsReal (m ((c.tc : Thread Cert.H1BwdIdeal.nD Cert.H1BwdIdeal.τ).loc Cert.H1BwdIdeal.main_arg2) i))
    ∧ (∀ i, IsReal (m ((c.tc : Thread Cert.H1BwdIdeal.nD Cert.H1BwdIdeal.τ).loc Cert.H1BwdIdeal.main_arg3) i))
    ∧ (∀ i, IsReal (m ((c.tc : Thread Cert.H1BwdIdeal.nD Cert.H1BwdIdeal.τ).loc Cert.H1BwdIdeal.main_arg5) i))
    ∧ (∀ i, IsReal (m ((c.tc : Thread Cert.H1BwdIdeal.nD Cert.H1BwdIdeal.τ).loc Cert.H1BwdIdeal.main_arg6) i))
    ∧ (∀ i, IsReal (m ((c.tc : Thread Cert.H1BwdIdeal.nD Cert.H1BwdIdeal.τ).loc Cert.H1BwdIdeal.main_arg7) i)) := by
  haveI : Subsingleton Cert.Pre_h1_finite.S_.Idx := ⟨fun a b => funext fun x => x.elim0⟩
  have h := h c
  unfold Cert.Pre_h1_finite.fn Cert.Pre_h1_finite.fn_part1 at h
  dsimp only at h
  obtain ⟨h0, h1, h2, h3, h5, h6, h7⟩ := h
  exact ⟨real_of_all _ _ (fun _ => rfl) _ _ _ h0 ix0, real_of_all _ _ (fun _ => rfl) _ _ _ h1 ix0, real_of_all _ _ (fun _ => rfl) _ _ _ h2 ix0, real_of_all _ _ (fun _ => rfl) _ _ _ h3 ix0, real_of_all _ _ (fun _ => rfl) _ _ _ h5 ix0, real_of_all _ _ (fun _ => rfl) _ _ _ h6 ix0, real_of_all _ _ (fun _ => rfl) _ _ _ h7 ix0⟩

set_option maxHeartbeats 1600000 in
theorem algebraic : Cert.algebraic_H1BwdIdeal_H1RefIdeal_pre_h1_finite := by
  pair_intro
  · run_from Cert.H1BwdIdeal.Gen.run_main m g
  · refine (θ_run _ _ _).mono (fun r h c => ?_) (Cert.H1RefIdeal.Value.run m' g')
    obtain ⟨a72, a73, a74, a75, rest⟩ := h c
    obtain ⟨e0, e1, e2, e3, -, e5, e6, e7⟩ := hagree c
    obtain ⟨h0, h1, h2, h3, h5, h6, h7⟩ := reals m hpre c
    refine ⟨(a72.trans (Cert.H1RefIdeal.Read.val_main_v72_eq m' c)).trans ?_, (a73.trans (Cert.H1RefIdeal.Read.val_main_v73_eq m' c)).trans ?_,
      (a74.trans (Cert.H1RefIdeal.Read.val_main_v74_eq _ _ _ _ _ _)).trans ?_, (a75.trans (Cert.H1RefIdeal.Read.val_main_v75_eq _ _ _)).trans ?_, rest⟩
    · rw [e0, e1, e2, e3, e5, e6, e7]
      exact (Cert.H1RefIdeal.Read.dz_arr h0 h1 h2 h3 h5 h6 h7).trans (Cert.H1BwdIdeal.Value.final5 m c).symm
    · rw [e0, e1, e2, e3, e5, e6, e7]
      exact (Cert.H1RefIdeal.Read.dz_arr h0 h1 h2 h3 h5 h6 h7).trans (Cert.H1BwdIdeal.Value.final6 m c).symm
    · rw [e0, e1, e2, e5, e6, e7]
      exact Cert.H1RefIdeal.Read.dg_arr.trans (Cert.H1BwdIdeal.Value.final7 m c).symm
    · rw [e5, e6, e7]
      exact Cert.H1RefIdeal.Read.db_arr.trans (Cert.H1BwdIdeal.Value.final8 m c).symm

end Cert.H1Claim

end
-- ==== Proof.H0Kernel.lean ====
module

public import proofs.«01_k».proof.Proof.Gen.H0BwdIdeal.Value
public import proofs.«01_k».proof.Proof.LnBlock
public import Idealize.ShloMosaic.Lib.Pipeline.ReadBack
public import Idealize.ShloMosaic.Lib.Claim

/-! # The arrays `_grad_in` returns at the last norm of a layer that another one follows -/

@[expose] public section

set_option maxRecDepth 16384

noncomputable section

namespace Cert.H0BwdIdeal.Value

open Cert.H0BwdIdeal Cert.H0BwdIdeal.Gen Idealize.ShloMosaic Idealize.ShloMosaic.TcCoe Idealize.SL.Sem Cert.LnSpec Cert.LnBlock
open Idealize.ShloMosaic.Pipeline (Dat)

variable (m : (ℓ : Loc nD τ sig) → Buf (Elt Ideal) ℓ) (c : Dev nD) (t : Fin cfg0.N)

/-- A block of the gradient of the norm's output. -/
def dyB : Block := k0_pay1 (iblk m c 6 t) (iblk m c 0 t) (iblk m c 1 t) (iblk m c 2 t) (iblk m c 3 t) (iblk m c 4 t) (iblk m c 5 t)

/-- A block of the norm's input. -/
def zB : Block := iblk m c 7 t

/-- The norm's gains. -/
def gB : Line := iblk m c 8 t

/-! ## The stores -/

theorem out9 : (outsAt0 m c t.val t.isLt).1 = grad (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out10 : (outsAt0 m c t.val t.isLt).2.1 = gradNarrow (dyB m c t) (zB m c t) (gB m c t) := by
  by_cases h : t.val % 8 = 0
  · rw [outsAt0_A m c t h (by have : t.val < 8 := t.isLt; omega)]
    frame_out
    rfl
  · rw [outsAt0_B m c t h (by omega)]
    frame_out
    rfl

theorem out11_A (h : t.val % 8 = 0) : (outsAt0 m c t.val t.isLt).2.2.1 = gains (dyB m c t) (zB m c t) := by
  rw [outsAt0_A m c t h (by have : t.val < 8 := t.isLt; omega)]
  frame_out
  rfl

theorem out11_B (h : ¬t.val % 8 = 0) : (outsAt0 m c t.val t.isLt).2.2.1
    = moreGains (dyB m c t) (zB m c t) (outsAt0 m c (t.val - 1) (by omega)).2.2.1 := by
  rw [outsAt0_B m c t h (by omega)]
  frame_out
  rfl

theorem out12_A (h : t.val % 8 = 0) : (outsAt0 m c t.val t.isLt).2.2.2 = bias (dyB m c t) := by
  rw [outsAt0_A m c t h (by have : t.val < 8 := t.isLt; omega)]
  frame_out
  rfl

theorem out12_B (h : ¬t.val % 8 = 0) : (outsAt0 m c t.val t.isLt).2.2.2
    = moreBias (dyB m c t) (outsAt0 m c (t.val - 1) (by omega)).2.2.2 := by
  rw [outsAt0_B m c t h (by omega)]
  frame_out
  rfl

/-! ## The blocks -/

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] ∧ win0_9.index t = ![t.val, 0] ∧ win0_10.index t = ![t.val, 0] :=
  (by decide +kernel : ∀ t : Fin grid0.N, _)

/-- The norm's input. -/
def zA : Fin 4096 → Row :=
  zOf (mat (m ((c : Thread nD τ).loc main_arg2))) (mat (m ((c : Thread nD τ).loc main_arg0))) (mat (m ((c : Thread nD τ).loc main_arg1)))

/-- The gradient of the norm's output. -/
def dyA : Fin 4096 → Row :=
  dyOf (mat (m ((c : Thread nD τ).loc main_arg6))) (mat (m ((c : Thread nD τ).loc main_arg7))) (mat (m ((c : Thread nD τ).loc main_arg5)))

/-- The norm's gains. -/
def gA : Row := vec (m ((c : Thread nD τ).loc main_arg3))

/-- The projection's columns: the convolved ones; the other ones of the recurrence, its gates last; those of the attention. -/
def qk (k : Fin 1024) : Fin 2824 := ⟨k.val, by omega⟩
def ml (k : Fin 1032) : Fin 2824 := ⟨1024 + k.val, by omega⟩
def sw (k : Fin 768) : Fin 2824 := ⟨2056 + k.val, by omega⟩

theorem sum_columns (f : Fin 2824 → EReal) : ∑ k, f k = ∑ k, f (qk k) + ∑ k, f (ml k) + ∑ k, f (sw k) := by
  refine (Fin.sum_univ_add (a := 2056) (b := 768) f).trans (congrArg (· + ∑ k, f (sw k)) ?_)
  exact Fin.sum_univ_add (a := 1024) (b := 1032) fun k => f ⟨k.val, by omega⟩

/-- A sum of 1152 terms whose last 120 are zero. -/
theorem sum_padded (f : Fin 1152 → EReal) (h : ∀ k : Fin 1152, 1032 ≤ k.val → f k = 0) :
    ∑ k, f k = ∑ k : Fin 1032, f ⟨k.val, by omega⟩ := by
  refine (Fin.sum_univ_add (a := 1032) (b := 120) f).trans ?_
  rw [Finset.sum_eq_zero (s := Finset.univ) (f := fun k : Fin 120 => f (Fin.natAdd 1032 k)) fun k _ => h _ (Nat.le_add_right _ _), add_zero]
  rfl

theorem opnd7_at (i : Fin 4096) (j : Fin 1024) : (V m c main_v20 : FVec Ideal S4096x1024 .f32) (ix2 i j) = zA m c i j := by
  entry_read
  pointwise [zA, zOf, mat]

theorem opnd0_at (i : Fin 4096) (k : Fin 1024) : (V m c main_v1 : FVec Ideal S4096x1024 .bf16) (ix2 i k)
    = m ((c : Thread nD τ).loc main_arg7) (ix2 i (qk k)) := by
  entry_read
  pointwise [qk]

theorem opnd4_at (i : Fin 4096) (k : Fin 768) : (V m c main_v3 : FVec Ideal S4096x768 .bf16) (ix2 i k)
    = m ((c : Thread nD τ).loc main_arg7) (ix2 i (sw k)) := by
  entry_read
  pointwise [sw]

theorem opnd2_at (i : Fin 4096) (k : Fin 1152) : (V m c main_v7 : FVec Ideal S4096x1152 .bf16) (ix2 i k)
    = if h : k.val < 1032 then (m ((c : Thread nD τ).loc main_arg7) : FVec Ideal S4096x2824 .f32) (ix2 i (ml ⟨k.val, h⟩)) else (0 : EReal) := by
  entry_read
  pointwise [ml]

/-- The projection's weight in the order the call takes it: the recurrence's gates last, then zero columns. -/
def padded (a : FVec Ideal S1024x2048 .bf16) (b : FVec Ideal S1024x768 .bf16) (d : FVec Ideal S1024x8 .bf16)
    (e : FVec Ideal S1024x248 .bf16) : FVec Ideal S1024x3072 .bf16 :=
  concatenate S1024x3072 1 [⟨S1024x2048, a⟩, ⟨S1024x768, b⟩, ⟨S1024x8, d⟩, ⟨S1024x248, e⟩]
    concatenates_S1024x2048_S1024x768_S1024x8_S1024x248_S1024x3072_d1

theorem padded_at (a b d e) (j : Fin 1024) (k : Fin 3072) : padded a b d e (ix2 j k)
    = if h : k.val < 2048 then (a (ix2 j ⟨k.val, h⟩) : EReal) else if h : k.val - 2048 < 768 then b (ix2 j ⟨k.val - 2048, h⟩)
      else if h : k.val - 2048 - 768 < 8 then d (ix2 j ⟨k.val - 2048 - 768, h⟩) else e (ix2 j ⟨k.val - 2048 - 768 - 8, by omega⟩) := by
  unfold padded
  pointwise

theorem join_result (hx hy) (W : Valuation τ sig (Elt Ideal)) :
    (StableHlo.nary (τ := τ) ![main_v10, main_v11, main_v12, main_v9] main_v13
      (fun u => concatenate S1024x3072 1 [⟨S1024x2048, u 0⟩, ⟨S1024x768, u 1⟩, ⟨S1024x8, u 2⟩, ⟨S1024x248, u 3⟩]
        concatenates_S1024x2048_S1024x768_S1024x8_S1024x248_S1024x3072_d1) hx hy).result W (Proc.tc.devRef main_v13)
    = padded (W (Proc.tc.devRef main_v10)) (W (Proc.tc.devRef main_v11)) (W (Proc.tc.devRef main_v12)) (W (Proc.tc.devRef main_v9)) :=
  StableHlo.nary_result _ _ _ _ _ _

theorem opnd1_at (j : Fin 1024) (k : Fin 3072) (h : k.val < 1024) : (V m c main_v13 : FVec Ideal S1024x3072 .bf16) (ix2 j k)
    = m ((c : Thread nD τ).loc main_arg5) (ix2 j (qk ⟨k.val, h⟩)) := by
  unfold V
  simp only [hostOps0, List.flatten_cons, List.flatten_nil, List.append_nil, List.cons_append, List.nil_append,
    StableHlo.after_cons, StableHlo.after_nil]
  repeat (first
    | rw [StableHlo.reshape_result_ne _ _ _ _ _ _ _ (by decide)]
    | rw [StableHlo.unary_result_ne _ _ _ _ _ _ (by decide)]
    | rw [StableHlo.binary_result_ne _ _ _ _ _ _ _ _ (by decide)]
    | rw [StableHlo.nullary_result_ne _ _ _ _ (by decide)]
    | rw [StableHlo.unary_result]
    | rw [StableHlo.binary_result]
    | rw [StableHlo.nullary_result]
    | rw [join_result])
  refine (padded_at _ _ _ _ j k).trans ((dif_pos (by omega)).trans ?_)
  pointwise [qk]

theorem opnd5_at (j : Fin 1024) (k : Fin 768) : (V m c main_v21 : FVec Ideal S1024x768 .bf16) (ix2 j k)
    = m ((c : Thread nD τ).loc main_arg5) (ix2 j (sw k)) := by
  unfold V
  simp only [hostOps0, List.flatten_cons, List.flatten_nil, List.append_nil, List.cons_append, List.nil_append,
    StableHlo.after_cons, StableHlo.after_nil]
  repeat (first
    | rw [StableHlo.reshape_result_ne _ _ _ _ _ _ _ (by decide)]
    | rw [StableHlo.unary_result_ne _ _ _ _ _ _ (by decide)]
    | rw [StableHlo.binary_result_ne _ _ _ _ _ _ _ _ (by decide)]
    | rw [StableHlo.nullary_result_ne _ _ _ _ (by decide)]
    | rw [StableHlo.unary_result]
    | rw [StableHlo.binary_result]
    | rw [StableHlo.nullary_result]
    | rw [join_result])
  pointwise [padded_at, sw]

theorem opnd3_at (j : Fin 1024) (k : Fin 1152) : (V m c main_v16 : FVec Ideal S1024x1152 .bf16) (ix2 j k)
    = if h : k.val < 1032 then (m ((c : Thread nD τ).loc main_arg5) : FVec Ideal S1024x2824 .f32) (ix2 j (ml ⟨k.val, h⟩)) else (0 : EReal) := by
  unfold V
  simp only [hostOps0, List.flatten_cons, List.flatten_nil, List.append_nil, List.cons_append, List.nil_append,
    StableHlo.after_cons, StableHlo.after_nil]
  repeat (first
    | rw [StableHlo.reshape_result_ne _ _ _ _ _ _ _ (by decide)]
    | rw [StableHlo.unary_result_ne _ _ _ _ _ _ (by decide)]
    | rw [StableHlo.binary_result_ne _ _ _ _ _ _ _ _ (by decide)]
    | rw [StableHlo.nullary_result_ne _ _ _ _ (by decide)]
    | rw [StableHlo.unary_result]
    | rw [StableHlo.binary_result]
    | rw [StableHlo.nullary_result]
    | rw [join_result])
  pointwise [padded_at]
  by_cases h : k.val < 1024
  · rw [dif_pos h, dif_pos (by omega), dif_pos (by omega)]
    rfl
  by_cases h' : k.val < 1032
  · rw [dif_neg h, dif_neg (by omega), dif_neg (by omega), dif_pos (by omega), dif_pos h']
    exact congrArg (fun q => m ((c : Thread nD τ).loc main_arg5) (ix2 j q)) (Fin.ext (by simp only [ml]; omega))
  · rw [dif_neg h, dif_neg (by omega), dif_neg (by omega), dif_neg (by omega), dif_neg h']

theorem opnd8_at (j : Fin 1024) : (V m c main_v22 : FVec Ideal S1x1024 .f32) (ix2 0 j) = gA m c j := by
  entry_read
  pointwise [gA, vec]

theorem block0 (r : Fin 512) (k : Fin 1024) : (iblk m c 0 t : FVec Ideal S512x1024 .bf16) (ix2 r k)
    = m ((c : Thread nD τ).loc main_arg7) (ix2 (row t r) (qk k)) := by
  refine Eq.trans ?_ (opnd0_at m c (row t r) k)
  unfold row
  blk_ext! [iblk, idx t]

theorem block1 (j k : Fin 1024) : (iblk m c 1 t : FVec Ideal S1024x1024 .bf16) (ix2 j k)
    = m ((c : Thread nD τ).loc main_arg5) (ix2 j (qk k)) := by
  refine Eq.trans ?_ (opnd1_at m c j ⟨k.val, by omega⟩ k.isLt)
  blk_ext! [iblk, idx t]

theorem block2 (r : Fin 512) (k : Fin 1152) : (iblk m c 2 t : FVec Ideal S512x1152 .bf16) (ix2 r k)
    = if h : k.val < 1032 then (m ((c : Thread nD τ).loc main_arg7) : FVec Ideal S4096x2824 .f32) (ix2 (row t r) (ml ⟨k.val, h⟩)) else (0 : EReal) := by
  refine Eq.trans ?_ (opnd2_at m c (row t r) k)
  unfold row
  blk_ext! [iblk, idx t]

theorem block3 (j : Fin 1024) (k : Fin 1152) : (iblk m c 3 t : FVec Ideal S1024x1152 .bf16) (ix2 j k)
    = if h : k.val < 1032 then (m ((c : Thread nD τ).loc main_arg5) : FVec Ideal S1024x2824 .f32) (ix2 j (ml ⟨k.val, h⟩)) else (0 : EReal) := by
  refine Eq.trans ?_ (opnd3_at m c j k)
  blk_ext! [iblk, idx t]

theorem block4 (r : Fin 512) (k : Fin 768) : (iblk m c 4 t : FVec Ideal S512x768 .bf16) (ix2 r k)
    = m ((c : Thread nD τ).loc main_arg7) (ix2 (row t r) (sw k)) := by
  refine Eq.trans ?_ (opnd4_at m c (row t r) k)
  unfold row
  blk_ext! [iblk, idx t]

theorem block5 (j : Fin 1024) (k : Fin 768) : (iblk m c 5 t : FVec Ideal S1024x768 .bf16) (ix2 j k)
    = m ((c : Thread nD τ).loc main_arg5) (ix2 j (sw k)) := by
  refine Eq.trans ?_ (opnd5_at m c j k)
  blk_ext! [iblk, idx t]

theorem block6 (r : Fin 512) (j : Fin 1024) : (iblk m c 6 t : Block) (ix2 r j) = m ((c : Thread nD τ).loc main_arg6) (ix2 (row t r) j) := by
  unfold row
  blk_ext! [iblk, V, idx t]

/-- The zero columns add nothing. -/
theorem middle (r : Fin 512) (j : Fin 1024) :
    ∑ k, mat (iblk m c 2 t : FVec Ideal S512x1152 .bf16) r k * mat (iblk m c 3 t : FVec Ideal S1024x1152 .bf16) j k
    = ∑ k, mat (m ((c : Thread nD τ).loc main_arg7)) (row t r) (ml k) * mat (m ((c : Thread nD τ).loc main_arg5)) j (ml k) := by
  unfold mat
  refine (sum_padded _ fun k h => ?_).trans (Finset.sum_congr rfl fun k _ => ?_)
  · rw [block2, dif_neg (by omega), zero_mul]
  · rw [block2, block3, dif_pos k.isLt, dif_pos k.isLt]

theorem rows_z (r : Fin 512) : rowOf (zB m c t) r = zA m c (row t r) := by
  funext j
  refine Eq.trans ?_ (opnd7_at m c (row t r) j)
  unfold rowOf zB row
  blk_ext! [iblk, idx t]

theorem line_g : lineOf (gB m c t) = gA m c := by
  funext j
  refine Eq.trans ?_ (opnd8_at m c j)
  unfold lineOf gB
  blk_ext! [iblk, idx t]

theorem rows_dy (r : Fin 512) : rowOf (dyB m c t) r = dyA m c (row t r) := by
  funext j
  unfold dyA dyOf
  rw [sum_columns, ← add_assoc, ← add_assoc, ← middle]
  unfold mat
  simp only [← block0 m c t, ← block1 m c t, ← block4 m c t, ← block5 m c t, ← block6 m c t]
  unfold rowOf dyB
  pointwise [k0_pay1]

/-! ## The arrays -/

theorem final9 : (dats m 0 c).arrAt 9 (cfgs 0).N = gradArr (dyA m c) (zA m c) (gA m c) := by
  refine (dats m 0 c).arrAt_eq_of_covers 9 _ (by decide +kernel) fun t _ y => ?_
  blk_simp
  rw [after0_9, out9]
  have e : (win0_9.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem final10 : (dats m 0 c).arrAt 10 (cfgs 0).N = (gradArr (dyA m c) (zA m c) (gA m c) : FVec Ideal S4096x1024 .bf16) := by
  refine (dats m 0 c).arrAt_eq_of_covers 10 _ (by decide +kernel) fun t _ y => ?_
  blk_simp
  rw [after0_10, out10]
  have e : (win0_10.blk t).view.emb y = ix2 (row t (y 0)) (y 1) := by
    unfold row
    blk_ext! [idx t]
  rw [e]
  exact (congrArg _ (eq_ix2 y)).trans (grad_arr _ _ _ (rows_dy m c t) (rows_z m c t) (line_g m c t) (y 0) (y 1))

theorem last11 : (outsAt0 m c 7 (by decide)).2.2.1 = gainsArr (dyA m c) (zA m c) :=
  gains_arr _ _ (fun n h => (outsAt0 m c n h).2.2.1) (dyB m c) (zB m c) (out11_A m c) (out11_B m c) (rows_dy m c) (rows_z m c)

theorem last12 : (outsAt0 m c 7 (by decide)).2.2.2 = biasArr (dyA m c) :=
  bias_arr _ (fun n h => (outsAt0 m c n h).2.2.2) (dyB m c) (out12_A m c) (out12_B m c) (rows_dy m c)

/-- The last grid point. -/
abbrev last : Fin cfg0.N := ⟨7, by decide⟩

theorem final11 : (dats m 0 c).arrAt 11 (cfgs 0).N = gainsArr (dyA m c) (zA m c) := by
  refine (dats m 0 c).arrAt_eq_of_after_last 11 last (by decide +kernel) _ fun y => ?_
  rw [← last11 m c]
  blk_simp
  rw [after0_11]

theorem final12 : (dats m 0 c).arrAt 12 (cfgs 0).N = biasArr (dyA m c) := by
  refine (dats m 0 c).arrAt_eq_of_after_last 12 last (by decide +kernel) _ fun y => ?_
  rw [← last12 m c]
  blk_simp
  rw [after0_12]

end Cert.H0BwdIdeal.Value

end
-- ==== Proof.H0Reference.lean ====
module

public import proofs.«01_k».proof.Proof.Gen.H0RefIdeal.Read
public import proofs.«01_k».proof.Proof.LnTail

/-! # The arrays the reference returns at the last norm of a layer that another one follows -/

@[expose] public section

set_option maxRecDepth 16384

noncomputable section

namespace Cert.H0RefIdeal.Read

open Cert.H0RefIdeal Idealize.ShloMosaic Idealize.ShloMosaic.TcCoe Idealize.SL.Sem Cert.Finite Cert.LnSpec Cert.LnBlock Cert.LnTail

variable (A : FVec Ideal S4096x2816 .f32) (W : FVec Ideal S2816x1024 .f32) (H : FVec Ideal S4096x1024 .f32) (G : FVec Ideal S1024 .f32)
  (U : FVec Ideal S1024x2824 .f32) (D : FVec Ideal S4096x1024 .f32) (P : FVec Ideal S4096x2824 .f32)

/-- The norm's input. -/
theorem z_at : mat (val_main_v3 (F := Ideal) A W H) = zOf (mat H) (mat A) (mat W) := by
  funext i j
  unfold zOf mat
  pointwise [val_main_v3, val_main_v2, val_main_v1, val_main_v0, val_main_cst]

/-- The gradient of the norm's output. -/
theorem dy_at : mat (val_main_v39 (F := Ideal) U D P) = dyOf (mat D) (mat P) (mat U) := by
  funext i j
  unfold dyOf mat
  rw [add_comm]
  pointwise [val_main_v39, val_main_v38, val_main_v37, val_main_cst_8, val_main_v36]

variable {A W H G U D P}

theorem dz_arr (hA : ∀ i, IsReal (A i)) (hW : ∀ i, IsReal (W i)) (hH : ∀ i, IsReal (H i)) (hG : ∀ i, IsReal (G i))
    (hU : ∀ i, IsReal (U i)) (hD : ∀ i, IsReal (D i)) (hP : ∀ i, IsReal (P i)) :
    val_main_v72 (F := Ideal) A W H G U D P
      = gradArr (dyOf (mat D) (mat P) (mat U)) (zOf (mat H) (mat A) (mat W)) (vec G) := by
  rw [← z_at, ← dy_at]
  refine Eq.trans rfl (back_arr (val_main_v39 (F := Ideal) U D P) (val_main_v3 (F := Ideal) A W H) G ?_ ?_ fun j => hG _)
  · rw [dy_at]
    exact fun i j => dyOf_real (fun i j => hD _) (fun i j => hP _) (fun i j => hU _) i j
  · rw [z_at]
    exact fun i j => zOf_real (fun i j => hH _) (fun i j => hA _) (fun i j => hW _) i j

theorem dg_arr : val_main_v74 (F := Ideal) A W H U D P = gainsArr (dyOf (mat D) (mat P) (mat U)) (zOf (mat H) (mat A) (mat W)) := by
  rw [← z_at, ← dy_at]
  exact Eq.trans rfl (backGains_arr (val_main_v39 (F := Ideal) U D P) (val_main_v3 (F := Ideal) A W H))

theorem db_arr : val_main_v75 (F := Ideal) U D P = biasArr (dyOf (mat D) (mat P) (mat U)) := by
  rw [← dy_at]
  exact Eq.trans rfl (backBias_arr (val_main_v39 (F := Ideal) U D P))

end Cert.H0RefIdeal.Read

end
-- ==== Proof.H0Claim.lean ====
module

public import proofs.«01_k».proof.Defs
public import proofs.«01_k».proof.Proof.Gen.H0Bwd
public import proofs.«01_k».proof.Proof.Gen.H0RefIdeal
public import proofs.«01_k».proof.Proof.Gen.Pre_h0_finite
public import proofs.«01_k».proof.Proof.H0Kernel
public import proofs.«01_k».proof.Proof.H0Reference
public import Idealize.ShloMosaic.Lib.Claim

/-! # `_grad_in` at the last norm of a layer that another one follows: the claims of the pair -/

@[expose] public section

set_option maxRecDepth 16384

noncomputable section

namespace Cert.H0Claim

open Idealize.ShloMosaic Idealize.SL.Sem Cert.LnSpec Cert.LnBlock Cert.Finite

local instance : Cert.H0Bwd.Facts := Cert.H0Bwd.Gen.facts
local instance : Cert.H0BwdIdeal.Facts := Cert.H0BwdIdeal.Gen.facts
local instance : Cert.H0RefIdeal.Facts := Cert.H0RefIdeal.Gen.facts
local instance : Cert.Pre_h0_finite.Facts := Cert.Pre_h0_finite.Gen.facts

theorem frame_ideal : Cert.quiescent_H0BwdIdeal := fun m g _ => Cert.H0BwdIdeal.Gen.frame m g

theorem frame_ideal_pre : Cert.quiescent_H0BwdIdeal_pre_h0_finite := fun m g _ => Cert.H0BwdIdeal.Gen.frame m g

theorem main_eq : Cert.H0Bwd.main (F := Bits) = Cert.H0BwdIdeal.main (F := Bits) := rfl

theorem defs_eq : Cert.H0Bwd.defs (F := Bits) = Cert.H0BwdIdeal.defs (F := Bits) := by sl_kernel_rfl

/-- The kernel's program is its idealized program over the machine's floats: one run serves both. -/
theorem frame_kernel : Cert.quiescent_H0Bwd := fun m g _ => by
  rw [defs_eq, main_eq]
  exact Cert.H0BwdIdeal.Gen.frame (F := Bits) m g

theorem frame_reference : Cert.quiescent_H0RefIdeal := by
  intro m g _
  exact (θ_run _ _ _).mono (fun r h => ⟨fun c => (h c).2.2.2.2, sem_eq_zero_of_no_sems rfl _⟩) (Cert.H0RefIdeal.Value.run m g)

theorem frame_reference_pre : Cert.quiescent_H0RefIdeal_pre_h0_finite := fun m g _ => frame_reference m g trivial

/-- Under the precondition the arguments the value depends on are arrays of reals. -/
theorem reals (m : (ℓ : Loc Cert.H0BwdIdeal.nD Cert.H0BwdIdeal.τ Cert.H0BwdIdeal.sig) → Buf (Elt Ideal) ℓ) (h : Cert.Pre_H0BwdIdeal_h0_finite m) (c : Dev Cert.H0BwdIdeal.nD) :
    (∀ i, IsReal (m ((c.tc : Thread Cert.H0BwdIdeal.nD Cert.H0BwdIdeal.τ).loc Cert.H0BwdIdeal.main_arg0) i))
    ∧ (∀ i, IsReal (m ((c.tc : Thread Cert.H0BwdIdeal.nD Cert.H0BwdIdeal.τ).loc Cert.H0BwdIdeal.main_arg1) i))
    ∧ (∀ i, IsReal (m ((c.tc : Thread Cert.H0BwdIdeal.nD Cert.H0BwdIdeal.τ).loc Cert.H0BwdIdeal.main_arg2) i))
    ∧ (∀ i, IsReal (m ((c.tc : Thread Cert.H0BwdIdeal.nD Cert.H0BwdIdeal.τ).loc Cert.H0BwdIdeal.main_arg3) i))
    ∧ (∀ i, IsReal (m ((c.tc : Thread Cert.H0BwdIdeal.nD Cert.H0BwdIdeal.τ).loc Cert.H0BwdIdeal.main_arg5) i))
    ∧ (∀ i, IsReal (m ((c.tc : Thread Cert.H0BwdIdeal.nD Cert.H0BwdIdeal.τ).loc Cert.H0BwdIdeal.main_arg6) i))
    ∧ (∀ i, IsReal (m ((c.tc : Thread Cert.H0BwdIdeal.nD Cert.H0BwdIdeal.τ).loc Cert.H0BwdIdeal.main_arg7) i)) := by
  haveI : Subsingleton Cert.Pre_h0_finite.S_.Idx := ⟨fun a b => funext fun x => x.elim0⟩
  have h := h c
  unfold Cert.Pre_h0_finite.fn Cert.Pre_h0_finite.fn_part1 at h
  dsimp only at h
  obtain ⟨h0, h1, h2, h3, h5, h6, h7⟩ := h
  exact ⟨real_of_all _ _ (fun _ => rfl) _ _ _ h0 ix0, real_of_all _ _ (fun _ => rfl) _ _ _ h1 ix0, real_of_all _ _ (fun _ => rfl) _ _ _ h2 ix0, real_of_all _ _ (fun _ => rfl) _ _ _ h3 ix0, real_of_all _ _ (fun _ => rfl) _ _ _ h5 ix0, real_of_all _ _ (fun _ => rfl) _ _ _ h6 ix0, real_of_all _ _ (fun _ => rfl) _ _ _ h7 ix0⟩

set_option maxHeartbeats 1600000 in
theorem algebraic : Cert.algebraic_H0BwdIdeal_H0RefIdeal_pre_h0_finite := by
  pair_intro
  · run_from Cert.H0BwdIdeal.Gen.run_main m g
  · refine (θ_run _ _ _).mono (fun r h c => ?_) (Cert.H0RefIdeal.Value.run m' g')
    obtain ⟨a72, a73, a74, a75, rest⟩ := h c
    obtain ⟨e0, e1, e2, e3, -, e5, e6, e7⟩ := hagree c
    obtain ⟨h0, h1, h2, h3, h5, h6, h7⟩ := reals m hpre c
    refine ⟨(a72.trans (Cert.H0RefIdeal.Read.val_main_v72_eq m' c)).trans ?_, (a73.trans (Cert.H0RefIdeal.Read.val_main_v73_eq m' c)).trans ?_,
      (a74.trans (Cert.H0RefIdeal.Read.val_main_v74_eq _ _ _ _ _ _)).trans ?_, (a75.trans (Cert.H0RefIdeal.Read.val_main_v75_eq _ _ _)).trans ?_, rest⟩
    · rw [e0, e1, e2, e3, e5, e6, e7]
      exact (Cert.H0RefIdeal.Read.dz_arr h0 h1 h2 h3 h5 h6 h7).trans (Cert.H0BwdIdeal.Value.final9 m c).symm
    · rw [e0, e1, e2, e3, e5, e6, e7]
      exact (Cert.H0RefIdeal.Read.dz_arr h0 h1 h2 h3 h5 h6 h7).trans (Cert.H0BwdIdeal.Value.final10 m c).symm
    · rw [e0, e1, e2, e5, e6, e7]
      exact Cert.H0RefIdeal.Read.dg_arr.trans (Cert.H0BwdIdeal.Value.final11 m c).symm
    · rw [e5, e6, e7]
      exact Cert.H0RefIdeal.Read.db_arr.trans (Cert.H0BwdIdeal.Value.final12 m c).symm

end Cert.H0Claim

end
-- ==== Proof.XaSpec.lean ====
module

public import proofs.«01_k».proof.Proof.LnSpec
public import Idealize.ShloMosaic.Lib.Pointwise
public import Idealize.ShloMosaic.Lib.IdealHost

/-! # The gradient of attention, one query of one head at a time

A query `x` of 256 features meets 256 keys, the rows of `K`, and as many values, the rows of `V`; `g` is the cotangent of what the
query gets back. -/

@[expose] public section

noncomputable section

namespace Cert.XaSpec

open Idealize.ShloMosaic

/-- One head's features of one position. -/
abbrev Feat := Fin 256 → EReal

/-- Keys or values: one row of features per position of the memory. -/
abbrev Rows := Fin 256 → Feat

/-- One over the square root of the number of features, as its word. -/
def scale : EReal := Ideal.ofBits .f32 0x3D800000#32

variable (x : Feat) (K V : Rows) (g : Feat)

/-- The logits. -/
def logit (k : Fin 256) : EReal := (∑ d, x d * K k d) * scale

/-- The largest logit. -/
def top : EReal := (Finset.univ : Finset (Fin 256)).fold max (Ideal.ofBits .f32 0xFF800000#32) (logit x K)

/-- The exponentials. -/
def ex (k : Fin 256) : EReal := Ideal.exp (logit x K k - top x K)

/-- Their sum. -/
def tot : EReal := ∑ k, ex x K k

/-- The weights. -/
def pr (k : Fin 256) : EReal := Ideal.div (ex x K k) (tot x K)

/-- The cotangent of the weights. -/
def gp (k : Fin 256) : EReal := ∑ d, g d * V k d

/-- The cotangent of the product of the query and a key. -/
def dl (k : Fin 256) : EReal :=
  (Ideal.div (gp V g k) (tot x K) + -∑ j, gp V g j * Ideal.div (Ideal.ofBits .f32 0x3F800000#32) (tot x K * tot x K) * ex x K j) * ex x K k * scale

/-- The gradient of the query. -/
def dQ (d : Fin 256) : EReal := ∑ k, dl x K V g k * K k d

/-! ## All heads

A row of 1024 features holds four heads side by side; a row of the memory holds four heads of keys, then four of values. -/

/-- Where feature `d` of head `h` stands in a row of queries, among the keys, and among the values. -/
def col (h : Fin 4) (d : Fin 256) : Fin 1024 := ⟨256 * h.val + d.val, by omega⟩
def kcol (h : Fin 4) (d : Fin 256) : Fin 2048 := ⟨256 * h.val + d.val, by omega⟩
def vcol (h : Fin 4) (d : Fin 256) : Fin 2048 := ⟨1024 + 256 * h.val + d.val, by omega⟩

/-- One head of a row of queries. -/
def part (h : Fin 4) (w : Fin 1024 → EReal) : Feat := fun d => w (col h d)

/-- One head's keys and values. -/
def keys (h : Fin 4) (kv : Fin 256 → Fin 2048 → EReal) : Rows := fun j d => kv j (kcol h d)
def vals (h : Fin 4) (kv : Fin 256 → Fin 2048 → EReal) : Rows := fun j d => kv j (vcol h d)

/-- The head and the feature that stand at column `c`. -/
def headOf (c : ℕ) : Fin 4 := ⟨c / 256 % 4, Nat.mod_lt _ (by decide)⟩
def featOf (c : ℕ) : Fin 256 := ⟨c % 256, Nat.mod_lt _ (by decide)⟩

theorem headOf_add (h : Fin 4) (d : Fin 256) : headOf (256 * h.val + d.val) = h := Fin.ext (by show (256 * h.val + d.val) / 256 % 4 = h.val; omega)
theorem featOf_add (h : Fin 4) (d : Fin 256) : featOf (256 * h.val + d.val) = d := Fin.ext (by show (256 * h.val + d.val) % 256 = d.val; omega)

theorem col_of (c : Fin 1024) : col (headOf c.val) (featOf c.val) = c :=
  Fin.ext (by show 256 * (c.val / 256 % 4) + c.val % 256 = c.val; omega)

theorem kcol_of (c : Fin 2048) (hc : c.val < 1024) : kcol (headOf c.val) (featOf c.val) = c :=
  Fin.ext (by show 256 * (c.val / 256 % 4) + c.val % 256 = c.val; omega)

theorem vcol_of (c : Fin 2048) (hc : ¬c.val < 1024) : vcol (headOf c.val) (featOf c.val) = c :=
  Fin.ext (by show 1024 + 256 * (c.val / 256 % 4) + c.val % 256 = c.val; omega)

variable (w y : Fin 1024 → EReal) (kv : Fin 256 → Fin 2048 → EReal)

/-- The gradient of a row of queries. -/
def dq (c : Fin 1024) : EReal :=
  dQ (part (headOf c.val) w) (keys (headOf c.val) kv) (vals (headOf c.val) kv) (part (headOf c.val) y) (featOf c.val)

/-- What a row of queries gives to the gradient of a key. -/
def dK (h : Fin 4) (j d : Fin 256) : EReal := dl (part h w) (keys h kv) (vals h kv) (part h y) j * part h w d

/-- What a row of queries gives to the gradient of a value. -/
def dV (h : Fin 4) (j d : Fin 256) : EReal := pr (part h w) (keys h kv) j * part h y d

/-- What a row of queries gives to the gradient of the keys and values. -/
def dKV (j : Fin 256) (c : Fin 2048) : EReal :=
  if c.val < 1024 then dK w y kv (headOf c.val) j (featOf c.val) else dV w y kv (headOf c.val) j (featOf c.val)

theorem dq_col (h : Fin 4) (d : Fin 256) : dq w y kv (col h d) = dQ (part h w) (keys h kv) (vals h kv) (part h y) d := by
  unfold dq
  rw [show (col h d).val = 256 * h.val + d.val from rfl, headOf_add, featOf_add]

theorem dKV_kcol (h : Fin 4) (j d : Fin 256) : dKV w y kv j (kcol h d) = dK w y kv h j d := by
  unfold dKV
  rw [show (kcol h d).val = 256 * h.val + d.val from rfl, if_pos (by omega), headOf_add, featOf_add]

theorem dKV_vcol (h : Fin 4) (j d : Fin 256) : dKV w y kv j (vcol h d) = dV w y kv h j d := by
  unfold dKV
  rw [show (vcol h d).val = 256 * (⟨4 + h.val, by omega⟩ : Fin 8).val + d.val from show 1024 + 256 * h.val + d.val = 256 * (4 + h.val) + d.val by omega,
    if_neg (by show ¬256 * (4 + h.val) + d.val < 1024; omega)]
  exact congrArg₂ (fun a b => dV w y kv a j b) (Fin.ext (by show (256 * (4 + h.val) + d.val) / 256 % 4 = h.val; omega))
    (Fin.ext (by show (256 * (4 + h.val) + d.val) % 256 = d.val; omega))

/-! ## The arrays -/

/-- A product of two matrices. -/
def prod {a b n : ℕ} (X : Fin a → Fin n → EReal) (W : Fin n → Fin b → EReal) : Fin a → Fin b → EReal := fun i j => ∑ l, X i l * W l j

/-- A product with a transposed matrix. -/
def prodT {a b n : ℕ} (X : Fin a → Fin n → EReal) (W : Fin b → Fin n → EReal) : Fin a → Fin b → EReal := fun i j => ∑ l, X i l * W j l

variable (X D : Fin 4096 → Fin 1024 → EReal)

/-- The gradient of the queries. -/
def dqArr {φ : FTy} : FVec Ideal ⟨2, ![4096, 1024]⟩ φ := fun i => dq (X (i 0)) (D (i 0)) kv (i 1)

/-- The gradient of the keys and values. -/
def dkvArr : FVec Ideal ⟨2, ![256, 2048]⟩ .f32 := fun i => ∑ r, dKV (X r) (D r) kv (i 0) (i 1)

end Cert.XaSpec

end
-- ==== Proof.XaKernelPoint.lean ====
module

public import proofs.«01_k».proof.Proof.Gen.XaBwdIdeal.Frame
public import proofs.«01_k».proof.Proof.XaSpec
public import Idealize.ShloMosaic.Lib.Pipeline.ValueKit

/-! # What one head of one grid point of `_xattn_bwd` computes -/

@[expose] public section

set_option maxRecDepth 16384

noncomputable section

namespace Cert.XaBwdIdeal.Value

open Cert.XaBwdIdeal Cert.XaBwdIdeal.Gen Idealize.ShloMosaic Idealize.ShloMosaic.TcCoe Idealize.SL.Sem Cert.XaSpec

/-- Row `r` of a block of queries. -/
def feat (q : FVec Ideal S512x256 .f32) (r : Fin 512) : Feat := fun d => q (ix2 r d)

/-- The rows of a block of keys or values. -/
def rows (k : FVec Ideal S256x256 .f32) : Rows := fun j d => k (ix2 j d)

variable (q g : FVec Ideal S512x256 .f32) (k v : FVec Ideal S256x256 .f32)

/-- The logits. -/
def lgs : FVec Ideal S512x256 .f32 :=
  mulf (matmul dot_S512x256_S256x256_S512x256_1_1_0_0_n_n none (truncf .bf16 q bitsLt_bf16_f32) (truncf .bf16 k bitsLt_bf16_f32)
    (constant S512x256 .f32 0x00000000#32)) (broadcast S512x256 (Scalar.ofBits .f32 0x3D800000#32))

theorem lgs_at (r : Fin 512) (j : Fin 256) : lgs q k (ix2 r j) = logit (feat q r) (rows k) j := by
  unfold logit feat rows scale
  pointwise [lgs]

/-- The largest logit of each row. -/
def tops : FVec Ideal S512 .f32 := multiReduction .maximumf [1] S512 (lgs q k) 0xFF800000#32 reduces_S512x256_S512 (.inl rfl) rfl

theorem tops_at (r : Fin 512) : tops q k (ix1 r) = top (feat q r) (rows k) := by
  unfold tops top
  refine (Ideal.multiReduction_maximumf_single _ _ _ _ _ _).trans ?_
  refine congrArg (fun f => Finset.fold max _ f _) (funext fun (j : Fin 256) => ?_)
  refine Eq.trans ?_ (lgs_at q k r j)
  exact congrArg (lgs q k) (eq_ix2 _)

/-- The exponentials. -/
def exs : FVec Ideal S512x256 .f32 :=
  exp (subf (lgs q k) (broadcastTo S512x256 (shapeCast S512x1 (tops q k) shapeCasts_S512_S512x1) broadcasts_S512x1_S512x256))

theorem exs_at (r : Fin 512) (j : Fin 256) : exs q k (ix2 r j) = ex (feat q r) (rows k) j := by
  unfold ex
  rw [← lgs_at, ← tops_at]
  pointwise [exs]

/-- Their sums. -/
def tots : FVec Ideal S512x1 .f32 :=
  shapeCast S512x1 (multiReduction .add [1] S512 (exs q k) 0x00000000#32 reduces_S512x256_S512 (.inl rfl) rfl) shapeCasts_S512_S512x1

theorem tots_at (r : Fin 512) : tots q k (ix2 r 0) = tot (feat q r) (rows k) := by
  unfold tot
  simp only [← exs_at]
  pointwise [tots]

/-- The weights. -/
def prs : FVec Ideal S512x256 .f32 := divf (exs q k) (broadcastTo S512x256 (tots q k) broadcasts_S512x1_S512x256)

theorem prs_at (r : Fin 512) (j : Fin 256) : prs q k (ix2 r j) = pr (feat q r) (rows k) j := by
  unfold pr
  rw [← exs_at, ← tots_at]
  pointwise [prs]

/-- The cotangents of the products of queries and keys. -/
def dls : FVec Ideal S512x256 .f32 :=
  k0_pay16 v (exs q k) (tots q k) (divf (broadcast S512x1 (Scalar.ofBits .f32 0x3F800000#32)) (mulf (tots q k) (tots q k)))
    (truncf .bf16 g bitsLt_bf16_f32)

theorem dls_at (r : Fin 512) (j : Fin 256) : dls q g k v (ix2 r j) = dl (feat q r) (rows k) (rows v) (feat g r) j := by
  unfold dl gp scale
  simp only [← exs_at, ← tots_at]
  unfold feat rows
  pointwise [dls, k0_pay16]
  rw [Fin.sum_univ_one _]
  refine congrArg₂ (· * ·) (congrArg₂ (· * ·) (congrArg₂ (· + ·) rfl ?_) rfl) rfl
  exact (sub_eq_add_neg _ _).trans (zero_add _)

/-- The gradients of the queries. -/
theorem dqs_at (r : Fin 512) (d : Fin 256) :
    k0_pay29 (F := Ideal) (truncf .bf16 (dls q g k v) bitsLt_bf16_f32) (truncf .bf16 k bitsLt_bf16_f32) (ix2 r d)
    = dQ (feat q r) (rows k) (rows v) (feat g r) d := by
  unfold dQ
  simp only [← dls_at]
  unfold rows
  pointwise [k0_pay29]

/-- What the block adds to the gradients of the keys. -/
theorem dks_at (o : FVec Ideal S256x256 .f32) (j d : Fin 256) : k0_pay30 (F := Ideal) q (dls q g k v) o (ix2 j d)
    = o (ix2 j d) + ∑ r, dl (feat q r) (rows k) (rows v) (feat g r) j * feat q r d := by
  simp only [← dls_at]
  unfold feat
  pointwise [k0_pay30]

/-- What the block adds to the gradients of the values. -/
theorem dvs_at (o : FVec Ideal S256x256 .f32) (j d : Fin 256) : k0_pay19 (F := Ideal) (prs q k) g o (ix2 j d)
    = o (ix2 j d) + ∑ r, pr (feat q r) (rows k) j * feat g r d := by
  simp only [← prs_at]
  unfold feat
  pointwise [k0_pay19]

end Cert.XaBwdIdeal.Value

end
-- ==== Proof.XaKernelHead.lean ====
module

public import proofs.«01_k».proof.Proof.XaKernelPoint
public import Idealize.ShloMosaic.Lib.Pipeline.ReadBack

/-! # What one grid point of `_xattn_bwd` stores, over all heads -/

@[expose] public section

set_option maxRecDepth 16384

noncomputable section

namespace Cert.XaBwdIdeal.Value

open Cert.XaBwdIdeal Cert.XaBwdIdeal.Gen Idealize.ShloMosaic Idealize.ShloMosaic.TcCoe Idealize.SL.Sem Cert.XaSpec Cert.LnSpec
open Idealize.ShloMosaic.Pipeline (Dat)

/-- The blocks `q`, `g`, `k`, `v` are head `h` of the queries `X`, of the cotangents `D` and of the memory `M`. -/
structure IsHead (h : Fin 4) (X D : FVec Ideal S512x1024 .f32) (M : FVec Ideal S256x2048 .f32) (q g : FVec Ideal S512x256 .f32)
    (k v : FVec Ideal S256x256 .f32) : Prop where
  q_at : ∀ r, feat q r = part h (mat X r)
  g_at : ∀ r, feat g r = part h (mat D r)
  k_at : rows k = keys h (mat M)
  v_at : rows v = vals h (mat M)

section
variable {h : Fin 4} {X D : FVec Ideal S512x1024 .f32} {M : FVec Ideal S256x2048 .f32} {q g : FVec Ideal S512x256 .f32}
  {k v : FVec Ideal S256x256 .f32} (hd : IsHead h X D M q g k v)
include hd

/-- The head's gradients of the queries. -/
theorem IsHead.dq_at (r : Fin 512) (d : Fin 256) :
    k0_pay29 (F := Ideal) (truncf .bf16 (dls q g k v) bitsLt_bf16_f32) (truncf .bf16 k bitsLt_bf16_f32) (ix2 r d)
    = dq (mat X r) (mat D r) (mat M) (col h d) := by
  rw [dqs_at, dq_col, hd.q_at, hd.g_at, hd.k_at, hd.v_at]

/-- What the head adds to the gradients of the keys. -/
theorem IsHead.dk_at (o : FVec Ideal S256x256 .f32) (j d : Fin 256) : k0_pay30 (F := Ideal) q (dls q g k v) o (ix2 j d)
    = o (ix2 j d) + ∑ r, dKV (mat X r) (mat D r) (mat M) j (kcol h d) := by
  simp only [dks_at, dKV_kcol, dK, hd.q_at, hd.g_at, hd.k_at, hd.v_at]

/-- What the head adds to the gradients of the values. -/
theorem IsHead.dv_at (o : FVec Ideal S256x256 .f32) (j d : Fin 256) : k0_pay19 (F := Ideal) (prs q k) g o (ix2 j d)
    = o (ix2 j d) + ∑ r, dKV (mat X r) (mat D r) (mat M) j (vcol h d) := by
  simp only [dvs_at, dKV_vcol, dV, hd.q_at, hd.g_at, hd.k_at]
end

/-- 256 columns of a block of queries. -/
def cut (o : ℕ) (ho : S512x1024.Slices ![0, o] S512x256) (X : FVec Ideal S512x1024 .f32) : FVec Ideal S512x256 .f32 :=
  extractStridedSlice S512x256 ![0, o] X ho

/-- 256 columns of a block as wide as the memory. -/
def load (o : ℕ) (ho : ∀ a, (![0, o] : Fin 2 → Nat) a + S256x256.size a ≤ S256x2048.size a) (M : FVec Ideal S256x2048 .f32) : FVec Ideal S256x256 .f32 :=
  View.ld (Val := Elt Ideal) (S := S256x2048) (e' := .f32) M (Rect.unit ![0, o] ![256, 256] ho)

/-- … as the body names them. -/
def take (o : ℕ) (ho : ∀ a, (![0, o] : Fin 2 → Nat) a + S256x256.size a ≤ S256x2048.size a) (M : FVec Ideal S256x2048 .f32) : FVec Ideal S256x256 .f32 :=
  shapeCast S256x256 (load o ho M) shapeCasts_S256x256_S256x256

theorem cut_at (h : Fin 4) (o : ℕ) (ho) (e : o = 256 * h.val) (X : FVec Ideal S512x1024 .f32) (r : Fin 512) :
    feat (cut o ho X) r = part h (mat X r) := by
  subst e
  unfold feat part mat col
  funext d
  pointwise [cut]

theorem load_at (o : ℕ) (ho) (M : FVec Ideal S256x2048 .f32) (j d : Fin 256) (c : Fin 2048) (hc : c.val = o + d.val) :
    load o ho M (ix2 j d) = M (ix2 j c) := by
  refine congrArg M (funext fun a => Fin.ext ?_)
  match a with
  | ⟨0, _⟩ => show 0 + 1 * j.val = j.val; omega
  | ⟨1, _⟩ => show o + 1 * d.val = c.val; omega

theorem take_at (o : ℕ) (ho) (M : FVec Ideal S256x2048 .f32) (j d : Fin 256) (c : Fin 2048) (hc : c.val = o + d.val) :
    take o ho M (ix2 j d) = M (ix2 j c) := by
  rw [← load_at o ho M j d c hc]
  pointwise [take]

theorem isHead (h : Fin 4) (o oV : ℕ) (ho) (hk) (hv) (e : o = 256 * h.val) (eV : oV = 1024 + 256 * h.val)
    (X D : FVec Ideal S512x1024 .f32) (M : FVec Ideal S256x2048 .f32) :
    IsHead h X D M (cut o ho X) (cut o ho D) (take o hk M) (take oV hv M) :=
  ⟨cut_at h o ho e X, cut_at h o ho e D, funext fun j => funext fun d => take_at o hk M j d (kcol h d) (by rw [e]; rfl),
    funext fun j => funext fun d => take_at oV hv M j d (vcol h d) (by rw [eV]; rfl)⟩

variable (m : (ℓ : Loc nD τ sig) → Buf (Elt Ideal) ℓ) (c : Dev nD) (t : Fin cfg0.N)

/-- The block's queries. -/
def qB : FVec Ideal S512x1024 .f32 := k0_pay5 (iblk m c 2 t) (iblk m c 3 t)

/-- The cotangents of what the block's queries get back. -/
def gB : FVec Ideal S512x1024 .f32 := k0_pay6 (iblk m c 0 t) (iblk m c 1 t)

/-- The keys and values. -/
def mB : FVec Ideal S256x2048 .f32 := iblk m c 4 t

/-- Column `c` of a row is where feature `d` of head `h` stands. -/
theorem col_eq {y : S512x1024.Idx} {x : S512x256.Idx} (h : Fin 4) (h0 : (y 0).val = (x 0).val) (h1 : (y 1).val = 256 * h.val + (x 1).val) :
    y = ix2 (x 0) (col h (x 1)) := by
  rw [eq_ix2 y]
  exact (ix2_inj ..).2 ⟨Fin.ext h0, Fin.ext h1⟩

/-- The four heads of a block. -/
theorem head0 : IsHead 0 (qB m c t) (gB m c t) (mB m c t) (cut 0 slices_S512x1024_o0_0_S512x256 (qB m c t)) (cut 0 slices_S512x1024_o0_0_S512x256 (gB m c t))
    (take 0 inb_S256x2048_S256x256_0_0 (mB m c t)) (take 1024 inb_S256x2048_S256x256_0_1024 (mB m c t)) := isHead 0 0 1024 _ _ _ rfl rfl _ _ _
theorem head1 : IsHead 1 (qB m c t) (gB m c t) (mB m c t) (cut 256 slices_S512x1024_o0_256_S512x256 (qB m c t)) (cut 256 slices_S512x1024_o0_256_S512x256 (gB m c t))
    (take 256 inb_S256x2048_S256x256_0_256 (mB m c t)) (take 1280 inb_S256x2048_S256x256_0_1280 (mB m c t)) := isHead 1 256 1280 _ _ _ rfl rfl _ _ _
theorem head2 : IsHead 2 (qB m c t) (gB m c t) (mB m c t) (cut 512 slices_S512x1024_o0_512_S512x256 (qB m c t)) (cut 512 slices_S512x1024_o0_512_S512x256 (gB m c t))
    (take 512 inb_S256x2048_S256x256_0_512 (mB m c t)) (take 1536 inb_S256x2048_S256x256_0_1536 (mB m c t)) := isHead 2 512 1536 _ _ _ rfl rfl _ _ _
theorem head3 : IsHead 3 (qB m c t) (gB m c t) (mB m c t) (cut 768 slices_S512x1024_o0_768_S512x256 (qB m c t)) (cut 768 slices_S512x1024_o0_768_S512x256 (gB m c t))
    (take 768 inb_S256x2048_S256x256_0_768 (mB m c t)) (take 1792 inb_S256x2048_S256x256_0_1792 (mB m c t)) := isHead 3 768 1792 _ _ _ rfl rfl _ _ _

/-- The block's gradients of the queries. -/
theorem out5 (y : S512x1024.Idx) : ((outsAt0 m c t.val t.isLt).1 : FVec Ideal S512x1024 .bf16) y
    = dq (mat (qB m c t) (y 0)) (mat (gB m c t) (y 0)) (mat (mB m c t)) (y 1) := by
  by_cases h : t.val % 8 = 0
  on_goal 1 => rw [outsAt0_A m c t h]
  on_goal 2 => rw [outsAt0_B m c t h]
  all_goals
    frame_out
    clear h
    canon_tiles x h
    · rw [col_eq 3 h0 h1, eq_ix2 x]; exact (head3 m c t).dq_at (x 0) (x 1)
    · rw [col_eq 2 h0 h1, eq_ix2 x]; exact (head2 m c t).dq_at (x 0) (x 1)
    · rw [col_eq 1 h0 h1, eq_ix2 x]; exact (head1 m c t).dq_at (x 0) (x 1)
    · rw [col_eq 0 h0 (h1.trans (Nat.zero_add _).symm), eq_ix2 x]; exact (head0 m c t).dq_at (x 0) (x 1)

theorem kcol_eq {y : S256x2048.Idx} {x : S256x256.Idx} (h : Fin 4) (h0 : (y 0).val = (x 0).val) (h1 : (y 1).val = 256 * h.val + (x 1).val) :
    y = ix2 (x 0) (kcol h (x 1)) := by
  rw [eq_ix2 y]
  exact (ix2_inj ..).2 ⟨Fin.ext h0, Fin.ext h1⟩

theorem vcol_eq {y : S256x2048.Idx} {x : S256x256.Idx} (h : Fin 4) (h0 : (y 0).val = (x 0).val) (h1 : (y 1).val = 1024 + 256 * h.val + (x 1).val) :
    y = ix2 (x 0) (vcol h (x 1)) := by
  rw [eq_ix2 y]
  exact (ix2_inj ..).2 ⟨Fin.ext h0, Fin.ext h1⟩

/-- What the block gives to the gradients of the keys and values. -/
def more (j : Fin 256) (k : Fin 2048) : EReal := ∑ r, dKV (mat (qB m c t) r) (mat (gB m c t) r) (mat (mB m c t)) j k

section
variable {q g : FVec Ideal S512x256 .f32} {k v : FVec Ideal S256x256 .f32}

/-- The store of a head's keys, over what the block before it left. -/
theorem IsHead.k_store {h : Fin 4} (hd : IsHead h (qB m c t) (gB m c t) (mB m c t) q g k v) (P : FVec Ideal S256x2048 .f32) (o : ℕ) (ho)
    (e : o = 256 * h.val) {y : S256x2048.Idx} {x : S256x256.Idx} (h0 : (y 0).val = (x 0).val) (h1 : (y 1).val = o + (x 1).val)
    (O : FVec Ideal S256x256 .f32) (hO : O = load o ho P) : k0_pay30 (F := Ideal) q (dls q g k v) O x = P y + more m c t (y 0) (y 1) := by
  subst e hO
  rw [kcol_eq h h0 h1, eq_ix2 x]
  exact (hd.dk_at _ _ _).trans (congrArg (· + _) (load_at _ _ P _ _ (kcol h _) rfl))

/-- The store of a head's values, likewise. -/
theorem IsHead.v_store {h : Fin 4} (hd : IsHead h (qB m c t) (gB m c t) (mB m c t) q g k v) (P : FVec Ideal S256x2048 .f32) (o : ℕ) (ho)
    (e : o = 1024 + 256 * h.val) {y : S256x2048.Idx} {x : S256x256.Idx} (h0 : (y 0).val = (x 0).val) (h1 : (y 1).val = o + (x 1).val)
    (O : FVec Ideal S256x256 .f32) (hO : O = load o ho P) : k0_pay19 (F := Ideal) (prs q k) g O x = P y + more m c t (y 0) (y 1) := by
  subst e hO
  rw [vcol_eq h h0 h1, eq_ix2 x]
  exact (hd.dv_at _ _ _).trans (congrArg (· + _) (load_at _ _ P _ _ (vcol h _) rfl))
end

/-- The gradients of the keys and values so far, after a block that is not the first. -/
theorem out6_B (h : ¬t.val % 8 = 0) (y : S256x2048.Idx) : ((outsAt0 m c t.val t.isLt).2 : FVec Ideal S256x2048 .f32) y
    = ((outsAt0 m c (t.val - 1) (by omega)).2 : FVec Ideal S256x2048 .f32) y + more m c t (y 0) (y 1) := by
  rw [outsAt0_B m c t h]
  frame_out
  clear h
  canon_tiles x h
  · exact (head3 m c t).v_store m c t _ 1792 inb_S256x2048_S256x256_0_1792 rfl h0 h1 _ rfl
  · exact (head3 m c t).k_store m c t _ 768 inb_S256x2048_S256x256_0_768 rfl h0 h1 _ rfl
  · exact (head2 m c t).v_store m c t _ 1536 inb_S256x2048_S256x256_0_1536 rfl h0 h1 _ rfl
  · exact (head2 m c t).k_store m c t _ 512 inb_S256x2048_S256x256_0_512 rfl h0 h1 _ rfl
  · exact (head1 m c t).v_store m c t _ 1280 inb_S256x2048_S256x256_0_1280 rfl h0 h1 _ rfl
  · exact (head1 m c t).k_store m c t _ 256 inb_S256x2048_S256x256_0_256 rfl h0 h1 _ rfl
  · exact (head0 m c t).v_store m c t _ 1024 inb_S256x2048_S256x256_0_1024 rfl h0 h1 _ rfl
  · exact (head0 m c t).k_store m c t _ 0 inb_S256x2048_S256x256_0_0 rfl h0 (h1.trans (Nat.zero_add _).symm) _ rfl

/-- What the first block finds in the buffer it has just filled with zeros. -/
def none : FVec Ideal S256x2048 .f32 := k0_pay4 (F := Ideal)

theorem none_at (y : S256x2048.Idx) : none y = 0 := by
  rw [eq_ix2 y]
  pointwise [none, k0_pay4]

theorem skip (u : View sig .tc .vmem S256x2048 .f32) (o o' : ℕ) (h : o + 256 ≤ o' ∨ o' + 256 ≤ o) (inb) (inb')
    (w : (Rect.unit (s := S256x2048) ![0, o] ![256, 256] inb).shape.Idx → Elt Ideal .f32) (L : List (View.Piece (Elt Ideal) S256x2048 .f32)) (z : FVec Ideal S256x256 .f32)
    (e : u.readCov (Val := Elt Ideal) L (Rect.unit (s := S256x2048) ![0, o'] ![256, 256] inb').toLoadRect = z) :
    u.readCov (Val := Elt Ideal) (⟨Rect.unit (s := S256x2048) ![0, o] ![256, 256] inb, w⟩ :: L)
      (Rect.unit (s := S256x2048) ![0, o'] ![256, 256] inb').toLoadRect = z :=
  (View.readCov_cons_of_disjoint u ⟨Rect.unit (s := S256x2048) ![0, o] ![256, 256] inb, w⟩ L _ (Rect.unit_disjoint (s := S256x2048) (inb := inb) (inb' := inb') 1 (by simpa using h))).trans e

theorem filled (u : View sig .tc .vmem S256x2048 .f32) (o : ℕ) (inb) (inb') :
    u.readCov (Val := Elt Ideal) [⟨Rect.unit (s := S256x2048) ![0, 0] ![256, 2048] inb, none⟩]
      (Rect.unit (s := S256x2048) ![0, o] ![256, 256] inb').toLoadRect = load o inb' none := by
  rw [View.readCov_eq_canon']
  funext x
  exact congrFun (View.canon_unit_zero (by funext a; fin_cases a <;> rfl) _ _) _

/-- Stores that cover the buffer hide those before them. -/
theorem canon_drop {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, hy => absurd hy (by simp)
  | p :: L, y, hy => by
    by_cases hm : y ∈ p.1.set
    · obtain ⟨x, rfl⟩ := p.1.exists_idx_of_mem hm
      rw [List.cons_append]
      exact (View.canon_cons_emb ..).trans (View.canon_cons_emb ..).symm
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_drop L' L y ⟨q, hq', hyq⟩

/-- The gradients of the keys and values so far, after the first block. -/
theorem out6_A (h : t.val % 8 = 0) (y : S256x2048.Idx) : ((outsAt0 m c t.val t.isLt).2 : FVec Ideal S256x2048 .f32) y
    = none y + more m c t (y 0) (y 1) := by
  rw [outsAt0_A m c t h]
  frame_out
  clear h
  refine (canon_drop [_] [_, _, _, _, _, _, _, _] y (View.cover_of_tiledBy _ ![256, 256] (by sl_kernel_rfl) y)).trans ?_
  canon_tiles x h
  on_goal 1 => refine (head3 m c t).v_store m c t none 1792 inb_S256x2048_S256x256_0_1792 rfl h0 h1 _ ?_
  on_goal 2 => refine (head3 m c t).k_store m c t none 768 inb_S256x2048_S256x256_0_768 rfl h0 h1 _ ?_
  on_goal 3 => refine (head2 m c t).v_store m c t none 1536 inb_S256x2048_S256x256_0_1536 rfl h0 h1 _ ?_
  on_goal 4 => refine (head2 m c t).k_store m c t none 512 inb_S256x2048_S256x256_0_512 rfl h0 h1 _ ?_
  on_goal 5 => refine (head1 m c t).v_store m c t none 1280 inb_S256x2048_S256x256_0_1280 rfl h0 h1 _ ?_
  on_goal 6 => refine (head1 m c t).k_store m c t none 256 inb_S256x2048_S256x256_0_256 rfl h0 h1 _ ?_
  on_goal 7 => refine (head0 m c t).v_store m c t none 1024 inb_S256x2048_S256x256_0_1024 rfl h0 h1 _ ?_
  on_goal 8 => refine (head0 m c t).k_store m c t none 0 inb_S256x2048_S256x256_0_0 rfl h0 (h1.trans (Nat.zero_add _).symm) _ ?_
  all_goals
    repeat refine skip _ _ _ (by decide) _ _ _ _ _ ?_
    exact filled _ _ _ _

end Cert.XaBwdIdeal.Value

end
-- ==== Proof.XaKernel.lean ====
module

public import proofs.«01_k».proof.Proof.Gen.XaBwdIdeal.Value
public import proofs.«01_k».proof.Proof.XaKernelHead
public import proofs.«01_k».proof.Proof.LnBlock
public import Idealize.ShloMosaic.Lib.Claim

/-! # The arrays `_xattn_bwd` returns -/

@[expose] public section

set_option maxRecDepth 16384

noncomputable section

namespace Cert.XaBwdIdeal.Value

open Cert.XaBwdIdeal Cert.XaBwdIdeal.Gen Idealize.ShloMosaic Idealize.ShloMosaic.TcCoe Idealize.SL.Sem Cert.XaSpec Cert.LnSpec
open Idealize.ShloMosaic.Pipeline (Dat)
open Cert.LnBlock (row sum_rows)

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The queries. -/
def qA : Fin 4096 → Fin 1024 → EReal := prod (mat (m ((c : Thread nD τ).loc main_arg0))) (mat (m ((c : Thread nD τ).loc main_arg1)))

/-- The cotangents of what the queries get back. -/
def gA : Fin 4096 → Fin 1024 → EReal := prodT (mat (m ((c : Thread nD τ).loc main_arg5))) (mat (m ((c : Thread nD τ).loc main_arg4)))

/-- The keys and values. -/
def mA : Fin 256 → Fin 2048 → EReal := prod (mat (m ((c : Thread nD τ).loc main_arg2))) (mat (m ((c : Thread nD τ).loc main_arg3)))

theorem opnd0_at (i : Fin 4096) (j : Fin 1024) : (V m c main_v0 : FVec Ideal S4096x1024 .bf16) (ix2 i j) = m ((c : Thread nD τ).loc main_arg5) (ix2 i j) := by
  entry_read
  pointwise

theorem opnd1_at (i : Fin 1024) (j : Fin 1024) : (V m c main_v1 : FVec Ideal S1024x1024 .bf16) (ix2 i j) = m ((c : Thread nD τ).loc main_arg4) (ix2 i j) := by
  entry_read
  pointwise

theorem opnd2_at (i : Fin 4096) (j : Fin 1024) : (V m c main_v2 : FVec Ideal S4096x1024 .bf16) (ix2 i j) = m ((c : Thread nD τ).loc main_arg0) (ix2 i j) := by
  entry_read
  pointwise

theorem opnd3_at (i : Fin 1024) (j : Fin 1024) : (V m c main_v3 : FVec Ideal S1024x1024 .bf16) (ix2 i j) = m ((c : Thread nD τ).loc main_arg1) (ix2 i j) := by
  entry_read
  pointwise

theorem opnd4_at (i : Fin 256) (j : Fin 2048) : (V m c main_v4 : FVec Ideal S256x2048 .f32) (ix2 i j) = mA m c i j := by
  entry_read
  pointwise [mA, prod, mat]

theorem block0 (r : Fin 512) (k : Fin 1024) : (iblk m c 0 t : FVec Ideal S512x1024 .bf16) (ix2 r k)
    = m ((c : Thread nD τ).loc main_arg5) (ix2 (row t r) k) := by
  refine Eq.trans ?_ (opnd0_at m c (row t r) k)
  unfold row
  blk_ext! [iblk, idx t]

theorem block1 (r : Fin 1024) (k : Fin 1024) : (iblk m c 1 t : FVec Ideal S1024x1024 .bf16) (ix2 r k)
    = m ((c : Thread nD τ).loc main_arg4) (ix2 r k) := by
  refine Eq.trans ?_ (opnd1_at m c r k)
  blk_ext! [iblk, idx t]

theorem block2 (r : Fin 512) (k : Fin 1024) : (iblk m c 2 t : FVec Ideal S512x1024 .bf16) (ix2 r k)
    = m ((c : Thread nD τ).loc main_arg0) (ix2 (row t r) k) := by
  refine Eq.trans ?_ (opnd2_at m c (row t r) k)
  unfold row
  blk_ext! [iblk, idx t]

theorem block3 (r : Fin 1024) (k : Fin 1024) : (iblk m c 3 t : FVec Ideal S1024x1024 .bf16) (ix2 r k)
    = m ((c : Thread nD τ).loc main_arg1) (ix2 r k) := by
  refine Eq.trans ?_ (opnd3_at m c r k)
  blk_ext! [iblk, idx t]

theorem rows_m : mat (mB m c t) = mA m c := by
  funext i j
  refine Eq.trans ?_ (opnd4_at m c i j)
  unfold mat mB
  blk_ext! [iblk, idx t]

theorem rows_q (r : Fin 512) : mat (qB m c t) r = qA m c (row t r) := by
  funext j
  unfold qA prod mat
  simp only [← block2 m c t, ← block3 m c t]
  unfold qB
  pointwise [k0_pay5]

theorem rows_g (r : Fin 512) : mat (gB m c t) r = gA m c (row t r) := by
  funext j
  unfold gA prodT mat
  simp only [← block0 m c t, ← block1 m c t]
  unfold gB
  pointwise [k0_pay6]

theorem row5 (r : Fin 512) (k : Fin 1024) : ((outsAt0 m c t.val t.isLt).1 : FVec Ideal S512x1024 .bf16) (ix2 r k)
    = dq (qA m c (row t r)) (gA m c (row t r)) (mA m c) k := by
  rw [out5]
  refine Eq.trans (b := dq (mat (qB m c t) r) (mat (gB m c t) r) (mat (mB m c t)) k) rfl ?_
  rw [rows_q, rows_g, rows_m]

theorem more_eq (j : Fin 256) (k : Fin 2048) : more m c t j k = ∑ r, dKV (qA m c (row t r)) (gA m c (row t r)) (mA m c) j k := by
  unfold more
  simp only [rows_q, rows_g, rows_m]

/-! ## The arrays -/

theorem final5 : (dats m 0 c).arrAt 5 (cfgs 0).N = (dqArr (mA m c) (qA m c) (gA m c) : FVec Ideal S4096x1024 .bf16) := by
  refine (dats m 0 c).arrAt_eq_of_covers 5 _ (by decide +kernel) fun t _ y => ?_
  blk_simp
  rw [after0_5]
  have e : (win0_5.blk t).view.emb y = ix2 (row t (y 0)) (y 1) := by
    unfold row
    blk_ext! [idx t]
  rw [e]
  refine Eq.trans ?_ (row5 m c t (y 0) (y 1))
  exact congrArg ((outsAt0 m c t.val t.isLt).1 : FVec Ideal S512x1024 .bf16) (by funext a; fin_cases a <;> rfl)

theorem last6 (y : S256x2048.Idx) : ((outsAt0 m c 7 (by decide)).2 : FVec Ideal S256x2048 .f32) y = dkvArr (mA m c) (qA m c) (gA m c) y := by
  have e := Pipeline.eq_sum_fin_of_reset_step_last (N := 8) (fun n h => ((outsAt0 m c n h).2 : FVec Ideal S256x2048 .f32) y) 8 0
    (fun t => more m c t (y 0) (y 1)) (fun t h => by rw [out6_A m c t h, none_at]) (fun t h => out6_B m c t h y) le_rfl 7 rfl
  refine e.trans ?_
  rw [zero_add]
  refine (Finset.sum_congr rfl fun t _ => more_eq m c t (y 0) (y 1)).trans ?_
  exact sum_rows fun r => dKV (qA m c r) (gA m c r) (mA m c) (y 0) (y 1)

/-- The last grid point. -/
abbrev last : Fin cfg0.N := ⟨7, by decide⟩

theorem final6 : (dats m 0 c).arrAt 6 (cfgs 0).N = dkvArr (mA m c) (qA m c) (gA m c) := by
  refine (dats m 0 c).arrAt_eq_of_after_last 6 last (by decide +kernel) _ fun y => ?_
  rw [← last6 m c]
  blk_simp
  rw [after0_6]

end Cert.XaBwdIdeal.Value

end
-- ==== Proof.XaReference.lean ====
module

public import proofs.«01_k».proof.Proof.Gen.XaRefIdeal.Read
public import proofs.«01_k».proof.Proof.XaSpec
public import proofs.«01_k».proof.Proof.HostSum
public import Idealize.ShloMosaic.Lib.KernelVsHost

/-! # The arrays the reference returns at the attention over the memory -/

@[expose] public section

set_option maxRecDepth 16384

noncomputable section

namespace Cert.XaRefIdeal.Read

open Cert.XaRefIdeal Cert.XaRefIdeal.Gen Idealize.ShloMosaic Idealize.ShloMosaic.TcCoe Idealize.SL.Sem Cert.LnSpec Cert.XaSpec

variable (H : FVec Ideal S4096x1024 .f32) (Q : FVec Ideal S1024x1024 .f32) (M : FVec Ideal S256x1024 .f32) (K : FVec Ideal S1024x2048 .f32)
  (O : FVec Ideal S1024x1024 .f32) (Z : FVec Ideal S4096x1024 .f32)

/-- The queries, the cotangents of what they get back, the keys and values. -/
abbrev qR : Fin 4096 → Fin 1024 → EReal := prod (mat H) (mat Q)
abbrev gR : Fin 4096 → Fin 1024 → EReal := prodT (mat Z) (mat O)
abbrev mR : Fin 256 → Fin 2048 → EReal := prod (mat M) (mat K)

theorem q_at (r : Fin 4096) (c : Fin 1024) : val_main_v0 (F := Ideal) H Q (ix2 r c) = qR H Q r c := by
  unfold qR prod mat
  pointwise [val_main_v0]

theorem m_at (j : Fin 256) (c : Fin 2048) : val_main_v1 (F := Ideal) M K (ix2 j c) = mR M K j c := by
  unfold mR prod mat
  pointwise [val_main_v1]

/-! ## The heads -/

theorem x_at (h : Fin 4) (r : Fin 4096) (d : Fin 256) : val_main_v2 (F := Ideal) H Q (ix4 0 r h d) = part h (qR H Q r) d := by
  rw [val_main_v2_apply]
  refine (congrArg _ (?_ : _ = ix2 r (col h d))).trans (q_at H Q r (col h d))
  funext a
  apply Fin.ext
  match a with
  | ⟨0, _⟩ => show (((0 * 4096 + r.val) * 4 + h.val) * 256 + d.val) / 1024 = r.val; omega
  | ⟨1, _⟩ => show (((0 * 4096 + r.val) * 4 + h.val) * 256 + d.val) % 1024 = 256 * h.val + d.val; omega

theorem k_at (h : Fin 4) (j d : Fin 256) : val_main_v6 (F := Ideal) M K (ix4 0 j h d) = keys h (mR M K) j d := by
  rw [val_main_v6_apply, val_main_v4_apply, val_main_v3_apply]
  refine (congrArg _ (?_ : _ = ix2 j (kcol h d))).trans (m_at M K j (kcol h d))
  funext a
  apply Fin.ext
  match a with
  | ⟨0, _⟩ => show (((0 * 256 + j.val) * 4 + h.val) * 256 + d.val) / 1024 % 256 = j.val; omega
  | ⟨1, _⟩ => show (((0 * 256 + j.val) * 4 + h.val) * 256 + d.val) % 1024 = 256 * h.val + d.val; omega

theorem v_at (h : Fin 4) (j d : Fin 256) : val_main_v7 (F := Ideal) M K (ix4 0 j h d) = vals h (mR M K) j d := by
  rw [val_main_v7_apply, val_main_v5_apply, val_main_v3_apply]
  refine (congrArg _ (?_ : _ = ix2 j (vcol h d))).trans (m_at M K j (vcol h d))
  funext a
  apply Fin.ext
  match a with
  | ⟨0, _⟩ => show (((0 * 256 + j.val) * 4 + h.val) * 256 + d.val) / 1024 % 256 = j.val; omega
  | ⟨1, _⟩ => show 1024 + (((0 * 256 + j.val) * 4 + h.val) * 256 + d.val) % 1024 = 1024 + 256 * h.val + d.val; omega

theorem g_at (h : Fin 4) (r : Fin 4096) (d : Fin 256) : val_main_v47 (F := Ideal) O Z (ix4 0 h d r) = part h (gR O Z r) d := by
  rw [val_main_v47_apply, val_main_v46_apply]
  refine (congrArg _ (?_ : _ = ix3 0 r (col h d))).trans ?_
  · funext a
    apply Fin.ext
    match a with
    | ⟨0, _⟩ => rfl
    | ⟨1, _⟩ => show (((0 * 4096 + r.val) * 4 + h.val) * 256 + d.val) / 1024 % 4096 = r.val; omega
    | ⟨2, _⟩ => show (((0 * 4096 + r.val) * 4 + h.val) * 256 + d.val) % 1024 = 256 * h.val + d.val; omega
  · unfold part gR prodT mat
    pointwise [val_main_v45, val_main_v44]

/-! ## The weights -/

/-- One query, one head's keys and values, and what it gets back, by their places. -/
abbrev xR (h : Fin 4) (r : Fin 4096) : Feat := part h (qR H Q r)
abbrev kR (h : Fin 4) : Rows := keys h (mR M K)
abbrev vR (h : Fin 4) : Rows := vals h (mR M K)
abbrev cR (h : Fin 4) (r : Fin 4096) : Feat := part h (gR O Z r)

theorem logit_at (h : Fin 4) (r : Fin 4096) (j : Fin 256) :
    val_main_v10 (F := Ideal) H Q M K (ix4 0 h r j) = logit (xR H Q h r) (kR M K h) j := by
  rw [val_main_v10_apply, val_main_v8_apply]
  exact congrArg (· * _) (Finset.sum_congr rfl fun d _ => congrArg₂ (· * ·)
    ((congrArg _ (by funext a; fin_cases a <;> rfl)).trans (x_at H Q h r d)) ((congrArg _ (by funext a; fin_cases a <;> rfl)).trans (k_at M K h j d)))

theorem top_at (h : Fin 4) (r : Fin 4096) : val_main_v18 (F := Ideal) H Q M K (ix3 0 h r) = top (xR H Q h r) (kR M K h) := by
  rw [val_main_v18_apply]
  have e : val_main_v11 (F := Ideal) H Q M K (ix3 0 h r) = top (xR H Q h r) (kR M K h) := by
    unfold val_main_v11 val_main_cst_0
    refine (congrFun (hostReduce_maximumf_eq_multiReduction (F := Ideal) (φ := .f32) (s := S1x4x4096x256) (t := S1x4x4096) (axes := [3])
      (val_main_v10 (F := Ideal) H Q M K) 0xFF800000#32 reducesTo_S1x4x4096x256_S1x4x4096_d3 h_S_ (by decide) (.inl rfl) rfl) _).trans ?_
    refine (Ideal.multiReduction_maximumf_single _ _ _ _ _ _).trans ?_
    refine congrArg (fun f => Finset.fold max _ f _) (funext fun (j : Fin 256) => ?_)
    exact (congrArg (val_main_v10 (F := Ideal) H Q M K) (by funext a; fin_cases a <;> rfl)).trans (logit_at H Q M K h r j)
  rw [e]
  have b : (Ideal.ofBits .f32 0xFF800000#32 : EReal) ≤ top (xR H Q h r) (kR M K h) := (Finset.le_fold_max _).2 (.inl le_rfl)
  exact max_eq_right b

theorem ex_at (h : Fin 4) (r : Fin 4096) (j : Fin 256) :
    val_main_v31 (F := Ideal) H Q M K (ix4 0 h r j) = ex (xR H Q h r) (kR M K h) j := by
  rw [val_main_v31_apply, val_main_v30_apply, val_main_v29_apply, val_main_v28_apply, logit_at,
    show idx_main_v28 (idx_main_v29 (ix4 0 h r j)) = ix3 0 h r by funext a; fin_cases a <;> rfl, top_at]
  rfl

theorem zero : (Ideal.ofBits .f32 0x00000000#32 : EReal) = 0 := Ideal.ofBits_zero_f32

theorem tot_at (h : Fin 4) (r : Fin 4096) : val_main_v32 (F := Ideal) H Q M K (ix3 0 h r) = tot (xR H Q h r) (kR M K h) := by
  rw [val_main_v32_apply]
  refine (congrArg (· + _) zero).trans ((zero_add _).trans ?_)
  exact Finset.sum_congr rfl fun j _ => (congrArg _ (by funext a; fin_cases a <;> rfl)).trans (ex_at H Q M K h r j)

theorem tot1_at (h : Fin 4) (r : Fin 4096) : val_main_v33 (F := Ideal) H Q M K (ix4 0 h r 0) = tot (xR H Q h r) (kR M K h) := by
  rw [val_main_v33_apply]
  exact (congrArg _ (by funext a; fin_cases a <;> rfl)).trans (tot_at H Q M K h r)

theorem pr_at (h : Fin 4) (r : Fin 4096) (j : Fin 256) :
    val_main_v35 (F := Ideal) H Q M K (ix4 0 h r j) = pr (xR H Q h r) (kR M K h) j := by
  rw [val_main_v35_apply, val_main_v34_apply, ex_at]
  exact congrArg (Ideal.div _) ((congrArg _ (by funext a; fin_cases a <;> rfl)).trans (tot1_at H Q M K h r))

/-! ## Their cotangents -/

theorem gp_at (h : Fin 4) (r : Fin 4096) (j : Fin 256) :
    val_main_v48 (F := Ideal) M K O Z (ix4 0 h r j) = gp (vR M K h) (cR O Z h r) j := by
  rw [val_main_v48_apply]
  exact Finset.sum_congr rfl fun d _ => congrArg₂ (· * ·)
    ((congrArg _ (by funext a; fin_cases a <;> rfl)).trans (g_at O Z h r d)) ((congrArg _ (by funext a; fin_cases a <;> rfl)).trans (v_at M K h j d))

/-- What every weight of a query loses for its share of the sum. -/
theorem sum_at (h : Fin 4) (r : Fin 4096) : val_main_v59 (F := Ideal) H Q M K O Z (ix2 h r)
    = -∑ j, gp (vR M K h) (cR O Z h r) j * Ideal.div (Ideal.ofBits .f32 0x3F800000#32) (tot (xR H Q h r) (kR M K h) * tot (xR H Q h r) (kR M K h))
        * ex (xR H Q h r) (kR M K h) j := by
  unfold val_main_v59
  rw [Idealize.ShloMosaic.ValueIdx.hostReduceAdd_apply]
  refine (Cert.HostSum.ends_at _ _ _ h r).trans ((congrArg (· + _) zero).trans ((zero_add _).trans ?_))
  rw [val_main_v56_apply, val_main_v55_apply]
  refine congrArg Neg.neg ((congrArg _ (?_ : _ = ix3 0 h r)).trans ?_)
  · funext a
    apply Fin.ext
    match a with
    | ⟨0, _⟩ => rfl
    | ⟨1, _⟩ => show (((0 * 4 + h.val) * 4096 + r.val) * 1 + 0) / 4096 % 4 = h.val; omega
    | ⟨2, _⟩ => show (((0 * 4 + h.val) * 4096 + r.val) * 1 + 0) % 4096 = r.val; omega
  · rw [val_main_v54_apply]
    refine (congrArg (· + _) zero).trans ((zero_add _).trans (Finset.sum_congr rfl fun j _ => ?_))
    rw [show idx_main_v54 (ix3 0 h r) j = ix4 0 h r j by funext a; fin_cases a <;> rfl, val_main_v53_apply, val_main_v52_apply, val_main_v51_apply,
      gp_at, ex_at, show idx_main_v51 (ix4 0 h r j) = ix4 0 h r 0 by funext a; fin_cases a <;> rfl, val_main_v38_apply, val_main_v36_apply, tot1_at]
    rfl

theorem dl_at (h : Fin 4) (r : Fin 4096) (j : Fin 256) :
    val_main_v65 (F := Ideal) H Q M K O Z (ix4 0 h r j) = dl (xR H Q h r) (kR M K h) (vR M K h) (cR O Z h r) j := by
  rw [val_main_v65_apply, val_main_v63_apply, val_main_v62_apply, val_main_v61_apply, val_main_v60_apply, val_main_v58_apply, val_main_v57_apply,
    gp_at, ex_at, show idx_main_v57 (ix4 0 h r j) = ix4 0 h r 0 by funext a; fin_cases a <;> rfl, tot1_at,
    show idx_main_v60 (idx_main_v61 (ix4 0 h r j)) = ix2 h r by funext a; fin_cases a <;> rfl, sum_at]
  rfl

/-! ## The results -/

theorem dq_at (r : Fin 4096) (c : Fin 1024) : val_main_v74 (F := Ideal) H Q M K O Z (ix2 r c) = dq (qR H Q r) (gR O Z r) (mR M K) c := by
  rw [val_main_v74_apply, val_main_v69_apply]
  refine (congrArg _ (?_ : _ = ix4 0 (headOf c.val) r (featOf c.val))).trans ?_
  · funext a
    apply Fin.ext
    match a with
    | ⟨0, _⟩ => rfl
    | ⟨1, _⟩ => show (r.val * 1024 + c.val) / 256 % 4 = c.val / 256 % 4; omega
    | ⟨2, _⟩ => show (r.val * 1024 + c.val) / 1024 % 4096 = r.val; omega
    | ⟨3, _⟩ => show (r.val * 1024 + c.val) % 256 = c.val % 256; omega
  · rw [val_main_v68_apply]
    exact Finset.sum_congr rfl fun j _ => congrArg₂ (· * ·)
      ((congrArg _ (by funext a; fin_cases a <;> rfl)).trans (dl_at H Q M K O Z _ _ j)) ((congrArg _ (by funext a; fin_cases a <;> rfl)).trans (k_at M K _ j _))

theorem dq_arr : val_main_v75 (F := Ideal) H Q M K O Z = (dqArr (mR M K) (qR H Q) (gR O Z) : FVec Ideal S4096x1024 .bf16) := by
  refine funext fun i => ?_
  refine Eq.trans (b := val_main_v74 (F := Ideal) H Q M K O Z (ix2 (i 0) (i 1))) ?_ (dq_at H Q M K O Z (i 0) (i 1))
  rw [val_main_v75_apply]
  exact congrArg (val_main_v74 (F := Ideal) H Q M K O Z) (by funext a; fin_cases a <;> rfl)

theorem dk_at (h : Fin 4) (j d : Fin 256) :
    val_main_v66 (F := Ideal) H Q M K O Z (ix4 0 h j d) = ∑ r, dK (qR H Q r) (gR O Z r) (mR M K) h j d := by
  rw [val_main_v66_apply]
  exact Finset.sum_congr rfl fun r _ => congrArg₂ (· * ·)
    ((congrArg _ (by funext a; fin_cases a <;> rfl)).trans (dl_at H Q M K O Z h r j)) ((congrArg _ (by funext a; fin_cases a <;> rfl)).trans (x_at H Q h r d))

theorem dv_at (h : Fin 4) (j d : Fin 256) :
    val_main_v49 (F := Ideal) H Q M K O Z (ix4 0 h d j) = ∑ r, dV (qR H Q r) (gR O Z r) (mR M K) h j d := by
  rw [val_main_v49_apply]
  exact Finset.sum_congr rfl fun r _ => (mul_comm _ _).trans (congrArg₂ (· * ·)
    ((congrArg _ (by funext a; fin_cases a <;> rfl)).trans (pr_at H Q M K h r j)) ((congrArg _ (by funext a; fin_cases a <;> rfl)).trans (g_at O Z h r d)))

theorem dkv_arr : val_main_v73 (F := Ideal) H Q M K O Z = dkvArr (mR M K) (qR H Q) (gR O Z) := by
  refine funext fun i => ?_
  have hi : (i 0).val < 256 := (i 0).isLt
  have hj : (i 1).val < 2048 := (i 1).isLt
  rw [val_main_v73_apply]
  refine (congrArg (· + _) zero).trans ((zero_add _).trans ((Fin.sum_univ_one _).trans ?_))
  unfold dkvArr
  by_cases hc : (i 1).val < 1024
  · refine (concatenate_pair_apply_left (t := S1x256x2048) 2 (val_main_v71 (F := Ideal) H Q M K O Z) (val_main_v70 (F := Ideal) H Q M K O Z)
      concatenates_S1x256x1024_S1x256x1024_S1x256x2048_d2 _ rfl (ix3 0 (i 0) ⟨(i 1).val, hc⟩) (fun b => by fin_cases b <;> rfl)).trans ?_
    rw [val_main_v71_apply, val_main_v67_apply]
    refine (congrArg _ (?_ : _ = ix4 0 (headOf (i 1).val) (i 0) (featOf (i 1).val))).trans ((dk_at H Q M K O Z _ _ _).trans ?_)
    · funext a
      apply Fin.ext
      match a with
      | ⟨0, _⟩ => rfl
      | ⟨1, _⟩ => show ((0 * 256 + (i 0).val) * 1024 + (i 1).val) / 256 % 4 = (i 1).val / 256 % 4; omega
      | ⟨2, _⟩ => show ((0 * 256 + (i 0).val) * 1024 + (i 1).val) / 1024 % 256 = (i 0).val; omega
      | ⟨3, _⟩ => show ((0 * 256 + (i 0).val) * 1024 + (i 1).val) % 256 = (i 1).val % 256; omega
    · exact Finset.sum_congr rfl fun r _ => (if_pos hc).symm
  · refine (concatenate_pair_apply_right (t := S1x256x2048) 2 (val_main_v71 (F := Ideal) H Q M K O Z) (val_main_v70 (F := Ideal) H Q M K O Z)
      concatenates_S1x256x1024_S1x256x1024_S1x256x2048_d2 _ rfl rfl (ix3 0 (i 0) ⟨(i 1).val - 1024, by omega⟩)
      (fun b hb => by fin_cases b <;> first | rfl | exact absurd rfl hb) (by show (i 1).val - 1024 + 1024 = (i 1).val; omega)).trans ?_
    rw [val_main_v70_apply, val_main_v50_apply]
    refine (congrArg _ (?_ : _ = ix4 0 (headOf (i 1).val) (featOf (i 1).val) (i 0))).trans ((dv_at H Q M K O Z _ _ _).trans ?_)
    · funext a
      apply Fin.ext
      match a with
      | ⟨0, _⟩ => rfl
      | ⟨1, _⟩ => show ((0 * 256 + (i 0).val) * 1024 + ((i 1).val - 1024)) / 256 % 4 = (i 1).val / 256 % 4; omega
      | ⟨2, _⟩ => show ((0 * 256 + (i 0).val) * 1024 + ((i 1).val - 1024)) % 256 = (i 1).val % 256; omega
      | ⟨3, _⟩ => show ((0 * 256 + (i 0).val) * 1024 + ((i 1).val - 1024)) / 1024 % 256 = (i 0).val; omega
    · exact Finset.sum_congr rfl fun r _ => (if_neg hc).symm

end Cert.XaRefIdeal.Read

end
-- ==== Proof.XaClaim.lean ====
module

public import proofs.«01_k».proof.Defs
public import proofs.«01_k».proof.Proof.Gen.XaBwd
public import proofs.«01_k».proof.Proof.Gen.XaRefIdeal
public import proofs.«01_k».proof.Proof.XaKernel
public import proofs.«01_k».proof.Proof.XaReference
public import Idealize.ShloMosaic.Lib.Claim

/-! # `_xattn_bwd`: the claims of the pair -/

@[expose] public section

set_option maxRecDepth 16384

noncomputable section

namespace Cert.XaClaim

open Idealize.ShloMosaic Idealize.SL.Sem

local instance : Cert.XaBwd.Facts := Cert.XaBwd.Gen.facts
local instance : Cert.XaBwdIdeal.Facts := Cert.XaBwdIdeal.Gen.facts
local instance : Cert.XaRefIdeal.Facts := Cert.XaRefIdeal.Gen.facts

theorem frame_ideal : Cert.quiescent_XaBwdIdeal := fun m g _ => Cert.XaBwdIdeal.Gen.frame m g

theorem main_eq : Cert.XaBwd.main (F := Bits) = Cert.XaBwdIdeal.main (F := Bits) := rfl

theorem defs_eq : Cert.XaBwd.defs (F := Bits) = Cert.XaBwdIdeal.defs (F := Bits) := by sl_kernel_rfl

/-- The kernel's program is its idealized program over the machine's floats: one run serves both. -/
theorem frame_kernel : Cert.quiescent_XaBwd := fun m g _ => by
  rw [defs_eq, main_eq]
  exact Cert.XaBwdIdeal.Gen.frame (F := Bits) m g

theorem frame_reference : Cert.quiescent_XaRefIdeal := by
  intro m g _
  exact (θ_run _ _ _).mono (fun r h => ⟨fun c => (h c).2.2, sem_eq_zero_of_no_sems rfl _⟩) (Cert.XaRefIdeal.Value.run m g)

set_option maxHeartbeats 1600000 in
theorem algebraic : Cert.algebraic_XaBwdIdeal_XaRefIdeal := by
  pair_intro
  · run_from Cert.XaBwdIdeal.Gen.run_main m g
  · refine (θ_run _ _ _).mono (fun r h c => ?_) (Cert.XaRefIdeal.Value.run m' g')
    obtain ⟨a75, a73, rest⟩ := h c
    obtain ⟨e0, e1, e2, e3, e4, e5⟩ := hagree c
    refine ⟨(a75.trans (Cert.XaRefIdeal.Read.val_main_v75_eq m' c)).trans ?_, (a73.trans (Cert.XaRefIdeal.Read.val_main_v73_eq m' c)).trans ?_, rest⟩
    · rw [e0, e1, e2, e3, e4, e5]
      exact (Cert.XaRefIdeal.Read.dq_arr _ _ _ _ _ _).trans (Cert.XaBwdIdeal.Value.final5 m c).symm
    · rw [e0, e1, e2, e3, e4, e5]
      exact (Cert.XaRefIdeal.Read.dkv_arr _ _ _ _ _ _).trans (Cert.XaBwdIdeal.Value.final6 m c).symm

end Cert.XaClaim

end
-- ==== Proof.XaFwdSpec.lean ====
module

public import proofs.«01_k».proof.Proof.XaSpec

/-! # Attention, one query of one head at a time -/

@[expose] public section

noncomputable section

namespace Cert.XaSpec

open Idealize.ShloMosaic

/-- What a query gets back: the values, each by its weight. -/
def att (x : Feat) (K V : Rows) (d : Fin 256) : EReal := ∑ k, pr x K k * V k d

/-- … for a row of four heads of queries. -/
def attRow (w : Fin 1024 → EReal) (kv : Fin 256 → Fin 2048 → EReal) (c : Fin 1024) : EReal :=
  att (part (headOf c.val) w) (keys (headOf c.val) kv) (vals (headOf c.val) kv) (featOf c.val)

theorem attRow_col (w : Fin 1024 → EReal) (kv : Fin 256 → Fin 2048 → EReal) (h : Fin 4) (d : Fin 256) :
    attRow w kv (col h d) = att (part h w) (keys h kv) (vals h kv) d := by
  unfold attRow
  rw [show (col h d).val = 256 * h.val + d.val from rfl, headOf_add, featOf_add]

/-- … for every row. -/
def attArr {φ : FTy} (kv : Fin 256 → Fin 2048 → EReal) (X : Fin 4096 → Fin 1024 → EReal) : FVec Ideal ⟨2, ![4096, 1024]⟩ φ :=
  fun i => attRow (X (i 0)) kv (i 1)

end Cert.XaSpec

end
-- ==== Proof.XaFwdKernel.lean ====
module

public import proofs.«01_k».proof.Proof.Gen.XaFwdIdeal.Value
public import proofs.«01_k».proof.Proof.XaKernelHead
public import proofs.«01_k».proof.Proof.XaFwdSpec
public import proofs.«01_k».proof.Proof.LnBlock
public import Idealize.ShloMosaic.Lib.Claim

/-! # The array `_xattn_fwd` returns

A head of a block of queries meets the same keys as in the gradient: its weights are those of `XaKernelPoint`. -/

@[expose] public section

set_option maxRecDepth 16384

noncomputable section

namespace Cert.XaFwdIdeal.Value

open Cert.XaFwdIdeal Cert.XaFwdIdeal.Gen Idealize.ShloMosaic Idealize.ShloMosaic.TcCoe Idealize.SL.Sem Cert.XaSpec Cert.LnSpec
open Idealize.ShloMosaic.Pipeline (Dat)
open Cert.LnBlock (row)
open Cert.XaBwdIdeal.Value (feat rows prs prs_at cut cut_at take take_at col_eq)

/-- What the queries `q` get back from the keys `k` and the values `v`. -/
def atts (q : FVec Ideal S512x256 .f32) (k v : FVec Ideal S256x256 .f32) : FVec Ideal S512x256 .bf16 :=
  truncf .bf16 (matmul dot_S512x256_S256x256_S512x256_1_0_0_1_n_n none (truncf .bf16 (prs q k) bitsLt_bf16_f32) (truncf .bf16 v bitsLt_bf16_f32)
    (constant S512x256 .f32 0x00000000#32)) bitsLt_bf16_f32

theorem atts_at (q : FVec Ideal S512x256 .f32) (k v : FVec Ideal S256x256 .f32) (r : Fin 512) (d : Fin 256) :
    atts q k v (ix2 r d) = att (feat q r) (rows k) (rows v) d := by
  unfold att
  simp only [← prs_at]
  unfold rows
  pointwise [atts]

theorem head_at' (h : Fin 4) (o oV : ℕ) (ho) (hk) (hv) (e : o = 256 * h.val) (eV : oV = 1024 + 256 * h.val)
    (X : FVec Ideal S512x1024 .f32) (M : FVec Ideal S256x2048 .f32) (r : Fin 512) (d : Fin 256) :
    atts (cut o ho X) (take o hk M) (take oV hv M) (ix2 r d) = attRow (mat X r) (mat M) (col h d) := by
  rw [atts_at, attRow_col, cut_at h o ho e X, show rows (take o hk M) = keys h (mat M) from funext fun j => funext fun d => take_at o hk M j d (kcol h d) (by rw [e]; rfl),
    show rows (take oV hv M) = vals h (mat M) from funext fun j => funext fun d => take_at oV hv M j d (vcol h d) (by rw [eV]; rfl)]

/-- One head of a block of queries `X` over the memory `M`. -/
theorem head_at (h : Fin 4) (o oV : ℕ) (ho) (hk) (hv) (e : o = 256 * h.val) (eV : oV = 1024 + 256 * h.val)
    (X : FVec Ideal S512x1024 .f32) (M : FVec Ideal S256x2048 .f32) {y : S512x1024.Idx} {x : S512x256.Idx} (h0 : (y 0).val = (x 0).val)
    (h1 : (y 1).val = o + (x 1).val) : atts (cut o ho X) (take o hk M) (take oV hv M) x = attRow (mat X (y 0)) (mat M) (y 1) := by
  rw [col_eq h h0 (h1.trans (by rw [e])), eq_ix2 x]
  exact head_at' h o oV ho hk hv e eV X M (x 0) (x 1)

section
variable (x0 : FVec Ideal S512x1024 .bf16) (x1 : FVec Ideal S1024x1024 .bf16) (M : FVec Ideal S256x2048 .f32)

/-- The block's queries. -/
def qs : FVec Ideal S512x1024 .f32 := k0_pay9 x0 x1 M

theorem piece0 : k0_pay3 (F := Ideal) (View.ld x0 r0_0) (View.ld x1 r0_1) (View.ld M r0_2) (View.ld M r0_3) = atts (cut 0 slices_S512x1024_o0_0_S512x256 (qs x0 x1 M))
    (take 0 inb_S256x2048_S256x256_0_0 M) (take 1024 inb_S256x2048_S256x256_0_1024 M) := rfl
theorem piece1 : k0_pay6 (F := Ideal) (k0_pay4 (View.ld M r0_6)) (k0_pay5 (View.ld x0 r0_0) (View.ld x1 r0_1) (View.ld M r0_5))
    = atts (cut 256 slices_S512x1024_o0_256_S512x256 (qs x0 x1 M)) (take 256 inb_S256x2048_S256x256_0_256 M) (take 1280 inb_S256x2048_S256x256_0_1280 M) := rfl
theorem piece2 : k0_pay7 (F := Ideal) (k0_pay9 x0 x1 M) (View.ld M r0_8) (View.ld M r0_9) = atts (cut 512 slices_S512x1024_o0_512_S512x256 (qs x0 x1 M))
    (take 512 inb_S256x2048_S256x256_0_512 M) (take 1536 inb_S256x2048_S256x256_0_1536 M) := rfl
theorem piece3 : k0_pay1 (F := Ideal) (k0_pay8 (k0_pay9 x0 x1 M)) (View.ld M r0_11) (View.ld M r0_12) = atts (cut 768 slices_S512x1024_o0_768_S512x256 (qs x0 x1 M))
    (take 768 inb_S256x2048_S256x256_0_768 M) (take 1792 inb_S256x2048_S256x256_0_1792 M) := rfl

/-- What the block's queries get back. -/
theorem out3 (y : S512x1024.Idx) : out0_3 (F := Ideal) x0 x1 M y = attRow (mat (qs x0 x1 M) (y 0)) (mat M) (y 1) := by
  unfold out0_3
  rw [piece0, piece1, piece2, piece3]
  canon_tiles x h
  · exact head_at 3 768 1792 _ _ _ rfl rfl (qs x0 x1 M) M h0 h1
  · exact head_at 2 512 1536 _ _ _ rfl rfl (qs x0 x1 M) M h0 h1
  · exact head_at 1 256 1280 _ _ _ rfl rfl (qs x0 x1 M) M h0 h1
  · exact head_at 0 0 1024 _ _ _ rfl rfl (qs x0 x1 M) M h0 (h1.trans (Nat.zero_add _).symm)
end

variable (m : (ℓ : Loc nD τ sig) → Buf (Elt Ideal) ℓ) (c : Dev nD) (t : Fin cfg0.N)

/-- The block's queries. -/
def qB : FVec Ideal S512x1024 .f32 := qs (iblk m c 0 t) (iblk m c 1 t) (iblk m c 2 t)

/-- The keys and values. -/
def mB : FVec Ideal S256x2048 .f32 := iblk m c 2 t

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The queries. -/
def qA : Fin 4096 → Fin 1024 → EReal := prod (mat (m ((c : Thread nD τ).loc main_arg0))) (mat (m ((c : Thread nD τ).loc main_arg1)))

/-- The keys and values. -/
def mA : Fin 256 → Fin 2048 → EReal := prod (mat (m ((c : Thread nD τ).loc main_arg2))) (mat (m ((c : Thread nD τ).loc main_arg3)))

theorem opnd0_at (i : Fin 4096) (j : Fin 1024) : (V m c main_v0 : FVec Ideal S4096x1024 .bf16) (ix2 i j) = m ((c : Thread nD τ).loc main_arg0) (ix2 i j) := by
  entry_read
  pointwise

theorem opnd1_at (i : Fin 1024) (j : Fin 1024) : (V m c main_v1 : FVec Ideal S1024x1024 .bf16) (ix2 i j) = m ((c : Thread nD τ).loc main_arg1) (ix2 i j) := by
  entry_read
  pointwise

theorem opnd2_at (i : Fin 256) (j : Fin 2048) : (V m c main_v2 : FVec Ideal S256x2048 .f32) (ix2 i j) = mA m c i j := by
  entry_read
  pointwise [mA, prod, mat]

theorem block0 (r : Fin 512) (k : Fin 1024) : (iblk m c 0 t : FVec Ideal S512x1024 .bf16) (ix2 r k)
    = m ((c : Thread nD τ).loc main_arg0) (ix2 (row t r) k) := by
  refine Eq.trans ?_ (opnd0_at m c (row t r) k)
  unfold row
  blk_ext! [iblk, idx t]

theorem block1 (r : Fin 1024) (k : Fin 1024) : (iblk m c 1 t : FVec Ideal S1024x1024 .bf16) (ix2 r k)
    = m ((c : Thread nD τ).loc main_arg1) (ix2 r k) := by
  refine Eq.trans ?_ (opnd1_at m c r k)
  blk_ext! [iblk, idx t]

theorem rows_m : mat (mB m c t) = mA m c := by
  funext i j
  refine Eq.trans ?_ (opnd2_at m c i j)
  unfold mat mB
  blk_ext! [iblk, idx t]

theorem rows_q (r : Fin 512) : mat (qB m c t) r = qA m c (row t r) := by
  funext j
  unfold qA prod mat
  simp only [← block0 m c t, ← block1 m c t]
  unfold qB qs k0_pay9
  pointwise [k0_pay2]

theorem row3 (r : Fin 512) (k : Fin 1024) : out0_3 (F := Ideal) (iblk m c 0 t) (iblk m c 1 t) (iblk m c 2 t) (ix2 r k) = attRow (qA m c (row t r)) (mA m c) k := by
  rw [out3]
  refine Eq.trans (b := attRow (mat (qB m c t) r) (mat (mB m c t)) k) rfl ?_
  rw [rows_q, rows_m]

theorem final3 : (dats m 0 c).arrAt 3 (cfgs 0).N = (attArr (mA m c) (qA m c) : FVec Ideal S4096x1024 .bf16) := by
  refine (dats m 0 c).arrAt_eq_of_covers 3 _ (by decide +kernel) fun t _ y => ?_
  blk_simp
  rw [after0_3]
  have e : (win0_3.blk t).view.emb y = ix2 (row t (y 0)) (y 1) := by
    unfold row
    blk_ext! [idx t]
  rw [e]
  refine Eq.trans ?_ (row3 m c t (y 0) (y 1))
  exact congrArg (out0_3 (iblk m c 0 t) (iblk m c 1 t) (iblk m c 2 t)) (by funext a; fin_cases a <;> rfl)

end Cert.XaFwdIdeal.Value

end
-- ==== Proof.XaFwdReference.lean ====
module

public import proofs.«01_k».proof.Proof.Gen.XaFwdRefIdeal.Read
public import proofs.«01_k».proof.Proof.XaReference
public import proofs.«01_k».proof.Proof.XaFwdSpec

/-! # The array the reference returns at the attention over the memory

The weights are those the reference's gradient computes first: `XaReference` reads them. -/

@[expose] public section

set_option maxRecDepth 16384

noncomputable section

namespace Cert.XaFwdRefIdeal.Read

open Cert.XaFwdRefIdeal Cert.XaFwdRefIdeal.Gen Idealize.ShloMosaic Idealize.ShloMosaic.TcCoe Idealize.SL.Sem Cert.LnSpec Cert.XaSpec
open Cert.XaRefIdeal.Read (qR mR)

variable (H : FVec Ideal S4096x1024 .f32) (Q : FVec Ideal S1024x1024 .f32) (M : FVec Ideal S256x1024 .f32) (K : FVec Ideal S1024x2048 .f32)

theorem weights_eq : val_main_v21 (F := Ideal) H Q M K = Cert.XaRefIdeal.Read.val_main_v35 (F := Ideal) H Q M K := rfl

theorem values_eq : val_main_v7 (F := Ideal) M K = Cert.XaRefIdeal.Read.val_main_v7 (F := Ideal) M K := rfl

theorem att_at (r : Fin 4096) (c : Fin 1024) : val_main_v25 (F := Ideal) H Q M K (ix2 r c) = attRow (qR H Q r) (mR M K) c := by
  rw [val_main_v25_apply]
  have e : idx_main_v25 (ix2 r c) = ix3 0 r c := by
    funext a
    apply Fin.ext
    match a with
    | ⟨0, _⟩ => rfl
    | ⟨1, _⟩ => show (r.val * 1024 + c.val) / 1024 % 4096 = r.val; omega
    | ⟨2, _⟩ => show (r.val * 1024 + c.val) % 1024 = c.val; omega
  rw [e, val_main_v24_apply, val_main_v23_apply]
  refine (congrArg _ (?_ : _ = ix4 0 (headOf c.val) (featOf c.val) r)).trans ?_
  · funext a
    apply Fin.ext
    match a with
    | ⟨0, _⟩ => rfl
    | ⟨1, _⟩ => show ((0 * 4096 + r.val) * 1024 + c.val) / 256 % 4 = c.val / 256 % 4; omega
    | ⟨2, _⟩ => show ((0 * 4096 + r.val) * 1024 + c.val) % 256 = c.val % 256; omega
    | ⟨3, _⟩ => show ((0 * 4096 + r.val) * 1024 + c.val) / 1024 % 4096 = r.val; omega
  · rw [val_main_v22_apply, weights_eq, values_eq]
    exact Finset.sum_congr rfl fun j _ => (mul_comm _ _).trans (congrArg₂ (· * ·)
      ((congrArg _ (by funext a; fin_cases a <;> rfl)).trans (Cert.XaRefIdeal.Read.pr_at H Q M K _ r j))
      ((congrArg _ (by funext a; fin_cases a <;> rfl)).trans (Cert.XaRefIdeal.Read.v_at M K _ j _)))

theorem att_arr : val_main_v26 (F := Ideal) H Q M K = (attArr (mR M K) (qR H Q) : FVec Ideal S4096x1024 .bf16) := by
  refine funext fun i => ?_
  refine Eq.trans (b := val_main_v25 (F := Ideal) H Q M K (ix2 (i 0) (i 1))) ?_ (att_at H Q M K (i 0) (i 1))
  rw [val_main_v26_apply]
  exact congrArg (val_main_v25 (F := Ideal) H Q M K) (by funext a; fin_cases a <;> rfl)

end Cert.XaFwdRefIdeal.Read

end
-- ==== Proof.XaFwdClaim.lean ====
module

public import proofs.«01_k».proof.Defs
public import proofs.«01_k».proof.Proof.Gen.XaFwd
public import proofs.«01_k».proof.Proof.Gen.XaFwdRefIdeal
public import proofs.«01_k».proof.Proof.XaFwdKernel
public import proofs.«01_k».proof.Proof.XaFwdReference
public import Idealize.ShloMosaic.Lib.Claim

/-! # `_xattn_fwd`: the claims of the pair -/

@[expose] public section

set_option maxRecDepth 16384

noncomputable section

namespace Cert.XaFwdClaim

open Idealize.ShloMosaic Idealize.SL.Sem

local instance : Cert.XaFwd.Facts := Cert.XaFwd.Gen.facts
local instance : Cert.XaFwdIdeal.Facts := Cert.XaFwdIdeal.Gen.facts
local instance : Cert.XaFwdRefIdeal.Facts := Cert.XaFwdRefIdeal.Gen.facts

theorem frame_ideal : Cert.quiescent_XaFwdIdeal := fun m g _ => Cert.XaFwdIdeal.Gen.frame m g

theorem main_eq : Cert.XaFwd.main (F := Bits) = Cert.XaFwdIdeal.main (F := Bits) := rfl

theorem defs_eq : Cert.XaFwd.defs (F := Bits) = Cert.XaFwdIdeal.defs (F := Bits) := by sl_kernel_rfl

/-- The kernel's program is its idealized program over the machine's floats: one run serves both. -/
theorem frame_kernel : Cert.quiescent_XaFwd := fun m g _ => by
  rw [defs_eq, main_eq]
  exact Cert.XaFwdIdeal.Gen.frame (F := Bits) m g

theorem frame_reference : Cert.quiescent_XaFwdRefIdeal := by
  intro m g _
  exact (θ_run _ _ _).mono (fun r h => ⟨fun c => (h c).2, sem_eq_zero_of_no_sems rfl _⟩) (Cert.XaFwdRefIdeal.Value.run m g)

set_option maxHeartbeats 1600000 in
theorem algebraic : Cert.algebraic_XaFwdIdeal_XaFwdRefIdeal := by
  pair_intro
  · run_from Cert.XaFwdIdeal.Gen.run_main m g
  · refine (θ_run _ _ _).mono (fun r h c => ?_) (Cert.XaFwdRefIdeal.Value.run m' g')
    obtain ⟨a26, rest⟩ := h c
    obtain ⟨e0, e1, e2, e3⟩ := hagree c
    refine ⟨(a26.trans (Cert.XaFwdRefIdeal.Read.val_main_v26_eq m' c)).trans ?_, rest⟩
    rw [e0, e1, e2, e3]
    exact (Cert.XaFwdRefIdeal.Read.att_arr _ _ _ _).trans (Cert.XaFwdIdeal.Value.final3 m c).symm

end Cert.XaFwdClaim

end
-- ==== Proof.SwSpec.lean ====
module

public import proofs.«01_k».proof.Proof.LnSpec
public import Idealize.ShloMosaic.Lib.Pointwise
public import Idealize.ShloMosaic.Lib.IdealHost

/-! # Attention in a sliding window, one query of one head at a time

A query of 64 features meets the 128 keys of the block before its own and the 128 of its own block. Of both only those within 128
positions before it count; the others' logits are minus infinity. A learned number, the sink, joins the sum of the exponentials. -/

@[expose] public section

noncomputable section

namespace Cert.SwSpec

open Idealize.ShloMosaic

/-- One head's features of one position. -/
abbrev Feat := Fin 64 → EReal

/-- The keys or the values of a block. -/
abbrev Rows := Fin 128 → Feat

/-- One number for each key of a block. -/
abbrev Per := Fin 128 → EReal

/-- One over the square root of the number of features, as its word. -/
def scale : EReal := Ideal.ofBits .f32 0x3E000000#32

/-- Minus infinity, as its word. -/
def low : EReal := Ideal.ofBits .f32 0xFF800000#32

/-- The logits of a block's keys. -/
def logits (P : Fin 128 → Prop) [DecidablePred P] (x : Feat) (K : Rows) (b : Per) (c : Fin 128) : EReal :=
  if P c then (∑ d, x d * K c d) * scale + b c else low

/-- Which keys of the block before count for row `r`, `h` being that there is one; which of the row's own. -/
def before (h : Prop) (r c : Fin 128) : Prop := h ∧ r.val < c.val
def within (r c : Fin 128) : Prop := c.val ≤ r.val

instance (h : Prop) [Decidable h] (r : Fin 128) : DecidablePred (before h r) := fun _ => inferInstanceAs (Decidable (_ ∧ _))
instance (r : Fin 128) : DecidablePred (within r) := fun _ => inferInstanceAs (Decidable (_ ≤ _))

section
variable (a b : Per) (s : EReal)

/-- The largest of the logits `a`, `b` and of the sink. -/
def top : EReal := max (max (Finset.univ.fold max low a) (Finset.univ.fold max low b)) s

/-- A logit's exponential. -/
def ex (l : EReal) : EReal := Ideal.exp (l - top a b s)

/-- The exponentials' sum. -/
def tot : EReal := ∑ c, ex a b s (a c) + ∑ c, ex a b s (b c) + ex a b s s

/-- A logit's weight. -/
def wt (l : EReal) : EReal := Ideal.div (ex a b s l) (tot a b s)

/-- What the query gets back. -/
def att (V W : Rows) (d : Fin 64) : EReal := ∑ c, wt a b s (a c) * V c d + ∑ c, wt a b s (b c) * W c d
end

/-! ## The arrays -/

/-- The group of keys that head `h` uses. -/
def grp (h : Fin 8) : Fin 2 := ⟨h.val / 4, by omega⟩

/-- Where head or group and feature stand in a row. -/
def hcol (h : Fin 8) (d : Fin 64) : Fin 512 := ⟨64 * h.val + d.val, by omega⟩
def gcol (g : Fin 2) (d : Fin 64) : Fin 128 := ⟨64 * g.val + d.val, by omega⟩

/-- Head and feature of a column. -/
def hd (k : Fin 512) : Fin 8 := ⟨k.val / 64, by omega⟩
def ft (k : Fin 512) : Fin 64 := ⟨k.val % 64, by omega⟩

/-- Row `r` of block `n`; the block before. -/
def pos (n : Fin 32) (r : Fin 128) : Fin 4096 := ⟨128 * n.val + r.val, by omega⟩
def prev (n : Fin 32) : Fin 32 := ⟨n.val - 1, by omega⟩

/-- The queries', the keys' and the values' columns of the projection. -/
def qcol (k : Fin 512) : Fin 2824 := ⟨2056 + k.val, by omega⟩
def kcol (k : Fin 128) : Fin 2824 := ⟨2568 + k.val, by omega⟩
def vcol (k : Fin 128) : Fin 2824 := ⟨2696 + k.val, by omega⟩

/-- The bias's columns for the block before and for the block itself. -/
def lo (c : Fin 128) : Fin 256 := ⟨c.val, by omega⟩
def hi (c : Fin 128) : Fin 256 := ⟨128 + c.val, by omega⟩

/-- An array of three axes, by its coordinates. -/
def cube {A B C : ℕ} (x : (⟨3, ![A, B, C]⟩ : Shape).Idx → EReal) : Fin A → Fin B → Fin C → EReal := fun i j k => x (ix3 i j k)

section
variable (P : Fin 4096 → Fin 2824 → EReal) (b : Fin 8 → Fin 128 → Fin 256 → EReal) (s : Fin 8 → EReal) (n : Fin 32) (h : Fin 8) (r : Fin 128)

/-- A query, the keys and the values of a block. -/
def query : Feat := fun d => P (pos n r) (qcol (hcol h d))
def keys (g : Fin 2) : Rows := fun c d => P (pos n c) (kcol (gcol g d))
def vals (g : Fin 2) : Rows := fun c d => P (pos n c) (vcol (gcol g d))

/-- A query's logits. -/
def lgBefore : Per := logits (before (0 < n.val) r) (query P n h r) (keys P (prev n) (grp h)) fun c => b h r (lo c)
def lgWithin : Per := logits (within r) (query P n h r) (keys P n (grp h)) fun c => b h r (hi c)

/-- What a query gets back. -/
def attAt (d : Fin 64) : EReal := att (lgBefore P b n h r) (lgWithin P b n h r) (s h) (vals P (prev n) (grp h)) (vals P n (grp h)) d

/-- … for every row and every head. -/
def attArr {φ : FTy} : FVec Ideal ⟨2, ![4096, 512]⟩ φ :=
  fun i => attAt P b s ⟨(i 0).val / 128, by have : (i 0).val < 4096 := (i 0).isLt; omega⟩ (hd (i 1)) ⟨(i 0).val % 128, by omega⟩ (ft (i 1))

theorem attArr_at {φ : FTy} (k : Fin 512) : (attArr P b s : FVec Ideal ⟨2, ![4096, 512]⟩ φ) (ix2 (pos n r) k) = attAt P b s n (hd k) r (ft k) := by
  show attAt P b s ⟨(128 * n.val + r.val) / 128, _⟩ (hd k) ⟨(128 * n.val + r.val) % 128, _⟩ (ft k) = _
  congr 1
  · exact Fin.ext (by show (128 * n.val + r.val) / 128 = n.val; omega)
  · exact Fin.ext (by show (128 * n.val + r.val) % 128 = r.val; omega)
end

end Cert.SwSpec

end
-- ==== Proof.SwPoint.lean ====
module

public import proofs.«01_k».proof.Proof.Gen.SwaFwdIdeal.Frame
public import proofs.«01_k».proof.Proof.SwSpec
public import Idealize.ShloMosaic.Lib.Pipeline.ValueKit
public import Idealize.ShloMosaic.Lib.Affine

/-! # What a grid point of the sliding-window attention computes for its eight heads -/

@[expose] public section

set_option maxRecDepth 16384

noncomputable section

namespace Cert.SwPoint

open Cert.SwaFwdIdeal Cert.SwaFwdIdeal.Gen Idealize.ShloMosaic Idealize.ShloMosaic.TcCoe Idealize.SL.Sem Cert.SwSpec

/-- Keys or values, each group four times. -/
def rep (v : FVec Ideal S2x128x64 .f32) : FVec Ideal S8x128x64 .f32 :=
  concatenate S8x128x64 0 [⟨S1x128x64, extractStridedSlice S1x128x64 ![0, 0, 0] v slices_S2x128x64_o0_0_0_S1x128x64⟩,
    ⟨S1x128x64, extractStridedSlice S1x128x64 ![0, 0, 0] v slices_S2x128x64_o0_0_0_S1x128x64⟩,
    ⟨S1x128x64, extractStridedSlice S1x128x64 ![0, 0, 0] v slices_S2x128x64_o0_0_0_S1x128x64⟩,
    ⟨S1x128x64, extractStridedSlice S1x128x64 ![0, 0, 0] v slices_S2x128x64_o0_0_0_S1x128x64⟩,
    ⟨S1x128x64, extractStridedSlice S1x128x64 ![1, 0, 0] v slices_S2x128x64_o1_0_0_S1x128x64⟩,
    ⟨S1x128x64, extractStridedSlice S1x128x64 ![1, 0, 0] v slices_S2x128x64_o1_0_0_S1x128x64⟩,
    ⟨S1x128x64, extractStridedSlice S1x128x64 ![1, 0, 0] v slices_S2x128x64_o1_0_0_S1x128x64⟩,
    ⟨S1x128x64, extractStridedSlice S1x128x64 ![1, 0, 0] v slices_S2x128x64_o1_0_0_S1x128x64⟩]
    concatenates_S1x128x64_S1x128x64_S1x128x64_S1x128x64_S1x128x64_S1x128x64_S1x128x64_S1x128x64_S8x128x64_d0

theorem rep_at (v : FVec Ideal S2x128x64 .f32) (h : Fin 8) (c : Fin 128) (d : Fin 64) : rep v (ix3 h c d) = v (ix3 (grp h) c d) := by
  refine (concatenate_ofFn_unit_apply (t := S8x128x64) (s₁ := S1x128x64) 0
    (fun n : Fin 8 => if n.val < 4 then extractStridedSlice S1x128x64 ![0, 0, 0] v slices_S2x128x64_o0_0_0_S1x128x64
      else extractStridedSlice S1x128x64 ![1, 0, 0] v slices_S2x128x64_o1_0_0_S1x128x64)
    concatenates_S1x128x64_S1x128x64_S1x128x64_S1x128x64_S1x128x64_S1x128x64_S1x128x64_S1x128x64_S8x128x64_d0 rfl rfl (ix3 h c d) h rfl (ix3 0 c d) ?_).trans ?_
  · intro b hb
    fin_cases b
    · exact absurd rfl hb
    · rfl
    · rfl
  · by_cases hh : h.val < 4
    · refine (congrFun (if_pos hh) _).trans (congrArg v (funext fun a => Fin.ext ?_))
      match a with
      | ⟨0, _⟩ => show 0 + 0 = h.val / 4; omega
      | ⟨1, _⟩ => show 0 + c.val = c.val; omega
      | ⟨2, _⟩ => show 0 + d.val = d.val; omega
    · refine (congrFun (if_neg hh) _).trans (congrArg v (funext fun a => Fin.ext ?_))
      match a with
      | ⟨0, _⟩ => show 1 + 0 = h.val / 4; omega
      | ⟨1, _⟩ => show 0 + c.val = c.val; omega
      | ⟨2, _⟩ => show 0 + d.val = d.val; omega

/-- The sinks, one per head. -/
theorem sink_at (x : FVec Ideal S1x128 .f32) (h : Fin 8) : k0_pay11 (F := Ideal) x (ix3 h 0 0) = x (ix2 0 ⟨h.val, by omega⟩) := by
  pointwise [k0_pay11]
  refine (Finset.sum_eq_single (⟨h.val, by omega⟩ : Fin 128) (fun b _ hb => if_neg ?_) (fun hh => absurd (Finset.mem_univ _) hh)).trans
    (if_pos ?_)
  · exact fun e => hb (Fin.ext ((WordCmp.cmpi_eq_ofNat_eq_one_iff (by omega) (by omega)).mp e))
  · exact (WordCmp.cmpi_eq_ofNat_eq_one_iff (by show h.val < _; omega) (by omega)).mpr rfl

/-- Logits. -/
def lgs (q : FVec Ideal S8x128x64 .f32) (k : FVec Ideal S2x128x64 .f32) (b : FVec Ideal S8x128x128 .f32) (m : IVec S8x128x128 1) : FVec Ideal S8x128x128 .f32 :=
  select m (addf (mulf (matmul dot_S8x128x64_S8x128x64_S8x128x128_2_2_1_1_0_0 none (truncf .bf16 q bitsLt_bf16_f32) (truncf .bf16 (rep k) bitsLt_bf16_f32)
    (constant S8x128x128 .f32 0x00000000#32)) (broadcast S8x128x128 (Scalar.ofBits .f32 0x3E000000#32))) b) (broadcast S8x128x128 (Scalar.ofBits .f32 0xFF800000#32))

theorem lgs_at (q : FVec Ideal S8x128x64 .f32) (k : FVec Ideal S2x128x64 .f32) (b : FVec Ideal S8x128x128 .f32) (m : IVec S8x128x128 1) (h : Fin 8) (r c : Fin 128) :
    lgs q k b m (ix3 h r c) = if m (ix3 h r c) = 1#1 then (∑ d, q (ix3 h r d) * k (ix3 (grp h) c d)) * scale + b (ix3 h r c) else low := by
  unfold scale low
  pointwise [lgs, rep_at]
  rfl

/-- The mask of the block before. -/
theorem mask_at (n : Fin 32) (h : Fin 8) (r c : Fin 128) : (k0_pay12 (BitVec.ofNat 32 n.val) (ix3 h r c) = 1#1) ↔ before (0 < n.val) r c := by
  unfold before
  pointwise [k0_pay12]
  rw [IntOp.andi_eq_one, show Scalar.cmpi .sgt (BitVec.ofNat 32 n.val) 0#32 = IntOp.cmpi .sgt (BitVec.ofNat 32 n.val) (BitVec.ofNat 32 0) from rfl,
    WordCmp.cmpi_sgt_ofNat_eq_one_iff (by omega) (by omega), WordCmp.cmpi_sgt_ofNat_eq_one_iff (by omega) (by omega)]
  exact and_comm

theorem mask'_at (h : Fin 8) (r c : Fin 128) :
    (cmpi .sle (iota .tc S8x128x128 32 [2] iota_S8x128x128_d2_w32) (iota .tc S8x128x128 32 [1] iota_S8x128x128_d1_w32) (ix3 h r c) = 1#1) ↔ within r c := by
  unfold within
  pointwise
  rw [WordCmp.cmpi_sle_ofNat_eq_one_iff (by omega) (by omega)]

/-- The largest logits. -/
def tops (a b : FVec Ideal S8x128x128 .f32) (s : FVec Ideal S8x1x1 .f32) : FVec Ideal S8x128x1 .f32 :=
  maximumf (maximumf (shapeCast S8x128x1 (multiReduction .maximumf [2] S8x128 a 0xFF800000#32 reduces_S8x128x128_S8x128 (.inl rfl) rfl) shapeCasts_S8x128_S8x128x1)
    (shapeCast S8x128x1 (multiReduction .maximumf [2] S8x128 b 0xFF800000#32 reduces_S8x128x128_S8x128 (.inl rfl) rfl) shapeCasts_S8x128_S8x128x1))
    (broadcastTo S8x128x1 s broadcasts_S8x1x1_S8x128x1)

theorem fold_at (a : FVec Ideal S8x128x128 .f32) (h : Fin 8) (r : Fin 128) :
    multiReduction (F := Ideal) .maximumf [2] S8x128 a 0xFF800000#32 reduces_S8x128x128_S8x128 (.inl rfl) rfl (ix2 h r)
    = Finset.univ.fold max low (fun c : Fin 128 => a (ix3 h r c)) := by
  unfold low
  refine (Ideal.multiReduction_maximumf_single _ _ _ _ _ _).trans ?_
  refine congrArg (fun f => Finset.fold max _ f _) (funext fun (j : Fin 128) => ?_)
  exact congrArg a (eq_ix3 _)

/-- One row's numbers. -/
def rowOf (a : FVec Ideal S8x128x128 .f32) (h : Fin 8) (r : Fin 128) : Per := fun c => a (ix3 h r c)

variable (a b : FVec Ideal S8x128x128 .f32) (s : FVec Ideal S8x1x1 .f32) (h : Fin 8) (r : Fin 128)

theorem tops_at : tops a b s (ix3 h r 0) = top (rowOf a h r) (rowOf b h r) (s (ix3 h 0 0)) := by
  unfold top rowOf
  rw [← fold_at, ← fold_at]
  pointwise [tops]

/-- The exponentials. -/
def exs (l a b : FVec Ideal S8x128x128 .f32) (s : FVec Ideal S8x1x1 .f32) : FVec Ideal S8x128x128 .f32 :=
  exp (subf l (broadcastTo S8x128x128 (tops a b s) broadcasts_S8x128x1_S8x128x128))

theorem exs_at (l : FVec Ideal S8x128x128 .f32) (c : Fin 128) :
    exs l a b s (ix3 h r c) = ex (rowOf a h r) (rowOf b h r) (s (ix3 h 0 0)) (l (ix3 h r c)) := by
  unfold ex
  rw [← tops_at]
  pointwise [exs]

/-- Their sums. -/
def tots : FVec Ideal S8x128x1 .f32 :=
  addf (addf (shapeCast S8x128x1 (multiReduction .add [2] S8x128 (exs a a b s) 0x00000000#32 reduces_S8x128x128_S8x128 (.inl rfl) rfl) shapeCasts_S8x128_S8x128x1)
    (shapeCast S8x128x1 (multiReduction .add [2] S8x128 (exs b a b s) 0x00000000#32 reduces_S8x128x128_S8x128 (.inl rfl) rfl) shapeCasts_S8x128_S8x128x1))
    (exp (subf (broadcastTo S8x128x1 s broadcasts_S8x1x1_S8x128x1) (tops a b s)))

theorem tots_at : tots a b s (ix3 h r 0) = tot (rowOf a h r) (rowOf b h r) (s (ix3 h 0 0)) := by
  have e (l : FVec Ideal S8x128x128 .f32) : ∀ c : Fin 128, ex (rowOf a h r) (rowOf b h r) (s (ix3 h 0 0)) (rowOf l h r c) = exs l a b s (ix3 h r c) :=
    fun c => (exs_at a b s h r l c).symm
  unfold tot
  simp only [e]
  rw [show ex (rowOf a h r) (rowOf b h r) (s (ix3 h 0 0)) (s (ix3 h 0 0)) = Ideal.exp (s (ix3 h 0 0) - tops a b s (ix3 h r 0)) from by rw [tops_at]; rfl]
  pointwise [tots]

/-- The weights. -/
def wts (l a b : FVec Ideal S8x128x128 .f32) (s : FVec Ideal S8x1x1 .f32) : FVec Ideal S8x128x128 .f32 :=
  divf (exs l a b s) (broadcastTo S8x128x128 (tots a b s) broadcasts_S8x128x1_S8x128x128)

theorem wts_at (l : FVec Ideal S8x128x128 .f32) (c : Fin 128) :
    wts l a b s (ix3 h r c) = wt (rowOf a h r) (rowOf b h r) (s (ix3 h 0 0)) (l (ix3 h r c)) := by
  unfold wt
  rw [← exs_at, ← tots_at]
  pointwise [wts]

/-- What the queries get back. -/
def outs (v w : FVec Ideal S2x128x64 .f32) : FVec Ideal S8x128x64 .f32 :=
  addf (matmul dot_S8x128x128_S8x128x64_S8x128x64_2_1_1_2_0_0 none (truncf .bf16 (wts a a b s) bitsLt_bf16_f32) (truncf .bf16 (rep v) bitsLt_bf16_f32)
    (constant S8x128x64 .f32 0x00000000#32))
    (matmul dot_S8x128x128_S8x128x64_S8x128x64_2_1_1_2_0_0 none (truncf .bf16 (wts b a b s) bitsLt_bf16_f32) (truncf .bf16 (rep w) bitsLt_bf16_f32)
    (constant S8x128x64 .f32 0x00000000#32))

/-- One group's keys or values. -/
def rowsOf (v : FVec Ideal S2x128x64 .f32) (g : Fin 2) : Rows := fun c d => v (ix3 g c d)

theorem outs_at (v w : FVec Ideal S2x128x64 .f32) (d : Fin 64) :
    outs a b s v w (ix3 h r d) = att (rowOf a h r) (rowOf b h r) (s (ix3 h 0 0)) (rowsOf v (grp h)) (rowsOf w (grp h)) d := by
  have e (l : FVec Ideal S8x128x128 .f32) : ∀ c : Fin 128, wt (rowOf a h r) (rowOf b h r) (s (ix3 h 0 0)) (rowOf l h r c) = wts l a b s (ix3 h r c) :=
    fun c => (wts_at a b s h r l c).symm
  unfold att
  simp only [e]
  unfold rowsOf
  pointwise [outs, rep_at]

end Cert.SwPoint

end
-- ==== Proof.SwaFwdKernel.lean ====
module

public import proofs.«01_k».proof.Proof.SwPoint
public import proofs.«01_k».proof.Proof.Gen.SwaFwdIdeal.Value
public import Idealize.ShloMosaic.Lib.Claim

/-! # The array `_swa_fwd` returns -/

@[expose] public section

set_option maxRecDepth 16384

noncomputable section

namespace Cert.SwaFwdIdeal.Value

open Cert.SwaFwdIdeal Cert.SwaFwdIdeal.Gen Idealize.ShloMosaic Idealize.ShloMosaic.TcCoe Idealize.SL.Sem Cert.SwSpec Cert.SwPoint Cert.LnSpec
open Idealize.ShloMosaic.Pipeline (Dat)

/-! ## A block -/

/-- One head of what the queries get back. -/
def slab (o : ℕ) (ho : S8x128x64.Slices ![o, 0, 0] S1x128x64) (v : FVec Ideal S8x128x64 .f32) : FVec Ideal S128x64 .bf16 :=
  truncf .bf16 (shapeCast S128x64 (extractStridedSlice S1x128x64 ![o, 0, 0] v ho) shapeCasts_S1x128x64_S128x64) bitsLt_bf16_f32

theorem slab_at (h : Fin 8) (o : ℕ) (ho) (e : o = h.val) (v : FVec Ideal S8x128x64 .f32) (r : Fin 128) (d : Fin 64) :
    slab o ho v (ix2 r d) = v (ix3 h r d) := by
  subst e
  pointwise [slab]

/-- The queries of a block, head by head. -/
def heads (x : FVec Ideal S128x512 .f32) : FVec Ideal S8x128x64 .f32 :=
  k0_pay5 (View.ld x r0_0) (View.ld x r0_1) (View.ld x r0_2) (View.ld x r0_3) (View.ld x r0_4) (View.ld x r0_5) (View.ld x r0_6) (View.ld x r0_7)

/-- The keys or values of a block, group by group. -/
def groups (x : FVec Ideal S128x128 .f32) : FVec Ideal S2x128x64 .f32 := k0_pay6 (View.ld x r0_8) (View.ld x r0_9)

theorem groups_at (x : FVec Ideal S128x128 .f32) (g : Fin 2) (c : Fin 128) (d : Fin 64) : groups x (ix3 g c d) = x (ix2 c (gcol g d)) := by
  fin_cases g <;> pointwise [groups, k0_pay6, gcol]

theorem heads_at (x : FVec Ideal S128x512 .f32) (h : Fin 8) (r : Fin 128) (d : Fin 64) : heads x (ix3 h r d) = x (ix2 r (hcol h d)) := by
  fin_cases h <;> pointwise [heads, k0_pay5, hcol]

/-- The bias of the keys of the block before, and of the block's own. -/
def biasL (x : FVec Ideal S8x128x256 .f32) : FVec Ideal S8x128x128 .f32 := View.ld (Val := Elt Ideal) (S := S8x128x256) (e' := .f32) x r0_10
def biasR (x : FVec Ideal S8x128x256 .f32) : FVec Ideal S8x128x128 .f32 := View.ld (Val := Elt Ideal) (S := S8x128x256) (e' := .f32) x r0_11

theorem biasL_at (x : FVec Ideal S8x128x256 .f32) (h : Fin 8) (r c : Fin 128) : biasL x (ix3 h r c) = x (ix3 h r (lo c)) := by
  pointwise [biasL, lo]
theorem biasR_at (x : FVec Ideal S8x128x256 .f32) (h : Fin 8) (r c : Fin 128) : biasR x (ix3 h r c) = x (ix3 h r (hi c)) := by
  pointwise [biasR, hi]

/-- The sinks, as loaded. -/
def whole (x : FVec Ideal S1x128 .f32) : FVec Ideal S1x128 .f32 := View.ld (Val := Elt Ideal) (S := S1x128) (e' := .f32) x r0_12

theorem whole_at (x : FVec Ideal S1x128 .f32) (j : Fin 128) : whole x (ix2 0 j) = x (ix2 0 j) := by
  pointwise [whole]

section
variable (i : grid0.Coords) (x0 : FVec Ideal S128x512 .f32) (x1 x2 x3 x4 : FVec Ideal S128x128 .f32) (x5 : FVec Ideal S8x128x256 .f32) (x6 : FVec Ideal S1x128 .f32)

/-- The logits of the block before, and of the block itself. -/
def lgB : FVec Ideal S8x128x128 .f32 := lgs (heads x0) (groups x1) (biasL x5) (k0_pay12 (BitVec.ofNat 32 (i 0).val))
def lgC : FVec Ideal S8x128x128 .f32 := lgs (heads x0) (groups x2) (biasR x5)
  (cmpi .sle (iota .tc S8x128x128 32 [2] iota_S8x128x128_d2_w32) (iota .tc S8x128x128 32 [1] iota_S8x128x128_d1_w32))

/-- What the block's queries get back. -/
def blk : FVec Ideal S8x128x64 .f32 := outs (lgB i x0 x1 x5) (lgC x0 x2 x5) (k0_pay11 (whole x6)) (groups x3) (groups x4)

theorem pay43 : k0_pay43 (F := Ideal) i x0 x1 x2 x3 x4 x5 x6 = blk i x0 x1 x2 x3 x4 x5 x6 := rfl

theorem piece7 (v : FVec Ideal S8x128x64 .f32) : k0_pay4 (F := Ideal) v = slab 7 slices_S8x128x64_o7_0_0_S1x128x64 v := rfl
theorem piece6 (v : FVec Ideal S8x128x64 .f32) : k0_pay3 (F := Ideal) v = slab 6 slices_S8x128x64_o6_0_0_S1x128x64 v := rfl
theorem piece5 (v : FVec Ideal S8x128x64 .f32) : k0_pay2 (F := Ideal) v = slab 5 slices_S8x128x64_o5_0_0_S1x128x64 v := rfl
theorem piece4 (v : FVec Ideal S8x128x64 .f32) : k0_pay1 (F := Ideal) v = slab 4 slices_S8x128x64_o4_0_0_S1x128x64 v := rfl

section
variable (a b : FVec Ideal S2x128x64 .f32) (s : FVec Ideal S8x1x1 .f32) (l n : FVec Ideal S8x128x1 .f32) (p q : FVec Ideal S8x128x128 .f32)
theorem piece3 : k0_pay26 (F := Ideal) a b s l p q n = slab 3 slices_S8x128x64_o3_0_0_S1x128x64 (k0_pay22 a b s l p q n) := rfl
theorem piece2 : k0_pay25 (F := Ideal) a b s l p q n = slab 2 slices_S8x128x64_o2_0_0_S1x128x64 (k0_pay22 a b s l p q n) := rfl
theorem piece1 : k0_pay24 (F := Ideal) a b s l p q n = slab 1 slices_S8x128x64_o1_0_0_S1x128x64 (k0_pay22 a b s l p q n) := rfl
theorem piece0 : k0_pay23 (F := Ideal) a b s l p q n = slab 0 slices_S8x128x64_o0_0_0_S1x128x64 (k0_pay22 a b s l p q n) := rfl
end

theorem slab_col (v : FVec Ideal S8x128x64 .f32) (h : Fin 8) (o o' : ℕ) (ho) (e : o = h.val) (e' : o' = 64 * h.val) {y : S128x512.Idx} {x : S128x64.Idx}
    (h0 : (y 0).val = (x 0).val) (h1 : (y 1).val = o' + (x 1).val) : slab o ho v x = v (ix3 (hd (y 1)) (y 0) (ft (y 1))) := by
  have hx : (x 1).val < 64 := (x 1).isLt
  rw [show hd (y 1) = h from Fin.ext (by simp only [hd]; omega), show ft (y 1) = x 1 from Fin.ext (by simp only [ft]; omega),
    show (y 0 : Fin 128) = x 0 from Fin.ext h0, eq_ix2 x]
  exact slab_at h o ho e v (x 0) (x 1)

theorem out7 (y : S128x512.Idx) : out0_7 (F := Ideal) i x0 x1 x2 x3 x4 x5 x6 y = blk i x0 x1 x2 x3 x4 x5 x6 (ix3 (hd (y 1)) (y 0) (ft (y 1))) := by
  unfold out0_7
  rw [piece7, piece6, piece5, piece4, piece3, piece2, piece1, piece0]
  rw [← k0_pay43.eq_1, pay43]
  generalize blk i x0 x1 x2 x3 x4 x5 x6 = v
  canon_tiles x h
  · exact slab_col v 7 7 448 _ rfl rfl h0 h1
  · exact slab_col v 6 6 384 _ rfl rfl h0 h1
  · exact slab_col v 5 5 320 _ rfl rfl h0 h1
  · exact slab_col v 4 4 256 _ rfl rfl h0 h1
  · exact slab_col v 3 3 192 _ rfl rfl h0 h1
  · exact slab_col v 2 2 128 _ rfl rfl h0 h1
  · exact slab_col v 1 1 64 _ rfl rfl h0 h1
  · exact slab_col v 0 0 0 _ rfl rfl h0 (h1.trans (Nat.zero_add _).symm)
end

/-! ## The arrays -/

variable (m : (ℓ : Loc nD τ sig) → Buf (Elt Ideal) ℓ) (c : Dev nD) (t : Fin cfg0.N)

theorem idx : ∀ t : Fin cfg0.N, win0_0.index t = ![t.val, 4] ∧ win0_1.index t = ![t.val - 1, 20] ∧ win0_2.index t = ![t.val, 20]
    ∧ win0_3.index t = ![t.val - 1, 21] ∧ win0_4.index t = ![t.val, 21] ∧ win0_5.index t = ![0, 0, 0] ∧ win0_6.index t = ![0, 0]
    ∧ win0_7.index t = ![t.val, 0] ∧ (grid0.coords t 0).val = t.val :=
  (by decide +kernel : ∀ t : Fin grid0.N, _)

/-- The projection, the bias and the sinks. -/
def pA : Fin 4096 → Fin 2824 → EReal := mat (m ((c : Thread nD τ).loc main_arg0))
def bA : Fin 8 → Fin 128 → Fin 256 → EReal := cube (m ((c : Thread nD τ).loc main_arg1))
def sA : Fin 8 → EReal := vec (m ((c : Thread nD τ).loc main_arg2))

/-- The four pieces the host joins. -/
def padded (a : FVec Ideal S4096x2048 .f32) (b : FVec Ideal S4096x768 .f32) (d : FVec Ideal S4096x8 .f32) (e : FVec Ideal S4096x248 .f32) :
    FVec Ideal S4096x3072 .f32 :=
  concatenate S4096x3072 1 [⟨S4096x2048, a⟩, ⟨S4096x768, b⟩, ⟨S4096x8, d⟩, ⟨S4096x248, e⟩]
    concatenates_S4096x2048_S4096x768_S4096x8_S4096x248_S4096x3072_d1

theorem padded_at (a b d e) (j : Fin 4096) (k : Fin 3072) : padded a b d e (ix2 j k)
    = if h : k.val < 2048 then (a (ix2 j ⟨k.val, h⟩) : EReal) else if h : k.val - 2048 < 768 then b (ix2 j ⟨k.val - 2048, h⟩)
      else if h : k.val - 2048 - 768 < 8 then d (ix2 j ⟨k.val - 2048 - 768, h⟩) else e (ix2 j ⟨k.val - 2048 - 768 - 8, by omega⟩) := by
  unfold padded
  pointwise

theorem join_result (hx hy) (W : Valuation τ sig (Elt Ideal)) :
    (StableHlo.nary (τ := τ) ![main_v1, main_v2, main_v3, main_v0] main_v4
      (fun u => concatenate S4096x3072 1 [⟨S4096x2048, u 0⟩, ⟨S4096x768, u 1⟩, ⟨S4096x8, u 2⟩, ⟨S4096x248, u 3⟩]
        concatenates_S4096x2048_S4096x768_S4096x8_S4096x248_S4096x3072_d1) hx hy).result W (Proc.tc.devRef main_v4)
    = padded (W (Proc.tc.devRef main_v1)) (W (Proc.tc.devRef main_v2)) (W (Proc.tc.devRef main_v3)) (W (Proc.tc.devRef main_v0)) :=
  StableHlo.nary_result _ _ _ _ _ _

/-- The projection as the call takes it, at the window's columns. -/
theorem proj_at (i : Fin 4096) (j : Fin 3072) (k : Fin 2824) (h0 : 2048 ≤ j.val) (h1 : j.val < 2816) (e : k.val = j.val + 8) :
    (V m c main_v4 : FVec Ideal S4096x3072 .f32) (ix2 i j) = pA m c i k := by
  unfold V
  simp only [hostOps0, hostOps0_1, hostOps0_2, List.flatten_cons, List.flatten_nil, List.append_nil, List.cons_append, List.nil_append,
    StableHlo.after_cons, StableHlo.after_nil]
  repeat (first
    | rw [StableHlo.reshape_result_ne _ _ _ _ _ _ _ (by decide)]
    | rw [StableHlo.unary_result_ne _ _ _ _ _ _ (by decide)]
    | rw [StableHlo.binary_result_ne _ _ _ _ _ _ _ _ (by decide)]
    | rw [StableHlo.nullary_result_ne _ _ _ _ (by decide)]
    | rw [StableHlo.unary_result]
    | rw [StableHlo.binary_result]
    | rw [StableHlo.nullary_result]
    | rw [join_result])
  refine (padded_at _ _ _ _ i j).trans ((dif_neg (by omega)).trans ((dif_pos (by omega)).trans ?_))
  pointwise [pA, mat]
  exact congrArg _ (congrArg (ix2 i) (Fin.ext (by show 2056 + (j.val - 2048) = k.val; omega)))

theorem pad_at (x : FVec Ideal S8 .f32) (z : FVec Ideal S_ .f32) (h : Fin 8) :
    pad S128 ![0] ![120] ![0] x z pads_S8_S128_01200 h_S_ (ix1 ⟨h.val, by omega⟩) = x (ix1 h) := by
  pointwise

theorem sinks_at (h : Fin 8) : (V m c main_v6 : FVec Ideal S1x128 .f32) (ix2 0 ⟨h.val, by omega⟩) = sA m c h := by
  unfold V
  simp only [List.flatten_cons, List.flatten_nil, List.append_nil, List.cons_append, List.nil_append]
  after_results_simp
  pointwise [sA, vec]
  exact pad_at (m ((c : Thread nD τ).loc main_arg2)) (sitofp .f32 (constantI S_ 32 0#32)) h

theorem block0 (r : Fin 128) (k : Fin 512) : (iblk m c 0 t : FVec Ideal S128x512 .f32) (ix2 r k) = pA m c (pos t r) (qcol k) := by
  refine Eq.trans ?_ (proj_at m c (pos t r) ⟨2048 + k.val, by omega⟩ (qcol k) (by show 2048 ≤ 2048 + k.val; omega) (by show 2048 + k.val < 2816; omega)
    (by show 2056 + k.val = 2048 + k.val + 8; omega))
  unfold pos
  blk_ext! [iblk, idx t]

theorem block1 (r : Fin 128) (k : Fin 128) : (iblk m c 1 t : FVec Ideal S128x128 .f32) (ix2 r k) = pA m c (pos (prev t) r) (kcol k) := by
  refine Eq.trans ?_ (proj_at m c (pos (prev t) r) ⟨2560 + k.val, by omega⟩ (kcol k) (by show 2048 ≤ 2560 + k.val; omega) (by show 2560 + k.val < 2816; omega)
    (by show 2568 + k.val = 2560 + k.val + 8; omega))
  unfold pos prev
  blk_ext! [iblk, idx t]

theorem block2 (r : Fin 128) (k : Fin 128) : (iblk m c 2 t : FVec Ideal S128x128 .f32) (ix2 r k) = pA m c (pos t r) (kcol k) := by
  refine Eq.trans ?_ (proj_at m c (pos t r) ⟨2560 + k.val, by omega⟩ (kcol k) (by show 2048 ≤ 2560 + k.val; omega) (by show 2560 + k.val < 2816; omega)
    (by show 2568 + k.val = 2560 + k.val + 8; omega))
  unfold pos
  blk_ext! [iblk, idx t]

theorem block3 (r : Fin 128) (k : Fin 128) : (iblk m c 3 t : FVec Ideal S128x128 .f32) (ix2 r k) = pA m c (pos (prev t) r) (vcol k) := by
  refine Eq.trans ?_ (proj_at m c (pos (prev t) r) ⟨2688 + k.val, by omega⟩ (vcol k) (by show 2048 ≤ 2688 + k.val; omega) (by show 2688 + k.val < 2816; omega)
    (by show 2696 + k.val = 2688 + k.val + 8; omega))
  unfold pos prev
  blk_ext! [iblk, idx t]

theorem block4 (r : Fin 128) (k : Fin 128) : (iblk m c 4 t : FVec Ideal S128x128 .f32) (ix2 r k) = pA m c (pos t r) (vcol k) := by
  refine Eq.trans ?_ (proj_at m c (pos t r) ⟨2688 + k.val, by omega⟩ (vcol k) (by show 2048 ≤ 2688 + k.val; omega) (by show 2688 + k.val < 2816; omega)
    (by show 2696 + k.val = 2688 + k.val + 8; omega))
  unfold pos
  blk_ext! [iblk, idx t]

theorem block5 (h : Fin 8) (r : Fin 128) (k : Fin 256) : (iblk m c 5 t : FVec Ideal S8x128x256 .f32) (ix3 h r k) = bA m c h r k := by
  unfold bA cube
  blk_ext! [iblk, V, idx t]

theorem block6 (h : Fin 8) : (iblk m c 6 t : FVec Ideal S1x128 .f32) (ix2 0 ⟨h.val, by omega⟩) = sA m c h := by
  refine Eq.trans ?_ (sinks_at m c h)
  blk_ext! [iblk, idx t]

/-- The rows of a block. -/
theorem before_eq (h : Fin 8) (r : Fin 128) : rowOf (lgB (grid0.coords t) (iblk m c 0 t) (iblk m c 1 t) (iblk m c 5 t)) h r
    = lgBefore (pA m c) (bA m c) t h r := by
  funext k
  unfold rowOf lgB lgBefore logits
  rw [lgs_at, biasL_at, block5, (idx t).2.2.2.2.2.2.2.2]
  simp only [heads_at, groups_at, block0, block1]
  exact if_congr (mask_at t h r k) rfl rfl

theorem within_eq (h : Fin 8) (r : Fin 128) : rowOf (lgC (iblk m c 0 t) (iblk m c 2 t) (iblk m c 5 t)) h r
    = lgWithin (pA m c) (bA m c) t h r := by
  funext k
  unfold rowOf lgC lgWithin logits
  rw [lgs_at, biasR_at, block5]
  simp only [heads_at, groups_at, block0, block2]
  exact if_congr (mask'_at h r k) rfl rfl

theorem blk_at (h : Fin 8) (r : Fin 128) (d : Fin 64) :
    blk (grid0.coords t) (iblk m c 0 t) (iblk m c 1 t) (iblk m c 2 t) (iblk m c 3 t) (iblk m c 4 t) (iblk m c 5 t) (iblk m c 6 t) (ix3 h r d)
    = attAt (pA m c) (bA m c) (sA m c) t h r d := by
  unfold blk attAt
  rw [outs_at, before_eq, within_eq, sink_at, whole_at, block6,
    show rowsOf (groups (iblk m c 3 t)) (grp h) = vals (pA m c) (prev t) (grp h) from funext fun k => funext fun d => (groups_at _ _ k d).trans (block3 m c t k _),
    show rowsOf (groups (iblk m c 4 t)) (grp h) = vals (pA m c) t (grp h) from funext fun k => funext fun d => (groups_at _ _ k d).trans (block4 m c t k _)]

theorem final7 : (dats m 0 c).arrAt 7 (cfgs 0).N = (attArr (pA m c) (bA m c) (sA m c) : FVec Ideal S4096x512 .bf16) := by
  refine (dats m 0 c).arrAt_eq_of_covers 7 _ (by decide +kernel) fun t _ y => ?_
  blk_simp
  rw [after0_7]
  have e : (win0_7.blk t).view.emb y = ix2 (pos t (y 0)) (y 1) := by
    unfold pos
    blk_ext! [idx t]
  rw [e]
  refine Eq.trans ?_ (attArr_at (pA m c) (bA m c) (sA m c) t (y 0) (y 1)).symm
  refine Eq.trans ?_ (blk_at m c t (hd (y 1)) (y 0) (ft (y 1)))
  exact out7 _ _ _ _ _ _ _ _ _

end Cert.SwaFwdIdeal.Value

end
-- ==== Proof.SwFirst.lean ====
module

public import proofs.«01_k».proof.Proof.SwSpec

/-! # The first block, and the two halves of a band

The first block has no block before it. Of 256 keys the first 128 are those of the block before, the others the block's own. -/

@[expose] public section

noncomputable section

namespace Cert.SwSpec

open Idealize.ShloMosaic

/-! ## Halves -/

theorem half (j : Fin 256) : (∃ c, j = lo c) ∨ ∃ c, j = hi c := by
  by_cases h : j.val < 128
  · exact .inl ⟨⟨j.val, h⟩, rfl⟩
  · exact .inr ⟨⟨j.val - 128, by omega⟩, Fin.ext (by show j.val = 128 + (j.val - 128); omega)⟩

theorem sum_halves (f : Fin 256 → EReal) : ∑ j, f j = ∑ c, f (lo c) + ∑ c, f (hi c) :=
  Fin.sum_univ_add (M := EReal) (a := 128) (b := 128) f

theorem fold_halves (f : Fin 256 → EReal) :
    Finset.univ.fold max low f = max (Finset.univ.fold max low fun c => f (lo c)) (Finset.univ.fold max low fun c => f (hi c)) := by
  refine eq_of_forall_ge_iff fun x => ?_
  rw [max_le_iff, Finset.fold_max_le, Finset.fold_max_le, Finset.fold_max_le]
  constructor
  · exact fun h => ⟨⟨h.1, fun c _ => h.2 _ (Finset.mem_univ _)⟩, h.1, fun c _ => h.2 _ (Finset.mem_univ _)⟩
  · rintro ⟨⟨h, hl⟩, -, hh⟩
    refine ⟨h, fun j _ => ?_⟩
    rcases half j with ⟨c, rfl⟩ | ⟨c, rfl⟩
    · exact hl c (Finset.mem_univ _)
    · exact hh c (Finset.mem_univ _)

/-! ## The first block -/

theorem low_eq : low = ⊥ := by
  unfold low
  simp [Ideal.ofBits, Ideal.ieee]

theorem exp_nonneg (x : EReal) : 0 ≤ Ideal.exp x := by
  induction x with
  | bot => exact le_rfl
  | top => exact le_top
  | coe r => exact EReal.coe_nonneg.2 (Real.exp_pos r).le

theorem double_bot (w : EReal) : ⊥ * w + ⊥ * w = ⊥ * w := by
  rcases lt_trichotomy w 0 with h | h | h
  · rw [EReal.bot_mul_of_neg h]; rfl
  · rw [h, mul_zero, add_zero]
  · rw [EReal.bot_mul_of_pos h]; rfl

theorem double_sum (W : Fin 128 → EReal) : ∑ c, ⊥ * W c + ∑ c, ⊥ * W c = ∑ c, ⊥ * W c := by
  rw [← Finset.sum_add_distrib]
  exact Finset.sum_congr rfl fun c _ => double_bot (W c)

/-- With no key of the block before counted, its values do not matter, be they zeros or those of the block itself. -/
theorem att_first (a b : Per) (s : EReal) (V W : Rows) (d : Fin 64) (h : ∀ c, a c = low) (e : V = W) :
    att a b s V W d = ∑ c, wt a b s (a c) * 0 + ∑ c, wt a b s (b c) * W c d := by
  subst e
  have z (c : Fin 128) : ex a b s (a c) = 0 := by
    unfold ex
    rw [h, low_eq, EReal.bot_sub]
    rfl
  unfold att
  by_cases t : tot a b s = 0
  · have n : ∀ l, 0 ≤ ex a b s l := fun l => exp_nonneg _
    have t' : ∑ c, ex a b s (b c) = 0 := by
      refine le_antisymm (le_trans ?_ t.le) (Finset.sum_nonneg fun c _ => n _)
      unfold tot
      refine le_trans ?_ (le_add_of_nonneg_right (n s))
      exact le_add_of_nonneg_left (Finset.sum_nonneg fun c _ => n _)
    have zb (c : Fin 128) : ex a b s (b c) = 0 := (Finset.sum_eq_zero_iff_of_nonneg fun c _ => n _).1 t' c (Finset.mem_univ _)
    have w (l : EReal) (hl : ex a b s l = 0) : wt a b s l = ⊥ := by
      unfold wt Ideal.div
      rw [hl, if_pos t, if_neg (lt_irrefl _)]
    rw [show ∑ c, wt a b s (a c) * V c d = ∑ c, ⊥ * V c d from Finset.sum_congr rfl fun c _ => by rw [w _ (z c)],
      show ∑ c, wt a b s (b c) * V c d = ∑ c, ⊥ * V c d from Finset.sum_congr rfl fun c _ => by rw [w _ (zb c)],
      show ∑ c, wt a b s (a c) * (0 : EReal) = 0 from Finset.sum_eq_zero fun c _ => mul_zero _, double_sum, zero_add]
  · have w (c : Fin 128) : wt a b s (a c) = 0 := by
      unfold wt Ideal.div
      rw [z, if_neg t, zero_mul]
    rw [show ∑ c, wt a b s (a c) * V c d = 0 from Finset.sum_eq_zero fun c _ => by rw [w, zero_mul],
      show ∑ c, wt a b s (a c) * (0 : EReal) = 0 from Finset.sum_eq_zero fun c _ => mul_zero _]

/-- What a query gets back, the values of a block before the first being zeros. -/
theorem attAt_zeros (P : Fin 4096 → Fin 2824 → EReal) (b : Fin 8 → Fin 128 → Fin 256 → EReal) (s : Fin 8 → EReal) (n : Fin 32) (h : Fin 8) (r : Fin 128) (d : Fin 64) :
    attAt P b s n h r d = ∑ c, wt (lgBefore P b n h r) (lgWithin P b n h r) (s h) (lgBefore P b n h r c) * (if n.val = 0 then 0 else vals P (prev n) (grp h) c d)
      + ∑ c, wt (lgBefore P b n h r) (lgWithin P b n h r) (s h) (lgWithin P b n h r c) * vals P n (grp h) c d := by
  by_cases e : n.val = 0
  · simp only [if_pos e]
    refine att_first _ _ _ _ _ d (fun c => if_neg fun q => ?_) (congrArg (fun n => vals P n (grp h)) (Fin.ext (by show n.val - 1 = n.val; omega)))
    exact absurd q.1 (by omega)
  · simp only [if_neg e]
    rfl

end Cert.SwSpec

end
-- ==== Proof.SwaFwdReference.lean ====
module

public import proofs.«01_k».proof.Proof.Gen.SwaFwdRefIdeal.Read
public import proofs.«01_k».proof.Proof.SwFirst
public import Idealize.ShloMosaic.Lib.KernelVsHost
public import Idealize.ShloMosaic.Lib.ValueIdxRank6
public import Idealize.ShloMosaic.Lib.Affine

/-! # The array the reference returns at the attention in a window -/

@[expose] public section

set_option maxRecDepth 16384

noncomputable section

namespace Cert.SwaFwdRefIdeal.Read

open Cert.SwaFwdRefIdeal Cert.SwaFwdRefIdeal.Gen Idealize.ShloMosaic Idealize.ShloMosaic.TcCoe Idealize.SL.Sem Cert.LnSpec Cert.SwSpec

variable (P : FVec Ideal S4096x2824 .f32) (B : FVec Ideal S8x128x256 .f32) (S : FVec Ideal S8 .f32)

/-- A head's place in its group. -/
def sub (h : Fin 8) : Fin 4 := ⟨h.val % 4, by omega⟩

/-! ## The arguments, block by block -/

theorem q_at (n : Fin 32) (r : Fin 128) (h : Fin 8) (d : Fin 64) :
    val_main_v6 (F := Ideal) P (ix6 0 n r (grp h) (sub h) d) = query (mat P) n h r d := by
  unfold val_main_v6
  refine (shapeCast_apply _ _ _ (ix3 0 (pos n r) (hcol h d)) ?_).trans ?_
  · rw [Shape.rowMajor_val_three, Shape.rowMajor_val_six]
    show (0 * 4096 + (128 * n.val + r.val)) * 512 + (64 * h.val + d.val)
      = ((((0 * 32 + n.val) * 128 + r.val) * 2 + h.val / 4) * 4 + h.val % 4) * 64 + d.val
    omega
  · rw [val_main_v1_apply, val_main_v0_apply]
    exact congrArg P (by funext a; fin_cases a <;> rfl)

theorem k_at (n : Fin 32) (c : Fin 128) (g : Fin 2) (d : Fin 64) : val_main_v7 (F := Ideal) P (ix5 0 n c g d) = keys (mat P) n g c d := by
  rw [val_main_v7_apply, val_main_v3_apply, val_main_v2_apply]
  refine congrArg P (funext fun a => Fin.ext ?_)
  match a with
  | ⟨0, _⟩ => show ((((0 * 32 + n.val) * 128 + c.val) * 2 + g.val) * 64 + d.val) / 128 % 4096 = 128 * n.val + c.val; omega
  | ⟨1, _⟩ => show 2568 + ((((0 * 32 + n.val) * 128 + c.val) * 2 + g.val) * 64 + d.val) % 128 = 2568 + (64 * g.val + d.val); omega

theorem v_at (n : Fin 32) (c : Fin 128) (g : Fin 2) (d : Fin 64) : val_main_v12 (F := Ideal) P (ix5 0 n c g d) = vals (mat P) n g c d := by
  rw [val_main_v12_apply, val_main_v5_apply, val_main_v4_apply]
  refine congrArg P (funext fun a => Fin.ext ?_)
  match a with
  | ⟨0, _⟩ => show ((((0 * 32 + n.val) * 128 + c.val) * 2 + g.val) * 64 + d.val) / 128 % 4096 = 128 * n.val + c.val; omega
  | ⟨1, _⟩ => show 2696 + ((((0 * 32 + n.val) * 128 + c.val) * 2 + g.val) * 64 + d.val) % 128 = 2696 + (64 * g.val + d.val); omega

theorem zero : (Ideal.ofBits .f32 0x00000000#32 : EReal) = 0 := Ideal.ofBits_zero_f32

/-- A block before, that before the first being zeros. -/
def back (z : FVec Ideal S1x1x128x2x64 .f32) (x : FVec Ideal S1x31x128x2x64 .f32) : FVec Ideal S1x32x128x2x64 .f32 :=
  concatenate S1x32x128x2x64 1 [⟨S1x1x128x2x64, z⟩, ⟨S1x31x128x2x64, x⟩] concatenates_S1x1x128x2x64_S1x31x128x2x64_S1x32x128x2x64_d1

theorem back_at (z x) (n : Fin 32) (c : Fin 128) (g : Fin 2) (d : Fin 64) : back z x (ix5 0 n c g d)
    = if h : n.val = 0 then z (ix5 0 0 c g d) else x (ix5 0 ⟨n.val - 1, by omega⟩ c g d) := by
  by_cases h : n.val = 0
  · rw [dif_pos h]
    refine concatenate_pair_apply_left (t := S1x32x128x2x64) 1 z x _ _ rfl (ix5 0 0 c g d) fun b => ?_
    match b with
    | ⟨0, _⟩ => rfl
    | ⟨1, _⟩ => exact h.symm
    | ⟨2, _⟩ => rfl
    | ⟨3, _⟩ => rfl
    | ⟨4, _⟩ => rfl
  · rw [dif_neg h]
    exact concatenate_pair_apply_right (t := S1x32x128x2x64) 1 z x _ _ rfl rfl (ix5 0 ⟨n.val - 1, by omega⟩ c g d)
      (fun b hb => by fin_cases b <;> first | rfl | exact absurd rfl hb) (by show n.val - 1 + 1 = n.val; omega)

/-- A band: a block before and the block. -/
def band (p x : FVec Ideal S1x32x128x2x64 .f32) : FVec Ideal S1x32x256x2x64 .f32 :=
  concatenate S1x32x256x2x64 2 [⟨S1x32x128x2x64, p⟩, ⟨S1x32x128x2x64, x⟩] concatenates_S1x32x128x2x64_S1x32x128x2x64_S1x32x256x2x64_d2

theorem band_lo (p x) (n : Fin 32) (c : Fin 128) (g : Fin 2) (d : Fin 64) : band p x (ix5 0 n (lo c) g d) = p (ix5 0 n c g d) :=
  concatenate_pair_apply_left (t := S1x32x256x2x64) 2 p x _ _ rfl (ix5 0 n c g d) fun b => by fin_cases b <;> rfl

theorem band_hi (p x) (n : Fin 32) (c : Fin 128) (g : Fin 2) (d : Fin 64) : band p x (ix5 0 n (hi c) g d) = x (ix5 0 n c g d) :=
  concatenate_pair_apply_right (t := S1x32x256x2x64) 2 p x _ _ rfl rfl (ix5 0 n c g d)
    (fun b hb => by fin_cases b <;> first | rfl | exact absurd rfl hb) (by show c.val + 128 = 128 + c.val; omega)

theorem kb_lo (n : Fin 32) (c : Fin 128) (g : Fin 2) (d : Fin 64) :
    val_main_v11 (F := Ideal) P (ix5 0 n (lo c) g d) = if n.val = 0 then 0 else keys (mat P) (prev n) g c d := by
  refine (band_lo _ _ n c g d).trans ((back_at _ _ n c g d).trans ?_)
  by_cases h : n.val = 0
  · rw [dif_pos h, if_pos h, val_main_v8_apply]
    exact zero
  · rw [dif_neg h, if_neg h, val_main_v9_apply]
    exact (congrArg _ (by funext a; fin_cases a <;> rfl)).trans (k_at P (prev n) c g d)

theorem kb_hi (n : Fin 32) (c : Fin 128) (g : Fin 2) (d : Fin 64) : val_main_v11 (F := Ideal) P (ix5 0 n (hi c) g d) = keys (mat P) n g c d :=
  (band_hi _ _ n c g d).trans (k_at P n c g d)

theorem vb_lo (n : Fin 32) (c : Fin 128) (g : Fin 2) (d : Fin 64) :
    val_main_v16 (F := Ideal) P (ix5 0 n (lo c) g d) = if n.val = 0 then 0 else vals (mat P) (prev n) g c d := by
  refine (band_lo _ _ n c g d).trans ((back_at _ _ n c g d).trans ?_)
  by_cases h : n.val = 0
  · rw [dif_pos h, if_pos h, val_main_v13_apply]
    exact zero
  · rw [dif_neg h, if_neg h, val_main_v14_apply]
    exact (congrArg _ (by funext a; fin_cases a <;> rfl)).trans (v_at P (prev n) c g d)

theorem vb_hi (n : Fin 32) (c : Fin 128) (g : Fin 2) (d : Fin 64) : val_main_v16 (F := Ideal) P (ix5 0 n (hi c) g d) = vals (mat P) n g c d :=
  (band_hi _ _ n c g d).trans (v_at P n c g d)

theorem b_at (h : Fin 8) (r : Fin 128) (j : Fin 256) (n : Fin 32) : val_main_v54 (F := Ideal) B (ix6 0 n (grp h) (sub h) r j) = cube B h r j := by
  rw [val_main_v54_apply, val_main_v53_apply, val_main_v30_apply]
  refine congrArg B (funext fun a => Fin.ext ?_)
  match a with
  | ⟨0, _⟩ => show (((h.val / 4 * 4 + h.val % 4) * 128 + r.val) * 256 + j.val) / 32768 = h.val; omega
  | ⟨1, _⟩ => show (((h.val / 4 * 4 + h.val % 4) * 128 + r.val) * 256 + j.val) / 256 % 128 = r.val; omega
  | ⟨2, _⟩ => show (((h.val / 4 * 4 + h.val % 4) * 128 + r.val) * 256 + j.val) % 256 = j.val; omega

theorem s_at (h : Fin 8) : val_main_v58 (F := Ideal) S (ix6 0 0 (grp h) (sub h) 0 0) = vec S h := by
  rw [val_main_v58_apply, val_main_v57_apply]
  refine congrArg S (funext fun a => Fin.ext ?_)
  match a with
  | ⟨0, _⟩ => show h.val / 4 * 4 + h.val % 4 = h.val; omega

/-! ## The mask -/

theorem dist_iff : ∀ (r : Fin 128) (j : Fin 256),
    (IntOp.andi (IntOp.cmpi .sge (IntOp.subi (IntOp.addi 128#32 (BitVec.ofNat 32 r.val)) (BitVec.ofNat 32 j.val)) 0#32)
      (IntOp.cmpi .slt (IntOp.subi (IntOp.addi 128#32 (BitVec.ofNat 32 r.val)) (BitVec.ofNat 32 j.val)) 128#32) = 1#1)
    ↔ (j.val ≤ 128 + r.val ∧ r.val < j.val) := by
  decide +kernel

theorem start_iff : ∀ (n : Fin 32) (j : Fin 256),
    (IntOp.cmpi .sge (IntOp.addi (IntOp.subi (IntOp.muli (BitVec.ofNat 32 n.val) 128#32) 128#32) (BitVec.ofNat 32 j.val)) 0#32 = 1#1)
    ↔ 128 ≤ 128 * n.val + j.val := by
  decide +kernel

theorem mask_iff (n : Fin 32) (h : Fin 8) (r : Fin 128) (j : Fin 256) :
    (val_main_call0_v1 (F := Ideal) (ix6 0 n (grp h) (sub h) r j) = 1#1) ↔ (j.val ≤ 128 + r.val ∧ r.val < j.val) ∧ 128 ≤ 128 * n.val + j.val := by
  rw [← dist_iff, ← start_iff, val_main_call0_v1_apply, val_main_v52_apply, val_main_v51_apply, IntOp.andi_eq_one, val_main_v49_apply, val_main_v48_apply,
    val_main_v45_apply, val_main_v42_apply, val_main_v44_apply, val_main_v29_apply, val_main_v27_apply, val_main_v26_apply, val_main_v28_apply,
    val_main_v50_apply, val_main_v47_apply, val_main_v40_apply, val_main_v38_apply, val_main_v36_apply, val_main_v34_apply, val_main_v39_apply]
  rfl

theorem mask_lo (n : Fin 32) (h : Fin 8) (r c : Fin 128) :
    (val_main_call0_v1 (F := Ideal) (ix6 0 n (grp h) (sub h) r (lo c)) = 1#1) ↔ before (0 < n.val) r c := by
  rw [mask_iff]
  show (c.val ≤ 128 + r.val ∧ r.val < c.val) ∧ 128 ≤ 128 * n.val + c.val ↔ 0 < n.val ∧ r.val < c.val
  omega

theorem mask_hi (n : Fin 32) (h : Fin 8) (r c : Fin 128) :
    (val_main_call0_v1 (F := Ideal) (ix6 0 n (grp h) (sub h) r (hi c)) = 1#1) ↔ within r c := by
  rw [mask_iff]
  show (128 + c.val ≤ 128 + r.val ∧ r.val < 128 + c.val) ∧ 128 ≤ 128 * n.val + (128 + c.val) ↔ c.val ≤ r.val
  omega

/-! ## The weights -/

/-- A query's logits. -/
abbrev aR (n : Fin 32) (h : Fin 8) (r : Fin 128) : Per := lgBefore (mat P) (cube B) n h r
abbrev cR (n : Fin 32) (h : Fin 8) (r : Fin 128) : Per := lgWithin (mat P) (cube B) n h r

theorem dot_at (n : Fin 32) (h : Fin 8) (r : Fin 128) (j : Fin 256) : val_main_v20 (F := Ideal) P (ix6 0 n (grp h) (sub h) r j)
    = (∑ d, query (mat P) n h r d * val_main_v11 (F := Ideal) P (ix5 0 n j (grp h) d)) * scale := by
  rw [val_main_v20_apply, val_main_v18_apply, val_main_v17_apply]
  exact congrArg (· * scale) (Finset.sum_congr rfl fun d _ => (mul_comm _ _).trans (congrArg₂ (· * ·)
    ((congrArg _ (by funext a; fin_cases a <;> rfl)).trans (q_at P n r h d)) (congrArg _ (by funext a; fin_cases a <;> rfl))))

theorem lo_at (n : Fin 32) (h : Fin 8) (r c : Fin 128) : val_main_v56 (F := Ideal) P B (ix6 0 n (grp h) (sub h) r (lo c)) = aR P B n h r c := by
  rw [val_main_v56_apply]
  by_cases m : before (0 < n.val) r c
  · refine (if_pos ((mask_lo n h r c).2 m)).trans (Eq.trans ?_ (if_pos m).symm)
    rw [val_main_v55_apply, dot_at, b_at]
    refine congrArg (fun x => x * scale + _) (Finset.sum_congr rfl fun d _ => congrArg _ ((kb_lo P n c (grp h) d).trans (if_neg ?_)))
    have := m.1
    omega
  · exact (if_neg (fun e => m ((mask_lo n h r c).1 e))).trans (Eq.trans rfl (if_neg m).symm)

theorem hi_at (n : Fin 32) (h : Fin 8) (r c : Fin 128) : val_main_v56 (F := Ideal) P B (ix6 0 n (grp h) (sub h) r (hi c)) = cR P B n h r c := by
  rw [val_main_v56_apply]
  by_cases m : within r c
  · refine (if_pos ((mask_hi n h r c).2 m)).trans (Eq.trans ?_ (if_pos m).symm)
    rw [val_main_v55_apply, dot_at, b_at]
    exact congrArg (fun x => x * scale + _) (Finset.sum_congr rfl fun d _ => congrArg _ (kb_hi P n c (grp h) d))
  · exact (if_neg (fun e => m ((mask_hi n h r c).1 e))).trans (Eq.trans rfl (if_neg m).symm)

/-- A query's sink. -/
theorem sink_at (n : Fin 32) (h : Fin 8) (r : Fin 128) : val_main_v61 (F := Ideal) S (ix6 0 n (grp h) (sub h) r 0) = vec S h := by
  rw [val_main_v61_apply]
  exact (congrArg _ (by funext a; fin_cases a <;> rfl)).trans (s_at S h)

theorem top_at (n : Fin 32) (h : Fin 8) (r : Fin 128) :
    val_main_v62 (F := Ideal) P B S (ix6 0 n (grp h) (sub h) r 0) = top (aR P B n h r) (cR P B n h r) (vec S h) := by
  have i : idx_main_v60 (ix6 0 n (grp h) (sub h) r 0) = ix5 0 n (grp h) (sub h) r := by funext a; fin_cases a <;> rfl
  have e : val_main_v59 (F := Ideal) P B (ix5 0 n (grp h) (sub h) r) = Finset.univ.fold max low fun j => val_main_v56 (F := Ideal) P B (ix6 0 n (grp h) (sub h) r j) := by
    unfold val_main_v59 val_main_cst_8
    refine (congrFun (hostReduce_maximumf_eq_multiReduction (F := Ideal) (φ := .f32) (s := S1x32x2x4x128x256) (t := S1x32x2x4x128) (axes := [5])
      (val_main_v56 (F := Ideal) P B) 0xFF800000#32 reducesTo_S1x32x2x4x128x256_S1x32x2x4x128_d5 h_S_ (by decide) (.inl rfl) rfl) _).trans ?_
    refine (Ideal.multiReduction_maximumf_single _ _ _ _ _ _).trans ?_
    refine congrArg (fun f => Finset.fold max _ f _) (funext fun (j : Fin 256) => ?_)
    exact congrArg (val_main_v56 (F := Ideal) P B) (by funext a; fin_cases a <;> rfl)
  rw [fold_halves] at e
  simp only [lo_at, hi_at] at e
  rw [val_main_v62_apply, sink_at, val_main_v60_apply, i, e]
  rfl

theorem ex_at (n : Fin 32) (h : Fin 8) (r : Fin 128) (j : Fin 256) : val_main_v65 (F := Ideal) P B S (ix6 0 n (grp h) (sub h) r j)
    = ex (aR P B n h r) (cR P B n h r) (vec S h) (val_main_v56 (F := Ideal) P B (ix6 0 n (grp h) (sub h) r j)) := by
  have i : idx_main_v63 (ix6 0 n (grp h) (sub h) r j) = ix6 0 n (grp h) (sub h) r 0 := by funext a; fin_cases a <;> rfl
  rw [val_main_v65_apply, val_main_v64_apply, val_main_v63_apply, i, top_at]
  rfl

theorem tot_at (n : Fin 32) (h : Fin 8) (r : Fin 128) :
    val_main_v71 (F := Ideal) P B S (ix6 0 n (grp h) (sub h) r 0) = tot (aR P B n h r) (cR P B n h r) (vec S h) := by
  rw [val_main_v71_apply, val_main_v67_apply, val_main_v70_apply, val_main_v69_apply, top_at]
  have e : val_main_v66 (F := Ideal) P B S (ix5 0 n (grp h) (sub h) r)
      = ∑ j, ex (aR P B n h r) (cR P B n h r) (vec S h) (val_main_v56 (F := Ideal) P B (ix6 0 n (grp h) (sub h) r j)) := by
    rw [val_main_v66_apply]
    refine (congrArg (· + _) zero).trans ((zero_add _).trans ?_)
    exact Finset.sum_congr rfl fun j _ => (congrArg _ (by funext a; fin_cases a <;> rfl)).trans (ex_at P B S n h r j)
  rw [sum_halves] at e
  simp only [lo_at, hi_at] at e
  refine congrArg₂ (· + ·) ((congrArg _ (by funext a; fin_cases a <;> rfl)).trans e) (congrArg (fun x => Ideal.exp (x - _)) ?_)
  rw [val_main_v68_apply]
  exact (congrArg _ (by funext a; fin_cases a <;> rfl)).trans (s_at S h)

theorem wt_at (n : Fin 32) (h : Fin 8) (r : Fin 128) (j : Fin 256) : val_main_v73 (F := Ideal) P B S (ix6 0 n (grp h) (sub h) r j)
    = wt (aR P B n h r) (cR P B n h r) (vec S h) (val_main_v56 (F := Ideal) P B (ix6 0 n (grp h) (sub h) r j)) := by
  rw [val_main_v73_apply, val_main_v72_apply, ex_at]
  exact congrArg (Ideal.div _) ((congrArg _ (by funext a; fin_cases a <;> rfl)).trans (tot_at P B S n h r))

/-! ## What a query gets back -/

theorem att_at (n : Fin 32) (h : Fin 8) (r : Fin 128) (d : Fin 64) :
    val_main_v75 (F := Ideal) P B S (ix6 0 n r (grp h) (sub h) d) = attAt (mat P) (cube B) (vec S) n h r d := by
  rw [attAt_zeros, val_main_v75_apply, val_main_v74_apply]
  have e : (∑ j, val_main_v73 (F := Ideal) P B S (ix6 0 n (grp h) (sub h) r j) * val_main_v16 (F := Ideal) P (ix5 0 n j (grp h) d) : EReal)
      = _ := sum_halves _
  simp only [wt_at, lo_at, hi_at, vb_lo, vb_hi] at e
  refine Eq.trans (Finset.sum_congr rfl fun j _ => ?_) e
  refine (mul_comm _ _).trans (congrArg₂ (· * ·) ((congrArg _ (by funext a; fin_cases a <;> rfl)).trans (wt_at P B S n h r j)) (congrArg _ (by funext a; fin_cases a <;> rfl)))

theorem att_arr : val_main_v78 (F := Ideal) P B S = (attArr (mat P) (cube B) (vec S) : FVec Ideal S4096x512 .bf16) := by
  refine funext fun i => ?_
  rw [val_main_v78_apply]
  refine Eq.trans (b := val_main_v77 (F := Ideal) P B S i) rfl ?_
  rw [val_main_v77_apply]
  have h0 : (i 0).val < 4096 := (i 0).isLt
  have h1 : (i 1).val < 512 := (i 1).isLt
  unfold val_main_v76
  refine (shapeCast_apply _ _ _ (ix6 0 ⟨(i 0).val / 128, by omega⟩ ⟨(i 0).val % 128, by omega⟩ (grp (hd (i 1))) (sub (hd (i 1))) (ft (i 1))) ?_).trans (att_at P B S _ _ _ _)
  rw [Shape.rowMajor_val_six, Shape.rowMajor_val_three]
  show ((((0 * 32 + (i 0).val / 128) * 128 + (i 0).val % 128) * 2 + (i 1).val / 64 / 4) * 4 + (i 1).val / 64 % 4) * 64 + (i 1).val % 64
    = (0 * 4096 + ((i 0).val * 512 + (i 1).val) / 512 % 4096) * 512 + ((i 0).val * 512 + (i 1).val) % 512
  omega

end Cert.SwaFwdRefIdeal.Read

end
-- ==== Proof.SwaFwdClaim.lean ====
module

public import proofs.«01_k».proof.Defs
public import proofs.«01_k».proof.Proof.Gen.SwaFwd
public import proofs.«01_k».proof.Proof.Gen.SwaFwdRefIdeal
public import proofs.«01_k».proof.Proof.SwaFwdKernel
public import proofs.«01_k».proof.Proof.SwaFwdReference
public import Idealize.ShloMosaic.Lib.Claim

/-! # `_swa_fwd`: the claims of the pair -/

@[expose] public section

set_option maxRecDepth 16384

noncomputable section

namespace Cert.SwaFwdClaim

open Idealize.ShloMosaic Idealize.SL.Sem

local instance : Cert.SwaFwd.Facts := Cert.SwaFwd.Gen.facts
local instance : Cert.SwaFwdIdeal.Facts := Cert.SwaFwdIdeal.Gen.facts
local instance : Cert.SwaFwdRefIdeal.Facts := Cert.SwaFwdRefIdeal.Gen.facts

theorem frame_ideal : Cert.quiescent_SwaFwdIdeal := fun m g _ => Cert.SwaFwdIdeal.Gen.frame m g

theorem main_eq : Cert.SwaFwd.main (F := Bits) = Cert.SwaFwdIdeal.main (F := Bits) := rfl

theorem defs_eq : Cert.SwaFwd.defs (F := Bits) = Cert.SwaFwdIdeal.defs (F := Bits) := by sl_kernel_rfl

/-- The kernel's program is its idealized program over the machine's floats: one run serves both. -/
theorem frame_kernel : Cert.quiescent_SwaFwd := fun m g _ => by
  rw [defs_eq, main_eq]
  exact Cert.SwaFwdIdeal.Gen.frame (F := Bits) m g

theorem frame_reference : Cert.quiescent_SwaFwdRefIdeal := by
  intro m g _
  exact (θ_run _ _ _).mono (fun r h => ⟨fun c => (h c).2, sem_eq_zero_of_no_sems rfl _⟩) (Cert.SwaFwdRefIdeal.Value.run m g)

set_option maxHeartbeats 1600000 in
theorem algebraic : Cert.algebraic_SwaFwdIdeal_SwaFwdRefIdeal := by
  pair_intro
  · run_from Cert.SwaFwdIdeal.Gen.run_main m g
    · exact Cert.SwaFwdIdeal.Gen.V_main_arg0 m c
    · exact Cert.SwaFwdIdeal.Gen.V_main_arg2 m c
  · refine (θ_run _ _ _).mono (fun r h c => ?_) (Cert.SwaFwdRefIdeal.Value.run m' g')
    obtain ⟨a78, rest⟩ := h c
    obtain ⟨e0, e1, e2⟩ := hagree c
    refine ⟨(a78.trans (Cert.SwaFwdRefIdeal.Read.val_main_v78_eq m' c)).trans ?_, rest⟩
    rw [e0, e1, e2]
    exact (Cert.SwaFwdRefIdeal.Read.att_arr _ _ _).trans (Cert.SwaFwdIdeal.Value.final7 m c).symm

end Cert.SwaFwdClaim

end
-- ==== Proof.SwBwdSpec.lean ====
module

public import proofs.«01_k».proof.Proof.SwSpec

/-! # The gradient of the attention in a sliding window

A query's weights are exponentials over their sum; `mean` is what the sum's derivative takes back from every logit, `gr` a logit's gradient.
The keys and values of a block get a part from the block's own queries and a part from the queries of the block behind. -/

@[expose] public section

noncomputable section

namespace Cert.SwSpec

open Idealize.ShloMosaic

/-- One, as its word. -/
def one : EReal := Ideal.ofBits .f32 0x3F800000#32

section
variable (a b : Per) (s : EReal) (e f : Per)

/-- The derivative of the reciprocal of the exponentials' sum, up to its sign. -/
def inv : EReal := Ideal.div one (tot a b s * tot a b s)

/-- What one block's keys, pulled by `x` at the logits `l`, take back. -/
def back (x l : Per) : EReal := 0 - ∑ k, x k * inv a b s * ex a b s (l k)

/-- … the keys of both blocks. -/
def mean : EReal := back a b s f b + back a b s e a

/-- A logit's gradient. -/
def gr (p : Prop) [Decidable p] (x l : EReal) : EReal := if p then (Ideal.div x (tot a b s) + mean a b s e f) * ex a b s l else 0

/-- The sink's gradient. -/
def sk : EReal := mean a b s e f * ex a b s s
end

/-- How the values pull. -/
def pull (x : Feat) (V : Rows) : Per := fun k => ∑ d, x d * V k d

/-- Head `i` of group `g`. -/
def head (g : Fin 2) (i : Fin 4) : Fin 8 := ⟨4 * g.val + i.val, by omega⟩

theorem grp_head (g : Fin 2) (i : Fin 4) : grp (head g i) = g := Fin.ext (by show (4 * g.val + i.val) / 4 = g.val; omega)

/-- The cotangents' columns. -/
def dcol (k : Fin 512) : Fin 1024 := ⟨512 + k.val, by omega⟩

section
variable (P : Fin 4096 → Fin 2824 → EReal) (b : Fin 8 → Fin 128 → Fin 256 → EReal) (s : Fin 8 → EReal) (D : Fin 4096 → Fin 1024 → EReal)
  (n : Fin 32) (h : Fin 8) (r : Fin 128)

/-- The cotangent of what a query gets back. -/
def cot : Feat := fun d => D (pos n r) (dcol (hcol h d))

def pullB : Per := pull (cot D n h r) (vals P (prev n) (grp h))
def pullW : Per := pull (cot D n h r) (vals P n (grp h))

/-- The gradients of a query's logits. -/
def grB : Per := fun k => gr (lgBefore P b n h r) (lgWithin P b n h r) (s h) (pullB P D n h r) (pullW P D n h r) (before (0 < n.val) r k)
  (pullB P D n h r k) (lgBefore P b n h r k)
def grW : Per := fun k => gr (lgBefore P b n h r) (lgWithin P b n h r) (s h) (pullB P D n h r) (pullW P D n h r) (within r k)
  (pullW P D n h r k) (lgWithin P b n h r k)

/-- What a query gives to the sink's gradient. -/
def skAt : EReal := sk (lgBefore P b n h r) (lgWithin P b n h r) (s h) (pullB P D n h r) (pullW P D n h r)

/-- A query's gradient. -/
def dqAt (d : Fin 64) : EReal := ∑ k, grW P b s D n h r k * scale * keys P n (grp h) k d
  + ∑ k, grB P b s D n h r k * scale * keys P (prev n) (grp h) k d

variable (g : Fin 2) (k : Fin 128) (d : Fin 64)

/-- What a block's queries give to the keys and values of the block before and of the block itself. -/
def dkB : EReal := ∑ i, ∑ r, grB P b s D n (head g i) r k * scale * query P n (head g i) r d
def dkW : EReal := ∑ i, ∑ r, grW P b s D n (head g i) r k * scale * query P n (head g i) r d
def dvB : EReal := ∑ i, ∑ r, wt (lgBefore P b n (head g i) r) (lgWithin P b n (head g i) r) (s (head g i)) (lgBefore P b n (head g i) r k) * cot D n (head g i) r d
def dvW : EReal := ∑ i, ∑ r, wt (lgBefore P b n (head g i) r) (lgWithin P b n (head g i) r) (s (head g i)) (lgWithin P b n (head g i) r k) * cot D n (head g i) r d

/-- The keys' and the values' gradients. -/
def dkAt : EReal := dkW P b s D n g k d + if h : n.val + 1 < 32 then dkB P b s D ⟨n.val + 1, h⟩ g k d else 0
def dvAt : EReal := dvW P b s D n g k d + if h : n.val + 1 < 32 then dvB P b s D ⟨n.val + 1, h⟩ g k d else 0

/-- A row of the gradients: queries, keys, values. -/
def dswAt (j : Fin 768) : EReal :=
  if h : j.val < 512 then dqAt P b s D n (hd ⟨j.val, h⟩) r (ft ⟨j.val, h⟩)
  else if j.val < 640 then dkAt P b s D n ⟨(j.val - 512) / 64 % 2, by omega⟩ r ⟨j.val % 64, by omega⟩
  else dvAt P b s D n ⟨(j.val - 640) / 64 % 2, by omega⟩ r ⟨j.val % 64, by omega⟩

def dswArr {φ : FTy} : FVec Ideal ⟨2, ![4096, 768]⟩ φ :=
  fun i => dswAt P b s D ⟨(i 0).val / 128, by have : (i 0).val < 4096 := (i 0).isLt; omega⟩ ⟨(i 0).val % 128, by omega⟩ (i 1)

theorem dswArr_at {φ : FTy} (j : Fin 768) : (dswArr P b s D : FVec Ideal ⟨2, ![4096, 768]⟩ φ) (ix2 (pos n r) j) = dswAt P b s D n r j := by
  show dswAt P b s D ⟨(128 * n.val + r.val) / 128, _⟩ ⟨(128 * n.val + r.val) % 128, _⟩ j = _
  congr 1
  · exact Fin.ext (by show (128 * n.val + r.val) / 128 = n.val; omega)
  · exact Fin.ext (by show (128 * n.val + r.val) % 128 = r.val; omega)

/-- What a block gives to the bias's gradient. -/
def dbAt (j : Fin 256) : EReal := if l : j.val < 128 then grB P b s D n h r ⟨j.val, l⟩ else grW P b s D n h r ⟨j.val - 128, by omega⟩

def dbArr : FVec Ideal ⟨3, ![8, 128, 256]⟩ .f32 := fun i => ∑ n, dbAt P b s D n (i 0) (i 1) (i 2)

/-- What a block gives to the sinks' gradients, in a row of 128. -/
def dsAt (j : Fin 128) : EReal := if h : j.val < 8 then ∑ r, skAt P b s D n ⟨j.val, h⟩ r else 0

def dsArr : FVec Ideal ⟨2, ![1, 128]⟩ .f32 := fun i => ∑ n, dsAt P b s D n (i 1)
end

end Cert.SwSpec

end
-- ==== Proof.SwBwdPoint.lean ====
module

public import proofs.«01_k».proof.Proof.Gen.SwaBwdIdeal.Frame
public import proofs.«01_k».proof.Proof.SwPoint
public import proofs.«01_k».proof.Proof.SwBwdSpec

/-! # What a grid point of the sliding-window attention's gradient computes for its eight heads -/

@[expose] public section

set_option maxRecDepth 16384

noncomputable section

namespace Cert.SwBwdPoint

open Cert.SwaBwdIdeal Cert.SwaBwdIdeal.Gen Idealize.ShloMosaic Idealize.ShloMosaic.TcCoe Idealize.SL.Sem Cert.SwSpec Cert.SwPoint

theorem zero : (Ideal.ofBits .f32 0x00000000#32 : EReal) = 0 := Ideal.ofBits_zero_f32

/-- The cotangents against the values. -/
def pulls (g : FVec Ideal S8x128x64 .f32) (v : FVec Ideal S2x128x64 .f32) : FVec Ideal S8x128x128 .f32 :=
  matmul dot_S8x128x64_S8x128x64_S8x128x128_2_2_1_1_0_0 none (truncf .bf16 g bitsLt_bf16_f32) (truncf .bf16 (rep v) bitsLt_bf16_f32)
    (constant S8x128x128 .f32 0x00000000#32)

/-- One head's features of one row. -/
def featOf (x : FVec Ideal S8x128x64 .f32) (h : Fin 8) (r : Fin 128) : Feat := fun d => x (ix3 h r d)

theorem pulls_at (g : FVec Ideal S8x128x64 .f32) (v : FVec Ideal S2x128x64 .f32) (h : Fin 8) (r k : Fin 128) :
    pulls g v (ix3 h r k) = pull (featOf g h r) (rowsOf v (grp h)) k := by
  unfold pull featOf rowsOf
  pointwise [pulls, rep_at]

/-- Weights over rows, against features. -/
def cross (w : FVec Ideal S8x128x128 .f32) (x : FVec Ideal S8x128x64 .f32) : FVec Ideal S8x128x64 .f32 :=
  matmul dot_S8x128x128_S8x128x64_S8x128x64_1_1_2_2_0_0 none (truncf .bf16 w bitsLt_bf16_f32) (truncf .bf16 x bitsLt_bf16_f32)
    (constant S8x128x64 .f32 0x00000000#32)

theorem cross_at (w : FVec Ideal S8x128x128 .f32) (x : FVec Ideal S8x128x64 .f32) (h : Fin 8) (k : Fin 128) (d : Fin 64) :
    cross w x (ix3 h k d) = ∑ r, w (ix3 h r k) * x (ix3 h r d) := by
  pointwise [cross]

/-- Two slabs on each other, of which one is zeros. -/
def onTop (u : FVec Ideal S1x128x64 .f32) : FVec Ideal S2x128x64 .f32 :=
  concatenate S2x128x64 0 [⟨S1x128x64, u⟩, ⟨S1x128x64, broadcast S1x128x64 (Scalar.ofBits .f32 0x00000000#32)⟩] concatenates_S1x128x64_S1x128x64_S2x128x64_d0
def below (u : FVec Ideal S1x128x64 .f32) : FVec Ideal S2x128x64 .f32 :=
  concatenate S2x128x64 0 [⟨S1x128x64, broadcast S1x128x64 (Scalar.ofBits .f32 0x00000000#32)⟩, ⟨S1x128x64, u⟩] concatenates_S1x128x64_S1x128x64_S2x128x64_d0

theorem onTop_0 (u : FVec Ideal S1x128x64 .f32) (k : Fin 128) (d : Fin 64) : onTop u (ix3 0 k d) = u (ix3 0 k d) := by pointwise [onTop]
theorem onTop_1 (u : FVec Ideal S1x128x64 .f32) (k : Fin 128) (d : Fin 64) : onTop u (ix3 1 k d) = 0 := by
  rw [← zero]
  pointwise [onTop]
theorem below_1 (u : FVec Ideal S1x128x64 .f32) (k : Fin 128) (d : Fin 64) : below u (ix3 1 k d) = u (ix3 0 k d) := by pointwise [below]
theorem below_0 (u : FVec Ideal S1x128x64 .f32) (k : Fin 128) (d : Fin 64) : below u (ix3 0 k d) = 0 := by
  rw [← zero]
  pointwise [below]

/-- One head. -/
def one1 (o : ℕ) (ho : S8x128x64.Slices ![o, 0, 0] S1x128x64) (u : FVec Ideal S8x128x64 .f32) : FVec Ideal S1x128x64 .f32 :=
  extractStridedSlice S1x128x64 ![o, 0, 0] u ho

theorem one1_at (h : Fin 8) (o : ℕ) (ho) (e : o = h.val) (u : FVec Ideal S8x128x64 .f32) (k : Fin 128) (d : Fin 64) :
    one1 o ho u (ix3 0 k d) = u (ix3 h k d) := by
  subst e
  pointwise [one1]

/-- The heads of a group added up. -/
def gsum (u : FVec Ideal S8x128x64 .f32) : FVec Ideal S2x128x64 .f32 :=
  addf (addf (addf (addf (addf (addf (addf (below (one1 7 slices_S8x128x64_o7_0_0_S1x128x64 u)) (below (one1 6 slices_S8x128x64_o6_0_0_S1x128x64 u)))
    (below (one1 5 slices_S8x128x64_o5_0_0_S1x128x64 u))) (below (one1 4 slices_S8x128x64_o4_0_0_S1x128x64 u)))
    (onTop (one1 3 slices_S8x128x64_o3_0_0_S1x128x64 u))) (onTop (one1 2 slices_S8x128x64_o2_0_0_S1x128x64 u)))
    (onTop (one1 1 slices_S8x128x64_o1_0_0_S1x128x64 u))) (onTop (one1 0 slices_S8x128x64_o0_0_0_S1x128x64 u))

theorem gsum_at (u : FVec Ideal S8x128x64 .f32) (g : Fin 2) (k : Fin 128) (d : Fin 64) :
    gsum u (ix3 g k d) = ∑ i, u (ix3 (head g i) k d) := by
  rw [Fin.sum_univ_four]
  match g with
  | 0 =>
    refine Eq.trans (b := (below _ (ix3 0 k d) + below _ (ix3 0 k d) + below _ (ix3 0 k d) + below _ (ix3 0 k d) + onTop _ (ix3 0 k d) + onTop _ (ix3 0 k d)
      + onTop _ (ix3 0 k d) + onTop _ (ix3 0 k d) : EReal)) rfl ?_
    simp only [below_0, onTop_0]
    rw [one1_at (head 0 0) 0 _ rfl, one1_at (head 0 1) 1 _ rfl, one1_at (head 0 2) 2 _ rfl, one1_at (head 0 3) 3 _ rfl]
    abel
  | 1 =>
    refine Eq.trans (b := (below _ (ix3 1 k d) + below _ (ix3 1 k d) + below _ (ix3 1 k d) + below _ (ix3 1 k d) + onTop _ (ix3 1 k d) + onTop _ (ix3 1 k d)
      + onTop _ (ix3 1 k d) + onTop _ (ix3 1 k d) : EReal)) rfl ?_
    simp only [below_1, onTop_1]
    rw [one1_at (head 1 0) 4 _ rfl, one1_at (head 1 1) 5 _ rfl, one1_at (head 1 2) 6 _ rfl, one1_at (head 1 3) 7 _ rfl]
    abel

section
variable (a b : FVec Ideal S8x128x128 .f32) (s : FVec Ideal S8x1x1 .f32) (h : Fin 8) (r : Fin 128)

/-- The reciprocal's derivative. -/
def invs : FVec Ideal S8x128x1 .f32 := divf (broadcast S8x128x1 (Scalar.ofBits .f32 0x3F800000#32)) (mulf (tots a b s) (tots a b s))

theorem invs_at : invs a b s (ix3 h r 0) = SwSpec.inv (rowOf a h r) (rowOf b h r) (s (ix3 h 0 0)) := by
  unfold SwSpec.inv one
  rw [← tots_at]
  pointwise [invs]

/-- What one block's keys take back. -/
def backs (x l : FVec Ideal S8x128x128 .f32) : FVec Ideal S8x128x1 .f32 :=
  subf (broadcast S8x128x1 (Scalar.ofBits .f32 0x00000000#32)) (shapeCast S8x128x1 (multiReduction .add [2] S8x128
    (mulf (mulf x (broadcastTo S8x128x128 (invs a b s) broadcasts_S8x128x1_S8x128x128)) (exs l a b s)) 0x00000000#32 reduces_S8x128x128_S8x128 (.inl rfl) rfl)
    shapeCasts_S8x128_S8x128x1)

theorem backs_at (x l : FVec Ideal S8x128x128 .f32) :
    backs a b s x l (ix3 h r 0) = back (rowOf a h r) (rowOf b h r) (s (ix3 h 0 0)) (rowOf x h r) (rowOf l h r) := by
  have e : ∀ k : Fin 128, rowOf x h r k * SwSpec.inv (rowOf a h r) (rowOf b h r) (s (ix3 h 0 0)) * ex (rowOf a h r) (rowOf b h r) (s (ix3 h 0 0)) (rowOf l h r k)
      = x (ix3 h r k) * invs a b s (ix3 h r 0) * exs l a b s (ix3 h r k) := fun k => by rw [invs_at, exs_at]; rfl
  unfold back
  simp only [e]
  rw [← zero]
  pointwise [backs]

/-- … of both blocks. -/
def means (x y : FVec Ideal S8x128x128 .f32) : FVec Ideal S8x128x1 .f32 := addf (backs a b s y b) (backs a b s x a)

theorem means_at (x y : FVec Ideal S8x128x128 .f32) :
    means a b s x y (ix3 h r 0) = mean (rowOf a h r) (rowOf b h r) (s (ix3 h 0 0)) (rowOf x h r) (rowOf y h r) := by
  unfold mean
  rw [← backs_at, ← backs_at]
  rfl

/-- A logit's gradient. -/
def grs (m : IVec S8x128x128 1) (x y z l : FVec Ideal S8x128x128 .f32) : FVec Ideal S8x128x128 .f32 :=
  select m (mulf (addf (divf z (broadcastTo S8x128x128 (tots a b s) broadcasts_S8x128x1_S8x128x128))
    (broadcastTo S8x128x128 (shapeCast S8x128x1 (multiReduction .add [2] S8x128 (means a b s x y) 0x00000000#32 reduces_S8x128x1_S8x128 (.inl rfl) rfl)
      shapeCasts_S8x128_S8x128x1) broadcasts_S8x128x1_S8x128x128)) (exs l a b s)) (broadcast S8x128x128 (Scalar.ofBits .f32 0x00000000#32))

theorem grs_at (p : Prop) [Decidable p] (m : IVec S8x128x128 1) (x y z l : FVec Ideal S8x128x128 .f32) (k : Fin 128) (hp : m (ix3 h r k) = 1#1 ↔ p) :
    grs a b s m x y z l (ix3 h r k) = gr (rowOf a h r) (rowOf b h r) (s (ix3 h 0 0)) (rowOf x h r) (rowOf y h r) p (z (ix3 h r k)) (l (ix3 h r k)) := by
  unfold gr
  rw [← tots_at, ← means_at, ← exs_at]
  have e : grs a b s m x y z l (ix3 h r k) = if m (ix3 h r k) = 1#1 then (Ideal.div (z (ix3 h r k)) (tots a b s (ix3 h r 0)) + ∑ j : Fin 1, means a b s x y (ix3 h r j))
      * exs l a b s (ix3 h r k) else 0 := by
    rw [← zero]
    pointwise [grs]
    rfl
  rw [e]
  refine if_congr hp ?_ rfl
  rw [Fin.sum_univ_one]

/-- Scaled. -/
def scls (y : FVec Ideal S8x128x128 .f32) : FVec Ideal S8x128x128 .f32 := mulf y (broadcast S8x128x128 (Scalar.ofBits .f32 0x3E000000#32))

theorem scls_at (y : FVec Ideal S8x128x128 .f32) (k : Fin 128) : scls y (ix3 h r k) = y (ix3 h r k) * scale := by
  unfold scale
  pointwise [scls]

/-- The queries' gradients. -/
def dqs (y z : FVec Ideal S8x128x128 .f32) (k l : FVec Ideal S2x128x64 .f32) : FVec Ideal S8x128x64 .f32 :=
  addf (matmul dot_S8x128x128_S8x128x64_S8x128x64_2_1_1_2_0_0 none (truncf .bf16 (scls z) bitsLt_bf16_f32) (truncf .bf16 (rep l) bitsLt_bf16_f32)
    (constant S8x128x64 .f32 0x00000000#32))
    (matmul dot_S8x128x128_S8x128x64_S8x128x64_2_1_1_2_0_0 none (truncf .bf16 (scls y) bitsLt_bf16_f32) (truncf .bf16 (rep k) bitsLt_bf16_f32)
    (constant S8x128x64 .f32 0x00000000#32))

theorem dqs_at (y z : FVec Ideal S8x128x128 .f32) (k l : FVec Ideal S2x128x64 .f32) (d : Fin 64) :
    dqs y z k l (ix3 h r d) = ∑ j, z (ix3 h r j) * scale * l (ix3 (grp h) j d) + ∑ j, y (ix3 h r j) * scale * k (ix3 (grp h) j d) := by
  simp only [← scls_at]
  pointwise [dqs, rep_at]

/-- The sinks' gradients. -/
def sks (x y : FVec Ideal S8x128x128 .f32) : FVec Ideal S8x1x1 .f32 :=
  shapeCast S8x1x1 (shapeCast S8x1 (multiReduction .add [1, 2] S8 (mulf (means a b s x y)
    (exp (subf (broadcastTo S8x128x1 s broadcasts_S8x1x1_S8x128x1) (tops a b s)))) 0x00000000#32 reduces_S8x128x1_S8 (.inl rfl) rfl) shapeCasts_S8_S8x1)
    shapeCasts_S8x1_S8x1x1

theorem sks_at (x y : FVec Ideal S8x128x128 .f32) : sks a b s x y (ix3 h 0 0)
    = ∑ r, sk (rowOf a h r) (rowOf b h r) (s (ix3 h 0 0)) (rowOf x h r) (rowOf y h r) := by
  have e : ∀ r : Fin 128, sk (rowOf a h r) (rowOf b h r) (s (ix3 h 0 0)) (rowOf x h r) (rowOf y h r)
      = means a b s x y (ix3 h r 0) * Ideal.exp (s (ix3 h 0 0) - tops a b s (ix3 h r 0)) := fun r => by rw [means_at, tops_at]; rfl
  simp only [e]
  pointwise [sks]
  exact Finset.sum_congr rfl fun r _ => Fin.sum_univ_one _
end

/-- A sum over the first two of three axes. -/
theorem sum_top {n k l : ℕ} (h : (⟨3, ![n, k, l]⟩ : Shape).Reduces [0, 1] ⟨1, ![l]⟩) (v : (⟨3, ![n, k, l]⟩ : Shape).Idx → EReal) (c : Fin l) :
    Ideal.reduceAdd h v (ix1 c) = ∑ a : Fin n, ∑ b : Fin k, v (ix3 a b c) := by
  refine (Finset.sum_filter_eq_sum_of_fiber _ (fun p : Fin n × Fin k => ix3 p.1 p.2 c)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  · simp only [Fintype.sum_prod_type]

theorem row_at (z : FVec Ideal S8x1x1 .f32) (j : Fin 128) : k0_pay65 (F := Ideal) k0_pay13 z (ix2 0 j)
    = if h : j.val < 8 then z (ix3 ⟨j.val, h⟩ 0 0) else 0 := by
  pointwise [k0_pay65, k0_pay13]
  rw [sum_top]
  pointwise
  rw [sum_top]
  pointwise
  simp only [Fin.sum_univ_one]
  split_ifs with h
  · refine (Finset.sum_eq_single (⟨j.val, h⟩ : Fin 8) (fun b _ hb => if_neg ?_) (fun hh => absurd (Finset.mem_univ _) hh)).trans (if_pos ?_)
    · exact fun e => hb (Fin.ext ((WordCmp.cmpi_eq_ofNat_eq_one_iff (by omega) (by omega)).mp e).symm)
    · exact (WordCmp.cmpi_eq_ofNat_eq_one_iff (by omega) (by omega)).mpr rfl
  · refine Finset.sum_eq_zero fun b _ => if_neg fun e => h ?_
    have := (WordCmp.cmpi_eq_ofNat_eq_one_iff (by omega) (by omega)).mp e
    omega

/-! ## The body's values -/

section
variable (v3 : BitVec 1) (i j : IVec S8x128x128 32) (m : IVec S8x128x128 1) (q g : FVec Ideal S8x128x64 .f32) (k l : FVec Ideal S2x128x64 .f32)
  (g0 g1 g2 g3 g4 g5 g6 g7 : FVec Ideal S128x64 .f32) (u v a b x y z e f w : FVec Ideal S8x128x128 .f32) (s : FVec Ideal S8x1x1 .f32) (ta : FVec Ideal S8x128x1 .f32)

theorem g21 : k0_pay21 (F := Ideal) v3 q k l u v i j s = tops (lgs q k u (k0_pay15 v3 i j)) (lgs q l v (k0_pay18 i j)) s := rfl
theorem g22 : k0_pay22 (F := Ideal) v3 q k l u v i j s
    = exs (lgs q k u (k0_pay15 v3 i j)) (lgs q k u (k0_pay15 v3 i j)) (lgs q l v (k0_pay18 i j)) s := rfl
theorem g23 : k0_pay23 (F := Ideal) v3 q k l u v i j s
    = exs (lgs q l v (k0_pay18 i j)) (lgs q k u (k0_pay15 v3 i j)) (lgs q l v (k0_pay18 i j)) s := rfl
theorem g25 : k0_pay25 (F := Ideal) s (tops a b s) (exs a a b s) (exs b a b s) = tots a b s := rfl
theorem g26 : k0_pay26 (F := Ideal) s (tops a b s) (exs a a b s) (exs b a b s) = wts a a b s := rfl
theorem g29 : k0_pay29 (F := Ideal) s (tops a b s) (exs a a b s) (exs b a b s) = wts b a b s := rfl
theorem g27 : k0_pay27 (F := Ideal) s (tops a b s) (exs a a b s) (exs b a b s) = invs a b s := rfl
theorem g30 : k0_pay30 (F := Ideal) s (tops a b s) (exs a a b s) (exs b a b s) = invs a b s := rfl
theorem g28 : k0_pay28 (F := Ideal) k = rep k := rfl
theorem g31 : k0_pay31 (F := Ideal) k = rep k := rfl
theorem g16 : k0_pay16 (F := Ideal) k = rep k := rfl
theorem g19 : k0_pay19 (F := Ideal) k = rep k := rfl
theorem g33 : k0_pay33 (F := Ideal) (rep k) g0 g1 g2 g3 g4 g5 g6 g7 = pulls (k0_pay32 g0 g1 g2 g3 g4 g5 g6 g7) k := rfl
theorem g37 : k0_pay37 (F := Ideal) (rep k) g = pulls g k := rfl
theorem g34 : k0_pay34 (F := Ideal) w g0 g1 g2 g3 g4 g5 g6 g7 = gsum (cross w (k0_pay32 g0 g1 g2 g3 g4 g5 g6 g7)) := rfl
theorem g38 : k0_pay38 (F := Ideal) w g = gsum (cross w g) := rfl
theorem g35 : k0_pay35 (F := Ideal) (exs b a b s) (invs a b s) y = backs a b s y b := rfl
theorem g36 : k0_pay36 (F := Ideal) (tots a b s) y = divf y (broadcastTo S8x128x128 (tots a b s) broadcasts_S8x128x1_S8x128x128) := rfl
theorem g39 : k0_pay39 (F := Ideal) (invs a b s) (rep k) g
    = mulf (pulls g k) (broadcastTo S8x128x128 (invs a b s) broadcasts_S8x128x1_S8x128x128) := rfl
theorem g41 : k0_pay41 (F := Ideal) (exs a a b s) (k0_pay24 s (tops a b s)) (backs a b s y b)
    (mulf x (broadcastTo S8x128x128 (invs a b s) broadcasts_S8x128x1_S8x128x128)) = sks a b s x y := rfl
theorem g54 : k0_pay54 (F := Ideal) m (k0_pay42 (exs a a b s) (tots a b s) (backs a b s y b) x
    (mulf x (broadcastTo S8x128x128 (invs a b s) broadcasts_S8x128x1_S8x128x128))) = grs a b s m x y x a := rfl
theorem g43 : k0_pay43 (F := Ideal) m (exs a a b s) (exs b a b s) (backs a b s y b)
    (divf y (broadcastTo S8x128x128 (tots a b s) broadcasts_S8x128x1_S8x128x128))
    (mulf x (broadcastTo S8x128x128 (invs a b s) broadcasts_S8x128x1_S8x128x128)) = grs a b s m x y y b := rfl
theorem g57 (n : IVec S8x128x128 1) : k0_pay57 (F := Ideal) m (rep k) z (k0_pay45 n (rep l) e f ta y w)
    = dqs (k0_pay54 m z) (k0_pay43 n e f ta y w) k l := rfl
theorem g53 : k0_pay53 (F := Ideal) (k0_pay47 q m e f ta y w) (k0_pay48 q m e f ta y w) (k0_pay49 q m e f ta y w) (k0_pay50 q m e f ta y w)
    (k0_pay51 q m e f ta y w) (k0_pay52 q m e f ta y w) = gsum (cross (scls (k0_pay43 m e f ta y w)) q) := rfl
theorem g64 : k0_pay64 (F := Ideal) (k0_pay58 q m z) (k0_pay59 q m z) (k0_pay60 q m z) (k0_pay61 q m z) (k0_pay62 q m z) (k0_pay63 (F := Ideal))
    = gsum (cross (scls (k0_pay54 m z)) q) := rfl
end

end Cert.SwBwdPoint

end
-- ==== Proof.SwaBwdHead.lean ====
module

public import proofs.«01_k».proof.Proof.SwBwdPoint
public import proofs.«01_k».proof.Proof.SwaFwdKernel
public import proofs.«01_k».proof.Proof.Gen.SwaBwdIdeal.Value
public import Idealize.ShloMosaic.Lib.Pipeline.ReadBack

/-! # What one grid point of `_swa_bwd` computes -/

@[expose] public section

set_option maxRecDepth 16384

noncomputable section

namespace Cert.SwaBwdIdeal.Value

open Cert.SwaBwdIdeal Cert.SwaBwdIdeal.Gen Idealize.ShloMosaic Idealize.ShloMosaic.TcCoe Idealize.SL.Sem Cert.SwSpec Cert.SwPoint Cert.SwBwdPoint Cert.LnSpec
open Idealize.ShloMosaic.Pipeline (Dat)
open Cert.SwaFwdIdeal.Value (heads groups biasL biasR)

variable (m : (ℓ : Loc nD τ sig) → Buf (Elt Ideal) ℓ) (c : Dev nD) (t : Fin cfg0.N)

/-! ## The body's values, as it names them -/

abbrev w3 : BitVec 1 := Scalar.cmpi .slt (BitVec.ofNat 32 (grid0.coords t 0).val) 31#32
abbrev w28 : FVec Ideal S8x128x64 .f32 := k0_pay6 (View.ld (Val := Elt Ideal) (S := S128x512) (e' := .f32) (iblk m c 1 t) (Rect.unit ![0, 0] ![128, 64] inb_S128x512_S128x64_0_0)) (View.ld (Val := Elt Ideal) (S := S128x512) (e' := .f32) (iblk m c 1 t) (Rect.unit ![0, 64] ![128, 64] inb_S128x512_S128x64_0_64)) (View.ld (Val := Elt Ideal) (S := S128x512) (e' := .f32) (iblk m c 1 t) (Rect.unit ![0, 128] ![128, 64] inb_S128x512_S128x64_0_128)) (View.ld (Val := Elt Ideal) (S := S128x512) (e' := .f32) (iblk m c 1 t) (Rect.unit ![0, 192] ![128, 64] inb_S128x512_S128x64_0_192)) (View.ld (Val := Elt Ideal) (S := S128x512) (e' := .f32) (iblk m c 1 t) (Rect.unit ![0, 256] ![128, 64] inb_S128x512_S128x64_0_256)) (View.ld (Val := Elt Ideal) (S := S128x512) (e' := .f32) (iblk m c 1 t) (Rect.unit ![0, 320] ![128, 64] inb_S128x512_S128x64_0_320)) (View.ld (Val := Elt Ideal) (S := S128x512) (e' := .f32) (iblk m c 1 t) (Rect.unit ![0, 384] ![128, 64] inb_S128x512_S128x64_0_384)) (View.ld (Val := Elt Ideal) (S := S128x512) (e' := .f32) (iblk m c 1 t) (Rect.unit ![0, 448] ![128, 64] inb_S128x512_S128x64_0_448))
abbrev w35 : FVec Ideal S2x128x64 .f32 := k0_pay9 (k0_pay7 (View.ld (Val := Elt Ideal) (S := S128x128) (e' := .f32) (iblk m c 2 t) (Rect.unit ![0, 0] ![128, 64] inb_S128x128_S128x64_0_0))) (k0_pay8 (View.ld (Val := Elt Ideal) (S := S128x128) (e' := .f32) (iblk m c 2 t) (Rect.unit ![0, 64] ![128, 64] inb_S128x128_S128x64_0_64)))
abbrev w42 : FVec Ideal S2x128x64 .f32 := k0_pay10 (View.ld (Val := Elt Ideal) (S := S128x128) (e' := .f32) (iblk m c 3 t) (Rect.unit ![0, 0] ![128, 64] inb_S128x128_S128x64_0_0)) (View.ld (Val := Elt Ideal) (S := S128x128) (e' := .f32) (iblk m c 3 t) (Rect.unit ![0, 64] ![128, 64] inb_S128x128_S128x64_0_64))
abbrev w49 : FVec Ideal S2x128x64 .f32 := k0_pay11 (View.ld (Val := Elt Ideal) (S := S128x128) (e' := .f32) (iblk m c 4 t) (Rect.unit ![0, 0] ![128, 64] inb_S128x128_S128x64_0_0)) (View.ld (Val := Elt Ideal) (S := S128x128) (e' := .f32) (iblk m c 4 t) (Rect.unit ![0, 64] ![128, 64] inb_S128x128_S128x64_0_64))
abbrev w56 : FVec Ideal S2x128x64 .f32 := k0_pay12 (View.ld (Val := Elt Ideal) (S := S128x128) (e' := .f32) (iblk m c 5 t) (Rect.unit ![0, 0] ![128, 64] inb_S128x128_S128x64_0_0)) (View.ld (Val := Elt Ideal) (S := S128x128) (e' := .f32) (iblk m c 5 t) (Rect.unit ![0, 64] ![128, 64] inb_S128x128_S128x64_0_64))
abbrev w57 : FVec Ideal S8x128x128 .f32 := View.ld (Val := Elt Ideal) (S := S8x128x256) (e' := .f32) (iblk m c 6 t) (Rect.unit ![0, 0, 0] ![8, 128, 128] inb_S8x128x256_S8x128x128_0_0_0)
abbrev w58 : FVec Ideal S8x128x128 .f32 := View.ld (Val := Elt Ideal) (S := S8x128x256) (e' := .f32) (iblk m c 6 t) (Rect.unit ![0, 0, 128] ![8, 128, 128] inb_S8x128x256_S8x128x128_0_0_128)
abbrev w61 : IVec S8x128x128 32 := iota .tc S8x128x128 32 [1] iota_S8x128x128_d1_w32
abbrev w62 : IVec S8x128x128 32 := iota .tc S8x128x128 32 [2] iota_S8x128x128_d2_w32
abbrev w72 : FVec Ideal S8x1x1 .f32 := k0_pay14 (iblk m c 7 t)
abbrev w75 : IVec S8x128x128 1 := k0_pay15 (w3 t) w61 w62
abbrev w93 : IVec S8x128x128 1 := k0_pay18 w61 w62
abbrev w84 : FVec Ideal S8x128x64 .f32 := k0_pay16 (w35 m c t)
abbrev w102 : FVec Ideal S8x128x64 .f32 := k0_pay19 (w42 m c t)
abbrev w117 : FVec Ideal S8x128x1 .f32 := k0_pay21 (w3 t) (w28 m c t) (w35 m c t) (w42 m c t) (w57 m c t) (w58 m c t) w61 w62 (w72 m c t)
abbrev w120 : FVec Ideal S8x128x128 .f32 := k0_pay22 (w3 t) (w28 m c t) (w35 m c t) (w42 m c t) (w57 m c t) (w58 m c t) w61 w62 (w72 m c t)
abbrev w123 : FVec Ideal S8x128x128 .f32 := k0_pay23 (w3 t) (w28 m c t) (w35 m c t) (w42 m c t) (w57 m c t) (w58 m c t) w61 w62 (w72 m c t)
abbrev w131 : FVec Ideal S8x128x1 .f32 := k0_pay24 (w72 m c t) (w117 m c t)
abbrev w132 : FVec Ideal S8x128x1 .f32 := k0_pay25 (w72 m c t) (w117 m c t) (w120 m c t) (w123 m c t)
abbrev w134 : FVec Ideal S8x128x128 .f32 := k0_pay26 (w72 m c t) (w117 m c t) (w120 m c t) (w123 m c t)
abbrev w137 : FVec Ideal S8x128x1 .f32 := k0_pay27 (w72 m c t) (w117 m c t) (w120 m c t) (w123 m c t)
abbrev w146 : FVec Ideal S8x128x64 .f32 := k0_pay28 (w49 m c t)
abbrev w148 : FVec Ideal S8x128x128 .f32 := k0_pay29 (w72 m c t) (w117 m c t) (w120 m c t) (w123 m c t)
abbrev w151 : FVec Ideal S8x128x1 .f32 := k0_pay30 (w72 m c t) (w117 m c t) (w120 m c t) (w123 m c t)
abbrev w160 : FVec Ideal S8x128x64 .f32 := k0_pay31 (w56 m c t)
abbrev w177 : FVec Ideal S8x128x64 .f32 := k0_pay32 (View.ld (Val := Elt Ideal) (S := S128x512) (e' := .f32) (iblk m c 0 t) (Rect.unit ![0, 0] ![128, 64] inb_S128x512_S128x64_0_0)) (View.ld (Val := Elt Ideal) (S := S128x512) (e' := .f32) (iblk m c 0 t) (Rect.unit ![0, 64] ![128, 64] inb_S128x512_S128x64_0_64)) (View.ld (Val := Elt Ideal) (S := S128x512) (e' := .f32) (iblk m c 0 t) (Rect.unit ![0, 128] ![128, 64] inb_S128x512_S128x64_0_128)) (View.ld (Val := Elt Ideal) (S := S128x512) (e' := .f32) (iblk m c 0 t) (Rect.unit ![0, 192] ![128, 64] inb_S128x512_S128x64_0_192)) (View.ld (Val := Elt Ideal) (S := S128x512) (e' := .f32) (iblk m c 0 t) (Rect.unit ![0, 256] ![128, 64] inb_S128x512_S128x64_0_256)) (View.ld (Val := Elt Ideal) (S := S128x512) (e' := .f32) (iblk m c 0 t) (Rect.unit ![0, 320] ![128, 64] inb_S128x512_S128x64_0_320)) (View.ld (Val := Elt Ideal) (S := S128x512) (e' := .f32) (iblk m c 0 t) (Rect.unit ![0, 384] ![128, 64] inb_S128x512_S128x64_0_384)) (View.ld (Val := Elt Ideal) (S := S128x512) (e' := .f32) (iblk m c 0 t) (Rect.unit ![0, 448] ![128, 64] inb_S128x512_S128x64_0_448))
abbrev w180 : FVec Ideal S8x128x128 .f32 := k0_pay33 (w160 m c t) (View.ld (Val := Elt Ideal) (S := S128x512) (e' := .f32) (iblk m c 0 t) (Rect.unit ![0, 0] ![128, 64] inb_S128x512_S128x64_0_0)) (View.ld (Val := Elt Ideal) (S := S128x512) (e' := .f32) (iblk m c 0 t) (Rect.unit ![0, 64] ![128, 64] inb_S128x512_S128x64_0_64)) (View.ld (Val := Elt Ideal) (S := S128x512) (e' := .f32) (iblk m c 0 t) (Rect.unit ![0, 128] ![128, 64] inb_S128x512_S128x64_0_128)) (View.ld (Val := Elt Ideal) (S := S128x512) (e' := .f32) (iblk m c 0 t) (Rect.unit ![0, 192] ![128, 64] inb_S128x512_S128x64_0_192)) (View.ld (Val := Elt Ideal) (S := S128x512) (e' := .f32) (iblk m c 0 t) (Rect.unit ![0, 256] ![128, 64] inb_S128x512_S128x64_0_256)) (View.ld (Val := Elt Ideal) (S := S128x512) (e' := .f32) (iblk m c 0 t) (Rect.unit ![0, 320] ![128, 64] inb_S128x512_S128x64_0_320)) (View.ld (Val := Elt Ideal) (S := S128x512) (e' := .f32) (iblk m c 0 t) (Rect.unit ![0, 384] ![128, 64] inb_S128x512_S128x64_0_384)) (View.ld (Val := Elt Ideal) (S := S128x512) (e' := .f32) (iblk m c 0 t) (Rect.unit ![0, 448] ![128, 64] inb_S128x512_S128x64_0_448))
abbrev w214 : FVec Ideal S2x128x64 .f32 := k0_pay34 (w148 m c t) (View.ld (Val := Elt Ideal) (S := S128x512) (e' := .f32) (iblk m c 0 t) (Rect.unit ![0, 0] ![128, 64] inb_S128x512_S128x64_0_0)) (View.ld (Val := Elt Ideal) (S := S128x512) (e' := .f32) (iblk m c 0 t) (Rect.unit ![0, 64] ![128, 64] inb_S128x512_S128x64_0_64)) (View.ld (Val := Elt Ideal) (S := S128x512) (e' := .f32) (iblk m c 0 t) (Rect.unit ![0, 128] ![128, 64] inb_S128x512_S128x64_0_128)) (View.ld (Val := Elt Ideal) (S := S128x512) (e' := .f32) (iblk m c 0 t) (Rect.unit ![0, 192] ![128, 64] inb_S128x512_S128x64_0_192)) (View.ld (Val := Elt Ideal) (S := S128x512) (e' := .f32) (iblk m c 0 t) (Rect.unit ![0, 256] ![128, 64] inb_S128x512_S128x64_0_256)) (View.ld (Val := Elt Ideal) (S := S128x512) (e' := .f32) (iblk m c 0 t) (Rect.unit ![0, 320] ![128, 64] inb_S128x512_S128x64_0_320)) (View.ld (Val := Elt Ideal) (S := S128x512) (e' := .f32) (iblk m c 0 t) (Rect.unit ![0, 384] ![128, 64] inb_S128x512_S128x64_0_384)) (View.ld (Val := Elt Ideal) (S := S128x512) (e' := .f32) (iblk m c 0 t) (Rect.unit ![0, 448] ![128, 64] inb_S128x512_S128x64_0_448))
abbrev w221 : FVec Ideal S8x128x1 .f32 := k0_pay35 (w123 m c t) (w151 m c t) (w180 m c t)
abbrev w223 : FVec Ideal S8x128x128 .f32 := k0_pay36 (w132 m c t) (w180 m c t)
abbrev w226 : FVec Ideal S8x128x128 .f32 := k0_pay37 (w146 m c t) (w177 m c t)
abbrev w260 : FVec Ideal S2x128x64 .f32 := k0_pay38 (w134 m c t) (w177 m c t)
abbrev w262 : FVec Ideal S8x128x128 .f32 := k0_pay39 (w137 m c t) (w146 m c t) (w177 m c t)
abbrev w274 : FVec Ideal S8x1x1 .f32 := k0_pay41 (w120 m c t) (w131 m c t) (w221 m c t) (w262 m c t)
abbrev w284 : FVec Ideal S8x128x128 .f32 := k0_pay42 (w120 m c t) (w132 m c t) (w221 m c t) (w226 m c t) (w262 m c t)
abbrev w286 : FVec Ideal S8x128x128 .f32 := k0_pay43 w93 (w120 m c t) (w123 m c t) (w221 m c t) (w223 m c t) (w262 m c t)
abbrev w291 : FVec Ideal S8x128x64 .f32 := k0_pay45 w93 (w102 m c t) (w120 m c t) (w123 m c t) (w221 m c t) (w223 m c t) (w262 m c t)
abbrev w325 : FVec Ideal S2x128x64 .f32 := k0_pay53 (k0_pay47 (w28 m c t) w93 (w120 m c t) (w123 m c t) (w221 m c t) (w223 m c t) (w262 m c t)) (k0_pay48 (w28 m c t) w93 (w120 m c t) (w123 m c t) (w221 m c t) (w223 m c t) (w262 m c t)) (k0_pay49 (w28 m c t) w93 (w120 m c t) (w123 m c t) (w221 m c t) (w223 m c t) (w262 m c t)) (k0_pay50 (w28 m c t) w93 (w120 m c t) (w123 m c t) (w221 m c t) (w223 m c t) (w262 m c t)) (k0_pay51 (w28 m c t) w93 (w120 m c t) (w123 m c t) (w221 m c t) (w223 m c t) (w262 m c t)) (k0_pay52 (w28 m c t) w93 (w120 m c t) (w123 m c t) (w221 m c t) (w223 m c t) (w262 m c t))
abbrev w327 : FVec Ideal S8x128x128 .f32 := k0_pay54 (w75 t) (w284 m c t)
abbrev w336 : FVec Ideal S8x128x64 .f32 := k0_pay57 (w75 t) (w84 m c t) (w284 m c t) (w291 m c t)
abbrev w367 : FVec Ideal S2x128x64 .f32 := k0_pay64 (k0_pay58 (w28 m c t) (w75 t) (w284 m c t)) (k0_pay59 (w28 m c t) (w75 t) (w284 m c t)) (k0_pay60 (w28 m c t) (w75 t) (w284 m c t)) (k0_pay61 (w28 m c t) (w75 t) (w284 m c t)) (k0_pay62 (w28 m c t) (w75 t) (w284 m c t)) (k0_pay63 (F := Ideal))

/-! ## … and as arrays over heads -/

def qH : FVec Ideal S8x128x64 .f32 := heads (iblk m c 1 t)
def gH : FVec Ideal S8x128x64 .f32 := w177 m c t
def kP : FVec Ideal S2x128x64 .f32 := groups (iblk m c 2 t)
def kC : FVec Ideal S2x128x64 .f32 := groups (iblk m c 3 t)
def vP : FVec Ideal S2x128x64 .f32 := groups (iblk m c 4 t)
def vC : FVec Ideal S2x128x64 .f32 := groups (iblk m c 5 t)
def sH : FVec Ideal S8x1x1 .f32 := k0_pay14 (iblk m c 7 t)
def mB : IVec S8x128x128 1 := k0_pay15 (w3 t) w61 w62
def mW : IVec S8x128x128 1 := k0_pay18 w61 w62
def lB : FVec Ideal S8x128x128 .f32 := lgs (qH m c t) (kP m c t) (biasL (iblk m c 6 t)) (mB t)
def lW : FVec Ideal S8x128x128 .f32 := lgs (qH m c t) (kC m c t) (biasR (iblk m c 6 t)) mW
def pB : FVec Ideal S8x128x128 .f32 := pulls (gH m c t) (vP m c t)
def pW : FVec Ideal S8x128x128 .f32 := pulls (gH m c t) (vC m c t)
def dB : FVec Ideal S8x128x128 .f32 := grs (lB m c t) (lW m c t) (sH m c t) (mB t) (pB m c t) (pW m c t) (pB m c t) (lB m c t)
def dW : FVec Ideal S8x128x128 .f32 := grs (lB m c t) (lW m c t) (sH m c t) mW (pB m c t) (pW m c t) (pW m c t) (lW m c t)
def dQ : FVec Ideal S8x128x64 .f32 := dqs (dB m c t) (dW m c t) (kP m c t) (kC m c t)
def dKB : FVec Ideal S2x128x64 .f32 := gsum (cross (scls (dB m c t)) (qH m c t))
def dKW : FVec Ideal S2x128x64 .f32 := gsum (cross (scls (dW m c t)) (qH m c t))
def dVB : FVec Ideal S2x128x64 .f32 := gsum (cross (wts (lB m c t) (lB m c t) (lW m c t) (sH m c t)) (gH m c t))
def dVW : FVec Ideal S2x128x64 .f32 := gsum (cross (wts (lW m c t) (lB m c t) (lW m c t) (sH m c t)) (gH m c t))
def dS : FVec Ideal S8x1x1 .f32 := sks (lB m c t) (lW m c t) (sH m c t) (pB m c t) (pW m c t)

theorem e28 : w28 m c t = qH m c t := rfl
theorem e35 : w35 m c t = kP m c t := rfl
theorem e42 : w42 m c t = kC m c t := rfl
theorem e49 : w49 m c t = vP m c t := rfl
theorem e56 : w56 m c t = vC m c t := rfl
theorem e57 : w57 m c t = biasL (iblk m c 6 t) := rfl
theorem e58 : w58 m c t = biasR (iblk m c 6 t) := rfl
theorem e177 : w177 m c t = gH m c t := rfl

theorem gH_at (h : Fin 8) (r : Fin 128) (d : Fin 64) : gH m c t (ix3 h r d) = (iblk m c 0 t : FVec Ideal S128x512 .f32) (ix2 r (hcol h d)) := by
  unfold gH w177
  generalize (iblk m c 0 t : FVec Ideal S128x512 .f32) = x
  fin_cases h <;> pointwise [k0_pay32, hcol]
theorem e117 : w117 m c t = tops (lB m c t) (lW m c t) (sH m c t) := by
  unfold w117; rw [e28, e35, e42, e57, e58]; exact g21 ..
theorem e120 : w120 m c t = exs (lB m c t) (lB m c t) (lW m c t) (sH m c t) := by
  unfold w120; rw [e28, e35, e42, e57, e58]; exact g22 ..
theorem e123 : w123 m c t = exs (lW m c t) (lB m c t) (lW m c t) (sH m c t) := by
  unfold w123; rw [e28, e35, e42, e57, e58]; exact g23 ..
theorem e72 : w72 m c t = sH m c t := rfl
theorem e132 : w132 m c t = tots (lB m c t) (lW m c t) (sH m c t) := by
  unfold w132; rw [e72, e117, e120, e123]; exact g25 ..
theorem e137 : w137 m c t = invs (lB m c t) (lW m c t) (sH m c t) := by
  unfold w137; rw [e72, e117, e120, e123]; exact g27 ..
theorem e151 : w151 m c t = invs (lB m c t) (lW m c t) (sH m c t) := by
  unfold w151; rw [e72, e117, e120, e123]; exact g30 ..
theorem e134 : w134 m c t = wts (lB m c t) (lB m c t) (lW m c t) (sH m c t) := by
  unfold w134; rw [e72, e117, e120, e123]; exact g26 ..
theorem e148 : w148 m c t = wts (lW m c t) (lB m c t) (lW m c t) (sH m c t) := by
  unfold w148; rw [e72, e117, e120, e123]; exact g29 ..
theorem e146 : w146 m c t = rep (vP m c t) := by
  unfold w146; rw [e49]; exact g28 ..
theorem e160 : w160 m c t = rep (vC m c t) := by
  unfold w160; rw [e56]; exact g31 ..
theorem e180 : w180 m c t = pW m c t := by
  unfold w180; rw [e160, g33]; exact congrArg (pulls · _) (e177 m c t)
theorem e226 : w226 m c t = pB m c t := by
  unfold w226; rw [e146, e177]; exact g37 ..
theorem e221 : w221 m c t = backs (lB m c t) (lW m c t) (sH m c t) (pW m c t) (lW m c t) := by
  unfold w221; rw [e123, e151, e180]; exact g35 ..
theorem e223 : w223 m c t = divf (pW m c t) (broadcastTo S8x128x128 (tots (lB m c t) (lW m c t) (sH m c t)) broadcasts_S8x128x1_S8x128x128) := by
  unfold w223; rw [e132, e180]; exact g36 ..
theorem e262 : w262 m c t = mulf (pB m c t) (broadcastTo S8x128x128 (invs (lB m c t) (lW m c t) (sH m c t)) broadcasts_S8x128x1_S8x128x128) := by
  unfold w262; rw [e137, e146, e177]; exact g39 ..
theorem e131 : w131 m c t = k0_pay24 (sH m c t) (tops (lB m c t) (lW m c t) (sH m c t)) := by
  unfold w131; rw [e72, e117]
theorem e274 : w274 m c t = dS m c t := by
  unfold w274; rw [e120, e131, e221, e262]; exact g41 ..
theorem e327 : w327 m c t = dB m c t := by
  unfold w327 w284; rw [e120, e132, e221, e226, e262]; exact g54 ..
theorem e286 : w286 m c t = dW m c t := by
  unfold w286; rw [e120, e123, e221, e223, e262]; exact g43 ..
theorem e336 : w336 m c t = dQ m c t := by
  unfold w336 w291
  rw [show w84 m c t = rep (kP m c t) from (by unfold w84; rw [e35]; exact g16 ..), show w102 m c t = rep (kC m c t) from (by unfold w102; rw [e42]; exact g19 ..), g57]
  refine Eq.trans (b := dqs (w327 m c t) (w286 m c t) (kP m c t) (kC m c t)) rfl ?_
  rw [e327, e286]
  rfl
theorem e325 : w325 m c t = dKW m c t := by
  unfold w325
  rw [g53]
  refine Eq.trans (b := gsum (cross (scls (w286 m c t)) (w28 m c t))) rfl ?_
  rw [e286, e28]
  rfl
theorem e367 : w367 m c t = dKB m c t := by
  unfold w367
  rw [g64]
  refine Eq.trans (b := gsum (cross (scls (w327 m c t)) (w28 m c t))) rfl ?_
  rw [e327, e28]
  rfl
theorem e214 : w214 m c t = dVW m c t := by
  unfold w214
  rw [g34]
  refine Eq.trans (b := gsum (cross (w148 m c t) (w177 m c t))) rfl ?_
  rw [e148, e177]
  rfl
theorem e260 : w260 m c t = dVB m c t := by
  unfold w260; rw [e134, e177]; exact g38 ..

end Cert.SwaBwdIdeal.Value

end
-- ==== Proof.SwaBwdStore.lean ====
module

public import proofs.«01_k».proof.Proof.SwaBwdHead

/-! # What one grid point of `_swa_bwd` stores -/

@[expose] public section

set_option maxRecDepth 16384

noncomputable section

namespace Cert.SwaBwdIdeal.Value

open Cert.SwaBwdIdeal Cert.SwaBwdIdeal.Gen Idealize.ShloMosaic Idealize.ShloMosaic.TcCoe Idealize.SL.Sem Cert.SwSpec Cert.SwPoint Cert.SwBwdPoint Cert.LnSpec
open Idealize.ShloMosaic.Pipeline (Dat)
open Cert.SwaFwdIdeal.Value (slab slab_at)

/-- 64 columns of a carried buffer. -/
def half64 (o : ℕ) (ho : ∀ a, (![0, o] : Fin 2 → Nat) a + S128x64.size a ≤ S128x128.size a) (M : FVec Ideal S128x128 .f32) : FVec Ideal S128x64 .f32 :=
  View.ld (Val := Elt Ideal) (S := S128x128) (e' := .f32) M (Rect.unit ![0, o] ![128, 64] ho)

theorem half64_at (o : ℕ) (ho) (M : FVec Ideal S128x128 .f32) (r : Fin 128) (d : Fin 64) (k : Fin 128) (hk : k.val = o + d.val) :
    half64 o ho M (ix2 r d) = M (ix2 r k) := by
  refine congrArg M (funext fun a => Fin.ext ?_)
  match a with
  | ⟨0, _⟩ => show 0 + 1 * r.val = r.val; omega
  | ⟨1, _⟩ => show o + 1 * d.val = k.val; omega

section
variable (v : FVec Ideal S8x128x64 .f32) (u : FVec Ideal S2x128x64 .f32) (p : FVec Ideal S128x64 .f32) (r : Fin 128) (d : Fin 64)

theorem q0 : k0_pay66 (F := Ideal) v (ix2 r d) = v (ix3 0 r d) := slab_at 0 0 slices_S8x128x64_o0_0_0_S1x128x64 rfl v r d
theorem q1 : k0_pay67 (F := Ideal) v (ix2 r d) = v (ix3 1 r d) := slab_at 1 1 slices_S8x128x64_o1_0_0_S1x128x64 rfl v r d
theorem q2 : k0_pay68 (F := Ideal) v (ix2 r d) = v (ix3 2 r d) := slab_at 2 2 slices_S8x128x64_o2_0_0_S1x128x64 rfl v r d
theorem q3 : k0_pay69 (F := Ideal) v (ix2 r d) = v (ix3 3 r d) := slab_at 3 3 slices_S8x128x64_o3_0_0_S1x128x64 rfl v r d
theorem q4 : k0_pay70 (F := Ideal) v (ix2 r d) = v (ix3 4 r d) := slab_at 4 4 slices_S8x128x64_o4_0_0_S1x128x64 rfl v r d
theorem q5 : k0_pay71 (F := Ideal) v (ix2 r d) = v (ix3 5 r d) := slab_at 5 5 slices_S8x128x64_o5_0_0_S1x128x64 rfl v r d
theorem q6 : k0_pay72 (F := Ideal) v (ix2 r d) = v (ix3 6 r d) := slab_at 6 6 slices_S8x128x64_o6_0_0_S1x128x64 rfl v r d
theorem q7 : k0_pay73 (F := Ideal) v (ix2 r d) = v (ix3 7 r d) := slab_at 7 7 slices_S8x128x64_o7_0_0_S1x128x64 rfl v r d

theorem k0 : k0_pay74 (F := Ideal) u p (ix2 r d) = u (ix3 0 r d) + p (ix2 r d) := by pointwise [k0_pay74]
theorem v0 : k0_pay75 (F := Ideal) u p (ix2 r d) = u (ix3 0 r d) + p (ix2 r d) := by pointwise [k0_pay75]
theorem k1 : k0_pay79 (F := Ideal) u p (ix2 r d) = u (ix3 1 r d) + p (ix2 r d) := by pointwise [k0_pay79]
theorem v1 : k0_pay80 (F := Ideal) u p (ix2 r d) = u (ix3 1 r d) + p (ix2 r d) := by pointwise [k0_pay80]
theorem ck0 : k0_pay76 (F := Ideal) u (ix2 r d) = u (ix3 0 r d) := by pointwise [k0_pay76]
theorem cv0 : k0_pay78 (F := Ideal) (k0_pay77 u) (ix2 r d) = u (ix3 0 r d) := by pointwise [k0_pay77, k0_pay78]
theorem ck1 : k0_pay81 (F := Ideal) u (ix2 r d) = u (ix3 1 r d) := by pointwise [k0_pay81]
theorem cv1 : k0_pay82 (F := Ideal) u (ix2 r d) = u (ix3 1 r d) := by pointwise [k0_pay82]
end

variable (m : (ℓ : Loc nD τ sig) → Buf (Elt Ideal) ℓ) (c : Dev nD) (t : Fin cfg0.N)

/-- The group and the feature of a column. -/
def gOf (j : ℕ) : Fin 2 := ⟨j / 64 % 2, by omega⟩
def fOf (j : ℕ) : Fin 64 := ⟨j % 64, by omega⟩

/-- The gradients of a block's rows, from what the block behind left for its keys and values. -/
def blkOf (K W : FVec Ideal S128x128 .f32) (y : S128x768.Idx) : EReal :=
  if h : (y 1).val < 512 then dQ m c t (ix3 (hd ⟨(y 1).val, h⟩) (y 0) (ft ⟨(y 1).val, h⟩))
  else if (y 1).val < 640 then dKW m c t (ix3 (gOf ((y 1).val - 512)) (y 0) (fOf (y 1).val)) + K (ix2 (y 0) (gcol (gOf ((y 1).val - 512)) (fOf (y 1).val)))
  else dVW m c t (ix3 (gOf ((y 1).val - 640)) (y 0) (fOf (y 1).val)) + W (ix2 (y 0) (gcol (gOf ((y 1).val - 640)) (fOf (y 1).val)))

section
variable (K W : FVec Ideal S128x128 .f32) {y : S128x768.Idx} {x : S128x64.Idx} (h0 : (y 0).val = (x 0).val)
include h0

theorem qCase (h : Fin 8) (h1 : (y 1).val = 64 * h.val + (x 1).val) : dQ m c t (ix3 h (x 0) (x 1)) = blkOf m c t K W y := by
  have hx : (x 1).val < 64 := (x 1).isLt
  unfold blkOf
  rw [dif_pos (show (y 1).val < 512 by omega), show hd ⟨(y 1).val, _⟩ = h from Fin.ext (by simp only [hd]; omega),
    show ft ⟨(y 1).val, _⟩ = x 1 from Fin.ext (by simp only [ft]; omega), show (y 0 : Fin 128) = x 0 from Fin.ext h0]

theorem kCase (g : Fin 2) (o) (ho) (eo : o = 64 * g.val) (h1 : (y 1).val = 512 + o + (x 1).val) :
    dKW m c t (ix3 g (x 0) (x 1)) + half64 o ho K (ix2 (x 0) (x 1)) = blkOf m c t K W y := by
  have hx : (x 1).val < 64 := (x 1).isLt
  unfold blkOf
  rw [dif_neg (show ¬(y 1).val < 512 by omega), if_pos (show (y 1).val < 640 by omega), show gOf ((y 1).val - 512) = g from Fin.ext (by simp only [gOf]; omega),
    show fOf (y 1).val = x 1 from Fin.ext (by simp only [fOf]; omega), show (y 0 : Fin 128) = x 0 from Fin.ext h0,
    half64_at o ho K (x 0) (x 1) (gcol g (x 1)) (by simp only [gcol]; omega)]

theorem vCase (g : Fin 2) (o) (ho) (eo : o = 64 * g.val) (h1 : (y 1).val = 640 + o + (x 1).val) :
    dVW m c t (ix3 g (x 0) (x 1)) + half64 o ho W (ix2 (x 0) (x 1)) = blkOf m c t K W y := by
  have hx : (x 1).val < 64 := (x 1).isLt
  unfold blkOf
  rw [dif_neg (show ¬(y 1).val < 512 by omega), if_neg (show ¬(y 1).val < 640 by omega), show gOf ((y 1).val - 640) = g from Fin.ext (by simp only [gOf]; omega),
    show fOf (y 1).val = x 1 from Fin.ext (by simp only [fOf]; omega), show (y 0 : Fin 128) = x 0 from Fin.ext h0,
    half64_at o ho W (x 0) (x 1) (gcol g (x 1)) (by simp only [gcol]; omega)]

theorem qStore (f : FVec Ideal S8x128x64 .f32 → FVec Ideal S128x64 .bf16) (h : Fin 8) (hf : ∀ v r d, f v (ix2 r d) = v (ix3 h r d))
    (h1 : (y 1).val = 64 * h.val + (x 1).val) : f (w336 m c t) x = blkOf m c t K W y := by
  rw [e336, ← qCase m c t K W h0 h h1, eq_ix2 x]
  exact hf _ _ _

theorem kStore (f : FVec Ideal S2x128x64 .f32 → FVec Ideal S128x64 .f32 → FVec Ideal S128x64 .bf16) (g : Fin 2)
    (hf : ∀ u p r d, f u p (ix2 r d) = u (ix3 g r d) + p (ix2 r d)) (o) (ho) (eo : o = 64 * g.val) (h1 : (y 1).val = 512 + o + (x 1).val)
    (p : FVec Ideal S128x64 .f32) (hp : p = half64 o ho K) : f (w325 m c t) p x = blkOf m c t K W y := by
  rw [e325, ← kCase m c t K W h0 g o ho eo h1, hp, eq_ix2 x]
  exact hf _ _ _ _

theorem vStore (f : FVec Ideal S2x128x64 .f32 → FVec Ideal S128x64 .f32 → FVec Ideal S128x64 .bf16) (g : Fin 2)
    (hf : ∀ u p r d, f u p (ix2 r d) = u (ix3 g r d) + p (ix2 r d)) (o) (ho) (eo : o = 64 * g.val) (h1 : (y 1).val = 640 + o + (x 1).val)
    (p : FVec Ideal S128x64 .f32) (hp : p = half64 o ho W) : f (w214 m c t) p x = blkOf m c t K W y := by
  rw [e214, ← vCase m c t K W h0 g o ho eo h1, hp, eq_ix2 x]
  exact hf _ _ _ _
end

theorem out8_B (h : ¬t.val % 32 = 0) (y : S128x768.Idx) : ((outsAt0 m c t.val t.isLt).1 : FVec Ideal S128x768 .bf16) y
    = blkOf m c t (outsAt0 m c (t.val - 1) (by omega)).2.2.2.1 (outsAt0 m c (t.val - 1) (by omega)).2.2.2.2 y := by
  rw [outsAt0_B m c t h]
  frame_out
  simp only [read_unread_whole]
  clear h
  canon_tiles x h
  · exact vStore m c t _ _ h0 k0_pay80 1 v1 64 inb_S128x128_S128x64_0_64 rfl h1 _ rfl
  · exact kStore m c t _ _ h0 k0_pay79 1 k1 64 inb_S128x128_S128x64_0_64 rfl h1 _ rfl
  · exact vStore m c t _ _ h0 k0_pay75 0 v0 0 inb_S128x128_S128x64_0_0 rfl h1 _ rfl
  · exact kStore m c t _ _ h0 k0_pay74 0 k0 0 inb_S128x128_S128x64_0_0 rfl h1 _ rfl
  · exact qStore m c t _ _ h0 k0_pay73 7 q7 h1
  · exact qStore m c t _ _ h0 k0_pay72 6 q6 h1
  · exact qStore m c t _ _ h0 k0_pay71 5 q5 h1
  · exact qStore m c t _ _ h0 k0_pay70 4 q4 h1
  · exact qStore m c t _ _ h0 k0_pay69 3 q3 h1
  · exact qStore m c t _ _ h0 k0_pay68 2 q2 h1
  · exact qStore m c t _ _ h0 k0_pay67 1 q1 h1
  · exact qStore m c t _ _ h0 k0_pay66 0 q0 (h1.trans (Nat.zero_add _).symm)

/-- What a point leaves for the block before. -/
def left (u : FVec Ideal S2x128x64 .f32) (y : S128x128.Idx) : EReal := u (ix3 (gOf (y 1).val) (y 0) (fOf (y 1).val))

theorem lStore (u v : FVec Ideal S2x128x64 .f32) (f : FVec Ideal S2x128x64 .f32 → FVec Ideal S128x64 .f32) (g : Fin 2) (hf : ∀ u r d, f u (ix2 r d) = u (ix3 g r d))
    (e : u = v) {y : S128x128.Idx} {x : S128x64.Idx} (h0 : (y 0).val = (x 0).val) (h1 : (y 1).val = 64 * g.val + (x 1).val) : f u x = left v y := by
  have hx : (x 1).val < 64 := (x 1).isLt
  subst e
  unfold left
  rw [show gOf (y 1).val = g from Fin.ext (by simp only [gOf]; omega), show fOf (y 1).val = x 1 from Fin.ext (by simp only [fOf]; omega),
    show (y 0 : Fin 128) = x 0 from Fin.ext h0, eq_ix2 x]
  exact hf _ _ _

theorem out11_B (h : ¬t.val % 32 = 0) (y : S128x128.Idx) : ((outsAt0 m c t.val t.isLt).2.2.2.1 : FVec Ideal S128x128 .f32) y = left (dKB m c t) y := by
  rw [outsAt0_B m c t h]
  frame_out
  clear h
  canon_tiles x h
  · exact lStore _ _ k0_pay81 1 ck1 (e367 m c t) h0 h1
  · exact lStore _ _ k0_pay76 0 ck0 (e367 m c t) h0 (h1.trans (Nat.zero_add _).symm)

theorem out12_B (h : ¬t.val % 32 = 0) (y : S128x128.Idx) : ((outsAt0 m c t.val t.isLt).2.2.2.2 : FVec Ideal S128x128 .f32) y = left (dVB m c t) y := by
  rw [outsAt0_B m c t h]
  frame_out
  clear h
  canon_tiles x h
  · exact lStore _ _ k0_pay82 1 cv1 (e260 m c t) h0 h1
  · exact lStore _ _ (fun u => k0_pay78 (F := Ideal) (k0_pay77 u)) 0 cv0 (e260 m c t) h0 (h1.trans (Nat.zero_add _).symm)

/-! ## The first point fills the carried buffers with zeros -/

def fillK : FVec Ideal S128x128 .f32 := k0_pay2 (F := Ideal)
def fillV : FVec Ideal S128x128 .f32 := k0_pay3 (F := Ideal)

theorem fillK_at (y : S128x128.Idx) : fillK y = 0 := by
  rw [eq_ix2 y, ← zero]
  pointwise [fillK, k0_pay2]
theorem fillV_at (y : S128x128.Idx) : fillV y = 0 := by
  rw [eq_ix2 y, ← zero]
  pointwise [fillV, k0_pay3]

theorem skip64 (u : View sig .tc .vmem S128x128 .f32) (inb) (inb')
    (w : (Rect.unit (s := S128x128) ![0, 0] ![128, 64] inb).shape.Idx → Elt Ideal .f32) (L : List (View.Piece (Elt Ideal) S128x128 .f32)) (z : FVec Ideal S128x64 .f32)
    (e : u.readCov (Val := Elt Ideal) L (Rect.unit (s := S128x128) ![0, 64] ![128, 64] inb').toLoadRect = z) :
    u.readCov (Val := Elt Ideal) (⟨Rect.unit (s := S128x128) ![0, 0] ![128, 64] inb, w⟩ :: L)
      (Rect.unit (s := S128x128) ![0, 64] ![128, 64] inb').toLoadRect = z :=
  (View.readCov_cons_of_disjoint u ⟨Rect.unit (s := S128x128) ![0, 0] ![128, 64] inb, w⟩ L _ (Rect.unit_disjoint (s := S128x128) (inb := inb) (inb' := inb') 1 (by decide))).trans e

theorem filled64 (z : FVec Ideal S128x128 .f32) (u : View sig .tc .vmem S128x128 .f32) (o : ℕ) (inb) (inb') :
    u.readCov (Val := Elt Ideal) [⟨Rect.unit (s := S128x128) ![0, 0] ![128, 128] inb, z⟩]
      (Rect.unit (s := S128x128) ![0, o] ![128, 64] inb').toLoadRect = half64 o inb' z := by
  rw [View.readCov_eq_canon']
  funext x
  exact congrFun (View.canon_unit_zero (by funext a; fin_cases a <;> rfl) _ _) _

theorem out8_A (h : t.val % 32 = 0) (y : S128x768.Idx) : ((outsAt0 m c t.val t.isLt).1 : FVec Ideal S128x768 .bf16) y
    = blkOf m c t fillK fillV y := by
  rw [outsAt0_A m c t h]
  frame_out
  clear h
  canon_tiles x h
  · exact vStore m c t _ _ h0 k0_pay80 1 v1 64 inb_S128x128_S128x64_0_64 rfl h1 _ (skip64 _ _ _ _ _ _ (filled64 _ _ _ _ _))
  · exact kStore m c t _ _ h0 k0_pay79 1 k1 64 inb_S128x128_S128x64_0_64 rfl h1 _ (skip64 _ _ _ _ _ _ (filled64 _ _ _ _ _))
  · exact vStore m c t _ _ h0 k0_pay75 0 v0 0 inb_S128x128_S128x64_0_0 rfl h1 _ (filled64 _ _ _ _ _)
  · exact kStore m c t _ _ h0 k0_pay74 0 k0 0 inb_S128x128_S128x64_0_0 rfl h1 _ (filled64 _ _ _ _ _)
  · exact qStore m c t _ _ h0 k0_pay73 7 q7 h1
  · exact qStore m c t _ _ h0 k0_pay72 6 q6 h1
  · exact qStore m c t _ _ h0 k0_pay71 5 q5 h1
  · exact qStore m c t _ _ h0 k0_pay70 4 q4 h1
  · exact qStore m c t _ _ h0 k0_pay69 3 q3 h1
  · exact qStore m c t _ _ h0 k0_pay68 2 q2 h1
  · exact qStore m c t _ _ h0 k0_pay67 1 q1 h1
  · exact qStore m c t _ _ h0 k0_pay66 0 q0 (h1.trans (Nat.zero_add _).symm)

/-- Stores that cover the buffer hide those before them. -/
theorem hide {S : Shape} {e : EltTy} (L' : List (View.Piece (Elt Ideal) S e)) : ∀ (L : List (View.Piece (Elt Ideal) S e)) (y : S.Idx)
    (_ : ∃ p ∈ L, y ∈ p.1.set), View.canon (L ++ L') y = View.canon L y
  | [], _, hy => absurd hy (by simp)
  | p :: L, y, hy => by
    rw [List.cons_append]
    by_cases hm : y ∈ p.1.set
    · obtain ⟨x, rfl⟩ := p.1.exists_idx_of_mem hm
      exact (View.canon_cons_emb ..).trans (View.canon_cons_emb ..).symm
    · rw [View.canon_cons_of_not_mem _ _ hm, View.canon_cons_of_not_mem _ _ hm]
      refine hide L' L y ?_
      obtain ⟨q, hq, hyq⟩ := hy
      exact ⟨q, (List.mem_cons.mp hq).resolve_left (fun e => hm (e ▸ hyq)), hyq⟩

theorem out11_A (h : t.val % 32 = 0) (y : S128x128.Idx) : ((outsAt0 m c t.val t.isLt).2.2.2.1 : FVec Ideal S128x128 .f32) y = left (dKB m c t) y := by
  rw [outsAt0_A m c t h]
  frame_out
  clear h
  refine (hide [_] [_, _] y (View.cover_of_tiledBy _ ![128, 64] (by sl_kernel_rfl) y)).trans ?_
  canon_tiles x h
  · exact lStore _ _ k0_pay81 1 ck1 (e367 m c t) h0 h1
  · exact lStore _ _ k0_pay76 0 ck0 (e367 m c t) h0 (h1.trans (Nat.zero_add _).symm)

theorem out12_A (h : t.val % 32 = 0) (y : S128x128.Idx) : ((outsAt0 m c t.val t.isLt).2.2.2.2 : FVec Ideal S128x128 .f32) y = left (dVB m c t) y := by
  rw [outsAt0_A m c t h]
  frame_out
  clear h
  refine (hide [_] [_, _] y (View.cover_of_tiledBy _ ![128, 64] (by sl_kernel_rfl) y)).trans ?_
  canon_tiles x h
  · exact lStore _ _ k0_pay82 1 cv1 (e260 m c t) h0 h1
  · exact lStore _ _ (fun u => k0_pay78 (F := Ideal) (k0_pay77 u)) 0 cv0 (e260 m c t) h0 (h1.trans (Nat.zero_add _).symm)

/-! ## The accumulated gradients -/

/-- What a point adds to the bias's gradient. -/
def more9 (y : S8x128x256.Idx) : EReal :=
  if h : (y 2).val < 128 then dB m c t (ix3 (y 0) (y 1) ⟨(y 2).val, h⟩) else dW m c t (ix3 (y 0) (y 1) ⟨(y 2).val - 128, by have : (y 2).val < 256 := (y 2).isLt; omega⟩)

/-- … and to the sinks'. -/
def more10 (y : S1x128.Idx) : EReal := k0_pay65 (F := Ideal) k0_pay13 (dS m c t) y

/-- 128 columns of the bias's gradient. -/
def half128 (o : ℕ) (ho : ∀ a, (![0, 0, o] : Fin 3 → Nat) a + S8x128x128.size a ≤ S8x128x256.size a) (M : FVec Ideal S8x128x256 .f32) : FVec Ideal S8x128x128 .f32 :=
  View.ld (Val := Elt Ideal) (S := S8x128x256) (e' := .f32) M (Rect.unit ![0, 0, o] ![8, 128, 128] ho)

section
variable (M : FVec Ideal S8x128x256 .f32) {y : S8x128x256.Idx} {x : S8x128x128.Idx} (h0 : (y 0).val = (x 0).val) (h1 : (y 1).val = (x 1).val)
include h0 h1

theorem half128_at (o : ℕ) (ho) (h2 : (y 2).val = o + (x 2).val) : half128 o ho M x = M y := by
  refine congrArg M (funext fun a => Fin.ext ?_)
  match a with
  | ⟨0, _⟩ => show 0 + 1 * (x 0).val = (y 0).val; omega
  | ⟨1, _⟩ => show 0 + 1 * (x 1).val = (y 1).val; omega
  | ⟨2, _⟩ => show o + 1 * (x 2).val = (y 2).val; omega

theorem bStore (ho) (h2 : (y 2).val = 0 + (x 2).val) (p : FVec Ideal S8x128x128 .f32) (hp : p = half128 0 ho M) :
    k0_pay83 (F := Ideal) (w327 m c t) p x = M y + more9 m c t y := by
  have hx : (x 2).val < 128 := (x 2).isLt
  subst hp
  rw [← half128_at M h0 h1 0 ho h2, e327]
  unfold more9
  rw [dif_pos (show (y 2).val < 128 by omega), show (y 0 : Fin 8) = x 0 from Fin.ext h0, show (y 1 : Fin 128) = x 1 from Fin.ext h1,
    show (⟨(y 2).val, _⟩ : Fin 128) = x 2 from Fin.ext (by show (y 2).val = (x 2).val; omega), eq_ix3 x]
  pointwise [k0_pay83]

theorem wStore (ho) (h2 : (y 2).val = 128 + (x 2).val) (p : FVec Ideal S8x128x128 .f32) (hp : p = half128 128 ho M) :
    k0_pay84 (F := Ideal) (w286 m c t) p x = M y + more9 m c t y := by
  subst hp
  rw [← half128_at M h0 h1 128 ho h2, e286]
  unfold more9
  rw [dif_neg (show ¬(y 2).val < 128 by omega), show (y 0 : Fin 8) = x 0 from Fin.ext h0, show (y 1 : Fin 128) = x 1 from Fin.ext h1,
    show (⟨(y 2).val - 128, _⟩ : Fin 128) = x 2 from Fin.ext (by show (y 2).val - 128 = (x 2).val; omega), eq_ix3 x]
  pointwise [k0_pay84]
end

theorem sStore (M : FVec Ideal S1x128 .f32) (y : S1x128.Idx) : k0_pay1 (F := Ideal) (k0_pay65 k0_pay13 (w274 m c t)) M y = M y + more10 m c t y := by
  rw [e274]
  unfold more10
  generalize k0_pay65 (F := Ideal) k0_pay13 (dS m c t) = z
  rw [eq_ix2 y]
  pointwise [k0_pay1]

theorem out9_B (h : ¬t.val % 32 = 0) (y : S8x128x256.Idx) : ((outsAt0 m c t.val t.isLt).2.1 : FVec Ideal S8x128x256 .f32) y
    = ((outsAt0 m c (t.val - 1) (by omega)).2.1 : FVec Ideal S8x128x256 .f32) y + more9 m c t y := by
  rw [outsAt0_B m c t h]
  frame_out
  clear h
  canon_tiles x h
  · exact wStore m c t _ h0 h1 inb_S8x128x256_S8x128x128_0_0_128 h2 _ rfl
  · exact bStore m c t _ h0 h1 inb_S8x128x256_S8x128x128_0_0_0 (h2.trans (Nat.zero_add _).symm) _ rfl

theorem out10_B (h : ¬t.val % 32 = 0) (y : S1x128.Idx) : ((outsAt0 m c t.val t.isLt).2.2.1 : FVec Ideal S1x128 .f32) y
    = ((outsAt0 m c (t.val - 1) (by omega)).2.2.1 : FVec Ideal S1x128 .f32) y + more10 m c t y := by
  rw [outsAt0_B m c t h]
  frame_out
  exact sStore m c t _ _

def fillB : FVec Ideal S8x128x256 .f32 := k0_pay4 (F := Ideal)
def fillS : FVec Ideal S1x128 .f32 := k0_pay5 (F := Ideal)

theorem fillB_at (y : S8x128x256.Idx) : fillB y = 0 := by
  rw [eq_ix3 y, ← zero]
  pointwise [fillB, k0_pay4]
theorem fillS_at (y : S1x128.Idx) : fillS y = 0 := by
  rw [eq_ix2 y, ← zero]
  pointwise [fillS, k0_pay5]

theorem skip128 (u : View sig .tc .vmem S8x128x256 .f32) (inb) (inb')
    (w : (Rect.unit (s := S8x128x256) ![0, 0, 0] ![8, 128, 128] inb).shape.Idx → Elt Ideal .f32) (L : List (View.Piece (Elt Ideal) S8x128x256 .f32)) (z : FVec Ideal S8x128x128 .f32)
    (e : u.readCov (Val := Elt Ideal) L (Rect.unit (s := S8x128x256) ![0, 0, 128] ![8, 128, 128] inb').toLoadRect = z) :
    u.readCov (Val := Elt Ideal) (⟨Rect.unit (s := S8x128x256) ![0, 0, 0] ![8, 128, 128] inb, w⟩ :: L)
      (Rect.unit (s := S8x128x256) ![0, 0, 128] ![8, 128, 128] inb').toLoadRect = z :=
  (View.readCov_cons_of_disjoint u ⟨Rect.unit (s := S8x128x256) ![0, 0, 0] ![8, 128, 128] inb, w⟩ L _ (Rect.unit_disjoint (s := S8x128x256) (inb := inb) (inb' := inb') 2 (by decide))).trans e

theorem filled128 (u : View sig .tc .vmem S8x128x256 .f32) (o : ℕ) (inb) (inb') :
    u.readCov (Val := Elt Ideal) [⟨Rect.unit (s := S8x128x256) ![0, 0, 0] ![8, 128, 256] inb, fillB⟩]
      (Rect.unit (s := S8x128x256) ![0, 0, o] ![8, 128, 128] inb').toLoadRect = half128 o inb' fillB := by
  rw [View.readCov_eq_canon']
  funext x
  exact congrFun (View.canon_unit_zero (by funext a; fin_cases a <;> rfl) _ _) _

theorem out9_A (h : t.val % 32 = 0) (y : S8x128x256.Idx) : ((outsAt0 m c t.val t.isLt).2.1 : FVec Ideal S8x128x256 .f32) y
    = fillB y + more9 m c t y := by
  rw [outsAt0_A m c t h]
  frame_out
  clear h
  refine (hide [_] [_, _] y (View.cover_of_tiledBy _ ![8, 128, 128] (by sl_kernel_rfl) y)).trans ?_
  canon_tiles x h
  · exact wStore m c t _ h0 h1 inb_S8x128x256_S8x128x128_0_0_128 h2 _ (skip128 _ _ _ _ _ _ (filled128 _ _ _ _))
  · exact bStore m c t _ h0 h1 inb_S8x128x256_S8x128x128_0_0_0 (h2.trans (Nat.zero_add _).symm) _ (filled128 _ _ _ _)

theorem out10_A (h : t.val % 32 = 0) (y : S1x128.Idx) : ((outsAt0 m c t.val t.isLt).2.2.1 : FVec Ideal S1x128 .f32) y
    = fillS y + more10 m c t y := by
  rw [outsAt0_A m c t h]
  frame_out
  exact sStore m c t _ _

end Cert.SwaBwdIdeal.Value

end
-- ==== Proof.SwaBwdKernel.lean ====
module

public import proofs.«01_k».proof.Proof.SwaBwdStore
public import Idealize.ShloMosaic.Lib.Claim

/-! # The arrays `_swa_bwd` returns -/

@[expose] public section

set_option maxRecDepth 16384

noncomputable section

namespace Cert.SwaBwdIdeal.Value

open Cert.SwaBwdIdeal Cert.SwaBwdIdeal.Gen Idealize.ShloMosaic Idealize.ShloMosaic.TcCoe Idealize.SL.Sem Cert.SwSpec Cert.SwPoint Cert.SwBwdPoint Cert.LnSpec
open Idealize.ShloMosaic.Pipeline (Dat)
open Cert.SwaFwdIdeal.Value (groups_at heads_at biasL_at biasR_at padded padded_at pad_at)

variable (m : (ℓ : Loc nD τ sig) → Buf (Elt Ideal) ℓ) (c : Dev nD) (t : Fin cfg0.N)

theorem idx : ∀ t : Fin cfg0.N, win0_0.index t = ![31 - t.val, 1] ∧ win0_1.index t = ![31 - t.val, 4] ∧ win0_2.index t = ![30 - t.val, 20]
    ∧ win0_3.index t = ![31 - t.val, 20] ∧ win0_4.index t = ![30 - t.val, 21] ∧ win0_5.index t = ![31 - t.val, 21] ∧ win0_6.index t = ![0, 0, 0]
    ∧ win0_7.index t = ![0, 0] ∧ win0_8.index t = ![31 - t.val, 0] ∧ win0_9.index t = ![0, 0, 0] ∧ win0_10.index t = ![0, 0] ∧ (grid0.coords t 0).val = t.val :=
  (by decide +kernel : ∀ t : Fin grid0.N, _)

/-- The projection, the bias, the sinks and the cotangents. -/
def pA : Fin 4096 → Fin 2824 → EReal := mat (m ((c : Thread nD τ).loc main_arg0))
def bA : Fin 8 → Fin 128 → Fin 256 → EReal := cube (m ((c : Thread nD τ).loc main_arg1))
def sA : Fin 8 → EReal := vec (m ((c : Thread nD τ).loc main_arg2))
def dA : Fin 4096 → Fin 1024 → EReal := mat (m ((c : Thread nD τ).loc main_arg3))

/-- The points take the blocks from the last to the first. -/
def nb (t : Fin 32) : Fin 32 := ⟨31 - t.val, by omega⟩

theorem join_result (hx hy) (W : Valuation τ sig (Elt Ideal)) :
    (StableHlo.nary (τ := τ) ![main_v1, main_v2, main_v3, main_v0] main_v4
      (fun u => concatenate S4096x3072 1 [⟨S4096x2048, u 0⟩, ⟨S4096x768, u 1⟩, ⟨S4096x8, u 2⟩, ⟨S4096x248, u 3⟩]
        concatenates_S4096x2048_S4096x768_S4096x8_S4096x248_S4096x3072_d1) hx hy).result W (Proc.tc.devRef main_v4)
    = padded (W (Proc.tc.devRef main_v1)) (W (Proc.tc.devRef main_v2)) (W (Proc.tc.devRef main_v3)) (W (Proc.tc.devRef main_v0)) :=
  StableHlo.nary_result _ _ _ _ _ _

/-- The projection as the call takes it, at the window's columns. -/
theorem proj_at (i : Fin 4096) (j : Fin 3072) (k : Fin 2824) (h0 : 2048 ≤ j.val) (h1 : j.val < 2816) (e : k.val = j.val + 8) :
    (V m c main_v4 : FVec Ideal S4096x3072 .f32) (ix2 i j) = pA m c i k := by
  unfold V
  simp only [hostOps0, hostOps0_1, hostOps0_2, List.flatten_cons, List.flatten_nil, List.append_nil, List.cons_append, List.nil_append,
    StableHlo.after_cons, StableHlo.after_nil]
  repeat (first
    | rw [StableHlo.reshape_result_ne _ _ _ _ _ _ _ (by decide)]
    | rw [StableHlo.unary_result_ne _ _ _ _ _ _ (by decide)]
    | rw [StableHlo.binary_result_ne _ _ _ _ _ _ _ _ (by decide)]
    | rw [StableHlo.nullary_result_ne _ _ _ _ (by decide)]
    | rw [StableHlo.unary_result]
    | rw [StableHlo.binary_result]
    | rw [StableHlo.nullary_result]
    | rw [join_result])
  refine (padded_at _ _ _ _ i j).trans ((dif_neg (by omega)).trans ((dif_pos (by omega)).trans ?_))
  pointwise [pA, mat]
  exact congrArg _ (congrArg (ix2 i) (Fin.ext (by show 2056 + (j.val - 2048) = k.val; omega)))

theorem sinks_at (h : Fin 8) : (V m c main_v6 : FVec Ideal S1x128 .f32) (ix2 0 ⟨h.val, by omega⟩) = sA m c h := by
  unfold V
  simp only [List.flatten_cons, List.flatten_nil, List.append_nil, List.cons_append, List.nil_append]
  after_results_simp
  pointwise [sA, vec]
  exact pad_at (m ((c : Thread nD τ).loc main_arg2)) (sitofp .f32 (constantI S_ 32 0#32)) h

/-! ## The blocks a point takes -/

theorem block0 (r : Fin 128) (k : Fin 512) : (iblk m c 0 t : FVec Ideal S128x512 .f32) (ix2 r k) = dA m c (pos (nb t) r) (dcol k) := by
  unfold dA mat pos nb dcol
  blk_ext! [iblk, V, idx t]

theorem block1 (r : Fin 128) (k : Fin 512) : (iblk m c 1 t : FVec Ideal S128x512 .f32) (ix2 r k) = pA m c (pos (nb t) r) (qcol k) := by
  refine Eq.trans ?_ (proj_at m c (pos (nb t) r) ⟨2048 + k.val, by omega⟩ (qcol k) (by show 2048 ≤ 2048 + k.val; omega) (by show 2048 + k.val < 2816; omega)
    (by show 2056 + k.val = 2048 + k.val + 8; omega))
  unfold pos nb
  blk_ext! [iblk, idx t]

/-- A block of keys, and of values. -/
theorem keys_at (w : FVec Ideal S128x128 .f32) (n : Fin 32) (r : Fin 128) (k : Fin 128)
    (e : w (ix2 r k) = (V m c main_v4 : FVec Ideal S4096x3072 .f32) (ix2 (pos n r) ⟨2560 + k.val, by omega⟩)) : w (ix2 r k) = pA m c (pos n r) (kcol k) :=
  e.trans (proj_at m c (pos n r) _ (kcol k) (by show 2048 ≤ 2560 + k.val; omega) (by show 2560 + k.val < 2816; omega) (by show 2568 + k.val = 2560 + k.val + 8; omega))

theorem vals_at (w : FVec Ideal S128x128 .f32) (n : Fin 32) (r : Fin 128) (k : Fin 128)
    (e : w (ix2 r k) = (V m c main_v4 : FVec Ideal S4096x3072 .f32) (ix2 (pos n r) ⟨2688 + k.val, by omega⟩)) : w (ix2 r k) = pA m c (pos n r) (vcol k) :=
  e.trans (proj_at m c (pos n r) _ (vcol k) (by show 2048 ≤ 2688 + k.val; omega) (by show 2688 + k.val < 2816; omega) (by show 2696 + k.val = 2688 + k.val + 8; omega))

theorem block2 (r : Fin 128) (k : Fin 128) : (iblk m c 2 t : FVec Ideal S128x128 .f32) (ix2 r k) = pA m c (pos (prev (nb t)) r) (kcol k) := by
  refine keys_at m c _ _ _ _ ?_
  unfold pos prev nb
  blk_ext! [iblk, idx t]
theorem block3 (r : Fin 128) (k : Fin 128) : (iblk m c 3 t : FVec Ideal S128x128 .f32) (ix2 r k) = pA m c (pos (nb t) r) (kcol k) := by
  refine keys_at m c _ _ _ _ ?_
  unfold pos nb
  blk_ext! [iblk, idx t]
theorem block4 (r : Fin 128) (k : Fin 128) : (iblk m c 4 t : FVec Ideal S128x128 .f32) (ix2 r k) = pA m c (pos (prev (nb t)) r) (vcol k) := by
  refine vals_at m c _ _ _ _ ?_
  unfold pos prev nb
  blk_ext! [iblk, idx t]
theorem block5 (r : Fin 128) (k : Fin 128) : (iblk m c 5 t : FVec Ideal S128x128 .f32) (ix2 r k) = pA m c (pos (nb t) r) (vcol k) := by
  refine vals_at m c _ _ _ _ ?_
  unfold pos nb
  blk_ext! [iblk, idx t]

theorem block6 (h : Fin 8) (r : Fin 128) (k : Fin 256) : (iblk m c 6 t : FVec Ideal S8x128x256 .f32) (ix3 h r k) = bA m c h r k := by
  unfold bA cube
  blk_ext! [iblk, V, idx t]

theorem block7 (h : Fin 8) : (iblk m c 7 t : FVec Ideal S1x128 .f32) (ix2 0 ⟨h.val, by omega⟩) = sA m c h := by
  refine Eq.trans ?_ (sinks_at m c h)
  blk_ext! [iblk, idx t]

/-! ## A query's rows -/

theorem mB_at (h : Fin 8) (r k : Fin 128) : (mB t (ix3 h r k) = 1#1) ↔ before (0 < (nb t).val) r k := by
  unfold before mB w3 w61 w62 nb
  rw [(idx t).2.2.2.2.2.2.2.2.2.2.2]
  have ht : t.val < 32 := t.isLt
  pointwise [k0_pay15]
  rw [IntOp.andi_eq_one, show Scalar.cmpi .slt (BitVec.ofNat 32 t.val) 31#32 = IntOp.cmpi .slt (BitVec.ofNat 32 t.val) (BitVec.ofNat 32 31) from rfl,
    WordCmp.cmpi_slt_ofNat_eq_one_iff (by omega) (by omega), WordCmp.cmpi_sgt_ofNat_eq_one_iff (by omega) (by omega)]
  show r.val < k.val ∧ t.val < 31 ↔ 0 < 31 - t.val ∧ r.val < k.val
  omega

theorem mW_at (h : Fin 8) (r k : Fin 128) : (mW (ix3 h r k) = 1#1) ↔ within r k := by
  unfold within mW w61 w62
  pointwise [k0_pay18]
  rw [WordCmp.cmpi_sle_ofNat_eq_one_iff (by omega) (by omega)]

theorem s_at (h : Fin 8) : sH m c t (ix3 h 0 0) = sA m c h := (sink_at _ h).trans (block7 m c t h)

theorem keysP (g : Fin 2) (k : Fin 128) (d : Fin 64) : kP m c t (ix3 g k d) = keys (pA m c) (prev (nb t)) g k d := (groups_at _ g k d).trans (block2 m c t k _)
theorem keysC (g : Fin 2) (k : Fin 128) (d : Fin 64) : kC m c t (ix3 g k d) = keys (pA m c) (nb t) g k d := (groups_at _ g k d).trans (block3 m c t k _)
theorem valsP (g : Fin 2) : rowsOf (vP m c t) g = vals (pA m c) (prev (nb t)) g := funext fun k => funext fun d => (groups_at _ g k d).trans (block4 m c t k _)
theorem valsC (g : Fin 2) : rowsOf (vC m c t) g = vals (pA m c) (nb t) g := funext fun k => funext fun d => (groups_at _ g k d).trans (block5 m c t k _)
theorem q_at (h : Fin 8) (r : Fin 128) (d : Fin 64) : qH m c t (ix3 h r d) = query (pA m c) (nb t) h r d := (heads_at _ h r d).trans (block1 m c t r _)
theorem g_at (h : Fin 8) (r : Fin 128) (d : Fin 64) : gH m c t (ix3 h r d) = cot (dA m c) (nb t) h r d := (gH_at m c t h r d).trans (block0 m c t r _)

theorem lB_eq (h : Fin 8) (r : Fin 128) : rowOf (lB m c t) h r = lgBefore (pA m c) (bA m c) (nb t) h r := by
  funext k
  unfold rowOf lB lgBefore logits
  rw [lgs_at, biasL_at, block6]
  simp only [keysP, q_at]
  exact if_congr (mB_at t h r k) rfl rfl

theorem lW_eq (h : Fin 8) (r : Fin 128) : rowOf (lW m c t) h r = lgWithin (pA m c) (bA m c) (nb t) h r := by
  funext k
  unfold rowOf lW lgWithin logits
  rw [lgs_at, biasR_at, block6]
  simp only [keysC, q_at]
  exact if_congr (mW_at h r k) rfl rfl

theorem pB_eq (h : Fin 8) (r : Fin 128) : rowOf (pB m c t) h r = pullB (pA m c) (dA m c) (nb t) h r := by
  funext k
  unfold rowOf pB pullB
  rw [pulls_at, valsP, show featOf (gH m c t) h r = cot (dA m c) (nb t) h r from funext fun d => g_at m c t h r d]

theorem pW_eq (h : Fin 8) (r : Fin 128) : rowOf (pW m c t) h r = pullW (pA m c) (dA m c) (nb t) h r := by
  funext k
  unfold rowOf pW pullW
  rw [pulls_at, valsC, show featOf (gH m c t) h r = cot (dA m c) (nb t) h r from funext fun d => g_at m c t h r d]

theorem dB_at (h : Fin 8) (r k : Fin 128) : dB m c t (ix3 h r k) = grB (pA m c) (bA m c) (sA m c) (dA m c) (nb t) h r k := by
  unfold dB grB
  rw [grs_at _ _ _ _ _ _ _ _ _ _ _ _ (mB_at t h r k), lB_eq, lW_eq, pB_eq, pW_eq, s_at, ← pB_eq, ← lB_eq]
  rfl

theorem dW_at (h : Fin 8) (r k : Fin 128) : dW m c t (ix3 h r k) = grW (pA m c) (bA m c) (sA m c) (dA m c) (nb t) h r k := by
  unfold dW grW
  rw [grs_at _ _ _ _ _ _ _ _ _ _ _ _ (mW_at h r k), lB_eq, lW_eq, pB_eq, pW_eq, s_at, ← pW_eq, ← lW_eq]
  rfl

theorem dQ_at (h : Fin 8) (r : Fin 128) (d : Fin 64) : dQ m c t (ix3 h r d) = dqAt (pA m c) (bA m c) (sA m c) (dA m c) (nb t) h r d := by
  unfold dQ dqAt
  rw [dqs_at]
  simp only [dB_at, dW_at, keysP, keysC]

variable (g : Fin 2) (k : Fin 128) (d : Fin 64)

theorem dKB_at : dKB m c t (ix3 g k d) = dkB (pA m c) (bA m c) (sA m c) (dA m c) (nb t) g k d := by
  unfold dKB dkB
  simp only [gsum_at, cross_at, scls_at, dB_at, q_at]
theorem dKW_at : dKW m c t (ix3 g k d) = dkW (pA m c) (bA m c) (sA m c) (dA m c) (nb t) g k d := by
  unfold dKW dkW
  simp only [gsum_at, cross_at, scls_at, dW_at, q_at]
theorem dVB_at : dVB m c t (ix3 g k d) = dvB (pA m c) (bA m c) (sA m c) (dA m c) (nb t) g k d := by
  unfold dVB dvB
  simp only [gsum_at, cross_at, wts_at, g_at, ← lB_eq, ← lW_eq, ← s_at m c t]
  rfl
theorem dVW_at : dVW m c t (ix3 g k d) = dvW (pA m c) (bA m c) (sA m c) (dA m c) (nb t) g k d := by
  unfold dVW dvW
  simp only [gsum_at, cross_at, wts_at, g_at, ← lB_eq, ← lW_eq, ← s_at m c t]
  rfl

theorem dS_at (h : Fin 8) : dS m c t (ix3 h 0 0) = ∑ r, skAt (pA m c) (bA m c) (sA m c) (dA m c) (nb t) h r := by
  unfold dS skAt
  simp only [sks_at, lB_eq, lW_eq, pB_eq, pW_eq, s_at]

/-! ## The arrays -/

theorem left_at (u : FVec Ideal S2x128x64 .f32) (g : Fin 2) (k : Fin 128) (d : Fin 64) : left u (ix2 k (gcol g d)) = u (ix3 g k d) := by
  show u (ix3 (gOf (64 * g.val + d.val)) k (fOf (64 * g.val + d.val))) = _
  congr 2 <;> exact Fin.ext (by simp only [gOf, fOf]; omega)

/-- A point's block, where `K` and `W` are what the point before left. -/
theorem blkOf_eq (K W : FVec Ideal S128x128 .f32)
    (hK : ∀ g k d, K (ix2 k (gcol g d)) = if l : (nb t).val + 1 < 32 then dkB (pA m c) (bA m c) (sA m c) (dA m c) ⟨(nb t).val + 1, l⟩ g k d else 0)
    (hW : ∀ g k d, W (ix2 k (gcol g d)) = if l : (nb t).val + 1 < 32 then dvB (pA m c) (bA m c) (sA m c) (dA m c) ⟨(nb t).val + 1, l⟩ g k d else 0)
    (r : Fin 128) (j : Fin 768) : blkOf m c t K W (ix2 r j) = dswAt (pA m c) (bA m c) (sA m c) (dA m c) (nb t) r j := by
  by_cases h1 : j.val < 512
  · refine (dif_pos h1).trans ((dQ_at m c t _ _ _).trans (Eq.symm ?_))
    exact dif_pos h1
  · by_cases h2 : j.val < 640
    · refine (dif_neg h1).trans ((if_pos h2).trans ((congrArg₂ (· + ·) (dKW_at m c t _ _ _) (hK _ _ _)).trans (Eq.symm ?_)))
      exact (dif_neg h1).trans (if_pos h2)
    · refine (dif_neg h1).trans ((if_neg h2).trans ((congrArg₂ (· + ·) (dVW_at m c t _ _ _) (hW _ _ _)).trans (Eq.symm ?_)))
      exact (dif_neg h1).trans (if_neg h2)

/-- What the point before left is its part of the keys' and values' gradients, at the first point nothing. -/
theorem out8 (y : S128x768.Idx) : ((outsAt0 m c t.val t.isLt).1 : FVec Ideal S128x768 .bf16) y
    = dswAt (pA m c) (bA m c) (sA m c) (dA m c) (nb t) (y 0) (y 1) := by
  have ht : t.val < 32 := t.isLt
  obtain ⟨K, W, e, hK, hW⟩ : ∃ K W : FVec Ideal S128x128 .f32, ((outsAt0 m c t.val t.isLt).1 : FVec Ideal S128x768 .bf16) y = blkOf m c t K W y
      ∧ (∀ g k d, K (ix2 k (gcol g d)) = if l : (nb t).val + 1 < 32 then dkB (pA m c) (bA m c) (sA m c) (dA m c) ⟨(nb t).val + 1, l⟩ g k d else 0)
      ∧ (∀ g k d, W (ix2 k (gcol g d)) = if l : (nb t).val + 1 < 32 then dvB (pA m c) (bA m c) (sA m c) (dA m c) ⟨(nb t).val + 1, l⟩ g k d else 0) := by
    by_cases h : t.val % 32 = 0
    · have z : ¬(nb t).val + 1 < 32 := by show ¬31 - t.val + 1 < 32; omega
      refine ⟨_, _, out8_A m c t h y, fun g k d => ?_, fun g k d => ?_⟩
      · rw [dif_neg z, fillK_at]
      · rw [dif_neg z, fillV_at]
    · have z : (nb t).val + 1 < 32 := by show 31 - t.val + 1 < 32; omega
      have u : t.val - 1 < 32 := by omega
      have e : nb ⟨t.val - 1, u⟩ = ⟨(nb t).val + 1, z⟩ := Fin.ext (by show 31 - (t.val - 1) = 31 - t.val + 1; omega)
      refine ⟨_, _, out8_B m c t h y, fun g k d => ?_, fun g k d => ?_⟩
      · rw [dif_pos z, ← e]
        refine Eq.trans ?_ ((left_at _ g k d).trans (dKB_at m c ⟨t.val - 1, u⟩ g k d))
        by_cases h' : (t.val - 1) % 32 = 0
        · exact out11_A m c ⟨t.val - 1, u⟩ h' _
        · exact out11_B m c ⟨t.val - 1, u⟩ h' _
      · rw [dif_pos z, ← e]
        refine Eq.trans ?_ ((left_at _ g k d).trans (dVB_at m c ⟨t.val - 1, u⟩ g k d))
        by_cases h' : (t.val - 1) % 32 = 0
        · exact out12_A m c ⟨t.val - 1, u⟩ h' _
        · exact out12_B m c ⟨t.val - 1, u⟩ h' _
  rw [e]
  exact (congrArg (blkOf m c t K W) (eq_ix2 y)).trans (blkOf_eq m c t K W hK hW (y 0) (y 1))

theorem final8 : (dats m 0 c).arrAt 8 (cfgs 0).N = (dswArr (pA m c) (bA m c) (sA m c) (dA m c) : FVec Ideal S4096x768 .bf16) := by
  refine (dats m 0 c).arrAt_eq_of_covers 8 _ (by decide +kernel) fun t _ y => ?_
  blk_simp
  rw [after0_8]
  have e : (win0_8.blk t).view.emb y = ix2 (pos (nb t) (y 0)) (y 1) := by
    unfold pos nb
    blk_ext! [idx t]
  rw [e]
  exact (out8 m c t y).trans (dswArr_at (pA m c) (bA m c) (sA m c) (dA m c) (nb t) (y 0) (y 1)).symm

/-- The blocks in the order of the points. -/
theorem sum_points (f : Fin 32 → EReal) : ∑ t : Fin 32, f (nb t) = ∑ n, f n :=
  (Finset.sum_congr rfl fun t _ => congrArg f (Fin.ext (by show 31 - t.val = (Fin.rev t).val; rw [Fin.val_rev]; omega))).trans (Equiv.sum_comp Fin.revPerm f)

theorem more9_eq (y : S8x128x256.Idx) : more9 m c t y = dbAt (pA m c) (bA m c) (sA m c) (dA m c) (nb t) (y 0) (y 1) (y 2) := by
  by_cases h : (y 2).val < 128
  · refine (dif_pos h).trans ((dB_at m c t _ _ _).trans (Eq.symm ?_))
    exact dif_pos h
  · refine (dif_neg h).trans ((dW_at m c t _ _ _).trans (Eq.symm ?_))
    exact dif_neg h

theorem more10_eq (y : S1x128.Idx) : more10 m c t y = dsAt (pA m c) (bA m c) (sA m c) (dA m c) (nb t) (y 1) := by
  have e : y = ix2 (0 : Fin 1) (y 1) := (eq_ix2 y).trans (congrArg (fun i : Fin 1 => (ix2 i (y 1) : S1x128.Idx)) (Subsingleton.elim _ _))
  refine (congrArg (more10 m c t) e).trans ((row_at (dS m c t) (y 1)).trans ?_)
  by_cases h : (y 1).val < 8
  · refine (dif_pos h).trans ((dS_at m c t _).trans (Eq.symm ?_))
    exact dif_pos h
  · refine (dif_neg h).trans (Eq.symm ?_)
    exact dif_neg h

/-- The last grid point. -/
abbrev last : Fin cfg0.N := ⟨31, by decide⟩

/-- A window that every point adds to. -/
theorem sum_steps (f : (n : ℕ) → n < 32 → EReal) (g : Fin 32 → EReal) (h0 : ∀ t : Fin 32, t.val % 32 = 0 → f t.val t.isLt = 0 + g (nb t))
    (hs : ∀ t : Fin 32, ¬t.val % 32 = 0 → f t.val t.isLt = f (t.val - 1) (by omega) + g (nb t)) : f 31 (by decide) = ∑ n, g n :=
  (Pipeline.eq_sum_fin_of_reset_step_last (N := 32) f 32 0 (fun t => g (nb t)) h0 hs le_rfl 31 rfl).trans ((zero_add _).trans (sum_points g))

theorem last9 (y : S8x128x256.Idx) : ((outsAt0 m c last.val last.isLt).2.1 : FVec Ideal S8x128x256 .f32) y = dbArr (pA m c) (bA m c) (sA m c) (dA m c) y :=
  sum_steps (fun n h => ((outsAt0 m c n h).2.1 : FVec Ideal S8x128x256 .f32) y) (fun n => dbAt (pA m c) (bA m c) (sA m c) (dA m c) n (y 0) (y 1) (y 2))
    (fun t h => (out9_A m c t h y).trans (congrArg₂ (· + ·) (fillB_at y) (more9_eq m c t y)))
    (fun t h => (out9_B m c t h y).trans (congrArg _ (more9_eq m c t y)))

theorem last10 (y : S1x128.Idx) : ((outsAt0 m c last.val last.isLt).2.2.1 : FVec Ideal S1x128 .f32) y = dsArr (pA m c) (bA m c) (sA m c) (dA m c) y :=
  sum_steps (fun n h => ((outsAt0 m c n h).2.2.1 : FVec Ideal S1x128 .f32) y) (fun n => dsAt (pA m c) (bA m c) (sA m c) (dA m c) n (y 1))
    (fun t h => (out10_A m c t h y).trans (congrArg₂ (· + ·) (fillS_at y) (more10_eq m c t y)))
    (fun t h => (out10_B m c t h y).trans (congrArg _ (more10_eq m c t y)))

theorem final9 : (dats m 0 c).arrAt 9 (cfgs 0).N = dbArr (pA m c) (bA m c) (sA m c) (dA m c) := by
  refine (dats m 0 c).arrAt_eq_of_after_last 9 last (by decide +kernel) _ fun y => ?_
  rw [← last9 m c]
  blk_simp
  rw [after0_9]

theorem final10 : (dats m 0 c).arrAt 10 (cfgs 0).N = dsArr (pA m c) (bA m c) (sA m c) (dA m c) := by
  refine (dats m 0 c).arrAt_eq_of_after_last 10 last (by decide +kernel) _ fun y => ?_
  rw [← last10 m c]
  blk_simp
  rw [after0_10]

end Cert.SwaBwdIdeal.Value

end
-- ==== Proof.SwaBwdReference.lean ====
module

public import proofs.«01_k».proof.Proof.Gen.SwaRefIdeal.Read
public import proofs.«01_k».proof.Proof.SwaFwdReference
public import proofs.«01_k».proof.Proof.SwBwdSpec
public import Idealize.ShloMosaic.Lib.TwoAxisContraction

/-! # The reference's gradients of the attention in a window, one query at a time -/

@[expose] public section

set_option maxRecDepth 16384

noncomputable section

namespace Cert.SwaRefIdeal.Read

open Cert.SwaRefIdeal Cert.SwaRefIdeal.Gen Idealize.ShloMosaic Idealize.ShloMosaic.TcCoe Idealize.SL.Sem Cert.LnSpec Cert.SwSpec
open Cert.SwaFwdRefIdeal.Read (sub q_at kb_lo kb_hi vb_lo vb_hi lo_at hi_at ex_at tot_at wt_at mask_lo mask_hi zero aR cR)

variable (P : FVec Ideal S4096x2824 .f32) (B : FVec Ideal S8x128x256 .f32) (S : FVec Ideal S8 .f32) (G : FVec Ideal S4096x1024 .f32)

/-! ## What the forward lines give -/

theorem key_eq : val_main_v11 (F := Ideal) P = SwaFwdRefIdeal.Read.val_main_v11 (F := Ideal) P := rfl
theorem val_eq : val_main_v17 (F := Ideal) P = SwaFwdRefIdeal.Read.val_main_v16 (F := Ideal) P := rfl
theorem query_eq : val_main_v18 (F := Ideal) P = SwaFwdRefIdeal.Read.val_main_v6 (F := Ideal) P := rfl
theorem mask_eq : val_main_v58_1 (F := Ideal) = SwaFwdRefIdeal.Read.val_main_call0_v1 (F := Ideal) := rfl
theorem lg_eq : val_main_v58_0 (F := Ideal) P B = SwaFwdRefIdeal.Read.val_main_v56 (F := Ideal) P B := rfl
theorem ex_eq : val_main_v90 (F := Ideal) P B S = SwaFwdRefIdeal.Read.val_main_v65 (F := Ideal) P B S := rfl
theorem exs_eq : val_main_v95 (F := Ideal) P B S = SwaFwdRefIdeal.Read.val_main_v70 (F := Ideal) P B S := rfl
theorem tot_eq : val_main_v96 (F := Ideal) P B S = SwaFwdRefIdeal.Read.val_main_v71 (F := Ideal) P B S := rfl
theorem wt_eq : val_main_v98 (F := Ideal) P B S = SwaFwdRefIdeal.Read.val_main_v73 (F := Ideal) P B S := rfl

/-! ## Sums over several axes -/

theorem dv_dot (x : FVec Ideal S1x32x2x64x4x128 .f32) (w : FVec Ideal S1x32x2x4x128x256 .f32) (n : Fin 32) (g : Fin 2) (d : Fin 64) (j : Fin 256) :
    Host.dotGeneral (F := Ideal) dot_S1x32x2x64x4x128_S1x32x2x4x128x256_S1x32x2x64x256_45_34_3_5_012_012 none x w (ix5 0 n g d j)
      = ∑ i : Fin 4, ∑ r : Fin 128, x (ix6 0 n g d i r) * w (ix6 0 n g i r j) := by
  pointwise

theorem dk_dot (x : FVec Ideal S1x32x2x256x128x4 .f32) (w : FVec Ideal S1x32x128x2x4x64 .f32) (n : Fin 32) (g : Fin 2) (j : Fin 256) (d : Fin 64) :
    Host.dotGeneral (F := Ideal) dot_S1x32x2x256x128x4_S1x32x128x2x4x64_S1x32x2x256x64_45_24_3_5_012_013 none x w (ix5 0 n g j d)
      = ∑ r : Fin 128, ∑ i : Fin 4, x (ix6 0 n g j r i) * w (ix6 0 n r g i d) := by
  pointwise

/-- A sum whose index leaves one term. -/
theorem one_at {s t : Shape} {ax : List (Fin s.rank)} (h : s.ReducesTo ax t) (v : s.Idx → EReal) (init : EReal) (j : t.Idx) (i : s.Idx)
    (e : ∀ x, h.drop x = j ↔ i = x) : Ideal.hostReduceAdd h v init j = init + v i :=
  congrArg (init + ·) ((Finset.sum_filter_eq_sum_of_fiber _ (fun _ : Fin 1 => i) (fun _ _ _ => Subsingleton.elim _ _)
    (fun x => (e x).trans ⟨fun q => ⟨0, q⟩, fun ⟨_, q⟩ => q⟩) v).trans (Fin.sum_univ_one _))

variable (h5 : S1x32x2x4x128x1.ReducesTo [0, 5] S32x2x4x128) (h4 : S1x32x2x4x128x1.ReducesTo [1, 4] S1x2x4x1)
  (h2 : S1x1x2x4x1x1.ReducesTo [0, 1, 4, 5] S2x4) (h1 : S1x1x2x4x128x256.ReducesTo [0, 1] S2x4x128x256)

theorem ends_at (v : FVec Ideal S1x32x2x4x128x1 .f32) (init : EReal) (n : Fin 32) (g : Fin 2) (i : Fin 4) (r : Fin 128) :
    Ideal.hostReduceAdd h5 v init (ix4 n g i r) = init + v (ix6 0 n g i r 0) := by
  refine one_at h5 v init _ _ fun x => ⟨fun e => funext fun c => ?_, ?_⟩
  · match c with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Fin.ext (congrArg Fin.val (congrFun e 2)).symm
    | ⟨4, _⟩ => exact Fin.ext (congrArg Fin.val (congrFun e 3)).symm
    | ⟨5, _⟩ => exact Subsingleton.elim (α := Fin 1) _ _
  · rintro rfl
    funext c
    fin_cases c <;> rfl

theorem tops_at (v : FVec Ideal S1x1x2x4x128x256 .f32) (init : EReal) (g : Fin 2) (i : Fin 4) (r : Fin 128) (j : Fin 256) :
    Ideal.hostReduceAdd h1 v init (ix4 g i r j) = init + v (ix6 0 0 g i r j) := by
  refine one_at h1 v init _ _ fun x => ⟨fun e => funext fun c => ?_, ?_⟩
  · match c with
    | ⟨0, _⟩ => exact Subsingleton.elim (α := Fin 1) _ _
    | ⟨1, _⟩ => exact Subsingleton.elim (α := Fin 1) _ _
    | ⟨2, _⟩ => exact Fin.ext (congrArg Fin.val (congrFun e 0)).symm
    | ⟨3, _⟩ => exact Fin.ext (congrArg Fin.val (congrFun e 1)).symm
    | ⟨4, _⟩ => exact Fin.ext (congrArg Fin.val (congrFun e 2)).symm
    | ⟨5, _⟩ => exact Fin.ext (congrArg Fin.val (congrFun e 3)).symm
  · rintro rfl
    funext c
    fin_cases c <;> rfl

theorem units_at (v : FVec Ideal S1x1x2x4x1x1 .f32) (init : EReal) (g : Fin 2) (i : Fin 4) :
    Ideal.hostReduceAdd h2 v init (ix2 g i) = init + v (ix6 0 0 g i 0 0) := by
  refine one_at h2 v init _ _ fun x => ⟨fun e => funext fun c => ?_, ?_⟩
  · match c with
    | ⟨0, _⟩ => exact Subsingleton.elim (α := Fin 1) _ _
    | ⟨1, _⟩ => exact Subsingleton.elim (α := Fin 1) _ _
    | ⟨2, _⟩ => exact Fin.ext (congrArg Fin.val (congrFun e 0)).symm
    | ⟨3, _⟩ => exact Fin.ext (congrArg Fin.val (congrFun e 1)).symm
    | ⟨4, _⟩ => exact Subsingleton.elim (α := Fin 1) _ _
    | ⟨5, _⟩ => exact Subsingleton.elim (α := Fin 1) _ _
  · rintro rfl
    funext c
    fin_cases c <;> rfl

theorem rows_at (v : FVec Ideal S1x32x2x4x128x1 .f32) (init : EReal) (g : Fin 2) (i : Fin 4) :
    Ideal.hostReduceAdd h4 v init (ix4 0 g i 0) = init + ∑ n : Fin 32, ∑ r : Fin 128, v (ix6 0 n g i r 0) := by
  refine congrArg (init + ·) ((Finset.sum_filter_eq_sum_of_fiber _ (fun p : Fin 32 × Fin 128 => (ix6 0 p.1 g i p.2 0 : S1x32x2x4x128x1.Idx))
    (fun _ _ e => Prod.ext (congrFun e 1) (congrFun e 4)) (fun x => ⟨fun e => ⟨(x 1, x 4), funext fun c => ?_⟩, ?_⟩) v).trans ?_)
  · match c with
    | ⟨0, _⟩ => exact Subsingleton.elim (α := Fin 1) _ _
    | ⟨1, _⟩ => rfl
    | ⟨2, _⟩ => exact Fin.ext (congrArg Fin.val (congrFun e 1)).symm
    | ⟨3, _⟩ => exact Fin.ext (congrArg Fin.val (congrFun e 2)).symm
    | ⟨4, _⟩ => rfl
    | ⟨5, _⟩ => exact Subsingleton.elim (α := Fin 1) _ _
  · rintro ⟨p, rfl⟩
    funext c
    fin_cases c <;> rfl
  · simp only [Fintype.sum_prod_type]

/-! ## The cotangents, and what pulls -/

theorem g_at (n : Fin 32) (h : Fin 8) (r : Fin 128) (d : Fin 64) : val_main_v108 (F := Ideal) G (ix6 0 n (grp h) d (sub h) r) = cot (mat G) n h r d := by
  have i : idx_main_v108 (ix6 0 n (grp h) d (sub h) r) = ix6 0 n r (grp h) (sub h) d := by funext a; fin_cases a <;> rfl
  rw [val_main_v108_apply, i]
  unfold val_main_v107
  refine (shapeCast_apply _ _ _ (ix3 0 (pos n r) (hcol h d)) ?_).trans ?_
  · rw [Shape.rowMajor_val_three, Shape.rowMajor_val_six]
    show (0 * 4096 + (128 * n.val + r.val)) * 512 + (64 * h.val + d.val)
      = ((((0 * 32 + n.val) * 128 + r.val) * 2 + h.val / 4) * 4 + h.val % 4) * 64 + d.val
    omega
  · rw [val_main_v106_apply, val_main_v105_apply]
    exact congrArg G (by funext a; fin_cases a <;> rfl)

theorem pull_at (n : Fin 32) (h : Fin 8) (r : Fin 128) (j : Fin 256) : val_main_v109 (F := Ideal) P G (ix6 0 n (grp h) (sub h) r j)
    = ∑ d, cot (mat G) n h r d * val_main_v17 (F := Ideal) P (ix5 0 n j (grp h) d) := by
  rw [val_main_v109_apply]
  exact Finset.sum_congr rfl fun d _ => congrArg₂ (· * ·)
    ((congrArg _ (by funext a; fin_cases a <;> rfl)).trans (g_at G n h r d)) (congrArg _ (by funext a; fin_cases a <;> rfl))

theorem pull_hi (n : Fin 32) (h : Fin 8) (r k : Fin 128) : val_main_v109 (F := Ideal) P G (ix6 0 n (grp h) (sub h) r (hi k)) = pullW (mat P) (mat G) n h r k := by
  rw [pull_at, val_eq]
  exact Finset.sum_congr rfl fun d _ => congrArg _ (vb_hi P n k (grp h) d)

theorem pull_lo (n : Fin 32) (h : Fin 8) (r k : Fin 128) : val_main_v109 (F := Ideal) P G (ix6 0 n (grp h) (sub h) r (lo k))
    = if n.val = 0 then 0 else pullB (mat P) (mat G) n h r k := by
  rw [pull_at, val_eq]
  by_cases e : n.val = 0
  · rw [if_pos e]
    exact Finset.sum_eq_zero fun d _ => by rw [vb_lo, if_pos e, mul_zero]
  · rw [if_neg e]
    exact Finset.sum_congr rfl fun d _ => congrArg _ ((vb_lo P n k (grp h) d).trans (if_neg e))

theorem e_lo (n : Fin 32) (h : Fin 8) (r k : Fin 128) : val_main_v90 (F := Ideal) P B S (ix6 0 n (grp h) (sub h) r (lo k))
    = ex (aR P B n h r) (cR P B n h r) (vec S h) (aR P B n h r k) := by
  rw [ex_eq, ex_at, lo_at]
theorem e_hi (n : Fin 32) (h : Fin 8) (r k : Fin 128) : val_main_v90 (F := Ideal) P B S (ix6 0 n (grp h) (sub h) r (hi k))
    = ex (aR P B n h r) (cR P B n h r) (vec S h) (cR P B n h r k) := by
  rw [ex_eq, ex_at, hi_at]

theorem exs_at (n : Fin 32) (h : Fin 8) (r : Fin 128) : val_main_v95 (F := Ideal) P B S (ix6 0 n (grp h) (sub h) r 0)
    = ex (aR P B n h r) (cR P B n h r) (vec S h) (vec S h) := by
  rw [exs_eq, SwaFwdRefIdeal.Read.val_main_v70_apply, SwaFwdRefIdeal.Read.val_main_v69_apply, SwaFwdRefIdeal.Read.top_at]
  refine congrArg (fun x => Ideal.exp (x - _)) ?_
  rw [SwaFwdRefIdeal.Read.val_main_v68_apply]
  exact (congrArg _ (by funext a; fin_cases a <;> rfl)).trans (SwaFwdRefIdeal.Read.s_at S h)

theorem inv_at (n : Fin 32) (h : Fin 8) (r : Fin 128) : val_main_v101 (F := Ideal) P B S (ix6 0 n (grp h) (sub h) r 0)
    = SwSpec.inv (aR P B n h r) (cR P B n h r) (vec S h) := by
  rw [val_main_v101_apply, val_main_v99_apply, tot_eq, tot_at]
  rfl

/-- With no block before, its keys' exponentials are zero. -/
theorem e_first (n : Fin 32) (h : Fin 8) (r k : Fin 128) (e : n.val = 0) : ex (aR P B n h r) (cR P B n h r) (vec S h) (aR P B n h r k) = 0 := by
  unfold ex
  rw [show aR P B n h r k = low from if_neg fun q => absurd q.1 (by omega), low_eq, EReal.bot_sub]
  rfl

end Cert.SwaRefIdeal.Read

end
-- ==== Proof.SwBwdLaw.lean ====
module

public import proofs.«01_k».proof.Proof.SwBwdSpec
public import proofs.«01_k».proof.Proof.SwFirst
public import proofs.«01_k».proof.Proof.Finite

/-! # The window's gradient over the real numbers

A row's exponentials and their sum are real where its arguments are. Then the gradients of a row's logits and of its sink sum to zero, so
nothing reaches the largest logit that the row was shifted by. -/

@[expose] public section

noncomputable section

namespace Cert.SwSpec

open Idealize.ShloMosaic Cert.Finite

theorem one_eq : one = 1 := Ideal.ofBits_one_f32

theorem real_iff (x : EReal) : IsReal x ↔ x ≠ ⊥ ∧ x ≠ ⊤ := by
  constructor
  · rintro ⟨r, rfl⟩
    exact ⟨EReal.coe_ne_bot r, EReal.coe_ne_top r⟩
  · rintro ⟨h, h'⟩
    exact ⟨x.toReal, (EReal.coe_toReal h' h).symm⟩

theorem coe_sum {ι : Type} (s : Finset ι) (f : ι → ℝ) : ∑ i ∈ s, (f i : EReal) = ((∑ i ∈ s, f i : ℝ) : EReal) := by
  classical
  induction s using Finset.induction_on with
  | empty => rfl
  | insert i s hi ih => rw [Finset.sum_insert hi, Finset.sum_insert hi, ih, EReal.coe_add]

theorem div_coe (x y : ℝ) (h : y ≠ 0) : Ideal.div (x : EReal) y = ((x / y : ℝ) : EReal) := by
  unfold Ideal.div
  rw [if_neg (fun e => h (EReal.coe_eq_zero.1 e)), ← EReal.coe_inv, ← EReal.coe_mul, div_eq_mul_inv]

/-- The law in the real numbers. -/
theorem balance_real (x e : Fin 256 → ℝ) (s D : ℝ) (hD : D = ∑ j, e j + s) (h0 : D ≠ 0) :
    -(-(∑ j, x j * (1 / (D * D)) * e j) * s) + ∑ j, -((x j / D + -(∑ j, x j * (1 / (D * D)) * e j)) * e j) = 0 := by
  have a : ∑ j, x j * (1 / (D * D)) * e j = (∑ j, x j * e j) / (D * D) := by
    rw [Finset.sum_div]
    exact Finset.sum_congr rfl fun j _ => by ring
  have b (T : ℝ) : ∑ j, -((x j / D + -T) * e j) = T * (∑ j, e j) - (∑ j, x j * e j) / D := by
    rw [Finset.sum_div, Finset.mul_sum, ← Finset.sum_sub_distrib]
    exact Finset.sum_congr rfl fun j _ => by ring
  rw [b, a]
  have c : ∑ j, e j = D - s := by rw [hD]; ring
  rw [c]
  field_simp
  ring

/-- … and in the extended ones. -/
theorem balance (x e : Fin 256 → EReal) (s D : EReal) (hx : ∀ j, IsReal (x j)) (he : ∀ j, IsReal (e j)) (hs : IsReal s) (hD : D = ∑ j, e j + s) (h0 : D ≠ 0) :
    -(-(∑ j, x j * Ideal.div one (D * D) * e j) * s) + ∑ j, -((Ideal.div (x j) D + -(∑ j, x j * Ideal.div one (D * D) * e j)) * e j) = 0 := by
  choose X hX using hx
  choose E hE using he
  obtain ⟨s, rfl⟩ := hs
  have d : D = ((∑ j, E j + s : ℝ) : EReal) := by
    rw [hD, EReal.coe_add, ← coe_sum]
    exact congrArg (· + _) (Finset.sum_congr rfl fun j _ => hE j)
  generalize hR : (∑ j, E j + s : ℝ) = R at d
  subst d
  have r0 : R ≠ 0 := fun e => h0 (by rw [e]; rfl)
  have i : Ideal.div one ((R : EReal) * R) = ((1 / (R * R) : ℝ) : EReal) := by
    rw [one_eq, ← EReal.coe_mul]
    exact div_coe 1 _ (mul_ne_zero r0 r0)
  simp only [i, hX, hE, div_coe _ _ r0]
  simp only [← EReal.coe_mul, coe_sum, ← EReal.coe_neg, ← EReal.coe_add]
  rw [balance_real X E s R hR.symm r0]
  rfl

/-- A share of nothing. -/
theorem share (u : Fin 256 → EReal) (hu : ∀ j, 0 ≤ u j) (j : Fin 256) : Ideal.div 0 (∑ j, u j) * u j = 0 := by
  by_cases h : ∑ j, u j = 0
  · rw [(Finset.sum_eq_zero_iff_of_nonneg fun j _ => hu j).1 h j (Finset.mem_univ _), mul_zero]
  · unfold Ideal.div
    rw [if_neg h, zero_mul, zero_mul]

theorem neg_sum (A B : EReal) (hA : IsReal A) (hB : IsReal B) : -(A + B) = (0 - B) + (0 - A) := by
  obtain ⟨a, rfl⟩ := hA
  obtain ⟨b, rfl⟩ := hB
  rw [zero_sub, zero_sub, ← EReal.coe_add, ← EReal.coe_neg, ← EReal.coe_neg, ← EReal.coe_neg, ← EReal.coe_add]
  exact congrArg _ (by ring)

theorem real_neg {x : EReal} (h : IsReal x) : IsReal (-x) := by
  obtain ⟨a, rfl⟩ := h
  exact ⟨-a, (EReal.coe_neg a).symm⟩

theorem real_div {x y : EReal} (hx : IsReal x) (hy : IsReal y) (h : y ≠ 0) : IsReal (Ideal.div x y) := by
  obtain ⟨a, rfl⟩ := hx
  obtain ⟨b, rfl⟩ := hy
  exact ⟨a / b, div_coe a b fun e => h (by rw [e]; rfl)⟩

/-! ## A row -/

section
variable (a b : Per) (s : EReal) (ha : ∀ k, a k = ⊥ ∨ IsReal (a k)) (hb : ∀ k, b k = ⊥ ∨ IsReal (b k)) (hs : IsReal s)
include ha hb hs

theorem top_real : IsReal (top a b s) := by
  have lt {x : EReal} (h : x = ⊥ ∨ IsReal x) : x < ⊤ := by
    rcases h with rfl | ⟨r, rfl⟩
    · exact bot_lt_top
    · exact EReal.coe_lt_top r
  refine (real_iff _).2 ⟨fun e => ?_, ne_of_lt ?_⟩
  · exact ((real_iff s).1 hs).1 (le_bot_iff.1 (e ▸ le_max_right _ _))
  · unfold top
    have l : low < ⊤ := by rw [low_eq]; exact bot_lt_top
    exact max_lt (max_lt ((Finset.fold_max_lt _).2 ⟨l, fun k _ => lt (ha k)⟩) ((Finset.fold_max_lt _).2 ⟨l, fun k _ => lt (hb k)⟩)) (lt (.inr hs))

theorem ex_real {l : EReal} (hl : l = ⊥ ∨ IsReal l) : IsReal (ex a b s l) := by
  obtain ⟨t, ht⟩ := top_real a b s ha hb hs
  unfold ex
  rw [ht]
  rcases hl with rfl | ⟨r, rfl⟩
  · rw [EReal.bot_sub]
    exact IsReal.zero
  · rw [← EReal.coe_sub]
    exact ⟨_, rfl⟩

theorem tot_real : IsReal (tot a b s) :=
  ((IsReal.sum _ fun k => ex_real a b s ha hb hs (ha k)).add (IsReal.sum _ fun k => ex_real a b s ha hb hs (hb k))).add (ex_real a b s ha hb hs (.inr hs))

theorem tot_ne : tot a b s ≠ 0 := by
  obtain ⟨t, ht⟩ := top_real a b s ha hb hs
  have p : 0 < ex a b s s := by
    obtain ⟨r, rfl⟩ := hs
    unfold ex
    rw [ht, ← EReal.coe_sub]
    exact EReal.coe_pos.2 (Real.exp_pos _)
  have n : ∀ l, 0 ≤ ex a b s l := fun l => exp_nonneg _
  refine ne_of_gt (lt_of_lt_of_le p ?_)
  exact le_add_of_nonneg_left (add_nonneg (Finset.sum_nonneg fun k _ => n _) (Finset.sum_nonneg fun k _ => n _))

theorem inv_real : IsReal (SwSpec.inv a b s) := by
  have t := tot_real a b s ha hb hs
  refine real_div ?_ (t.mul t) (mul_ne_zero (tot_ne a b s ha hb hs) (tot_ne a b s ha hb hs))
  rw [one_eq]
  exact IsReal.one
end

/-! ## The arguments -/

section
variable (P : Fin 4096 → Fin 2824 → EReal) (b : Fin 8 → Fin 128 → Fin 256 → EReal) (D : Fin 4096 → Fin 1024 → EReal) (hP : ∀ i j, IsReal (P i j))
  (n : Fin 32) (h : Fin 8) (r : Fin 128) (k : Fin 128)
include hP

theorem scale_real : IsReal scale := by
  unfold scale
  exact ⟨_, by simp [Ideal.ofBits, Ideal.ieee]; rfl⟩

theorem lgBefore_real (hb : ∀ i j l, IsReal (b i j l)) : lgBefore P b n h r k = ⊥ ∨ IsReal (lgBefore P b n h r k) := by
  unfold lgBefore logits
  split
  · exact .inr (((IsReal.sum _ fun d => (hP _ _).mul (hP _ _)).mul (scale_real P hP)).add (hb _ _ _))
  · exact .inl low_eq

theorem lgWithin_real (hb : ∀ i j l, IsReal (b i j l)) : lgWithin P b n h r k = ⊥ ∨ IsReal (lgWithin P b n h r k) := by
  unfold lgWithin logits
  split
  · exact .inr (((IsReal.sum _ fun d => (hP _ _).mul (hP _ _)).mul (scale_real P hP)).add (hb _ _ _))
  · exact .inl low_eq

theorem pullB_real (hD : ∀ i j, IsReal (D i j)) : IsReal (pullB P D n h r k) := by
  unfold pullB pull cot vals
  exact IsReal.sum _ fun d => (hD _ _).mul (hP _ _)
theorem pullW_real (hD : ∀ i j, IsReal (D i j)) : IsReal (pullW P D n h r k) := by
  unfold pullW pull cot vals
  exact IsReal.sum _ fun d => (hD _ _).mul (hP _ _)
end

end Cert.SwSpec

end
-- ==== Proof.SwaBwdRows.lean ====
module

public import proofs.«01_k».proof.Proof.SwaBwdReference
public import proofs.«01_k».proof.Proof.SwBwdLaw

/-! # The reference's gradients of a query's logits, of real arguments -/

@[expose] public section

set_option maxRecDepth 16384

noncomputable section

namespace Cert.SwaRefIdeal.Read

open Cert.SwaRefIdeal Cert.SwaRefIdeal.Gen Idealize.ShloMosaic Idealize.ShloMosaic.TcCoe Idealize.SL.Sem Cert.LnSpec Cert.SwSpec Cert.Finite
open Cert.SwaFwdRefIdeal.Read (sub q_at kb_lo kb_hi vb_lo vb_hi lo_at hi_at ex_at tot_at wt_at mask_lo mask_hi zero aR cR)

variable (P : FVec Ideal S4096x2824 .f32) (B : FVec Ideal S8x128x256 .f32) (S : FVec Ideal S8 .f32) (G : FVec Ideal S4096x1024 .f32)
  (n : Fin 32) (h : Fin 8) (r : Fin 128)

/-- How the values pull at a query, its exponentials, the sum's derivative. -/
abbrev X : Fin 256 → EReal := fun j => val_main_v109 (F := Ideal) P G (ix6 0 n (grp h) (sub h) r j)
abbrev E : Fin 256 → EReal := fun j => val_main_v90 (F := Ideal) P B S (ix6 0 n (grp h) (sub h) r j)
abbrev D : EReal := tot (aR P B n h r) (cR P B n h r) (vec S h)
def T : EReal := -(∑ j, X P G n h r j * Ideal.div one (D P B S n h r * D P B S n h r) * E P B S n h r j)

theorem back_at : val_main_v117 (F := Ideal) P B S G (ix6 0 n (grp h) (sub h) r 0) = T P B S G n h r := by
  rw [val_main_v117_apply]
  refine congrArg (fun x : EReal => -x) ?_
  unfold val_main_v116
  refine (shapeCast_apply _ _ _ (ix5 0 n (grp h) (sub h) r) ?_).trans ?_
  · rw [Shape.rowMajor_val_five, Shape.rowMajor_val_six]
    show (((0 * 32 + n.val) * 2 + h.val / 4) * 4 + h.val % 4) * 128 + r.val = ((((0 * 32 + n.val) * 2 + h.val / 4) * 4 + h.val % 4) * 128 + r.val) * 1 + 0
    omega
  · rw [val_main_v115_apply]
    refine (congrArg (· + _) zero).trans ((zero_add _).trans (Finset.sum_congr rfl fun j _ => ?_))
    refine (congrArg _ (show _ = ix6 0 n (grp h) (sub h) r j by funext a; fin_cases a <;> rfl)).trans ?_
    rw [val_main_v114_apply, val_main_v113_apply, val_main_v112_apply]
    refine congrArg (fun x => X P G n h r j * x * E P B S n h r j) ?_
    exact (congrArg _ (by funext a; fin_cases a <;> rfl)).trans (inv_at P B S n h r)

theorem spread_at (j : Fin 256) : val_main_v126 (F := Ideal) P B S G (ix6 0 n (grp h) (sub h) r j) = T P B S G n h r := by
  have i : idx_main_v125 (idx_main_v126 (ix6 0 n (grp h) (sub h) r j)) = ix4 n (grp h) (sub h) r := by funext a; fin_cases a <;> rfl
  rw [val_main_v126_apply, val_main_v125_apply, i]
  unfold val_main_v124
  rw [ValueIdx.hostReduceAdd_apply]
  refine (ends_at _ _ _ n (grp h) (sub h) r).trans ?_
  exact (congrArg (· + _) zero).trans ((zero_add _).trans (back_at P B S G n h r))

/-- A logit's gradient before the mask. -/
theorem raw_at (j : Fin 256) : val_main_v128 (F := Ideal) P B S G (ix6 0 n (grp h) (sub h) r j)
    = (Ideal.div (X P G n h r j) (D P B S n h r) + T P B S G n h r) * E P B S n h r j := by
  have i : idx_main_v118 (ix6 0 n (grp h) (sub h) r j) = ix6 0 n (grp h) (sub h) r 0 := by funext a; fin_cases a <;> rfl
  rw [val_main_v128_apply, val_main_v127_apply, spread_at, val_main_v119_apply, val_main_v118_apply, i, tot_eq, tot_at]
  rfl

theorem sink_at : val_main_v120 (F := Ideal) P B S G (ix6 0 n (grp h) (sub h) r 0)
    = T P B S G n h r * ex (aR P B n h r) (cR P B n h r) (vec S h) (vec S h) := by
  rw [val_main_v120_apply, back_at, exs_at]
  rfl

theorem nonneg_of_bit (w : BitVec 1) : (0 : EReal) ≤ FloatOps.uitofp (F := Ideal) .f32 w :=
  EReal.coe_nonneg.2 (Nat.cast_nonneg w.toNat)

/-! ## Real arguments -/

variable (hP : ∀ i, IsReal (P i)) (hB : ∀ i, IsReal (B i)) (hS : ∀ i, IsReal (S i)) (hG : ∀ i, IsReal (G i))
include hP hB hS

theorem a_real (k : Fin 128) : aR P B n h r k = ⊥ ∨ IsReal (aR P B n h r k) := lgBefore_real _ _ (fun _ _ => hP _) n h r k fun _ _ _ => hB _
theorem c_real (k : Fin 128) : cR P B n h r k = ⊥ ∨ IsReal (cR P B n h r k) := lgWithin_real _ _ (fun _ _ => hP _) n h r k fun _ _ _ => hB _

theorem E_real (j : Fin 256) : IsReal (E P B S n h r j) := by
  have a := a_real P B S n h r hP hB hS
  have c := c_real P B S n h r hP hB hS
  rcases half j with ⟨k, rfl⟩ | ⟨k, rfl⟩
  · show IsReal (val_main_v90 (F := Ideal) P B S (ix6 0 n (grp h) (sub h) r (lo k)))
    rw [e_lo]
    exact ex_real _ _ _ a c (hS _) (a k)
  · show IsReal (val_main_v90 (F := Ideal) P B S (ix6 0 n (grp h) (sub h) r (hi k)))
    rw [e_hi]
    exact ex_real _ _ _ a c (hS _) (c k)

theorem inv_real' : IsReal (SwSpec.inv (aR P B n h r) (cR P B n h r) (vec S h)) :=
  inv_real _ _ _ (a_real P B S n h r hP hB hS) (c_real P B S n h r hP hB hS) (hS _)

include hG

theorem X_real (j : Fin 256) : IsReal (X P G n h r j) := by
  rcases half j with ⟨k, rfl⟩ | ⟨k, rfl⟩
  · show IsReal (val_main_v109 (F := Ideal) P G (ix6 0 n (grp h) (sub h) r (lo k)))
    rw [pull_lo]
    split
    · exact IsReal.zero
    · exact pullB_real _ _ (fun _ _ => hP _) n h r k fun _ _ => hG _
  · show IsReal (val_main_v109 (F := Ideal) P G (ix6 0 n (grp h) (sub h) r (hi k)))
    rw [pull_hi]
    exact pullW_real _ _ (fun _ _ => hP _) n h r k fun _ _ => hG _

/-- The sum's derivative, block by block. -/
theorem mean_at : T P B S G n h r
    = mean (aR P B n h r) (cR P B n h r) (vec S h) (pullB (mat P) (mat G) n h r) (pullW (mat P) (mat G) n h r) := by
  have i := inv_real' P B S n h r hP hB hS
  have e (k : Fin 128) : X P G n h r (lo k) * SwSpec.inv (aR P B n h r) (cR P B n h r) (vec S h) * E P B S n h r (lo k)
      = pullB (mat P) (mat G) n h r k * SwSpec.inv (aR P B n h r) (cR P B n h r) (vec S h) * ex (aR P B n h r) (cR P B n h r) (vec S h) (aR P B n h r k) := by
    show val_main_v109 (F := Ideal) P G _ * _ * val_main_v90 (F := Ideal) P B S _ = _
    rw [e_lo, pull_lo]
    by_cases z : n.val = 0
    · rw [e_first P B S n h r k z, mul_zero, mul_zero]
    · rw [if_neg z]
  have f (k : Fin 128) : X P G n h r (hi k) * SwSpec.inv (aR P B n h r) (cR P B n h r) (vec S h) * E P B S n h r (hi k)
      = pullW (mat P) (mat G) n h r k * SwSpec.inv (aR P B n h r) (cR P B n h r) (vec S h) * ex (aR P B n h r) (cR P B n h r) (vec S h) (cR P B n h r k) := by
    show val_main_v109 (F := Ideal) P G _ * _ * val_main_v90 (F := Ideal) P B S _ = _
    rw [e_hi, pull_hi]
  have l (j : Fin 256) : IsReal (X P G n h r j * SwSpec.inv (aR P B n h r) (cR P B n h r) (vec S h) * E P B S n h r j) :=
    ((X_real P B S G n h r hP hB hS hG j).mul i).mul (E_real P B S n h r hP hB hS j)
  show -(∑ j, X P G n h r j * SwSpec.inv (aR P B n h r) (cR P B n h r) (vec S h) * E P B S n h r j) = _
  rw [sum_halves, neg_sum _ _ (IsReal.sum _ fun k => l (lo k)) (IsReal.sum _ fun k => l (hi k))]
  simp only [e, f]
  rfl

/-- What reaches the largest logit. -/
theorem none_at : val_main_v132 (F := Ideal) P B S G (ix6 0 n (grp h) (sub h) r 0) = 0 := by
  have a := a_real P B S n h r hP hB hS
  have c := c_real P B S n h r hP hB hS
  rw [val_main_v132_apply, val_main_v123_apply, sink_at]
  have e : val_main_v131 (F := Ideal) P B S G (ix6 0 n (grp h) (sub h) r 0)
      = ∑ j, -((Ideal.div (X P G n h r j) (D P B S n h r) + T P B S G n h r) * E P B S n h r j) := by
    unfold val_main_v131
    refine (shapeCast_apply _ _ _ (ix5 0 n (grp h) (sub h) r) ?_).trans ?_
    · rw [Shape.rowMajor_val_five, Shape.rowMajor_val_six]
      show (((0 * 32 + n.val) * 2 + h.val / 4) * 4 + h.val % 4) * 128 + r.val = ((((0 * 32 + n.val) * 2 + h.val / 4) * 4 + h.val % 4) * 128 + r.val) * 1 + 0
      omega
    · rw [val_main_v130_apply]
      refine (congrArg (· + _) zero).trans ((zero_add _).trans (Finset.sum_congr rfl fun j _ => ?_))
      refine (congrArg _ (show _ = ix6 0 n (grp h) (sub h) r j by funext a; fin_cases a <;> rfl)).trans ?_
      rw [val_main_v129_apply, raw_at]
      rfl
  rw [e]
  refine balance (X P G n h r) (E P B S n h r) _ (D P B S n h r) (X_real P B S G n h r hP hB hS hG) (E_real P B S n h r hP hB hS)
    (ex_real _ _ _ a c (hS _) (.inr (hS _))) ?_ (tot_ne _ _ _ a c (hS _))
  rw [sum_halves]
  simp only [e_lo, e_hi]
  rfl

/-- A logit's gradient before the mask, what reaches the largest being added. -/
theorem sum_at (j : Fin 256) : val_main_v143 (F := Ideal) P B S G (ix6 0 n (grp h) (sub h) r j)
    = (Ideal.div (X P G n h r j) (D P B S n h r) + T P B S G n h r) * E P B S n h r j := by
  have i : idx_main_v139 (idx_main_v141 (ix6 0 n (grp h) (sub h) r j)) = ix4 n (grp h) (sub h) r := by funext a; fin_cases a <;> rfl
  have i' : idx_main_v141 (ix6 0 n (grp h) (sub h) r j) = ix5 0 n (grp h) (sub h) r := by funext a; fin_cases a <;> rfl
  have e : val_main_v138 (F := Ideal) P B S G (ix4 n (grp h) (sub h) r) = 0 := by
    unfold val_main_v138
    rw [ValueIdx.hostReduceAdd_apply]
    refine (ends_at _ _ _ n (grp h) (sub h) r).trans ?_
    rw [val_main_v137_apply, none_at P B S G n h r hP hB hS hG]
    exact (congrArg (_ + ·) (zero_mul _)).trans ((add_zero _).trans zero)
  have c : val_main_v66 (F := Ideal) P B (ix5 0 n (grp h) (sub h) r) = ∑ k, val_main_v65 (F := Ideal) P B (ix6 0 n (grp h) (sub h) r k) := by
    rw [val_main_v66_apply]
    exact (congrArg (· + _) zero).trans ((zero_add _).trans (Finset.sum_congr rfl fun k _ => congrArg (val_main_v65 (F := Ideal) P B) (by funext a; fin_cases a <;> rfl)))
  have z : val_main_v142 (F := Ideal) P B S G (ix6 0 n (grp h) (sub h) r j) = 0 := by
    rw [val_main_v142_apply, val_main_v141_apply, val_main_v140_apply, val_main_v139_apply, i, e, i', c]
    have u (k : Fin 256) : 0 ≤ val_main_v65 (F := Ideal) P B (ix6 0 n (grp h) (sub h) r k) := by
      rw [val_main_v65_apply]
      generalize val_main_v64 (F := Ideal) P B (ix6 0 n (grp h) (sub h) r k) = w
      exact nonneg_of_bit w
    exact share (fun k => val_main_v65 (F := Ideal) P B (ix6 0 n (grp h) (sub h) r k)) u j
  rw [val_main_v143_apply, raw_at, z]
  exact add_zero _

theorem gr_lo (k : Fin 128) : val_main_v146 (F := Ideal) P B S G (ix6 0 n (grp h) (sub h) r (lo k)) = grB (mat P) (cube B) (vec S) (mat G) n h r k := by
  rw [val_main_v146_apply, mask_eq]
  by_cases m : before (0 < n.val) r k
  · refine (if_pos ((mask_lo n h r k).2 m)).trans (Eq.trans ?_ (if_pos m).symm)
    rw [sum_at P B S G n h r hP hB hS hG, mean_at P B S G n h r hP hB hS hG]
    show (Ideal.div (val_main_v109 (F := Ideal) P G _) _ + _) * val_main_v90 (F := Ideal) P B S _ = _
    rw [e_lo, pull_lo, if_neg (by have := m.1; omega)]
  · exact (if_neg (fun e => m ((mask_lo n h r k).1 e))).trans (Eq.trans zero (if_neg m).symm)

theorem gr_hi (k : Fin 128) : val_main_v146 (F := Ideal) P B S G (ix6 0 n (grp h) (sub h) r (hi k)) = grW (mat P) (cube B) (vec S) (mat G) n h r k := by
  rw [val_main_v146_apply, mask_eq]
  by_cases m : within r k
  · refine (if_pos ((mask_hi n h r k).2 m)).trans (Eq.trans ?_ (if_pos m).symm)
    rw [sum_at P B S G n h r hP hB hS hG, mean_at P B S G n h r hP hB hS hG]
    show (Ideal.div (val_main_v109 (F := Ideal) P G _) _ + _) * val_main_v90 (F := Ideal) P B S _ = _
    rw [e_hi, pull_hi]
  · exact (if_neg (fun e => m ((mask_hi n h r k).1 e))).trans (Eq.trans zero (if_neg m).symm)

end Cert.SwaRefIdeal.Read

end
-- ==== Proof.SwaBwdArrays.lean ====
module

public import proofs.«01_k».proof.Proof.SwaBwdRows

/-! # The reference's gradients of the attention in a window: the arrays -/

@[expose] public section

set_option maxRecDepth 16384

noncomputable section

namespace Cert.SwaRefIdeal.Read

open Cert.SwaRefIdeal Cert.SwaRefIdeal.Gen Idealize.ShloMosaic Idealize.ShloMosaic.TcCoe Idealize.SL.Sem Cert.LnSpec Cert.SwSpec Cert.Finite
open Cert.SwaFwdRefIdeal.Read (sub q_at kb_lo kb_hi vb_lo vb_hi lo_at hi_at ex_at tot_at wt_at mask_lo mask_hi zero aR cR)

theorem sub_head (g : Fin 2) (i : Fin 4) : sub (head g i) = i := Fin.ext (by show (4 * g.val + i.val) % 4 = i.val; omega)

/-! ## Blocks side by side -/

/-- A block after, that after the last being the filling. -/
def shift (x : FVec Ideal S1x31x128x2x64 .f32) (z : FVec Ideal S_ .f32) : FVec Ideal S1x32x128x2x64 .f32 :=
  pad S1x32x128x2x64 ![0, 0, 0, 0, 0] ![0, 1, 0, 0, 0] ![0, 0, 0, 0, 0] x z pads_S1x31x128x2x64_S1x32x128x2x64_000_010_000_000_000 h_S_

theorem shift_at (x : FVec Ideal S1x31x128x2x64 .f32) (z : FVec Ideal S_ .f32) (hz : ∀ i, z i = 0) (n : Fin 32) (k : Fin 128) (g : Fin 2) (d : Fin 64) :
    shift x z (ix5 0 n k g d) = if l : n.val + 1 < 32 then x (ix5 0 ⟨n.val, by omega⟩ k g d) else 0 := by
  by_cases l : n.val + 1 < 32
  · rw [dif_pos l]
    unfold shift
    pointwise
    exact dif_pos (by omega)
  · rw [dif_neg l]
    unfold shift
    pointwise [hz]
    exact dif_neg (by omega)

/-- Queries, keys and values side by side. -/
def joined (q : FVec Ideal S1x4096x512 .f32) (k v : FVec Ideal S1x4096x128 .f32) : FVec Ideal S1x4096x768 .f32 :=
  concatenate S1x4096x768 2 [⟨S1x4096x512, q⟩, ⟨S1x4096x128, k⟩, ⟨S1x4096x128, v⟩] concatenates_S1x4096x512_S1x4096x128_S1x4096x128_S1x4096x768_d2

theorem joined_at (q : FVec Ideal S1x4096x512 .f32) (k v : FVec Ideal S1x4096x128 .f32) (i : Fin 4096) (j : Fin 768) : joined q k v (ix3 0 i j)
    = if h : j.val < 512 then q (ix3 0 i ⟨j.val, h⟩) else if h : j.val - 512 < 128 then k (ix3 0 i ⟨j.val - 512, h⟩) else v (ix3 0 i ⟨j.val - 512 - 128, by omega⟩) := by
  unfold joined
  pointwise

/-- The sinks' gradients in a row of 128. -/
def row (s : FVec Ideal S8 .f32) (z : FVec Ideal S120 .f32) : FVec Ideal S128 .f32 := concatenate S128 0 [⟨S8, s⟩, ⟨S120, z⟩] concatenates_S8_S120_S128_d0

theorem row_at (s : FVec Ideal S8 .f32) (z : FVec Ideal S120 .f32) (hz : ∀ i, z i = 0) (j : Fin 128) :
    row s z (ix1 j) = if h : j.val < 8 then s (ix1 ⟨j.val, h⟩) else 0 := by
  unfold row
  pointwise [hz]

/-! ## The arrays, of real arguments -/

variable {P : FVec Ideal S4096x2824 .f32} {B : FVec Ideal S8x128x256 .f32} {S : FVec Ideal S8 .f32} {G : FVec Ideal S4096x1024 .f32}
  (hP : ∀ i, IsReal (P i)) (hB : ∀ i, IsReal (B i)) (hS : ∀ i, IsReal (S i)) (hG : ∀ i, IsReal (G i))
include hP hB hS hG

theorem head_lo (n : Fin 32) (g : Fin 2) (i : Fin 4) (r k : Fin 128) : val_main_v146 (F := Ideal) P B S G (ix6 0 n g i r (lo k))
    = grB (mat P) (cube B) (vec S) (mat G) n (head g i) r k := by
  have e := gr_lo P B S G n (head g i) r hP hB hS hG k
  rwa [grp_head, sub_head] at e

theorem head_hi (n : Fin 32) (g : Fin 2) (i : Fin 4) (r k : Fin 128) : val_main_v146 (F := Ideal) P B S G (ix6 0 n g i r (hi k))
    = grW (mat P) (cube B) (vec S) (mat G) n (head g i) r k := by
  have e := gr_hi P B S G n (head g i) r hP hB hS hG k
  rwa [grp_head, sub_head] at e

omit hP hB hS hG in
theorem scaled_at (n : Fin 32) (g : Fin 2) (i : Fin 4) (r : Fin 128) (j : Fin 256) :
    val_main_v153 (F := Ideal) P B S G (ix6 0 n g j r i) = val_main_v146 (F := Ideal) P B S G (ix6 0 n g i r j) * scale := by
  have e : idx_main_v153 (ix6 0 n g j r i) = ix6 0 n g i r j := by funext a; fin_cases a <;> rfl
  rw [val_main_v153_apply, e, val_main_v152_apply]
  rfl

theorem dq_at (n : Fin 32) (r : Fin 128) (h : Fin 8) (d : Fin 64) : val_main_v155 (F := Ideal) P B S G (ix6 0 n r (grp h) (sub h) d)
    = dqAt (mat P) (cube B) (vec S) (mat G) n h r d := by
  have e : idx_main_v155 (ix6 0 n r (grp h) (sub h) d) = ix6 0 n (grp h) r (sub h) d := by funext a; fin_cases a <;> rfl
  have s : val_main_v154 (F := Ideal) P B S G (ix6 0 n (grp h) r (sub h) d)
      = ∑ j, val_main_v146 (F := Ideal) P B S G (ix6 0 n (grp h) (sub h) r j) * scale * val_main_v11 (F := Ideal) P (ix5 0 n j (grp h) d) := by
    rw [val_main_v154_apply]
    refine Finset.sum_congr rfl fun j _ => congrArg₂ (· * ·) ?_ (congrArg _ (by funext a; fin_cases a <;> rfl))
    exact (congrArg (val_main_v153 (F := Ideal) P B S G) (by funext a; fin_cases a <;> rfl)).trans (scaled_at n (grp h) (sub h) r j)
  rw [val_main_v155_apply, e, s, sum_halves, add_comm]
  unfold dqAt
  refine congrArg₂ (· + ·) (Finset.sum_congr rfl fun k _ => ?_) (Finset.sum_congr rfl fun k _ => ?_)
  · rw [gr_hi P B S G n h r hP hB hS hG, key_eq, kb_hi]
  · rw [gr_lo P B S G n h r hP hB hS hG, key_eq, kb_lo]
    by_cases z : n.val = 0
    · rw [show grB (mat P) (cube B) (vec S) (mat G) n h r k = 0 from if_neg fun q => absurd q.1 (by omega), zero_mul, zero_mul, zero_mul]
    · rw [if_neg z]

omit hP hB hS hG in
theorem key_sum (n : Fin 32) (j : Fin 256) (g : Fin 2) (d : Fin 64) : val_main_v157 (F := Ideal) P B S G (ix5 0 n j g d)
    = ∑ i : Fin 4, ∑ r : Fin 128, val_main_v146 (F := Ideal) P B S G (ix6 0 n g i r j) * scale * query (mat P) n (head g i) r d := by
  have e : idx_main_v157 (ix5 0 n j g d) = ix5 0 n g j d := by funext a; fin_cases a <;> rfl
  rw [val_main_v157_apply, e]
  unfold val_main_v156
  rw [dk_dot, Finset.sum_comm]
  refine Finset.sum_congr rfl fun i _ => Finset.sum_congr rfl fun r _ => congrArg₂ (· * ·) (scaled_at n g i r j) ?_
  have q := q_at P n r (head g i) d
  rwa [grp_head, sub_head] at q

theorem key_lo (n : Fin 32) (k : Fin 128) (g : Fin 2) (d : Fin 64) : val_main_v157 (F := Ideal) P B S G (ix5 0 n (lo k) g d)
    = dkB (mat P) (cube B) (vec S) (mat G) n g k d := by
  rw [key_sum]
  exact Finset.sum_congr rfl fun i _ => Finset.sum_congr rfl fun r _ => by rw [head_lo hP hB hS hG]

theorem key_hi (n : Fin 32) (k : Fin 128) (g : Fin 2) (d : Fin 64) : val_main_v157 (F := Ideal) P B S G (ix5 0 n (hi k) g d)
    = dkW (mat P) (cube B) (vec S) (mat G) n g k d := by
  rw [key_sum]
  exact Finset.sum_congr rfl fun i _ => Finset.sum_congr rfl fun r _ => by rw [head_hi hP hB hS hG]

omit hP hB hS hG in
theorem val_sum (n : Fin 32) (j : Fin 256) (g : Fin 2) (d : Fin 64) : val_main_v111 (F := Ideal) P B S G (ix5 0 n j g d)
    = ∑ i : Fin 4, ∑ r : Fin 128, wt (aR P B n (head g i) r) (cR P B n (head g i) r) (vec S (head g i))
        (SwaFwdRefIdeal.Read.val_main_v56 (F := Ideal) P B (ix6 0 n g i r j)) * cot (mat G) n (head g i) r d := by
  have e : idx_main_v111 (ix5 0 n j g d) = ix5 0 n g d j := by funext a; fin_cases a <;> rfl
  rw [val_main_v111_apply, e]
  unfold val_main_v110
  rw [dv_dot]
  refine Finset.sum_congr rfl fun i _ => Finset.sum_congr rfl fun r _ => (mul_comm _ _).trans (congrArg₂ (· * ·) ?_ ?_)
  · have w := wt_at P B S n (head g i) r j
    rw [wt_eq]
    rwa [grp_head, sub_head] at w
  · have q := g_at G n (head g i) r d
    rwa [grp_head, sub_head] at q

omit hP hB hS hG in
theorem val_lo (n : Fin 32) (k : Fin 128) (g : Fin 2) (d : Fin 64) : val_main_v111 (F := Ideal) P B S G (ix5 0 n (lo k) g d)
    = dvB (mat P) (cube B) (vec S) (mat G) n g k d := by
  rw [val_sum]
  refine Finset.sum_congr rfl fun i _ => Finset.sum_congr rfl fun r _ => ?_
  have l := lo_at P B n (head g i) r k
  rw [grp_head, sub_head] at l
  rw [l]

omit hP hB hS hG in
theorem val_hi (n : Fin 32) (k : Fin 128) (g : Fin 2) (d : Fin 64) : val_main_v111 (F := Ideal) P B S G (ix5 0 n (hi k) g d)
    = dvW (mat P) (cube B) (vec S) (mat G) n g k d := by
  rw [val_sum]
  refine Finset.sum_congr rfl fun i _ => Finset.sum_congr rfl fun r _ => ?_
  have l := hi_at P B n (head g i) r k
  rw [grp_head, sub_head] at l
  rw [l]

/-- The keys' gradients. -/
theorem dk_at (n : Fin 32) (k : Fin 128) (g : Fin 2) (d : Fin 64) : val_main_v171 (F := Ideal) P B S G (ix5 0 n k g d)
    = dkAt (mat P) (cube B) (vec S) (mat G) n g k d := by
  have e : idx_main_v167 (ix5 0 n k g d) = ix5 0 n (hi k) g d := by funext a; fin_cases a <;> rfl
  rw [val_main_v171_apply, val_main_v167_apply, e, key_hi hP hB hS hG]
  refine congrArg (_ + ·) ((shift_at _ (val_main_cst_31 (F := Ideal)) (fun _ => zero) n k g d).trans ?_)
  by_cases l : n.val + 1 < 32
  · have i : idx_main_v166 (idx_main_v169 (ix5 0 ⟨n.val, by omega⟩ k g d)) = ix5 0 ⟨n.val + 1, l⟩ (lo k) g d := by
      funext a
      apply Fin.ext
      match a with
      | ⟨0, _⟩ => rfl
      | ⟨1, _⟩ => show 1 + n.val = n.val + 1; omega
      | ⟨2, _⟩ => rfl
      | ⟨3, _⟩ => rfl
      | ⟨4, _⟩ => rfl
    rw [dif_pos l, dif_pos l, val_main_v169_apply, val_main_v166_apply, i, key_lo hP hB hS hG]
  · rw [dif_neg l, dif_neg l]

omit hP hB hS hG in
/-- The values' gradients. -/
theorem dv_at (n : Fin 32) (k : Fin 128) (g : Fin 2) (d : Fin 64) : val_main_v164 (F := Ideal) P B S G (ix5 0 n k g d)
    = dvAt (mat P) (cube B) (vec S) (mat G) n g k d := by
  have e : idx_main_v160 (ix5 0 n k g d) = ix5 0 n (hi k) g d := by funext a; fin_cases a <;> rfl
  rw [val_main_v164_apply, val_main_v160_apply, e, val_hi]
  refine congrArg (_ + ·) ((shift_at _ (val_main_cst_30 (F := Ideal)) (fun _ => zero) n k g d).trans ?_)
  by_cases l : n.val + 1 < 32
  · have i : idx_main_v159 (idx_main_v162 (ix5 0 ⟨n.val, by omega⟩ k g d)) = ix5 0 ⟨n.val + 1, l⟩ (lo k) g d := by
      funext a
      apply Fin.ext
      match a with
      | ⟨0, _⟩ => rfl
      | ⟨1, _⟩ => show 1 + n.val = n.val + 1; omega
      | ⟨2, _⟩ => rfl
      | ⟨3, _⟩ => rfl
      | ⟨4, _⟩ => rfl
    rw [dif_pos l, dif_pos l, val_main_v162_apply, val_main_v159_apply, i, val_lo]
  · rw [dif_neg l, dif_neg l]

theorem dq_flat (i : Fin 4096) (j : Fin 512) : val_main_v158 (F := Ideal) P B S G (ix3 0 i j)
    = dqAt (mat P) (cube B) (vec S) (mat G) ⟨i.val / 128, by omega⟩ (hd j) ⟨i.val % 128, by omega⟩ (ft j) := by
  unfold val_main_v158
  refine (shapeCast_apply _ _ _ (ix6 0 ⟨i.val / 128, by omega⟩ ⟨i.val % 128, by omega⟩ (grp (hd j)) (sub (hd j)) (ft j)) ?_).trans (dq_at hP hB hS hG _ _ _ _)
  rw [Shape.rowMajor_val_six, Shape.rowMajor_val_three]
  show ((((0 * 32 + i.val / 128) * 128 + i.val % 128) * 2 + j.val / 64 / 4) * 4 + j.val / 64 % 4) * 64 + j.val % 64 = (0 * 4096 + i.val) * 512 + j.val
  omega

theorem dk_flat (i : Fin 4096) (j : Fin 128) : val_main_v172 (F := Ideal) P B S G (ix3 0 i j)
    = dkAt (mat P) (cube B) (vec S) (mat G) ⟨i.val / 128, by omega⟩ ⟨j.val / 64 % 2, by omega⟩ ⟨i.val % 128, by omega⟩ ⟨j.val % 64, by omega⟩ := by
  unfold val_main_v172
  refine (shapeCast_apply _ _ _ (ix5 0 ⟨i.val / 128, by omega⟩ ⟨i.val % 128, by omega⟩ ⟨j.val / 64 % 2, by omega⟩ ⟨j.val % 64, by omega⟩) ?_).trans (dk_at hP hB hS hG _ _ _ _)
  rw [Shape.rowMajor_val_five, Shape.rowMajor_val_three]
  show (((0 * 32 + i.val / 128) * 128 + i.val % 128) * 2 + j.val / 64 % 2) * 64 + j.val % 64 = (0 * 4096 + i.val) * 128 + j.val
  omega

omit hP hB hS hG in
theorem dv_flat (i : Fin 4096) (j : Fin 128) : val_main_v165 (F := Ideal) P B S G (ix3 0 i j)
    = dvAt (mat P) (cube B) (vec S) (mat G) ⟨i.val / 128, by omega⟩ ⟨j.val / 64 % 2, by omega⟩ ⟨i.val % 128, by omega⟩ ⟨j.val % 64, by omega⟩ := by
  unfold val_main_v165
  refine (shapeCast_apply _ _ _ (ix5 0 ⟨i.val / 128, by omega⟩ ⟨i.val % 128, by omega⟩ ⟨j.val / 64 % 2, by omega⟩ ⟨j.val % 64, by omega⟩) ?_).trans (dv_at _ _ _ _)
  rw [Shape.rowMajor_val_five, Shape.rowMajor_val_three]
  show (((0 * 32 + i.val / 128) * 128 + i.val % 128) * 2 + j.val / 64 % 2) * 64 + j.val % 64 = (0 * 4096 + i.val) * 128 + j.val
  omega

theorem dsw_at (i : Fin 4096) (j : Fin 768) : val_main_v173 (F := Ideal) P B S G (ix3 0 i j)
    = dswAt (mat P) (cube B) (vec S) (mat G) ⟨i.val / 128, by omega⟩ ⟨i.val % 128, by omega⟩ j := by
  refine (joined_at _ _ _ i j).trans ?_
  unfold dswAt
  by_cases h : j.val < 512
  · rw [dif_pos h, dif_pos h, dq_flat hP hB hS hG]
  by_cases h' : j.val < 640
  · rw [dif_neg h, dif_neg h, dif_pos (by omega), if_pos h', dk_flat hP hB hS hG]
    refine congrArg (dkAt (mat P) (cube B) (vec S) (mat G) _ _ _) (Fin.ext ?_)
    show (j.val - 512) % 64 = j.val % 64
    omega
  · rw [dif_neg h, dif_neg h, dif_neg (by omega), if_neg h', dv_flat]
    refine congrArg₂ (dvAt (mat P) (cube B) (vec S) (mat G) _ · _ ·) (Fin.ext ?_) (Fin.ext ?_)
    · show (j.val - 512 - 128) / 64 % 2 = (j.val - 640) / 64 % 2
      omega
    · show (j.val - 512 - 128) % 64 = j.val % 64
      omega

/-- The first result: the gradients of queries, keys and values. -/
theorem dsw_arr : val_main_v175 (F := Ideal) P B S G = (dswArr (mat P) (cube B) (vec S) (mat G) : FVec Ideal S4096x768 .bf16) := by
  refine funext fun i => ?_
  have e : idx_main_v174 i = ix3 0 (i 0) (i 1) := by
    have h0 : (i 0).val < 4096 := (i 0).isLt
    have h1 : (i 1).val < 768 := (i 1).isLt
    funext a
    apply Fin.ext
    match a with
    | ⟨0, _⟩ => rfl
    | ⟨1, _⟩ => show ((i 0).val * 768 + (i 1).val) / 768 % 4096 = (i 0).val; omega
    | ⟨2, _⟩ => show ((i 0).val * 768 + (i 1).val) % 768 = (i 1).val; omega
  rw [val_main_v175_apply]
  refine Eq.trans (b := val_main_v174 (F := Ideal) P B S G i) rfl ?_
  rw [val_main_v174_apply, e]
  exact dsw_at hP hB hS hG (i 0) (i 1)

theorem db_at (g : Fin 2) (i : Fin 4) (r : Fin 128) (j : Fin 256) : val_main_v149 (F := Ideal) P B S G (ix4 g i r j)
    = ∑ n, dbAt (mat P) (cube B) (vec S) (mat G) n (head g i) r j := by
  have s : val_main_v148 (F := Ideal) P B S G (ix6 0 0 g i r j) = val_main_v147 (F := Ideal) P B S G (ix5 0 g i r j) := by
    unfold val_main_v148
    refine shapeCast_apply _ _ _ (ix5 0 g i r j) ?_
    rw [Shape.rowMajor_val_five, Shape.rowMajor_val_six]
    show (((0 * 2 + g.val) * 4 + i.val) * 128 + r.val) * 256 + j.val = ((((0 * 1 + 0) * 2 + g.val) * 4 + i.val) * 128 + r.val) * 256 + j.val
    omega
  unfold val_main_v149
  rw [ValueIdx.hostReduceAdd_apply]
  refine (tops_at _ _ _ g i r j).trans ?_
  refine (congrArg (· + _) zero).trans ((zero_add _).trans ?_)
  rw [s, val_main_v147_apply]
  refine (congrArg (· + _) zero).trans ((zero_add _).trans (Finset.sum_congr rfl fun n _ => ?_))
  refine (congrArg (val_main_v146 (F := Ideal) P B S G) (by funext a; fin_cases a <;> rfl)).trans (b := val_main_v146 (F := Ideal) P B S G (ix6 0 n g i r j)) ?_
  unfold dbAt
  by_cases l : j.val < 128
  · rw [dif_pos l]
    exact head_lo hP hB hS hG n g i r ⟨j.val, l⟩
  · rw [dif_neg l]
    refine Eq.trans (congrArg (val_main_v146 (F := Ideal) P B S G) (congrArg (ix6 0 n g i r) (Fin.ext ?_))) (head_hi hP hB hS hG n g i r ⟨j.val - 128, by omega⟩)
    show j.val = 128 + (j.val - 128)
    omega

theorem db_flat (h : Fin 8) (r : Fin 128) (j : Fin 256) : val_main_v150 (F := Ideal) P B S G (ix3 h r j)
    = ∑ n, dbAt (mat P) (cube B) (vec S) (mat G) n h r j := by
  have e : idx_main_v150 (ix3 h r j) = ix4 (grp h) (sub h) r j := by
    funext a
    apply Fin.ext
    match a with
    | ⟨0, _⟩ => show ((h.val * 128 + r.val) * 256 + j.val) / 131072 = h.val / 4; omega
    | ⟨1, _⟩ => show ((h.val * 128 + r.val) * 256 + j.val) / 32768 % 4 = h.val % 4; omega
    | ⟨2, _⟩ => show ((h.val * 128 + r.val) * 256 + j.val) / 256 % 128 = r.val; omega
    | ⟨3, _⟩ => show ((h.val * 128 + r.val) * 256 + j.val) % 256 = j.val; omega
  have hh : head (grp h) (sub h) = h := Fin.ext (by show 4 * (h.val / 4) + h.val % 4 = h.val; omega)
  rw [val_main_v150_apply, e, db_at hP hB hS hG, hh]

/-- The second result: the gradient of the array of biases. -/
theorem db_arr : val_main_v150 (F := Ideal) P B S G = dbArr (mat P) (cube B) (vec S) (mat G) := by
  refine funext fun x => ?_
  have e : x = ix3 (x 0) (x 1) (x 2) := by funext a; fin_cases a <;> rfl
  rw [e]
  exact db_flat hP hB hS hG (x 0) (x 1) (x 2)

omit hP hB hS hG in
theorem units (v : FVec Ideal S1x2x4x1 .f32) (h : S1x2x4x1.ShapeCasts S1x1x2x4x1x1) (g : Fin 2) (i : Fin 4) :
    shapeCast S1x1x2x4x1x1 v h (ix6 0 0 g i 0 0) = v (ix4 0 g i 0) := by
  refine shapeCast_apply _ _ _ (ix4 0 g i 0) ?_
  rw [Shape.rowMajor_val_four, Shape.rowMajor_val_six]
  show ((0 * 2 + g.val) * 4 + i.val) * 1 + 0 = ((((0 * 1 + 0) * 2 + g.val) * 4 + i.val) * 1 + 0) * 1 + 0
  omega

theorem ds_at (h : Fin 8) : val_main_v144 (F := Ideal) P B S G (ix2 (grp h) (sub h))
    = ∑ n, ∑ r, skAt (mat P) (cube B) (vec S) (mat G) n h r := by
  have a : val_main_v121 (F := Ideal) P B S G (ix4 0 (grp h) (sub h) 0) = ∑ n, ∑ r, skAt (mat P) (cube B) (vec S) (mat G) n h r := by
    unfold val_main_v121
    rw [ValueIdx.hostReduceAdd_apply]
    refine (rows_at _ _ _ (grp h) (sub h)).trans ?_
    refine (congrArg (· + _) zero).trans ((zero_add _).trans (Finset.sum_congr rfl fun n _ => Finset.sum_congr rfl fun r _ => ?_))
    rw [sink_at, mean_at P B S G n h r hP hB hS hG]
    rfl
  have b : val_main_v134 (F := Ideal) P B S G (ix4 0 (grp h) (sub h) 0) = 0 := by
    unfold val_main_v134
    rw [ValueIdx.hostReduceAdd_apply]
    refine (rows_at _ _ _ (grp h) (sub h)).trans ?_
    refine (congrArg (· + _) zero).trans ((zero_add _).trans (Finset.sum_eq_zero fun n _ => Finset.sum_eq_zero fun r _ => ?_))
    rw [val_main_v133_apply, none_at P B S G n h r hP hB hS hG]
    exact zero_mul _
  unfold val_main_v144
  rw [ValueIdx.hostReduceAdd_apply]
  refine (units_at _ _ _ (grp h) (sub h)).trans ?_
  refine (congrArg (· + _) zero).trans ((zero_add _).trans ?_)
  rw [val_main_v136_apply]
  refine (congrArg₂ (· + ·) ((units _ _ _ _).trans a) ((units _ _ _ _).trans b)).trans (add_zero _)

/-- The third result: the gradients of the sinks, in a row of 128. -/
theorem ds_arr : val_main_v178 (F := Ideal) P B S G = dsArr (mat P) (cube B) (vec S) (mat G) := by
  refine funext fun x => ?_
  have e : idx_main_v178 x = ix1 (x 1) := by funext a; fin_cases a; rfl
  rw [val_main_v178_apply, e]
  refine (row_at _ (val_main_v176 (F := Ideal)) (fun i => (val_main_v176_apply i).trans zero) (x 1)).trans ?_
  show _ = ∑ n, dsAt (mat P) (cube B) (vec S) (mat G) n (x 1)
  unfold dsAt
  by_cases h : (x 1).val < 8
  · have i : idx_main_v145 (ix1 ⟨(x 1).val, h⟩) = ix2 (grp ⟨(x 1).val, h⟩) (sub ⟨(x 1).val, h⟩) := by
      funext a
      apply Fin.ext
      match a with
      | ⟨0, _⟩ => rfl
      | ⟨1, _⟩ => rfl
    rw [dif_pos h, val_main_v145_apply, i, ds_at hP hB hS hG]
    refine Finset.sum_congr rfl fun n _ => Eq.symm ?_
    exact dif_pos h
  · rw [dif_neg h]
    refine Eq.symm (Finset.sum_eq_zero fun n _ => ?_)
    exact dif_neg h

end Cert.SwaRefIdeal.Read

end
-- ==== Proof.SwaBwdClaim.lean ====
module

public import proofs.«01_k».proof.Defs
public import proofs.«01_k».proof.Proof.Gen.SwaBwd
public import proofs.«01_k».proof.Proof.Gen.SwaRefIdeal
public import proofs.«01_k».proof.Proof.Gen.Pre_swa_finite
public import proofs.«01_k».proof.Proof.SwaBwdKernel
public import proofs.«01_k».proof.Proof.SwaBwdArrays
public import Idealize.ShloMosaic.Lib.Claim

/-! # `_swa_bwd`: the claims of the pair -/

@[expose] public section

set_option maxRecDepth 16384

noncomputable section

namespace Cert.SwaBwdClaim

open Idealize.ShloMosaic Idealize.SL.Sem Cert.LnSpec Cert.SwSpec Cert.Finite

local instance : Cert.SwaBwd.Facts := Cert.SwaBwd.Gen.facts
local instance : Cert.SwaBwdIdeal.Facts := Cert.SwaBwdIdeal.Gen.facts
local instance : Cert.SwaRefIdeal.Facts := Cert.SwaRefIdeal.Gen.facts
local instance : Cert.Pre_swa_finite.Facts := Cert.Pre_swa_finite.Gen.facts

theorem frame_ideal : Cert.quiescent_SwaBwdIdeal := fun m g _ => Cert.SwaBwdIdeal.Gen.frame m g

theorem frame_ideal_pre : Cert.quiescent_SwaBwdIdeal_pre_swa_finite := fun m g _ => Cert.SwaBwdIdeal.Gen.frame m g

theorem main_eq : Cert.SwaBwd.main (F := Bits) = Cert.SwaBwdIdeal.main (F := Bits) := rfl

theorem defs_eq : Cert.SwaBwd.defs (F := Bits) = Cert.SwaBwdIdeal.defs (F := Bits) := by sl_kernel_rfl

/-- The kernel's program is its idealized program over the machine's floats: one run serves both. -/
theorem frame_kernel : Cert.quiescent_SwaBwd := fun m g _ => by
  rw [defs_eq, main_eq]
  exact Cert.SwaBwdIdeal.Gen.frame (F := Bits) m g

theorem frame_reference : Cert.quiescent_SwaRefIdeal := by
  intro m g _
  exact (θ_run _ _ _).mono (fun r h => ⟨fun c => (h c).2.2.2, sem_eq_zero_of_no_sems rfl _⟩) (Cert.SwaRefIdeal.Value.run m g)

theorem frame_reference_pre : Cert.quiescent_SwaRefIdeal_pre_swa_finite := fun m g _ => frame_reference m g trivial

/-- Under the precondition the arguments are arrays of reals. -/
theorem reals (m : (ℓ : Loc Cert.SwaBwdIdeal.nD Cert.SwaBwdIdeal.τ Cert.SwaBwdIdeal.sig) → Buf (Elt Ideal) ℓ) (h : Cert.Pre_SwaBwdIdeal_swa_finite m) (c : Dev Cert.SwaBwdIdeal.nD) :
    (∀ i, IsReal (m ((c.tc : Thread Cert.SwaBwdIdeal.nD Cert.SwaBwdIdeal.τ).loc Cert.SwaBwdIdeal.main_arg0) i))
    ∧ (∀ i, IsReal (m ((c.tc : Thread Cert.SwaBwdIdeal.nD Cert.SwaBwdIdeal.τ).loc Cert.SwaBwdIdeal.main_arg1) i))
    ∧ (∀ i, IsReal (m ((c.tc : Thread Cert.SwaBwdIdeal.nD Cert.SwaBwdIdeal.τ).loc Cert.SwaBwdIdeal.main_arg2) i))
    ∧ (∀ i, IsReal (m ((c.tc : Thread Cert.SwaBwdIdeal.nD Cert.SwaBwdIdeal.τ).loc Cert.SwaBwdIdeal.main_arg3) i)) := by
  haveI : Subsingleton Cert.Pre_swa_finite.S_.Idx := ⟨fun a b => funext fun x => x.elim0⟩
  have h := h c
  unfold Cert.Pre_swa_finite.fn at h
  dsimp only at h
  obtain ⟨h0, h1, h2, h3⟩ := h
  exact ⟨real_of_all _ _ (fun _ => rfl) _ _ _ h0 ix0, real_of_all _ _ (fun _ => rfl) _ _ _ h1 ix0, real_of_all _ _ (fun _ => rfl) _ _ _ h2 ix0, real_of_all _ _ (fun _ => rfl) _ _ _ h3 ix0⟩

section
variable {p p' : FVec Ideal Cert.SwaRefIdeal.S4096x2824 .f32} {b b' : FVec Ideal Cert.SwaRefIdeal.S8x128x256 .f32} {s s' : FVec Ideal Cert.SwaRefIdeal.S8 .f32}
  {d d' : FVec Ideal Cert.SwaRefIdeal.S4096x1024 .f32} (ep : p' = p) (eb : b' = b) (es : s' = s) (ed : d' = d)
  (hp : ∀ i, IsReal (p i)) (hb : ∀ i, IsReal (b i)) (hs : ∀ i, IsReal (s i)) (hd : ∀ i, IsReal (d i))
include ep eb es ed hp hb hs hd

theorem first : Cert.SwaRefIdeal.Read.val_main_v175 (F := Ideal) p' b' s' d' = (dswArr (mat p) (cube b) (vec s) (mat d) : FVec Ideal Cert.SwaRefIdeal.S4096x768 .bf16) := by
  subst ep eb es ed
  exact Cert.SwaRefIdeal.Read.dsw_arr hp hb hs hd

theorem second : Cert.SwaRefIdeal.Read.val_main_v150 (F := Ideal) p' b' s' d' = dbArr (mat p) (cube b) (vec s) (mat d) := by
  subst ep eb es ed
  exact Cert.SwaRefIdeal.Read.db_arr hp hb hs hd

theorem third : Cert.SwaRefIdeal.Read.val_main_v178 (F := Ideal) p' b' s' d' = dsArr (mat p) (cube b) (vec s) (mat d) := by
  subst ep eb es ed
  exact Cert.SwaRefIdeal.Read.ds_arr hp hb hs hd
end

set_option maxHeartbeats 1600000 in
theorem algebraic : Cert.algebraic_SwaBwdIdeal_SwaRefIdeal_pre_swa_finite := by
  pair_intro
  · run_from Cert.SwaBwdIdeal.Gen.run_main m g
    · exact Cert.SwaBwdIdeal.Gen.V_main_arg0 m c
    · exact Cert.SwaBwdIdeal.Gen.V_main_arg2 m c
  · refine (θ_run _ _ _).mono (fun r h c => ?_) (Cert.SwaRefIdeal.Value.run m' g')
    obtain ⟨a175, a150, a178, rest⟩ := h c
    obtain ⟨e0, e1, e2, e3⟩ := hagree c
    obtain ⟨h0, h1, h2, h3⟩ := reals m hpre c
    refine ⟨(a175.trans (Cert.SwaRefIdeal.Read.val_main_v175_eq (StableHlo.launchContents m' c))).trans ?_,
      (a150.trans (Cert.SwaRefIdeal.Read.val_main_v150_eq (StableHlo.launchContents m' c))).trans ?_,
      (a178.trans (Cert.SwaRefIdeal.Read.val_main_v178_eq (StableHlo.launchContents m' c))).trans ?_, rest⟩
    · exact (first e0 e1 e2 e3 h0 h1 h2 h3).trans (Cert.SwaBwdIdeal.Value.final8 m c).symm
    · exact (second e0 e1 e2 e3 h0 h1 h2 h3).trans (Cert.SwaBwdIdeal.Value.final9 m c).symm
    · exact (third e0 e1 e2 e3 h0 h1 h2 h3).trans (Cert.SwaBwdIdeal.Value.final10 m c).symm

end Cert.SwaBwdClaim

end
-- ==== Proof.BiasSpec.lean ====
module

public import Idealize.ShloMosaic.Lib.Pointwise

/-! # The gradient of the relative-position table, in plain mathematics -/

@[expose] public section

noncomputable section

namespace Cert.BiasSpec

open Idealize.ShloMosaic

/-- The first distance of each logarithmic bucket above the sixteenth. -/
def starts : List ℕ := [19, 21, 24, 27, 31, 35, 40, 46, 52, 59, 67, 77, 87, 99, 113]

/-- The bucket of a distance: its own up to 15, then logarithmic. -/
def bucket (n : ℕ) : ℕ := if n < 16 then n else 16 + (starts.filter (· ≤ n)).length

/-- The distance from place `r` of a block back to place `c` of its window; a place ahead counts as distance 0. -/
def dist (r : Fin 128) (c : Fin 256) : ℕ := 128 + r.val - c.val

/-- Both passes' cotangents of one head, summed over the places of one bucket; columns from the eighth on are padding. -/
def arr (d e : FVec Ideal ⟨3, ![8, 128, 256]⟩ .f32) : FVec Ideal ⟨2, ![32, 128]⟩ .f32 := fun i =>
  if h : (i 1).val < 8 then
    ∑ c, ∑ r, if bucket (dist r c) = (i 0).val then d (ix3 ⟨(i 1).val, h⟩ r c) + e (ix3 ⟨(i 1).val, h⟩ r c) else 0
  else 0

theorem bucket_lt (n : ℕ) : bucket n < 32 := by
  unfold bucket
  split
  · omega
  · have := List.length_filter_le (fun x => decide (x ≤ n)) starts
    have e : starts.length = 15 := rfl
    omega

end Cert.BiasSpec

end
-- ==== Proof.BiasTable.lean ====
module

public import proofs.«01_k».proof.BiasBwdIdeal
public import proofs.«01_k».proof.Proof.BiasSpec

/-! # The kernel's bucket table holds the buckets -/

@[expose] public section

set_option maxRecDepth 16384

namespace Cert.BiasBwdIdeal.Value

open Idealize.ShloMosaic Cert.BiasSpec Cert.BiasBwdIdeal

set_option maxHeartbeats 8000000 in
/-- Eight rows at a time. -/
theorem rows (q : Fin 16) : ∀ (r : Fin 8) (c : Fin 256),
    lit0t ((8 * q.val + r.val) * 256 + c.val) = BitVec.ofNat 32 (bucket (128 + (8 * q.val + r.val) - c.val)) := by
  fin_cases q <;> decide +kernel

theorem table_words (r : Fin 128) (c : Fin 256) : lit0t (r.val * 256 + c.val) = BitVec.ofNat 32 (bucket (dist r c)) := by
  have h := rows ⟨r.val / 8, by omega⟩ ⟨r.val % 8, by omega⟩ c
  simp only [Nat.div_add_mod] at h
  exact h

end Cert.BiasBwdIdeal.Value
-- ==== Proof.BiasKernel.lean ====
module

public import proofs.«01_k».proof.Proof.Gen.BiasBwdIdeal.Value
public import proofs.«01_k».proof.Proof.BiasTable
public import Idealize.ShloMosaic.Lib.Pipeline.ReadBack
public import Idealize.ShloMosaic.Lib.Claim
public import Idealize.ShloMosaic.Lib.Pipeline.ValueKit

/-! # `_bias_table_bwd`: the array the kernel returns, over its bucket table -/

@[expose] public section

set_option maxRecDepth 16384

noncomputable section

namespace Cert.BiasBwdIdeal.Value

open Cert.BiasBwdIdeal Cert.BiasBwdIdeal.Gen Idealize.ShloMosaic Idealize.ShloMosaic.TcCoe Idealize.SL.Sem Cert.BiasSpec
open Idealize.ShloMosaic.Pipeline (Dat)

theorem idx : ∀ t : Fin cfg0.N, win0_0.index t = ![0, 0, 0] ∧ win0_1.index t = ![0, 0, 0] ∧ win0_2.index t = ![0, 0] ∧ win0_3.index t = ![0, 0] :=
  (by decide +kernel : ∀ t : Fin grid0.N, _)

section
variable (x0 x1 : Vec Ideal S8x128x256 .f32) (x2 : Vec Ideal S128x256 .i32)

/-- The sum of both cotangents of one head. -/
def head : ℕ → FVec Ideal S128x256 .f32
  | 0 => k0_pay2 (F := Ideal) (View.ld x0 r0_1) (View.ld x1 r0_1)
  | 1 => k0_pay2 (F := Ideal) (View.ld x0 r0_2) (View.ld x1 r0_2)
  | 2 => k0_pay2 (F := Ideal) (View.ld x0 r0_3) (View.ld x1 r0_3)
  | 3 => k0_pay2 (F := Ideal) (View.ld x0 r0_4) (View.ld x1 r0_4)
  | 4 => k0_pay2 (F := Ideal) (View.ld x0 r0_5) (View.ld x1 r0_5)
  | 5 => k0_pay2 (F := Ideal) (View.ld x0 r0_6) (View.ld x1 r0_6)
  | 6 => k0_pay2 (F := Ideal) (View.ld x0 r0_7) (View.ld x1 r0_7)
  | _ => k0_pay2 (F := Ideal) (View.ld x0 r0_8) (View.ld x1 r0_8)

/-- One entry: a head's cotangents over the places of one bucket, summed. -/
def entry (tab : IVec S128x256 32) (d : FVec Ideal S128x256 .f32) (b : BitVec 32) : FVec Ideal S1x1 .f32 :=
  shapeCast S1x1 (shapeCast S1x1 (multiReduction .add [1] S1 (shapeCast S1x256
    (multiReduction .add [0] S256 (select (cmpi .eq tab (broadcast S128x256 b)) d (broadcast S128x256 (Scalar.ofBits (F := Ideal) .f32 0x00000000#32)))
      0x00000000#32 reduces_S128x256_S256 (.inl rfl) rfl) shapeCasts_S256_S1x256) 0x00000000#32 reduces_S1x256_S1 (.inl rfl) rfl)
    shapeCasts_S1_S1x1) shapeCasts_S1x1_S1x1

/-- The place of the entry of bucket `b` of head `h`. -/
def place (b h : BitVec 32) : IVec S32x128 1 :=
  andi (cmpi .eq (iota .tc S32x128 32 [0] iota_S32x128_d0_w32) (broadcast S32x128 b))
    (cmpi .eq (iota .tc S32x128 32 [1] iota_S32x128_d1_w32) (broadcast S32x128 h))

/-- The entry written by step `n`. -/
def entryAt (n : ℕ) : FVec Ideal S1x1 .f32 := entry (View.ld x2 r0_0) (head x0 x1 (n / 32)) (BitVec.ofNat 32 (n % 32))

/-- The first `n` entries are in place, column by column; the rest is zero. -/
def Filled (acc : FVec Ideal S32x128 .f32) (n : ℕ) : Prop :=
  ∀ (i : Fin 32) (j : Fin 128), acc (ix2 i j) = if j.val * 32 + i.val < n then entryAt x0 x1 x2 (j.val * 32 + i.val) (ix2 0 0) else 0

theorem pick (a b : BitVec 32) (x y : EReal) : Scalar.select (IntOp.cmpi .eq a b) x y = if a = b then x else y := by
  unfold Scalar.select IntOp.cmpi
  by_cases e : a = b
  · simp [e]
  · simp [e, beq_eq_false_iff_ne.2 e]

theorem pick_both (a b a' b' : BitVec 32) (x y : EReal) :
    Scalar.select (IntOp.andi (IntOp.cmpi .eq a b) (IntOp.cmpi .eq a' b')) x y = if a = b ∧ a' = b' then x else y := by
  unfold Scalar.select IntOp.cmpi IntOp.andi
  have z : ∀ u v : BitVec 32, u ≠ v → (u == v) = false := fun _ _ h => beq_eq_false_iff_ne.2 h
  by_cases e : a = b <;> by_cases e' : a' = b' <;> simp [e, e', z]

theorem entry_at (tab : IVec S128x256 32) (d : FVec Ideal S128x256 .f32) (b : BitVec 32) :
    entry tab d b (ix2 0 0) = ∑ c, ∑ r, if tab (ix2 r c) = b then d (ix2 r c) else 0 := by
  unfold entry
  pointwise
  exact Finset.sum_congr rfl fun c _ => Finset.sum_congr rfl fun r _ => pick _ _ _ _

theorem put_at (b h : BitVec 32) (t : FVec Ideal S1x1 .f32) (acc : FVec Ideal S32x128 .f32) (i : Fin 32) (j : Fin 128) :
    select (place b h) (broadcastTo S32x128 t broadcasts_S1x1_S32x128) acc (ix2 i j)
    = if BitVec.ofNat 32 i.val = b ∧ BitVec.ofNat 32 j.val = h then t (ix2 0 0) else acc (ix2 i j) := by
  unfold place
  pointwise
  exact pick_both _ _ _ _ _ _

theorem step (n : ℕ) (acc : FVec Ideal S32x128 .f32) (p : IVec S32x128 1) (t : FVec Ideal S1x1 .f32) (hn : n < 256)
    (hp : p = place (BitVec.ofNat 32 (n % 32)) (BitVec.ofNat 32 (n / 32))) (ht : t = entryAt x0 x1 x2 n)
    (h : Filled x0 x1 x2 acc n) :
    Filled x0 x1 x2 (select p (broadcastTo S32x128 t broadcasts_S1x1_S32x128) acc) (n + 1) := by
  subst hp ht
  intro i j
  have w : ∀ a b : ℕ, a < 256 → b < 256 → (BitVec.ofNat 32 a = BitVec.ofNat 32 b ↔ a = b) := fun a b ha hb => by
    rw [BitVec.toNat_eq, BitVec.toNat_ofNat, BitVec.toNat_ofNat]; omega
  have hi := i.isLt
  have hj := j.isLt
  rw [put_at, h i j]
  simp only [w _ _ (show i.val < 256 by omega) (show n % 32 < 256 by omega), w _ _ (show j.val < 256 by omega) (show n / 32 < 256 by omega)]
  by_cases e : j.val * 32 + i.val = n
  · rw [if_pos ⟨by omega, by omega⟩, if_pos (by omega), e]
  · rw [if_neg (by omega)]
    by_cases l : j.val * 32 + i.val < n
    · rw [if_pos l, if_pos (by omega)]
    · rw [if_neg l, if_neg (by omega)]

theorem none_yet : Filled x0 x1 x2 (broadcast S32x128 (Scalar.ofBits (F := Ideal) .f32 0x00000000#32)) 0 := fun i j => by
  rw [if_neg (by omega)]
  pointwise

theorem whole (y : Vec Ideal S32x128 .f32) : View.canon [⟨r0_9, y⟩] = y := by
  refine View.canon_unit_zero (S := S32x128) (off := ![0, 0]) ?_ _ _
  funext a; fin_cases a <;> rfl

theorem filled : Filled x0 x1 x2 (out0_3 x0 x1 x2) 256 := by
  unfold out0_3
  rw [whole]
  iterate 256 refine step _ _ _ _ _ _ _ (by decide) rfl rfl ?_
  exact none_yet _ _ _

theorem head_at (h : Fin 8) (r : Fin 128) (c : Fin 256) : head x0 x1 h.val (ix2 r c) = x0 (ix3 h r c) + x1 (ix3 h r c) := by
  fin_cases h <;> (show k0_pay2 (F := Ideal) _ _ (ix2 r c) = _; pointwise [k0_pay2])

theorem out_at (i : Fin 32) (j : Fin 128) : out0_3 x0 x1 x2 (ix2 i j)
    = if h : j.val < 8 then ∑ c, ∑ r, if x2 (ix2 r c) = BitVec.ofNat 32 i.val then x0 (ix3 ⟨j.val, h⟩ r c) + x1 (ix3 ⟨j.val, h⟩ r c) else 0 else 0 := by
  rw [filled x0 x1 x2 i j]
  have hi := i.isLt
  by_cases h : j.val < 8
  · rw [if_pos (by omega), dif_pos h]
    unfold entryAt
    rw [show (j.val * 32 + i.val) / 32 = j.val by omega, show (j.val * 32 + i.val) % 32 = i.val by omega, entry_at]
    refine Finset.sum_congr rfl fun c _ => Finset.sum_congr rfl fun r _ => ?_
    rw [show head x0 x1 j.val (ix2 r c) = _ from head_at x0 x1 ⟨j.val, h⟩ r c]
    have e : View.ld x2 r0_0 (ix2 r c) = x2 (ix2 r c) := by pointwise
    rw [e]
  · rw [if_neg (by omega), dif_neg h]

end

variable (m : (ℓ : Loc nD τ sig) → Buf (Elt Ideal) ℓ)

/-- The table's array at the launch. -/
theorem table_at (c : Dev nD) (r : Fin 128) (k : Fin 256) : (V m c main_c : IVec S128x256 32) (ix2 r k) = BitVec.ofNat 32 (bucket (dist r k)) := by
  entry_read
  refine Eq.trans ?_ (table_words r k)
  have e : ∀ x : Fin 32768, lit0 x = lit0t x.val := fun ⟨_, _⟩ => rfl
  exact (e _).trans (congrArg lit0t (Shape.rowMajor_val_two _))

theorem out_eq (c : Dev nD) (t : Fin cfg0.N) (i : Fin 32) (j : Fin 128) :
    out0_3 (F := Ideal) (iblk m c 0 t) (iblk m c 1 t) (iblk m c 2 t) (ix2 i j)
    = arr (m ((c : Thread nD τ).loc main_arg1)) (m ((c : Thread nD τ).loc main_arg2)) (ix2 i j) := by
  have e0 : ∀ (h : Fin 8) (r : Fin 128) (k : Fin 256), (iblk m c 0 t : FVec Ideal S8x128x256 .f32) (ix3 h r k)
      = m ((c : Thread nD τ).loc main_arg1) (ix3 h r k) := fun h r k => by
    blk_ext! [iblk, V, idx t]
  have e1 : ∀ (h : Fin 8) (r : Fin 128) (k : Fin 256), (iblk m c 1 t : FVec Ideal S8x128x256 .f32) (ix3 h r k)
      = m ((c : Thread nD τ).loc main_arg2) (ix3 h r k) := fun h r k => by
    blk_ext! [iblk, V, idx t]
  have e2 : ∀ (r : Fin 128) (k : Fin 256), (iblk m c 2 t : IVec S128x256 32) (ix2 r k) = BitVec.ofNat 32 (bucket (dist r k)) := fun r k => by
    refine Eq.trans ?_ (table_at m c r k)
    blk_ext! [iblk, idx t]
  have w : ∀ a b : ℕ, a < 32 → b < 32 → (BitVec.ofNat 32 a = BitVec.ofNat 32 b ↔ a = b) := fun a b ha hb => by
    rw [BitVec.toNat_eq, BitVec.toNat_ofNat, BitVec.toNat_ofNat]; omega
  refine (out_at _ _ _ i j).trans ?_
  unfold arr
  refine dite_congr rfl (fun h => Finset.sum_congr rfl fun k _ => Finset.sum_congr rfl fun r _ => ?_) fun _ => rfl
  refine (if_congr ?_ ?_ rfl)
  · rw [e2]; exact w _ _ (bucket_lt _) i.isLt
  · rw [e0, e1]; rfl

theorem final3 (c : Dev nD) : (dats m 0 c).arrAt 3 (cfgs 0).N
    = arr (m ((c : Thread nD τ).loc main_arg1)) (m ((c : Thread nD τ).loc main_arg2)) := by
  refine (dats m 0 c).arrAt_eq_of_covers 3 _ (by decide +kernel) fun t _ y => ?_
  blk_simp
  rw [after0_3]
  have e : (win0_3.blk t).view.emb y = ix2 (y 0) (y 1) := by
    blk_ext! [idx t]
  rw [e]
  exact (congrArg _ (eq_ix2 y)).trans (out_eq m c t (y 0) (y 1))

end Cert.BiasBwdIdeal.Value

end
-- ==== Proof.BiasLog.lean ====
module

public import proofs.«01_k».proof.Proof.BiasSpec
public import Idealize.ShloMosaic.Lib.IdealHost
public import Mathlib.Analysis.SpecialFunctions.Log.Basic

/-! # The logarithm of a distance, rounded down, is its bucket -/

@[expose] public section

set_option maxRecDepth 16384

noncomputable section

namespace Cert.BiasSpec

open Idealize.ShloMosaic

/-- The word nearest log 8, as a number. -/
def logW : ℝ := 8721810 / 2 ^ 22

/-- The first distance of each logarithmic bucket, the first and the one past the last among them. -/
def first : Fin 17 → ℕ := ![16, 19, 21, 24, 27, 31, 35, 40, 46, 52, 59, 67, 77, 87, 99, 113, 128]

/-- Sixteen times a distance's logarithm in units of log 8. -/
def level (n : ℕ) : ℝ := Real.log ((n : ℝ) / 16) * (1 / logW) * 16

theorem logW_near : |logW - 3 * Real.log 2| ≤ 1 / 10 ^ 3 := by
  have hi : Real.log 2 ≤ 2048 * ((10003386 : ℝ) / 10 ^ 7 - 1) := by
    have e := Real.log_le_log (x := 2) (y := (((10003386 : ℝ) / 10 ^ 7) ^ 128) ^ 16) (by norm_num) (by norm_num)
    rw [Real.log_pow, Real.log_pow] at e
    have := Real.log_le_sub_one_of_pos (show (0 : ℝ) < 10003386 / 10 ^ 7 by norm_num)
    push_cast at e
    linarith
  have lo : 2048 * (1 - ((10003385 : ℝ) / 10 ^ 7)⁻¹) ≤ Real.log 2 := by
    have e := Real.log_le_log (x := (((10003385 : ℝ) / 10 ^ 7) ^ 128) ^ 16) (y := 2) (by norm_num) (by norm_num)
    rw [Real.log_pow, Real.log_pow] at e
    have := Real.one_sub_inv_le_log_of_pos (show (0 : ℝ) < 10003385 / 10 ^ 7 by norm_num)
    push_cast at e
    linarith
  unfold logW
  rw [abs_le]
  constructor <;> norm_num at hi lo ⊢ <;> linarith

theorem logW_pos : 0 < logW := by unfold logW; norm_num

theorem log_split (s j : ℕ) (hs : 0 < s) : Real.log (((s : ℝ) / 16) ^ 16 / 8 ^ j) = 16 * Real.log ((s : ℝ) / 16) - j * (3 * Real.log 2) := by
  have h : (0 : ℝ) < s := by exact_mod_cast hs
  rw [Real.log_div (by positivity) (by positivity), Real.log_pow, Real.log_pow, show (8 : ℝ) = 2 ^ 3 by norm_num, Real.log_pow]
  push_cast
  ring

theorem level_ge (s j : ℕ) (hs : 0 < s) (hj : j ≤ 16) (h : 16 ^ 16 * 8 ^ j * 10 ^ 3 ≤ s ^ 16 * (10 ^ 3 - j)) : (j : ℝ) ≤ level s := by
  have hp : (0 : ℝ) < s := by exact_mod_cast hs
  have hx : (0 : ℝ) < ((s : ℝ) / 16) ^ 16 / 8 ^ j := by positivity
  have l := Real.one_sub_inv_le_log_of_pos hx
  rw [log_split s j hs] at l
  have c : (16 : ℝ) ^ 16 * 8 ^ j * 10 ^ 3 ≤ s ^ 16 * (10 ^ 3 - j) := by
    have := (Nat.cast_le (α := ℝ)).2 h
    rw [Nat.cast_mul, Nat.cast_mul, Nat.cast_mul, Nat.cast_sub (by omega)] at this
    norm_num at this ⊢
    linarith
  have i : (((s : ℝ) / 16) ^ 16 / 8 ^ j)⁻¹ ≤ 1 - (j : ℝ) / 10 ^ 3 := by
    rw [inv_div, div_pow, div_div_eq_mul_div, div_le_iff₀ (by positivity)]
    nlinarith
  have n := (abs_le.1 logW_near).2
  have jn : (0 : ℝ) ≤ j := Nat.cast_nonneg j
  have k : (j : ℝ) * logW ≤ 16 * Real.log ((s : ℝ) / 16) := by nlinarith
  unfold level
  rw [mul_one_div, div_mul_eq_mul_div, le_div_iff₀ logW_pos]
  linarith

theorem level_lt (s j : ℕ) (hs : 0 < s) (hj : j ≤ 16) (h : s ^ 16 * 10 ^ 3 < 16 ^ 16 * 8 ^ j * (10 ^ 3 - j)) : level s < j := by
  have hp : (0 : ℝ) < s := by exact_mod_cast hs
  have hx : (0 : ℝ) < ((s : ℝ) / 16) ^ 16 / 8 ^ j := by positivity
  have l := Real.log_le_sub_one_of_pos hx
  rw [log_split s j hs] at l
  have c : (s : ℝ) ^ 16 * 10 ^ 3 < 16 ^ 16 * 8 ^ j * (10 ^ 3 - j) := by
    have := (Nat.cast_lt (α := ℝ)).2 h
    rw [Nat.cast_mul, Nat.cast_mul, Nat.cast_mul, Nat.cast_sub (by omega)] at this
    norm_num at this ⊢
    linarith
  have i : ((s : ℝ) / 16) ^ 16 / 8 ^ j < 1 - (j : ℝ) / 10 ^ 3 := by
    rw [div_pow, div_div, div_lt_iff₀ (by positivity)]
    nlinarith
  have n := (abs_le.1 logW_near).1
  have jn : (0 : ℝ) ≤ j := Nat.cast_nonneg j
  have k : 16 * Real.log ((s : ℝ) / 16) < (j : ℝ) * logW := by nlinarith
  unfold level
  rw [mul_one_div, div_mul_eq_mul_div, div_lt_iff₀ logW_pos]
  linarith

theorem level_mono {a b : ℕ} (ha : 0 < a) (h : a ≤ b) : level a ≤ level b := by
  have hp : (0 : ℝ) < a := by exact_mod_cast ha
  have e : ((a : ℝ) / 16) ≤ (b : ℝ) / 16 := by
    have := (Nat.cast_le (α := ℝ)).2 h
    linarith
  unfold level
  have := Real.log_le_log (by positivity) e
  have q : (0 : ℝ) ≤ 1 / logW := by have := logW_pos; positivity
  nlinarith [mul_le_mul_of_nonneg_right this q]

theorem certs : (∀ j : Fin 17, 16 ^ 16 * 8 ^ j.val * 10 ^ 3 ≤ first j ^ 16 * (10 ^ 3 - j.val) ∨ j = 16)
    ∧ ∀ j : Fin 17, j ≠ 0 → (first j - 1) ^ 16 * 10 ^ 3 < 16 ^ 16 * 8 ^ j.val * (10 ^ 3 - j.val) := by
  decide +kernel

theorem place : ∀ n : Fin 256, 16 ≤ n.val → (n.val < 128 ∧ ∃ j : Fin 16, first j.castSucc ≤ n.val ∧ n.val ≤ first j.succ - 1 ∧ bucket n.val = 16 + j.val)
    ∨ (128 ≤ n.val ∧ bucket n.val = 31) := by
  decide +kernel

/-- Rounded down and capped, the level is the bucket. -/
theorem floor_level (n : ℕ) (h : 16 ≤ n) (hn : n < 256) : 0 ≤ level n ∧ ∃ k : ℕ, ⌊level n⌋ = (k : ℤ) ∧ k < 200 ∧ min (16 + k) 31 = bucket n := by
  have z : (0 : ℝ) ≤ level n := by
    simpa using (level_ge 16 0 (by norm_num) (by norm_num) (by norm_num)).trans (level_mono (by norm_num) h)
  refine ⟨z, ?_⟩
  have f16 : ∀ j : Fin 17, 16 ≤ first j := by decide
  have f2 : ∀ j : Fin 17, 2 ≤ first j - 1 := by decide
  rcases place ⟨n, hn⟩ h with ⟨_, j, h1, h2, h3⟩ | ⟨h1, h2⟩
  · refine ⟨j.val, ?_, by omega, by rw [show bucket n = _ from h3]; omega⟩
    have a := (level_ge (first j.castSucc) j.val (by have := f16 j.castSucc; omega) (by omega)
      ((certs.1 j.castSucc).resolve_right (by rintro e; have := congrArg Fin.val e; simp at this; omega))).trans
        (level_mono (by have := f16 j.castSucc; omega) h1)
    have b := (level_mono (show 0 < n by omega) h2).trans_lt (level_lt (first j.succ - 1) j.succ.val (by have := f2 j.succ; omega) (by omega)
      (certs.2 j.succ (Fin.succ_ne_zero j)))
    rw [Int.floor_eq_iff]
    refine ⟨by exact_mod_cast a, ?_⟩
    simpa using b
  · have h1 : 128 ≤ n := h1
    have a : (15 : ℝ) ≤ level n := by
      simpa using (level_ge 113 15 (by norm_num) (by norm_num) (by norm_num)).trans (level_mono (by norm_num) (by omega))
    have b : level n < 120 := by
      have p : (0 : ℝ) < n := by exact_mod_cast (show 0 < n by omega)
      have q : (n : ℝ) < 256 := by exact_mod_cast hn
      have e := Real.log_le_sub_one_of_pos (show (0 : ℝ) < (n : ℝ) / 16 by positivity)
      unfold level
      rw [mul_one_div, div_mul_eq_mul_div, div_lt_iff₀ logW_pos]
      have w : logW = 8721810 / 2 ^ 22 := rfl
      rw [w]
      norm_num at e ⊢
      linarith
    have l : (15 : ℤ) ≤ ⌊level n⌋ := Int.le_floor.2 (by exact_mod_cast a)
    have u : ⌊level n⌋ < 120 := Int.floor_lt.2 (by exact_mod_cast b)
    refine ⟨⌊level n⌋.toNat, by omega, by omega, ?_⟩
    rw [show bucket n = 31 from h2]
    omega

end Cert.BiasSpec

end
-- ==== Proof.BiasReference.lean ====
module

public import proofs.«01_k».proof.Proof.Gen.BiasRefIdeal.Read
public import proofs.«01_k».proof.Proof.BiasLog
public import Idealize.ShloMosaic.Lib.IdealHost
public import Idealize.ShloMosaic.Lib.Routing.OpsPair

/-! # The gradient of the relative-position table by the reference -/

@[expose] public section

set_option maxRecDepth 16384

noncomputable section

namespace Cert.BiasRefIdeal.Read

open Cert.BiasRefIdeal Cert.BiasRefIdeal.Gen Idealize.ShloMosaic Idealize.ShloMosaic.TcCoe Idealize.SL.Sem Cert.BiasSpec

theorem back : ∀ (r : Fin 128) (c : Fin 256), IntOp.maxsi (IntOp.subi (IntOp.addi (128#32) (BitVec.ofNat 32 r.val)) (BitVec.ofNat 32 c.val)) 0#32
    = BitVec.ofNat 32 (BiasSpec.dist r c) := by
  decide +kernel

theorem v10_at (r : Fin 128) (c : Fin 256) : val_main_v10 (F := Ideal) (ix2 r c) = BitVec.ofNat 32 (BiasSpec.dist r c) := by
  pointwise [val_main_v10, val_main_v9, val_main_c_0, val_main_v8, val_main_v7, val_main_v6, val_main_v5, val_main_v4, val_main_c, val_main_v3, val_main_v2, val_main_v1, val_main_v0]
  exact back r c

theorem sixteen : Ideal.ofBits .f32 0x41800000#32 = ((16 : ℝ) : EReal) := by
  simp [Ideal.ofBits, Ideal.ieee, -EReal.coe_mul]; norm_num

theorem log_eight : Ideal.ofBits .f32 0x40051592#32 = ((logW : ℝ) : EReal) := by
  unfold logW
  simp [Ideal.ofBits, Ideal.ieee, -EReal.coe_mul]; norm_num

theorem capped : ∀ k : Fin 200, IntOp.minsi (IntOp.addi 16#32 (BitVec.ofInt 32 (k.val : ℤ))) 31#32 = BitVec.ofNat 32 (min (16 + k.val) 31) := by
  decide +kernel

theorem far : ∀ n : Fin 256, (IntOp.maxsi (BitVec.ofNat 32 n.val) 1#32).toInt = ((max n.val 1 : ℕ) : ℤ) := by
  decide +kernel

theorem near : ∀ n : Fin 256, IntOp.cmpi .slt (BitVec.ofNat 32 n.val) 16#32 = if n.val < 16 then 1#1 else 0#1 := by
  decide +kernel

theorem stays : ∀ k : Fin 32, IntOp.cmpi .slt (BitVec.ofNat 32 k.val) 0#32 = 0#1 := by
  decide +kernel

/-- The logarithmic bucket of a distance of at least sixteen. -/
theorem late (n : ℕ) (h : 16 ≤ n) (hn : n < 256) :
    IntOp.minsi (IntOp.addi (16#32) (FloatOps.fptosi (F := Ideal) (φ := .f32) 32
      (Ideal.div (Ideal.log (Ideal.div (FloatOps.sitofp (F := Ideal) .f32 (IntOp.maxsi (BitVec.ofNat 32 n) 1#32)) (Ideal.ofBits .f32 0x41800000#32)))
        (Ideal.ofBits .f32 0x40051592#32) * Ideal.ofBits .f32 0x41800000#32))) 31#32 = BitVec.ofNat 32 (bucket n) := by
  obtain ⟨z, k, hk, hl, e⟩ := floor_level n h hn
  have hp : (0 : ℝ) < (n : ℝ) / 16 := by
    have : (0 : ℝ) < n := by exact_mod_cast (show 0 < n by omega)
    positivity
  have s : FloatOps.sitofp (F := Ideal) .f32 (IntOp.maxsi (BitVec.ofNat 32 n) 1#32) = ((n : ℝ) : EReal) := by
    show (((IntOp.maxsi (BitVec.ofNat 32 n) 1#32).toInt : ℝ) : EReal) = _
    rw [show (IntOp.maxsi (BitVec.ofNat 32 n) 1#32).toInt = _ from far ⟨n, hn⟩]
    simp [Nat.max_eq_left (show 1 ≤ n by omega)]
  have v : Ideal.div (Ideal.log (Ideal.div (FloatOps.sitofp (F := Ideal) .f32 (IntOp.maxsi (BitVec.ofNat 32 n) 1#32)) (Ideal.ofBits .f32 0x41800000#32)))
        (Ideal.ofBits .f32 0x40051592#32) * Ideal.ofBits .f32 0x41800000#32 = ((level n : ℝ) : EReal) := by
    rw [s, sixteen, log_eight, Ideal.div_coe (show (16 : ℝ) ≠ 0 by norm_num), ← EReal.coe_mul, mul_one_div, Ideal.log_coe, if_neg (by linarith), Ideal.div_coe logW_pos.ne',
      ← EReal.coe_mul, ← EReal.coe_mul]
    rfl
  rw [v]
  show IntOp.minsi (IntOp.addi (16#32) (Ideal.fptosi 32 _)) 31#32 = _
  rw [Ideal.fptosi, Ideal.toIntClamped_coe, if_pos z, hk, ← e]
  have c : max (-((2 ^ (32 - 1) : ℕ) : ℤ)) (min (((2 ^ (32 - 1) : ℕ) : ℤ) - 1) (k : ℤ)) = (k : ℤ) := by
    norm_num; omega
  rw [c]
  exact capped ⟨k, hl⟩

theorem v33_at (r : Fin 128) (c : Fin 256) : val_main_v33 (F := Ideal) (ix2 r c) = BitVec.ofNat 32 (bucket (BiasSpec.dist r c)) := by
  have h := v10_at r c
  pointwise [val_main_v33, val_main_v32, val_main_c_8, val_main_v31, val_main_v30, val_main_v29, val_main_c_7, val_main_v28, val_main_v27, val_main_v26, val_main_c_6,
    val_main_v25, val_main_v24, val_main_c_5, val_main_v23, val_main_v22, val_main_c_4, val_main_v21, val_main_v20, val_main_v19, val_main_cst_3, val_main_v18, val_main_v17,
    val_main_cst_2, val_main_v16, val_main_v15, val_main_v14, val_main_cst, val_main_v13, val_main_v12, val_main_v11, val_main_c_1]
  rw [h]
  have hn : BiasSpec.dist r c < 256 := by unfold BiasSpec.dist; have := r.isLt; omega
  generalize BiasSpec.dist r c = n at hn
  have f : Scalar.select (IntOp.cmpi .slt (BitVec.ofNat 32 n) 16#32) (BitVec.ofNat 32 n)
      (IntOp.minsi (IntOp.addi (16#32) (FloatOps.fptosi (F := Ideal) (φ := .f32) 32
      (Ideal.div (Ideal.log (Ideal.div (FloatOps.sitofp (F := Ideal) .f32 (IntOp.maxsi (BitVec.ofNat 32 n) 1#32)) (Ideal.ofBits .f32 0x41800000#32)))
        (Ideal.ofBits .f32 0x40051592#32) * Ideal.ofBits .f32 0x41800000#32))) 31#32) = BitVec.ofNat 32 (bucket n) := by
    rw [show IntOp.cmpi .slt (BitVec.ofNat 32 n) 16#32 = _ from near ⟨n, hn⟩]
    by_cases l : n < 16
    · rw [if_pos l]; unfold bucket; rw [if_pos l]; rfl
    · rw [if_neg l]; exact late n (by omega) hn
  rw [f, show IntOp.cmpi .slt (BitVec.ofNat 32 (bucket n)) 0#32 = _ from stays ⟨_, bucket_lt n⟩]
  rfl

theorem v42_at (d e : FVec Ideal S8x128x256 .f32) (i : Fin 32) (j : Fin 128) : val_main_v42 (F := Ideal) d e (ix2 i j)
    = if h : j.val < 8 then val_main_v40 (F := Ideal) d e (ix2 i ⟨j.val, h⟩) else 0 := by
  pointwise [val_main_v42, val_main_v41, val_main_cst_10]

theorem words : ∀ k : Fin 32, (BitVec.ofNat 32 k.val).toInt = (k.val : ℤ) := by
  decide +kernel

/-- Update `(r, c, h)` lands at `(i, j)` when its index word is `i` and its head `j`. -/
theorem lands (idx : IVec S128x256x1 32) (r : Fin 128) (c : Fin 256) (h : Fin 8) (i : Fin 32) (j : Fin 8) :
    scatter_S32x8_S128x256x1_S128x256x8_2_0_0_2.resultIdx? (ix3 r c h) idx = some (ix2 i j)
    ↔ (idx (ix3 r c 0)).toInt = (i.val : ℤ) ∧ h = j := by
  rw [Routing.resultIdx?_eq_some]
  have s0 : scatter_S32x8_S128x256x1_S128x256x8_2_0_0_2.start (ix3 r c h) idx 0 = (idx (ix3 r c 0)).toInt := by
    unfold ScatterDims.start
    rw [dif_pos (by decide)]
    refine congrArg (fun x => (idx x).toInt) ?_
    funext x
    fin_cases x <;> rfl
  have s1 : scatter_S32x8_S128x256x1_S128x256x8_2_0_0_2.start (ix3 r c h) idx 1 = 0 := rfl
  have w0 : scatter_S32x8_S128x256x1_S128x256x8_2_0_0_2.window (ix3 r c h) 0 = 0 := rfl
  have w1 : scatter_S32x8_S128x256x1_S128x256x8_2_0_0_2.window (ix3 r c h) 1 = h.val := rfl
  constructor
  · intro q
    have q0 := q 0
    have q1 := q 1
    rw [s0, w0] at q0
    rw [s1, w1] at q1
    refine ⟨?_, Fin.ext ?_⟩
    · simpa using q0
    · have : ((0 : ℤ) + (h.val : ℤ)) = (j.val : ℤ) := q1
      omega
  · rintro ⟨q, rfl⟩ a
    match a with
    | ⟨0, _⟩ => exact (congrArg₂ (fun u v => u + ((v : ℕ) : ℤ)) s0 w0).trans (by rw [q]; rfl)
    | ⟨1, _⟩ => exact (congrArg₂ (fun u v => u + ((v : ℕ) : ℤ)) s1 w1).trans (zero_add _)

theorem v40_at (d e : FVec Ideal S8x128x256 .f32) (i : Fin 32) (j : Fin 8) : val_main_v40 (F := Ideal) d e (ix2 i j)
    = ∑ c, ∑ r, if bucket (BiasSpec.dist r c) = i.val then d (ix3 j r c) + e (ix3 j r c) else 0 := by
  unfold val_main_v40
  show Ideal.hostScatterAdd _ _ _ _ _ = _
  unfold Ideal.hostScatterAdd
  rw [Finset.sum_filter, sum_idx3, Finset.sum_comm]
  have z : val_main_v39 (F := Ideal) (ix2 i j) = 0 := by pointwise [val_main_v39, val_main_cst_9]
  rw [z, zero_add]
  refine Finset.sum_congr rfl fun c _ => Finset.sum_congr rfl fun r _ => ?_
  have e : val_main_v34 (F := Ideal) (ix3 r c 0) = BitVec.ofNat 32 (bucket (BiasSpec.dist r c)) := by
    refine Eq.trans ?_ (v33_at r c)
    pointwise [val_main_v34]
  have p : ∀ h : Fin 8, scatter_S32x8_S128x256x1_S128x256x8_2_0_0_2.resultIdx? (ix3 r c h) (val_main_v34 (F := Ideal)) = some (ix2 i j)
      ↔ bucket (BiasSpec.dist r c) = i.val ∧ h = j := fun h => by
    rw [lands, e, show (BitVec.ofNat 32 (bucket (BiasSpec.dist r c))).toInt = _ from words ⟨_, bucket_lt _⟩]
    exact and_congr_left' Int.natCast_inj
  simp only [p]
  by_cases l : bucket (BiasSpec.dist r c) = i.val
  · simp only [l, true_and, if_true]
    rw [Finset.sum_ite_eq' Finset.univ j, if_pos (Finset.mem_univ j)]
    pointwise [val_main_v38, val_main_v37]
  · simp only [l, false_and, if_false, Finset.sum_const_zero]

theorem final42 (d e : FVec Ideal S8x128x256 .f32) : val_main_v42 (F := Ideal) d e = arr d e := by
  funext i
  rw [eq_ix2 i]
  refine (v42_at d e _ _).trans ?_
  unfold arr
  exact dite_congr rfl (fun h => v40_at d e _ _) fun _ => rfl

end Cert.BiasRefIdeal.Read

end
-- ==== Proof.BiasClaim.lean ====
module

public import proofs.«01_k».proof.Defs
public import proofs.«01_k».proof.Proof.Gen.BiasBwd
public import proofs.«01_k».proof.Proof.Gen.BiasRefIdeal
public import proofs.«01_k».proof.Proof.BiasKernel
public import proofs.«01_k».proof.Proof.BiasReference
public import Idealize.ShloMosaic.Lib.Claim

/-! # `_bias_table_bwd`: the claims of the pair -/

@[expose] public section

set_option maxRecDepth 16384

noncomputable section

namespace Cert.BiasClaim

open Idealize.ShloMosaic Idealize.SL.Sem

local instance : Cert.BiasBwd.Facts := Cert.BiasBwd.Gen.facts
local instance : Cert.BiasBwdIdeal.Facts := Cert.BiasBwdIdeal.Gen.facts
local instance : Cert.BiasRefIdeal.Facts := Cert.BiasRefIdeal.Gen.facts

theorem frame_ideal : Cert.quiescent_BiasBwdIdeal := fun m g _ => Cert.BiasBwdIdeal.Gen.frame m g

theorem main_eq : Cert.BiasBwd.main (F := Bits) = Cert.BiasBwdIdeal.main (F := Bits) := by sl_kernel_rfl

theorem defs_eq : Cert.BiasBwd.defs (F := Bits) = Cert.BiasBwdIdeal.defs (F := Bits) := by sl_kernel_rfl

/-- The kernel's program is its idealized program over the machine's floats: one run serves both. -/
theorem frame_kernel : Cert.quiescent_BiasBwd := fun m g _ => by
  rw [defs_eq, main_eq]
  exact Cert.BiasBwdIdeal.Gen.frame (F := Bits) m g

theorem frame_reference : Cert.quiescent_BiasRefIdeal := by
  intro m g _
  exact (θ_run _ _ _).mono (fun r h => ⟨fun c => (h c).2, sem_eq_zero_of_no_sems rfl _⟩) (Cert.BiasRefIdeal.Value.run m g)

theorem algebraic : Cert.algebraic_BiasBwdIdeal_BiasRefIdeal := by
  pair_intro
  · run_from Cert.BiasBwdIdeal.Gen.run_main m g
  · run_from Cert.BiasRefIdeal.Value.run m' g'
    · rw [Cert.BiasRefIdeal.Read.val_main_v42_eq, Cert.BiasRefIdeal.Read.final42, (hagree c).2.1, (hagree c).2.2]
      exact (Cert.BiasBwdIdeal.Value.final3 m c).symm

end Cert.BiasClaim

end
-- ==== Proof.ConvFwdKernel.lean ====
module

public import proofs.«01_k».proof.Proof.Gen.ConvFwdIdeal.Value
public import proofs.«01_k».proof.Proof.ConvKernel
public import Idealize.ShloMosaic.Lib.Claim

/-! # The array `mlconv` returns -/

@[expose] public section

set_option maxRecDepth 16384

noncomputable section

namespace Cert.ConvSpec

open Idealize.ShloMosaic

/-- The convolved columns of the projection under `silu`. -/
def arrY (X : FVec Ideal ⟨2, ![4096, 2824]⟩ .f32) (W : FVec Ideal ⟨2, ![4, 1024]⟩ .f32) (B : FVec Ideal ⟨1, ![1024]⟩ .f32) :
    FVec Ideal ⟨2, ![4096, 1024]⟩ .f32 := fun i =>
  conv (seqX X (i 1)) (tapsW W (i 1)) (B (ix1 (i 1))) (i 0) * sigma (conv (seqX X (i 1)) (tapsW W (i 1)) (B (ix1 (i 1))) (i 0))

end Cert.ConvSpec

namespace Cert.ConvFwdIdeal.Value

open Cert.ConvFwdIdeal Cert.ConvFwdIdeal.Gen Idealize.ShloMosaic Idealize.ShloMosaic.TcCoe Idealize.SL.Sem Cert.Shift Cert.ConvSpec
open Cert.ConvBwdIdeal.Value (taps join_at)
open Idealize.ShloMosaic.Pipeline (Dat)

/-- The convolution is the one the backward call recomputes. -/
theorem conv_at (x : FVec Ideal S4096x128 .f32) (w : FVec Ideal S4x128 .f32) (b : FVec Ideal S1x128 .f32) (r : Fin 4096) (l : Fin 128) :
    (k0_pay3 (F := Ideal) (View.ld x r0_0) (View.ld b r0_1) (View.ld w r0_2) (View.ld w r0_3) (View.ld w r0_4) (ix2 r l)
      + k0_pay4 (F := Ideal) (View.ld x r0_0) (View.ld w r0_5) (ix2 r l) : EReal) = conv (col x l) (taps w l) (b (ix2 0 l)) r :=
  Cert.ConvBwdIdeal.Value.conv_at x x w b r l

/-- What a grid point stores. -/
theorem out3_at (x : FVec Ideal S4096x128 .f32) (w : FVec Ideal S4x128 .f32) (b : FVec Ideal S1x128 .f32) (r : Fin 4096) (l : Fin 128) :
    out0_3 (F := Ideal) x w b (ix2 r l)
    = conv (col x l) (taps w l) (b (ix2 0 l)) r * sigma (conv (col x l) (taps w l) (b (ix2 0 l)) r) := by
  rw [← conv_at]
  unfold out0_3
  generalize k0_pay3 (F := Ideal) _ _ _ _ _ = y
  generalize k0_pay4 (F := Ideal) _ _ = z
  unfold r0_0
  rw [View.canon_cons_unit_lit' _ _ _ (by decide)]
  pointwise [k0_pay1, sigma]

variable (m : (ℓ : Loc nD τ sig) → Buf (Elt Ideal) ℓ)

/-- Every window's block at grid point `t` is column block `t`. -/
theorem idx : ∀ t : Fin cfg0.N, win0_0.index t = ![0, t.val] ∧ win0_1.index t = ![0, t.val] ∧ win0_2.index t = ![0, t.val]
    ∧ win0_3.index t = ![0, t.val] ∧ t.val < 8 :=
  (by decide +kernel : ∀ t : Fin grid0.N, _)

/-- Channel `l` of grid point `t`. -/
def chan (t : Fin cfg0.N) (l : Fin 128) : Fin 1024 := ⟨t.val * 128 + l.val, by have := (idx t).2.2.2.2; omega⟩

/-- The padded projection the call takes, at a convolved column. -/
theorem proj_at (c : Dev nD) (r : Fin 4096) (k : Fin 3072) (hk : k.val < 1024) :
    (V m c main_v4 : FVec Ideal S4096x3072 .f32) (ix2 r k)
    = seqX (m ((c : Thread nD τ).loc main_arg0)) ⟨k.val, hk⟩ r := by
  unfold V
  simp only [hostOps0, List.flatten_cons, List.flatten_nil, List.append_nil, List.cons_append, List.nil_append,
    StableHlo.after_cons, StableHlo.after_nil]
  rw [StableHlo.reshape_result_ne _ _ _ _ _ _ _ (by decide), StableHlo.nary_result]
  refine (join_at _ _ _ _ r k (by omega)).trans ?_
  simp only [Matrix.cons_val_zero]
  rw [StableHlo.unary_result_ne _ _ _ _ _ _ (by decide), StableHlo.unary_result_ne _ _ _ _ _ _ (by decide), StableHlo.unary_result]
  rw [StableHlo.unary_result_ne _ _ _ _ _ _ (by decide), StableHlo.nullary_result_ne _ _ _ _ (by decide)]
  pointwise [seqX]

theorem bias_at (c : Dev nD) (k : Fin 1024) : (V m c main_v5 : FVec Ideal S1x1024 .f32) (ix2 0 k)
    = m ((c : Thread nD τ).loc main_arg2) (ix1 k) := by
  entry_read
  pointwise

/-- Grid point `t`'s block. -/
theorem block3 (c : Dev nD) (t : Fin cfg0.N) (r : Fin 4096) (l : Fin 128) :
    out0_3 (F := Ideal) (iblk m c 0 t) (iblk m c 1 t) (iblk m c 2 t) (ix2 r l)
    = arrY (m ((c : Thread nD τ).loc main_arg0)) (m ((c : Thread nD τ).loc main_arg1)) (m ((c : Thread nD τ).loc main_arg2))
      (ix2 r (chan t l)) := by
  have ex : col (φ := .f32) (iblk m c 0 t) l = seqX (m ((c : Thread nD τ).loc main_arg0)) (chan t l) := by
    funext r
    refine Eq.trans ?_ (proj_at m c r ⟨(chan t l).val, by omega⟩ (chan t l).isLt)
    unfold col chan
    blk_ext! [iblk, idx t]
  have ew : taps (iblk m c 1 t : FVec Ideal S4x128 .f32) l = tapsW (m ((c : Thread nD τ).loc main_arg1)) (chan t l) := by
    funext r
    unfold taps tapsW chan
    blk_ext! [iblk, V, idx t]
  have eb : (iblk m c 2 t : FVec Ideal S1x128 .f32) (ix2 0 l) = m ((c : Thread nD τ).loc main_arg2) (ix1 (chan t l)) := by
    refine Eq.trans ?_ (bias_at m c (chan t l))
    unfold chan
    blk_ext! [iblk, idx t]
  refine (out3_at _ _ _ r l).trans ?_
  rw [ex, ew, eb]
  rfl

theorem final3 (c : Dev nD) : (dats m 0 c).arrAt 3 (cfgs 0).N
    = arrY (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have e : (win0_3.blk t).view.emb y = ix2 (y 0) (chan t (y 1)) := by
    unfold chan
    blk_ext! [idx t]
  rw [e]
  exact (congrArg _ (eq_ix2 y)).trans (block3 m c t (y 0) (y 1))

end Cert.ConvFwdIdeal.Value

end
-- ==== Proof.ConvFwdReference.lean ====
module

public import proofs.«01_k».proof.Proof.Gen.ConvFwdRefIdeal.Read
public import proofs.«01_k».proof.Proof.ConvReference
public import proofs.«01_k».proof.Proof.ConvFwdKernel

/-! # The array the reference of `mlconv` returns -/

@[expose] public section

set_option maxRecDepth 16384

noncomputable section

namespace Cert.ConvFwdRefIdeal.Read

open Cert.ConvFwdRefIdeal Idealize.ShloMosaic Idealize.ShloMosaic.TcCoe Idealize.SL.Sem Cert.Shift Cert.ConvSpec

variable (X : FVec Ideal S4096x2824 .f32) (W : FVec Ideal S4x1024 .f32) (B : FVec Ideal S1024 .f32)

/-- The convolution. -/
theorem conv_at (r : Fin 4096) (c : Fin 1024) :
    val_main_v33 (F := Ideal) X W B (ix3 0 r c) = conv (seqX X c) (tapsW W c) (B (ix1 c)) r :=
  Cert.ConvRefIdeal.Read.conv_at X W B r c

theorem silu_at (r : Fin 4096) (c : Fin 1024) : val_main_v35 (F := Ideal) X W B (ix2 r c) = arrY X W B (ix2 r c) := by
  refine Eq.trans (b := val_main_v33 (F := Ideal) X W B (ix3 0 r c) * sigma (val_main_v33 (F := Ideal) X W B (ix3 0 r c))) ?_ (by rw [conv_at]; rfl)
  pointwise [val_main_v35, val_main_v34, val_main_call0_v5, val_main_call0_v4, val_main_call0_v3, val_main_call0_v2, val_main_call0_v1, val_main_call0_v0, val_main_call0_cst, val_main_call0_cst_0, sigma, Ideal.logistic]

theorem final35 : val_main_v35 (F := Ideal) X W B = arrY X W B := by
  funext i
  rw [eq_ix2 i]
  exact silu_at X W B _ _

end Cert.ConvFwdRefIdeal.Read

end
-- ==== Proof.ConvFwdClaim.lean ====
module

public import proofs.«01_k».proof.Defs
public import proofs.«01_k».proof.Proof.Gen.ConvFwd
public import proofs.«01_k».proof.Proof.Gen.ConvFwdRefIdeal
public import proofs.«01_k».proof.Proof.ConvFwdKernel
public import proofs.«01_k».proof.Proof.ConvFwdReference
public import Idealize.ShloMosaic.Lib.Claim

/-! # `mlconv`: the claims of the pair -/

@[expose] public section

set_option maxRecDepth 16384

noncomputable section

namespace Cert.ConvFwdClaim

open Idealize.ShloMosaic Idealize.SL.Sem Cert.ConvSpec

local instance : Cert.ConvFwd.Facts := Cert.ConvFwd.Gen.facts
local instance : Cert.ConvFwdIdeal.Facts := Cert.ConvFwdIdeal.Gen.facts
local instance : Cert.ConvFwdRefIdeal.Facts := Cert.ConvFwdRefIdeal.Gen.facts

theorem frame_ideal : Cert.quiescent_ConvFwdIdeal := fun m g _ => Cert.ConvFwdIdeal.Gen.frame m g

theorem main_eq : Cert.ConvFwd.main (F := Bits) = Cert.ConvFwdIdeal.main (F := Bits) := rfl

theorem defs_eq : Cert.ConvFwd.defs (F := Bits) = Cert.ConvFwdIdeal.defs (F := Bits) := by sl_kernel_rfl

/-- The kernel's program is its idealized program over the machine's floats: one run serves both. -/
theorem frame_kernel : Cert.quiescent_ConvFwd := fun m g _ => by
  rw [defs_eq, main_eq]
  exact Cert.ConvFwdIdeal.Gen.frame (F := Bits) m g

theorem frame_reference : Cert.quiescent_ConvFwdRefIdeal := by
  intro m g _
  exact (θ_run _ _ _).mono (fun r h => ⟨fun c => (h c).2, sem_eq_zero_of_no_sems rfl _⟩) (Cert.ConvFwdRefIdeal.Value.run m g)

theorem algebraic : Cert.algebraic_ConvFwdIdeal_ConvFwdRefIdeal := by
  pair_intro
  · run_from Cert.ConvFwdIdeal.Gen.run_main m g
  · run_from Cert.ConvFwdRefIdeal.Value.run m' g'
    · rw [Cert.ConvFwdRefIdeal.Read.val_main_v35_eq, Cert.ConvFwdRefIdeal.Read.final35, (hagree c).1, (hagree c).2.1, (hagree c).2.2]
      exact (Cert.ConvFwdIdeal.Value.final3 m c).symm

end Cert.ConvFwdClaim

end
-- ==== Proof.FfnFwdKernel.lean ====
module

public import proofs.«01_k».proof.Proof.Gen.FfnFwdIdeal.Value
public import proofs.«01_k».proof.Proof.FfnKernel

/-! # The arrays `_ffn_gate_fwd` returns -/

@[expose] public section

set_option maxRecDepth 16384

noncomputable section

namespace Cert.FfnSpec

open Idealize.ShloMosaic

/-- 0.044715, as its word. -/
def cube : EReal := Ideal.ofBits .f32 0x3D372713#32

/-- `gelu u * v`. -/
def gated (u v : EReal) : EReal := u * (half * (1 + Ideal.tanh (c0 * (u + cube * (u * (u * u)))))) * v

variable (H : FVec Ideal ⟨2, ![4096, 1024]⟩ .f32) (U : FVec Ideal ⟨2, ![1024, 5632]⟩ .f32)
  (W : FVec Ideal ⟨2, ![3, 5632]⟩ .f32) (B : FVec Ideal ⟨1, ![5632]⟩ .f32)

/-- The product of both halves. -/
def arrA : FVec Ideal ⟨2, ![4096, 2816]⟩ .bf16 := fun i => gated (seqU H U W B (lo (i 1)) (i 0)) (seqU H U W B (hi (i 1)) (i 0))

/-- The product of both halves, one channel per row. -/
def arrT : FVec Ideal ⟨2, ![2816, 4096]⟩ .bf16 := fun i => gated (seqU H U W B (lo (i 0)) (i 1)) (seqU H U W B (hi (i 0)) (i 1))

end Cert.FfnSpec

namespace Cert.FfnFwdIdeal.Value

open Cert.FfnFwdIdeal Cert.FfnFwdIdeal.Gen Idealize.ShloMosaic Idealize.ShloMosaic.TcCoe Idealize.SL.Sem Cert.Shift Cert.FfnSpec
open Cert.FfnBwdIdeal.Value (row0 row1 row2 trip trip_rows)
open Idealize.ShloMosaic.Pipeline (Dat)

/-! ## One grid point -/

/-- Column `l` of a product. -/
def prod (h : FVec Ideal S4096x1024 .bf16) (w : FVec Ideal S1024x128 .bf16) (l : Fin 128) (t : Fin 4096) : EReal :=
  ∑ k, h (ix2 t k) * w (ix2 k l)

section
variable (h : FVec Ideal S4096x1024 .bf16) (x1 x2 : FVec Ideal S1024x128 .bf16) (b w0 w1 w2 : FVec Ideal S1x128 .f32)

/-- The gate half's convolution, as the backward call recomputes it. -/
theorem gate_at (r : Fin 4096) (l : Fin 128) :
    k0_pay7 (F := Ideal) (k0_pay5 h x1 x2) (k0_pay6 h x1 x2 b w0 w1) w2 (ix2 r l)
    = conv (prod h x1 l) (trip w0 w1 w2 l) (b (ix2 0 l)) r :=
  (Cert.FfnBwdIdeal.Value.pay5_at h x1 x2 b w0 w1 w2 r l).trans (by rw [Cert.FfnBwdIdeal.Value.col_pay2]; rfl)

/-- The value half's convolution, as the backward call recomputes it. -/
theorem val_at (r : Fin 4096) (l : Fin 128) :
    k0_pay8 (F := Ideal) (k0_pay4 h x1 x2) b w0 w1 w2 (ix2 r l)
    = conv (prod h x2 l) (trip w0 w1 w2 l) (b (ix2 0 l)) r :=
  (Cert.FfnBwdIdeal.Value.pay6_at b w0 w1 w2 (Cert.FfnBwdIdeal.Gen.k0_pay3 h x1 x2) r l).trans (by rw [Cert.FfnBwdIdeal.Value.col_pay3]; rfl)

/-- The product of both halves. -/
theorem pay1_at (x y v : FVec Ideal S4096x128 .f32) (r : Fin 4096) (l : Fin 128) :
    k0_pay1 (F := Ideal) (k0_pay7 x y w2) v (k0_pay9 x y w2) k0_pay10 (ix2 r l)
    = gated (k0_pay7 (F := Ideal) x y w2 (ix2 r l)) (v (ix2 r l)) := by
  unfold gated half c0 cube
  pointwise [k0_pay1, k0_pay9, k0_pay10]
end

variable (m : (ℓ : Loc nD τ sig) → Buf (Elt Ideal) ℓ)

/-- Reading back the one store that filled the scratch buffer. -/
theorem fetched {S : Shape} {e : EltTy} (v : View sig .tc .vmem S e) (w : S.Idx → Elt Ideal e) {off : Fin S.rank → ℕ}
    (inb : ∀ a, off a + S.size a ≤ S.size a) (h : ∀ a, off a = 0) :
    v.readCov (Val := Elt Ideal) [⟨Rect.whole S, w⟩] (Rect.unit off (no_index S.size) inb).toLoadRect = w :=
  View.readCov_cons_unit_lit' v _ inb w [] (fun _ => rfl) h

theorem fetched' (v : View sig .tc .vmem S4096x1024 .bf16) (w : FVec Ideal S4096x1024 .bf16) :
    v.readCov (Val := Elt Ideal) [⟨Rect.whole S4096x1024, ReadAs.same.apply w⟩]
      (Rect.unit ![0, 0] ![4096, 1024] inb_S4096x1024_S4096x1024_0_0).toLoadRect = w := fetched v w _ (by decide)

/-- The first grid point fetches `h` whole into scratch. -/
theorem scratch_A (c : Dev nD) (t : Fin cfg0.N) (h : t.val % 22 = 0) : (outsAt0 m c t.val t.isLt).2.2 = V m c main_v0 := by
  rw [outsAt0_A m c t h]
  frame_out
  exact View.canon_unit_zero rfl _ _

/-- The other grid points keep it. -/
theorem scratch_B (c : Dev nD) (t : Fin cfg0.N) (h : ¬t.val % 22 = 0) :
    (outsAt0 m c t.val t.isLt).2.2 = (outsAt0 m c (t.val - 1) (by omega)).2.2 := by
  rw [outsAt0_B m c t h]
  unfold sout0_B_0
  rfl

theorem scratch (c : Dev nD) : ∀ (n : ℕ) (hn : n < cfg0.N), (outsAt0 m c n hn).2.2 = V m c main_v0 := by
  intro n
  induction n with
  | zero => exact fun hn => scratch_A m c ⟨0, hn⟩ rfl
  | succ n ih =>
    intro hn
    by_cases h : (n + 1) % 22 = 0
    · exact scratch_A m c ⟨n + 1, hn⟩ h
    · exact (scratch_B m c ⟨n + 1, hn⟩ h).trans (ih _)

variable (c : Dev nD) (t : Fin cfg0.N)

/-- The gate half's convolution. -/
def ug : FVec Ideal S4096x128 .f32 :=
  k0_pay7 (k0_pay5 (V m c main_v0) (iblk m c 0 t) (iblk m c 1 t))
    (k0_pay6 (V m c main_v0) (iblk m c 0 t) (iblk m c 1 t) (iblk m c 4 t) (row0 (iblk m c 2 t)) (row1 (iblk m c 2 t))) (row2 (iblk m c 2 t))

/-- The factor of the gate half that holds its hyperbolic tangent. -/
def ig : FVec Ideal S4096x128 .f32 :=
  k0_pay9 (k0_pay5 (V m c main_v0) (iblk m c 0 t) (iblk m c 1 t))
    (k0_pay6 (V m c main_v0) (iblk m c 0 t) (iblk m c 1 t) (iblk m c 4 t) (row0 (iblk m c 2 t)) (row1 (iblk m c 2 t))) (row2 (iblk m c 2 t))

/-- The value half's convolution. -/
def uv : FVec Ideal S4096x128 .f32 :=
  k0_pay8 (k0_pay4 (V m c main_v0) (iblk m c 0 t) (iblk m c 1 t)) (iblk m c 5 t) (row0 (iblk m c 3 t)) (row1 (iblk m c 3 t)) (row2 (iblk m c 3 t))

theorem outs : (outsAt0 m c t.val t.isLt).1 = k0_pay2 (ug m c t) (uv m c t) (ig m c t) k0_pay10
    ∧ (outsAt0 m c t.val t.isLt).2.1 = k0_pay3 (ug m c t) (uv m c t) (ig m c t) k0_pay10 := by
  by_cases h : t.val % 22 = 0
  · rw [outsAt0_A m c t h]
    constructor
    all_goals
      frame_out
      simp only [View.read_whole]
      repeat rw [fetched']
      unfold ug uv ig row0 row1 row2
      with_reducible rfl
  · rw [outsAt0_B m c t h]
    constructor
    all_goals
      frame_out
      simp only [read_unread_whole]
      rw [scratch m c _ _]
      unfold ug uv ig row0 row1 row2
      with_reducible rfl

/-! ## The blocks -/

/-- Every window's block at grid point `t` is column block `t` of the gate half or of the value half, but for the last
result, whose block is row block `t`. -/
theorem idx : ∀ t : Fin cfg0.N, win0_0.index t = ![0, t.val] ∧ win0_1.index t = ![0, t.val + 22] ∧ win0_2.index t = ![0, t.val]
    ∧ win0_3.index t = ![0, t.val + 22] ∧ win0_4.index t = ![0, t.val] ∧ win0_5.index t = ![0, t.val + 22]
    ∧ win0_6.index t = ![0, t.val] ∧ win0_7.index t = ![t.val, 0] ∧ t.val < 22 :=
  (by decide +kernel : ∀ t : Fin grid0.N, _)

/-- Channel `l` of grid point `t`. -/
def chan (t : Fin cfg0.N) (l : Fin 128) : Fin 2816 := ⟨t.val * 128 + l.val, by have := (idx t).2.2.2.2.2.2.2.2; omega⟩

theorem opnd0_at (r : Fin 4096) (k : Fin 1024) : (V m c main_v0 : FVec Ideal S4096x1024 .bf16) (ix2 r k)
    = m ((c : Thread nD τ).loc main_arg0) (ix2 r k) := by
  entry_read
  pointwise

theorem opnd1_at (j : Fin 1024) (k : Fin 5632) : (V m c main_v1 : FVec Ideal S1024x5632 .bf16) (ix2 j k)
    = m ((c : Thread nD τ).loc main_arg1) (ix2 j k) := by
  entry_read
  pointwise

theorem opnd2_at (k : Fin 5632) : (V m c main_v2 : FVec Ideal S1x5632 .f32) (ix2 0 k)
    = m ((c : Thread nD τ).loc main_arg3) (ix1 k) := by
  entry_read
  pointwise

theorem block0 (l : Fin 128) : prod (V m c main_v0) (iblk m c 0 t) l
    = seqX (m ((c : Thread nD τ).loc main_arg0)) (m ((c : Thread nD τ).loc main_arg1)) (lo (chan t l)) := by
  funext r
  refine Finset.sum_congr rfl fun k _ => congrArg₂ (· * ·) (opnd0_at m c r k) (Eq.trans ?_ (opnd1_at m c k (lo (chan t l))))
  unfold lo chan
  blk_ext! [iblk, idx t]

theorem block1 (l : Fin 128) : prod (V m c main_v0) (iblk m c 1 t) l
    = seqX (m ((c : Thread nD τ).loc main_arg0)) (m ((c : Thread nD τ).loc main_arg1)) (hi (chan t l)) := by
  funext r
  refine Finset.sum_congr rfl fun k _ => congrArg₂ (· * ·) (opnd0_at m c r k) (Eq.trans ?_ (opnd1_at m c k (hi (chan t l))))
  unfold hi chan
  blk_ext! [iblk, idx t]

theorem block2 (l : Fin 128) : trip (row0 (iblk m c 2 t)) (row1 (iblk m c 2 t)) (row2 (iblk m c 2 t)) l
    = tapsW (m ((c : Thread nD τ).loc main_arg2)) (lo (chan t l)) := by
  funext j
  refine (trip_rows _ l j).trans ?_
  unfold tapsW lo chan
  blk_ext! [iblk, V, idx t]

theorem block3 (l : Fin 128) : trip (row0 (iblk m c 3 t)) (row1 (iblk m c 3 t)) (row2 (iblk m c 3 t)) l
    = tapsW (m ((c : Thread nD τ).loc main_arg2)) (hi (chan t l)) := by
  funext j
  refine (trip_rows _ l j).trans ?_
  unfold tapsW hi chan
  blk_ext! [iblk, V, idx t]

theorem block4 (l : Fin 128) : (iblk m c 4 t : FVec Ideal S1x128 .f32) (ix2 0 l)
    = m ((c : Thread nD τ).loc main_arg3) (ix1 (lo (chan t l))) := by
  refine Eq.trans ?_ (opnd2_at m c (lo (chan t l)))
  unfold lo chan
  blk_ext! [iblk, idx t]

theorem block5 (l : Fin 128) : (iblk m c 5 t : FVec Ideal S1x128 .f32) (ix2 0 l)
    = m ((c : Thread nD τ).loc main_arg3) (ix1 (hi (chan t l))) := by
  refine Eq.trans ?_ (opnd2_at m c (hi (chan t l)))
  unfold hi chan
  blk_ext! [iblk, idx t]

/-- The product of both halves at channel `l` of grid point `t`. -/
theorem act_at (r : Fin 4096) (l : Fin 128) : k0_pay1 (F := Ideal) (ug m c t) (uv m c t) (ig m c t) k0_pay10 (ix2 r l)
    = arrA (m ((c : Thread nD τ).loc main_arg0)) (m ((c : Thread nD τ).loc main_arg1)) (m ((c : Thread nD τ).loc main_arg2))
      (m ((c : Thread nD τ).loc main_arg3)) (ix2 r (chan t l)) := by
  unfold ug uv ig
  refine (pay1_at _ _ _ _ r l).trans ?_
  rw [gate_at, val_at, block0, block1, block2, block3, block4, block5]
  rfl

theorem final6 : (dats m 0 c).arrAt 6 (cfgs 0).N = arrA (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t _ y => ?_
  blk_simp
  rw [after0_6, (outs m c t).1]
  have e : (win0_6.blk t).view.emb y = ix2 (y 0) (chan t (y 1)) := by
    unfold chan
    blk_ext! [idx t]
  rw [e]
  refine (congrArg _ (eq_ix2 y)).trans (Eq.trans ?_ (act_at m c t (y 0) (y 1)))
  rfl

/-- The transposed block. -/
theorem pay3_at (x v g z : FVec Ideal S4096x128 .f32) (r : Fin 4096) (l : Fin 128) :
    k0_pay3 (F := Ideal) x v g z (ix2 l r) = k0_pay1 (F := Ideal) x v g z (ix2 r l) := by
  pointwise [k0_pay3]

theorem final7 : (dats m 0 c).arrAt 7 (cfgs 0).N = arrT (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t _ y => ?_
  blk_simp
  rw [after0_7, (outs m c t).2]
  have e : (win0_7.blk t).view.emb y = ix2 (chan t (y 0)) (y 1) := by
    unfold chan
    blk_ext! [idx t]
  rw [e]
  exact (congrArg _ (eq_ix2 y)).trans ((pay3_at _ _ _ _ (y 1) (y 0)).trans (act_at m c t (y 1) (y 0)))

end Cert.FfnFwdIdeal.Value

end
-- ==== Proof.FfnFwdReference.lean ====
module

public import proofs.«01_k».proof.Proof.Gen.FfnFwdRefIdeal.Read
public import proofs.«01_k».proof.Proof.FfnReference
public import proofs.«01_k».proof.Proof.FfnFwdKernel

/-! # The arrays the reference of `_ffn_gate_fwd` returns -/

@[expose] public section

set_option maxRecDepth 16384

noncomputable section

namespace Cert.FfnFwdRefIdeal.Read

open Cert.FfnFwdRefIdeal Idealize.ShloMosaic Idealize.ShloMosaic.TcCoe Idealize.SL.Sem Cert.Shift Cert.FfnSpec

variable (H : FVec Ideal S4096x1024 .f32) (U : FVec Ideal S1024x5632 .f32) (W : FVec Ideal S3x5632 .f32) (B : FVec Ideal S5632 .f32)

/-- The convolution, as the backward reference computes it. -/
theorem conv_at (r : Fin 4096) (c : Fin 5632) : val_main_v26 (F := Ideal) H U W B (ix3 0 r c) = seqU H U W B c r :=
  Cert.FfnRefIdeal.Read.conv_at H U W B r c

theorem u_at (r : Fin 4096) (c : Fin 2816) : val_main_v27 (F := Ideal) H U W B (ix3 0 r c) = seqU H U W B (lo c) r := by
  rw [← conv_at]
  pointwise [val_main_v27, lo]

theorem v_at (r : Fin 4096) (c : Fin 2816) : val_main_v28 (F := Ideal) H U W B (ix3 0 r c) = seqU H U W B (hi c) r := by
  rw [← conv_at]
  pointwise [val_main_v28, hi]
  simp only [Nat.add_comm 2816]

/-- The product of both halves. -/
theorem act_at (r : Fin 4096) (c : Fin 2816) : val_main_v44 (F := Ideal) H U W B (ix2 r c)
    = gated (seqU H U W B (lo c) r) (seqU H U W B (hi c) r) := by
  unfold gated half c0 cube
  rw [← mul_assoc (seqU H U W B (lo c) r) (seqU H U W B (lo c) r)]
  pointwise [val_main_v44, val_main_v43, val_main_v42, val_main_v41, val_main_v40, val_main_v39, val_main_cst_3, val_main_v38, val_main_v37, val_main_cst_2, val_main_v36, val_main_v35, val_main_v34, val_main_cst_1, val_main_v33, val_main_v32, val_main_v31, val_main_cst_0, val_main_v30, val_main_v29, u_at, v_at]

theorem final44 : val_main_v44 (F := Ideal) H U W B = arrA H U W B := by
  funext i
  rw [eq_ix2 i]
  exact act_at H U W B _ _

theorem final45 : val_main_v45 (F := Ideal) H U W B = arrT H U W B := by
  funext i
  rw [eq_ix2 i]
  refine Eq.trans ?_ (act_at H U W B _ _)
  pointwise [val_main_v45]

end Cert.FfnFwdRefIdeal.Read

end
-- ==== Proof.FfnFwdClaim.lean ====
module

public import proofs.«01_k».proof.Defs
public import proofs.«01_k».proof.Proof.Gen.FfnFwd
public import proofs.«01_k».proof.Proof.Gen.FfnFwdRefIdeal
public import proofs.«01_k».proof.Proof.FfnFwdKernel
public import proofs.«01_k».proof.Proof.FfnFwdReference
public import Idealize.ShloMosaic.Lib.Claim

/-! # `_ffn_gate_fwd`: the claims of the pair -/

@[expose] public section

set_option maxRecDepth 16384

noncomputable section

namespace Cert.FfnFwdClaim

open Idealize.ShloMosaic Idealize.SL.Sem

local instance : Cert.FfnFwd.Facts := Cert.FfnFwd.Gen.facts
local instance : Cert.FfnFwdIdeal.Facts := Cert.FfnFwdIdeal.Gen.facts
local instance : Cert.FfnFwdRefIdeal.Facts := Cert.FfnFwdRefIdeal.Gen.facts

theorem frame_ideal : Cert.quiescent_FfnFwdIdeal := fun m g _ => Cert.FfnFwdIdeal.Gen.frame m g

theorem main_eq : Cert.FfnFwd.main (F := Bits) = Cert.FfnFwdIdeal.main (F := Bits) := rfl

theorem defs_eq : Cert.FfnFwd.defs (F := Bits) = Cert.FfnFwdIdeal.defs (F := Bits) := by sl_kernel_rfl

/-- The kernel's program is its idealized program over the machine's floats: one run serves both. -/
theorem frame_kernel : Cert.quiescent_FfnFwd := fun m g _ => by
  rw [defs_eq, main_eq]
  exact Cert.FfnFwdIdeal.Gen.frame (F := Bits) m g

theorem frame_reference : Cert.quiescent_FfnFwdRefIdeal := by
  intro m g _
  exact (θ_run _ _ _).mono (fun r h => ⟨fun c => (h c).2.2, sem_eq_zero_of_no_sems rfl _⟩) (Cert.FfnFwdRefIdeal.Value.run m g)

theorem algebraic : Cert.algebraic_FfnFwdIdeal_FfnFwdRefIdeal := by
  pair_intro
  · run_from Cert.FfnFwdIdeal.Gen.run_main m g
  · run_from Cert.FfnFwdRefIdeal.Value.run m' g'
    · rw [Cert.FfnFwdRefIdeal.Read.val_main_v44_eq, Cert.FfnFwdRefIdeal.Read.final44, (hagree c).1, (hagree c).2.1, (hagree c).2.2.1, (hagree c).2.2.2]
      exact (Cert.FfnFwdIdeal.Value.final6 m c).symm
    · rw [Cert.FfnFwdRefIdeal.Read.val_main_v45_eq, Cert.FfnFwdRefIdeal.Read.final45, (hagree c).1, (hagree c).2.1, (hagree c).2.2.1, (hagree c).2.2.2]
      exact (Cert.FfnFwdIdeal.Value.final7 m c).symm

end Cert.FfnFwdClaim

end
-- ==== Proof.BiasFwdTable.lean ====
module

public import proofs.«01_k».proof.BiasFwdIdeal
public import proofs.«01_k».proof.Proof.BiasTable

/-! # The forward call's bucket table is the backward call's -/

@[expose] public section

set_option maxRecDepth 16384

namespace Cert.BiasFwdIdeal.Value

open Idealize.ShloMosaic Cert.BiasSpec Cert.BiasFwdIdeal

theorem same_table : @lit0t = @Cert.BiasBwdIdeal.lit0t := rfl

end Cert.BiasFwdIdeal.Value
-- ==== Proof.BiasFwdSpec.lean ====
module

public import proofs.«01_k».proof.Proof.BiasSpec

/-! # The table of relative positions, in plain mathematics -/

@[expose] public section

noncomputable section

namespace Cert.BiasSpec

open Idealize.ShloMosaic

/-- The bias of every head, place of a block and place of its window: the head's entry for the bucket of their distance. -/
def table (x : FVec Ideal ⟨2, ![32, 8]⟩ .f32) : FVec Ideal ⟨3, ![8, 128, 256]⟩ .f32 := fun i =>
  x (ix2 ⟨bucket (dist (i 1) (i 2)), bucket_lt _⟩ (i 0))

end Cert.BiasSpec

end
-- ==== Proof.BiasFwdKernel.lean ====
module

public import proofs.«01_k».proof.Proof.Gen.BiasFwdIdeal.Value
public import proofs.«01_k».proof.Proof.BiasFwdTable
public import proofs.«01_k».proof.Proof.BiasFwdSpec
public import Idealize.ShloMosaic.Lib.Pipeline.ReadBack
public import Idealize.ShloMosaic.Lib.Claim
public import Idealize.ShloMosaic.Lib.WholeRead
public import Idealize.ShloMosaic.Lib.Pipeline.ValueKit

/-! # `_bias_table`: the array the kernel returns -/

@[expose] public section

set_option maxRecDepth 16384

noncomputable section

namespace Cert.BiasFwdIdeal.Value

open Cert.BiasFwdIdeal Cert.BiasFwdIdeal.Gen Idealize.ShloMosaic Idealize.ShloMosaic.TcCoe Idealize.SL.Sem Cert.BiasSpec
open Idealize.ShloMosaic.Pipeline (Dat)

theorem idx : ∀ t : Fin cfg0.N, win0_0.index t = ![0, 0] ∧ win0_1.index t = ![0, 0] ∧ win0_2.index t = ![0, 0, 0] :=
  (by decide +kernel : ∀ t : Fin grid0.N, _)

section
variable (c : Dev nD) (arg0 : Memref sig .tc .smem S32x8 .f32) (harg0 : arg0.IsWhole) (arg1 : Memref sig .tc .vmem S128x256 .i32) (harg1 : arg1.IsWhole)
  (arg2 : Memref sig .tc .vmem S8x128x256 .f32) (harg2 : arg2.IsWhole) (x0 : FVec Ideal S32x8 .f32) (x1 : IVec S128x256 32)
  (w : Fin 128 → Fin 256 → Fin 32)

/-- The table's entries as they should be: head, place of the block, place of the window. -/
def goal : FVec Ideal S8x128x256 .f32 := fun i => x0 (ix2 (w (i 1) (i 2)) (i 0))

/-- The places whose bucket is among the first `n` hold their entry of head `h`. -/
def Filled (h : Fin 8) (acc : FVec Ideal S128x256 .f32) (n : ℕ) : Prop :=
  ∀ (r : Fin 128) (k : Fin 256), (w r k).val < n → acc (ix2 r k) = x0 (ix2 (w r k) h)

/-- What a store of one head has to write. -/
def Done (h : Fin 8) (p : FVec Ideal S1x128x256 .f32) : Prop :=
  ∀ (r : Fin 128) (k : Fin 256), p (ix3 0 r k) = x0 (ix2 (w r k) h)

/-- The bucket words as the body loads them. -/
def words : IVec S128x256 32 :=
  View.readAt (Elt Ideal) arg1.view (Rect.unit (s := S128x256) ![0, 0] S128x256.size inb_S128x256_S128x256_0_0).toLoadRect (harg1.unread x1)

theorem words_at (r : Fin 128) (k : Fin 256) : words arg1 harg1 x1 (ix2 r k) = x1 (ix2 r k) := by
  refine (harg1.readAt_unread (Val := Elt Ideal) x1 _ _).trans (congrArg x1 ?_)
  funext a
  fin_cases a <;> (apply Fin.ext; show 0 + 1 * _ = _; omega)

/-- A scalar load reads its entry. -/
theorem load_at (n h : ℕ) (hn : n < 32) (hh : h < 8) (inb : ∀ a, (![n, h] : Fin 2 → ℕ) a + S1x1.size a ≤ S32x8.size a) (p : 0 < S1x1.numel) :
    View.readAt (Elt Ideal) arg0.view (Rect.unit (s := S32x8) ![n, h] S1x1.size inb).toLoadRect (harg0.unread x0) (Shape.Idx.first p)
    = x0 (ix2 ⟨n, hn⟩ ⟨h, hh⟩) := by
  refine (harg0.readAt_unread (Val := Elt Ideal) x0 _ _).trans (congrArg x0 ?_)
  funext a
  fin_cases a <;> rfl

/-- … and so the block of it. -/
theorem spread (n h : ℕ) (hn : n < 32) (hh : h < 8) (inb : ∀ a, (![n, h] : Fin 2 → ℕ) a + S1x1.size a ≤ S32x8.size a) (p : 0 < S1x1.numel) :
    (broadcast S128x256 (View.readAt (Elt Ideal) arg0.view (Rect.unit (s := S32x8) ![n, h] S1x1.size inb).toLoadRect (harg0.unread x0) (Shape.Idx.first p))
      : FVec Ideal S128x256 .f32) = broadcast S128x256 (x0 (ix2 ⟨n, hn⟩ ⟨h, hh⟩)) :=
  congrArg _ (load_at arg0 harg0 x0 n h hn hh inb p)

theorem pick (a b : BitVec 32) (x y : EReal) : Scalar.select (IntOp.cmpi .eq a b) x y = if a = b then x else y := by
  unfold Scalar.select IntOp.cmpi
  by_cases e : a = b
  · simp [e]
  · simp [e, beq_eq_false_iff_ne.2 e]

theorem put_at (tab : IVec S128x256 32) (b : BitVec 32) (l : EReal) (acc : FVec Ideal S128x256 .f32) (r : Fin 128) (k : Fin 256) :
    select (cmpi .eq tab (broadcast S128x256 b)) (broadcast S128x256 l : FVec Ideal S128x256 .f32) acc (ix2 r k) = if tab (ix2 r k) = b then l else acc (ix2 r k) := by
  pointwise
  exact pick _ _ _ _

variable (hw : ∀ (r : Fin 128) (k : Fin 256), x1 (ix2 r k) = BitVec.ofNat 32 (w r k).val)

include hw in
/-- One selection puts the entries of one more bucket. -/
theorem step (h : Fin 8) (n : ℕ) (hn : n < 32) (acc : FVec Ideal S128x256 .f32) (p : IVec S128x256 1) (v : FVec Ideal S128x256 .f32)
    (hp : p = cmpi .eq (words arg1 harg1 x1) (broadcast S128x256 (BitVec.ofNat 32 n))) (hv : v = broadcast S128x256 (x0 (ix2 ⟨n, hn⟩ h))) (hf : Filled x0 w h acc n) : Filled x0 w h (select p v acc) (n + 1) := by
  subst hp hv
  intro r k lt
  have e : ∀ a b : ℕ, a < 32 → b < 32 → (BitVec.ofNat 32 a = BitVec.ofNat 32 b ↔ a = b) := fun a b ha hb => by
    rw [BitVec.toNat_eq, BitVec.toNat_ofNat, BitVec.toNat_ofNat]; omega
  rw [put_at, words_at, hw, if_congr (e _ _ (w r k).isLt hn) rfl rfl]
  by_cases q : (w r k).val = n
  · rw [if_pos q]
    exact congrArg (fun b => x0 (ix2 b h)) (Fin.ext q.symm)
  · rw [if_neg q]
    exact hf r k (by omega)

theorem none_yet (h : Fin 8) (acc : FVec Ideal S128x256 .f32) : Filled x0 w h acc 0 := fun r k lt => by omega

theorem done (h : Fin 8) (acc : FVec Ideal S128x256 .f32) (hf : Filled x0 w h acc 32) :
    Done x0 w h (shapeCast S1x128x256 acc shapeCasts_S128x256_S1x128x256) := fun r k => by
  refine Eq.trans ?_ (hf r k (w r k).isLt)
  pointwise

theorem block (h : Fin 8) (off : Fin 3 → ℕ) (e : off = ![h.val, 0, 0]) (inb : ∀ a, off a + S1x128x256.size a ≤ S8x128x256.size a)
    (p : FVec Ideal S1x128x256 .f32) (hd : Done x0 w h p) (x : (Rect.unit (s := S8x128x256) off S1x128x256.size inb).shape.Idx) :
    p x = goal x0 w ((Rect.unit (s := S8x128x256) off S1x128x256.size inb).emb x) := by
  subst e
  have q : (x : S1x128x256.Idx) = ix3 0 (x 1) (x 2) := by
    funext a
    fin_cases a
    · exact Fin.ext (by have : (x 0).val < 1 := (x 0).isLt; show (x 0).val = 0; omega)
    · rfl
    · rfl
  refine (congrArg p q).trans ((hd (x 1) (x 2)).trans ?_)
  unfold goal
  have a0 : ((Rect.unit (s := S8x128x256) ![h.val, 0, 0] S1x128x256.size inb).emb x) 0 = h := Fin.ext (by
    have : (x 0).val < 1 := (x 0).isLt
    rw [Rect.emb_apply]; show h.val + 1 * (x 0).val = _; omega)
  have a1 : ((Rect.unit (s := S8x128x256) ![h.val, 0, 0] S1x128x256.size inb).emb x) 1 = x 1 := Fin.ext (by
    rw [Rect.emb_apply]; show 0 + 1 * (x 1).val = _; omega)
  have a2 : ((Rect.unit (s := S8x128x256) ![h.val, 0, 0] S1x128x256.size inb).emb x) 2 = x 2 := Fin.ext (by
    rw [Rect.emb_apply]; show 0 + 1 * (x 2).val = _; omega)
  rw [a0, a1, a2]

/-- One more store of a head. -/
theorem stored (h : ℕ) (hh : h < 8) (inb : ∀ a, (![h, 0, 0] : Fin 3 → ℕ) a + (![1, 128, 256] : Fin 3 → ℕ) a ≤ S8x128x256.size a)
    (p : FVec Ideal S1x128x256 .f32) (L : List (View.Piece (Elt Ideal) S8x128x256 .f32)) (hd : Done x0 w ⟨h, hh⟩ p) (hL : View.PiecesOf (goal x0 w) L) :
    View.PiecesOf (goal x0 w) (⟨Rect.unit (s := S8x128x256) ![h, 0, 0] ![1, 128, 256] inb, p⟩ :: L) :=
  ⟨block x0 w ⟨h, hh⟩ _ rfl inb p hd, hL⟩

set_option maxHeartbeats 2000000 in
include hw in
theorem pieces : View.PiecesOf (goal x0 w) (kernelRun0_A (F := Ideal) c arg0 harg0 arg1 harg1 arg2 harg2 x0 x1).1 := by
  unfold kernelRun0_A
  dsimp only
  iterate 8 (refine stored _ _ _ (by decide) _ _ _ ?_ ?_; rotate_left)
  · exact trivial
  all_goals refine done _ _ _ _ ?_
  all_goals
    iterate 32 refine step arg1 harg1 _ _ _ hw _ _ (by decide) _ _ _ rfl (spread arg0 harg0 _ _ _ (by decide) (by decide) _ _) ?_
    exact none_yet _ _ _ _

include hw in
theorem out_at (y : S8x128x256.Idx) : out0_A_2 (F := Ideal) c arg0 harg0 arg1 harg1 arg2 harg2 x0 x1 y = goal x0 w y := by
  have hc := cover0_A_2 (F := Ideal) c arg0 harg0 arg1 harg1 arg2 harg2 x0 x1 y
  have hp := pieces c arg0 harg0 arg1 harg1 arg2 harg2 x0 x1 w hw
  unfold out0_A_2
  rw [View.read_writes_junk_eq_canon]
  generalize (kernelRun0_A (F := Ideal) c arg0 harg0 arg1 harg1 arg2 harg2 x0 x1).1 = L at hc hp ⊢
  have h := View.canon_append_of_piecesOf (goal x0 w) [] L hp y hc
  rw [List.append_nil] at h
  exact h

end

variable (m : (ℓ : Loc nD τ sig) → Buf (Elt Ideal) ℓ)

/-- The bucket table's array at the launch. -/
theorem table_at (c : Dev nD) (r : Fin 128) (k : Fin 256) : (V m c main_c : IVec S128x256 32) (ix2 r k) = BitVec.ofNat 32 (bucket (dist r k)) := by
  entry_read
  refine Eq.trans ?_ (Cert.BiasBwdIdeal.Value.table_words r k)
  rw [← same_table]
  have e : ∀ x : Fin 32768, lit0 x = lit0t x.val := fun ⟨_, _⟩ => rfl
  exact (e _).trans (congrArg lit0t (Shape.rowMajor_val_two _))

theorem out_eq (c : Dev nD) (t : Fin cfg0.N) (y : S8x128x256.Idx) : outsAt0 (F := Ideal) m c t y = table (m ((c : Thread nD τ).loc main_arg0)) y := by
  have e0 : (iblk m c 0 t : FVec Ideal S32x8 .f32) = m ((c : Thread nD τ).loc main_arg0) := by
    funext i
    rw [eq_ix2 i]
    blk_ext! [iblk, V, idx t]
  have e1 : ∀ (r : Fin 128) (k : Fin 256), (iblk m c 1 t : IVec S128x256 32) (ix2 r k) = BitVec.ofNat 32 (bucket (dist r k)) := fun r k => by
    refine Eq.trans ?_ (table_at m c r k)
    blk_ext! [iblk, idx t]
  unfold outsAt0
  refine (out_at c _ _ _ _ _ _ _ _ (fun r k => ⟨bucket (dist r k), bucket_lt _⟩) e1 y).trans ?_
  rw [e0]
  rfl

theorem final2 (c : Dev nD) : (dats m 0 c).arrAt 2 (cfgs 0).N = table (m ((c : Thread nD τ).loc main_arg0)) := by
  refine (dats m 0 c).arrAt_eq_of_covers 2 _ (by decide +kernel) fun t _ y => ?_
  blk_simp
  rw [after0_2]
  have e : (win0_2.blk t).view.emb y = ix3 (y 0) (y 1) (y 2) := by
    blk_ext! [idx t]
  rw [e]
  exact (congrArg _ (eq_ix3 y)).trans (out_eq m c t (ix3 (y 0) (y 1) (y 2)))

end Cert.BiasFwdIdeal.Value

end
-- ==== Proof.BiasFwdReference.lean ====
module

public import proofs.«01_k».proof.Proof.Gen.BiasFwdRefIdeal.Read
public import proofs.«01_k».proof.Proof.BiasReference
public import proofs.«01_k».proof.Proof.BiasFwdSpec

/-! # The table of relative positions by the reference: a gather at the buckets -/

@[expose] public section

set_option maxRecDepth 16384

noncomputable section

namespace Cert.BiasFwdRefIdeal.Read

open Cert.BiasFwdRefIdeal Cert.BiasFwdRefIdeal.Gen Idealize.ShloMosaic Idealize.ShloMosaic.TcCoe Idealize.SL.Sem Cert.BiasSpec

/-- The index words are those of the backward pass. -/
theorem same_words : val_main_v33 (F := Ideal) = Cert.BiasRefIdeal.Read.val_main_v33 (F := Ideal) := rfl

/-- Result `(r, c, h)` of the gather reads the row its index word names, at column `h`. -/
theorem row_at (x : FVec Ideal S32x8 .f32) (idx : IVec S128x256x1 32) (r : Fin 128) (c : Fin 256) (h : Fin 8) (b : Fin 32)
    (e : idx (ix3 r c 0) = BitVec.ofNat 32 b.val) :
    Host.gather gather_S32x8_S128x256x1_S128x256x8_2_0_n_n_0_2_18 x idx (ix3 r c h) = x (ix2 b h) := by
  unfold Host.gather
  refine congrArg x (funext fun a => Fin.ext ?_)
  have s0 : gather_S32x8_S128x256x1_S128x256x8_2_0_n_n_0_2_18.start (ix3 r c h) idx 0 = min (idx (ix3 r c 0)).toInt.toNat 31 := by
    unfold GatherDims.start
    rw [dif_pos (by decide)]
    refine congrArg (fun y => min (idx y).toInt.toNat 31) ?_
    funext y
    fin_cases y <;> rfl
  have s1 : gather_S32x8_S128x256x1_S128x256x8_2_0_n_n_0_2_18.start (ix3 r c h) idx 1 = 0 := rfl
  match a with
  | ⟨0, _⟩ =>
    refine (congrArg (fun u => u + 0 + 0) s0).trans ?_
    rw [e, Cert.BiasRefIdeal.Read.words b]
    have := b.isLt
    show min ((b.val : ℤ)).toNat 31 + 0 + 0 = b.val
    omega
  | ⟨1, _⟩ =>
    refine (congrArg (fun u => u + 0 + h.val) s1).trans ?_
    show 0 + 0 + h.val = h.val
    omega

theorem final36 (x : FVec Ideal S32x8 .f32) : val_main_v36 (F := Ideal) x = table x := by
  funext i
  rw [eq_ix3 i]
  have e : val_main_v34 (F := Ideal) (ix3 (i 1) (i 2) 0) = BitVec.ofNat 32 (bucket (BiasSpec.dist (i 1) (i 2))) := by
    refine Eq.trans ?_ (Cert.BiasRefIdeal.Read.v33_at (i 1) (i 2))
    rw [← same_words]
    pointwise [val_main_v34]
  refine Eq.trans ?_ (row_at x _ (i 1) (i 2) (i 0) ⟨_, bucket_lt _⟩ e)
  pointwise [val_main_v36, val_main_v35]

end Cert.BiasFwdRefIdeal.Read

end
-- ==== Proof.BiasFwdClaim.lean ====
module

public import proofs.«01_k».proof.Defs
public import proofs.«01_k».proof.Proof.Gen.BiasFwd
public import proofs.«01_k».proof.Proof.Gen.BiasFwdRefIdeal
public import proofs.«01_k».proof.Proof.BiasFwdKernel
public import proofs.«01_k».proof.Proof.BiasFwdReference
public import Idealize.ShloMosaic.Lib.Claim

/-! # `_bias_table`: the claims of the pair -/

@[expose] public section

set_option maxRecDepth 16384

noncomputable section

namespace Cert.BiasFwdClaim

open Idealize.ShloMosaic Idealize.SL.Sem

local instance : Cert.BiasFwd.Facts := Cert.BiasFwd.Gen.facts
local instance : Cert.BiasFwdIdeal.Facts := Cert.BiasFwdIdeal.Gen.facts
local instance : Cert.BiasFwdRefIdeal.Facts := Cert.BiasFwdRefIdeal.Gen.facts

theorem frame_ideal : Cert.quiescent_BiasFwdIdeal := fun m g _ => Cert.BiasFwdIdeal.Gen.frame m g

theorem main_eq : Cert.BiasFwd.main (F := Bits) = Cert.BiasFwdIdeal.main (F := Bits) := by sl_kernel_rfl

theorem defs_eq : Cert.BiasFwd.defs (F := Bits) = Cert.BiasFwdIdeal.defs (F := Bits) := by sl_kernel_rfl

/-- The kernel's program is its idealized program over the machine's floats: one run serves both. -/
theorem frame_kernel : Cert.quiescent_BiasFwd := fun m g _ => by
  rw [defs_eq, main_eq]
  exact Cert.BiasFwdIdeal.Gen.frame (F := Bits) m g

theorem frame_reference : Cert.quiescent_BiasFwdRefIdeal := by
  intro m g _
  exact (θ_run _ _ _).mono (fun r h => ⟨fun c => (h c).2, sem_eq_zero_of_no_sems rfl _⟩) (Cert.BiasFwdRefIdeal.Value.run m g)

theorem algebraic : Cert.algebraic_BiasFwdIdeal_BiasFwdRefIdeal := by
  pair_intro
  · run_from Cert.BiasFwdIdeal.Gen.run_main m g
  · run_from Cert.BiasFwdRefIdeal.Value.run m' g'
    · rw [Cert.BiasFwdRefIdeal.Read.val_main_v36_eq, Cert.BiasFwdRefIdeal.Read.final36, hagree c]
      exact (Cert.BiasFwdIdeal.Value.final2 m c).symm

end Cert.BiasFwdClaim

end
-- ==== Proof.LnFwd.lean ====
module

public import proofs.«01_k».proof.Proof.LnTail
public import Idealize.ShloMosaic.Lib.Pipeline.ValueKit

/-! # The layer norm, forward: one block of 512 rows, and all rows at once

The three calls of `_mm_res_ln` and their references differ in how they form the norm's input `z`; what follows is the same. -/

@[expose] public section

set_option maxRecDepth 16384

noncomputable section

namespace Cert.LnFwd

open Idealize.ShloMosaic Idealize.ShloMosaic.TcCoe Cert.LnSpec Cert.LnBlock Cert.LnTail

/-! ## The arrays -/

/-- The norm's output at a place of a row. -/
def outRow (z g b : Row) : Row := fun j => nrm z j * g j + b j

variable (z : Fin 4096 → Row) (g b : Row)

/-- The norm's output. -/
def outArr : FVec Ideal ⟨2, ![4096, 1024]⟩ .f32 := fun i => outRow (z (i 0)) g b (i 1)

/-- The norm's output, one feature per row. -/
def outT : FVec Ideal ⟨2, ![1024, 4096]⟩ .bf16 := fun i => outRow (z (i 1)) g b (i 0)

/-- The norm's input. -/
def inArr : FVec Ideal ⟨2, ![4096, 1024]⟩ .f32 := fun i => z (i 0) (i 1)

/-! ## An input made of two products -/

/-- A place in the first half of a row. -/
def lo (k : Fin 512) : Fin 1024 := ⟨k.val, by omega⟩

/-- A place in the second half of a row. -/
def hi (k : Fin 512) : Fin 1024 := ⟨k.val + 512, by omega⟩

/-- Two arrays side by side. -/
def both (a b : Fin 4096 → Fin 512 → EReal) (i : Fin 4096) : Row := fun k =>
  if h : k.val < 512 then a i ⟨k.val, h⟩ else b i ⟨k.val - 512, by omega⟩

/-- The product with both side by side is the sum of the products with each. -/
theorem two_products (h : Fin 4096 → Row) (a b : Fin 4096 → Fin 512 → EReal) (w : Fin 1024 → Row) (i : Fin 4096) (j : Fin 1024) :
    zOf h (both a b) w i j = alpha * h i j + ∑ k, a i k * w (lo k) j + ∑ k, b i k * w (hi k) j := by
  unfold zOf
  rw [add_assoc]
  refine congrArg (_ + ·) ((Fin.sum_univ_add (a := 512) (b := 512) fun k => both a b i k * w k j).trans
    (congrArg₂ (· + ·) (Finset.sum_congr rfl fun k _ => ?_) (Finset.sum_congr rfl fun k _ => ?_)))
  · exact congrArg₂ (· * ·) (dif_pos k.isLt) rfl
  · refine congrArg₂ (· * ·) ((dif_neg ?_).trans (congrArg (b i) (Fin.ext ?_))) (congrArg (w · j) (Fin.ext ?_))
    · show ¬512 + k.val < 512
      omega
    · show 512 + k.val - 512 = k.val
      omega
    · exact Nat.add_comm _ _

/-! ## A block -/

section
open Cert.H1BwdIdeal Cert.H1BwdIdeal.Gen
variable (x : Block) (u v : Line)

/-- The block's rows less their mean. -/
def centre : Block := subf x (broadcastTo S512x1024 (average x) broadcasts_S512x1_S512x1024)

/-- One over each row's standard deviation. -/
def rstd : FVec Ideal S512x1 .f32 :=
  rsqrt (addf (average (mulf (centre x) (centre x))) (broadcast S512x1 (Scalar.ofBits .f32 0x3727C5AC#32)))

/-- A line in every row. -/
def every : Block := broadcastTo S512x1024 (shapeCast S1x1024 u shapeCasts_S1x1024_S1x1024) broadcasts_S1x1024_S512x1024

/-- The norm's output on a block. -/
def out : Block := addf (mulf (mulf (centre x) (broadcastTo S512x1024 (rstd x) broadcasts_S512x1_S512x1024)) (every u)) (every v)

theorem centre_at (r : Fin 512) (j : Fin 1024) : centre x (ix2 r j) = ctr (rowOf x r) j := by
  unfold ctr
  rw [← average_at]
  pointwise [centre, rowOf]

theorem rstd_at (r : Fin 512) : rstd x (ix2 r 0) = rs (rowOf x r) := by
  have e : rowOf (mulf (centre x) (centre x)) r = fun y => ctr (rowOf x r) y * ctr (rowOf x r) y :=
    funext fun y => by rw [← centre_at]; rfl
  unfold rs var
  rw [← e, ← average_at]
  pointwise [rstd]

theorem every_at (r : Fin 512) (j : Fin 1024) : every u (ix2 r j) = lineOf u j := by
  unfold lineOf
  pointwise [every]

theorem out_at (r : Fin 512) (j : Fin 1024) : out x u v (ix2 r j) = outRow (rowOf x r) (lineOf u) (lineOf v) j := by
  unfold outRow nrm
  rw [← every_at u r, ← every_at v r, ← centre_at, ← rstd_at]
  pointwise [out]
end

/-! ## All rows, as the references compute them -/

section
open Cert.H1RefIdeal Cert.H1RefIdeal.Gen
variable (x : Rows) (u v : FVec Ideal S1024 .f32)

/-- The norm's output. -/
def tail : Rows := addf (mulf (normed x) (gainRows u)) (gainRows v)

theorem gainRows_at (i : Fin 4096) (j : Fin 1024) : gainRows u (ix2 i j) = vec u j := by
  unfold vec
  pointwise [gainRows]

theorem tail_at (i : Fin 4096) (j : Fin 1024) : tail x u v (ix2 i j) = outRow (mat x i) (vec u) (vec v) j := by
  unfold outRow
  rw [← normed_at, ← gainRows_at u i, ← gainRows_at v i]
  rfl

theorem tail_arr : tail x u v = outArr (mat x) (vec u) (vec v) := by
  funext i
  exact (congrArg _ (eq_ix2 i)).trans (tail_at x u v (i 0) (i 1))
end

end Cert.LnFwd

end
-- ==== Proof.XaOutKernel.lean ====
module

public import proofs.«01_k».proof.Proof.Gen.XaOutIdeal.Value
public import proofs.«01_k».proof.Proof.LnFwd
public import Idealize.ShloMosaic.Lib.Pipeline.ReadBack
public import Idealize.ShloMosaic.Lib.Claim

/-! # The arrays `_mm_res_ln` returns behind the cross attention -/

@[expose] public section

set_option maxRecDepth 16384

noncomputable section

namespace Cert.XaOutIdeal.Value

open Cert.XaOutIdeal Cert.XaOutIdeal.Gen Idealize.ShloMosaic Idealize.ShloMosaic.TcCoe Idealize.SL.Sem Cert.LnSpec Cert.LnBlock Cert.LnFwd
open Idealize.ShloMosaic.Pipeline (Dat)

/-! ## One grid point -/

section
variable (x0 : FVec Ideal S512x1024 .bf16) (x1 : FVec Ideal S1024x1024 .bf16) (x2 : Block) (x3 x4 : Line)

theorem zeros : (![0, 0] : Fin 2 → ℕ) = fun _ => 0 := by decide

/-- The norm's input. -/
abbrev zB : Block := k0_pay2 x2 x0 x1

theorem out5 : out0_5 (F := Ideal) x0 x1 x2 x3 x4 = out (zB x0 x1 x2) x3 x4 := by
  unfold out0_5
  rw [View.canon_unit_zero zeros]
  repeat rw [View.ld_unit_zero zeros]
  rfl

theorem out6 : out0_6 (F := Ideal) x0 x1 x2 x3 x4 = truncf .bf16 (out (zB x0 x1 x2) x3 x4) bitsLt_bf16_f32 := by
  unfold out0_6
  rw [View.canon_unit_zero zeros]
  repeat rw [View.ld_unit_zero zeros]
  rfl

theorem out7 : out0_7 (F := Ideal) x0 x1 x2 x3 x4 = k0_pay1 (out (zB x0 x1 x2) x3 x4) := by
  unfold out0_7
  rw [View.canon_unit_zero zeros]
  repeat rw [View.ld_unit_zero zeros]
  rfl

theorem out8 : out0_8 (F := Ideal) x0 x1 x2 x3 x4 = zB x0 x1 x2 := by
  unfold out0_8
  rw [View.canon_unit_zero zeros]
  repeat rw [View.ld_unit_zero zeros]

/-- The transposed block. -/
theorem turned_at (x : Block) (r : Fin 512) (j : Fin 1024) : k0_pay1 (F := Ideal) x (ix2 j r) = x (ix2 r j) := by
  pointwise [k0_pay1]
end

variable (m : (ℓ : Loc nD τ sig) → Buf (Elt Ideal) ℓ) (c : Dev nD) (t : Fin cfg0.N)

/-! ## The blocks -/

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, t.val] ∧ win0_8.index t = ![t.val, 0] :=
  (by decide +kernel : ∀ t : Fin grid0.N, _)

/-- The norm's input. -/
def zA : Fin 4096 → Row :=
  zOf (mat (m ((c : Thread nD τ).loc main_arg2))) (mat (m ((c : Thread nD τ).loc main_arg0))) (mat (m ((c : Thread nD τ).loc main_arg1)))

/-- The norm's gains. -/
def gA : Row := vec (m ((c : Thread nD τ).loc main_arg3))

/-- The norm's bias. -/
def bA : Row := vec (m ((c : Thread nD τ).loc main_arg4))

theorem opnd0_at (i : Fin 4096) (k : Fin 1024) : (V m c main_v0 : FVec Ideal S4096x1024 .bf16) (ix2 i k)
    = m ((c : Thread nD τ).loc main_arg0) (ix2 i k) := by
  entry_read
  pointwise

theorem opnd1_at (k : Fin 1024) (j : Fin 1024) : (V m c main_v1 : FVec Ideal S1024x1024 .bf16) (ix2 k j)
    = m ((c : Thread nD τ).loc main_arg1) (ix2 k j) := by
  entry_read
  pointwise

theorem opnd3_at (j : Fin 1024) : (V m c main_v2 : FVec Ideal S1x1024 .f32) (ix2 0 j) = gA m c j := by
  entry_read
  pointwise [gA, vec]

theorem opnd4_at (j : Fin 1024) : (V m c main_v3 : FVec Ideal S1x1024 .f32) (ix2 0 j) = bA m c j := by
  entry_read
  pointwise [bA, vec]

theorem block0 (r : Fin 512) (k : Fin 1024) : (iblk m c 0 t : FVec Ideal S512x1024 .bf16) (ix2 r k)
    = m ((c : Thread nD τ).loc main_arg0) (ix2 (row t r) k) := by
  refine Eq.trans ?_ (opnd0_at m c (row t r) k)
  unfold row
  blk_ext! [iblk, idx t]

theorem block1 (k : Fin 1024) (j : Fin 1024) : (iblk m c 1 t : FVec Ideal S1024x1024 .bf16) (ix2 k j)
    = m ((c : Thread nD τ).loc main_arg1) (ix2 k j) := by
  refine Eq.trans ?_ (opnd1_at m c k j)
  blk_ext! [iblk, idx t]

theorem block2 (r : Fin 512) (j : Fin 1024) : (iblk m c 2 t : Block) (ix2 r j) = m ((c : Thread nD τ).loc main_arg2) (ix2 (row t r) j) := by
  unfold row
  blk_ext! [iblk, V, idx t]

theorem line3 : lineOf (iblk m c 3 t) = gA m c := by
  funext j
  refine Eq.trans ?_ (opnd3_at m c j)
  unfold lineOf
  blk_ext! [iblk, idx t]

theorem line4 : lineOf (iblk m c 4 t) = bA m c := by
  funext j
  refine Eq.trans ?_ (opnd4_at m c j)
  unfold lineOf
  blk_ext! [iblk, idx t]

/-- The block's norm input. -/
abbrev zT : Block := zB (iblk m c 0 t) (iblk m c 1 t) (iblk m c 2 t)

theorem rows_z (r : Fin 512) : rowOf (zT m c t) r = zA m c (row t r) := by
  funext j
  unfold zA zOf mat
  simp only [← block0 m c t, ← block1 m c t, ← block2 m c t]
  unfold rowOf
  pointwise [k0_pay2]

theorem value_at (r : Fin 512) (j : Fin 1024) :
    out (zT m c t) (iblk m c 3 t) (iblk m c 4 t) (ix2 r j) = outRow (zA m c (row t r)) (gA m c) (bA m c) j := by
  refine (out_at _ _ _ r j).trans ?_
  rw [rows_z, line3, line4]

/-! ## The arrays -/

theorem final5 : (dats m 0 c).arrAt 5 (cfgs 0).N = outArr (zA m c) (gA m c) (bA m c) := by
  refine (dats m 0 c).arrAt_eq_of_covers 5 _ (by decide +kernel) fun t _ y => ?_
  blk_simp
  rw [after0_5, out5]
  have e : (win0_5.blk t).view.emb y = ix2 (row t (y 0)) (y 1) := by
    unfold row
    blk_ext! [idx t]
  rw [e]
  exact (congrArg _ (eq_ix2 y)).trans (value_at m c t (y 0) (y 1))

theorem final6 : (dats m 0 c).arrAt 6 (cfgs 0).N = (outArr (zA m c) (gA m c) (bA m c) : FVec Ideal S4096x1024 .bf16) := by
  refine (dats m 0 c).arrAt_eq_of_covers 6 _ (by decide +kernel) fun t _ y => ?_
  blk_simp
  rw [after0_6, out6]
  have e : (win0_6.blk t).view.emb y = ix2 (row t (y 0)) (y 1) := by
    unfold row
    blk_ext! [idx t]
  rw [e]
  exact (congrArg _ (eq_ix2 y)).trans (value_at m c t (y 0) (y 1))

theorem final7 : (dats m 0 c).arrAt 7 (cfgs 0).N = outT (zA m c) (gA m c) (bA m c) := by
  refine (dats m 0 c).arrAt_eq_of_covers 7 _ (by decide +kernel) fun t _ y => ?_
  blk_simp
  rw [after0_7, out7]
  have e : (win0_7.blk t).view.emb y = ix2 (y 0) (row t (y 1)) := by
    unfold row
    blk_ext! [idx t]
  rw [e]
  exact (congrArg _ (eq_ix2 y)).trans ((turned_at _ (y 1) (y 0)).trans (value_at m c t (y 1) (y 0)))

theorem final8 : (dats m 0 c).arrAt 8 (cfgs 0).N = inArr (zA m c) := by
  refine (dats m 0 c).arrAt_eq_of_covers 8 _ (by decide +kernel) fun t _ y => ?_
  blk_simp
  rw [after0_8, out8]
  have e : (win0_8.blk t).view.emb y = ix2 (row t (y 0)) (y 1) := by
    unfold row
    blk_ext! [idx t]
  rw [e]
  exact (congrArg _ (eq_ix2 y)).trans (congrFun (rows_z m c t (y 0)) (y 1))

end Cert.XaOutIdeal.Value

end
-- ==== Proof.XaOutReference.lean ====
module

public import proofs.«01_k».proof.Proof.Gen.XaOutRefIdeal.Read
public import proofs.«01_k».proof.Proof.LnFwd

/-! # The arrays the reference returns at the norm behind the cross attention -/

@[expose] public section

set_option maxRecDepth 16384

noncomputable section

namespace Cert.XaOutRefIdeal.Read

open Cert.XaOutRefIdeal Idealize.ShloMosaic Idealize.ShloMosaic.TcCoe Idealize.SL.Sem Cert.LnSpec Cert.LnFwd

variable (A : FVec Ideal S4096x1024 .f32) (W : FVec Ideal S1024x1024 .f32) (H : FVec Ideal S4096x1024 .f32) (G B : FVec Ideal S1024 .f32)

/-- The norm's input. -/
theorem z_at : mat (val_main_v3 (F := Ideal) A W H) = zOf (mat H) (mat A) (mat W) := by
  funext i j
  unfold zOf mat
  pointwise [val_main_v3, val_main_v2, val_main_v1, val_main_v0, val_main_cst]

theorem out_arr : val_main_v27 (F := Ideal) A W H G B = outArr (zOf (mat H) (mat A) (mat W)) (vec G) (vec B) := by
  rw [← z_at]
  exact Eq.trans rfl (tail_arr (val_main_v3 (F := Ideal) A W H) G B)

theorem narrow_arr : val_main_v28 (F := Ideal) A W H G B = (outArr (zOf (mat H) (mat A) (mat W)) (vec G) (vec B) : FVec Ideal S4096x1024 .bf16) := by
  rw [← out_arr]
  rfl

theorem turned_arr : val_main_v30 (F := Ideal) A W H G B = outT (zOf (mat H) (mat A) (mat W)) (vec G) (vec B) := by
  funext i
  refine (congrArg _ (eq_ix2 i)).trans (Eq.trans ?_ (congrFun (out_arr A W H G B) (ix2 (i 1) (i 0))))
  generalize i 0 = j
  generalize i 1 = k
  unfold val_main_v30 val_main_v29
  generalize val_main_v27 (F := Ideal) A W H G B = y
  pointwise

theorem in_arr : val_main_v3 (F := Ideal) A W H = inArr (zOf (mat H) (mat A) (mat W)) := by
  rw [← z_at]
  exact funext fun i => congrArg _ (eq_ix2 i)

end Cert.XaOutRefIdeal.Read

end
-- ==== Proof.XaOutClaim.lean ====
module

public import proofs.«01_k».proof.Defs
public import proofs.«01_k».proof.Proof.Gen.XaOut
public import proofs.«01_k».proof.Proof.Gen.XaOutRefIdeal
public import proofs.«01_k».proof.Proof.XaOutKernel
public import proofs.«01_k».proof.Proof.XaOutReference
public import Idealize.ShloMosaic.Lib.Claim

/-! # `_mm_res_ln` behind the cross attention: the claims of the pair -/

@[expose] public section

set_option maxRecDepth 16384

noncomputable section

namespace Cert.XaOutClaim

open Idealize.ShloMosaic Idealize.SL.Sem

local instance : Cert.XaOut.Facts := Cert.XaOut.Gen.facts
local instance : Cert.XaOutIdeal.Facts := Cert.XaOutIdeal.Gen.facts
local instance : Cert.XaOutRefIdeal.Facts := Cert.XaOutRefIdeal.Gen.facts

theorem frame_ideal : Cert.quiescent_XaOutIdeal := fun m g _ => Cert.XaOutIdeal.Gen.frame m g

theorem main_eq : Cert.XaOut.main (F := Bits) = Cert.XaOutIdeal.main (F := Bits) := by sl_kernel_rfl

theorem defs_eq : Cert.XaOut.defs (F := Bits) = Cert.XaOutIdeal.defs (F := Bits) := by sl_kernel_rfl

/-- The kernel's program is its idealized program over the machine's floats: one run serves both. -/
theorem frame_kernel : Cert.quiescent_XaOut := fun m g _ => by
  rw [defs_eq, main_eq]
  exact Cert.XaOutIdeal.Gen.frame (F := Bits) m g

theorem frame_reference : Cert.quiescent_XaOutRefIdeal := by
  intro m g _
  exact (θ_run _ _ _).mono (fun r h => ⟨fun c => (h c).2.2.2.2, sem_eq_zero_of_no_sems rfl _⟩) (Cert.XaOutRefIdeal.Value.run m g)

theorem algebraic : Cert.algebraic_XaOutIdeal_XaOutRefIdeal := by
  pair_intro
  · run_from Cert.XaOutIdeal.Gen.run_main m g
  · run_from Cert.XaOutRefIdeal.Value.run m' g'
    · rw [Cert.XaOutRefIdeal.Read.val_main_v27_eq, Cert.XaOutRefIdeal.Read.out_arr]
      exact (Cert.XaOutIdeal.Value.final5 m c).symm
    · rw [Cert.XaOutRefIdeal.Read.val_main_v28_eq, Cert.XaOutRefIdeal.Read.narrow_arr]
      exact (Cert.XaOutIdeal.Value.final6 m c).symm
    · rw [Cert.XaOutRefIdeal.Read.val_main_v30_eq, Cert.XaOutRefIdeal.Read.turned_arr]
      exact (Cert.XaOutIdeal.Value.final7 m c).symm
    · rw [Cert.XaOutRefIdeal.Read.val_main_v3_eq, Cert.XaOutRefIdeal.Read.in_arr]
      exact (Cert.XaOutIdeal.Value.final8 m c).symm

end Cert.XaOutClaim

end
-- ==== Proof.FfnOutKernel.lean ====
module

public import proofs.«01_k».proof.Proof.Gen.FfnOutIdeal.Value
public import proofs.«01_k».proof.Proof.LnFwd
public import Idealize.ShloMosaic.Lib.Pipeline.ReadBack
public import Idealize.ShloMosaic.Lib.Claim

/-! # The arrays `_mm_res_ln` returns behind the feed-forward part -/

@[expose] public section

set_option maxRecDepth 16384

noncomputable section

namespace Cert.FfnOutIdeal.Value

open Cert.FfnOutIdeal Cert.FfnOutIdeal.Gen Idealize.ShloMosaic Idealize.ShloMosaic.TcCoe Idealize.SL.Sem Cert.LnSpec Cert.LnBlock Cert.LnFwd
open Idealize.ShloMosaic.Pipeline (Dat)

/-! ## One grid point -/

section
variable (x0 : FVec Ideal S512x2816 .bf16) (x1 : FVec Ideal S2816x1024 .bf16) (x2 : Block) (x3 x4 : Line)

theorem zeros : (![0, 0] : Fin 2 → ℕ) = fun _ => 0 := by decide

/-- The norm's input. -/
abbrev zB : Block := k0_pay2 x2 x0 x1

theorem out5 : out0_5 (F := Ideal) x0 x1 x2 x3 x4 = out (zB x0 x1 x2) x3 x4 := by
  unfold out0_5
  rw [View.canon_unit_zero zeros]
  repeat rw [View.ld_unit_zero zeros]
  rfl

theorem out6 : out0_6 (F := Ideal) x0 x1 x2 x3 x4 = truncf .bf16 (out (zB x0 x1 x2) x3 x4) bitsLt_bf16_f32 := by
  unfold out0_6
  rw [View.canon_unit_zero zeros]
  repeat rw [View.ld_unit_zero zeros]
  rfl

theorem out7 : out0_7 (F := Ideal) x0 x1 x2 x3 x4 = k0_pay1 (out (zB x0 x1 x2) x3 x4) := by
  unfold out0_7
  rw [View.canon_unit_zero zeros]
  repeat rw [View.ld_unit_zero zeros]
  rfl

theorem out8 : out0_8 (F := Ideal) x0 x1 x2 x3 x4 = zB x0 x1 x2 := by
  unfold out0_8
  rw [View.canon_unit_zero zeros]
  repeat rw [View.ld_unit_zero zeros]

/-- The transposed block. -/
theorem turned_at (x : Block) (r : Fin 512) (j : Fin 1024) : k0_pay1 (F := Ideal) x (ix2 j r) = x (ix2 r j) := by
  pointwise [k0_pay1]
end

variable (m : (ℓ : Loc nD τ sig) → Buf (Elt Ideal) ℓ) (c : Dev nD) (t : Fin cfg0.N)

/-! ## The blocks -/

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, t.val] ∧ win0_8.index t = ![t.val, 0] :=
  (by decide +kernel : ∀ t : Fin grid0.N, _)

/-- The norm's input. -/
def zA : Fin 4096 → Row :=
  zOf (mat (m ((c : Thread nD τ).loc main_arg2))) (mat (m ((c : Thread nD τ).loc main_arg0))) (mat (m ((c : Thread nD τ).loc main_arg1)))

/-- The norm's gains. -/
def gA : Row := vec (m ((c : Thread nD τ).loc main_arg3))

/-- The norm's bias. -/
def bA : Row := vec (m ((c : Thread nD τ).loc main_arg4))

theorem opnd0_at (i : Fin 4096) (k : Fin 2816) : (V m c main_v0 : FVec Ideal S4096x2816 .bf16) (ix2 i k)
    = m ((c : Thread nD τ).loc main_arg0) (ix2 i k) := by
  entry_read
  pointwise

theorem opnd1_at (k : Fin 2816) (j : Fin 1024) : (V m c main_v1 : FVec Ideal S2816x1024 .bf16) (ix2 k j)
    = m ((c : Thread nD τ).loc main_arg1) (ix2 k j) := by
  entry_read
  pointwise

theorem opnd3_at (j : Fin 1024) : (V m c main_v2 : FVec Ideal S1x1024 .f32) (ix2 0 j) = gA m c j := by
  entry_read
  pointwise [gA, vec]

theorem opnd4_at (j : Fin 1024) : (V m c main_v3 : FVec Ideal S1x1024 .f32) (ix2 0 j) = bA m c j := by
  entry_read
  pointwise [bA, vec]

theorem block0 (r : Fin 512) (k : Fin 2816) : (iblk m c 0 t : FVec Ideal S512x2816 .bf16) (ix2 r k)
    = m ((c : Thread nD τ).loc main_arg0) (ix2 (row t r) k) := by
  refine Eq.trans ?_ (opnd0_at m c (row t r) k)
  unfold row
  blk_ext! [iblk, idx t]

theorem block1 (k : Fin 2816) (j : Fin 1024) : (iblk m c 1 t : FVec Ideal S2816x1024 .bf16) (ix2 k j)
    = m ((c : Thread nD τ).loc main_arg1) (ix2 k j) := by
  refine Eq.trans ?_ (opnd1_at m c k j)
  blk_ext! [iblk, idx t]

theorem block2 (r : Fin 512) (j : Fin 1024) : (iblk m c 2 t : Block) (ix2 r j) = m ((c : Thread nD τ).loc main_arg2) (ix2 (row t r) j) := by
  unfold row
  blk_ext! [iblk, V, idx t]

theorem line3 : lineOf (iblk m c 3 t) = gA m c := by
  funext j
  refine Eq.trans ?_ (opnd3_at m c j)
  unfold lineOf
  blk_ext! [iblk, idx t]

theorem line4 : lineOf (iblk m c 4 t) = bA m c := by
  funext j
  refine Eq.trans ?_ (opnd4_at m c j)
  unfold lineOf
  blk_ext! [iblk, idx t]

/-- The block's norm input. -/
abbrev zT : Block := zB (iblk m c 0 t) (iblk m c 1 t) (iblk m c 2 t)

theorem rows_z (r : Fin 512) : rowOf (zT m c t) r = zA m c (row t r) := by
  funext j
  unfold zA zOf mat
  simp only [← block0 m c t, ← block1 m c t, ← block2 m c t]
  unfold rowOf
  pointwise [k0_pay2]

theorem value_at (r : Fin 512) (j : Fin 1024) :
    out (zT m c t) (iblk m c 3 t) (iblk m c 4 t) (ix2 r j) = outRow (zA m c (row t r)) (gA m c) (bA m c) j := by
  refine (out_at _ _ _ r j).trans ?_
  rw [rows_z, line3, line4]

/-! ## The arrays -/

theorem final5 : (dats m 0 c).arrAt 5 (cfgs 0).N = outArr (zA m c) (gA m c) (bA m c) := by
  refine (dats m 0 c).arrAt_eq_of_covers 5 _ (by decide +kernel) fun t _ y => ?_
  blk_simp
  rw [after0_5, out5]
  have e : (win0_5.blk t).view.emb y = ix2 (row t (y 0)) (y 1) := by
    unfold row
    blk_ext! [idx t]
  rw [e]
  exact (congrArg _ (eq_ix2 y)).trans (value_at m c t (y 0) (y 1))

theorem final6 : (dats m 0 c).arrAt 6 (cfgs 0).N = (outArr (zA m c) (gA m c) (bA m c) : FVec Ideal S4096x1024 .bf16) := by
  refine (dats m 0 c).arrAt_eq_of_covers 6 _ (by decide +kernel) fun t _ y => ?_
  blk_simp
  rw [after0_6, out6]
  have e : (win0_6.blk t).view.emb y = ix2 (row t (y 0)) (y 1) := by
    unfold row
    blk_ext! [idx t]
  rw [e]
  exact (congrArg _ (eq_ix2 y)).trans (value_at m c t (y 0) (y 1))

theorem final7 : (dats m 0 c).arrAt 7 (cfgs 0).N = outT (zA m c) (gA m c) (bA m c) := by
  refine (dats m 0 c).arrAt_eq_of_covers 7 _ (by decide +kernel) fun t _ y => ?_
  blk_simp
  rw [after0_7, out7]
  have e : (win0_7.blk t).view.emb y = ix2 (y 0) (row t (y 1)) := by
    unfold row
    blk_ext! [idx t]
  rw [e]
  exact (congrArg _ (eq_ix2 y)).trans ((turned_at _ (y 1) (y 0)).trans (value_at m c t (y 1) (y 0)))

theorem final8 : (dats m 0 c).arrAt 8 (cfgs 0).N = inArr (zA m c) := by
  refine (dats m 0 c).arrAt_eq_of_covers 8 _ (by decide +kernel) fun t _ y => ?_
  blk_simp
  rw [after0_8, out8]
  have e : (win0_8.blk t).view.emb y = ix2 (row t (y 0)) (y 1) := by
    unfold row
    blk_ext! [idx t]
  rw [e]
  exact (congrArg _ (eq_ix2 y)).trans (congrFun (rows_z m c t (y 0)) (y 1))

end Cert.FfnOutIdeal.Value

end
-- ==== Proof.FfnOutReference.lean ====
module

public import proofs.«01_k».proof.Proof.Gen.FfnOutRefIdeal.Read
public import proofs.«01_k».proof.Proof.LnFwd

/-! # The arrays the reference returns at the norm behind the feed-forward part -/

@[expose] public section

set_option maxRecDepth 16384

noncomputable section

namespace Cert.FfnOutRefIdeal.Read

open Cert.FfnOutRefIdeal Idealize.ShloMosaic Idealize.ShloMosaic.TcCoe Idealize.SL.Sem Cert.LnSpec Cert.LnFwd

variable (A : FVec Ideal S4096x2816 .f32) (W : FVec Ideal S2816x1024 .f32) (H : FVec Ideal S4096x1024 .f32) (G B : FVec Ideal S1024 .f32)

/-- The norm's input. -/
theorem z_at : mat (val_main_v3 (F := Ideal) A W H) = zOf (mat H) (mat A) (mat W) := by
  funext i j
  unfold zOf mat
  pointwise [val_main_v3, val_main_v2, val_main_v1, val_main_v0, val_main_cst]

theorem out_arr : val_main_v27 (F := Ideal) A W H G B = outArr (zOf (mat H) (mat A) (mat W)) (vec G) (vec B) := by
  rw [← z_at]
  exact Eq.trans rfl (tail_arr (val_main_v3 (F := Ideal) A W H) G B)

theorem narrow_arr : val_main_v28 (F := Ideal) A W H G B = (outArr (zOf (mat H) (mat A) (mat W)) (vec G) (vec B) : FVec Ideal S4096x1024 .bf16) := by
  rw [← out_arr]
  rfl

theorem turned_arr : val_main_v30 (F := Ideal) A W H G B = outT (zOf (mat H) (mat A) (mat W)) (vec G) (vec B) := by
  funext i
  refine (congrArg _ (eq_ix2 i)).trans (Eq.trans ?_ (congrFun (out_arr A W H G B) (ix2 (i 1) (i 0))))
  generalize i 0 = j
  generalize i 1 = k
  unfold val_main_v30 val_main_v29
  generalize val_main_v27 (F := Ideal) A W H G B = y
  pointwise

theorem in_arr : val_main_v3 (F := Ideal) A W H = inArr (zOf (mat H) (mat A) (mat W)) := by
  rw [← z_at]
  exact funext fun i => congrArg _ (eq_ix2 i)

end Cert.FfnOutRefIdeal.Read

end
-- ==== Proof.FfnOutClaim.lean ====
module

public import proofs.«01_k».proof.Defs
public import proofs.«01_k».proof.Proof.Gen.FfnOut
public import proofs.«01_k».proof.Proof.Gen.FfnOutRefIdeal
public import proofs.«01_k».proof.Proof.FfnOutKernel
public import proofs.«01_k».proof.Proof.FfnOutReference
public import Idealize.ShloMosaic.Lib.Claim

/-! # `_mm_res_ln` behind the feed-forward part: the claims of the pair -/

@[expose] public section

set_option maxRecDepth 16384

noncomputable section

namespace Cert.FfnOutClaim

open Idealize.ShloMosaic Idealize.SL.Sem

local instance : Cert.FfnOut.Facts := Cert.FfnOut.Gen.facts
local instance : Cert.FfnOutIdeal.Facts := Cert.FfnOutIdeal.Gen.facts
local instance : Cert.FfnOutRefIdeal.Facts := Cert.FfnOutRefIdeal.Gen.facts

theorem frame_ideal : Cert.quiescent_FfnOutIdeal := fun m g _ => Cert.FfnOutIdeal.Gen.frame m g

theorem main_eq : Cert.FfnOut.main (F := Bits) = Cert.FfnOutIdeal.main (F := Bits) := by sl_kernel_rfl

theorem defs_eq : Cert.FfnOut.defs (F := Bits) = Cert.FfnOutIdeal.defs (F := Bits) := by sl_kernel_rfl

/-- The kernel's program is its idealized program over the machine's floats: one run serves both. -/
theorem frame_kernel : Cert.quiescent_FfnOut := fun m g _ => by
  rw [defs_eq, main_eq]
  exact Cert.FfnOutIdeal.Gen.frame (F := Bits) m g

theorem frame_reference : Cert.quiescent_FfnOutRefIdeal := by
  intro m g _
  exact (θ_run _ _ _).mono (fun r h => ⟨fun c => (h c).2.2.2.2, sem_eq_zero_of_no_sems rfl _⟩) (Cert.FfnOutRefIdeal.Value.run m g)

theorem algebraic : Cert.algebraic_FfnOutIdeal_FfnOutRefIdeal := by
  pair_intro
  · run_from Cert.FfnOutIdeal.Gen.run_main m g
  · run_from Cert.FfnOutRefIdeal.Value.run m' g'
    · rw [Cert.FfnOutRefIdeal.Read.val_main_v27_eq, Cert.FfnOutRefIdeal.Read.out_arr]
      exact (Cert.FfnOutIdeal.Value.final5 m c).symm
    · rw [Cert.FfnOutRefIdeal.Read.val_main_v28_eq, Cert.FfnOutRefIdeal.Read.narrow_arr]
      exact (Cert.FfnOutIdeal.Value.final6 m c).symm
    · rw [Cert.FfnOutRefIdeal.Read.val_main_v30_eq, Cert.FfnOutRefIdeal.Read.turned_arr]
      exact (Cert.FfnOutIdeal.Value.final7 m c).symm
    · rw [Cert.FfnOutRefIdeal.Read.val_main_v3_eq, Cert.FfnOutRefIdeal.Read.in_arr]
      exact (Cert.FfnOutIdeal.Value.final8 m c).symm

end Cert.FfnOutClaim

end
-- ==== Proof.MixOutKernel.lean ====
module

public import proofs.«01_k».proof.Proof.Gen.MixOutIdeal.Value
public import proofs.«01_k».proof.Proof.LnFwd
public import Idealize.ShloMosaic.Lib.Pipeline.ReadBack
public import Idealize.ShloMosaic.Lib.Claim

/-! # The arrays `_mm_res_ln` returns behind the mixer -/

@[expose] public section

set_option maxRecDepth 16384

noncomputable section

namespace Cert.MixOutIdeal.Value

open Cert.MixOutIdeal Cert.MixOutIdeal.Gen Idealize.ShloMosaic Idealize.ShloMosaic.TcCoe Idealize.SL.Sem Cert.LnSpec Cert.LnBlock Cert.LnFwd
open Idealize.ShloMosaic.Pipeline (Dat)

/-! ## One grid point -/

section
variable (x0 x1 : FVec Ideal S512x512 .bf16) (x2 x3 : FVec Ideal S512x1024 .bf16) (x4 : Block) (x5 x6 : Line)

theorem zeros : (![0, 0] : Fin 2 → ℕ) = fun _ => 0 := by decide

/-- The norm's input. -/
abbrev zB : Block := k0_pay4 x4 x0 x2 x1 x3

/-- The transposed block. -/
def turned (x : Block) : FVec Ideal S1024x512 .bf16 := truncf .bf16 (transpose S1024x512 [1, 0] x transposes_S512x1024_p1_0_S1024x512) bitsLt_bf16_f32

theorem out7 : out0_7 (F := Ideal) x0 x1 x2 x3 x4 x5 x6 = out (zB x0 x1 x2 x3 x4) x5 x6 := by
  unfold_out out0_7
  rw [View.canon_unit_zero zeros]
  repeat rw [View.ld_unit_zero zeros]
  rfl

theorem out8 : out0_8 (F := Ideal) x0 x1 x2 x3 x4 x5 x6 = truncf .bf16 (out (zB x0 x1 x2 x3 x4) x5 x6) bitsLt_bf16_f32 := by
  unfold_out out0_8
  rw [View.canon_unit_zero zeros]
  repeat rw [View.ld_unit_zero zeros]
  rfl

theorem out9 : out0_9 (F := Ideal) x0 x1 x2 x3 x4 x5 x6 = turned (out (zB x0 x1 x2 x3 x4) x5 x6) := by
  unfold_out out0_9
  rw [View.canon_unit_zero zeros]
  repeat rw [View.ld_unit_zero zeros]
  rfl

theorem out10 : out0_10 (F := Ideal) x0 x1 x2 x3 x4 x5 x6 = zB x0 x1 x2 x3 x4 := by
  unfold_out out0_10
  rw [View.canon_unit_zero zeros]
  repeat rw [View.ld_unit_zero zeros]

theorem turned_at (x : Block) (r : Fin 512) (j : Fin 1024) : turned x (ix2 j r) = x (ix2 r j) := by
  pointwise [turned]
end

variable (m : (ℓ : Loc nD τ sig) → Buf (Elt Ideal) ℓ) (c : Dev nD) (t : Fin cfg0.N)

/-! ## The blocks -/

theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![0, 0]
    ∧ win0_7.index t = ![t.val, 0] ∧ win0_8.index t = ![t.val, 0] ∧ win0_9.index t = ![0, t.val] ∧ win0_10.index t = ![t.val, 0] :=
  (by decide +kernel : ∀ t : Fin grid0.N, _)

/-- The norm's input. -/
def zA : Fin 4096 → Row :=
  zOf (mat (m ((c : Thread nD τ).loc main_arg3)))
    (both (mat (m ((c : Thread nD τ).loc main_arg0))) (mat (m ((c : Thread nD τ).loc main_arg1)))) (mat (m ((c : Thread nD τ).loc main_arg2)))

/-- The norm's gains. -/
def gA : Row := vec (m ((c : Thread nD τ).loc main_arg4))

/-- The norm's bias. -/
def bA : Row := vec (m ((c : Thread nD τ).loc main_arg5))

theorem opnd0_at (i : Fin 4096) (k : Fin 512) : (V m c main_v0 : FVec Ideal S4096x512 .bf16) (ix2 i k)
    = m ((c : Thread nD τ).loc main_arg0) (ix2 i k) := by
  entry_read
  pointwise

theorem opnd1_at (i : Fin 4096) (k : Fin 512) : (V m c main_v1 : FVec Ideal S4096x512 .bf16) (ix2 i k)
    = m ((c : Thread nD τ).loc main_arg1) (ix2 i k) := by
  entry_read
  pointwise

theorem opnd2_at (k : Fin 1024) (j : Fin 1024) : (V m c main_v2 : FVec Ideal S1024x1024 .bf16) (ix2 k j)
    = m ((c : Thread nD τ).loc main_arg2) (ix2 k j) := by
  entry_read
  pointwise

theorem opnd5_at (j : Fin 1024) : (V m c main_v3 : FVec Ideal S1x1024 .f32) (ix2 0 j) = gA m c j := by
  entry_read
  pointwise [gA, vec]

theorem opnd6_at (j : Fin 1024) : (V m c main_v4 : FVec Ideal S1x1024 .f32) (ix2 0 j) = bA m c j := by
  entry_read
  pointwise [bA, vec]

theorem block0 (r : Fin 512) (k : Fin 512) : (iblk m c 0 t : FVec Ideal S512x512 .bf16) (ix2 r k)
    = m ((c : Thread nD τ).loc main_arg0) (ix2 (row t r) k) := by
  refine Eq.trans ?_ (opnd0_at m c (row t r) k)
  unfold row
  blk_ext! [iblk, idx t]

theorem block1 (r : Fin 512) (k : Fin 512) : (iblk m c 1 t : FVec Ideal S512x512 .bf16) (ix2 r k)
    = m ((c : Thread nD τ).loc main_arg1) (ix2 (row t r) k) := by
  refine Eq.trans ?_ (opnd1_at m c (row t r) k)
  unfold row
  blk_ext! [iblk, idx t]

theorem block2 (k : Fin 512) (j : Fin 1024) : (iblk m c 2 t : FVec Ideal S512x1024 .bf16) (ix2 k j)
    = m ((c : Thread nD τ).loc main_arg2) (ix2 (lo k) j) := by
  refine Eq.trans ?_ (opnd2_at m c (lo k) j)
  unfold lo
  blk_ext! [iblk, idx t]

theorem block3 (k : Fin 512) (j : Fin 1024) : (iblk m c 3 t : FVec Ideal S512x1024 .bf16) (ix2 k j)
    = m ((c : Thread nD τ).loc main_arg2) (ix2 (hi k) j) := by
  refine Eq.trans ?_ (opnd2_at m c (hi k) j)
  unfold hi
  blk_ext! [iblk, idx t]

theorem block4 (r : Fin 512) (j : Fin 1024) : (iblk m c 4 t : Block) (ix2 r j) = m ((c : Thread nD τ).loc main_arg3) (ix2 (row t r) j) := by
  unfold row
  blk_ext! [iblk, V, idx t]

theorem line5 : lineOf (iblk m c 5 t) = gA m c := by
  funext j
  refine Eq.trans ?_ (opnd5_at m c j)
  unfold lineOf
  blk_ext! [iblk, idx t]

theorem line6 : lineOf (iblk m c 6 t) = bA m c := by
  funext j
  refine Eq.trans ?_ (opnd6_at m c j)
  unfold lineOf
  blk_ext! [iblk, idx t]

/-- The block's norm input. -/
abbrev zT : Block := zB (iblk m c 0 t) (iblk m c 1 t) (iblk m c 2 t) (iblk m c 3 t) (iblk m c 4 t)

theorem rows_z (r : Fin 512) : rowOf (zT m c t) r = zA m c (row t r) := by
  funext j
  unfold zA
  rw [two_products]
  unfold mat
  simp only [← block0 m c t, ← block1 m c t, ← block2 m c t, ← block3 m c t, ← block4 m c t]
  unfold rowOf
  pointwise [k0_pay4]

theorem value_at (r : Fin 512) (j : Fin 1024) :
    out (zT m c t) (iblk m c 5 t) (iblk m c 6 t) (ix2 r j) = outRow (zA m c (row t r)) (gA m c) (bA m c) j := by
  refine (out_at _ _ _ r j).trans ?_
  rw [rows_z, line5, line6]

/-! ## The arrays -/

theorem final7 : (dats m 0 c).arrAt 7 (cfgs 0).N = outArr (zA m c) (gA m c) (bA m c) := by
  refine (dats m 0 c).arrAt_eq_of_covers 7 _ (by decide +kernel) fun t _ y => ?_
  blk_simp
  rw [after0_7, out7]
  have e : (win0_7.blk t).view.emb y = ix2 (row t (y 0)) (y 1) := by
    unfold row
    blk_ext! [idx t]
  rw [e]
  exact (congrArg _ (eq_ix2 y)).trans (value_at m c t (y 0) (y 1))

theorem final8 : (dats m 0 c).arrAt 8 (cfgs 0).N = (outArr (zA m c) (gA m c) (bA m c) : FVec Ideal S4096x1024 .bf16) := by
  refine (dats m 0 c).arrAt_eq_of_covers 8 _ (by decide +kernel) fun t _ y => ?_
  blk_simp
  rw [after0_8, out8]
  have e : (win0_8.blk t).view.emb y = ix2 (row t (y 0)) (y 1) := by
    unfold row
    blk_ext! [idx t]
  rw [e]
  exact (congrArg _ (eq_ix2 y)).trans (value_at m c t (y 0) (y 1))

theorem final9 : (dats m 0 c).arrAt 9 (cfgs 0).N = outT (zA m c) (gA m c) (bA m c) := by
  refine (dats m 0 c).arrAt_eq_of_covers 9 _ (by decide +kernel) fun t _ y => ?_
  blk_simp
  rw [after0_9, out9]
  have e : (win0_9.blk t).view.emb y = ix2 (y 0) (row t (y 1)) := by
    unfold row
    blk_ext! [idx t]
  rw [e]
  exact (congrArg _ (eq_ix2 y)).trans ((turned_at _ (y 1) (y 0)).trans (value_at m c t (y 1) (y 0)))

theorem final10 : (dats m 0 c).arrAt 10 (cfgs 0).N = inArr (zA m c) := by
  refine (dats m 0 c).arrAt_eq_of_covers 10 _ (by decide +kernel) fun t _ y => ?_
  blk_simp
  rw [after0_10, out10]
  have e : (win0_10.blk t).view.emb y = ix2 (row t (y 0)) (y 1) := by
    unfold row
    blk_ext! [idx t]
  rw [e]
  exact (congrArg _ (eq_ix2 y)).trans (congrFun (rows_z m c t (y 0)) (y 1))

end Cert.MixOutIdeal.Value

end
-- ==== Proof.MixOutReference.lean ====
module

public import proofs.«01_k».proof.Proof.Gen.MixOutRefIdeal.Read
public import proofs.«01_k».proof.Proof.LnFwd

/-! # The arrays the reference returns at the norm behind the mixer -/

@[expose] public section

set_option maxRecDepth 16384

noncomputable section

namespace Cert.MixOutRefIdeal.Read

open Cert.MixOutRefIdeal Idealize.ShloMosaic Idealize.ShloMosaic.TcCoe Idealize.SL.Sem Cert.LnSpec Cert.LnFwd

variable (A₁ A₂ : FVec Ideal S4096x512 .f32) (W : FVec Ideal S1024x1024 .f32) (H : FVec Ideal S4096x1024 .f32) (G B : FVec Ideal S1024 .f32)

/-- Both halves side by side. -/
theorem both_at (i : Fin 4096) (k : Fin 1024) : val_main_v2 (F := Ideal) A₁ A₂ (ix2 i k) = both (mat A₁) (mat A₂) i k := by
  unfold both mat val_main_v2
  pointwise

/-- The norm's input. -/
theorem z_at : mat (val_main_v4 (F := Ideal) A₁ A₂ W H) = zOf (mat H) (both (mat A₁) (mat A₂)) (mat W) := by
  funext i j
  unfold zOf
  simp only [← both_at]
  unfold mat val_main_v4 val_main_v3
  generalize val_main_v2 (F := Ideal) A₁ A₂ = y
  pointwise [val_main_v1, val_main_v0, val_main_cst]

theorem out_arr : val_main_v28 (F := Ideal) A₁ A₂ W H G B = outArr (zOf (mat H) (both (mat A₁) (mat A₂)) (mat W)) (vec G) (vec B) := by
  rw [← z_at]
  exact Eq.trans rfl (tail_arr (val_main_v4 (F := Ideal) A₁ A₂ W H) G B)

theorem narrow_arr : val_main_v29 (F := Ideal) A₁ A₂ W H G B = (outArr (zOf (mat H) (both (mat A₁) (mat A₂)) (mat W)) (vec G) (vec B) : FVec Ideal S4096x1024 .bf16) := by
  rw [← out_arr]
  rfl

theorem turned_arr : val_main_v31 (F := Ideal) A₁ A₂ W H G B = outT (zOf (mat H) (both (mat A₁) (mat A₂)) (mat W)) (vec G) (vec B) := by
  funext i
  refine (congrArg _ (eq_ix2 i)).trans (Eq.trans ?_ (congrFun (out_arr A₁ A₂ W H G B) (ix2 (i 1) (i 0))))
  generalize i 0 = j
  generalize i 1 = k
  unfold val_main_v31 val_main_v30
  generalize val_main_v28 (F := Ideal) A₁ A₂ W H G B = y
  pointwise

theorem in_arr : val_main_v4 (F := Ideal) A₁ A₂ W H = inArr (zOf (mat H) (both (mat A₁) (mat A₂)) (mat W)) := by
  rw [← z_at]
  exact funext fun i => congrArg _ (eq_ix2 i)

end Cert.MixOutRefIdeal.Read

end
-- ==== Proof.MixOutClaim.lean ====
module

public import proofs.«01_k».proof.Defs
public import proofs.«01_k».proof.Proof.Gen.MixOut
public import proofs.«01_k».proof.Proof.Gen.MixOutRefIdeal
public import proofs.«01_k».proof.Proof.MixOutKernel
public import proofs.«01_k».proof.Proof.MixOutReference
public import Idealize.ShloMosaic.Lib.Claim

/-! # `_mm_res_ln` behind the mixer: the claims of the pair -/

@[expose] public section

set_option maxRecDepth 16384

noncomputable section

namespace Cert.MixOutClaim

open Idealize.ShloMosaic Idealize.SL.Sem

local instance : Cert.MixOut.Facts := Cert.MixOut.Gen.facts
local instance : Cert.MixOutIdeal.Facts := Cert.MixOutIdeal.Gen.facts
local instance : Cert.MixOutRefIdeal.Facts := Cert.MixOutRefIdeal.Gen.facts

theorem frame_ideal : Cert.quiescent_MixOutIdeal := fun m g _ => Cert.MixOutIdeal.Gen.frame m g

theorem main_eq : Cert.MixOut.main (F := Bits) = Cert.MixOutIdeal.main (F := Bits) := by sl_kernel_rfl

theorem defs_eq : Cert.MixOut.defs (F := Bits) = Cert.MixOutIdeal.defs (F := Bits) := by sl_kernel_rfl

/-- The kernel's program is its idealized program over the machine's floats: one run serves both. -/
theorem frame_kernel : Cert.quiescent_MixOut := fun m g _ => by
  rw [defs_eq, main_eq]
  exact Cert.MixOutIdeal.Gen.frame (F := Bits) m g

theorem frame_reference : Cert.quiescent_MixOutRefIdeal := by
  intro m g _
  exact (θ_run _ _ _).mono (fun r h => ⟨fun c => (h c).2.2.2.2, sem_eq_zero_of_no_sems rfl _⟩) (Cert.MixOutRefIdeal.Value.run m g)

theorem algebraic : Cert.algebraic_MixOutIdeal_MixOutRefIdeal := by
  pair_intro
  · run_from Cert.MixOutIdeal.Gen.run_main m g
  · run_from Cert.MixOutRefIdeal.Value.run m' g'
    · rw [Cert.MixOutRefIdeal.Read.val_main_v28_eq, Cert.MixOutRefIdeal.Read.out_arr,
        (hagree c).1, (hagree c).2.1, (hagree c).2.2.1, (hagree c).2.2.2.1, (hagree c).2.2.2.2.1, (hagree c).2.2.2.2.2]
      exact (Cert.MixOutIdeal.Value.final7 m c).symm
    · rw [Cert.MixOutRefIdeal.Read.val_main_v29_eq, Cert.MixOutRefIdeal.Read.narrow_arr,
        (hagree c).1, (hagree c).2.1, (hagree c).2.2.1, (hagree c).2.2.2.1, (hagree c).2.2.2.2.1, (hagree c).2.2.2.2.2]
      exact (Cert.MixOutIdeal.Value.final8 m c).symm
    · rw [Cert.MixOutRefIdeal.Read.val_main_v31_eq, Cert.MixOutRefIdeal.Read.turned_arr,
        (hagree c).1, (hagree c).2.1, (hagree c).2.2.1, (hagree c).2.2.2.1, (hagree c).2.2.2.2.1, (hagree c).2.2.2.2.2]
      exact (Cert.MixOutIdeal.Value.final9 m c).symm
    · rw [Cert.MixOutRefIdeal.Read.val_main_v4_eq, Cert.MixOutRefIdeal.Read.in_arr]
      exact (Cert.MixOutIdeal.Value.final10 m c).symm

end Cert.MixOutClaim

end
-- ==== Proof.MlstmFwdClaim.lean ====
module

public import proofs.«01_k».proof.Defs
public import proofs.«01_k».proof.Proof.Gen.MlstmFwd
public import proofs.«01_k».proof.Proof.Gen.MlstmFwdIdeal.Frame

/-! # `_mlstm_fwd`: the frames of the call -/

@[expose] public section

set_option maxRecDepth 16384

noncomputable section

namespace Cert.MlstmFwdClaim

open Idealize.ShloMosaic Idealize.SL.Sem

local instance : Cert.MlstmFwd.Facts := Cert.MlstmFwd.Gen.facts
local instance : Cert.MlstmFwdIdeal.Facts := Cert.MlstmFwdIdeal.Gen.facts

theorem frame_ideal : Cert.quiescent_MlstmFwdIdeal := fun m g _ => Cert.MlstmFwdIdeal.Gen.frame m g

theorem main_eq : Cert.MlstmFwd.main (F := Bits) = Cert.MlstmFwdIdeal.main (F := Bits) := by sl_kernel_rfl

theorem defs_eq : Cert.MlstmFwd.defs (F := Bits) = Cert.MlstmFwdIdeal.defs (F := Bits) := by sl_kernel_rfl

/-- The kernel's program is its idealized program over the machine's floats: one run serves both. -/
theorem frame_kernel : Cert.quiescent_MlstmFwd := fun m g _ => by
  rw [defs_eq, main_eq]
  exact Cert.MlstmFwdIdeal.Gen.frame (F := Bits) m g

end Cert.MlstmFwdClaim

end
-- ==== Proof.MlstmBwdClaim.lean ====
module

public import proofs.«01_k».proof.Defs
public import proofs.«01_k».proof.Proof.Gen.MlstmBwd.Frame
public import proofs.«01_k».proof.Proof.Gen.MlstmBwdIdeal.Frame

/-! # `_mlstm_bwd`: the frames of the call

Over the machine's floats the sign of the denominator is read from its word, in the idealized program by a comparison: the two
programs have a run each. -/

@[expose] public section

set_option maxRecDepth 16384

noncomputable section

namespace Cert.MlstmBwdClaim

open Idealize.ShloMosaic Idealize.SL.Sem

local instance : Cert.MlstmBwd.Facts := Cert.MlstmBwd.Gen.facts
local instance : Cert.MlstmBwdIdeal.Facts := Cert.MlstmBwdIdeal.Gen.facts

theorem frame_kernel : Cert.quiescent_MlstmBwd := fun m g _ => Cert.MlstmBwd.Gen.frame (F := Bits) m g

theorem frame_ideal : Cert.quiescent_MlstmBwdIdeal := fun m g _ => Cert.MlstmBwdIdeal.Gen.frame m g

theorem preserves : Cert.preserves_MlstmBwd_MlstmBwdIdeal := IdealRules.sign_bit.statement Cert.MlstmBwdIdeal.S4x64x1 .f32

end Cert.MlstmBwdClaim

end
-- ==== Proof.lean ====
/- The claims of every pair, put together. -/
module

public import proofs.«01_k».proof.Defs
public import proofs.«01_k».proof.Proof.ConvClaim
public import proofs.«01_k».proof.Proof.FfnClaim
public import proofs.«01_k».proof.Proof.LossClaim
public import proofs.«01_k».proof.Proof.H2Claim
public import proofs.«01_k».proof.Proof.H1Claim
public import proofs.«01_k».proof.Proof.H0Claim
public import proofs.«01_k».proof.Proof.XaClaim
public import proofs.«01_k».proof.Proof.XaFwdClaim
public import proofs.«01_k».proof.Proof.SwaFwdClaim
public import proofs.«01_k».proof.Proof.SwaBwdClaim
public import proofs.«01_k».proof.Proof.BiasClaim
public import proofs.«01_k».proof.Proof.ConvFwdClaim
public import proofs.«01_k».proof.Proof.FfnFwdClaim
public import proofs.«01_k».proof.Proof.BiasFwdClaim
public import proofs.«01_k».proof.Proof.XaOutClaim
public import proofs.«01_k».proof.Proof.FfnOutClaim
public import proofs.«01_k».proof.Proof.MixOutClaim
public import proofs.«01_k».proof.Proof.MlstmFwdClaim
public import proofs.«01_k».proof.Proof.MlstmBwdClaim

@[expose] public section

noncomputable section

namespace Cert.Proof

theorem claim : Cert.Claim := ⟨
  Cert.ConvBwd.Gen.facts, Cert.ConvBwdIdeal.Gen.facts, Cert.ConvRefIdeal.Gen.facts,
  Cert.FfnBwd.Gen.facts, Cert.FfnBwdIdeal.Gen.facts, Cert.FfnRefIdeal.Gen.facts,
  Cert.LossBwd.Gen.facts, Cert.LossBwdIdeal.Gen.facts, Cert.LossRefIdeal.Gen.facts,
  Cert.H2Bwd.Gen.facts, Cert.H2BwdIdeal.Gen.facts, Cert.H2RefIdeal.Gen.facts,
  Cert.H1Bwd.Gen.facts, Cert.H1BwdIdeal.Gen.facts, Cert.H1RefIdeal.Gen.facts,
  Cert.H0Bwd.Gen.facts, Cert.H0BwdIdeal.Gen.facts, Cert.H0RefIdeal.Gen.facts,
  Cert.XaBwd.Gen.facts, Cert.XaBwdIdeal.Gen.facts, Cert.XaRefIdeal.Gen.facts,
  Cert.XaFwd.Gen.facts, Cert.XaFwdIdeal.Gen.facts, Cert.XaFwdRefIdeal.Gen.facts,
  Cert.SwaFwd.Gen.facts, Cert.SwaFwdIdeal.Gen.facts, Cert.SwaFwdRefIdeal.Gen.facts,
  Cert.SwaBwd.Gen.facts, Cert.SwaBwdIdeal.Gen.facts, Cert.SwaRefIdeal.Gen.facts,
  Cert.BiasBwd.Gen.facts, Cert.BiasBwdIdeal.Gen.facts, Cert.BiasRefIdeal.Gen.facts,
  Cert.ConvFwd.Gen.facts, Cert.ConvFwdIdeal.Gen.facts, Cert.ConvFwdRefIdeal.Gen.facts,
  Cert.FfnFwd.Gen.facts, Cert.FfnFwdIdeal.Gen.facts, Cert.FfnFwdRefIdeal.Gen.facts,
  Cert.BiasFwd.Gen.facts, Cert.BiasFwdIdeal.Gen.facts, Cert.BiasFwdRefIdeal.Gen.facts,
  Cert.XaOut.Gen.facts, Cert.XaOutIdeal.Gen.facts, Cert.XaOutRefIdeal.Gen.facts,
  Cert.FfnOut.Gen.facts, Cert.FfnOutIdeal.Gen.facts, Cert.FfnOutRefIdeal.Gen.facts,
  Cert.MixOut.Gen.facts, Cert.MixOutIdeal.Gen.facts, Cert.MixOutRefIdeal.Gen.facts,
  Cert.MlstmFwd.Gen.facts, Cert.MlstmFwdIdeal.Gen.facts, Cert.MlstmBwd.Gen.facts, Cert.MlstmBwdIdeal.Gen.facts,
  Cert.Pre_ffn_finite.Gen.facts, Cert.Pre_loss_finite.Gen.facts, Cert.Pre_h2_finite.Gen.facts, Cert.Pre_h1_finite.Gen.facts, Cert.Pre_h0_finite.Gen.facts, Cert.Pre_swa_finite.Gen.facts,
  Cert.ConvClaim.frame_kernel, Cert.ConvClaim.frame_ideal, Cert.ConvClaim.frame_reference,
  Cert.FfnClaim.frame_kernel, Cert.FfnClaim.frame_ideal, Cert.FfnClaim.frame_ideal_pre, Cert.FfnClaim.frame_reference, Cert.FfnClaim.frame_reference_pre,
  Cert.LossClaim.frame_kernel, Cert.LossClaim.frame_ideal, Cert.LossClaim.frame_ideal_pre, Cert.LossClaim.frame_reference, Cert.LossClaim.frame_reference_pre,
  Cert.H2Claim.frame_kernel, Cert.H2Claim.frame_ideal, Cert.H2Claim.frame_ideal_pre, Cert.H2Claim.frame_reference, Cert.H2Claim.frame_reference_pre,
  Cert.H1Claim.frame_kernel, Cert.H1Claim.frame_ideal, Cert.H1Claim.frame_ideal_pre, Cert.H1Claim.frame_reference, Cert.H1Claim.frame_reference_pre,
  Cert.H0Claim.frame_kernel, Cert.H0Claim.frame_ideal, Cert.H0Claim.frame_ideal_pre, Cert.H0Claim.frame_reference, Cert.H0Claim.frame_reference_pre,
  Cert.XaClaim.frame_kernel, Cert.XaClaim.frame_ideal, Cert.XaClaim.frame_reference,
  Cert.XaFwdClaim.frame_kernel, Cert.XaFwdClaim.frame_ideal, Cert.XaFwdClaim.frame_reference,
  Cert.SwaFwdClaim.frame_kernel, Cert.SwaFwdClaim.frame_ideal, Cert.SwaFwdClaim.frame_reference,
  Cert.SwaBwdClaim.frame_kernel, Cert.SwaBwdClaim.frame_ideal, Cert.SwaBwdClaim.frame_ideal_pre, Cert.SwaBwdClaim.frame_reference, Cert.SwaBwdClaim.frame_reference_pre,
  Cert.BiasClaim.frame_kernel, Cert.BiasClaim.frame_ideal, Cert.BiasClaim.frame_reference,
  Cert.ConvFwdClaim.frame_kernel, Cert.ConvFwdClaim.frame_ideal, Cert.ConvFwdClaim.frame_reference,
  Cert.FfnFwdClaim.frame_kernel, Cert.FfnFwdClaim.frame_ideal, Cert.FfnFwdClaim.frame_reference,
  Cert.BiasFwdClaim.frame_kernel, Cert.BiasFwdClaim.frame_ideal, Cert.BiasFwdClaim.frame_reference,
  Cert.XaOutClaim.frame_kernel, Cert.XaOutClaim.frame_ideal, Cert.XaOutClaim.frame_reference,
  Cert.FfnOutClaim.frame_kernel, Cert.FfnOutClaim.frame_ideal, Cert.FfnOutClaim.frame_reference,
  Cert.MixOutClaim.frame_kernel, Cert.MixOutClaim.frame_ideal, Cert.MixOutClaim.frame_reference,
  Cert.MlstmFwdClaim.frame_kernel, Cert.MlstmFwdClaim.frame_ideal, Cert.MlstmBwdClaim.frame_kernel, Cert.MlstmBwdClaim.frame_ideal,
  trivial, Cert.ConvClaim.algebraic, Cert.FfnClaim.preserves, Cert.FfnClaim.algebraic, trivial, Cert.LossClaim.algebraic, trivial, Cert.H2Claim.algebraic, trivial, Cert.H1Claim.algebraic, trivial, Cert.H0Claim.algebraic, trivial, Cert.XaClaim.algebraic,
  trivial, Cert.XaFwdClaim.algebraic, trivial, Cert.SwaFwdClaim.algebraic, trivial, Cert.SwaBwdClaim.algebraic,
  trivial, Cert.BiasClaim.algebraic, trivial, Cert.ConvFwdClaim.algebraic, trivial, Cert.FfnFwdClaim.algebraic, trivial, Cert.BiasFwdClaim.algebraic,
  trivial, Cert.XaOutClaim.algebraic, trivial, Cert.FfnOutClaim.algebraic, trivial, Cert.MixOutClaim.algebraic,
  trivial, Cert.MlstmBwdClaim.preserves⟩

end Cert.Proof

end
